-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Columns (m : (ℓ : Loc Cert.Columns.nD Cert.Columns.τ Cert.Columns.sig) → Buf (Elt Bits) ℓ) : Prop :=
  True

def Pre_ColumnsIdeal (m : (ℓ : Loc Cert.ColumnsIdeal.nD Cert.ColumnsIdeal.τ Cert.ColumnsIdeal.sig) → Buf (Elt Ideal) ℓ) : Prop :=
  True

def Pre_ColumnsReferenceIdeal (m : (ℓ : Loc Cert.ColumnsReferenceIdeal.nD Cert.ColumnsReferenceIdeal.τ Cert.ColumnsReferenceIdeal.sig) → Buf (Elt Ideal) ℓ) : Prop :=
  True

def Pre_Input (m : (ℓ : Loc Cert.Input.nD Cert.Input.τ Cert.Input.sig) → Buf (Elt Bits) ℓ) : Prop :=
  True

def Pre_InputIdeal (m : (ℓ : Loc Cert.InputIdeal.nD Cert.InputIdeal.τ Cert.InputIdeal.sig) → Buf (Elt Ideal) ℓ) : Prop :=
  True

def Pre_InputIdeal_input_finite [hPre_input_finite : Cert.Pre_input_finite.Facts] (m : (ℓ : Loc Cert.InputIdeal.nD Cert.InputIdeal.τ Cert.InputIdeal.sig) → Buf (Elt Ideal) ℓ) : Prop :=
  ∀ c : Dev Cert.InputIdeal.nD,
    (Cert.Pre_input_finite.fn (F := Ideal) (m ((c.tc : Thread Cert.InputIdeal.nD Cert.InputIdeal.τ).loc Cert.InputIdeal.main_arg0)) (m ((c.tc : Thread Cert.InputIdeal.nD Cert.InputIdeal.τ).loc Cert.InputIdeal.main_arg1)) (m ((c.tc : Thread Cert.InputIdeal.nD Cert.InputIdeal.τ).loc Cert.InputIdeal.main_arg2)) (m ((c.tc : Thread Cert.InputIdeal.nD Cert.InputIdeal.τ).loc Cert.InputIdeal.main_arg3)) (m ((c.tc : Thread Cert.InputIdeal.nD Cert.InputIdeal.τ).loc Cert.InputIdeal.main_arg4))) = (fun _ => 1#1)

def Pre_InputReferenceIdeal (m : (ℓ : Loc Cert.InputReferenceIdeal.nD Cert.InputReferenceIdeal.τ Cert.InputReferenceIdeal.sig) → Buf (Elt Ideal) ℓ) : Prop :=
  True

def Pre_InputReferenceIdeal_input_finite [hPre_input_finite : Cert.Pre_input_finite.Facts] (m : (ℓ : Loc Cert.InputReferenceIdeal.nD Cert.InputReferenceIdeal.τ Cert.InputReferenceIdeal.sig) → Buf (Elt Ideal) ℓ) : Prop :=
  ∀ c : Dev Cert.InputReferenceIdeal.nD,
    (Cert.Pre_input_finite.fn (F := Ideal) (m ((c.tc : Thread Cert.InputReferenceIdeal.nD Cert.InputReferenceIdeal.τ).loc Cert.InputReferenceIdeal.main_arg0)) (m ((c.tc : Thread Cert.InputReferenceIdeal.nD Cert.InputReferenceIdeal.τ).loc Cert.InputReferenceIdeal.main_arg1)) (m ((c.tc : Thread Cert.InputReferenceIdeal.nD Cert.InputReferenceIdeal.τ).loc Cert.InputReferenceIdeal.main_arg2)) (m ((c.tc : Thread Cert.InputReferenceIdeal.nD Cert.InputReferenceIdeal.τ).loc Cert.InputReferenceIdeal.main_arg3)) (m ((c.tc : Thread Cert.InputReferenceIdeal.nD Cert.InputReferenceIdeal.τ).loc Cert.InputReferenceIdeal.main_arg4))) = (fun _ => 1#1)

def Pre_Projection (m : (ℓ : Loc Cert.Projection.nD Cert.Projection.τ Cert.Projection.sig) → Buf (Elt Bits) ℓ) : Prop :=
  True

def Pre_ProjectionIdeal (m : (ℓ : Loc Cert.ProjectionIdeal.nD Cert.ProjectionIdeal.τ Cert.ProjectionIdeal.sig) → Buf (Elt Ideal) ℓ) : Prop :=
  True

def Pre_ProjectionReferenceIdeal (m : (ℓ : Loc Cert.ProjectionReferenceIdeal.nD Cert.ProjectionReferenceIdeal.τ Cert.ProjectionReferenceIdeal.sig) → Buf (Elt Ideal) ℓ) : Prop :=
  True

def Pre_FirstProjection (m : (ℓ : Loc Cert.FirstProjection.nD Cert.FirstProjection.τ Cert.FirstProjection.sig) → Buf (Elt Bits) ℓ) : Prop :=
  True

def Pre_FirstProjectionIdeal (m : (ℓ : Loc Cert.FirstProjectionIdeal.nD Cert.FirstProjectionIdeal.τ Cert.FirstProjectionIdeal.sig) → Buf (Elt Ideal) ℓ) : Prop :=
  True

def Pre_FirstProjectionReferenceIdeal (m : (ℓ : Loc Cert.FirstProjectionReferenceIdeal.nD Cert.FirstProjectionReferenceIdeal.τ Cert.FirstProjectionReferenceIdeal.sig) → Buf (Elt Ideal) ℓ) : Prop :=
  True

def Pre_Rows (m : (ℓ : Loc Cert.Rows.nD Cert.Rows.τ Cert.Rows.sig) → Buf (Elt Bits) ℓ) : Prop :=
  True

def Pre_RowsIdeal (m : (ℓ : Loc Cert.RowsIdeal.nD Cert.RowsIdeal.τ Cert.RowsIdeal.sig) → Buf (Elt Ideal) ℓ) : Prop :=
  True

def Pre_RowsReferenceIdeal (m : (ℓ : Loc Cert.RowsReferenceIdeal.nD Cert.RowsReferenceIdeal.τ Cert.RowsReferenceIdeal.sig) → Buf (Elt Ideal) ℓ) : Prop :=
  True

def Pre_EvenRows (m : (ℓ : Loc Cert.EvenRows.nD Cert.EvenRows.τ Cert.EvenRows.sig) → Buf (Elt Bits) ℓ) : Prop :=
  True

def Pre_EvenRowsIdeal (m : (ℓ : Loc Cert.EvenRowsIdeal.nD Cert.EvenRowsIdeal.τ Cert.EvenRowsIdeal.sig) → Buf (Elt Ideal) ℓ) : Prop :=
  True

def Pre_EvenRowsReferenceIdeal (m : (ℓ : Loc Cert.EvenRowsReferenceIdeal.nD Cert.EvenRowsReferenceIdeal.τ Cert.EvenRowsReferenceIdeal.sig) → Buf (Elt Ideal) ℓ) : Prop :=
  True

def Pre_GluRows (m : (ℓ : Loc Cert.GluRows.nD Cert.GluRows.τ Cert.GluRows.sig) → Buf (Elt Bits) ℓ) : Prop :=
  True

def Pre_GluRowsIdeal (m : (ℓ : Loc Cert.GluRowsIdeal.nD Cert.GluRowsIdeal.τ Cert.GluRowsIdeal.sig) → Buf (Elt Ideal) ℓ) : Prop :=
  True

def Pre_GluRowsReferenceIdeal (m : (ℓ : Loc Cert.GluRowsReferenceIdeal.nD Cert.GluRowsReferenceIdeal.τ Cert.GluRowsReferenceIdeal.sig) → Buf (Elt Ideal) ℓ) : Prop :=
  True

def Pre_Output (m : (ℓ : Loc Cert.Output.nD Cert.Output.τ Cert.Output.sig) → Buf (Elt Bits) ℓ) : Prop :=
  True

def Pre_OutputIdeal (m : (ℓ : Loc Cert.OutputIdeal.nD Cert.OutputIdeal.τ Cert.OutputIdeal.sig) → Buf (Elt Ideal) ℓ) : Prop :=
  True

def Pre_OutputReferenceIdeal (m : (ℓ : Loc Cert.OutputReferenceIdeal.nD Cert.OutputReferenceIdeal.τ Cert.OutputReferenceIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateIdeal_gate_finite [hPre_gate_finite : Cert.Pre_gate_finite.Facts] (m : (ℓ : Loc Cert.GateIdeal.nD Cert.GateIdeal.τ Cert.GateIdeal.sig) → Buf (Elt Ideal) ℓ) : Prop :=
  ∀ c : Dev Cert.GateIdeal.nD,
    (Cert.Pre_gate_finite.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3)) (m ((c.tc : Thread Cert.GateIdeal.nD Cert.GateIdeal.τ).loc Cert.GateIdeal.main_arg4)) (m ((c.tc : Thread Cert.GateIdeal.nD Cert.GateIdeal.τ).loc Cert.GateIdeal.main_arg5))) = (fun _ => 1#1)

def Pre_GateReferenceIdeal (m : (ℓ : Loc Cert.GateReferenceIdeal.nD Cert.GateReferenceIdeal.τ Cert.GateReferenceIdeal.sig) → Buf (Elt Ideal) ℓ) : Prop :=
  True

def Pre_GateReferenceIdeal_gate_finite [hPre_gate_finite : Cert.Pre_gate_finite.Facts] (m : (ℓ : Loc Cert.GateReferenceIdeal.nD Cert.GateReferenceIdeal.τ Cert.GateReferenceIdeal.sig) → Buf (Elt Ideal) ℓ) : Prop :=
  ∀ c : Dev Cert.GateReferenceIdeal.nD,
    (Cert.Pre_gate_finite.fn (F := Ideal) (m ((c.tc : Thread Cert.GateReferenceIdeal.nD Cert.GateReferenceIdeal.τ).loc Cert.GateReferenceIdeal.main_arg0)) (m ((c.tc : Thread Cert.GateReferenceIdeal.nD Cert.GateReferenceIdeal.τ).loc Cert.GateReferenceIdeal.main_arg1)) (m ((c.tc : Thread Cert.GateReferenceIdeal.nD Cert.GateReferenceIdeal.τ).loc Cert.GateReferenceIdeal.main_arg2)) (m ((c.tc : Thread Cert.GateReferenceIdeal.nD Cert.GateReferenceIdeal.τ).loc Cert.GateReferenceIdeal.main_arg3)) (m ((c.tc : Thread Cert.GateReferenceIdeal.nD Cert.GateReferenceIdeal.τ).loc Cert.GateReferenceIdeal.main_arg4)) (m ((c.tc : Thread Cert.GateReferenceIdeal.nD Cert.GateReferenceIdeal.τ).loc Cert.GateReferenceIdeal.main_arg5))) = (fun _ => 1#1)

def Pre_ColumnsStep (m : (ℓ : Loc Cert.ColumnsStep.nD Cert.ColumnsStep.τ Cert.ColumnsStep.sig) → Buf (Elt Bits) ℓ) : Prop :=
  True

def Pre_ColumnsStepIdeal (m : (ℓ : Loc Cert.ColumnsStepIdeal.nD Cert.ColumnsStepIdeal.τ Cert.ColumnsStepIdeal.sig) → Buf (Elt Ideal) ℓ) : Prop :=
  True

def Pre_ColumnsStepReferenceIdeal (m : (ℓ : Loc Cert.ColumnsStepReferenceIdeal.nD Cert.ColumnsStepReferenceIdeal.τ Cert.ColumnsStepReferenceIdeal.sig) → Buf (Elt Ideal) ℓ) : Prop :=
  True

def Pre_RowsStep (m : (ℓ : Loc Cert.RowsStep.nD Cert.RowsStep.τ Cert.RowsStep.sig) → Buf (Elt Bits) ℓ) : Prop :=
  True

def Pre_RowsStepIdeal (m : (ℓ : Loc Cert.RowsStepIdeal.nD Cert.RowsStepIdeal.τ Cert.RowsStepIdeal.sig) → Buf (Elt Ideal) ℓ) : Prop :=
  True

def Pre_RowsStepReferenceIdeal (m : (ℓ : Loc Cert.RowsStepReferenceIdeal.nD Cert.RowsStepReferenceIdeal.τ Cert.RowsStepReferenceIdeal.sig) → Buf (Elt Ideal) ℓ) : Prop :=
  True

def Pre_GluStep (m : (ℓ : Loc Cert.GluStep.nD Cert.GluStep.τ Cert.GluStep.sig) → Buf (Elt Bits) ℓ) : Prop :=
  True

def Pre_GluStepIdeal (m : (ℓ : Loc Cert.GluStepIdeal.nD Cert.GluStepIdeal.τ Cert.GluStepIdeal.sig) → Buf (Elt Ideal) ℓ) : Prop :=
  True

def Pre_GluStepReferenceIdeal (m : (ℓ : Loc Cert.GluStepReferenceIdeal.nD Cert.GluStepReferenceIdeal.τ Cert.GluStepReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Columns [hColumns : Cert.Columns.Facts] : Prop :=
  ∀ (m : (ℓ : Loc Cert.Columns.nD Cert.Columns.τ Cert.Columns.sig) → Buf (Elt Bits) ℓ) (g : Dev Cert.Columns.nD → PrngReg), Pre_Columns m →
    θ_run (Cert.Columns.defs (F := Bits)) (onTc (τ := Cert.Columns.τ) (Cert.Columns.main (F := Bits))) ⟨m, fun _ => 0, g⟩ (fun r => (∀ c : Dev Cert.Columns.nD,
      r.2.mem ((c.tc : Thread Cert.Columns.nD Cert.Columns.τ).loc Cert.Columns.main_arg0) = m ((c.tc : Thread Cert.Columns.nD Cert.Columns.τ).loc Cert.Columns.main_arg0)
      ∧ r.2.mem ((c.tc : Thread Cert.Columns.nD Cert.Columns.τ).loc Cert.Columns.main_arg1) = m ((c.tc : Thread Cert.Columns.nD Cert.Columns.τ).loc Cert.Columns.main_arg1)
      ∧ r.2.mem ((c.tc : Thread Cert.Columns.nD Cert.Columns.τ).loc Cert.Columns.main_arg2) = m ((c.tc : Thread Cert.Columns.nD Cert.Columns.τ).loc Cert.Columns.main_arg2))
      ∧ r.2.sem = fun _ => 0)

def quiescent_ColumnsIdeal [hColumnsIdeal : Cert.ColumnsIdeal.Facts] : Prop :=
  ∀ (m : (ℓ : Loc Cert.ColumnsIdeal.nD Cert.ColumnsIdeal.τ Cert.ColumnsIdeal.sig) → Buf (Elt Ideal) ℓ) (g : Dev Cert.ColumnsIdeal.nD → PrngReg), Pre_ColumnsIdeal m →
    θ_run (Cert.ColumnsIdeal.defs (F := Ideal)) (onTc (τ := Cert.ColumnsIdeal.τ) (Cert.ColumnsIdeal.main (F := Ideal))) ⟨m, fun _ => 0, g⟩ (fun r => (∀ c : Dev Cert.ColumnsIdeal.nD,
      r.2.mem ((c.tc : Thread Cert.ColumnsIdeal.nD Cert.ColumnsIdeal.τ).loc Cert.ColumnsIdeal.main_arg0) = m ((c.tc : Thread Cert.ColumnsIdeal.nD Cert.ColumnsIdeal.τ).loc Cert.ColumnsIdeal.main_arg0)
      ∧ r.2.mem ((c.tc : Thread Cert.ColumnsIdeal.nD Cert.ColumnsIdeal.τ).loc Cert.ColumnsIdeal.main_arg1) = m ((c.tc : Thread Cert.ColumnsIdeal.nD Cert.ColumnsIdeal.τ).loc Cert.ColumnsIdeal.main_arg1)
      ∧ r.2.mem ((c.tc : Thread Cert.ColumnsIdeal.nD Cert.ColumnsIdeal.τ).loc Cert.ColumnsIdeal.main_arg2) = m ((c.tc : Thread Cert.ColumnsIdeal.nD Cert.ColumnsIdeal.τ).loc Cert.ColumnsIdeal.main_arg2))
      ∧ r.2.sem = fun _ => 0)

def quiescent_ColumnsReferenceIdeal [hColumnsReferenceIdeal : Cert.ColumnsReferenceIdeal.Facts] : Prop :=
  ∀ (m : (ℓ : Loc Cert.ColumnsReferenceIdeal.nD Cert.ColumnsReferenceIdeal.τ Cert.ColumnsReferenceIdeal.sig) → Buf (Elt Ideal) ℓ) (g : Dev Cert.ColumnsReferenceIdeal.nD → PrngReg), Pre_ColumnsReferenceIdeal m →
    θ_run (Cert.ColumnsReferenceIdeal.defs (F := Ideal)) (onTc (τ := Cert.ColumnsReferenceIdeal.τ) (Cert.ColumnsReferenceIdeal.main (F := Ideal))) ⟨m, fun _ => 0, g⟩ (fun r => (∀ c : Dev Cert.ColumnsReferenceIdeal.nD,
      r.2.mem ((c.tc : Thread Cert.ColumnsReferenceIdeal.nD Cert.ColumnsReferenceIdeal.τ).loc Cert.ColumnsReferenceIdeal.main_arg0) = m ((c.tc : Thread Cert.ColumnsReferenceIdeal.nD Cert.ColumnsReferenceIdeal.τ).loc Cert.ColumnsReferenceIdeal.main_arg0)
      ∧ r.2.mem ((c.tc : Thread Cert.ColumnsReferenceIdeal.nD Cert.ColumnsReferenceIdeal.τ).loc Cert.ColumnsReferenceIdeal.main_arg1) = m ((c.tc : Thread Cert.ColumnsReferenceIdeal.nD Cert.ColumnsReferenceIdeal.τ).loc Cert.ColumnsReferenceIdeal.main_arg1)
      ∧ r.2.mem ((c.tc : Thread Cert.ColumnsReferenceIdeal.nD Cert.ColumnsReferenceIdeal.τ).loc Cert.ColumnsReferenceIdeal.main_arg2) = m ((c.tc : Thread Cert.ColumnsReferenceIdeal.nD Cert.ColumnsReferenceIdeal.τ).loc Cert.ColumnsReferenceIdeal.main_arg2))
      ∧ r.2.sem = fun _ => 0)

def quiescent_Input [hInput : Cert.Input.Facts] : Prop :=
  ∀ (m : (ℓ : Loc Cert.Input.nD Cert.Input.τ Cert.Input.sig) → Buf (Elt Bits) ℓ) (g : Dev Cert.Input.nD → PrngReg), Pre_Input m →
    θ_run (Cert.Input.defs (F := Bits)) (onTc (τ := Cert.Input.τ) (Cert.Input.main (F := Bits))) ⟨m, fun _ => 0, g⟩ (fun r => (∀ c : Dev Cert.Input.nD,
      r.2.mem ((c.tc : Thread Cert.Input.nD Cert.Input.τ).loc Cert.Input.main_arg0) = m ((c.tc : Thread Cert.Input.nD Cert.Input.τ).loc Cert.Input.main_arg0)
      ∧ r.2.mem ((c.tc : Thread Cert.Input.nD Cert.Input.τ).loc Cert.Input.main_arg1) = m ((c.tc : Thread Cert.Input.nD Cert.Input.τ).loc Cert.Input.main_arg1)
      ∧ r.2.mem ((c.tc : Thread Cert.Input.nD Cert.Input.τ).loc Cert.Input.main_arg2) = m ((c.tc : Thread Cert.Input.nD Cert.Input.τ).loc Cert.Input.main_arg2)
      ∧ r.2.mem ((c.tc : Thread Cert.Input.nD Cert.Input.τ).loc Cert.Input.main_arg3) = m ((c.tc : Thread Cert.Input.nD Cert.Input.τ).loc Cert.Input.main_arg3)
      ∧ r.2.mem ((c.tc : Thread Cert.Input.nD Cert.Input.τ).loc Cert.Input.main_arg4) = m ((c.tc : Thread Cert.Input.nD Cert.Input.τ).loc Cert.Input.main_arg4))
      ∧ r.2.sem = fun _ => 0)

def quiescent_InputIdeal [hInputIdeal : Cert.InputIdeal.Facts] : Prop :=
  ∀ (m : (ℓ : Loc Cert.InputIdeal.nD Cert.InputIdeal.τ Cert.InputIdeal.sig) → Buf (Elt Ideal) ℓ) (g : Dev Cert.InputIdeal.nD → PrngReg), Pre_InputIdeal m →
    θ_run (Cert.InputIdeal.defs (F := Ideal)) (onTc (τ := Cert.InputIdeal.τ) (Cert.InputIdeal.main (F := Ideal))) ⟨m, fun _ => 0, g⟩ (fun r => (∀ c : Dev Cert.InputIdeal.nD,
      r.2.mem ((c.tc : Thread Cert.InputIdeal.nD Cert.InputIdeal.τ).loc Cert.InputIdeal.main_arg0) = m ((c.tc : Thread Cert.InputIdeal.nD Cert.InputIdeal.τ).loc Cert.InputIdeal.main_arg0)
      ∧ r.2.mem ((c.tc : Thread Cert.InputIdeal.nD Cert.InputIdeal.τ).loc Cert.InputIdeal.main_arg1) = m ((c.tc : Thread Cert.InputIdeal.nD Cert.InputIdeal.τ).loc Cert.InputIdeal.main_arg1)
      ∧ r.2.mem ((c.tc : Thread Cert.InputIdeal.nD Cert.InputIdeal.τ).loc Cert.InputIdeal.main_arg2) = m ((c.tc : Thread Cert.InputIdeal.nD Cert.InputIdeal.τ).loc Cert.InputIdeal.main_arg2)
      ∧ r.2.mem ((c.tc : Thread Cert.InputIdeal.nD Cert.InputIdeal.τ).loc Cert.InputIdeal.main_arg3) = m ((c.tc : Thread Cert.InputIdeal.nD Cert.InputIdeal.τ).loc Cert.InputIdeal.main_arg3)
      ∧ r.2.mem ((c.tc : Thread Cert.InputIdeal.nD Cert.InputIdeal.τ).loc Cert.InputIdeal.main_arg4) = m ((c.tc : Thread Cert.InputIdeal.nD Cert.InputIdeal.τ).loc Cert.InputIdeal.main_arg4))
      ∧ r.2.sem = fun _ => 0)

def quiescent_InputIdeal_pre_input_finite [hInputIdeal : Cert.InputIdeal.Facts] [hPre_input_finite : Cert.Pre_input_finite.Facts] : Prop :=
  ∀ (m : (ℓ : Loc Cert.InputIdeal.nD Cert.InputIdeal.τ Cert.InputIdeal.sig) → Buf (Elt Ideal) ℓ) (g : Dev Cert.InputIdeal.nD → PrngReg), Pre_InputIdeal_input_finite m →
    θ_run (Cert.InputIdeal.defs (F := Ideal)) (onTc (τ := Cert.InputIdeal.τ) (Cert.InputIdeal.main (F := Ideal))) ⟨m, fun _ => 0, g⟩ (fun r => (∀ c : Dev Cert.InputIdeal.nD,
      r.2.mem ((c.tc : Thread Cert.InputIdeal.nD Cert.InputIdeal.τ).loc Cert.InputIdeal.main_arg0) = m ((c.tc : Thread Cert.InputIdeal.nD Cert.InputIdeal.τ).loc Cert.InputIdeal.main_arg0)
      ∧ r.2.mem ((c.tc : Thread Cert.InputIdeal.nD Cert.InputIdeal.τ).loc Cert.InputIdeal.main_arg1) = m ((c.tc : Thread Cert.InputIdeal.nD Cert.InputIdeal.τ).loc Cert.InputIdeal.main_arg1)
      ∧ r.2.mem ((c.tc : Thread Cert.InputIdeal.nD Cert.InputIdeal.τ).loc Cert.InputIdeal.main_arg2) = m ((c.tc : Thread Cert.InputIdeal.nD Cert.InputIdeal.τ).loc Cert.InputIdeal.main_arg2)
      ∧ r.2.mem ((c.tc : Thread Cert.InputIdeal.nD Cert.InputIdeal.τ).loc Cert.InputIdeal.main_arg3) = m ((c.tc : Thread Cert.InputIdeal.nD Cert.InputIdeal.τ).loc Cert.InputIdeal.main_arg3)
      ∧ r.2.mem ((c.tc : Thread Cert.InputIdeal.nD Cert.InputIdeal.τ).loc Cert.InputIdeal.main_arg4) = m ((c.tc : Thread Cert.InputIdeal.nD Cert.InputIdeal.τ).loc Cert.InputIdeal.main_arg4))
      ∧ r.2.sem = fun _ => 0)

def quiescent_InputReferenceIdeal [hInputReferenceIdeal : Cert.InputReferenceIdeal.Facts] : Prop :=
  ∀ (m : (ℓ : Loc Cert.InputReferenceIdeal.nD Cert.InputReferenceIdeal.τ Cert.InputReferenceIdeal.sig) → Buf (Elt Ideal) ℓ) (g : Dev Cert.InputReferenceIdeal.nD → PrngReg), Pre_InputReferenceIdeal m →
    θ_run (Cert.InputReferenceIdeal.defs (F := Ideal)) (onTc (τ := Cert.InputReferenceIdeal.τ) (Cert.InputReferenceIdeal.main (F := Ideal))) ⟨m, fun _ => 0, g⟩ (fun r => (∀ c : Dev Cert.InputReferenceIdeal.nD,
      r.2.mem ((c.tc : Thread Cert.InputReferenceIdeal.nD Cert.InputReferenceIdeal.τ).loc Cert.InputReferenceIdeal.main_arg0) = m ((c.tc : Thread Cert.InputReferenceIdeal.nD Cert.InputReferenceIdeal.τ).loc Cert.InputReferenceIdeal.main_arg0)
      ∧ r.2.mem ((c.tc : Thread Cert.InputReferenceIdeal.nD Cert.InputReferenceIdeal.τ).loc Cert.InputReferenceIdeal.main_arg1) = m ((c.tc : Thread Cert.InputReferenceIdeal.nD Cert.InputReferenceIdeal.τ).loc Cert.InputReferenceIdeal.main_arg1)
      ∧ r.2.mem ((c.tc : Thread Cert.InputReferenceIdeal.nD Cert.InputReferenceIdeal.τ).loc Cert.InputReferenceIdeal.main_arg2) = m ((c.tc : Thread Cert.InputReferenceIdeal.nD Cert.InputReferenceIdeal.τ).loc Cert.InputReferenceIdeal.main_arg2)
      ∧ r.2.mem ((c.tc : Thread Cert.InputReferenceIdeal.nD Cert.InputReferenceIdeal.τ).loc Cert.InputReferenceIdeal.main_arg3) = m ((c.tc : Thread Cert.InputReferenceIdeal.nD Cert.InputReferenceIdeal.τ).loc Cert.InputReferenceIdeal.main_arg3)
      ∧ r.2.mem ((c.tc : Thread Cert.InputReferenceIdeal.nD Cert.InputReferenceIdeal.τ).loc Cert.InputReferenceIdeal.main_arg4) = m ((c.tc : Thread Cert.InputReferenceIdeal.nD Cert.InputReferenceIdeal.τ).loc Cert.InputReferenceIdeal.main_arg4))
      ∧ r.2.sem = fun _ => 0)

def quiescent_InputReferenceIdeal_pre_input_finite [hInputReferenceIdeal : Cert.InputReferenceIdeal.Facts] [hPre_input_finite : Cert.Pre_input_finite.Facts] : Prop :=
  ∀ (m : (ℓ : Loc Cert.InputReferenceIdeal.nD Cert.InputReferenceIdeal.τ Cert.InputReferenceIdeal.sig) → Buf (Elt Ideal) ℓ) (g : Dev Cert.InputReferenceIdeal.nD → PrngReg), Pre_InputReferenceIdeal_input_finite m →
    θ_run (Cert.InputReferenceIdeal.defs (F := Ideal)) (onTc (τ := Cert.InputReferenceIdeal.τ) (Cert.InputReferenceIdeal.main (F := Ideal))) ⟨m, fun _ => 0, g⟩ (fun r => (∀ c : Dev Cert.InputReferenceIdeal.nD,
      r.2.mem ((c.tc : Thread Cert.InputReferenceIdeal.nD Cert.InputReferenceIdeal.τ).loc Cert.InputReferenceIdeal.main_arg0) = m ((c.tc : Thread Cert.InputReferenceIdeal.nD Cert.InputReferenceIdeal.τ).loc Cert.InputReferenceIdeal.main_arg0)
      ∧ r.2.mem ((c.tc : Thread Cert.InputReferenceIdeal.nD Cert.InputReferenceIdeal.τ).loc Cert.InputReferenceIdeal.main_arg1) = m ((c.tc : Thread Cert.InputReferenceIdeal.nD Cert.InputReferenceIdeal.τ).loc Cert.InputReferenceIdeal.main_arg1)
      ∧ r.2.mem ((c.tc : Thread Cert.InputReferenceIdeal.nD Cert.InputReferenceIdeal.τ).loc Cert.InputReferenceIdeal.main_arg2) = m ((c.tc : Thread Cert.InputReferenceIdeal.nD Cert.InputReferenceIdeal.τ).loc Cert.InputReferenceIdeal.main_arg2)
      ∧ r.2.mem ((c.tc : Thread Cert.InputReferenceIdeal.nD Cert.InputReferenceIdeal.τ).loc Cert.InputReferenceIdeal.main_arg3) = m ((c.tc : Thread Cert.InputReferenceIdeal.nD Cert.InputReferenceIdeal.τ).loc Cert.InputReferenceIdeal.main_arg3)
      ∧ r.2.mem ((c.tc : Thread Cert.InputReferenceIdeal.nD Cert.InputReferenceIdeal.τ).loc Cert.InputReferenceIdeal.main_arg4) = m ((c.tc : Thread Cert.InputReferenceIdeal.nD Cert.InputReferenceIdeal.τ).loc Cert.InputReferenceIdeal.main_arg4))
      ∧ r.2.sem = fun _ => 0)

def quiescent_Projection [hProjection : Cert.Projection.Facts] : Prop :=
  ∀ (m : (ℓ : Loc Cert.Projection.nD Cert.Projection.τ Cert.Projection.sig) → Buf (Elt Bits) ℓ) (g : Dev Cert.Projection.nD → PrngReg), Pre_Projection m →
    θ_run (Cert.Projection.defs (F := Bits)) (onTc (τ := Cert.Projection.τ) (Cert.Projection.main (F := Bits))) ⟨m, fun _ => 0, g⟩ (fun r => (∀ c : Dev Cert.Projection.nD,
      r.2.mem ((c.tc : Thread Cert.Projection.nD Cert.Projection.τ).loc Cert.Projection.main_arg0) = m ((c.tc : Thread Cert.Projection.nD Cert.Projection.τ).loc Cert.Projection.main_arg0)
      ∧ r.2.mem ((c.tc : Thread Cert.Projection.nD Cert.Projection.τ).loc Cert.Projection.main_arg1) = m ((c.tc : Thread Cert.Projection.nD Cert.Projection.τ).loc Cert.Projection.main_arg1)
      ∧ r.2.mem ((c.tc : Thread Cert.Projection.nD Cert.Projection.τ).loc Cert.Projection.main_arg2) = m ((c.tc : Thread Cert.Projection.nD Cert.Projection.τ).loc Cert.Projection.main_arg2))
      ∧ r.2.sem = fun _ => 0)

def quiescent_ProjectionIdeal [hProjectionIdeal : Cert.ProjectionIdeal.Facts] : Prop :=
  ∀ (m : (ℓ : Loc Cert.ProjectionIdeal.nD Cert.ProjectionIdeal.τ Cert.ProjectionIdeal.sig) → Buf (Elt Ideal) ℓ) (g : Dev Cert.ProjectionIdeal.nD → PrngReg), Pre_ProjectionIdeal m →
    θ_run (Cert.ProjectionIdeal.defs (F := Ideal)) (onTc (τ := Cert.ProjectionIdeal.τ) (Cert.ProjectionIdeal.main (F := Ideal))) ⟨m, fun _ => 0, g⟩ (fun r => (∀ c : Dev Cert.ProjectionIdeal.nD,
      r.2.mem ((c.tc : Thread Cert.ProjectionIdeal.nD Cert.ProjectionIdeal.τ).loc Cert.ProjectionIdeal.main_arg0) = m ((c.tc : Thread Cert.ProjectionIdeal.nD Cert.ProjectionIdeal.τ).loc Cert.ProjectionIdeal.main_arg0)
      ∧ r.2.mem ((c.tc : Thread Cert.ProjectionIdeal.nD Cert.ProjectionIdeal.τ).loc Cert.ProjectionIdeal.main_arg1) = m ((c.tc : Thread Cert.ProjectionIdeal.nD Cert.ProjectionIdeal.τ).loc Cert.ProjectionIdeal.main_arg1)
      ∧ r.2.mem ((c.tc : Thread Cert.ProjectionIdeal.nD Cert.ProjectionIdeal.τ).loc Cert.ProjectionIdeal.main_arg2) = m ((c.tc : Thread Cert.ProjectionIdeal.nD Cert.ProjectionIdeal.τ).loc Cert.ProjectionIdeal.main_arg2))
      ∧ r.2.sem = fun _ => 0)

def quiescent_ProjectionReferenceIdeal [hProjectionReferenceIdeal : Cert.ProjectionReferenceIdeal.Facts] : Prop :=
  ∀ (m : (ℓ : Loc Cert.ProjectionReferenceIdeal.nD Cert.ProjectionReferenceIdeal.τ Cert.ProjectionReferenceIdeal.sig) → Buf (Elt Ideal) ℓ) (g : Dev Cert.ProjectionReferenceIdeal.nD → PrngReg), Pre_ProjectionReferenceIdeal m →
    θ_run (Cert.ProjectionReferenceIdeal.defs (F := Ideal)) (onTc (τ := Cert.ProjectionReferenceIdeal.τ) (Cert.ProjectionReferenceIdeal.main (F := Ideal))) ⟨m, fun _ => 0, g⟩ (fun r => (∀ c : Dev Cert.ProjectionReferenceIdeal.nD,
      r.2.mem ((c.tc : Thread Cert.ProjectionReferenceIdeal.nD Cert.ProjectionReferenceIdeal.τ).loc Cert.ProjectionReferenceIdeal.main_arg0) = m ((c.tc : Thread Cert.ProjectionReferenceIdeal.nD Cert.ProjectionReferenceIdeal.τ).loc Cert.ProjectionReferenceIdeal.main_arg0)
      ∧ r.2.mem ((c.tc : Thread Cert.ProjectionReferenceIdeal.nD Cert.ProjectionReferenceIdeal.τ).loc Cert.ProjectionReferenceIdeal.main_arg1) = m ((c.tc : Thread Cert.ProjectionReferenceIdeal.nD Cert.ProjectionReferenceIdeal.τ).loc Cert.ProjectionReferenceIdeal.main_arg1)
      ∧ r.2.mem ((c.tc : Thread Cert.ProjectionReferenceIdeal.nD Cert.ProjectionReferenceIdeal.τ).loc Cert.ProjectionReferenceIdeal.main_arg2) = m ((c.tc : Thread Cert.ProjectionReferenceIdeal.nD Cert.ProjectionReferenceIdeal.τ).loc Cert.ProjectionReferenceIdeal.main_arg2))
      ∧ r.2.sem = fun _ => 0)

def quiescent_FirstProjection [hFirstProjection : Cert.FirstProjection.Facts] : Prop :=
  ∀ (m : (ℓ : Loc Cert.FirstProjection.nD Cert.FirstProjection.τ Cert.FirstProjection.sig) → Buf (Elt Bits) ℓ) (g : Dev Cert.FirstProjection.nD → PrngReg), Pre_FirstProjection m →
    θ_run (Cert.FirstProjection.defs (F := Bits)) (onTc (τ := Cert.FirstProjection.τ) (Cert.FirstProjection.main (F := Bits))) ⟨m, fun _ => 0, g⟩ (fun r => (∀ c : Dev Cert.FirstProjection.nD,
      r.2.mem ((c.tc : Thread Cert.FirstProjection.nD Cert.FirstProjection.τ).loc Cert.FirstProjection.main_arg0) = m ((c.tc : Thread Cert.FirstProjection.nD Cert.FirstProjection.τ).loc Cert.FirstProjection.main_arg0)
      ∧ r.2.mem ((c.tc : Thread Cert.FirstProjection.nD Cert.FirstProjection.τ).loc Cert.FirstProjection.main_arg1) = m ((c.tc : Thread Cert.FirstProjection.nD Cert.FirstProjection.τ).loc Cert.FirstProjection.main_arg1)
      ∧ r.2.mem ((c.tc : Thread Cert.FirstProjection.nD Cert.FirstProjection.τ).loc Cert.FirstProjection.main_arg2) = m ((c.tc : Thread Cert.FirstProjection.nD Cert.FirstProjection.τ).loc Cert.FirstProjection.main_arg2))
      ∧ r.2.sem = fun _ => 0)

def quiescent_FirstProjectionIdeal [hFirstProjectionIdeal : Cert.FirstProjectionIdeal.Facts] : Prop :=
  ∀ (m : (ℓ : Loc Cert.FirstProjectionIdeal.nD Cert.FirstProjectionIdeal.τ Cert.FirstProjectionIdeal.sig) → Buf (Elt Ideal) ℓ) (g : Dev Cert.FirstProjectionIdeal.nD → PrngReg), Pre_FirstProjectionIdeal m →
    θ_run (Cert.FirstProjectionIdeal.defs (F := Ideal)) (onTc (τ := Cert.FirstProjectionIdeal.τ) (Cert.FirstProjectionIdeal.main (F := Ideal))) ⟨m, fun _ => 0, g⟩ (fun r => (∀ c : Dev Cert.FirstProjectionIdeal.nD,
      r.2.mem ((c.tc : Thread Cert.FirstProjectionIdeal.nD Cert.FirstProjectionIdeal.τ).loc Cert.FirstProjectionIdeal.main_arg0) = m ((c.tc : Thread Cert.FirstProjectionIdeal.nD Cert.FirstProjectionIdeal.τ).loc Cert.FirstProjectionIdeal.main_arg0)
      ∧ r.2.mem ((c.tc : Thread Cert.FirstProjectionIdeal.nD Cert.FirstProjectionIdeal.τ).loc Cert.FirstProjectionIdeal.main_arg1) = m ((c.tc : Thread Cert.FirstProjectionIdeal.nD Cert.FirstProjectionIdeal.τ).loc Cert.FirstProjectionIdeal.main_arg1)
      ∧ r.2.mem ((c.tc : Thread Cert.FirstProjectionIdeal.nD Cert.FirstProjectionIdeal.τ).loc Cert.FirstProjectionIdeal.main_arg2) = m ((c.tc : Thread Cert.FirstProjectionIdeal.nD Cert.FirstProjectionIdeal.τ).loc Cert.FirstProjectionIdeal.main_arg2))
      ∧ r.2.sem = fun _ => 0)

def quiescent_FirstProjectionReferenceIdeal [hFirstProjectionReferenceIdeal : Cert.FirstProjectionReferenceIdeal.Facts] : Prop :=
  ∀ (m : (ℓ : Loc Cert.FirstProjectionReferenceIdeal.nD Cert.FirstProjectionReferenceIdeal.τ Cert.FirstProjectionReferenceIdeal.sig) → Buf (Elt Ideal) ℓ) (g : Dev Cert.FirstProjectionReferenceIdeal.nD → PrngReg), Pre_FirstProjectionReferenceIdeal m →
    θ_run (Cert.FirstProjectionReferenceIdeal.defs (F := Ideal)) (onTc (τ := Cert.FirstProjectionReferenceIdeal.τ) (Cert.FirstProjectionReferenceIdeal.main (F := Ideal))) ⟨m, fun _ => 0, g⟩ (fun r => (∀ c : Dev Cert.FirstProjectionReferenceIdeal.nD,
      r.2.mem ((c.tc : Thread Cert.FirstProjectionReferenceIdeal.nD Cert.FirstProjectionReferenceIdeal.τ).loc Cert.FirstProjectionReferenceIdeal.main_arg0) = m ((c.tc : Thread Cert.FirstProjectionReferenceIdeal.nD Cert.FirstProjectionReferenceIdeal.τ).loc Cert.FirstProjectionReferenceIdeal.main_arg0)
      ∧ r.2.mem ((c.tc : Thread Cert.FirstProjectionReferenceIdeal.nD Cert.FirstProjectionReferenceIdeal.τ).loc Cert.FirstProjectionReferenceIdeal.main_arg1) = m ((c.tc : Thread Cert.FirstProjectionReferenceIdeal.nD Cert.FirstProjectionReferenceIdeal.τ).loc Cert.FirstProjectionReferenceIdeal.main_arg1)
      ∧ r.2.mem ((c.tc : Thread Cert.FirstProjectionReferenceIdeal.nD Cert.FirstProjectionReferenceIdeal.τ).loc Cert.FirstProjectionReferenceIdeal.main_arg2) = m ((c.tc : Thread Cert.FirstProjectionReferenceIdeal.nD Cert.FirstProjectionReferenceIdeal.τ).loc Cert.FirstProjectionReferenceIdeal.main_arg2))
      ∧ r.2.sem = fun _ => 0)

def quiescent_Rows [hRows : Cert.Rows.Facts] : Prop :=
  ∀ (m : (ℓ : Loc Cert.Rows.nD Cert.Rows.τ Cert.Rows.sig) → Buf (Elt Bits) ℓ) (g : Dev Cert.Rows.nD → PrngReg), Pre_Rows m →
    θ_run (Cert.Rows.defs (F := Bits)) (onTc (τ := Cert.Rows.τ) (Cert.Rows.main (F := Bits))) ⟨m, fun _ => 0, g⟩ (fun r => (∀ c : Dev Cert.Rows.nD,
      r.2.mem ((c.tc : Thread Cert.Rows.nD Cert.Rows.τ).loc Cert.Rows.main_arg0) = m ((c.tc : Thread Cert.Rows.nD Cert.Rows.τ).loc Cert.Rows.main_arg0)
      ∧ r.2.mem ((c.tc : Thread Cert.Rows.nD Cert.Rows.τ).loc Cert.Rows.main_arg1) = m ((c.tc : Thread Cert.Rows.nD Cert.Rows.τ).loc Cert.Rows.main_arg1))
      ∧ r.2.sem = fun _ => 0)

def quiescent_RowsIdeal [hRowsIdeal : Cert.RowsIdeal.Facts] : Prop :=
  ∀ (m : (ℓ : Loc Cert.RowsIdeal.nD Cert.RowsIdeal.τ Cert.RowsIdeal.sig) → Buf (Elt Ideal) ℓ) (g : Dev Cert.RowsIdeal.nD → PrngReg), Pre_RowsIdeal m →
    θ_run (Cert.RowsIdeal.defs (F := Ideal)) (onTc (τ := Cert.RowsIdeal.τ) (Cert.RowsIdeal.main (F := Ideal))) ⟨m, fun _ => 0, g⟩ (fun r => (∀ c : Dev Cert.RowsIdeal.nD,
      r.2.mem ((c.tc : Thread Cert.RowsIdeal.nD Cert.RowsIdeal.τ).loc Cert.RowsIdeal.main_arg0) = m ((c.tc : Thread Cert.RowsIdeal.nD Cert.RowsIdeal.τ).loc Cert.RowsIdeal.main_arg0)
      ∧ r.2.mem ((c.tc : Thread Cert.RowsIdeal.nD Cert.RowsIdeal.τ).loc Cert.RowsIdeal.main_arg1) = m ((c.tc : Thread Cert.RowsIdeal.nD Cert.RowsIdeal.τ).loc Cert.RowsIdeal.main_arg1))
      ∧ r.2.sem = fun _ => 0)

def quiescent_RowsReferenceIdeal [hRowsReferenceIdeal : Cert.RowsReferenceIdeal.Facts] : Prop :=
  ∀ (m : (ℓ : Loc Cert.RowsReferenceIdeal.nD Cert.RowsReferenceIdeal.τ Cert.RowsReferenceIdeal.sig) → Buf (Elt Ideal) ℓ) (g : Dev Cert.RowsReferenceIdeal.nD → PrngReg), Pre_RowsReferenceIdeal m →
    θ_run (Cert.RowsReferenceIdeal.defs (F := Ideal)) (onTc (τ := Cert.RowsReferenceIdeal.τ) (Cert.RowsReferenceIdeal.main (F := Ideal))) ⟨m, fun _ => 0, g⟩ (fun r => (∀ c : Dev Cert.RowsReferenceIdeal.nD,
      r.2.mem ((c.tc : Thread Cert.RowsReferenceIdeal.nD Cert.RowsReferenceIdeal.τ).loc Cert.RowsReferenceIdeal.main_arg0) = m ((c.tc : Thread Cert.RowsReferenceIdeal.nD Cert.RowsReferenceIdeal.τ).loc Cert.RowsReferenceIdeal.main_arg0)
      ∧ r.2.mem ((c.tc : Thread Cert.RowsReferenceIdeal.nD Cert.RowsReferenceIdeal.τ).loc Cert.RowsReferenceIdeal.main_arg1) = m ((c.tc : Thread Cert.RowsReferenceIdeal.nD Cert.RowsReferenceIdeal.τ).loc Cert.RowsReferenceIdeal.main_arg1))
      ∧ r.2.sem = fun _ => 0)

def quiescent_EvenRows [hEvenRows : Cert.EvenRows.Facts] : Prop :=
  ∀ (m : (ℓ : Loc Cert.EvenRows.nD Cert.EvenRows.τ Cert.EvenRows.sig) → Buf (Elt Bits) ℓ) (g : Dev Cert.EvenRows.nD → PrngReg), Pre_EvenRows m →
    θ_run (Cert.EvenRows.defs (F := Bits)) (onTc (τ := Cert.EvenRows.τ) (Cert.EvenRows.main (F := Bits))) ⟨m, fun _ => 0, g⟩ (fun r => (∀ c : Dev Cert.EvenRows.nD,
      r.2.mem ((c.tc : Thread Cert.EvenRows.nD Cert.EvenRows.τ).loc Cert.EvenRows.main_arg0) = m ((c.tc : Thread Cert.EvenRows.nD Cert.EvenRows.τ).loc Cert.EvenRows.main_arg0)
      ∧ r.2.mem ((c.tc : Thread Cert.EvenRows.nD Cert.EvenRows.τ).loc Cert.EvenRows.main_arg1) = m ((c.tc : Thread Cert.EvenRows.nD Cert.EvenRows.τ).loc Cert.EvenRows.main_arg1)
      ∧ r.2.mem ((c.tc : Thread Cert.EvenRows.nD Cert.EvenRows.τ).loc Cert.EvenRows.main_arg2) = m ((c.tc : Thread Cert.EvenRows.nD Cert.EvenRows.τ).loc Cert.EvenRows.main_arg2))
      ∧ r.2.sem = fun _ => 0)

def quiescent_EvenRowsIdeal [hEvenRowsIdeal : Cert.EvenRowsIdeal.Facts] : Prop :=
  ∀ (m : (ℓ : Loc Cert.EvenRowsIdeal.nD Cert.EvenRowsIdeal.τ Cert.EvenRowsIdeal.sig) → Buf (Elt Ideal) ℓ) (g : Dev Cert.EvenRowsIdeal.nD → PrngReg), Pre_EvenRowsIdeal m →
    θ_run (Cert.EvenRowsIdeal.defs (F := Ideal)) (onTc (τ := Cert.EvenRowsIdeal.τ) (Cert.EvenRowsIdeal.main (F := Ideal))) ⟨m, fun _ => 0, g⟩ (fun r => (∀ c : Dev Cert.EvenRowsIdeal.nD,
      r.2.mem ((c.tc : Thread Cert.EvenRowsIdeal.nD Cert.EvenRowsIdeal.τ).loc Cert.EvenRowsIdeal.main_arg0) = m ((c.tc : Thread Cert.EvenRowsIdeal.nD Cert.EvenRowsIdeal.τ).loc Cert.EvenRowsIdeal.main_arg0)
      ∧ r.2.mem ((c.tc : Thread Cert.EvenRowsIdeal.nD Cert.EvenRowsIdeal.τ).loc Cert.EvenRowsIdeal.main_arg1) = m ((c.tc : Thread Cert.EvenRowsIdeal.nD Cert.EvenRowsIdeal.τ).loc Cert.EvenRowsIdeal.main_arg1)
      ∧ r.2.mem ((c.tc : Thread Cert.EvenRowsIdeal.nD Cert.EvenRowsIdeal.τ).loc Cert.EvenRowsIdeal.main_arg2) = m ((c.tc : Thread Cert.EvenRowsIdeal.nD Cert.EvenRowsIdeal.τ).loc Cert.EvenRowsIdeal.main_arg2))
      ∧ r.2.sem = fun _ => 0)

def quiescent_EvenRowsReferenceIdeal [hEvenRowsReferenceIdeal : Cert.EvenRowsReferenceIdeal.Facts] : Prop :=
  ∀ (m : (ℓ : Loc Cert.EvenRowsReferenceIdeal.nD Cert.EvenRowsReferenceIdeal.τ Cert.EvenRowsReferenceIdeal.sig) → Buf (Elt Ideal) ℓ) (g : Dev Cert.EvenRowsReferenceIdeal.nD → PrngReg), Pre_EvenRowsReferenceIdeal m →
    θ_run (Cert.EvenRowsReferenceIdeal.defs (F := Ideal)) (onTc (τ := Cert.EvenRowsReferenceIdeal.τ) (Cert.EvenRowsReferenceIdeal.main (F := Ideal))) ⟨m, fun _ => 0, g⟩ (fun r => (∀ c : Dev Cert.EvenRowsReferenceIdeal.nD,
      r.2.mem ((c.tc : Thread Cert.EvenRowsReferenceIdeal.nD Cert.EvenRowsReferenceIdeal.τ).loc Cert.EvenRowsReferenceIdeal.main_arg0) = m ((c.tc : Thread Cert.EvenRowsReferenceIdeal.nD Cert.EvenRowsReferenceIdeal.τ).loc Cert.EvenRowsReferenceIdeal.main_arg0)
      ∧ r.2.mem ((c.tc : Thread Cert.EvenRowsReferenceIdeal.nD Cert.EvenRowsReferenceIdeal.τ).loc Cert.EvenRowsReferenceIdeal.main_arg1) = m ((c.tc : Thread Cert.EvenRowsReferenceIdeal.nD Cert.EvenRowsReferenceIdeal.τ).loc Cert.EvenRowsReferenceIdeal.main_arg1)
      ∧ r.2.mem ((c.tc : Thread Cert.EvenRowsReferenceIdeal.nD Cert.EvenRowsReferenceIdeal.τ).loc Cert.EvenRowsReferenceIdeal.main_arg2) = m ((c.tc : Thread Cert.EvenRowsReferenceIdeal.nD Cert.EvenRowsReferenceIdeal.τ).loc Cert.EvenRowsReferenceIdeal.main_arg2))
      ∧ r.2.sem = fun _ => 0)

def quiescent_GluRows [hGluRows : Cert.GluRows.Facts] : Prop :=
  ∀ (m : (ℓ : Loc Cert.GluRows.nD Cert.GluRows.τ Cert.GluRows.sig) → Buf (Elt Bits) ℓ) (g : Dev Cert.GluRows.nD → PrngReg), Pre_GluRows m →
    θ_run (Cert.GluRows.defs (F := Bits)) (onTc (τ := Cert.GluRows.τ) (Cert.GluRows.main (F := Bits))) ⟨m, fun _ => 0, g⟩ (fun r => (∀ c : Dev Cert.GluRows.nD,
      r.2.mem ((c.tc : Thread Cert.GluRows.nD Cert.GluRows.τ).loc Cert.GluRows.main_arg0) = m ((c.tc : Thread Cert.GluRows.nD Cert.GluRows.τ).loc Cert.GluRows.main_arg0)
      ∧ r.2.mem ((c.tc : Thread Cert.GluRows.nD Cert.GluRows.τ).loc Cert.GluRows.main_arg1) = m ((c.tc : Thread Cert.GluRows.nD Cert.GluRows.τ).loc Cert.GluRows.main_arg1))
      ∧ r.2.sem = fun _ => 0)

def quiescent_GluRowsIdeal [hGluRowsIdeal : Cert.GluRowsIdeal.Facts] : Prop :=
  ∀ (m : (ℓ : Loc Cert.GluRowsIdeal.nD Cert.GluRowsIdeal.τ Cert.GluRowsIdeal.sig) → Buf (Elt Ideal) ℓ) (g : Dev Cert.GluRowsIdeal.nD → PrngReg), Pre_GluRowsIdeal m →
    θ_run (Cert.GluRowsIdeal.defs (F := Ideal)) (onTc (τ := Cert.GluRowsIdeal.τ) (Cert.GluRowsIdeal.main (F := Ideal))) ⟨m, fun _ => 0, g⟩ (fun r => (∀ c : Dev Cert.GluRowsIdeal.nD,
      r.2.mem ((c.tc : Thread Cert.GluRowsIdeal.nD Cert.GluRowsIdeal.τ).loc Cert.GluRowsIdeal.main_arg0) = m ((c.tc : Thread Cert.GluRowsIdeal.nD Cert.GluRowsIdeal.τ).loc Cert.GluRowsIdeal.main_arg0)
      ∧ r.2.mem ((c.tc : Thread Cert.GluRowsIdeal.nD Cert.GluRowsIdeal.τ).loc Cert.GluRowsIdeal.main_arg1) = m ((c.tc : Thread Cert.GluRowsIdeal.nD Cert.GluRowsIdeal.τ).loc Cert.GluRowsIdeal.main_arg1))
      ∧ r.2.sem = fun _ => 0)

def quiescent_GluRowsReferenceIdeal [hGluRowsReferenceIdeal : Cert.GluRowsReferenceIdeal.Facts] : Prop :=
  ∀ (m : (ℓ : Loc Cert.GluRowsReferenceIdeal.nD Cert.GluRowsReferenceIdeal.τ Cert.GluRowsReferenceIdeal.sig) → Buf (Elt Ideal) ℓ) (g : Dev Cert.GluRowsReferenceIdeal.nD → PrngReg), Pre_GluRowsReferenceIdeal m →
    θ_run (Cert.GluRowsReferenceIdeal.defs (F := Ideal)) (onTc (τ := Cert.GluRowsReferenceIdeal.τ) (Cert.GluRowsReferenceIdeal.main (F := Ideal))) ⟨m, fun _ => 0, g⟩ (fun r => (∀ c : Dev Cert.GluRowsReferenceIdeal.nD,
      r.2.mem ((c.tc : Thread Cert.GluRowsReferenceIdeal.nD Cert.GluRowsReferenceIdeal.τ).loc Cert.GluRowsReferenceIdeal.main_arg0) = m ((c.tc : Thread Cert.GluRowsReferenceIdeal.nD Cert.GluRowsReferenceIdeal.τ).loc Cert.GluRowsReferenceIdeal.main_arg0)
      ∧ r.2.mem ((c.tc : Thread Cert.GluRowsReferenceIdeal.nD Cert.GluRowsReferenceIdeal.τ).loc Cert.GluRowsReferenceIdeal.main_arg1) = m ((c.tc : Thread Cert.GluRowsReferenceIdeal.nD Cert.GluRowsReferenceIdeal.τ).loc Cert.GluRowsReferenceIdeal.main_arg1))
      ∧ r.2.sem = fun _ => 0)

def quiescent_Output [hOutput : Cert.Output.Facts] : Prop :=
  ∀ (m : (ℓ : Loc Cert.Output.nD Cert.Output.τ Cert.Output.sig) → Buf (Elt Bits) ℓ) (g : Dev Cert.Output.nD → PrngReg), Pre_Output m →
    θ_run (Cert.Output.defs (F := Bits)) (onTc (τ := Cert.Output.τ) (Cert.Output.main (F := Bits))) ⟨m, fun _ => 0, g⟩ (fun r => (∀ c : Dev Cert.Output.nD,
      r.2.mem ((c.tc : Thread Cert.Output.nD Cert.Output.τ).loc Cert.Output.main_arg0) = m ((c.tc : Thread Cert.Output.nD Cert.Output.τ).loc Cert.Output.main_arg0)
      ∧ r.2.mem ((c.tc : Thread Cert.Output.nD Cert.Output.τ).loc Cert.Output.main_arg1) = m ((c.tc : Thread Cert.Output.nD Cert.Output.τ).loc Cert.Output.main_arg1)
      ∧ r.2.mem ((c.tc : Thread Cert.Output.nD Cert.Output.τ).loc Cert.Output.main_arg2) = m ((c.tc : Thread Cert.Output.nD Cert.Output.τ).loc Cert.Output.main_arg2)
      ∧ r.2.mem ((c.tc : Thread Cert.Output.nD Cert.Output.τ).loc Cert.Output.main_arg3) = m ((c.tc : Thread Cert.Output.nD Cert.Output.τ).loc Cert.Output.main_arg3)
      ∧ r.2.mem ((c.tc : Thread Cert.Output.nD Cert.Output.τ).loc Cert.Output.main_arg4) = m ((c.tc : Thread Cert.Output.nD Cert.Output.τ).loc Cert.Output.main_arg4)
      ∧ r.2.mem ((c.tc : Thread Cert.Output.nD Cert.Output.τ).loc Cert.Output.main_arg5) = m ((c.tc : Thread Cert.Output.nD Cert.Output.τ).loc Cert.Output.main_arg5)
      ∧ r.2.mem ((c.tc : Thread Cert.Output.nD Cert.Output.τ).loc Cert.Output.main_arg6) = m ((c.tc : Thread Cert.Output.nD Cert.Output.τ).loc Cert.Output.main_arg6))
      ∧ r.2.sem = fun _ => 0)

def quiescent_OutputIdeal [hOutputIdeal : Cert.OutputIdeal.Facts] : Prop :=
  ∀ (m : (ℓ : Loc Cert.OutputIdeal.nD Cert.OutputIdeal.τ Cert.OutputIdeal.sig) → Buf (Elt Ideal) ℓ) (g : Dev Cert.OutputIdeal.nD → PrngReg), Pre_OutputIdeal m →
    θ_run (Cert.OutputIdeal.defs (F := Ideal)) (onTc (τ := Cert.OutputIdeal.τ) (Cert.OutputIdeal.main (F := Ideal))) ⟨m, fun _ => 0, g⟩ (fun r => (∀ c : Dev Cert.OutputIdeal.nD,
      r.2.mem ((c.tc : Thread Cert.OutputIdeal.nD Cert.OutputIdeal.τ).loc Cert.OutputIdeal.main_arg0) = m ((c.tc : Thread Cert.OutputIdeal.nD Cert.OutputIdeal.τ).loc Cert.OutputIdeal.main_arg0)
      ∧ r.2.mem ((c.tc : Thread Cert.OutputIdeal.nD Cert.OutputIdeal.τ).loc Cert.OutputIdeal.main_arg1) = m ((c.tc : Thread Cert.OutputIdeal.nD Cert.OutputIdeal.τ).loc Cert.OutputIdeal.main_arg1)
      ∧ r.2.mem ((c.tc : Thread Cert.OutputIdeal.nD Cert.OutputIdeal.τ).loc Cert.OutputIdeal.main_arg2) = m ((c.tc : Thread Cert.OutputIdeal.nD Cert.OutputIdeal.τ).loc Cert.OutputIdeal.main_arg2)
      ∧ r.2.mem ((c.tc : Thread Cert.OutputIdeal.nD Cert.OutputIdeal.τ).loc Cert.OutputIdeal.main_arg3) = m ((c.tc : Thread Cert.OutputIdeal.nD Cert.OutputIdeal.τ).loc Cert.OutputIdeal.main_arg3)
      ∧ r.2.mem ((c.tc : Thread Cert.OutputIdeal.nD Cert.OutputIdeal.τ).loc Cert.OutputIdeal.main_arg4) = m ((c.tc : Thread Cert.OutputIdeal.nD Cert.OutputIdeal.τ).loc Cert.OutputIdeal.main_arg4)
      ∧ r.2.mem ((c.tc : Thread Cert.OutputIdeal.nD Cert.OutputIdeal.τ).loc Cert.OutputIdeal.main_arg5) = m ((c.tc : Thread Cert.OutputIdeal.nD Cert.OutputIdeal.τ).loc Cert.OutputIdeal.main_arg5)
      ∧ r.2.mem ((c.tc : Thread Cert.OutputIdeal.nD Cert.OutputIdeal.τ).loc Cert.OutputIdeal.main_arg6) = m ((c.tc : Thread Cert.OutputIdeal.nD Cert.OutputIdeal.τ).loc Cert.OutputIdeal.main_arg6))
      ∧ r.2.sem = fun _ => 0)

def quiescent_OutputReferenceIdeal [hOutputReferenceIdeal : Cert.OutputReferenceIdeal.Facts] : Prop :=
  ∀ (m : (ℓ : Loc Cert.OutputReferenceIdeal.nD Cert.OutputReferenceIdeal.τ Cert.OutputReferenceIdeal.sig) → Buf (Elt Ideal) ℓ) (g : Dev Cert.OutputReferenceIdeal.nD → PrngReg), Pre_OutputReferenceIdeal m →
    θ_run (Cert.OutputReferenceIdeal.defs (F := Ideal)) (onTc (τ := Cert.OutputReferenceIdeal.τ) (Cert.OutputReferenceIdeal.main (F := Ideal))) ⟨m, fun _ => 0, g⟩ (fun r => (∀ c : Dev Cert.OutputReferenceIdeal.nD,
      r.2.mem ((c.tc : Thread Cert.OutputReferenceIdeal.nD Cert.OutputReferenceIdeal.τ).loc Cert.OutputReferenceIdeal.main_arg0) = m ((c.tc : Thread Cert.OutputReferenceIdeal.nD Cert.OutputReferenceIdeal.τ).loc Cert.OutputReferenceIdeal.main_arg0)
      ∧ r.2.mem ((c.tc : Thread Cert.OutputReferenceIdeal.nD Cert.OutputReferenceIdeal.τ).loc Cert.OutputReferenceIdeal.main_arg1) = m ((c.tc : Thread Cert.OutputReferenceIdeal.nD Cert.OutputReferenceIdeal.τ).loc Cert.OutputReferenceIdeal.main_arg1)
      ∧ r.2.mem ((c.tc : Thread Cert.OutputReferenceIdeal.nD Cert.OutputReferenceIdeal.τ).loc Cert.OutputReferenceIdeal.main_arg2) = m ((c.tc : Thread Cert.OutputReferenceIdeal.nD Cert.OutputReferenceIdeal.τ).loc Cert.OutputReferenceIdeal.main_arg2)
      ∧ r.2.mem ((c.tc : Thread Cert.OutputReferenceIdeal.nD Cert.OutputReferenceIdeal.τ).loc Cert.OutputReferenceIdeal.main_arg3) = m ((c.tc : Thread Cert.OutputReferenceIdeal.nD Cert.OutputReferenceIdeal.τ).loc Cert.OutputReferenceIdeal.main_arg3)
      ∧ r.2.mem ((c.tc : Thread Cert.OutputReferenceIdeal.nD Cert.OutputReferenceIdeal.τ).loc Cert.OutputReferenceIdeal.main_arg4) = m ((c.tc : Thread Cert.OutputReferenceIdeal.nD Cert.OutputReferenceIdeal.τ).loc Cert.OutputReferenceIdeal.main_arg4)
      ∧ r.2.mem ((c.tc : Thread Cert.OutputReferenceIdeal.nD Cert.OutputReferenceIdeal.τ).loc Cert.OutputReferenceIdeal.main_arg5) = m ((c.tc : Thread Cert.OutputReferenceIdeal.nD Cert.OutputReferenceIdeal.τ).loc Cert.OutputReferenceIdeal.main_arg5)
      ∧ r.2.mem ((c.tc : Thread Cert.OutputReferenceIdeal.nD Cert.OutputReferenceIdeal.τ).loc Cert.OutputReferenceIdeal.main_arg6) = m ((c.tc : Thread Cert.OutputReferenceIdeal.nD Cert.OutputReferenceIdeal.τ).loc Cert.OutputReferenceIdeal.main_arg6))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3)
      ∧ r.2.mem ((c.tc : Thread Cert.Gate.nD Cert.Gate.τ).loc Cert.Gate.main_arg4) = m ((c.tc : Thread Cert.Gate.nD Cert.Gate.τ).loc Cert.Gate.main_arg4)
      ∧ r.2.mem ((c.tc : Thread Cert.Gate.nD Cert.Gate.τ).loc Cert.Gate.main_arg5) = m ((c.tc : Thread Cert.Gate.nD Cert.Gate.τ).loc Cert.Gate.main_arg5))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
      ∧ r.2.mem ((c.tc : Thread Cert.GateIdeal.nD Cert.GateIdeal.τ).loc Cert.GateIdeal.main_arg4) = m ((c.tc : Thread Cert.GateIdeal.nD Cert.GateIdeal.τ).loc Cert.GateIdeal.main_arg4)
      ∧ r.2.mem ((c.tc : Thread Cert.GateIdeal.nD Cert.GateIdeal.τ).loc Cert.GateIdeal.main_arg5) = m ((c.tc : Thread Cert.GateIdeal.nD Cert.GateIdeal.τ).loc Cert.GateIdeal.main_arg5))
      ∧ r.2.sem = fun _ => 0)

def quiescent_GateIdeal_pre_gate_finite [hGateIdeal : Cert.GateIdeal.Facts] [hPre_gate_finite : Cert.Pre_gate_finite.Facts] : Prop :=
  ∀ (m : (ℓ : Loc Cert.GateIdeal.nD Cert.GateIdeal.τ Cert.GateIdeal.sig) → Buf (Elt Ideal) ℓ) (g : Dev Cert.GateIdeal.nD → PrngReg), Pre_GateIdeal_gate_finite m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
      ∧ r.2.mem ((c.tc : Thread Cert.GateIdeal.nD Cert.GateIdeal.τ).loc Cert.GateIdeal.main_arg4) = m ((c.tc : Thread Cert.GateIdeal.nD Cert.GateIdeal.τ).loc Cert.GateIdeal.main_arg4)
      ∧ r.2.mem ((c.tc : Thread Cert.GateIdeal.nD Cert.GateIdeal.τ).loc Cert.GateIdeal.main_arg5) = m ((c.tc : Thread Cert.GateIdeal.nD Cert.GateIdeal.τ).loc Cert.GateIdeal.main_arg5))
      ∧ r.2.sem = fun _ => 0)

def quiescent_GateReferenceIdeal [hGateReferenceIdeal : Cert.GateReferenceIdeal.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1)
      ∧ r.2.mem ((c.tc : Thread Cert.GateReferenceIdeal.nD Cert.GateReferenceIdeal.τ).loc Cert.GateReferenceIdeal.main_arg2) = m ((c.tc : Thread Cert.GateReferenceIdeal.nD Cert.GateReferenceIdeal.τ).loc Cert.GateReferenceIdeal.main_arg2)
      ∧ r.2.mem ((c.tc : Thread Cert.GateReferenceIdeal.nD Cert.GateReferenceIdeal.τ).loc Cert.GateReferenceIdeal.main_arg3) = m ((c.tc : Thread Cert.GateReferenceIdeal.nD Cert.GateReferenceIdeal.τ).loc Cert.GateReferenceIdeal.main_arg3)
      ∧ r.2.mem ((c.tc : Thread Cert.GateReferenceIdeal.nD Cert.GateReferenceIdeal.τ).loc Cert.GateReferenceIdeal.main_arg4) = m ((c.tc : Thread Cert.GateReferenceIdeal.nD Cert.GateReferenceIdeal.τ).loc Cert.GateReferenceIdeal.main_arg4)
      ∧ r.2.mem ((c.tc : Thread Cert.GateReferenceIdeal.nD Cert.GateReferenceIdeal.τ).loc Cert.GateReferenceIdeal.main_arg5) = m ((c.tc : Thread Cert.GateReferenceIdeal.nD Cert.GateReferenceIdeal.τ).loc Cert.GateReferenceIdeal.main_arg5))
      ∧ r.2.sem = fun _ => 0)

def quiescent_GateReferenceIdeal_pre_gate_finite [hGateReferenceIdeal : Cert.GateReferenceIdeal.Facts] [hPre_gate_finite : Cert.Pre_gate_finite.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal_gate_finite m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1)
      ∧ r.2.mem ((c.tc : Thread Cert.GateReferenceIdeal.nD Cert.GateReferenceIdeal.τ).loc Cert.GateReferenceIdeal.main_arg2) = m ((c.tc : Thread Cert.GateReferenceIdeal.nD Cert.GateReferenceIdeal.τ).loc Cert.GateReferenceIdeal.main_arg2)
      ∧ r.2.mem ((c.tc : Thread Cert.GateReferenceIdeal.nD Cert.GateReferenceIdeal.τ).loc Cert.GateReferenceIdeal.main_arg3) = m ((c.tc : Thread Cert.GateReferenceIdeal.nD Cert.GateReferenceIdeal.τ).loc Cert.GateReferenceIdeal.main_arg3)
      ∧ r.2.mem ((c.tc : Thread Cert.GateReferenceIdeal.nD Cert.GateReferenceIdeal.τ).loc Cert.GateReferenceIdeal.main_arg4) = m ((c.tc : Thread Cert.GateReferenceIdeal.nD Cert.GateReferenceIdeal.τ).loc Cert.GateReferenceIdeal.main_arg4)
      ∧ r.2.mem ((c.tc : Thread Cert.GateReferenceIdeal.nD Cert.GateReferenceIdeal.τ).loc Cert.GateReferenceIdeal.main_arg5) = m ((c.tc : Thread Cert.GateReferenceIdeal.nD Cert.GateReferenceIdeal.τ).loc Cert.GateReferenceIdeal.main_arg5))
      ∧ r.2.sem = fun _ => 0)

def quiescent_ColumnsStep [hColumnsStep : Cert.ColumnsStep.Facts] : Prop :=
  ∀ (m : (ℓ : Loc Cert.ColumnsStep.nD Cert.ColumnsStep.τ Cert.ColumnsStep.sig) → Buf (Elt Bits) ℓ) (g : Dev Cert.ColumnsStep.nD → PrngReg), Pre_ColumnsStep m →
    θ_run (Cert.ColumnsStep.defs (F := Bits)) (onTc (τ := Cert.ColumnsStep.τ) (Cert.ColumnsStep.main (F := Bits))) ⟨m, fun _ => 0, g⟩ (fun r => (∀ c : Dev Cert.ColumnsStep.nD,
      r.2.mem ((c.tc : Thread Cert.ColumnsStep.nD Cert.ColumnsStep.τ).loc Cert.ColumnsStep.main_arg0) = m ((c.tc : Thread Cert.ColumnsStep.nD Cert.ColumnsStep.τ).loc Cert.ColumnsStep.main_arg0)
      ∧ r.2.mem ((c.tc : Thread Cert.ColumnsStep.nD Cert.ColumnsStep.τ).loc Cert.ColumnsStep.main_arg1) = m ((c.tc : Thread Cert.ColumnsStep.nD Cert.ColumnsStep.τ).loc Cert.ColumnsStep.main_arg1)
      ∧ r.2.mem ((c.tc : Thread Cert.ColumnsStep.nD Cert.ColumnsStep.τ).loc Cert.ColumnsStep.main_arg2) = m ((c.tc : Thread Cert.ColumnsStep.nD Cert.ColumnsStep.τ).loc Cert.ColumnsStep.main_arg2)
      ∧ r.2.mem ((c.tc : Thread Cert.ColumnsStep.nD Cert.ColumnsStep.τ).loc Cert.ColumnsStep.main_arg3) = m ((c.tc : Thread Cert.ColumnsStep.nD Cert.ColumnsStep.τ).loc Cert.ColumnsStep.main_arg3)
      ∧ r.2.mem ((c.tc : Thread Cert.ColumnsStep.nD Cert.ColumnsStep.τ).loc Cert.ColumnsStep.main_arg4) = m ((c.tc : Thread Cert.ColumnsStep.nD Cert.ColumnsStep.τ).loc Cert.ColumnsStep.main_arg4))
      ∧ r.2.sem = fun _ => 0)

def quiescent_ColumnsStepIdeal [hColumnsStepIdeal : Cert.ColumnsStepIdeal.Facts] : Prop :=
  ∀ (m : (ℓ : Loc Cert.ColumnsStepIdeal.nD Cert.ColumnsStepIdeal.τ Cert.ColumnsStepIdeal.sig) → Buf (Elt Ideal) ℓ) (g : Dev Cert.ColumnsStepIdeal.nD → PrngReg), Pre_ColumnsStepIdeal m →
    θ_run (Cert.ColumnsStepIdeal.defs (F := Ideal)) (onTc (τ := Cert.ColumnsStepIdeal.τ) (Cert.ColumnsStepIdeal.main (F := Ideal))) ⟨m, fun _ => 0, g⟩ (fun r => (∀ c : Dev Cert.ColumnsStepIdeal.nD,
      r.2.mem ((c.tc : Thread Cert.ColumnsStepIdeal.nD Cert.ColumnsStepIdeal.τ).loc Cert.ColumnsStepIdeal.main_arg0) = m ((c.tc : Thread Cert.ColumnsStepIdeal.nD Cert.ColumnsStepIdeal.τ).loc Cert.ColumnsStepIdeal.main_arg0)
      ∧ r.2.mem ((c.tc : Thread Cert.ColumnsStepIdeal.nD Cert.ColumnsStepIdeal.τ).loc Cert.ColumnsStepIdeal.main_arg1) = m ((c.tc : Thread Cert.ColumnsStepIdeal.nD Cert.ColumnsStepIdeal.τ).loc Cert.ColumnsStepIdeal.main_arg1)
      ∧ r.2.mem ((c.tc : Thread Cert.ColumnsStepIdeal.nD Cert.ColumnsStepIdeal.τ).loc Cert.ColumnsStepIdeal.main_arg2) = m ((c.tc : Thread Cert.ColumnsStepIdeal.nD Cert.ColumnsStepIdeal.τ).loc Cert.ColumnsStepIdeal.main_arg2)
      ∧ r.2.mem ((c.tc : Thread Cert.ColumnsStepIdeal.nD Cert.ColumnsStepIdeal.τ).loc Cert.ColumnsStepIdeal.main_arg3) = m ((c.tc : Thread Cert.ColumnsStepIdeal.nD Cert.ColumnsStepIdeal.τ).loc Cert.ColumnsStepIdeal.main_arg3)
      ∧ r.2.mem ((c.tc : Thread Cert.ColumnsStepIdeal.nD Cert.ColumnsStepIdeal.τ).loc Cert.ColumnsStepIdeal.main_arg4) = m ((c.tc : Thread Cert.ColumnsStepIdeal.nD Cert.ColumnsStepIdeal.τ).loc Cert.ColumnsStepIdeal.main_arg4))
      ∧ r.2.sem = fun _ => 0)

def quiescent_ColumnsStepReferenceIdeal [hColumnsStepReferenceIdeal : Cert.ColumnsStepReferenceIdeal.Facts] : Prop :=
  ∀ (m : (ℓ : Loc Cert.ColumnsStepReferenceIdeal.nD Cert.ColumnsStepReferenceIdeal.τ Cert.ColumnsStepReferenceIdeal.sig) → Buf (Elt Ideal) ℓ) (g : Dev Cert.ColumnsStepReferenceIdeal.nD → PrngReg), Pre_ColumnsStepReferenceIdeal m →
    θ_run (Cert.ColumnsStepReferenceIdeal.defs (F := Ideal)) (onTc (τ := Cert.ColumnsStepReferenceIdeal.τ) (Cert.ColumnsStepReferenceIdeal.main (F := Ideal))) ⟨m, fun _ => 0, g⟩ (fun r => (∀ c : Dev Cert.ColumnsStepReferenceIdeal.nD,
      r.2.mem ((c.tc : Thread Cert.ColumnsStepReferenceIdeal.nD Cert.ColumnsStepReferenceIdeal.τ).loc Cert.ColumnsStepReferenceIdeal.main_arg0) = m ((c.tc : Thread Cert.ColumnsStepReferenceIdeal.nD Cert.ColumnsStepReferenceIdeal.τ).loc Cert.ColumnsStepReferenceIdeal.main_arg0)
      ∧ r.2.mem ((c.tc : Thread Cert.ColumnsStepReferenceIdeal.nD Cert.ColumnsStepReferenceIdeal.τ).loc Cert.ColumnsStepReferenceIdeal.main_arg1) = m ((c.tc : Thread Cert.ColumnsStepReferenceIdeal.nD Cert.ColumnsStepReferenceIdeal.τ).loc Cert.ColumnsStepReferenceIdeal.main_arg1)
      ∧ r.2.mem ((c.tc : Thread Cert.ColumnsStepReferenceIdeal.nD Cert.ColumnsStepReferenceIdeal.τ).loc Cert.ColumnsStepReferenceIdeal.main_arg2) = m ((c.tc : Thread Cert.ColumnsStepReferenceIdeal.nD Cert.ColumnsStepReferenceIdeal.τ).loc Cert.ColumnsStepReferenceIdeal.main_arg2)
      ∧ r.2.mem ((c.tc : Thread Cert.ColumnsStepReferenceIdeal.nD Cert.ColumnsStepReferenceIdeal.τ).loc Cert.ColumnsStepReferenceIdeal.main_arg3) = m ((c.tc : Thread Cert.ColumnsStepReferenceIdeal.nD Cert.ColumnsStepReferenceIdeal.τ).loc Cert.ColumnsStepReferenceIdeal.main_arg3)
      ∧ r.2.mem ((c.tc : Thread Cert.ColumnsStepReferenceIdeal.nD Cert.ColumnsStepReferenceIdeal.τ).loc Cert.ColumnsStepReferenceIdeal.main_arg4) = m ((c.tc : Thread Cert.ColumnsStepReferenceIdeal.nD Cert.ColumnsStepReferenceIdeal.τ).loc Cert.ColumnsStepReferenceIdeal.main_arg4))
      ∧ r.2.sem = fun _ => 0)

def quiescent_RowsStep [hRowsStep : Cert.RowsStep.Facts] : Prop :=
  ∀ (m : (ℓ : Loc Cert.RowsStep.nD Cert.RowsStep.τ Cert.RowsStep.sig) → Buf (Elt Bits) ℓ) (g : Dev Cert.RowsStep.nD → PrngReg), Pre_RowsStep m →
    θ_run (Cert.RowsStep.defs (F := Bits)) (onTc (τ := Cert.RowsStep.τ) (Cert.RowsStep.main (F := Bits))) ⟨m, fun _ => 0, g⟩ (fun r => (∀ c : Dev Cert.RowsStep.nD,
      r.2.mem ((c.tc : Thread Cert.RowsStep.nD Cert.RowsStep.τ).loc Cert.RowsStep.main_arg0) = m ((c.tc : Thread Cert.RowsStep.nD Cert.RowsStep.τ).loc Cert.RowsStep.main_arg0)
      ∧ r.2.mem ((c.tc : Thread Cert.RowsStep.nD Cert.RowsStep.τ).loc Cert.RowsStep.main_arg1) = m ((c.tc : Thread Cert.RowsStep.nD Cert.RowsStep.τ).loc Cert.RowsStep.main_arg1)
      ∧ r.2.mem ((c.tc : Thread Cert.RowsStep.nD Cert.RowsStep.τ).loc Cert.RowsStep.main_arg2) = m ((c.tc : Thread Cert.RowsStep.nD Cert.RowsStep.τ).loc Cert.RowsStep.main_arg2)
      ∧ r.2.mem ((c.tc : Thread Cert.RowsStep.nD Cert.RowsStep.τ).loc Cert.RowsStep.main_arg3) = m ((c.tc : Thread Cert.RowsStep.nD Cert.RowsStep.τ).loc Cert.RowsStep.main_arg3)
      ∧ r.2.mem ((c.tc : Thread Cert.RowsStep.nD Cert.RowsStep.τ).loc Cert.RowsStep.main_arg4) = m ((c.tc : Thread Cert.RowsStep.nD Cert.RowsStep.τ).loc Cert.RowsStep.main_arg4))
      ∧ r.2.sem = fun _ => 0)

def quiescent_RowsStepIdeal [hRowsStepIdeal : Cert.RowsStepIdeal.Facts] : Prop :=
  ∀ (m : (ℓ : Loc Cert.RowsStepIdeal.nD Cert.RowsStepIdeal.τ Cert.RowsStepIdeal.sig) → Buf (Elt Ideal) ℓ) (g : Dev Cert.RowsStepIdeal.nD → PrngReg), Pre_RowsStepIdeal m →
    θ_run (Cert.RowsStepIdeal.defs (F := Ideal)) (onTc (τ := Cert.RowsStepIdeal.τ) (Cert.RowsStepIdeal.main (F := Ideal))) ⟨m, fun _ => 0, g⟩ (fun r => (∀ c : Dev Cert.RowsStepIdeal.nD,
      r.2.mem ((c.tc : Thread Cert.RowsStepIdeal.nD Cert.RowsStepIdeal.τ).loc Cert.RowsStepIdeal.main_arg0) = m ((c.tc : Thread Cert.RowsStepIdeal.nD Cert.RowsStepIdeal.τ).loc Cert.RowsStepIdeal.main_arg0)
      ∧ r.2.mem ((c.tc : Thread Cert.RowsStepIdeal.nD Cert.RowsStepIdeal.τ).loc Cert.RowsStepIdeal.main_arg1) = m ((c.tc : Thread Cert.RowsStepIdeal.nD Cert.RowsStepIdeal.τ).loc Cert.RowsStepIdeal.main_arg1)
      ∧ r.2.mem ((c.tc : Thread Cert.RowsStepIdeal.nD Cert.RowsStepIdeal.τ).loc Cert.RowsStepIdeal.main_arg2) = m ((c.tc : Thread Cert.RowsStepIdeal.nD Cert.RowsStepIdeal.τ).loc Cert.RowsStepIdeal.main_arg2)
      ∧ r.2.mem ((c.tc : Thread Cert.RowsStepIdeal.nD Cert.RowsStepIdeal.τ).loc Cert.RowsStepIdeal.main_arg3) = m ((c.tc : Thread Cert.RowsStepIdeal.nD Cert.RowsStepIdeal.τ).loc Cert.RowsStepIdeal.main_arg3)
      ∧ r.2.mem ((c.tc : Thread Cert.RowsStepIdeal.nD Cert.RowsStepIdeal.τ).loc Cert.RowsStepIdeal.main_arg4) = m ((c.tc : Thread Cert.RowsStepIdeal.nD Cert.RowsStepIdeal.τ).loc Cert.RowsStepIdeal.main_arg4))
      ∧ r.2.sem = fun _ => 0)

def quiescent_RowsStepReferenceIdeal [hRowsStepReferenceIdeal : Cert.RowsStepReferenceIdeal.Facts] : Prop :=
  ∀ (m : (ℓ : Loc Cert.RowsStepReferenceIdeal.nD Cert.RowsStepReferenceIdeal.τ Cert.RowsStepReferenceIdeal.sig) → Buf (Elt Ideal) ℓ) (g : Dev Cert.RowsStepReferenceIdeal.nD → PrngReg), Pre_RowsStepReferenceIdeal m →
    θ_run (Cert.RowsStepReferenceIdeal.defs (F := Ideal)) (onTc (τ := Cert.RowsStepReferenceIdeal.τ) (Cert.RowsStepReferenceIdeal.main (F := Ideal))) ⟨m, fun _ => 0, g⟩ (fun r => (∀ c : Dev Cert.RowsStepReferenceIdeal.nD,
      r.2.mem ((c.tc : Thread Cert.RowsStepReferenceIdeal.nD Cert.RowsStepReferenceIdeal.τ).loc Cert.RowsStepReferenceIdeal.main_arg0) = m ((c.tc : Thread Cert.RowsStepReferenceIdeal.nD Cert.RowsStepReferenceIdeal.τ).loc Cert.RowsStepReferenceIdeal.main_arg0)
      ∧ r.2.mem ((c.tc : Thread Cert.RowsStepReferenceIdeal.nD Cert.RowsStepReferenceIdeal.τ).loc Cert.RowsStepReferenceIdeal.main_arg1) = m ((c.tc : Thread Cert.RowsStepReferenceIdeal.nD Cert.RowsStepReferenceIdeal.τ).loc Cert.RowsStepReferenceIdeal.main_arg1)
      ∧ r.2.mem ((c.tc : Thread Cert.RowsStepReferenceIdeal.nD Cert.RowsStepReferenceIdeal.τ).loc Cert.RowsStepReferenceIdeal.main_arg2) = m ((c.tc : Thread Cert.RowsStepReferenceIdeal.nD Cert.RowsStepReferenceIdeal.τ).loc Cert.RowsStepReferenceIdeal.main_arg2)
      ∧ r.2.mem ((c.tc : Thread Cert.RowsStepReferenceIdeal.nD Cert.RowsStepReferenceIdeal.τ).loc Cert.RowsStepReferenceIdeal.main_arg3) = m ((c.tc : Thread Cert.RowsStepReferenceIdeal.nD Cert.RowsStepReferenceIdeal.τ).loc Cert.RowsStepReferenceIdeal.main_arg3)
      ∧ r.2.mem ((c.tc : Thread Cert.RowsStepReferenceIdeal.nD Cert.RowsStepReferenceIdeal.τ).loc Cert.RowsStepReferenceIdeal.main_arg4) = m ((c.tc : Thread Cert.RowsStepReferenceIdeal.nD Cert.RowsStepReferenceIdeal.τ).loc Cert.RowsStepReferenceIdeal.main_arg4))
      ∧ r.2.sem = fun _ => 0)

def quiescent_GluStep [hGluStep : Cert.GluStep.Facts] : Prop :=
  ∀ (m : (ℓ : Loc Cert.GluStep.nD Cert.GluStep.τ Cert.GluStep.sig) → Buf (Elt Bits) ℓ) (g : Dev Cert.GluStep.nD → PrngReg), Pre_GluStep m →
    θ_run (Cert.GluStep.defs (F := Bits)) (onTc (τ := Cert.GluStep.τ) (Cert.GluStep.main (F := Bits))) ⟨m, fun _ => 0, g⟩ (fun r => (∀ c : Dev Cert.GluStep.nD,
      r.2.mem ((c.tc : Thread Cert.GluStep.nD Cert.GluStep.τ).loc Cert.GluStep.main_arg0) = m ((c.tc : Thread Cert.GluStep.nD Cert.GluStep.τ).loc Cert.GluStep.main_arg0)
      ∧ r.2.mem ((c.tc : Thread Cert.GluStep.nD Cert.GluStep.τ).loc Cert.GluStep.main_arg1) = m ((c.tc : Thread Cert.GluStep.nD Cert.GluStep.τ).loc Cert.GluStep.main_arg1)
      ∧ r.2.mem ((c.tc : Thread Cert.GluStep.nD Cert.GluStep.τ).loc Cert.GluStep.main_arg2) = m ((c.tc : Thread Cert.GluStep.nD Cert.GluStep.τ).loc Cert.GluStep.main_arg2)
      ∧ r.2.mem ((c.tc : Thread Cert.GluStep.nD Cert.GluStep.τ).loc Cert.GluStep.main_arg3) = m ((c.tc : Thread Cert.GluStep.nD Cert.GluStep.τ).loc Cert.GluStep.main_arg3)
      ∧ r.2.mem ((c.tc : Thread Cert.GluStep.nD Cert.GluStep.τ).loc Cert.GluStep.main_arg4) = m ((c.tc : Thread Cert.GluStep.nD Cert.GluStep.τ).loc Cert.GluStep.main_arg4))
      ∧ r.2.sem = fun _ => 0)

def quiescent_GluStepIdeal [hGluStepIdeal : Cert.GluStepIdeal.Facts] : Prop :=
  ∀ (m : (ℓ : Loc Cert.GluStepIdeal.nD Cert.GluStepIdeal.τ Cert.GluStepIdeal.sig) → Buf (Elt Ideal) ℓ) (g : Dev Cert.GluStepIdeal.nD → PrngReg), Pre_GluStepIdeal m →
    θ_run (Cert.GluStepIdeal.defs (F := Ideal)) (onTc (τ := Cert.GluStepIdeal.τ) (Cert.GluStepIdeal.main (F := Ideal))) ⟨m, fun _ => 0, g⟩ (fun r => (∀ c : Dev Cert.GluStepIdeal.nD,
      r.2.mem ((c.tc : Thread Cert.GluStepIdeal.nD Cert.GluStepIdeal.τ).loc Cert.GluStepIdeal.main_arg0) = m ((c.tc : Thread Cert.GluStepIdeal.nD Cert.GluStepIdeal.τ).loc Cert.GluStepIdeal.main_arg0)
      ∧ r.2.mem ((c.tc : Thread Cert.GluStepIdeal.nD Cert.GluStepIdeal.τ).loc Cert.GluStepIdeal.main_arg1) = m ((c.tc : Thread Cert.GluStepIdeal.nD Cert.GluStepIdeal.τ).loc Cert.GluStepIdeal.main_arg1)
      ∧ r.2.mem ((c.tc : Thread Cert.GluStepIdeal.nD Cert.GluStepIdeal.τ).loc Cert.GluStepIdeal.main_arg2) = m ((c.tc : Thread Cert.GluStepIdeal.nD Cert.GluStepIdeal.τ).loc Cert.GluStepIdeal.main_arg2)
      ∧ r.2.mem ((c.tc : Thread Cert.GluStepIdeal.nD Cert.GluStepIdeal.τ).loc Cert.GluStepIdeal.main_arg3) = m ((c.tc : Thread Cert.GluStepIdeal.nD Cert.GluStepIdeal.τ).loc Cert.GluStepIdeal.main_arg3)
      ∧ r.2.mem ((c.tc : Thread Cert.GluStepIdeal.nD Cert.GluStepIdeal.τ).loc Cert.GluStepIdeal.main_arg4) = m ((c.tc : Thread Cert.GluStepIdeal.nD Cert.GluStepIdeal.τ).loc Cert.GluStepIdeal.main_arg4))
      ∧ r.2.sem = fun _ => 0)

def quiescent_GluStepReferenceIdeal [hGluStepReferenceIdeal : Cert.GluStepReferenceIdeal.Facts] : Prop :=
  ∀ (m : (ℓ : Loc Cert.GluStepReferenceIdeal.nD Cert.GluStepReferenceIdeal.τ Cert.GluStepReferenceIdeal.sig) → Buf (Elt Ideal) ℓ) (g : Dev Cert.GluStepReferenceIdeal.nD → PrngReg), Pre_GluStepReferenceIdeal m →
    θ_run (Cert.GluStepReferenceIdeal.defs (F := Ideal)) (onTc (τ := Cert.GluStepReferenceIdeal.τ) (Cert.GluStepReferenceIdeal.main (F := Ideal))) ⟨m, fun _ => 0, g⟩ (fun r => (∀ c : Dev Cert.GluStepReferenceIdeal.nD,
      r.2.mem ((c.tc : Thread Cert.GluStepReferenceIdeal.nD Cert.GluStepReferenceIdeal.τ).loc Cert.GluStepReferenceIdeal.main_arg0) = m ((c.tc : Thread Cert.GluStepReferenceIdeal.nD Cert.GluStepReferenceIdeal.τ).loc Cert.GluStepReferenceIdeal.main_arg0)
      ∧ r.2.mem ((c.tc : Thread Cert.GluStepReferenceIdeal.nD Cert.GluStepReferenceIdeal.τ).loc Cert.GluStepReferenceIdeal.main_arg1) = m ((c.tc : Thread Cert.GluStepReferenceIdeal.nD Cert.GluStepReferenceIdeal.τ).loc Cert.GluStepReferenceIdeal.main_arg1)
      ∧ r.2.mem ((c.tc : Thread Cert.GluStepReferenceIdeal.nD Cert.GluStepReferenceIdeal.τ).loc Cert.GluStepReferenceIdeal.main_arg2) = m ((c.tc : Thread Cert.GluStepReferenceIdeal.nD Cert.GluStepReferenceIdeal.τ).loc Cert.GluStepReferenceIdeal.main_arg2)
      ∧ r.2.mem ((c.tc : Thread Cert.GluStepReferenceIdeal.nD Cert.GluStepReferenceIdeal.τ).loc Cert.GluStepReferenceIdeal.main_arg3) = m ((c.tc : Thread Cert.GluStepReferenceIdeal.nD Cert.GluStepReferenceIdeal.τ).loc Cert.GluStepReferenceIdeal.main_arg3)
      ∧ r.2.mem ((c.tc : Thread Cert.GluStepReferenceIdeal.nD Cert.GluStepReferenceIdeal.τ).loc Cert.GluStepReferenceIdeal.main_arg4) = m ((c.tc : Thread Cert.GluStepReferenceIdeal.nD Cert.GluStepReferenceIdeal.τ).loc Cert.GluStepReferenceIdeal.main_arg4))
      ∧ r.2.sem = fun _ => 0)

def preserves_Kernel_KernelIdeal : Prop :=
  IdealRules.named_const.Statement Cert.KernelIdeal.κ "gelu_a" .f32 0x3D372713#32 ((8943 / 200000 : ℝ) : EReal)
  ∧ IdealRules.named_const.Statement Cert.KernelIdeal.κ "gelu_3a" .f32 0x3E095D4F#32 ((26829 / 200000 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)) (v6 : (c : Dev Cert.KernelIdeal.nD) → Buf (Elt Ideal) ((c.tc : Thread Cert.KernelIdeal.nD Cert.KernelIdeal.τ).loc Cert.KernelIdeal.main_v0_6)) (v7 : (c : Dev Cert.KernelIdeal.nD) → Buf (Elt Ideal) ((c.tc : Thread Cert.KernelIdeal.nD Cert.KernelIdeal.τ).loc Cert.KernelIdeal.main_v0_7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_v0_6) = v6 c
          ∧ r.2.mem ((c.tc : Thread Cert.KernelIdeal.nD Cert.KernelIdeal.τ).loc Cert.KernelIdeal.main_v0_7) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v192) = v0 c
          ∧ r.2.mem ((c.tc : Thread Cert.ReferenceIdeal.nD Cert.ReferenceIdeal.τ).loc Cert.ReferenceIdeal.main_v193) = v1 c
          ∧ r.2.mem ((c.tc : Thread Cert.ReferenceIdeal.nD Cert.ReferenceIdeal.τ).loc Cert.ReferenceIdeal.main_v123) = v2 c
          ∧ r.2.mem ((c.tc : Thread Cert.ReferenceIdeal.nD Cert.ReferenceIdeal.τ).loc Cert.ReferenceIdeal.main_v191) = v3 c
          ∧ r.2.mem ((c.tc : Thread Cert.ReferenceIdeal.nD Cert.ReferenceIdeal.τ).loc Cert.ReferenceIdeal.main_v139) = v4 c
          ∧ r.2.mem ((c.tc : Thread Cert.ReferenceIdeal.nD Cert.ReferenceIdeal.τ).loc Cert.ReferenceIdeal.main_v190) = v5 c
          ∧ r.2.mem ((c.tc : Thread Cert.ReferenceIdeal.nD Cert.ReferenceIdeal.τ).loc Cert.ReferenceIdeal.main_v189) = v6 c
          ∧ r.2.mem ((c.tc : Thread Cert.ReferenceIdeal.nD Cert.ReferenceIdeal.τ).loc Cert.ReferenceIdeal.main_v194) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Columns_ColumnsIdeal : Prop :=
  True

def algebraic_ColumnsIdeal_ColumnsReferenceIdeal [hColumnsIdeal : Cert.ColumnsIdeal.Facts] [hColumnsReferenceIdeal : Cert.ColumnsReferenceIdeal.Facts] : Prop :=
  ∀ (m : (ℓ : Loc Cert.ColumnsIdeal.nD Cert.ColumnsIdeal.τ Cert.ColumnsIdeal.sig) → Buf (Elt Ideal) ℓ) (g : Dev Cert.ColumnsIdeal.nD → PrngReg)
    (m' : (ℓ : Loc Cert.ColumnsReferenceIdeal.nD Cert.ColumnsReferenceIdeal.τ Cert.ColumnsReferenceIdeal.sig) → Buf (Elt Ideal) ℓ) (g' : Dev Cert.ColumnsReferenceIdeal.nD → PrngReg), Pre_ColumnsIdeal m →
    (∀ c : Dev Cert.ColumnsIdeal.nD,
      m' ((c.tc : Thread Cert.ColumnsReferenceIdeal.nD Cert.ColumnsReferenceIdeal.τ).loc Cert.ColumnsReferenceIdeal.main_arg0) = m ((c.tc : Thread Cert.ColumnsIdeal.nD Cert.ColumnsIdeal.τ).loc Cert.ColumnsIdeal.main_arg0)
      ∧ m' ((c.tc : Thread Cert.ColumnsReferenceIdeal.nD Cert.ColumnsReferenceIdeal.τ).loc Cert.ColumnsReferenceIdeal.main_arg1) = m ((c.tc : Thread Cert.ColumnsIdeal.nD Cert.ColumnsIdeal.τ).loc Cert.ColumnsIdeal.main_arg1)
      ∧ m' ((c.tc : Thread Cert.ColumnsReferenceIdeal.nD Cert.ColumnsReferenceIdeal.τ).loc Cert.ColumnsReferenceIdeal.main_arg2) = m ((c.tc : Thread Cert.ColumnsIdeal.nD Cert.ColumnsIdeal.τ).loc Cert.ColumnsIdeal.main_arg2)) →
    ∃ (v0 : (c : Dev Cert.ColumnsIdeal.nD) → Buf (Elt Ideal) ((c.tc : Thread Cert.ColumnsIdeal.nD Cert.ColumnsIdeal.τ).loc Cert.ColumnsIdeal.main_v0)),
      θ_run (Cert.ColumnsIdeal.defs (F := Ideal)) (onTc (τ := Cert.ColumnsIdeal.τ) (Cert.ColumnsIdeal.main (F := Ideal))) ⟨m, fun _ => 0, g⟩ (fun r => ∀ c : Dev Cert.ColumnsIdeal.nD,
          r.2.mem ((c.tc : Thread Cert.ColumnsIdeal.nD Cert.ColumnsIdeal.τ).loc Cert.ColumnsIdeal.main_v0) = v0 c
          ∧ r.2.mem ((c.tc : Thread Cert.ColumnsIdeal.nD Cert.ColumnsIdeal.τ).loc Cert.ColumnsIdeal.main_arg0) = m ((c.tc : Thread Cert.ColumnsIdeal.nD Cert.ColumnsIdeal.τ).loc Cert.ColumnsIdeal.main_arg0)
          ∧ r.2.mem ((c.tc : Thread Cert.ColumnsIdeal.nD Cert.ColumnsIdeal.τ).loc Cert.ColumnsIdeal.main_arg1) = m ((c.tc : Thread Cert.ColumnsIdeal.nD Cert.ColumnsIdeal.τ).loc Cert.ColumnsIdeal.main_arg1)
          ∧ r.2.mem ((c.tc : Thread Cert.ColumnsIdeal.nD Cert.ColumnsIdeal.τ).loc Cert.ColumnsIdeal.main_arg2) = m ((c.tc : Thread Cert.ColumnsIdeal.nD Cert.ColumnsIdeal.τ).loc Cert.ColumnsIdeal.main_arg2))
      ∧ θ_run (Cert.ColumnsReferenceIdeal.defs (F := Ideal)) (onTc (τ := Cert.ColumnsReferenceIdeal.τ) (Cert.ColumnsReferenceIdeal.main (F := Ideal))) ⟨m', fun _ => 0, g'⟩ (fun r => ∀ c : Dev Cert.ColumnsReferenceIdeal.nD,
          r.2.mem ((c.tc : Thread Cert.ColumnsReferenceIdeal.nD Cert.ColumnsReferenceIdeal.τ).loc Cert.ColumnsReferenceIdeal.main_v21) = v0 c
          ∧ r.2.mem ((c.tc : Thread Cert.ColumnsReferenceIdeal.nD Cert.ColumnsReferenceIdeal.τ).loc Cert.ColumnsReferenceIdeal.main_arg0) = m' ((c.tc : Thread Cert.ColumnsReferenceIdeal.nD Cert.ColumnsReferenceIdeal.τ).loc Cert.ColumnsReferenceIdeal.main_arg0)
          ∧ r.2.mem ((c.tc : Thread Cert.ColumnsReferenceIdeal.nD Cert.ColumnsReferenceIdeal.τ).loc Cert.ColumnsReferenceIdeal.main_arg1) = m' ((c.tc : Thread Cert.ColumnsReferenceIdeal.nD Cert.ColumnsReferenceIdeal.τ).loc Cert.ColumnsReferenceIdeal.main_arg1)
          ∧ r.2.mem ((c.tc : Thread Cert.ColumnsReferenceIdeal.nD Cert.ColumnsReferenceIdeal.τ).loc Cert.ColumnsReferenceIdeal.main_arg2) = m' ((c.tc : Thread Cert.ColumnsReferenceIdeal.nD Cert.ColumnsReferenceIdeal.τ).loc Cert.ColumnsReferenceIdeal.main_arg2))

def preserves_Input_InputIdeal : Prop :=
  True

def algebraic_InputIdeal_InputReferenceIdeal_pre_input_finite [hInputIdeal : Cert.InputIdeal.Facts] [hInputReferenceIdeal : Cert.InputReferenceIdeal.Facts] [hPre_input_finite : Cert.Pre_input_finite.Facts] : Prop :=
  ∀ (m : (ℓ : Loc Cert.InputIdeal.nD Cert.InputIdeal.τ Cert.InputIdeal.sig) → Buf (Elt Ideal) ℓ) (g : Dev Cert.InputIdeal.nD → PrngReg)
    (m' : (ℓ : Loc Cert.InputReferenceIdeal.nD Cert.InputReferenceIdeal.τ Cert.InputReferenceIdeal.sig) → Buf (Elt Ideal) ℓ) (g' : Dev Cert.InputReferenceIdeal.nD → PrngReg), Pre_InputIdeal_input_finite m →
    (∀ c : Dev Cert.InputIdeal.nD,
      m' ((c.tc : Thread Cert.InputReferenceIdeal.nD Cert.InputReferenceIdeal.τ).loc Cert.InputReferenceIdeal.main_arg0) = m ((c.tc : Thread Cert.InputIdeal.nD Cert.InputIdeal.τ).loc Cert.InputIdeal.main_arg0)
      ∧ m' ((c.tc : Thread Cert.InputReferenceIdeal.nD Cert.InputReferenceIdeal.τ).loc Cert.InputReferenceIdeal.main_arg1) = m ((c.tc : Thread Cert.InputIdeal.nD Cert.InputIdeal.τ).loc Cert.InputIdeal.main_arg1)
      ∧ m' ((c.tc : Thread Cert.InputReferenceIdeal.nD Cert.InputReferenceIdeal.τ).loc Cert.InputReferenceIdeal.main_arg2) = m ((c.tc : Thread Cert.InputIdeal.nD Cert.InputIdeal.τ).loc Cert.InputIdeal.main_arg2)
      ∧ m' ((c.tc : Thread Cert.InputReferenceIdeal.nD Cert.InputReferenceIdeal.τ).loc Cert.InputReferenceIdeal.main_arg3) = m ((c.tc : Thread Cert.InputIdeal.nD Cert.InputIdeal.τ).loc Cert.InputIdeal.main_arg3)
      ∧ m' ((c.tc : Thread Cert.InputReferenceIdeal.nD Cert.InputReferenceIdeal.τ).loc Cert.InputReferenceIdeal.main_arg4) = m ((c.tc : Thread Cert.InputIdeal.nD Cert.InputIdeal.τ).loc Cert.InputIdeal.main_arg4)) →
    ∃ (v0 : (c : Dev Cert.InputIdeal.nD) → Buf (Elt Ideal) ((c.tc : Thread Cert.InputIdeal.nD Cert.InputIdeal.τ).loc Cert.InputIdeal.main_v0_0)) (v1 : (c : Dev Cert.InputIdeal.nD) → Buf (Elt Ideal) ((c.tc : Thread Cert.InputIdeal.nD Cert.InputIdeal.τ).loc Cert.InputIdeal.main_v0_1)),
      θ_run (Cert.InputIdeal.defs (F := Ideal)) (onTc (τ := Cert.InputIdeal.τ) (Cert.InputIdeal.main (F := Ideal))) ⟨m, fun _ => 0, g⟩ (fun r => ∀ c : Dev Cert.InputIdeal.nD,
          r.2.mem ((c.tc : Thread Cert.InputIdeal.nD Cert.InputIdeal.τ).loc Cert.InputIdeal.main_v0_0) = v0 c
          ∧ r.2.mem ((c.tc : Thread Cert.InputIdeal.nD Cert.InputIdeal.τ).loc Cert.InputIdeal.main_v0_1) = v1 c
          ∧ r.2.mem ((c.tc : Thread Cert.InputIdeal.nD Cert.InputIdeal.τ).loc Cert.InputIdeal.main_arg0) = m ((c.tc : Thread Cert.InputIdeal.nD Cert.InputIdeal.τ).loc Cert.InputIdeal.main_arg0)
          ∧ r.2.mem ((c.tc : Thread Cert.InputIdeal.nD Cert.InputIdeal.τ).loc Cert.InputIdeal.main_arg1) = m ((c.tc : Thread Cert.InputIdeal.nD Cert.InputIdeal.τ).loc Cert.InputIdeal.main_arg1)
          ∧ r.2.mem ((c.tc : Thread Cert.InputIdeal.nD Cert.InputIdeal.τ).loc Cert.InputIdeal.main_arg2) = m ((c.tc : Thread Cert.InputIdeal.nD Cert.InputIdeal.τ).loc Cert.InputIdeal.main_arg2)
          ∧ r.2.mem ((c.tc : Thread Cert.InputIdeal.nD Cert.InputIdeal.τ).loc Cert.InputIdeal.main_arg3) = m ((c.tc : Thread Cert.InputIdeal.nD Cert.InputIdeal.τ).loc Cert.InputIdeal.main_arg3)
          ∧ r.2.mem ((c.tc : Thread Cert.InputIdeal.nD Cert.InputIdeal.τ).loc Cert.InputIdeal.main_arg4) = m ((c.tc : Thread Cert.InputIdeal.nD Cert.InputIdeal.τ).loc Cert.InputIdeal.main_arg4))
      ∧ θ_run (Cert.InputReferenceIdeal.defs (F := Ideal)) (onTc (τ := Cert.InputReferenceIdeal.τ) (Cert.InputReferenceIdeal.main (F := Ideal))) ⟨m', fun _ => 0, g'⟩ (fun r => ∀ c : Dev Cert.InputReferenceIdeal.nD,
          r.2.mem ((c.tc : Thread Cert.InputReferenceIdeal.nD Cert.InputReferenceIdeal.τ).loc Cert.InputReferenceIdeal.main_v43) = v0 c
          ∧ r.2.mem ((c.tc : Thread Cert.InputReferenceIdeal.nD Cert.InputReferenceIdeal.τ).loc Cert.InputReferenceIdeal.main_v44) = v1 c
          ∧ r.2.mem ((c.tc : Thread Cert.InputReferenceIdeal.nD Cert.InputReferenceIdeal.τ).loc Cert.InputReferenceIdeal.main_arg0) = m' ((c.tc : Thread Cert.InputReferenceIdeal.nD Cert.InputReferenceIdeal.τ).loc Cert.InputReferenceIdeal.main_arg0)
          ∧ r.2.mem ((c.tc : Thread Cert.InputReferenceIdeal.nD Cert.InputReferenceIdeal.τ).loc Cert.InputReferenceIdeal.main_arg1) = m' ((c.tc : Thread Cert.InputReferenceIdeal.nD Cert.InputReferenceIdeal.τ).loc Cert.InputReferenceIdeal.main_arg1)
          ∧ r.2.mem ((c.tc : Thread Cert.InputReferenceIdeal.nD Cert.InputReferenceIdeal.τ).loc Cert.InputReferenceIdeal.main_arg2) = m' ((c.tc : Thread Cert.InputReferenceIdeal.nD Cert.InputReferenceIdeal.τ).loc Cert.InputReferenceIdeal.main_arg2)
          ∧ r.2.mem ((c.tc : Thread Cert.InputReferenceIdeal.nD Cert.InputReferenceIdeal.τ).loc Cert.InputReferenceIdeal.main_arg3) = m' ((c.tc : Thread Cert.InputReferenceIdeal.nD Cert.InputReferenceIdeal.τ).loc Cert.InputReferenceIdeal.main_arg3)
          ∧ r.2.mem ((c.tc : Thread Cert.InputReferenceIdeal.nD Cert.InputReferenceIdeal.τ).loc Cert.InputReferenceIdeal.main_arg4) = m' ((c.tc : Thread Cert.InputReferenceIdeal.nD Cert.InputReferenceIdeal.τ).loc Cert.InputReferenceIdeal.main_arg4))

def preserves_Projection_ProjectionIdeal : Prop :=
  True

def algebraic_ProjectionIdeal_ProjectionReferenceIdeal [hProjectionIdeal : Cert.ProjectionIdeal.Facts] [hProjectionReferenceIdeal : Cert.ProjectionReferenceIdeal.Facts] : Prop :=
  ∀ (m : (ℓ : Loc Cert.ProjectionIdeal.nD Cert.ProjectionIdeal.τ Cert.ProjectionIdeal.sig) → Buf (Elt Ideal) ℓ) (g : Dev Cert.ProjectionIdeal.nD → PrngReg)
    (m' : (ℓ : Loc Cert.ProjectionReferenceIdeal.nD Cert.ProjectionReferenceIdeal.τ Cert.ProjectionReferenceIdeal.sig) → Buf (Elt Ideal) ℓ) (g' : Dev Cert.ProjectionReferenceIdeal.nD → PrngReg), Pre_ProjectionIdeal m →
    (∀ c : Dev Cert.ProjectionIdeal.nD,
      m' ((c.tc : Thread Cert.ProjectionReferenceIdeal.nD Cert.ProjectionReferenceIdeal.τ).loc Cert.ProjectionReferenceIdeal.main_arg0) = m ((c.tc : Thread Cert.ProjectionIdeal.nD Cert.ProjectionIdeal.τ).loc Cert.ProjectionIdeal.main_arg0)
      ∧ m' ((c.tc : Thread Cert.ProjectionReferenceIdeal.nD Cert.ProjectionReferenceIdeal.τ).loc Cert.ProjectionReferenceIdeal.main_arg1) = m ((c.tc : Thread Cert.ProjectionIdeal.nD Cert.ProjectionIdeal.τ).loc Cert.ProjectionIdeal.main_arg1)
      ∧ m' ((c.tc : Thread Cert.ProjectionReferenceIdeal.nD Cert.ProjectionReferenceIdeal.τ).loc Cert.ProjectionReferenceIdeal.main_arg2) = m ((c.tc : Thread Cert.ProjectionIdeal.nD Cert.ProjectionIdeal.τ).loc Cert.ProjectionIdeal.main_arg2)) →
    ∃ (v0 : (c : Dev Cert.ProjectionIdeal.nD) → Buf (Elt Ideal) ((c.tc : Thread Cert.ProjectionIdeal.nD Cert.ProjectionIdeal.τ).loc Cert.ProjectionIdeal.main_v0)),
      θ_run (Cert.ProjectionIdeal.defs (F := Ideal)) (onTc (τ := Cert.ProjectionIdeal.τ) (Cert.ProjectionIdeal.main (F := Ideal))) ⟨m, fun _ => 0, g⟩ (fun r => ∀ c : Dev Cert.ProjectionIdeal.nD,
          r.2.mem ((c.tc : Thread Cert.ProjectionIdeal.nD Cert.ProjectionIdeal.τ).loc Cert.ProjectionIdeal.main_v0) = v0 c
          ∧ r.2.mem ((c.tc : Thread Cert.ProjectionIdeal.nD Cert.ProjectionIdeal.τ).loc Cert.ProjectionIdeal.main_arg0) = m ((c.tc : Thread Cert.ProjectionIdeal.nD Cert.ProjectionIdeal.τ).loc Cert.ProjectionIdeal.main_arg0)
          ∧ r.2.mem ((c.tc : Thread Cert.ProjectionIdeal.nD Cert.ProjectionIdeal.τ).loc Cert.ProjectionIdeal.main_arg1) = m ((c.tc : Thread Cert.ProjectionIdeal.nD Cert.ProjectionIdeal.τ).loc Cert.ProjectionIdeal.main_arg1)
          ∧ r.2.mem ((c.tc : Thread Cert.ProjectionIdeal.nD Cert.ProjectionIdeal.τ).loc Cert.ProjectionIdeal.main_arg2) = m ((c.tc : Thread Cert.ProjectionIdeal.nD Cert.ProjectionIdeal.τ).loc Cert.ProjectionIdeal.main_arg2))
      ∧ θ_run (Cert.ProjectionReferenceIdeal.defs (F := Ideal)) (onTc (τ := Cert.ProjectionReferenceIdeal.τ) (Cert.ProjectionReferenceIdeal.main (F := Ideal))) ⟨m', fun _ => 0, g'⟩ (fun r => ∀ c : Dev Cert.ProjectionReferenceIdeal.nD,
          r.2.mem ((c.tc : Thread Cert.ProjectionReferenceIdeal.nD Cert.ProjectionReferenceIdeal.τ).loc Cert.ProjectionReferenceIdeal.main_v17) = v0 c
          ∧ r.2.mem ((c.tc : Thread Cert.ProjectionReferenceIdeal.nD Cert.ProjectionReferenceIdeal.τ).loc Cert.ProjectionReferenceIdeal.main_arg0) = m' ((c.tc : Thread Cert.ProjectionReferenceIdeal.nD Cert.ProjectionReferenceIdeal.τ).loc Cert.ProjectionReferenceIdeal.main_arg0)
          ∧ r.2.mem ((c.tc : Thread Cert.ProjectionReferenceIdeal.nD Cert.ProjectionReferenceIdeal.τ).loc Cert.ProjectionReferenceIdeal.main_arg1) = m' ((c.tc : Thread Cert.ProjectionReferenceIdeal.nD Cert.ProjectionReferenceIdeal.τ).loc Cert.ProjectionReferenceIdeal.main_arg1)
          ∧ r.2.mem ((c.tc : Thread Cert.ProjectionReferenceIdeal.nD Cert.ProjectionReferenceIdeal.τ).loc Cert.ProjectionReferenceIdeal.main_arg2) = m' ((c.tc : Thread Cert.ProjectionReferenceIdeal.nD Cert.ProjectionReferenceIdeal.τ).loc Cert.ProjectionReferenceIdeal.main_arg2))

def preserves_FirstProjection_FirstProjectionIdeal : Prop :=
  True

def algebraic_FirstProjectionIdeal_FirstProjectionReferenceIdeal [hFirstProjectionIdeal : Cert.FirstProjectionIdeal.Facts] [hFirstProjectionReferenceIdeal : Cert.FirstProjectionReferenceIdeal.Facts] : Prop :=
  ∀ (m : (ℓ : Loc Cert.FirstProjectionIdeal.nD Cert.FirstProjectionIdeal.τ Cert.FirstProjectionIdeal.sig) → Buf (Elt Ideal) ℓ) (g : Dev Cert.FirstProjectionIdeal.nD → PrngReg)
    (m' : (ℓ : Loc Cert.FirstProjectionReferenceIdeal.nD Cert.FirstProjectionReferenceIdeal.τ Cert.FirstProjectionReferenceIdeal.sig) → Buf (Elt Ideal) ℓ) (g' : Dev Cert.FirstProjectionReferenceIdeal.nD → PrngReg), Pre_FirstProjectionIdeal m →
    (∀ c : Dev Cert.FirstProjectionIdeal.nD,
      m' ((c.tc : Thread Cert.FirstProjectionReferenceIdeal.nD Cert.FirstProjectionReferenceIdeal.τ).loc Cert.FirstProjectionReferenceIdeal.main_arg0) = m ((c.tc : Thread Cert.FirstProjectionIdeal.nD Cert.FirstProjectionIdeal.τ).loc Cert.FirstProjectionIdeal.main_arg0)
      ∧ m' ((c.tc : Thread Cert.FirstProjectionReferenceIdeal.nD Cert.FirstProjectionReferenceIdeal.τ).loc Cert.FirstProjectionReferenceIdeal.main_arg1) = m ((c.tc : Thread Cert.FirstProjectionIdeal.nD Cert.FirstProjectionIdeal.τ).loc Cert.FirstProjectionIdeal.main_arg1)
      ∧ m' ((c.tc : Thread Cert.FirstProjectionReferenceIdeal.nD Cert.FirstProjectionReferenceIdeal.τ).loc Cert.FirstProjectionReferenceIdeal.main_arg2) = m ((c.tc : Thread Cert.FirstProjectionIdeal.nD Cert.FirstProjectionIdeal.τ).loc Cert.FirstProjectionIdeal.main_arg2)) →
    ∃ (v0 : (c : Dev Cert.FirstProjectionIdeal.nD) → Buf (Elt Ideal) ((c.tc : Thread Cert.FirstProjectionIdeal.nD Cert.FirstProjectionIdeal.τ).loc Cert.FirstProjectionIdeal.main_v0_0)) (v1 : (c : Dev Cert.FirstProjectionIdeal.nD) → Buf (Elt Ideal) ((c.tc : Thread Cert.FirstProjectionIdeal.nD Cert.FirstProjectionIdeal.τ).loc Cert.FirstProjectionIdeal.main_v0_1)),
      θ_run (Cert.FirstProjectionIdeal.defs (F := Ideal)) (onTc (τ := Cert.FirstProjectionIdeal.τ) (Cert.FirstProjectionIdeal.main (F := Ideal))) ⟨m, fun _ => 0, g⟩ (fun r => ∀ c : Dev Cert.FirstProjectionIdeal.nD,
          r.2.mem ((c.tc : Thread Cert.FirstProjectionIdeal.nD Cert.FirstProjectionIdeal.τ).loc Cert.FirstProjectionIdeal.main_v0_0) = v0 c
          ∧ r.2.mem ((c.tc : Thread Cert.FirstProjectionIdeal.nD Cert.FirstProjectionIdeal.τ).loc Cert.FirstProjectionIdeal.main_v0_1) = v1 c
          ∧ r.2.mem ((c.tc : Thread Cert.FirstProjectionIdeal.nD Cert.FirstProjectionIdeal.τ).loc Cert.FirstProjectionIdeal.main_arg0) = m ((c.tc : Thread Cert.FirstProjectionIdeal.nD Cert.FirstProjectionIdeal.τ).loc Cert.FirstProjectionIdeal.main_arg0)
          ∧ r.2.mem ((c.tc : Thread Cert.FirstProjectionIdeal.nD Cert.FirstProjectionIdeal.τ).loc Cert.FirstProjectionIdeal.main_arg1) = m ((c.tc : Thread Cert.FirstProjectionIdeal.nD Cert.FirstProjectionIdeal.τ).loc Cert.FirstProjectionIdeal.main_arg1)
          ∧ r.2.mem ((c.tc : Thread Cert.FirstProjectionIdeal.nD Cert.FirstProjectionIdeal.τ).loc Cert.FirstProjectionIdeal.main_arg2) = m ((c.tc : Thread Cert.FirstProjectionIdeal.nD Cert.FirstProjectionIdeal.τ).loc Cert.FirstProjectionIdeal.main_arg2))
      ∧ θ_run (Cert.FirstProjectionReferenceIdeal.defs (F := Ideal)) (onTc (τ := Cert.FirstProjectionReferenceIdeal.τ) (Cert.FirstProjectionReferenceIdeal.main (F := Ideal))) ⟨m', fun _ => 0, g'⟩ (fun r => ∀ c : Dev Cert.FirstProjectionReferenceIdeal.nD,
          r.2.mem ((c.tc : Thread Cert.FirstProjectionReferenceIdeal.nD Cert.FirstProjectionReferenceIdeal.τ).loc Cert.FirstProjectionReferenceIdeal.main_v17) = v0 c
          ∧ r.2.mem ((c.tc : Thread Cert.FirstProjectionReferenceIdeal.nD Cert.FirstProjectionReferenceIdeal.τ).loc Cert.FirstProjectionReferenceIdeal.main_v20) = v1 c
          ∧ r.2.mem ((c.tc : Thread Cert.FirstProjectionReferenceIdeal.nD Cert.FirstProjectionReferenceIdeal.τ).loc Cert.FirstProjectionReferenceIdeal.main_arg0) = m' ((c.tc : Thread Cert.FirstProjectionReferenceIdeal.nD Cert.FirstProjectionReferenceIdeal.τ).loc Cert.FirstProjectionReferenceIdeal.main_arg0)
          ∧ r.2.mem ((c.tc : Thread Cert.FirstProjectionReferenceIdeal.nD Cert.FirstProjectionReferenceIdeal.τ).loc Cert.FirstProjectionReferenceIdeal.main_arg1) = m' ((c.tc : Thread Cert.FirstProjectionReferenceIdeal.nD Cert.FirstProjectionReferenceIdeal.τ).loc Cert.FirstProjectionReferenceIdeal.main_arg1)
          ∧ r.2.mem ((c.tc : Thread Cert.FirstProjectionReferenceIdeal.nD Cert.FirstProjectionReferenceIdeal.τ).loc Cert.FirstProjectionReferenceIdeal.main_arg2) = m' ((c.tc : Thread Cert.FirstProjectionReferenceIdeal.nD Cert.FirstProjectionReferenceIdeal.τ).loc Cert.FirstProjectionReferenceIdeal.main_arg2))

def preserves_Rows_RowsIdeal : Prop :=
  True

def algebraic_RowsIdeal_RowsReferenceIdeal [hRowsIdeal : Cert.RowsIdeal.Facts] [hRowsReferenceIdeal : Cert.RowsReferenceIdeal.Facts] : Prop :=
  ∀ (m : (ℓ : Loc Cert.RowsIdeal.nD Cert.RowsIdeal.τ Cert.RowsIdeal.sig) → Buf (Elt Ideal) ℓ) (g : Dev Cert.RowsIdeal.nD → PrngReg)
    (m' : (ℓ : Loc Cert.RowsReferenceIdeal.nD Cert.RowsReferenceIdeal.τ Cert.RowsReferenceIdeal.sig) → Buf (Elt Ideal) ℓ) (g' : Dev Cert.RowsReferenceIdeal.nD → PrngReg), Pre_RowsIdeal m →
    (∀ c : Dev Cert.RowsIdeal.nD,
      m' ((c.tc : Thread Cert.RowsReferenceIdeal.nD Cert.RowsReferenceIdeal.τ).loc Cert.RowsReferenceIdeal.main_arg0) = m ((c.tc : Thread Cert.RowsIdeal.nD Cert.RowsIdeal.τ).loc Cert.RowsIdeal.main_arg0)
      ∧ m' ((c.tc : Thread Cert.RowsReferenceIdeal.nD Cert.RowsReferenceIdeal.τ).loc Cert.RowsReferenceIdeal.main_arg1) = m ((c.tc : Thread Cert.RowsIdeal.nD Cert.RowsIdeal.τ).loc Cert.RowsIdeal.main_arg1)) →
    ∃ (v0 : (c : Dev Cert.RowsIdeal.nD) → Buf (Elt Ideal) ((c.tc : Thread Cert.RowsIdeal.nD Cert.RowsIdeal.τ).loc Cert.RowsIdeal.main_v0)),
      θ_run (Cert.RowsIdeal.defs (F := Ideal)) (onTc (τ := Cert.RowsIdeal.τ) (Cert.RowsIdeal.main (F := Ideal))) ⟨m, fun _ => 0, g⟩ (fun r => ∀ c : Dev Cert.RowsIdeal.nD,
          r.2.mem ((c.tc : Thread Cert.RowsIdeal.nD Cert.RowsIdeal.τ).loc Cert.RowsIdeal.main_v0) = v0 c
          ∧ r.2.mem ((c.tc : Thread Cert.RowsIdeal.nD Cert.RowsIdeal.τ).loc Cert.RowsIdeal.main_arg0) = m ((c.tc : Thread Cert.RowsIdeal.nD Cert.RowsIdeal.τ).loc Cert.RowsIdeal.main_arg0)
          ∧ r.2.mem ((c.tc : Thread Cert.RowsIdeal.nD Cert.RowsIdeal.τ).loc Cert.RowsIdeal.main_arg1) = m ((c.tc : Thread Cert.RowsIdeal.nD Cert.RowsIdeal.τ).loc Cert.RowsIdeal.main_arg1))
      ∧ θ_run (Cert.RowsReferenceIdeal.defs (F := Ideal)) (onTc (τ := Cert.RowsReferenceIdeal.τ) (Cert.RowsReferenceIdeal.main (F := Ideal))) ⟨m', fun _ => 0, g'⟩ (fun r => ∀ c : Dev Cert.RowsReferenceIdeal.nD,
          r.2.mem ((c.tc : Thread Cert.RowsReferenceIdeal.nD Cert.RowsReferenceIdeal.τ).loc Cert.RowsReferenceIdeal.main_v6) = v0 c
          ∧ r.2.mem ((c.tc : Thread Cert.RowsReferenceIdeal.nD Cert.RowsReferenceIdeal.τ).loc Cert.RowsReferenceIdeal.main_arg0) = m' ((c.tc : Thread Cert.RowsReferenceIdeal.nD Cert.RowsReferenceIdeal.τ).loc Cert.RowsReferenceIdeal.main_arg0)
          ∧ r.2.mem ((c.tc : Thread Cert.RowsReferenceIdeal.nD Cert.RowsReferenceIdeal.τ).loc Cert.RowsReferenceIdeal.main_arg1) = m' ((c.tc : Thread Cert.RowsReferenceIdeal.nD Cert.RowsReferenceIdeal.τ).loc Cert.RowsReferenceIdeal.main_arg1))

def preserves_EvenRows_EvenRowsIdeal : Prop :=
  True

def algebraic_EvenRowsIdeal_EvenRowsReferenceIdeal [hEvenRowsIdeal : Cert.EvenRowsIdeal.Facts] [hEvenRowsReferenceIdeal : Cert.EvenRowsReferenceIdeal.Facts] : Prop :=
  ∀ (m : (ℓ : Loc Cert.EvenRowsIdeal.nD Cert.EvenRowsIdeal.τ Cert.EvenRowsIdeal.sig) → Buf (Elt Ideal) ℓ) (g : Dev Cert.EvenRowsIdeal.nD → PrngReg)
    (m' : (ℓ : Loc Cert.EvenRowsReferenceIdeal.nD Cert.EvenRowsReferenceIdeal.τ Cert.EvenRowsReferenceIdeal.sig) → Buf (Elt Ideal) ℓ) (g' : Dev Cert.EvenRowsReferenceIdeal.nD → PrngReg), Pre_EvenRowsIdeal m →
    (∀ c : Dev Cert.EvenRowsIdeal.nD,
      m' ((c.tc : Thread Cert.EvenRowsReferenceIdeal.nD Cert.EvenRowsReferenceIdeal.τ).loc Cert.EvenRowsReferenceIdeal.main_arg0) = m ((c.tc : Thread Cert.EvenRowsIdeal.nD Cert.EvenRowsIdeal.τ).loc Cert.EvenRowsIdeal.main_arg0)
      ∧ m' ((c.tc : Thread Cert.EvenRowsReferenceIdeal.nD Cert.EvenRowsReferenceIdeal.τ).loc Cert.EvenRowsReferenceIdeal.main_arg1) = m ((c.tc : Thread Cert.EvenRowsIdeal.nD Cert.EvenRowsIdeal.τ).loc Cert.EvenRowsIdeal.main_arg1)
      ∧ m' ((c.tc : Thread Cert.EvenRowsReferenceIdeal.nD Cert.EvenRowsReferenceIdeal.τ).loc Cert.EvenRowsReferenceIdeal.main_arg2) = m ((c.tc : Thread Cert.EvenRowsIdeal.nD Cert.EvenRowsIdeal.τ).loc Cert.EvenRowsIdeal.main_arg2)) →
    ∃ (v0 : (c : Dev Cert.EvenRowsIdeal.nD) → Buf (Elt Ideal) ((c.tc : Thread Cert.EvenRowsIdeal.nD Cert.EvenRowsIdeal.τ).loc Cert.EvenRowsIdeal.main_v0)),
      θ_run (Cert.EvenRowsIdeal.defs (F := Ideal)) (onTc (τ := Cert.EvenRowsIdeal.τ) (Cert.EvenRowsIdeal.main (F := Ideal))) ⟨m, fun _ => 0, g⟩ (fun r => ∀ c : Dev Cert.EvenRowsIdeal.nD,
          r.2.mem ((c.tc : Thread Cert.EvenRowsIdeal.nD Cert.EvenRowsIdeal.τ).loc Cert.EvenRowsIdeal.main_v0) = v0 c
          ∧ r.2.mem ((c.tc : Thread Cert.EvenRowsIdeal.nD Cert.EvenRowsIdeal.τ).loc Cert.EvenRowsIdeal.main_arg0) = m ((c.tc : Thread Cert.EvenRowsIdeal.nD Cert.EvenRowsIdeal.τ).loc Cert.EvenRowsIdeal.main_arg0)
          ∧ r.2.mem ((c.tc : Thread Cert.EvenRowsIdeal.nD Cert.EvenRowsIdeal.τ).loc Cert.EvenRowsIdeal.main_arg1) = m ((c.tc : Thread Cert.EvenRowsIdeal.nD Cert.EvenRowsIdeal.τ).loc Cert.EvenRowsIdeal.main_arg1)
          ∧ r.2.mem ((c.tc : Thread Cert.EvenRowsIdeal.nD Cert.EvenRowsIdeal.τ).loc Cert.EvenRowsIdeal.main_arg2) = m ((c.tc : Thread Cert.EvenRowsIdeal.nD Cert.EvenRowsIdeal.τ).loc Cert.EvenRowsIdeal.main_arg2))
      ∧ θ_run (Cert.EvenRowsReferenceIdeal.defs (F := Ideal)) (onTc (τ := Cert.EvenRowsReferenceIdeal.τ) (Cert.EvenRowsReferenceIdeal.main (F := Ideal))) ⟨m', fun _ => 0, g'⟩ (fun r => ∀ c : Dev Cert.EvenRowsReferenceIdeal.nD,
          r.2.mem ((c.tc : Thread Cert.EvenRowsReferenceIdeal.nD Cert.EvenRowsReferenceIdeal.τ).loc Cert.EvenRowsReferenceIdeal.main_v7) = v0 c
          ∧ r.2.mem ((c.tc : Thread Cert.EvenRowsReferenceIdeal.nD Cert.EvenRowsReferenceIdeal.τ).loc Cert.EvenRowsReferenceIdeal.main_arg0) = m' ((c.tc : Thread Cert.EvenRowsReferenceIdeal.nD Cert.EvenRowsReferenceIdeal.τ).loc Cert.EvenRowsReferenceIdeal.main_arg0)
          ∧ r.2.mem ((c.tc : Thread Cert.EvenRowsReferenceIdeal.nD Cert.EvenRowsReferenceIdeal.τ).loc Cert.EvenRowsReferenceIdeal.main_arg1) = m' ((c.tc : Thread Cert.EvenRowsReferenceIdeal.nD Cert.EvenRowsReferenceIdeal.τ).loc Cert.EvenRowsReferenceIdeal.main_arg1)
          ∧ r.2.mem ((c.tc : Thread Cert.EvenRowsReferenceIdeal.nD Cert.EvenRowsReferenceIdeal.τ).loc Cert.EvenRowsReferenceIdeal.main_arg2) = m' ((c.tc : Thread Cert.EvenRowsReferenceIdeal.nD Cert.EvenRowsReferenceIdeal.τ).loc Cert.EvenRowsReferenceIdeal.main_arg2))

def preserves_GluRows_GluRowsIdeal : Prop :=
  True

def algebraic_GluRowsIdeal_GluRowsReferenceIdeal [hGluRowsIdeal : Cert.GluRowsIdeal.Facts] [hGluRowsReferenceIdeal : Cert.GluRowsReferenceIdeal.Facts] : Prop :=
  ∀ (m : (ℓ : Loc Cert.GluRowsIdeal.nD Cert.GluRowsIdeal.τ Cert.GluRowsIdeal.sig) → Buf (Elt Ideal) ℓ) (g : Dev Cert.GluRowsIdeal.nD → PrngReg)
    (m' : (ℓ : Loc Cert.GluRowsReferenceIdeal.nD Cert.GluRowsReferenceIdeal.τ Cert.GluRowsReferenceIdeal.sig) → Buf (Elt Ideal) ℓ) (g' : Dev Cert.GluRowsReferenceIdeal.nD → PrngReg), Pre_GluRowsIdeal m →
    (∀ c : Dev Cert.GluRowsIdeal.nD,
      m' ((c.tc : Thread Cert.GluRowsReferenceIdeal.nD Cert.GluRowsReferenceIdeal.τ).loc Cert.GluRowsReferenceIdeal.main_arg0) = m ((c.tc : Thread Cert.GluRowsIdeal.nD Cert.GluRowsIdeal.τ).loc Cert.GluRowsIdeal.main_arg0)
      ∧ m' ((c.tc : Thread Cert.GluRowsReferenceIdeal.nD Cert.GluRowsReferenceIdeal.τ).loc Cert.GluRowsReferenceIdeal.main_arg1) = m ((c.tc : Thread Cert.GluRowsIdeal.nD Cert.GluRowsIdeal.τ).loc Cert.GluRowsIdeal.main_arg1)) →
    ∃ (v0 : (c : Dev Cert.GluRowsIdeal.nD) → Buf (Elt Ideal) ((c.tc : Thread Cert.GluRowsIdeal.nD Cert.GluRowsIdeal.τ).loc Cert.GluRowsIdeal.main_v0)),
      θ_run (Cert.GluRowsIdeal.defs (F := Ideal)) (onTc (τ := Cert.GluRowsIdeal.τ) (Cert.GluRowsIdeal.main (F := Ideal))) ⟨m, fun _ => 0, g⟩ (fun r => ∀ c : Dev Cert.GluRowsIdeal.nD,
          r.2.mem ((c.tc : Thread Cert.GluRowsIdeal.nD Cert.GluRowsIdeal.τ).loc Cert.GluRowsIdeal.main_v0) = v0 c
          ∧ r.2.mem ((c.tc : Thread Cert.GluRowsIdeal.nD Cert.GluRowsIdeal.τ).loc Cert.GluRowsIdeal.main_arg0) = m ((c.tc : Thread Cert.GluRowsIdeal.nD Cert.GluRowsIdeal.τ).loc Cert.GluRowsIdeal.main_arg0)
          ∧ r.2.mem ((c.tc : Thread Cert.GluRowsIdeal.nD Cert.GluRowsIdeal.τ).loc Cert.GluRowsIdeal.main_arg1) = m ((c.tc : Thread Cert.GluRowsIdeal.nD Cert.GluRowsIdeal.τ).loc Cert.GluRowsIdeal.main_arg1))
      ∧ θ_run (Cert.GluRowsReferenceIdeal.defs (F := Ideal)) (onTc (τ := Cert.GluRowsReferenceIdeal.τ) (Cert.GluRowsReferenceIdeal.main (F := Ideal))) ⟨m', fun _ => 0, g'⟩ (fun r => ∀ c : Dev Cert.GluRowsReferenceIdeal.nD,
          r.2.mem ((c.tc : Thread Cert.GluRowsReferenceIdeal.nD Cert.GluRowsReferenceIdeal.τ).loc Cert.GluRowsReferenceIdeal.main_v7) = v0 c
          ∧ r.2.mem ((c.tc : Thread Cert.GluRowsReferenceIdeal.nD Cert.GluRowsReferenceIdeal.τ).loc Cert.GluRowsReferenceIdeal.main_arg0) = m' ((c.tc : Thread Cert.GluRowsReferenceIdeal.nD Cert.GluRowsReferenceIdeal.τ).loc Cert.GluRowsReferenceIdeal.main_arg0)
          ∧ r.2.mem ((c.tc : Thread Cert.GluRowsReferenceIdeal.nD Cert.GluRowsReferenceIdeal.τ).loc Cert.GluRowsReferenceIdeal.main_arg1) = m' ((c.tc : Thread Cert.GluRowsReferenceIdeal.nD Cert.GluRowsReferenceIdeal.τ).loc Cert.GluRowsReferenceIdeal.main_arg1))

def preserves_Output_OutputIdeal : Prop :=
  IdealRules.named_const.Statement Cert.OutputIdeal.κ "gelu_a" .f32 0x3D372713#32 ((8943 / 200000 : ℝ) : EReal)

def algebraic_OutputIdeal_OutputReferenceIdeal [hOutputIdeal : Cert.OutputIdeal.Facts] [hOutputReferenceIdeal : Cert.OutputReferenceIdeal.Facts] : Prop :=
  ∀ (m : (ℓ : Loc Cert.OutputIdeal.nD Cert.OutputIdeal.τ Cert.OutputIdeal.sig) → Buf (Elt Ideal) ℓ) (g : Dev Cert.OutputIdeal.nD → PrngReg)
    (m' : (ℓ : Loc Cert.OutputReferenceIdeal.nD Cert.OutputReferenceIdeal.τ Cert.OutputReferenceIdeal.sig) → Buf (Elt Ideal) ℓ) (g' : Dev Cert.OutputReferenceIdeal.nD → PrngReg), Pre_OutputIdeal m →
    (∀ c : Dev Cert.OutputIdeal.nD,
      m' ((c.tc : Thread Cert.OutputReferenceIdeal.nD Cert.OutputReferenceIdeal.τ).loc Cert.OutputReferenceIdeal.main_arg0) = m ((c.tc : Thread Cert.OutputIdeal.nD Cert.OutputIdeal.τ).loc Cert.OutputIdeal.main_arg0)
      ∧ m' ((c.tc : Thread Cert.OutputReferenceIdeal.nD Cert.OutputReferenceIdeal.τ).loc Cert.OutputReferenceIdeal.main_arg1) = m ((c.tc : Thread Cert.OutputIdeal.nD Cert.OutputIdeal.τ).loc Cert.OutputIdeal.main_arg1)
      ∧ m' ((c.tc : Thread Cert.OutputReferenceIdeal.nD Cert.OutputReferenceIdeal.τ).loc Cert.OutputReferenceIdeal.main_arg2) = m ((c.tc : Thread Cert.OutputIdeal.nD Cert.OutputIdeal.τ).loc Cert.OutputIdeal.main_arg2)
      ∧ m' ((c.tc : Thread Cert.OutputReferenceIdeal.nD Cert.OutputReferenceIdeal.τ).loc Cert.OutputReferenceIdeal.main_arg3) = m ((c.tc : Thread Cert.OutputIdeal.nD Cert.OutputIdeal.τ).loc Cert.OutputIdeal.main_arg3)
      ∧ m' ((c.tc : Thread Cert.OutputReferenceIdeal.nD Cert.OutputReferenceIdeal.τ).loc Cert.OutputReferenceIdeal.main_arg4) = m ((c.tc : Thread Cert.OutputIdeal.nD Cert.OutputIdeal.τ).loc Cert.OutputIdeal.main_arg4)
      ∧ m' ((c.tc : Thread Cert.OutputReferenceIdeal.nD Cert.OutputReferenceIdeal.τ).loc Cert.OutputReferenceIdeal.main_arg5) = m ((c.tc : Thread Cert.OutputIdeal.nD Cert.OutputIdeal.τ).loc Cert.OutputIdeal.main_arg5)
      ∧ m' ((c.tc : Thread Cert.OutputReferenceIdeal.nD Cert.OutputReferenceIdeal.τ).loc Cert.OutputReferenceIdeal.main_arg6) = m ((c.tc : Thread Cert.OutputIdeal.nD Cert.OutputIdeal.τ).loc Cert.OutputIdeal.main_arg6)) →
    ∃ (v0 : (c : Dev Cert.OutputIdeal.nD) → Buf (Elt Ideal) ((c.tc : Thread Cert.OutputIdeal.nD Cert.OutputIdeal.τ).loc Cert.OutputIdeal.main_v0)),
      θ_run (Cert.OutputIdeal.defs (F := Ideal)) (onTc (τ := Cert.OutputIdeal.τ) (Cert.OutputIdeal.main (F := Ideal))) ⟨m, fun _ => 0, g⟩ (fun r => ∀ c : Dev Cert.OutputIdeal.nD,
          r.2.mem ((c.tc : Thread Cert.OutputIdeal.nD Cert.OutputIdeal.τ).loc Cert.OutputIdeal.main_v0) = v0 c
          ∧ r.2.mem ((c.tc : Thread Cert.OutputIdeal.nD Cert.OutputIdeal.τ).loc Cert.OutputIdeal.main_arg0) = m ((c.tc : Thread Cert.OutputIdeal.nD Cert.OutputIdeal.τ).loc Cert.OutputIdeal.main_arg0)
          ∧ r.2.mem ((c.tc : Thread Cert.OutputIdeal.nD Cert.OutputIdeal.τ).loc Cert.OutputIdeal.main_arg1) = m ((c.tc : Thread Cert.OutputIdeal.nD Cert.OutputIdeal.τ).loc Cert.OutputIdeal.main_arg1)
          ∧ r.2.mem ((c.tc : Thread Cert.OutputIdeal.nD Cert.OutputIdeal.τ).loc Cert.OutputIdeal.main_arg2) = m ((c.tc : Thread Cert.OutputIdeal.nD Cert.OutputIdeal.τ).loc Cert.OutputIdeal.main_arg2)
          ∧ r.2.mem ((c.tc : Thread Cert.OutputIdeal.nD Cert.OutputIdeal.τ).loc Cert.OutputIdeal.main_arg3) = m ((c.tc : Thread Cert.OutputIdeal.nD Cert.OutputIdeal.τ).loc Cert.OutputIdeal.main_arg3)
          ∧ r.2.mem ((c.tc : Thread Cert.OutputIdeal.nD Cert.OutputIdeal.τ).loc Cert.OutputIdeal.main_arg4) = m ((c.tc : Thread Cert.OutputIdeal.nD Cert.OutputIdeal.τ).loc Cert.OutputIdeal.main_arg4)
          ∧ r.2.mem ((c.tc : Thread Cert.OutputIdeal.nD Cert.OutputIdeal.τ).loc Cert.OutputIdeal.main_arg5) = m ((c.tc : Thread Cert.OutputIdeal.nD Cert.OutputIdeal.τ).loc Cert.OutputIdeal.main_arg5)
          ∧ r.2.mem ((c.tc : Thread Cert.OutputIdeal.nD Cert.OutputIdeal.τ).loc Cert.OutputIdeal.main_arg6) = m ((c.tc : Thread Cert.OutputIdeal.nD Cert.OutputIdeal.τ).loc Cert.OutputIdeal.main_arg6))
      ∧ θ_run (Cert.OutputReferenceIdeal.defs (F := Ideal)) (onTc (τ := Cert.OutputReferenceIdeal.τ) (Cert.OutputReferenceIdeal.main (F := Ideal))) ⟨m', fun _ => 0, g'⟩ (fun r => ∀ c : Dev Cert.OutputReferenceIdeal.nD,
          r.2.mem ((c.tc : Thread Cert.OutputReferenceIdeal.nD Cert.OutputReferenceIdeal.τ).loc Cert.OutputReferenceIdeal.main_v36) = v0 c
          ∧ r.2.mem ((c.tc : Thread Cert.OutputReferenceIdeal.nD Cert.OutputReferenceIdeal.τ).loc Cert.OutputReferenceIdeal.main_arg0) = m' ((c.tc : Thread Cert.OutputReferenceIdeal.nD Cert.OutputReferenceIdeal.τ).loc Cert.OutputReferenceIdeal.main_arg0)
          ∧ r.2.mem ((c.tc : Thread Cert.OutputReferenceIdeal.nD Cert.OutputReferenceIdeal.τ).loc Cert.OutputReferenceIdeal.main_arg1) = m' ((c.tc : Thread Cert.OutputReferenceIdeal.nD Cert.OutputReferenceIdeal.τ).loc Cert.OutputReferenceIdeal.main_arg1)
          ∧ r.2.mem ((c.tc : Thread Cert.OutputReferenceIdeal.nD Cert.OutputReferenceIdeal.τ).loc Cert.OutputReferenceIdeal.main_arg2) = m' ((c.tc : Thread Cert.OutputReferenceIdeal.nD Cert.OutputReferenceIdeal.τ).loc Cert.OutputReferenceIdeal.main_arg2)
          ∧ r.2.mem ((c.tc : Thread Cert.OutputReferenceIdeal.nD Cert.OutputReferenceIdeal.τ).loc Cert.OutputReferenceIdeal.main_arg3) = m' ((c.tc : Thread Cert.OutputReferenceIdeal.nD Cert.OutputReferenceIdeal.τ).loc Cert.OutputReferenceIdeal.main_arg3)
          ∧ r.2.mem ((c.tc : Thread Cert.OutputReferenceIdeal.nD Cert.OutputReferenceIdeal.τ).loc Cert.OutputReferenceIdeal.main_arg4) = m' ((c.tc : Thread Cert.OutputReferenceIdeal.nD Cert.OutputReferenceIdeal.τ).loc Cert.OutputReferenceIdeal.main_arg4)
          ∧ r.2.mem ((c.tc : Thread Cert.OutputReferenceIdeal.nD Cert.OutputReferenceIdeal.τ).loc Cert.OutputReferenceIdeal.main_arg5) = m' ((c.tc : Thread Cert.OutputReferenceIdeal.nD Cert.OutputReferenceIdeal.τ).loc Cert.OutputReferenceIdeal.main_arg5)
          ∧ r.2.mem ((c.tc : Thread Cert.OutputReferenceIdeal.nD Cert.OutputReferenceIdeal.τ).loc Cert.OutputReferenceIdeal.main_arg6) = m' ((c.tc : Thread Cert.OutputReferenceIdeal.nD Cert.OutputReferenceIdeal.τ).loc Cert.OutputReferenceIdeal.main_arg6))

def preserves_Gate_GateIdeal : Prop :=
  IdealRules.named_const.Statement Cert.GateIdeal.κ "gelu_a" .f32 0x3D372713#32 ((8943 / 200000 : ℝ) : EReal)
  ∧ IdealRules.named_const.Statement Cert.GateIdeal.κ "gelu_3a" .f32 0x3E095D4F#32 ((26829 / 200000 : ℝ) : EReal)

def algebraic_GateIdeal_GateReferenceIdeal_pre_gate_finite [hGateIdeal : Cert.GateIdeal.Facts] [hGateReferenceIdeal : Cert.GateReferenceIdeal.Facts] [hPre_gate_finite : Cert.Pre_gate_finite.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateReferenceIdeal.nD Cert.GateReferenceIdeal.τ Cert.GateReferenceIdeal.sig) → Buf (Elt Ideal) ℓ) (g' : Dev Cert.GateReferenceIdeal.nD → PrngReg), Pre_GateIdeal_gate_finite m →
    (∀ c : Dev Cert.GateIdeal.nD,
      m' ((c.tc : Thread Cert.GateReferenceIdeal.nD Cert.GateReferenceIdeal.τ).loc Cert.GateReferenceIdeal.main_arg0) = m ((c.tc : Thread Cert.GateIdeal.nD Cert.GateIdeal.τ).loc Cert.GateIdeal.main_arg0)
      ∧ m' ((c.tc : Thread Cert.GateReferenceIdeal.nD Cert.GateReferenceIdeal.τ).loc Cert.GateReferenceIdeal.main_arg1) = m ((c.tc : Thread Cert.GateIdeal.nD Cert.GateIdeal.τ).loc Cert.GateIdeal.main_arg1)
      ∧ m' ((c.tc : Thread Cert.GateReferenceIdeal.nD Cert.GateReferenceIdeal.τ).loc Cert.GateReferenceIdeal.main_arg2) = m ((c.tc : Thread Cert.GateIdeal.nD Cert.GateIdeal.τ).loc Cert.GateIdeal.main_arg2)
      ∧ m' ((c.tc : Thread Cert.GateReferenceIdeal.nD Cert.GateReferenceIdeal.τ).loc Cert.GateReferenceIdeal.main_arg3) = m ((c.tc : Thread Cert.GateIdeal.nD Cert.GateIdeal.τ).loc Cert.GateIdeal.main_arg3)
      ∧ m' ((c.tc : Thread Cert.GateReferenceIdeal.nD Cert.GateReferenceIdeal.τ).loc Cert.GateReferenceIdeal.main_arg4) = m ((c.tc : Thread Cert.GateIdeal.nD Cert.GateIdeal.τ).loc Cert.GateIdeal.main_arg4)
      ∧ m' ((c.tc : Thread Cert.GateReferenceIdeal.nD Cert.GateReferenceIdeal.τ).loc Cert.GateReferenceIdeal.main_arg5) = m ((c.tc : Thread Cert.GateIdeal.nD Cert.GateIdeal.τ).loc Cert.GateIdeal.main_arg5)) →
    ∃ (v0 : (c : Dev Cert.GateIdeal.nD) → Buf (Elt Ideal) ((c.tc : Thread Cert.GateIdeal.nD Cert.GateIdeal.τ).loc Cert.GateIdeal.main_v0_0)) (v1 : (c : Dev Cert.GateIdeal.nD) → Buf (Elt Ideal) ((c.tc : Thread Cert.GateIdeal.nD Cert.GateIdeal.τ).loc Cert.GateIdeal.main_v0_1)) (v2 : (c : Dev Cert.GateIdeal.nD) → Buf (Elt Ideal) ((c.tc : Thread Cert.GateIdeal.nD Cert.GateIdeal.τ).loc Cert.GateIdeal.main_v0_2)) (v3 : (c : Dev Cert.GateIdeal.nD) → Buf (Elt Ideal) ((c.tc : Thread Cert.GateIdeal.nD Cert.GateIdeal.τ).loc Cert.GateIdeal.main_v0_3)) (v4 : (c : Dev Cert.GateIdeal.nD) → Buf (Elt Ideal) ((c.tc : Thread Cert.GateIdeal.nD Cert.GateIdeal.τ).loc Cert.GateIdeal.main_v0_4)) (v5 : (c : Dev Cert.GateIdeal.nD) → Buf (Elt Ideal) ((c.tc : Thread Cert.GateIdeal.nD Cert.GateIdeal.τ).loc Cert.GateIdeal.main_v0_5)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v0_0) = v0 c
          ∧ r.2.mem ((c.tc : Thread Cert.GateIdeal.nD Cert.GateIdeal.τ).loc Cert.GateIdeal.main_v0_1) = v1 c
          ∧ r.2.mem ((c.tc : Thread Cert.GateIdeal.nD Cert.GateIdeal.τ).loc Cert.GateIdeal.main_v0_2) = v2 c
          ∧ r.2.mem ((c.tc : Thread Cert.GateIdeal.nD Cert.GateIdeal.τ).loc Cert.GateIdeal.main_v0_3) = v3 c
          ∧ r.2.mem ((c.tc : Thread Cert.GateIdeal.nD Cert.GateIdeal.τ).loc Cert.GateIdeal.main_v0_4) = v4 c
          ∧ r.2.mem ((c.tc : Thread Cert.GateIdeal.nD Cert.GateIdeal.τ).loc Cert.GateIdeal.main_v0_5) = v5 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
          ∧ r.2.mem ((c.tc : Thread Cert.GateIdeal.nD Cert.GateIdeal.τ).loc Cert.GateIdeal.main_arg4) = m ((c.tc : Thread Cert.GateIdeal.nD Cert.GateIdeal.τ).loc Cert.GateIdeal.main_arg4)
          ∧ r.2.mem ((c.tc : Thread Cert.GateIdeal.nD Cert.GateIdeal.τ).loc Cert.GateIdeal.main_arg5) = m ((c.tc : Thread Cert.GateIdeal.nD Cert.GateIdeal.τ).loc Cert.GateIdeal.main_arg5))
      ∧ θ_run (Cert.GateReferenceIdeal.defs (F := Ideal)) (onTc (τ := Cert.GateReferenceIdeal.τ) (Cert.GateReferenceIdeal.main (F := Ideal))) ⟨m', fun _ => 0, g'⟩ (fun r => ∀ c : Dev Cert.GateReferenceIdeal.nD,
          r.2.mem ((c.tc : Thread Cert.GateReferenceIdeal.nD Cert.GateReferenceIdeal.τ).loc Cert.GateReferenceIdeal.main_v76) = v0 c
          ∧ r.2.mem ((c.tc : Thread Cert.GateReferenceIdeal.nD Cert.GateReferenceIdeal.τ).loc Cert.GateReferenceIdeal.main_v71) = v1 c
          ∧ r.2.mem ((c.tc : Thread Cert.GateReferenceIdeal.nD Cert.GateReferenceIdeal.τ).loc Cert.GateReferenceIdeal.main_v72) = v2 c
          ∧ r.2.mem ((c.tc : Thread Cert.GateReferenceIdeal.nD Cert.GateReferenceIdeal.τ).loc Cert.GateReferenceIdeal.main_v73) = v3 c
          ∧ r.2.mem ((c.tc : Thread Cert.GateReferenceIdeal.nD Cert.GateReferenceIdeal.τ).loc Cert.GateReferenceIdeal.main_v74) = v4 c
          ∧ r.2.mem ((c.tc : Thread Cert.GateReferenceIdeal.nD Cert.GateReferenceIdeal.τ).loc Cert.GateReferenceIdeal.main_v56) = v5 c
          ∧ r.2.mem ((c.tc : Thread Cert.GateReferenceIdeal.nD Cert.GateReferenceIdeal.τ).loc Cert.GateReferenceIdeal.main_arg0) = m' ((c.tc : Thread Cert.GateReferenceIdeal.nD Cert.GateReferenceIdeal.τ).loc Cert.GateReferenceIdeal.main_arg0)
          ∧ r.2.mem ((c.tc : Thread Cert.GateReferenceIdeal.nD Cert.GateReferenceIdeal.τ).loc Cert.GateReferenceIdeal.main_arg1) = m' ((c.tc : Thread Cert.GateReferenceIdeal.nD Cert.GateReferenceIdeal.τ).loc Cert.GateReferenceIdeal.main_arg1)
          ∧ r.2.mem ((c.tc : Thread Cert.GateReferenceIdeal.nD Cert.GateReferenceIdeal.τ).loc Cert.GateReferenceIdeal.main_arg2) = m' ((c.tc : Thread Cert.GateReferenceIdeal.nD Cert.GateReferenceIdeal.τ).loc Cert.GateReferenceIdeal.main_arg2)
          ∧ r.2.mem ((c.tc : Thread Cert.GateReferenceIdeal.nD Cert.GateReferenceIdeal.τ).loc Cert.GateReferenceIdeal.main_arg3) = m' ((c.tc : Thread Cert.GateReferenceIdeal.nD Cert.GateReferenceIdeal.τ).loc Cert.GateReferenceIdeal.main_arg3)
          ∧ r.2.mem ((c.tc : Thread Cert.GateReferenceIdeal.nD Cert.GateReferenceIdeal.τ).loc Cert.GateReferenceIdeal.main_arg4) = m' ((c.tc : Thread Cert.GateReferenceIdeal.nD Cert.GateReferenceIdeal.τ).loc Cert.GateReferenceIdeal.main_arg4)
          ∧ r.2.mem ((c.tc : Thread Cert.GateReferenceIdeal.nD Cert.GateReferenceIdeal.τ).loc Cert.GateReferenceIdeal.main_arg5) = m' ((c.tc : Thread Cert.GateReferenceIdeal.nD Cert.GateReferenceIdeal.τ).loc Cert.GateReferenceIdeal.main_arg5))

def preserves_ColumnsStep_ColumnsStepIdeal : Prop :=
  True

def algebraic_ColumnsStepIdeal_ColumnsStepReferenceIdeal [hColumnsStepIdeal : Cert.ColumnsStepIdeal.Facts] [hColumnsStepReferenceIdeal : Cert.ColumnsStepReferenceIdeal.Facts] : Prop :=
  ∀ (m : (ℓ : Loc Cert.ColumnsStepIdeal.nD Cert.ColumnsStepIdeal.τ Cert.ColumnsStepIdeal.sig) → Buf (Elt Ideal) ℓ) (g : Dev Cert.ColumnsStepIdeal.nD → PrngReg)
    (m' : (ℓ : Loc Cert.ColumnsStepReferenceIdeal.nD Cert.ColumnsStepReferenceIdeal.τ Cert.ColumnsStepReferenceIdeal.sig) → Buf (Elt Ideal) ℓ) (g' : Dev Cert.ColumnsStepReferenceIdeal.nD → PrngReg), Pre_ColumnsStepIdeal m →
    (∀ c : Dev Cert.ColumnsStepIdeal.nD,
      m' ((c.tc : Thread Cert.ColumnsStepReferenceIdeal.nD Cert.ColumnsStepReferenceIdeal.τ).loc Cert.ColumnsStepReferenceIdeal.main_arg0) = m ((c.tc : Thread Cert.ColumnsStepIdeal.nD Cert.ColumnsStepIdeal.τ).loc Cert.ColumnsStepIdeal.main_arg0)
      ∧ m' ((c.tc : Thread Cert.ColumnsStepReferenceIdeal.nD Cert.ColumnsStepReferenceIdeal.τ).loc Cert.ColumnsStepReferenceIdeal.main_arg1) = m ((c.tc : Thread Cert.ColumnsStepIdeal.nD Cert.ColumnsStepIdeal.τ).loc Cert.ColumnsStepIdeal.main_arg1)
      ∧ m' ((c.tc : Thread Cert.ColumnsStepReferenceIdeal.nD Cert.ColumnsStepReferenceIdeal.τ).loc Cert.ColumnsStepReferenceIdeal.main_arg2) = m ((c.tc : Thread Cert.ColumnsStepIdeal.nD Cert.ColumnsStepIdeal.τ).loc Cert.ColumnsStepIdeal.main_arg2)
      ∧ m' ((c.tc : Thread Cert.ColumnsStepReferenceIdeal.nD Cert.ColumnsStepReferenceIdeal.τ).loc Cert.ColumnsStepReferenceIdeal.main_arg3) = m ((c.tc : Thread Cert.ColumnsStepIdeal.nD Cert.ColumnsStepIdeal.τ).loc Cert.ColumnsStepIdeal.main_arg3)
      ∧ m' ((c.tc : Thread Cert.ColumnsStepReferenceIdeal.nD Cert.ColumnsStepReferenceIdeal.τ).loc Cert.ColumnsStepReferenceIdeal.main_arg4) = m ((c.tc : Thread Cert.ColumnsStepIdeal.nD Cert.ColumnsStepIdeal.τ).loc Cert.ColumnsStepIdeal.main_arg4)) →
    ∃ (v0 : (c : Dev Cert.ColumnsStepIdeal.nD) → Buf (Elt Ideal) ((c.tc : Thread Cert.ColumnsStepIdeal.nD Cert.ColumnsStepIdeal.τ).loc Cert.ColumnsStepIdeal.main_v0_0)) (v1 : (c : Dev Cert.ColumnsStepIdeal.nD) → Buf (Elt Ideal) ((c.tc : Thread Cert.ColumnsStepIdeal.nD Cert.ColumnsStepIdeal.τ).loc Cert.ColumnsStepIdeal.main_v0_1)) (v2 : (c : Dev Cert.ColumnsStepIdeal.nD) → Buf (Elt Ideal) ((c.tc : Thread Cert.ColumnsStepIdeal.nD Cert.ColumnsStepIdeal.τ).loc Cert.ColumnsStepIdeal.main_v0_2)) (v3 : (c : Dev Cert.ColumnsStepIdeal.nD) → Buf (Elt Ideal) ((c.tc : Thread Cert.ColumnsStepIdeal.nD Cert.ColumnsStepIdeal.τ).loc Cert.ColumnsStepIdeal.main_v0_3)),
      θ_run (Cert.ColumnsStepIdeal.defs (F := Ideal)) (onTc (τ := Cert.ColumnsStepIdeal.τ) (Cert.ColumnsStepIdeal.main (F := Ideal))) ⟨m, fun _ => 0, g⟩ (fun r => ∀ c : Dev Cert.ColumnsStepIdeal.nD,
          r.2.mem ((c.tc : Thread Cert.ColumnsStepIdeal.nD Cert.ColumnsStepIdeal.τ).loc Cert.ColumnsStepIdeal.main_v0_0) = v0 c
          ∧ r.2.mem ((c.tc : Thread Cert.ColumnsStepIdeal.nD Cert.ColumnsStepIdeal.τ).loc Cert.ColumnsStepIdeal.main_v0_1) = v1 c
          ∧ r.2.mem ((c.tc : Thread Cert.ColumnsStepIdeal.nD Cert.ColumnsStepIdeal.τ).loc Cert.ColumnsStepIdeal.main_v0_2) = v2 c
          ∧ r.2.mem ((c.tc : Thread Cert.ColumnsStepIdeal.nD Cert.ColumnsStepIdeal.τ).loc Cert.ColumnsStepIdeal.main_v0_3) = v3 c
          ∧ r.2.mem ((c.tc : Thread Cert.ColumnsStepIdeal.nD Cert.ColumnsStepIdeal.τ).loc Cert.ColumnsStepIdeal.main_arg0) = m ((c.tc : Thread Cert.ColumnsStepIdeal.nD Cert.ColumnsStepIdeal.τ).loc Cert.ColumnsStepIdeal.main_arg0)
          ∧ r.2.mem ((c.tc : Thread Cert.ColumnsStepIdeal.nD Cert.ColumnsStepIdeal.τ).loc Cert.ColumnsStepIdeal.main_arg1) = m ((c.tc : Thread Cert.ColumnsStepIdeal.nD Cert.ColumnsStepIdeal.τ).loc Cert.ColumnsStepIdeal.main_arg1)
          ∧ r.2.mem ((c.tc : Thread Cert.ColumnsStepIdeal.nD Cert.ColumnsStepIdeal.τ).loc Cert.ColumnsStepIdeal.main_arg2) = m ((c.tc : Thread Cert.ColumnsStepIdeal.nD Cert.ColumnsStepIdeal.τ).loc Cert.ColumnsStepIdeal.main_arg2)
          ∧ r.2.mem ((c.tc : Thread Cert.ColumnsStepIdeal.nD Cert.ColumnsStepIdeal.τ).loc Cert.ColumnsStepIdeal.main_arg3) = m ((c.tc : Thread Cert.ColumnsStepIdeal.nD Cert.ColumnsStepIdeal.τ).loc Cert.ColumnsStepIdeal.main_arg3)
          ∧ r.2.mem ((c.tc : Thread Cert.ColumnsStepIdeal.nD Cert.ColumnsStepIdeal.τ).loc Cert.ColumnsStepIdeal.main_arg4) = m ((c.tc : Thread Cert.ColumnsStepIdeal.nD Cert.ColumnsStepIdeal.τ).loc Cert.ColumnsStepIdeal.main_arg4))
      ∧ θ_run (Cert.ColumnsStepReferenceIdeal.defs (F := Ideal)) (onTc (τ := Cert.ColumnsStepReferenceIdeal.τ) (Cert.ColumnsStepReferenceIdeal.main (F := Ideal))) ⟨m', fun _ => 0, g'⟩ (fun r => ∀ c : Dev Cert.ColumnsStepReferenceIdeal.nD,
          r.2.mem ((c.tc : Thread Cert.ColumnsStepReferenceIdeal.nD Cert.ColumnsStepReferenceIdeal.τ).loc Cert.ColumnsStepReferenceIdeal.main_v4) = v0 c
          ∧ r.2.mem ((c.tc : Thread Cert.ColumnsStepReferenceIdeal.nD Cert.ColumnsStepReferenceIdeal.τ).loc Cert.ColumnsStepReferenceIdeal.main_v28) = v1 c
          ∧ r.2.mem ((c.tc : Thread Cert.ColumnsStepReferenceIdeal.nD Cert.ColumnsStepReferenceIdeal.τ).loc Cert.ColumnsStepReferenceIdeal.main_v9) = v2 c
          ∧ r.2.mem ((c.tc : Thread Cert.ColumnsStepReferenceIdeal.nD Cert.ColumnsStepReferenceIdeal.τ).loc Cert.ColumnsStepReferenceIdeal.main_v15) = v3 c
          ∧ r.2.mem ((c.tc : Thread Cert.ColumnsStepReferenceIdeal.nD Cert.ColumnsStepReferenceIdeal.τ).loc Cert.ColumnsStepReferenceIdeal.main_arg0) = m' ((c.tc : Thread Cert.ColumnsStepReferenceIdeal.nD Cert.ColumnsStepReferenceIdeal.τ).loc Cert.ColumnsStepReferenceIdeal.main_arg0)
          ∧ r.2.mem ((c.tc : Thread Cert.ColumnsStepReferenceIdeal.nD Cert.ColumnsStepReferenceIdeal.τ).loc Cert.ColumnsStepReferenceIdeal.main_arg1) = m' ((c.tc : Thread Cert.ColumnsStepReferenceIdeal.nD Cert.ColumnsStepReferenceIdeal.τ).loc Cert.ColumnsStepReferenceIdeal.main_arg1)
          ∧ r.2.mem ((c.tc : Thread Cert.ColumnsStepReferenceIdeal.nD Cert.ColumnsStepReferenceIdeal.τ).loc Cert.ColumnsStepReferenceIdeal.main_arg2) = m' ((c.tc : Thread Cert.ColumnsStepReferenceIdeal.nD Cert.ColumnsStepReferenceIdeal.τ).loc Cert.ColumnsStepReferenceIdeal.main_arg2)
          ∧ r.2.mem ((c.tc : Thread Cert.ColumnsStepReferenceIdeal.nD Cert.ColumnsStepReferenceIdeal.τ).loc Cert.ColumnsStepReferenceIdeal.main_arg3) = m' ((c.tc : Thread Cert.ColumnsStepReferenceIdeal.nD Cert.ColumnsStepReferenceIdeal.τ).loc Cert.ColumnsStepReferenceIdeal.main_arg3)
          ∧ r.2.mem ((c.tc : Thread Cert.ColumnsStepReferenceIdeal.nD Cert.ColumnsStepReferenceIdeal.τ).loc Cert.ColumnsStepReferenceIdeal.main_arg4) = m' ((c.tc : Thread Cert.ColumnsStepReferenceIdeal.nD Cert.ColumnsStepReferenceIdeal.τ).loc Cert.ColumnsStepReferenceIdeal.main_arg4))

def preserves_RowsStep_RowsStepIdeal : Prop :=
  True

def algebraic_RowsStepIdeal_RowsStepReferenceIdeal [hRowsStepIdeal : Cert.RowsStepIdeal.Facts] [hRowsStepReferenceIdeal : Cert.RowsStepReferenceIdeal.Facts] : Prop :=
  ∀ (m : (ℓ : Loc Cert.RowsStepIdeal.nD Cert.RowsStepIdeal.τ Cert.RowsStepIdeal.sig) → Buf (Elt Ideal) ℓ) (g : Dev Cert.RowsStepIdeal.nD → PrngReg)
    (m' : (ℓ : Loc Cert.RowsStepReferenceIdeal.nD Cert.RowsStepReferenceIdeal.τ Cert.RowsStepReferenceIdeal.sig) → Buf (Elt Ideal) ℓ) (g' : Dev Cert.RowsStepReferenceIdeal.nD → PrngReg), Pre_RowsStepIdeal m →
    (∀ c : Dev Cert.RowsStepIdeal.nD,
      m' ((c.tc : Thread Cert.RowsStepReferenceIdeal.nD Cert.RowsStepReferenceIdeal.τ).loc Cert.RowsStepReferenceIdeal.main_arg0) = m ((c.tc : Thread Cert.RowsStepIdeal.nD Cert.RowsStepIdeal.τ).loc Cert.RowsStepIdeal.main_arg0)
      ∧ m' ((c.tc : Thread Cert.RowsStepReferenceIdeal.nD Cert.RowsStepReferenceIdeal.τ).loc Cert.RowsStepReferenceIdeal.main_arg1) = m ((c.tc : Thread Cert.RowsStepIdeal.nD Cert.RowsStepIdeal.τ).loc Cert.RowsStepIdeal.main_arg1)
      ∧ m' ((c.tc : Thread Cert.RowsStepReferenceIdeal.nD Cert.RowsStepReferenceIdeal.τ).loc Cert.RowsStepReferenceIdeal.main_arg2) = m ((c.tc : Thread Cert.RowsStepIdeal.nD Cert.RowsStepIdeal.τ).loc Cert.RowsStepIdeal.main_arg2)
      ∧ m' ((c.tc : Thread Cert.RowsStepReferenceIdeal.nD Cert.RowsStepReferenceIdeal.τ).loc Cert.RowsStepReferenceIdeal.main_arg3) = m ((c.tc : Thread Cert.RowsStepIdeal.nD Cert.RowsStepIdeal.τ).loc Cert.RowsStepIdeal.main_arg3)
      ∧ m' ((c.tc : Thread Cert.RowsStepReferenceIdeal.nD Cert.RowsStepReferenceIdeal.τ).loc Cert.RowsStepReferenceIdeal.main_arg4) = m ((c.tc : Thread Cert.RowsStepIdeal.nD Cert.RowsStepIdeal.τ).loc Cert.RowsStepIdeal.main_arg4)) →
    ∃ (v0 : (c : Dev Cert.RowsStepIdeal.nD) → Buf (Elt Ideal) ((c.tc : Thread Cert.RowsStepIdeal.nD Cert.RowsStepIdeal.τ).loc Cert.RowsStepIdeal.main_v0_0)) (v1 : (c : Dev Cert.RowsStepIdeal.nD) → Buf (Elt Ideal) ((c.tc : Thread Cert.RowsStepIdeal.nD Cert.RowsStepIdeal.τ).loc Cert.RowsStepIdeal.main_v0_1)) (v2 : (c : Dev Cert.RowsStepIdeal.nD) → Buf (Elt Ideal) ((c.tc : Thread Cert.RowsStepIdeal.nD Cert.RowsStepIdeal.τ).loc Cert.RowsStepIdeal.main_v0_2)) (v3 : (c : Dev Cert.RowsStepIdeal.nD) → Buf (Elt Ideal) ((c.tc : Thread Cert.RowsStepIdeal.nD Cert.RowsStepIdeal.τ).loc Cert.RowsStepIdeal.main_v0_3)),
      θ_run (Cert.RowsStepIdeal.defs (F := Ideal)) (onTc (τ := Cert.RowsStepIdeal.τ) (Cert.RowsStepIdeal.main (F := Ideal))) ⟨m, fun _ => 0, g⟩ (fun r => ∀ c : Dev Cert.RowsStepIdeal.nD,
          r.2.mem ((c.tc : Thread Cert.RowsStepIdeal.nD Cert.RowsStepIdeal.τ).loc Cert.RowsStepIdeal.main_v0_0) = v0 c
          ∧ r.2.mem ((c.tc : Thread Cert.RowsStepIdeal.nD Cert.RowsStepIdeal.τ).loc Cert.RowsStepIdeal.main_v0_1) = v1 c
          ∧ r.2.mem ((c.tc : Thread Cert.RowsStepIdeal.nD Cert.RowsStepIdeal.τ).loc Cert.RowsStepIdeal.main_v0_2) = v2 c
          ∧ r.2.mem ((c.tc : Thread Cert.RowsStepIdeal.nD Cert.RowsStepIdeal.τ).loc Cert.RowsStepIdeal.main_v0_3) = v3 c
          ∧ r.2.mem ((c.tc : Thread Cert.RowsStepIdeal.nD Cert.RowsStepIdeal.τ).loc Cert.RowsStepIdeal.main_arg0) = m ((c.tc : Thread Cert.RowsStepIdeal.nD Cert.RowsStepIdeal.τ).loc Cert.RowsStepIdeal.main_arg0)
          ∧ r.2.mem ((c.tc : Thread Cert.RowsStepIdeal.nD Cert.RowsStepIdeal.τ).loc Cert.RowsStepIdeal.main_arg1) = m ((c.tc : Thread Cert.RowsStepIdeal.nD Cert.RowsStepIdeal.τ).loc Cert.RowsStepIdeal.main_arg1)
          ∧ r.2.mem ((c.tc : Thread Cert.RowsStepIdeal.nD Cert.RowsStepIdeal.τ).loc Cert.RowsStepIdeal.main_arg2) = m ((c.tc : Thread Cert.RowsStepIdeal.nD Cert.RowsStepIdeal.τ).loc Cert.RowsStepIdeal.main_arg2)
          ∧ r.2.mem ((c.tc : Thread Cert.RowsStepIdeal.nD Cert.RowsStepIdeal.τ).loc Cert.RowsStepIdeal.main_arg3) = m ((c.tc : Thread Cert.RowsStepIdeal.nD Cert.RowsStepIdeal.τ).loc Cert.RowsStepIdeal.main_arg3)
          ∧ r.2.mem ((c.tc : Thread Cert.RowsStepIdeal.nD Cert.RowsStepIdeal.τ).loc Cert.RowsStepIdeal.main_arg4) = m ((c.tc : Thread Cert.RowsStepIdeal.nD Cert.RowsStepIdeal.τ).loc Cert.RowsStepIdeal.main_arg4))
      ∧ θ_run (Cert.RowsStepReferenceIdeal.defs (F := Ideal)) (onTc (τ := Cert.RowsStepReferenceIdeal.τ) (Cert.RowsStepReferenceIdeal.main (F := Ideal))) ⟨m', fun _ => 0, g'⟩ (fun r => ∀ c : Dev Cert.RowsStepReferenceIdeal.nD,
          r.2.mem ((c.tc : Thread Cert.RowsStepReferenceIdeal.nD Cert.RowsStepReferenceIdeal.τ).loc Cert.RowsStepReferenceIdeal.main_v4) = v0 c
          ∧ r.2.mem ((c.tc : Thread Cert.RowsStepReferenceIdeal.nD Cert.RowsStepReferenceIdeal.τ).loc Cert.RowsStepReferenceIdeal.main_v28) = v1 c
          ∧ r.2.mem ((c.tc : Thread Cert.RowsStepReferenceIdeal.nD Cert.RowsStepReferenceIdeal.τ).loc Cert.RowsStepReferenceIdeal.main_v9) = v2 c
          ∧ r.2.mem ((c.tc : Thread Cert.RowsStepReferenceIdeal.nD Cert.RowsStepReferenceIdeal.τ).loc Cert.RowsStepReferenceIdeal.main_v15) = v3 c
          ∧ r.2.mem ((c.tc : Thread Cert.RowsStepReferenceIdeal.nD Cert.RowsStepReferenceIdeal.τ).loc Cert.RowsStepReferenceIdeal.main_arg0) = m' ((c.tc : Thread Cert.RowsStepReferenceIdeal.nD Cert.RowsStepReferenceIdeal.τ).loc Cert.RowsStepReferenceIdeal.main_arg0)
          ∧ r.2.mem ((c.tc : Thread Cert.RowsStepReferenceIdeal.nD Cert.RowsStepReferenceIdeal.τ).loc Cert.RowsStepReferenceIdeal.main_arg1) = m' ((c.tc : Thread Cert.RowsStepReferenceIdeal.nD Cert.RowsStepReferenceIdeal.τ).loc Cert.RowsStepReferenceIdeal.main_arg1)
          ∧ r.2.mem ((c.tc : Thread Cert.RowsStepReferenceIdeal.nD Cert.RowsStepReferenceIdeal.τ).loc Cert.RowsStepReferenceIdeal.main_arg2) = m' ((c.tc : Thread Cert.RowsStepReferenceIdeal.nD Cert.RowsStepReferenceIdeal.τ).loc Cert.RowsStepReferenceIdeal.main_arg2)
          ∧ r.2.mem ((c.tc : Thread Cert.RowsStepReferenceIdeal.nD Cert.RowsStepReferenceIdeal.τ).loc Cert.RowsStepReferenceIdeal.main_arg3) = m' ((c.tc : Thread Cert.RowsStepReferenceIdeal.nD Cert.RowsStepReferenceIdeal.τ).loc Cert.RowsStepReferenceIdeal.main_arg3)
          ∧ r.2.mem ((c.tc : Thread Cert.RowsStepReferenceIdeal.nD Cert.RowsStepReferenceIdeal.τ).loc Cert.RowsStepReferenceIdeal.main_arg4) = m' ((c.tc : Thread Cert.RowsStepReferenceIdeal.nD Cert.RowsStepReferenceIdeal.τ).loc Cert.RowsStepReferenceIdeal.main_arg4))

def preserves_GluStep_GluStepIdeal : Prop :=
  True

def algebraic_GluStepIdeal_GluStepReferenceIdeal [hGluStepIdeal : Cert.GluStepIdeal.Facts] [hGluStepReferenceIdeal : Cert.GluStepReferenceIdeal.Facts] : Prop :=
  ∀ (m : (ℓ : Loc Cert.GluStepIdeal.nD Cert.GluStepIdeal.τ Cert.GluStepIdeal.sig) → Buf (Elt Ideal) ℓ) (g : Dev Cert.GluStepIdeal.nD → PrngReg)
    (m' : (ℓ : Loc Cert.GluStepReferenceIdeal.nD Cert.GluStepReferenceIdeal.τ Cert.GluStepReferenceIdeal.sig) → Buf (Elt Ideal) ℓ) (g' : Dev Cert.GluStepReferenceIdeal.nD → PrngReg), Pre_GluStepIdeal m →
    (∀ c : Dev Cert.GluStepIdeal.nD,
      m' ((c.tc : Thread Cert.GluStepReferenceIdeal.nD Cert.GluStepReferenceIdeal.τ).loc Cert.GluStepReferenceIdeal.main_arg0) = m ((c.tc : Thread Cert.GluStepIdeal.nD Cert.GluStepIdeal.τ).loc Cert.GluStepIdeal.main_arg0)
      ∧ m' ((c.tc : Thread Cert.GluStepReferenceIdeal.nD Cert.GluStepReferenceIdeal.τ).loc Cert.GluStepReferenceIdeal.main_arg1) = m ((c.tc : Thread Cert.GluStepIdeal.nD Cert.GluStepIdeal.τ).loc Cert.GluStepIdeal.main_arg1)
      ∧ m' ((c.tc : Thread Cert.GluStepReferenceIdeal.nD Cert.GluStepReferenceIdeal.τ).loc Cert.GluStepReferenceIdeal.main_arg2) = m ((c.tc : Thread Cert.GluStepIdeal.nD Cert.GluStepIdeal.τ).loc Cert.GluStepIdeal.main_arg2)
      ∧ m' ((c.tc : Thread Cert.GluStepReferenceIdeal.nD Cert.GluStepReferenceIdeal.τ).loc Cert.GluStepReferenceIdeal.main_arg3) = m ((c.tc : Thread Cert.GluStepIdeal.nD Cert.GluStepIdeal.τ).loc Cert.GluStepIdeal.main_arg3)
      ∧ m' ((c.tc : Thread Cert.GluStepReferenceIdeal.nD Cert.GluStepReferenceIdeal.τ).loc Cert.GluStepReferenceIdeal.main_arg4) = m ((c.tc : Thread Cert.GluStepIdeal.nD Cert.GluStepIdeal.τ).loc Cert.GluStepIdeal.main_arg4)) →
    ∃ (v0 : (c : Dev Cert.GluStepIdeal.nD) → Buf (Elt Ideal) ((c.tc : Thread Cert.GluStepIdeal.nD Cert.GluStepIdeal.τ).loc Cert.GluStepIdeal.main_v0_0)) (v1 : (c : Dev Cert.GluStepIdeal.nD) → Buf (Elt Ideal) ((c.tc : Thread Cert.GluStepIdeal.nD Cert.GluStepIdeal.τ).loc Cert.GluStepIdeal.main_v0_1)) (v2 : (c : Dev Cert.GluStepIdeal.nD) → Buf (Elt Ideal) ((c.tc : Thread Cert.GluStepIdeal.nD Cert.GluStepIdeal.τ).loc Cert.GluStepIdeal.main_v0_2)) (v3 : (c : Dev Cert.GluStepIdeal.nD) → Buf (Elt Ideal) ((c.tc : Thread Cert.GluStepIdeal.nD Cert.GluStepIdeal.τ).loc Cert.GluStepIdeal.main_v0_3)),
      θ_run (Cert.GluStepIdeal.defs (F := Ideal)) (onTc (τ := Cert.GluStepIdeal.τ) (Cert.GluStepIdeal.main (F := Ideal))) ⟨m, fun _ => 0, g⟩ (fun r => ∀ c : Dev Cert.GluStepIdeal.nD,
          r.2.mem ((c.tc : Thread Cert.GluStepIdeal.nD Cert.GluStepIdeal.τ).loc Cert.GluStepIdeal.main_v0_0) = v0 c
          ∧ r.2.mem ((c.tc : Thread Cert.GluStepIdeal.nD Cert.GluStepIdeal.τ).loc Cert.GluStepIdeal.main_v0_1) = v1 c
          ∧ r.2.mem ((c.tc : Thread Cert.GluStepIdeal.nD Cert.GluStepIdeal.τ).loc Cert.GluStepIdeal.main_v0_2) = v2 c
          ∧ r.2.mem ((c.tc : Thread Cert.GluStepIdeal.nD Cert.GluStepIdeal.τ).loc Cert.GluStepIdeal.main_v0_3) = v3 c
          ∧ r.2.mem ((c.tc : Thread Cert.GluStepIdeal.nD Cert.GluStepIdeal.τ).loc Cert.GluStepIdeal.main_arg0) = m ((c.tc : Thread Cert.GluStepIdeal.nD Cert.GluStepIdeal.τ).loc Cert.GluStepIdeal.main_arg0)
          ∧ r.2.mem ((c.tc : Thread Cert.GluStepIdeal.nD Cert.GluStepIdeal.τ).loc Cert.GluStepIdeal.main_arg1) = m ((c.tc : Thread Cert.GluStepIdeal.nD Cert.GluStepIdeal.τ).loc Cert.GluStepIdeal.main_arg1)
          ∧ r.2.mem ((c.tc : Thread Cert.GluStepIdeal.nD Cert.GluStepIdeal.τ).loc Cert.GluStepIdeal.main_arg2) = m ((c.tc : Thread Cert.GluStepIdeal.nD Cert.GluStepIdeal.τ).loc Cert.GluStepIdeal.main_arg2)
          ∧ r.2.mem ((c.tc : Thread Cert.GluStepIdeal.nD Cert.GluStepIdeal.τ).loc Cert.GluStepIdeal.main_arg3) = m ((c.tc : Thread Cert.GluStepIdeal.nD Cert.GluStepIdeal.τ).loc Cert.GluStepIdeal.main_arg3)
          ∧ r.2.mem ((c.tc : Thread Cert.GluStepIdeal.nD Cert.GluStepIdeal.τ).loc Cert.GluStepIdeal.main_arg4) = m ((c.tc : Thread Cert.GluStepIdeal.nD Cert.GluStepIdeal.τ).loc Cert.GluStepIdeal.main_arg4))
      ∧ θ_run (Cert.GluStepReferenceIdeal.defs (F := Ideal)) (onTc (τ := Cert.GluStepReferenceIdeal.τ) (Cert.GluStepReferenceIdeal.main (F := Ideal))) ⟨m', fun _ => 0, g'⟩ (fun r => ∀ c : Dev Cert.GluStepReferenceIdeal.nD,
          r.2.mem ((c.tc : Thread Cert.GluStepReferenceIdeal.nD Cert.GluStepReferenceIdeal.τ).loc Cert.GluStepReferenceIdeal.main_v4) = v0 c
          ∧ r.2.mem ((c.tc : Thread Cert.GluStepReferenceIdeal.nD Cert.GluStepReferenceIdeal.τ).loc Cert.GluStepReferenceIdeal.main_v28) = v1 c
          ∧ r.2.mem ((c.tc : Thread Cert.GluStepReferenceIdeal.nD Cert.GluStepReferenceIdeal.τ).loc Cert.GluStepReferenceIdeal.main_v9) = v2 c
          ∧ r.2.mem ((c.tc : Thread Cert.GluStepReferenceIdeal.nD Cert.GluStepReferenceIdeal.τ).loc Cert.GluStepReferenceIdeal.main_v15) = v3 c
          ∧ r.2.mem ((c.tc : Thread Cert.GluStepReferenceIdeal.nD Cert.GluStepReferenceIdeal.τ).loc Cert.GluStepReferenceIdeal.main_arg0) = m' ((c.tc : Thread Cert.GluStepReferenceIdeal.nD Cert.GluStepReferenceIdeal.τ).loc Cert.GluStepReferenceIdeal.main_arg0)
          ∧ r.2.mem ((c.tc : Thread Cert.GluStepReferenceIdeal.nD Cert.GluStepReferenceIdeal.τ).loc Cert.GluStepReferenceIdeal.main_arg1) = m' ((c.tc : Thread Cert.GluStepReferenceIdeal.nD Cert.GluStepReferenceIdeal.τ).loc Cert.GluStepReferenceIdeal.main_arg1)
          ∧ r.2.mem ((c.tc : Thread Cert.GluStepReferenceIdeal.nD Cert.GluStepReferenceIdeal.τ).loc Cert.GluStepReferenceIdeal.main_arg2) = m' ((c.tc : Thread Cert.GluStepReferenceIdeal.nD Cert.GluStepReferenceIdeal.τ).loc Cert.GluStepReferenceIdeal.main_arg2)
          ∧ r.2.mem ((c.tc : Thread Cert.GluStepReferenceIdeal.nD Cert.GluStepReferenceIdeal.τ).loc Cert.GluStepReferenceIdeal.main_arg3) = m' ((c.tc : Thread Cert.GluStepReferenceIdeal.nD Cert.GluStepReferenceIdeal.τ).loc Cert.GluStepReferenceIdeal.main_arg3)
          ∧ r.2.mem ((c.tc : Thread Cert.GluStepReferenceIdeal.nD Cert.GluStepReferenceIdeal.τ).loc Cert.GluStepReferenceIdeal.main_arg4) = m' ((c.tc : Thread Cert.GluStepReferenceIdeal.nD Cert.GluStepReferenceIdeal.τ).loc Cert.GluStepReferenceIdeal.main_arg4))

def Claim : Prop :=
  ∃ (hKernel : Cert.Kernel.Facts) (hKernelIdeal : Cert.KernelIdeal.Facts) (hReferenceIdeal : Cert.ReferenceIdeal.Facts) (hColumns : Cert.Columns.Facts) (hColumnsIdeal : Cert.ColumnsIdeal.Facts) (hColumnsReferenceIdeal : Cert.ColumnsReferenceIdeal.Facts) (hInput : Cert.Input.Facts) (hInputIdeal : Cert.InputIdeal.Facts) (hInputReferenceIdeal : Cert.InputReferenceIdeal.Facts) (hProjection : Cert.Projection.Facts) (hProjectionIdeal : Cert.ProjectionIdeal.Facts) (hProjectionReferenceIdeal : Cert.ProjectionReferenceIdeal.Facts) (hFirstProjection : Cert.FirstProjection.Facts) (hFirstProjectionIdeal : Cert.FirstProjectionIdeal.Facts) (hFirstProjectionReferenceIdeal : Cert.FirstProjectionReferenceIdeal.Facts) (hRows : Cert.Rows.Facts) (hRowsIdeal : Cert.RowsIdeal.Facts) (hRowsReferenceIdeal : Cert.RowsReferenceIdeal.Facts) (hEvenRows : Cert.EvenRows.Facts) (hEvenRowsIdeal : Cert.EvenRowsIdeal.Facts) (hEvenRowsReferenceIdeal : Cert.EvenRowsReferenceIdeal.Facts) (hGluRows : Cert.GluRows.Facts) (hGluRowsIdeal : Cert.GluRowsIdeal.Facts) (hGluRowsReferenceIdeal : Cert.GluRowsReferenceIdeal.Facts) (hOutput : Cert.Output.Facts) (hOutputIdeal : Cert.OutputIdeal.Facts) (hOutputReferenceIdeal : Cert.OutputReferenceIdeal.Facts) (hGate : Cert.Gate.Facts) (hGateIdeal : Cert.GateIdeal.Facts) (hGateReferenceIdeal : Cert.GateReferenceIdeal.Facts) (hColumnsStep : Cert.ColumnsStep.Facts) (hColumnsStepIdeal : Cert.ColumnsStepIdeal.Facts) (hColumnsStepReferenceIdeal : Cert.ColumnsStepReferenceIdeal.Facts) (hRowsStep : Cert.RowsStep.Facts) (hRowsStepIdeal : Cert.RowsStepIdeal.Facts) (hRowsStepReferenceIdeal : Cert.RowsStepReferenceIdeal.Facts) (hGluStep : Cert.GluStep.Facts) (hGluStepIdeal : Cert.GluStepIdeal.Facts) (hGluStepReferenceIdeal : Cert.GluStepReferenceIdeal.Facts) (hPre_finite : Cert.Pre_finite.Facts) (hPre_input_finite : Cert.Pre_input_finite.Facts) (hPre_gate_finite : Cert.Pre_gate_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Columns (hColumns := hColumns)
    ∧ quiescent_ColumnsIdeal (hColumnsIdeal := hColumnsIdeal)
    ∧ quiescent_ColumnsReferenceIdeal (hColumnsReferenceIdeal := hColumnsReferenceIdeal)
    ∧ quiescent_Input (hInput := hInput)
    ∧ quiescent_InputIdeal (hInputIdeal := hInputIdeal)
    ∧ quiescent_InputIdeal_pre_input_finite (hInputIdeal := hInputIdeal) (hPre_input_finite := hPre_input_finite)
    ∧ quiescent_InputReferenceIdeal (hInputReferenceIdeal := hInputReferenceIdeal)
    ∧ quiescent_InputReferenceIdeal_pre_input_finite (hInputReferenceIdeal := hInputReferenceIdeal) (hPre_input_finite := hPre_input_finite)
    ∧ quiescent_Projection (hProjection := hProjection)
    ∧ quiescent_ProjectionIdeal (hProjectionIdeal := hProjectionIdeal)
    ∧ quiescent_ProjectionReferenceIdeal (hProjectionReferenceIdeal := hProjectionReferenceIdeal)
    ∧ quiescent_FirstProjection (hFirstProjection := hFirstProjection)
    ∧ quiescent_FirstProjectionIdeal (hFirstProjectionIdeal := hFirstProjectionIdeal)
    ∧ quiescent_FirstProjectionReferenceIdeal (hFirstProjectionReferenceIdeal := hFirstProjectionReferenceIdeal)
    ∧ quiescent_Rows (hRows := hRows)
    ∧ quiescent_RowsIdeal (hRowsIdeal := hRowsIdeal)
    ∧ quiescent_RowsReferenceIdeal (hRowsReferenceIdeal := hRowsReferenceIdeal)
    ∧ quiescent_EvenRows (hEvenRows := hEvenRows)
    ∧ quiescent_EvenRowsIdeal (hEvenRowsIdeal := hEvenRowsIdeal)
    ∧ quiescent_EvenRowsReferenceIdeal (hEvenRowsReferenceIdeal := hEvenRowsReferenceIdeal)
    ∧ quiescent_GluRows (hGluRows := hGluRows)
    ∧ quiescent_GluRowsIdeal (hGluRowsIdeal := hGluRowsIdeal)
    ∧ quiescent_GluRowsReferenceIdeal (hGluRowsReferenceIdeal := hGluRowsReferenceIdeal)
    ∧ quiescent_Output (hOutput := hOutput)
    ∧ quiescent_OutputIdeal (hOutputIdeal := hOutputIdeal)
    ∧ quiescent_OutputReferenceIdeal (hOutputReferenceIdeal := hOutputReferenceIdeal)
    ∧ quiescent_Gate (hGate := hGate)
    ∧ quiescent_GateIdeal (hGateIdeal := hGateIdeal)
    ∧ quiescent_GateIdeal_pre_gate_finite (hGateIdeal := hGateIdeal) (hPre_gate_finite := hPre_gate_finite)
    ∧ quiescent_GateReferenceIdeal (hGateReferenceIdeal := hGateReferenceIdeal)
    ∧ quiescent_GateReferenceIdeal_pre_gate_finite (hGateReferenceIdeal := hGateReferenceIdeal) (hPre_gate_finite := hPre_gate_finite)
    ∧ quiescent_ColumnsStep (hColumnsStep := hColumnsStep)
    ∧ quiescent_ColumnsStepIdeal (hColumnsStepIdeal := hColumnsStepIdeal)
    ∧ quiescent_ColumnsStepReferenceIdeal (hColumnsStepReferenceIdeal := hColumnsStepReferenceIdeal)
    ∧ quiescent_RowsStep (hRowsStep := hRowsStep)
    ∧ quiescent_RowsStepIdeal (hRowsStepIdeal := hRowsStepIdeal)
    ∧ quiescent_RowsStepReferenceIdeal (hRowsStepReferenceIdeal := hRowsStepReferenceIdeal)
    ∧ quiescent_GluStep (hGluStep := hGluStep)
    ∧ quiescent_GluStepIdeal (hGluStepIdeal := hGluStepIdeal)
    ∧ quiescent_GluStepReferenceIdeal (hGluStepReferenceIdeal := hGluStepReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Columns_ColumnsIdeal
    ∧ algebraic_ColumnsIdeal_ColumnsReferenceIdeal (hColumnsIdeal := hColumnsIdeal) (hColumnsReferenceIdeal := hColumnsReferenceIdeal)
    ∧ preserves_Input_InputIdeal
    ∧ algebraic_InputIdeal_InputReferenceIdeal_pre_input_finite (hInputIdeal := hInputIdeal) (hInputReferenceIdeal := hInputReferenceIdeal) (hPre_input_finite := hPre_input_finite)
    ∧ preserves_Projection_ProjectionIdeal
    ∧ algebraic_ProjectionIdeal_ProjectionReferenceIdeal (hProjectionIdeal := hProjectionIdeal) (hProjectionReferenceIdeal := hProjectionReferenceIdeal)
    ∧ preserves_FirstProjection_FirstProjectionIdeal
    ∧ algebraic_FirstProjectionIdeal_FirstProjectionReferenceIdeal (hFirstProjectionIdeal := hFirstProjectionIdeal) (hFirstProjectionReferenceIdeal := hFirstProjectionReferenceIdeal)
    ∧ preserves_Rows_RowsIdeal
    ∧ algebraic_RowsIdeal_RowsReferenceIdeal (hRowsIdeal := hRowsIdeal) (hRowsReferenceIdeal := hRowsReferenceIdeal)
    ∧ preserves_EvenRows_EvenRowsIdeal
    ∧ algebraic_EvenRowsIdeal_EvenRowsReferenceIdeal (hEvenRowsIdeal := hEvenRowsIdeal) (hEvenRowsReferenceIdeal := hEvenRowsReferenceIdeal)
    ∧ preserves_GluRows_GluRowsIdeal
    ∧ algebraic_GluRowsIdeal_GluRowsReferenceIdeal (hGluRowsIdeal := hGluRowsIdeal) (hGluRowsReferenceIdeal := hGluRowsReferenceIdeal)
    ∧ preserves_Output_OutputIdeal
    ∧ algebraic_OutputIdeal_OutputReferenceIdeal (hOutputIdeal := hOutputIdeal) (hOutputReferenceIdeal := hOutputReferenceIdeal)
    ∧ preserves_Gate_GateIdeal
    ∧ algebraic_GateIdeal_GateReferenceIdeal_pre_gate_finite (hGateIdeal := hGateIdeal) (hGateReferenceIdeal := hGateReferenceIdeal) (hPre_gate_finite := hPre_gate_finite)
    ∧ preserves_ColumnsStep_ColumnsStepIdeal
    ∧ algebraic_ColumnsStepIdeal_ColumnsStepReferenceIdeal (hColumnsStepIdeal := hColumnsStepIdeal) (hColumnsStepReferenceIdeal := hColumnsStepReferenceIdeal)
    ∧ preserves_RowsStep_RowsStepIdeal
    ∧ algebraic_RowsStepIdeal_RowsStepReferenceIdeal (hRowsStepIdeal := hRowsStepIdeal) (hRowsStepReferenceIdeal := hRowsStepReferenceIdeal)
    ∧ preserves_GluStep_GluStepIdeal
    ∧ algebraic_GluStepIdeal_GluStepReferenceIdeal (hGluStepIdeal := hGluStepIdeal) (hGluStepReferenceIdeal := hGluStepReferenceIdeal)
-- ==== Pre_finite.lean ====
abbrev S8192x6144 : Shape := ⟨2, ![8192, 6144]⟩
abbrev S8192x1024 : Shape := ⟨2, ![8192, 1024]⟩
abbrev S1x2048 : Shape := ⟨2, ![1, 2048]⟩
abbrev S4x128x128 : Shape := ⟨3, ![4, 128, 128]⟩
abbrev S4x128x1 : Shape := ⟨3, ![4, 128, 1]⟩
abbrev S2048x1024 : Shape := ⟨2, ![2048, 1024]⟩
abbrev S1x1024 : Shape := ⟨2, ![1, 1024]⟩
abbrev S_ : Shape := ⟨0, ![]⟩

class Facts : Prop where
  bcast_S_S8192x6144 : S_.BroadcastsInDim S8192x6144 (![] : Fin 0 → Fin S8192x6144.rank)
  reducesTo_S8192x6144_S_d0_1 : S8192x6144.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S1x2048 : S_.BroadcastsInDim S1x2048 (![] : Fin 0 → Fin S1x2048.rank)
  reducesTo_S1x2048_S_d0_1 : S1x2048.ReducesTo [0, 1] S_
  bcast_S_S4x128x128 : S_.BroadcastsInDim S4x128x128 (![] : Fin 0 → Fin S4x128x128.rank)
  reducesTo_S4x128x128_S_d0_1_2 : S4x128x128.ReducesTo [0, 1, 2] S_
  bcast_S_S4x128x1 : S_.BroadcastsInDim S4x128x1 (![] : Fin 0 → Fin S4x128x1.rank)
  reducesTo_S4x128x1_S_d0_1_2 : S4x128x1.ReducesTo [0, 1, 2] S_
  bitsLt_bf16_f32 : FTy.bits .bf16 < FTy.bits .f32
  bcast_S_S2048x1024 : S_.BroadcastsInDim S2048x1024 (![] : Fin 0 → Fin S2048x1024.rank)
  reducesTo_S2048x1024_S_d0_1 : S2048x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part2 {F : FTy → Type} [FloatOps F] (main_arg7 : FVec F S8192x1024 .f32) (main_v29 : IVec S_ 1) (main_v33 : IVec S_ 1) : IVec S_ 1 :=
  let main_v34 : IVec S_ 1 := andi main_v29 main_v33
  let main_v35 : FVec F S8192x1024 .f32 := Host.absf main_arg7
  let main_cst_12 : FVec F S_ .f32 := constant S_ .f32 0x7F800000#32
  let main_v36 : FVec F S8192x1024 .f32 := broadcastInDim S8192x1024 ![] bcast_S_S8192x1024 main_cst_12
  let main_v37 : IVec S8192x1024 1 := cmpf .olt main_v35 main_v36
  let main_c_13 : IVec S_ 1 := constantI S_ 1 1#1
  let main_v38 : IVec S_ 1 := (fun x v => Host.reduce IntOp.andi x v reducesTo_S8192x1024_S_d0_1 h_S_) main_v37 main_c_13
  let main_v39 : IVec S_ 1 := andi main_v34 main_v38
  main_v39

def fn_part1 {F : FTy → Type} [FloatOps F] (main_arg4 : FVec F S4x128x1 .f32) (main_arg5 : FVec F S2048x1024 .bf16) (main_arg6 : FVec F S1x1024 .f32) (main_arg7 : FVec F S8192x1024 .f32) (main_v13 : IVec S_ 1) (main_v16 : IVec S4x128x128 1) : IVec S_ 1 :=
  let main_c_5 : IVec S_ 1 := constantI S_ 1 1#1
  let main_v17 : IVec S_ 1 := (fun x v => Host.reduce IntOp.andi x v reducesTo_S4x128x128_S_d0_1_2 h_S_) main_v16 main_c_5
  let main_v18 : IVec S_ 1 := andi main_v13 main_v17
  let main_v19 : FVec F S4x128x1 .f32 := Host.absf main_arg4
  let main_cst_6 : FVec F S_ .f32 := constant S_ .f32 0x7F800000#32
  let main_v20 : FVec F S4x128x1 .f32 := broadcastInDim S4x128x1 ![] bcast_S_S4x128x1 main_cst_6
  let main_v21 : IVec S4x128x1 1 := cmpf .olt main_v19 main_v20
  let main_c_7 : IVec S_ 1 := constantI S_ 1 1#1
  let main_v22 : IVec S_ 1 := (fun x v => Host.reduce IntOp.andi x v reducesTo_S4x128x1_S_d0_1_2 h_S_) main_v21 main_c_7
  let main_v23 : IVec S_ 1 := andi main_v18 main_v22
  let main_v24 : FVec F S2048x1024 .f32 := (extf .f32 · bitsLt_bf16_f32) main_arg5
  let main_v25 : FVec F S2048x1024 .f32 := Host.absf main_v24
  let main_cst_8 : FVec F S_ .f32 := constant S_ .f32 0x7F800000#32
  let main_v26 : FVec F S2048x1024 .f32 := broadcastInDim S2048x1024 ![] bcast_S_S2048x1024 main_cst_8
  let main_v27 : IVec S2048x1024 1 := cmpf .olt main_v25 main_v26
  let main_c_9 : IVec S_ 1 := constantI S_ 1 1#1
  let main_v28 : IVec S_ 1 := (fun x v => Host.reduce IntOp.andi x v reducesTo_S2048x1024_S_d0_1 h_S_) main_v27 main_c_9
  let main_v29 : IVec S_ 1 := andi main_v23 main_v28
  let main_v30 : FVec F S1x1024 .f32 := Host.absf main_arg6
  let main_cst_10 : FVec F S_ .f32 := constant S_ .f32 0x7F800000#32
  let main_v31 : FVec F S1x1024 .f32 := broadcastInDim S1x1024 ![] bcast_S_S1x1024 main_cst_10
  let main_v32 : IVec S1x1024 1 := cmpf .olt main_v30 main_v31
  let main_c_11 : IVec S_ 1 := constantI S_ 1 1#1
  let main_v33 : IVec S_ 1 := (fun x v => Host.reduce IntOp.andi x v reducesTo_S1x1024_S_d0_1 h_S_) main_v32 main_c_11
  fn_part2 (F := F) main_arg7 main_v29 main_v33

def fn {F : FTy → Type} [FloatOps F] (main_arg0 : FVec F S8192x6144 .f32) (main_arg1 : FVec F S8192x1024 .f32) (main_arg2 : FVec F S1x2048 .f32) (main_arg3 : FVec F S4x128x128 .f32) (main_arg4 : FVec F S4x128x1 .f32) (main_arg5 : FVec F S2048x1024 .bf16) (main_arg6 : FVec F S1x1024 .f32) (main_arg7 : FVec F S8192x1024 .f32) : IVec S_ 1 :=
  let main_v0 : FVec F S8192x6144 .f32 := Host.absf main_arg0
  let main_cst : FVec F S_ .f32 := constant S_ .f32 0x7F800000#32
  let main_v1 : FVec F S8192x6144 .f32 := broadcastInDim S8192x6144 ![] bcast_S_S8192x6144 main_cst
  let main_v2 : IVec S8192x6144 1 := cmpf .olt main_v0 main_v1
  let main_c : IVec S_ 1 := constantI S_ 1 1#1
  let main_v3 : IVec S_ 1 := (fun x v => Host.reduce IntOp.andi x v reducesTo_S8192x6144_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S1x2048 .f32 := Host.absf main_arg2
  let main_cst_2 : FVec F S_ .f32 := constant S_ .f32 0x7F800000#32
  let main_v10 : FVec F S1x2048 .f32 := broadcastInDim S1x2048 ![] bcast_S_S1x2048 main_cst_2
  let main_v11 : IVec S1x2048 1 := cmpf .olt main_v9 main_v10
  let main_c_3 : IVec S_ 1 := constantI S_ 1 1#1
  let main_v12 : IVec S_ 1 := (fun x v => Host.reduce IntOp.andi x v reducesTo_S1x2048_S_d0_1 h_S_) main_v11 main_c_3
  let main_v13 : IVec S_ 1 := andi main_v8 main_v12
  let main_v14 : FVec F S4x128x128 .f32 := Host.absf main_arg3
  let main_cst_4 : FVec F S_ .f32 := constant S_ .f32 0x7F800000#32
  let main_v15 : FVec F S4x128x128 .f32 := broadcastInDim S4x128x128 ![] bcast_S_S4x128x128 main_cst_4
  let main_v16 : IVec S4x128x128 1 := cmpf .olt main_v14 main_v15
  fn_part1 (F := F) main_arg4 main_arg5 main_arg6 main_arg7 main_v13 main_v16
-- ==== Pre_gate_finite.lean ====
abbrev S8x8192x128 : Shape := ⟨3, ![8, 8192, 128]⟩
abbrev S8192x6144 : Shape := ⟨2, ![8192, 6144]⟩
abbrev S8192x1024 : Shape := ⟨2, ![8192, 1024]⟩
abbrev S2048x1024 : Shape := ⟨2, ![2048, 1024]⟩
abbrev S1024x1024 : Shape := ⟨2, ![1024, 1024]⟩
abbrev S1x1024 : Shape := ⟨2, ![1, 1024]⟩
abbrev S_ : Shape := ⟨0, ![]⟩

class Facts : Prop where
  bcast_S_S8x8192x128 : S_.BroadcastsInDim S8x8192x128 (![] : Fin 0 → Fin S8x8192x128.rank)
  reducesTo_S8x8192x128_S_d0_1_2 : S8x8192x128.ReducesTo [0, 1, 2] S_
  h_S_ : 0 < S_.numel
  bcast_S_S8192x6144 : S_.BroadcastsInDim S8192x6144 (![] : Fin 0 → Fin S8192x6144.rank)
  reducesTo_S8192x6144_S_d0_1 : S8192x6144.ReducesTo [0, 1] S_
  bcast_S_S8192x1024 : S_.BroadcastsInDim S8192x1024 (![] : Fin 0 → Fin S8192x1024.rank)
  reducesTo_S8192x1024_S_d0_1 : S8192x1024.ReducesTo [0, 1] S_
  bitsLt_bf16_f32 : FTy.bits .bf16 < FTy.bits .f32
  bcast_S_S2048x1024 : S_.BroadcastsInDim S2048x1024 (![] : Fin 0 → Fin S2048x1024.rank)
  reducesTo_S2048x1024_S_d0_1 : S2048x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S1024x1024 .bf16) (main_arg5 : FVec F S1x1024 .f32) (main_v13 : IVec S_ 1) (main_v15 : FVec F S2048x1024 .f32) (main_v16 : FVec F S2048x1024 .f32) : IVec S_ 1 :=
  let main_v17 : IVec S2048x1024 1 := cmpf .olt main_v15 main_v16
  let main_c_5 : IVec S_ 1 := constantI S_ 1 1#1
  let main_v18 : IVec S_ 1 := (fun x v => Host.reduce IntOp.andi x v reducesTo_S2048x1024_S_d0_1 h_S_) main_v17 main_c_5
  let main_v19 : IVec S_ 1 := andi main_v13 main_v18
  let main_v20 : FVec F S1024x1024 .f32 := (extf .f32 · bitsLt_bf16_f32) main_arg4
  let main_v21 : FVec F S1024x1024 .f32 := Host.absf main_v20
  let main_cst_6 : FVec F S_ .f32 := constant S_ .f32 0x7F800000#32
  let main_v22 : FVec F S1024x1024 .f32 := broadcastInDim S1024x1024 ![] bcast_S_S1024x1024 main_cst_6
  let main_v23 : IVec S1024x1024 1 := cmpf .olt main_v21 main_v22
  let main_c_7 : IVec S_ 1 := constantI S_ 1 1#1
  let main_v24 : IVec S_ 1 := (fun x v => Host.reduce IntOp.andi x v reducesTo_S1024x1024_S_d0_1 h_S_) main_v23 main_c_7
  let main_v25 : IVec S_ 1 := andi main_v19 main_v24
  let main_v26 : FVec F S1x1024 .f32 := Host.absf main_arg5
  let main_cst_8 : FVec F S_ .f32 := constant S_ .f32 0x7F800000#32
  let main_v27 : FVec F S1x1024 .f32 := broadcastInDim S1x1024 ![] bcast_S_S1x1024 main_cst_8
  let main_v28 : IVec S1x1024 1 := cmpf .olt main_v26 main_v27
  let main_c_9 : IVec S_ 1 := constantI S_ 1 1#1
  let main_v29 : IVec S_ 1 := (fun x v => Host.reduce IntOp.andi x v reducesTo_S1x1024_S_d0_1 h_S_) main_v28 main_c_9
  let main_v30 : IVec S_ 1 := andi main_v25 main_v29
  main_v30

def fn {F : FTy → Type} [FloatOps F] (main_arg0 : FVec F S8x8192x128 .f32) (main_arg1 : FVec F S8192x6144 .f32) (main_arg2 : FVec F S8192x1024 .f32) (main_arg3 : FVec F S2048x1024 .bf16) (main_arg4 : FVec F S1024x1024 .bf16) (main_arg5 : FVec F S1x1024 .f32) : IVec S_ 1 :=
  let main_v0 : FVec F S8x8192x128 .f32 := Host.absf main_arg0
  let main_cst : FVec F S_ .f32 := constant S_ .f32 0x7F800000#32
  let main_v1 : FVec F S8x8192x128 .f32 := broadcastInDim S8x8192x128 ![] bcast_S_S8x8192x128 main_cst
  let main_v2 : IVec S8x8192x128 1 := cmpf .olt main_v0 main_v1
  let main_c : IVec S_ 1 := constantI S_ 1 1#1
  let main_v3 : IVec S_ 1 := (fun x v => Host.reduce IntOp.andi x v reducesTo_S8x8192x128_S_d0_1_2 h_S_) main_v2 main_c
  let main_v4 : FVec F S8192x6144 .f32 := Host.absf main_arg1
  let main_cst_0 : FVec F S_ .f32 := constant S_ .f32 0x7F800000#32
  let main_v5 : FVec F S8192x6144 .f32 := broadcastInDim S8192x6144 ![] bcast_S_S8192x6144 main_cst_0
  let main_v6 : IVec S8192x6144 1 := cmpf .olt main_v4 main_v5
  let main_c_1 : IVec S_ 1 := constantI S_ 1 1#1
  let main_v7 : IVec S_ 1 := (fun x v => Host.reduce IntOp.andi x v reducesTo_S8192x6144_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S2048x1024 .f32 := (extf .f32 · bitsLt_bf16_f32) main_arg3
  let main_v15 : FVec F S2048x1024 .f32 := Host.absf main_v14
  let main_cst_4 : FVec F S_ .f32 := constant S_ .f32 0x7F800000#32
  let main_v16 : FVec F S2048x1024 .f32 := broadcastInDim S2048x1024 ![] bcast_S_S2048x1024 main_cst_4
  fn_part1 (F := F) main_arg4 main_arg5 main_v13 main_v15 main_v16
-- ==== Pre_input_finite.lean ====
abbrev S8192x6144 : Shape := ⟨2, ![8192, 6144]⟩
abbrev S8192x1024 : Shape := ⟨2, ![8192, 1024]⟩
abbrev S1x1024 : Shape := ⟨2, ![1, 1024]⟩
abbrev S8x1024x768 : Shape := ⟨3, ![8, 1024, 768]⟩
abbrev S_ : Shape := ⟨0, ![]⟩

class Facts : Prop where
  bitsLt_bf16_f32 : FTy.bits .bf16 < FTy.bits .f32
  bcast_S_S8192x6144 : S_.BroadcastsInDim S8192x6144 (![] : Fin 0 → Fin S8192x6144.rank)
  reducesTo_S8192x6144_S_d0_1 : S8192x6144.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S8x1024x768 : S_.BroadcastsInDim S8x1024x768 (![] : Fin 0 → Fin S8x1024x768.rank)
  reducesTo_S8x1024x768_S_d0_1_2 : S8x1024x768.ReducesTo [0, 1, 2] S_

variable [Facts]

def fn_part1 {F : FTy → Type} [FloatOps F] (main_arg4 : FVec F S8192x1024 .f32) (main_v14 : IVec S_ 1) (main_v16 : FVec F S8x1024x768 .f32) (main_cst_4 : FVec F S_ .f32) : IVec S_ 1 :=
  let main_v17 : FVec F S8x1024x768 .f32 := broadcastInDim S8x1024x768 ![] bcast_S_S8x1024x768 main_cst_4
  let main_v18 : IVec S8x1024x768 1 := cmpf .olt main_v16 main_v17
  let main_c_5 : IVec S_ 1 := constantI S_ 1 1#1
  let main_v19 : IVec S_ 1 := (fun x v => Host.reduce IntOp.andi x v reducesTo_S8x1024x768_S_d0_1_2 h_S_) main_v18 main_c_5
  let main_v20 : IVec S_ 1 := andi main_v14 main_v19
  let main_v21 : FVec F S8192x1024 .f32 := Host.absf main_arg4
  let main_cst_6 : FVec F S_ .f32 := constant S_ .f32 0x7F800000#32
  let main_v22 : FVec F S8192x1024 .f32 := broadcastInDim S8192x1024 ![] bcast_S_S8192x1024 main_cst_6
  let main_v23 : IVec S8192x1024 1 := cmpf .olt main_v21 main_v22
  let main_c_7 : IVec S_ 1 := constantI S_ 1 1#1
  let main_v24 : IVec S_ 1 := (fun x v => Host.reduce IntOp.andi x v reducesTo_S8192x1024_S_d0_1 h_S_) main_v23 main_c_7
  let main_v25 : IVec S_ 1 := andi main_v20 main_v24
  main_v25

def fn {F : FTy → Type} [FloatOps F] (main_arg0 : FVec F S8192x6144 .bf16) (main_arg1 : FVec F S8192x1024 .f32) (main_arg2 : FVec F S1x1024 .f32) (main_arg3 : FVec F S8x1024x768 .bf16) (main_arg4 : FVec F S8192x1024 .f32) : IVec S_ 1 :=
  let main_v0 : FVec F S8192x6144 .f32 := (extf .f32 · bitsLt_bf16_f32) main_arg0
  let main_v1 : FVec F S8192x6144 .f32 := Host.absf main_v0
  let main_cst : FVec F S_ .f32 := constant S_ .f32 0x7F800000#32
  let main_v2 : FVec F S8192x6144 .f32 := broadcastInDim S8192x6144 ![] bcast_S_S8192x6144 main_cst
  let main_v3 : IVec S8192x6144 1 := cmpf .olt main_v1 main_v2
  let main_c : IVec S_ 1 := constantI S_ 1 1#1
  let main_v4 : IVec S_ 1 := (fun x v => Host.reduce IntOp.andi x v reducesTo_S8192x6144_S_d0_1 h_S_) main_v3 main_c
  let main_v5 : FVec F S8192x1024 .f32 := Host.absf main_arg1
  let main_cst_0 : FVec F S_ .f32 := constant S_ .f32 0x7F800000#32
  let main_v6 : FVec F S8192x1024 .f32 := broadcastInDim S8192x1024 ![] bcast_S_S8192x1024 main_cst_0
  let main_v7 : IVec S8192x1024 1 := cmpf .olt main_v5 main_v6
  let main_c_1 : IVec S_ 1 := constantI S_ 1 1#1
  let main_v8 : IVec S_ 1 := (fun x v => Host.reduce IntOp.andi x v reducesTo_S8192x1024_S_d0_1 h_S_) main_v7 main_c_1
  let main_v9 : IVec S_ 1 := andi main_v4 main_v8
  let main_v10 : FVec F S1x1024 .f32 := Host.absf main_arg2
  let main_cst_2 : FVec F S_ .f32 := constant S_ .f32 0x7F800000#32
  let main_v11 : FVec F S1x1024 .f32 := broadcastInDim S1x1024 ![] bcast_S_S1x1024 main_cst_2
  let main_v12 : IVec S1x1024 1 := cmpf .olt main_v10 main_v11
  let main_c_3 : IVec S_ 1 := constantI S_ 1 1#1
  let main_v13 : IVec S_ 1 := (fun x v => Host.reduce IntOp.andi x v reducesTo_S1x1024_S_d0_1 h_S_) main_v12 main_c_3
  let main_v14 : IVec S_ 1 := andi main_v9 main_v13
  let main_v15 : FVec F S8x1024x768 .f32 := (extf .f32 · bitsLt_bf16_f32) main_arg3
  let main_v16 : FVec F S8x1024x768 .f32 := Host.absf main_v15
  let main_cst_4 : FVec F S_ .f32 := constant S_ .f32 0x7F800000#32
  fn_part1 (F := F) main_arg4 main_v14 main_v16 main_cst_4
-- ==== Kernel.lean ====
abbrev S8192x6144 : Shape := ⟨2, ![8192, 6144]⟩
abbrev S8192x1024 : Shape := ⟨2, ![8192, 1024]⟩
abbrev S1x2048 : Shape := ⟨2, ![1, 2048]⟩
abbrev S4x128x128 : Shape := ⟨3, ![4, 128, 128]⟩
abbrev S4x128x1 : Shape := ⟨3, ![4, 128, 1]⟩
abbrev S2048x1024 : Shape := ⟨2, ![2048, 1024]⟩
abbrev S1x1024 : Shape := ⟨2, ![1, 1024]⟩
abbrev S8192x2048 : Shape := ⟨2, ![8192, 2048]⟩
abbrev S1x128 : Shape := ⟨2, ![1, 128]⟩
abbrev S256x6144 : Shape := ⟨2, ![256, 6144]⟩
abbrev S256x1024 : Shape := ⟨2, ![256, 1024]⟩
abbrev S256x2048 : Shape := ⟨2, ![256, 2048]⟩
abbrev S128x6144 : Shape := ⟨2, ![128, 6144]⟩
abbrev S128x2048 : Shape := ⟨2, ![128, 2048]⟩
abbrev S128 : Shape := ⟨1, ![128]⟩
abbrev S128x1 : Shape := ⟨2, ![128, 1]⟩
abbrev S128x128 : Shape := ⟨2, ![128, 128]⟩
abbrev S1x128x128 : Shape := ⟨3, ![1, 128, 128]⟩
abbrev S128x512 : Shape := ⟨2, ![128, 512]⟩
abbrev S1x128x1 : Shape := ⟨3, ![1, 128, 1]⟩
abbrev S256 : Shape := ⟨1, ![256]⟩
abbrev S256x1 : Shape := ⟨2, ![256, 1]⟩
abbrev S1 : Shape := ⟨1, ![1]⟩
abbrev S1x1 : Shape := ⟨2, ![1, 1]⟩
abbrev S1024 : Shape := ⟨1, ![1024]⟩
abbrev S2048 : Shape := ⟨1, ![2048]⟩

abbrev nBuf : Space → Nat
  | .hbm => 16
  | .vmem => 22
  | .smem => 0
  | _ => 0

abbrev bufTy : (tb : Table) → Fin (tcTables nBuf tb) → BufTy
  | .hbm, ⟨0, _⟩ => ⟨S8192x6144, .f32⟩
  | .hbm, ⟨1, _⟩ => ⟨S8192x1024, .f32⟩
  | .hbm, ⟨2, _⟩ => ⟨S1x2048, .f32⟩
  | .hbm, ⟨3, _⟩ => ⟨S4x128x128, .f32⟩
  | .hbm, ⟨4, _⟩ => ⟨S4x128x1, .f32⟩
  | .hbm, ⟨5, _⟩ => ⟨S2048x1024, .bf16⟩
  | .hbm, ⟨6, _⟩ => ⟨S1x1024, .f32⟩
  | .hbm, ⟨7, _⟩ => ⟨S8192x1024, .f32⟩
  | .hbm, ⟨8, _⟩ => ⟨S8192x6144, .bf16⟩
  | .hbm, ⟨9, _⟩ => ⟨S8192x2048, .bf16⟩
  | .hbm, ⟨10, _⟩ => ⟨S8192x1024, .f32⟩
  | .hbm, ⟨11, _⟩ => ⟨S1x2048, .f32⟩
  | .hbm, ⟨12, _⟩ => ⟨S4x128x128, .f32⟩
  | .hbm, ⟨13, _⟩ => ⟨S4x128x1, .f32⟩
  | .hbm, ⟨14, _⟩ => ⟨S1x1024, .f32⟩
  | .hbm, ⟨15, _⟩ => ⟨S1x128, .f32⟩
  | .local _ .vmem, ⟨0, _⟩ => ⟨S256x6144, .f32⟩
  | .local _ .vmem, ⟨1, _⟩ => ⟨S256x6144, .f32⟩
  | .local _ .vmem, ⟨2, _⟩ => ⟨S256x1024, .f32⟩
  | .local _ .vmem, ⟨3, _⟩ => ⟨S256x1024, .f32⟩
  | .local _ .vmem, ⟨4, _⟩ => ⟨S1x2048, .f32⟩
  | .local _ .vmem, ⟨5, _⟩ => ⟨S4x128x128, .f32⟩
  | .local _ .vmem, ⟨6, _⟩ => ⟨S4x128x1, .f32⟩
  | .local _ .vmem, ⟨7, _⟩ => ⟨S2048x1024, .bf16⟩
  | .local _ .vmem, ⟨8, _⟩ => ⟨S1x1024, .f32⟩
  | .local _ .vmem, ⟨9, _⟩ => ⟨S256x1024, .f32⟩
  | .local _ .vmem, ⟨10, _⟩ => ⟨S256x1024, .f32⟩
  | .local _ .vmem, ⟨11, _⟩ => ⟨S256x6144, .bf16⟩
  | .local _ .vmem, ⟨12, _⟩ => ⟨S256x6144, .bf16⟩
  | .local _ .vmem, ⟨13, _⟩ => ⟨S256x2048, .bf16⟩
  | .local _ .vmem, ⟨14, _⟩ => ⟨S256x2048, .bf16⟩
  | .local _ .vmem, ⟨15, _⟩ => ⟨S256x1024, .f32⟩
  | .local _ .vmem, ⟨16, _⟩ => ⟨S256x1024, .f32⟩
  | .local _ .vmem, ⟨17, _⟩ => ⟨S1x2048, .f32⟩
  | .local _ .vmem, ⟨18, _⟩ => ⟨S4x128x128, .f32⟩
  | .local _ .vmem, ⟨19, _⟩ => ⟨S4x128x1, .f32⟩
  | .local _ .vmem, ⟨20, _⟩ => ⟨S1x1024, .f32⟩
  | .local _ .vmem, ⟨21, _⟩ => ⟨S1x128, .f32⟩
  | _, _ => ⟨S8192x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev main_v0_6 : Ref sig .tc := ⟨.hbm, 14, rfl⟩
abbrev main_v0_7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x6144 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x6144 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4x128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S4x128x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== KernelIdeal.lean ====
variable {F : FTy → Type} [FloatOps F] [Named F]
def κ : String → Option EReal := fun
  | "gelu_3a" => some ((26829 / 200000 : ℝ) : EReal)
  | "gelu_a" => some ((8943 / 200000 : ℝ) : EReal)
  | _ => none
-- ==== ReferenceIdeal.lean ====
abbrev S8192x6144 : Shape := ⟨2, ![8192, 6144]⟩
abbrev S8192x1024 : Shape := ⟨2, ![8192, 1024]⟩
abbrev S1x2048 : Shape := ⟨2, ![1, 2048]⟩
abbrev S4x128x128 : Shape := ⟨3, ![4, 128, 128]⟩
abbrev S4x128x1 : Shape := ⟨3, ![4, 128, 1]⟩
abbrev S2048x1024 : Shape := ⟨2, ![2048, 1024]⟩
abbrev S1x1024 : Shape := ⟨2, ![1, 1024]⟩
abbrev S2048 : Shape := ⟨1, ![2048]⟩
abbrev S4x128 : Shape := ⟨2, ![4, 128]⟩
abbrev S1024 : Shape := ⟨1, ![1024]⟩
abbrev S8192x4096 : Shape := ⟨2, ![8192, 4096]⟩
abbrev S_ : Shape := ⟨0, ![]⟩
abbrev S8192x2048 : Shape := ⟨2, ![8192, 2048]⟩
abbrev S8192 : Shape := ⟨1, ![8192]⟩
abbrev S8192x1 : Shape := ⟨2, ![8192, 1]⟩
abbrev S64x128x4x512 : Shape := ⟨4, ![64, 128, 4, 512]⟩
abbrev S128x128 : Shape := ⟨2, ![128, 128]⟩
abbrev S1x128x128 : Shape := ⟨3, ![1, 128, 128]⟩
abbrev S4x64x512x128 : Shape := ⟨4, ![4, 64, 512, 128]⟩
abbrev S128x4 : Shape := ⟨2, ![128, 4]⟩
abbrev S1x128x4x1 : Shape := ⟨4, ![1, 128, 4, 1]⟩
abbrev S1x128 : Shape := ⟨2, ![1, 128]⟩

abbrev nBuf : Space → Nat
  | .hbm => 284
  | .vmem => 0
  | .smem => 0
  | _ => 0

abbrev hbmTy0_0 (i : Nat) : BufTy := match i % 128 with
  | 0 => ⟨S8192x6144, .f32⟩
  | 1 => ⟨S8192x1024, .f32⟩
  | 2 => ⟨S1x2048, .f32⟩
  | 3 => ⟨S4x128x128, .f32⟩
  | 4 => ⟨S4x128x1, .f32⟩
  | 5 => ⟨S2048x1024, .bf16⟩
  | 6 => ⟨S1x1024, .f32⟩
  | 7 => ⟨S8192x1024, .f32⟩
  | 8 => ⟨S2048, .f32⟩
  | 9 => ⟨S4x128, .f32⟩
  | 10 => ⟨S1024, .f32⟩
  | 11 => ⟨S2048x1024, .f32⟩
  | 12 => ⟨S8192x4096, .f32⟩
  | 13 => ⟨S_, .f32⟩
  | 14 => ⟨S_, .f32⟩
  | 15 => ⟨S_, .f32⟩
  | 16 => ⟨S8192x4096, .f32⟩
  | 17 => ⟨S8192x4096, .f32⟩
  | 18 => ⟨S8192x4096, .f32⟩
  | 19 => ⟨S_, .f32⟩
  | 20 => ⟨S8192x4096, .f32⟩
  | 21 => ⟨S8192x4096, .f32⟩
  | 22 => ⟨S8192x4096, .f32⟩
  | 23 => ⟨S8192x4096, .f32⟩
  | 24 => ⟨S8192x4096, .f32⟩
  | 25 => ⟨S_, .f32⟩
  | 26 => ⟨S8192x4096, .f32⟩
  | 27 => ⟨S8192x4096, .f32⟩
  | 28 => ⟨S8192x4096, .f32⟩
  | 29 => ⟨S_, .f32⟩
  | 30 => ⟨S8192x4096, .f32⟩
  | 31 => ⟨S8192x4096, .f32⟩
  | 32 => ⟨S_, .f32⟩
  | 33 => ⟨S8192x4096, .f32⟩
  | 34 => ⟨S8192x4096, .f32⟩
  | 35 => ⟨S8192x4096, .f32⟩
  | 36 => ⟨S_, .f32⟩
  | 37 => ⟨S8192x4096, .f32⟩
  | 38 => ⟨S8192x4096, .f32⟩
  | 39 => ⟨S_, .f32⟩
  | 40 => ⟨S8192x4096, .f32⟩
  | 41 => ⟨S8192x4096, .f32⟩
  | 42 => ⟨S8192x4096, .f32⟩
  | 43 => ⟨S8192x2048, .f32⟩
  | 44 => ⟨S8192x2048, .f32⟩
  | 45 => ⟨S8192x2048, .f32⟩
  | 46 => ⟨S_, .f32⟩
  | 47 => ⟨S8192, .f32⟩
  | 48 => ⟨S8192x1, .f32⟩
  | 49 => ⟨S_, .f32⟩
  | 50 => ⟨S8192x1, .f32⟩
  | 51 => ⟨S8192x1, .f32⟩
  | 52 => ⟨S8192x2048, .f32⟩
  | 53 => ⟨S8192x2048, .f32⟩
  | 54 => ⟨S8192x2048, .f32⟩
  | 55 => ⟨S_, .f32⟩
  | 56 => ⟨S8192x2048, .f32⟩
  | 57 => ⟨S8192x2048, .f32⟩
  | 58 => ⟨S_, .f32⟩
  | 59 => ⟨S8192, .f32⟩
  | 60 => ⟨S8192x1, .f32⟩
  | 61 => ⟨S_, .f32⟩
  | 62 => ⟨S8192x1, .f32⟩
  | 63 => ⟨S8192x1, .f32⟩
  | 64 => ⟨S8192x2048, .f32⟩
  | 65 => ⟨S8192x2048, .f32⟩
  | 66 => ⟨S_, .f32⟩
  | 67 => ⟨S8192x1, .f32⟩
  | 68 => ⟨S8192x1, .f32⟩
  | 69 => ⟨S8192x1, .f32⟩
  | 70 => ⟨S8192x1, .f32⟩
  | 71 => ⟨S_, .f32⟩
  | 72 => ⟨S8192x1, .f32⟩
  | 73 => ⟨S8192x1, .f32⟩
  | 74 => ⟨S8192x2048, .f32⟩
  | 75 => ⟨S8192x2048, .f32⟩
  | 76 => ⟨S1x2048, .f32⟩
  | 77 => ⟨S8192x2048, .f32⟩
  | 78 => ⟨S8192x2048, .f32⟩
  | 79 => ⟨S64x128x4x512, .f32⟩
  | 80 => ⟨S_, .i1⟩
  | 81 => ⟨S128x128, .i1⟩
  | 82 => ⟨S128x128, .i32⟩
  | 83 => ⟨S_, .i32⟩
  | 84 => ⟨S128x128, .i32⟩
  | 85 => ⟨S128x128, .i32⟩
  | 86 => ⟨S128x128, .i32⟩
  | 87 => ⟨S128x128, .i1⟩
  | 88 => ⟨S_, .i1⟩
  | 89 => ⟨S128x128, .i1⟩
  | 90 => ⟨S128x128, .i1⟩
  | 91 => ⟨S1x128x128, .i1⟩
  | 92 => ⟨S_, .f32⟩
  | 93 => ⟨S_, .f32⟩
  | 94 => ⟨S4x128x128, .i1⟩
  | 95 => ⟨S4x128x128, .f32⟩
  | 96 => ⟨S4x128x128, .f32⟩
  | 97 => ⟨S_, .f32⟩
  | 98 => ⟨S4x128x128, .f32⟩
  | 99 => ⟨S4x64x512x128, .f32⟩
  | 100 => ⟨S64x128x4x512, .f32⟩
  | 101 => ⟨S128x4, .f32⟩
  | 102 => ⟨S1x128x4x1, .f32⟩
  | 103 => ⟨S64x128x4x512, .f32⟩
  | 104 => ⟨S64x128x4x512, .f32⟩
  | 105 => ⟨S8192x2048, .f32⟩
  | 106 => ⟨S8192x2048, .f32⟩
  | 107 => ⟨S8192x2048, .f32⟩
  | 108 => ⟨S8192x2048, .f32⟩
  | 109 => ⟨S_, .f32⟩
  | 110 => ⟨S8192x2048, .f32⟩
  | 111 => ⟨S8192x2048, .f32⟩
  | 112 => ⟨S_, .f32⟩
  | 113 => ⟨S8192x2048, .f32⟩
  | 114 => ⟨S8192x2048, .f32⟩
  | 115 => ⟨S_, .f32⟩
  | 116 => ⟨S8192x2048, .f32⟩
  | 117 => ⟨S8192x2048, .f32⟩
  | 118 => ⟨S8192x2048, .f32⟩
  | 119 => ⟨S8192x2048, .f32⟩
  | 120 => ⟨S8192x2048, .f32⟩
  | 121 => ⟨S8192x1024, .f32⟩
  | 122 => ⟨S8192x1024, .f32⟩
  | 123 => ⟨S8192x1024, .f32⟩
  | 124 => ⟨S_, .f32⟩
  | 125 => ⟨S8192, .f32⟩
  | 126 => ⟨S8192x1, .f32⟩
  | 127 => ⟨S_, .f32⟩
  | _ => ⟨S8192x6144, .f32⟩

abbrev hbmTy0_1 (i : Nat) : BufTy := match i % 128 with
  | 0 => ⟨S8192x1, .f32⟩
  | 1 => ⟨S8192x1, .f32⟩
  | 2 => ⟨S_, .f32⟩
  | 3 => ⟨S8192x1, .f32⟩
  | 4 => ⟨S8192x1, .f32⟩
  | 5 => ⟨S8192x1, .f32⟩
  | 6 => ⟨S8192x1, .f32⟩
  | 7 => ⟨S_, .f32⟩
  | 8 => ⟨S8192x1, .f32⟩
  | 9 => ⟨S8192x1, .f32⟩
  | 10 => ⟨S8192x1024, .f32⟩
  | 11 => ⟨S8192x1024, .f32⟩
  | 12 => ⟨S1x1024, .f32⟩
  | 13 => ⟨S8192x1024, .f32⟩
  | 14 => ⟨S8192x1024, .f32⟩
  | 15 => ⟨S8192x1024, .f32⟩
  | 16 => ⟨S8192x1024, .f32⟩
  | 17 => ⟨S_, .f32⟩
  | 18 => ⟨S8192x1024, .f32⟩
  | 19 => ⟨S8192x1024, .f32⟩
  | 20 => ⟨S_, .f32⟩
  | 21 => ⟨S8192, .f32⟩
  | 22 => ⟨S_, .f32⟩
  | 23 => ⟨S8192, .f32⟩
  | 24 => ⟨S8192, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S8192, .f32⟩
  | 33 => ⟨S_, .f32⟩
  | 34 => ⟨S8192, .f32⟩
  | 35 => ⟨S8192, .f32⟩
  | 36 => ⟨S8192x1024, .f32⟩
  | 37 => ⟨S8192x1024, .f32⟩
  | 38 => ⟨S8192x1024, .f32⟩
  | 39 => ⟨S_, .f32⟩
  | 40 => ⟨S1024, .f32⟩
  | 41 => ⟨S1x1024, .f32⟩
  | 42 => ⟨S8192x1024, .f32⟩
  | 43 => ⟨S8192x1024, .f32⟩
  | 44 => ⟨S_, .f32⟩
  | 45 => ⟨S1024, .f32⟩
  | 46 => ⟨S8192x1024, .f32⟩
  | 47 => ⟨S_, .f32⟩
  | 48 => ⟨S8192, .f32⟩
  | 49 => ⟨S8192x1, .f32⟩
  | 50 => ⟨S8192x1024, .f32⟩
  | 51 => ⟨S8192x1024, .f32⟩
  | 52 => ⟨S8192x1, .f32⟩
  | 53 => ⟨S_, .f32⟩
  | 54 => ⟨S8192x1, .f32⟩
  | 55 => ⟨S8192x1, .f32⟩
  | 56 => ⟨S_, .f32⟩
  | 57 => ⟨S8192, .f32⟩
  | 58 => ⟨S8192x1024, .f32⟩
  | 59 => ⟨S8192x1024, .f32⟩
  | 60 => ⟨S8192x1024, .f32⟩
  | 61 => ⟨S8192x1024, .f32⟩
  | 62 => ⟨S8192x1024, .f32⟩
  | 63 => ⟨S8192x2048, .f32⟩
  | 64 => ⟨S8192x2048, .f32⟩
  | 65 => ⟨S8192x2048, .f32⟩
  | 66 => ⟨S8192x2048, .f32⟩
  | 67 => ⟨S8192x2048, .f32⟩
  | 68 => ⟨S8192x2048, .f32⟩
  | 69 => ⟨S8192x2048, .f32⟩
  | 70 => ⟨S8192x2048, .f32⟩
  | 71 => ⟨S8192x2048, .f32⟩
  | 72 => ⟨S64x128x4x512, .f32⟩
  | 73 => ⟨S_, .f32⟩
  | 74 => ⟨S128x4, .f32⟩
  | 75 => ⟨S1x128x4x1, .f32⟩
  | 76 => ⟨S_, .f32⟩
  | 77 => ⟨S128x4, .f32⟩
  | 78 => ⟨S4x128, .f32⟩
  | 79 => ⟨S4x64x512x128, .f32⟩
  | 80 => ⟨S4x128x128, .f32⟩
  | 81 => ⟨S4x64x512x128, .f32⟩
  | 82 => ⟨S64x128x4x512, .f32⟩
  | 83 => ⟨S_, .f32⟩
  | 84 => ⟨S4x128x128, .f32⟩
  | 85 => ⟨S4x128x128, .f32⟩
  | 86 => ⟨S8192x2048, .f32⟩
  | 87 => ⟨S8192x2048, .f32⟩
  | 88 => ⟨S_, .f32⟩
  | 89 => ⟨S2048, .f32⟩
  | 90 => ⟨S1x2048, .f32⟩
  | 91 => ⟨S8192x2048, .f32⟩
  | 92 => ⟨S8192x2048, .f32⟩
  | 93 => ⟨S_, .f32⟩
  | 94 => ⟨S2048, .f32⟩
  | 95 => ⟨S8192x2048, .f32⟩
  | 96 => ⟨S_, .f32⟩
  | 97 => ⟨S8192, .f32⟩
  | 98 => ⟨S8192x1, .f32⟩
  | 99 => ⟨S8192x2048, .f32⟩
  | 100 => ⟨S8192x2048, .f32⟩
  | 101 => ⟨S8192x1, .f32⟩
  | 102 => ⟨S8192x2048, .f32⟩
  | 103 => ⟨S_, .f32⟩
  | 104 => ⟨S8192, .f32⟩
  | 105 => ⟨S8192x1, .f32⟩
  | 106 => ⟨S_, .f32⟩
  | 107 => ⟨S8192x1, .f32⟩
  | 108 => ⟨S8192x1, .f32⟩
  | 109 => ⟨S_, .f32⟩
  | 110 => ⟨S8192, .f32⟩
  | 111 => ⟨S8192x2048, .f32⟩
  | 112 => ⟨S8192x2048, .f32⟩
  | 113 => ⟨S8192x2048, .f32⟩
  | 114 => ⟨S_, .f32⟩
  | 115 => ⟨S8192, .f32⟩
  | 116 => ⟨S8192x1, .f32⟩
  | 117 => ⟨S8192x2048, .f32⟩
  | 118 => ⟨S8192x1, .f32⟩
  | 119 => ⟨S_, .f32⟩
  | 120 => ⟨S8192x1, .f32⟩
  | 121 => ⟨S8192x1, .f32⟩
  | 122 => ⟨S_, .f32⟩
  | 123 => ⟨S8192, .f32⟩
  | 124 => ⟨S8192x2048, .f32⟩
  | 125 => ⟨S8192x2048, .f32⟩
  | 126 => ⟨S_, .f32⟩
  | 127 => ⟨S8192x4096, .f32⟩
  | _ => ⟨S8192x6144, .f32⟩

abbrev hbmTy0_2 (i : Nat) : BufTy := match i % 128 with
  | 0 => ⟨S_, .f32⟩
  | 1 => ⟨S8192x4096, .f32⟩
  | 2 => ⟨S8192x4096, .f32⟩
  | 3 => ⟨S_, .f32⟩
  | 4 => ⟨S8192x6144, .f32⟩
  | 5 => ⟨S8192x4096, .f32⟩
  | 6 => ⟨S8192x4096, .f32⟩
  | 7 => ⟨S_, .f32⟩
  | 8 => ⟨S8192x4096, .f32⟩
  | 9 => ⟨S8192x4096, .f32⟩
  | 10 => ⟨S8192x4096, .f32⟩
  | 11 => ⟨S_, .f32⟩
  | 12 => ⟨S8192x4096, .f32⟩
  | 13 => ⟨S8192x4096, .f32⟩
  | 14 => ⟨S8192x4096, .f32⟩
  | 15 => ⟨S8192x4096, .f32⟩
  | 16 => ⟨S8192x4096, .f32⟩
  | 17 => ⟨S8192x4096, .f32⟩
  | 18 => ⟨S8192x4096, .f32⟩
  | 19 => ⟨S_, .f32⟩
  | 20 => ⟨S8192x6144, .f32⟩
  | 21 => ⟨S8192x6144, .f32⟩
  | 22 => ⟨S1x1024, .f32⟩
  | 23 => ⟨S4x128x1, .f32⟩
  | 24 => ⟨S1x2048, .f32⟩
  | 25 => ⟨S8192x6144, .bf16⟩
  | 26 => ⟨S8192x2048, .bf16⟩
  | 27 => ⟨S1x128, .f32⟩
  | _ => ⟨S8192x6144, .f32⟩

abbrev hbmTy (i : Nat) : BufTy := match i / 128 with
  | 0 => hbmTy0_0 i
  | 1 => hbmTy0_1 i
  | 2 => hbmTy0_2 i
  | _ => ⟨S8192x6144, .f32⟩

abbrev bufTy : (tb : Table) → Fin (tcTables nBuf tb) → BufTy
  | .hbm, ⟨i, _⟩ => hbmTy i
  | _, _ => ⟨S8192x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_7 : Ref sig .tc := ⟨.hbm, 46, rfl⟩
abbrev main_v30 : Ref sig .tc := ⟨.hbm, 47, rfl⟩
abbrev main_v31 : Ref sig .tc := ⟨.hbm, 48, rfl⟩
abbrev main_cst_8 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_9 : Ref sig .tc := ⟨.hbm, 55, rfl⟩
abbrev main_v37 : Ref sig .tc := ⟨.hbm, 56, rfl⟩
abbrev main_v38 : Ref sig .tc := ⟨.hbm, 57, rfl⟩
abbrev main_cst_10 : Ref sig .tc := ⟨.hbm, 58, rfl⟩
abbrev main_v39 : Ref sig .tc := ⟨.hbm, 59, rfl⟩
abbrev main_v40 : Ref sig .tc := ⟨.hbm, 60, rfl⟩
abbrev main_cst_11 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_12 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_13 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_c : Ref sig .tc := ⟨.hbm, 80, rfl⟩
abbrev main_v57 : Ref sig .tc := ⟨.hbm, 81, rfl⟩
abbrev main_call0_v0 : Ref sig .tc := ⟨.hbm, 82, rfl⟩
abbrev main_call0_c : Ref sig .tc := ⟨.hbm, 83, rfl⟩
abbrev main_call0_v1 : Ref sig .tc := ⟨.hbm, 84, rfl⟩
abbrev main_call0_v2 : Ref sig .tc := ⟨.hbm, 85, rfl⟩
abbrev main_call0_v3 : Ref sig .tc := ⟨.hbm, 86, rfl⟩
abbrev main_call0_v4 : Ref sig .tc := ⟨.hbm, 87, rfl⟩
abbrev main_call0_c_0 : Ref sig .tc := ⟨.hbm, 88, rfl⟩
abbrev main_call0_v5 : Ref sig .tc := ⟨.hbm, 89, rfl⟩
abbrev main_v58 : Ref sig .tc := ⟨.hbm, 90, rfl⟩
abbrev main_v59 : Ref sig .tc := ⟨.hbm, 91, rfl⟩
abbrev main_cst_14 : Ref sig .tc := ⟨.hbm, 92, rfl⟩
abbrev main_call1_v0 : Ref sig .tc := ⟨.hbm, 93, rfl⟩
abbrev main_v60_1 : Ref sig .tc := ⟨.hbm, 94, rfl⟩
abbrev main_call1_v2 : Ref sig .tc := ⟨.hbm, 95, rfl⟩
abbrev main_v60_0 : Ref sig .tc := ⟨.hbm, 96, rfl⟩
abbrev main_call1_cst : Ref sig .tc := ⟨.hbm, 97, rfl⟩
abbrev main_v60_2 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_call2_v0 : Ref sig .tc := ⟨.hbm, 107, rfl⟩
abbrev main_call2_v1 : Ref sig .tc := ⟨.hbm, 108, rfl⟩
abbrev main_call2_cst : Ref sig .tc := ⟨.hbm, 109, rfl⟩
abbrev main_call2_v2 : Ref sig .tc := ⟨.hbm, 110, rfl⟩
abbrev main_call2_v3 : Ref sig .tc := ⟨.hbm, 111, rfl⟩
abbrev main_call2_cst_0 : Ref sig .tc := ⟨.hbm, 112, rfl⟩
abbrev main_call2_v4 : Ref sig .tc := ⟨.hbm, 113, rfl⟩
abbrev main_v69_2 : Ref sig .tc := ⟨.hbm, 114, rfl⟩
abbrev main_call2_cst_1 : Ref sig .tc := ⟨.hbm, 115, rfl⟩
abbrev main_call2_v6 : Ref sig .tc := ⟨.hbm, 116, rfl⟩
abbrev main_call2_v7 : Ref sig .tc := ⟨.hbm, 117, rfl⟩
abbrev main_v69_1 : Ref sig .tc := ⟨.hbm, 118, rfl⟩
abbrev main_v69_0 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_cst_15 : Ref sig .tc := ⟨.hbm, 124, rfl⟩
abbrev main_v74 : Ref sig .tc := ⟨.hbm, 125, rfl⟩
abbrev main_v75 : Ref sig .tc := ⟨.hbm, 126, rfl⟩
abbrev main_cst_16 : Ref sig .tc := ⟨.hbm, 127, rfl⟩
abbrev main_v76 : Ref sig .tc := ⟨.hbm, 128, rfl⟩
abbrev main_v77 : Ref sig .tc := ⟨.hbm, 129, rfl⟩
abbrev main_cst_17 : Ref sig .tc := ⟨.hbm, 130, rfl⟩
abbrev main_v78 : Ref sig .tc := ⟨.hbm, 131, rfl⟩
abbrev main_v79 : Ref sig .tc := ⟨.hbm, 132, rfl⟩
abbrev main_v80 : Ref sig .tc := ⟨.hbm, 133, rfl⟩
abbrev main_v81 : Ref sig .tc := ⟨.hbm, 134, rfl⟩
abbrev main_cst_18 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_cst_19 : Ref sig .tc := ⟨.hbm, 145, rfl⟩
abbrev main_v91 : Ref sig .tc := ⟨.hbm, 146, rfl⟩
abbrev main_v92 : Ref sig .tc := ⟨.hbm, 147, rfl⟩
abbrev main_cst_20 : Ref sig .tc := ⟨.hbm, 148, rfl⟩
abbrev main_v93 : Ref sig .tc := ⟨.hbm, 149, rfl⟩
abbrev main_cst_21 : Ref sig .tc := ⟨.hbm, 150, rfl⟩
abbrev main_v94 : Ref sig .tc := ⟨.hbm, 151, rfl⟩
abbrev main_v95 : Ref sig .tc := ⟨.hbm, 152, rfl⟩
abbrev main_cst_22 : Ref sig .tc := ⟨.hbm, 153, rfl⟩
abbrev main_v96 : Ref sig .tc := ⟨.hbm, 154, rfl⟩
abbrev main_cst_23 : Ref sig .tc := ⟨.hbm, 155, rfl⟩
abbrev main_v97 : Ref sig .tc := ⟨.hbm, 156, rfl⟩
abbrev main_cst_24 : Ref sig .tc := ⟨.hbm, 157, rfl⟩
abbrev main_cst_25 : Ref sig .tc := ⟨.hbm, 158, rfl⟩
abbrev main_v98 : Ref sig .tc := ⟨.hbm, 159, rfl⟩
abbrev main_v99 : Ref sig .tc := ⟨.hbm, 160, rfl⟩
abbrev main_cst_26 : Ref sig .tc := ⟨.hbm, 161, rfl⟩
abbrev main_v100 : Ref sig .tc := ⟨.hbm, 162, rfl⟩
abbrev main_v101 : Ref sig .tc := ⟨.hbm, 163, rfl⟩
abbrev main_v102 : Ref sig .tc := ⟨.hbm, 164, rfl⟩
abbrev main_v103 : Ref sig .tc := ⟨.hbm, 165, rfl⟩
abbrev main_v104 : Ref sig .tc := ⟨.hbm, 166, rfl⟩
abbrev main_cst_27 : Ref sig .tc := ⟨.hbm, 167, rfl⟩
abbrev main_v105 : Ref sig .tc := ⟨.hbm, 168, rfl⟩
abbrev main_v106 : Ref sig .tc := ⟨.hbm, 169, rfl⟩
abbrev main_v107 : Ref sig .tc := ⟨.hbm, 170, rfl⟩
abbrev main_v108 : Ref sig .tc := ⟨.hbm, 171, rfl⟩
abbrev main_cst_28 : Ref sig .tc := ⟨.hbm, 172, rfl⟩
abbrev main_v109 : Ref sig .tc := ⟨.hbm, 173, rfl⟩
abbrev main_v110 : Ref sig .tc := ⟨.hbm, 174, rfl⟩
abbrev main_cst_29 : Ref sig .tc := ⟨.hbm, 175, rfl⟩
abbrev main_v111 : Ref sig .tc := ⟨.hbm, 176, rfl⟩
abbrev main_v112 : Ref sig .tc := ⟨.hbm, 177, rfl⟩
abbrev main_v113 : Ref sig .tc := ⟨.hbm, 178, rfl⟩
abbrev main_v114 : Ref sig .tc := ⟨.hbm, 179, rfl⟩
abbrev main_v115 : Ref sig .tc := ⟨.hbm, 180, rfl⟩
abbrev main_cst_30 : Ref sig .tc := ⟨.hbm, 181, rfl⟩
abbrev main_v116 : Ref sig .tc := ⟨.hbm, 182, rfl⟩
abbrev main_v117 : Ref sig .tc := ⟨.hbm, 183, rfl⟩
abbrev main_cst_31 : Ref sig .tc := ⟨.hbm, 184, rfl⟩
abbrev main_v118 : Ref sig .tc := ⟨.hbm, 185, rfl⟩
abbrev main_v119 : Ref sig .tc := ⟨.hbm, 186, rfl⟩
abbrev main_v120 : Ref sig .tc := ⟨.hbm, 187, rfl⟩
abbrev main_v121 : Ref sig .tc := ⟨.hbm, 188, rfl⟩
abbrev main_v122 : Ref sig .tc := ⟨.hbm, 189, rfl⟩
abbrev main_v123 : Ref sig .tc := ⟨.hbm, 190, rfl⟩
abbrev main_v124 : Ref sig .tc := ⟨.hbm, 191, rfl⟩
abbrev main_v125 : Ref sig .tc := ⟨.hbm, 192, rfl⟩
abbrev main_v126 : Ref sig .tc := ⟨.hbm, 193, rfl⟩
abbrev main_call3_v0 : Ref sig .tc := ⟨.hbm, 194, rfl⟩
abbrev main_call3_v1 : Ref sig .tc := ⟨.hbm, 195, rfl⟩
abbrev main_call3_v2 : Ref sig .tc := ⟨.hbm, 196, rfl⟩
abbrev main_v127 : Ref sig .tc := ⟨.hbm, 197, rfl⟩
abbrev main_v128 : Ref sig .tc := ⟨.hbm, 198, rfl⟩
abbrev main_v129 : Ref sig .tc := ⟨.hbm, 199, rfl⟩
abbrev main_v130 : Ref sig .tc := ⟨.hbm, 200, rfl⟩
abbrev main_cst_32 : Ref sig .tc := ⟨.hbm, 201, rfl⟩
abbrev main_v131 : Ref sig .tc := ⟨.hbm, 202, rfl⟩
abbrev main_v132 : Ref sig .tc := ⟨.hbm, 203, rfl⟩
abbrev main_cst_33 : Ref sig .tc := ⟨.hbm, 204, rfl⟩
abbrev main_v133 : Ref sig .tc := ⟨.hbm, 205, rfl⟩
abbrev main_v134 : Ref sig .tc := ⟨.hbm, 206, rfl⟩
abbrev main_v135 : Ref sig .tc := ⟨.hbm, 207, rfl⟩
abbrev main_v136 : Ref sig .tc := ⟨.hbm, 208, rfl⟩
abbrev main_v137 : Ref sig .tc := ⟨.hbm, 209, rfl⟩
abbrev main_v138 : Ref sig .tc := ⟨.hbm, 210, rfl⟩
abbrev main_call4_cst : Ref sig .tc := ⟨.hbm, 211, rfl⟩
abbrev main_call4_v0 : Ref sig .tc := ⟨.hbm, 212, rfl⟩
abbrev main_v139 : Ref sig .tc := ⟨.hbm, 213, rfl⟩
abbrev main_v140 : Ref sig .tc := ⟨.hbm, 214, rfl⟩
abbrev main_v141 : Ref sig .tc := ⟨.hbm, 215, rfl⟩
abbrev main_cst_34 : Ref sig .tc := ⟨.hbm, 216, rfl⟩
abbrev main_v142 : Ref sig .tc := ⟨.hbm, 217, rfl⟩
abbrev main_v143 : Ref sig .tc := ⟨.hbm, 218, rfl⟩
abbrev main_v144 : Ref sig .tc := ⟨.hbm, 219, rfl⟩
abbrev main_v145 : Ref sig .tc := ⟨.hbm, 220, rfl⟩
abbrev main_cst_35 : Ref sig .tc := ⟨.hbm, 221, rfl⟩
abbrev main_v146 : Ref sig .tc := ⟨.hbm, 222, rfl⟩
abbrev main_v147 : Ref sig .tc := ⟨.hbm, 223, rfl⟩
abbrev main_cst_36 : Ref sig .tc := ⟨.hbm, 224, rfl⟩
abbrev main_v148 : Ref sig .tc := ⟨.hbm, 225, rfl⟩
abbrev main_v149 : Ref sig .tc := ⟨.hbm, 226, rfl⟩
abbrev main_v150 : Ref sig .tc := ⟨.hbm, 227, rfl⟩
abbrev main_v151 : Ref sig .tc := ⟨.hbm, 228, rfl⟩
abbrev main_v152 : Ref sig .tc := ⟨.hbm, 229, rfl⟩
abbrev main_v153 : Ref sig .tc := ⟨.hbm, 230, rfl⟩
abbrev main_cst_37 : Ref sig .tc := ⟨.hbm, 231, rfl⟩
abbrev main_v154 : Ref sig .tc := ⟨.hbm, 232, rfl⟩
abbrev main_v155 : Ref sig .tc := ⟨.hbm, 233, rfl⟩
abbrev main_cst_38 : Ref sig .tc := ⟨.hbm, 234, rfl⟩
abbrev main_v156 : Ref sig .tc := ⟨.hbm, 235, rfl⟩
abbrev main_v157 : Ref sig .tc := ⟨.hbm, 236, rfl⟩
abbrev main_cst_39 : Ref sig .tc := ⟨.hbm, 237, rfl⟩
abbrev main_v158 : Ref sig .tc := ⟨.hbm, 238, rfl⟩
abbrev main_v159 : Ref sig .tc := ⟨.hbm, 239, rfl⟩
abbrev main_v160 : Ref sig .tc := ⟨.hbm, 240, rfl⟩
abbrev main_v161 : Ref sig .tc := ⟨.hbm, 241, rfl⟩
abbrev main_cst_40 : Ref sig .tc := ⟨.hbm, 242, rfl⟩
abbrev main_v162 : Ref sig .tc := ⟨.hbm, 243, rfl⟩
abbrev main_v163 : Ref sig .tc := ⟨.hbm, 244, rfl⟩
abbrev main_v164 : Ref sig .tc := ⟨.hbm, 245, rfl⟩
abbrev main_v165 : Ref sig .tc := ⟨.hbm, 246, rfl⟩
abbrev main_cst_41 : Ref sig .tc := ⟨.hbm, 247, rfl⟩
abbrev main_v166 : Ref sig .tc := ⟨.hbm, 248, rfl⟩
abbrev main_v167 : Ref sig .tc := ⟨.hbm, 249, rfl⟩
abbrev main_cst_42 : Ref sig .tc := ⟨.hbm, 250, rfl⟩
abbrev main_v168 : Ref sig .tc := ⟨.hbm, 251, rfl⟩
abbrev main_v169 : Ref sig .tc := ⟨.hbm, 252, rfl⟩
abbrev main_v170 : Ref sig .tc := ⟨.hbm, 253, rfl⟩
abbrev main_cst_43 : Ref sig .tc := ⟨.hbm, 254, rfl⟩
abbrev main_v171 : Ref sig .tc := ⟨.hbm, 255, rfl⟩
abbrev main_cst_44 : Ref sig .tc := ⟨.hbm, 256, rfl⟩
abbrev main_v172 : Ref sig .tc := ⟨.hbm, 257, rfl⟩
abbrev main_v173 : Ref sig .tc := ⟨.hbm, 258, rfl⟩
abbrev main_cst_45 : Ref sig .tc := ⟨.hbm, 259, rfl⟩
abbrev main_v174 : Ref sig .tc := ⟨.hbm, 260, rfl⟩
abbrev main_v175 : Ref sig .tc := ⟨.hbm, 261, rfl⟩
abbrev main_v176 : Ref sig .tc := ⟨.hbm, 262, rfl⟩
abbrev main_cst_46 : Ref sig .tc := ⟨.hbm, 263, rfl⟩
abbrev main_v177 : Ref sig .tc := ⟨.hbm, 264, rfl⟩
abbrev main_v178 : Ref sig .tc := ⟨.hbm, 265, rfl⟩
abbrev main_v179 : Ref sig .tc := ⟨.hbm, 266, rfl⟩
abbrev main_cst_47 : Ref sig .tc := ⟨.hbm, 267, rfl⟩
abbrev main_v180 : Ref sig .tc := ⟨.hbm, 268, rfl⟩
abbrev main_v181 : Ref sig .tc := ⟨.hbm, 269, rfl⟩
abbrev main_v182 : Ref sig .tc := ⟨.hbm, 270, rfl⟩
abbrev main_v183 : Ref sig .tc := ⟨.hbm, 271, rfl⟩
abbrev main_v184 : Ref sig .tc := ⟨.hbm, 272, rfl⟩
abbrev main_v185 : Ref sig .tc := ⟨.hbm, 273, rfl⟩
abbrev main_v186 : Ref sig .tc := ⟨.hbm, 274, rfl⟩
abbrev main_cst_48 : Ref sig .tc := ⟨.hbm, 275, rfl⟩
abbrev main_v187 : Ref sig .tc := ⟨.hbm, 276, rfl⟩
abbrev main_v188 : Ref sig .tc := ⟨.hbm, 277, rfl⟩
abbrev main_v189 : Ref sig .tc := ⟨.hbm, 278, rfl⟩
abbrev main_v190 : Ref sig .tc := ⟨.hbm, 279, rfl⟩
abbrev main_v191 : Ref sig .tc := ⟨.hbm, 280, rfl⟩
abbrev main_v192 : Ref sig .tc := ⟨.hbm, 281, rfl⟩
abbrev main_v193 : Ref sig .tc := ⟨.hbm, 282, rfl⟩
abbrev main_v194 : Ref sig .tc := ⟨.hbm, 283, rfl⟩

abbrev nD : Nat := 1
abbrev τ : Topo := Topo.v7x

variable {F : FTy → Type} [FloatOps F]
-- ==== Columns.lean ====
abbrev S8192x1024 : Shape := ⟨2, ![8192, 1024]⟩
abbrev S1x1024 : Shape := ⟨2, ![1, 1024]⟩
abbrev S8192x6144 : Shape := ⟨2, ![8192, 6144]⟩
abbrev S8x1024x768 : Shape := ⟨3, ![8, 1024, 768]⟩
abbrev S1024x1024 : Shape := ⟨2, ![1024, 1024]⟩
abbrev S1024x3072 : Shape := ⟨2, ![1024, 3072]⟩
abbrev S4x1024x768 : Shape := ⟨3, ![4, 1024, 768]⟩
abbrev S1024 : Shape := ⟨1, ![1024]⟩
abbrev S1024x1 : Shape := ⟨2, ![1024, 1]⟩
abbrev S1024x768 : Shape := ⟨2, ![1024, 768]⟩
abbrev S1x1024x768 : Shape := ⟨3, ![1, 1024, 768]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x6144, .bf16⟩
  | .hbm, ⟨3, _⟩ => ⟨S8x1024x768, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x3072, .bf16⟩
  | .local _ .vmem, ⟨4, _⟩ => ⟨S1024x3072, .bf16⟩
  | .local _ .vmem, ⟨5, _⟩ => ⟨S4x1024x768, .bf16⟩
  | .local _ .vmem, ⟨6, _⟩ => ⟨S4x1024x768, .bf16⟩
  | .local _ .vmem, ⟨7, _⟩ => ⟨S1024x3072, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v25 : BitVec 1 := Scalar.cmpi .eq arg1 c7_i32
  let v26 : BitVec 32 := Scalar.extui v25
  let c0_i32_13 : BitVec 32 := 0#32
  let v27 : BitVec 1 := Scalar.cmpi .ne v26 c0_i32_13
  v27

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x1024x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== ColumnsReferenceIdeal.lean ====
abbrev S8192x1024 : Shape := ⟨2, ![8192, 1024]⟩
abbrev S1x1024 : Shape := ⟨2, ![1, 1024]⟩
abbrev S8192x6144 : Shape := ⟨2, ![8192, 6144]⟩
abbrev S_ : Shape := ⟨0, ![]⟩
abbrev S1024x6144 : Shape := ⟨2, ![1024, 6144]⟩
abbrev S1024 : Shape := ⟨1, ![1024]⟩
abbrev S8192 : Shape := ⟨1, ![8192]⟩
abbrev S8192x1 : Shape := ⟨2, ![8192, 1]⟩
abbrev S6144x1024 : Shape := ⟨2, ![6144, 1024]⟩
abbrev S1024x8x768 : Shape := ⟨3, ![1024, 8, 768]⟩
abbrev S8x1024x768 : Shape := ⟨3, ![8, 1024, 768]⟩

abbrev nBuf : Space → Nat
  | .hbm => 29
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x6144, .bf16⟩
  | .hbm, ⟨3, _⟩ => ⟨S_, .f32⟩
  | .hbm, ⟨4, _⟩ => ⟨S1024x6144, .f32⟩
  | .hbm, ⟨5, _⟩ => ⟨S1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S8192x6144, .f32⟩
  | .hbm, ⟨23, _⟩ => ⟨S8192x6144, .f32⟩
  | .hbm, ⟨24, _⟩ => ⟨S6144x1024, .f32⟩
  | .hbm, ⟨25, _⟩ => ⟨S1024x6144, .f32⟩
  | .hbm, ⟨26, _⟩ => ⟨S1024x8x768, .f32⟩
  | .hbm, ⟨27, _⟩ => ⟨S8x1024x768, .f32⟩
  | .hbm, ⟨28, _⟩ => ⟨S8x1024x768, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== Input.lean ====
abbrev S8192x6144 : Shape := ⟨2, ![8192, 6144]⟩
abbrev S8192x1024 : Shape := ⟨2, ![8192, 1024]⟩
abbrev S1x1024 : Shape := ⟨2, ![1, 1024]⟩
abbrev S8x1024x768 : Shape := ⟨3, ![8, 1024, 768]⟩
abbrev S512x6144 : Shape := ⟨2, ![512, 6144]⟩
abbrev S512x1024 : Shape := ⟨2, ![512, 1024]⟩
abbrev S_ : Shape := ⟨0, ![]⟩
abbrev S512x768 : Shape := ⟨2, ![512, 768]⟩
abbrev S1x1024x768 : Shape := ⟨3, ![1, 1024, 768]⟩
abbrev S1024x768 : Shape := ⟨2, ![1024, 768]⟩
abbrev S512 : Shape := ⟨1, ![512]⟩
abbrev S512x1 : Shape := ⟨2, ![512, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S8192x6144, .bf16⟩
  | .hbm, ⟨1, _⟩ => ⟨S8192x1024, .f32⟩
  | .hbm, ⟨2, _⟩ => ⟨S1x1024, .f32⟩
  | .hbm, ⟨3, _⟩ => ⟨S8x1024x768, .bf16⟩
  | .hbm, ⟨4, _⟩ => ⟨S8192x1024, .f32⟩
  | .hbm, ⟨5, _⟩ => ⟨S8192x1024, .f32⟩
  | .hbm, ⟨6, _⟩ => ⟨S1x1024, .f32⟩
  | .local _ .vmem, ⟨0, _⟩ => ⟨S512x6144, .bf16⟩
  | .local _ .vmem, ⟨1, _⟩ => ⟨S512x6144, .bf16⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S8x1024x768, .bf16⟩
  | _, _ => ⟨S8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== InputReferenceIdeal.lean ====
abbrev S8192x6144 : Shape := ⟨2, ![8192, 6144]⟩
abbrev S8192x1024 : Shape := ⟨2, ![8192, 1024]⟩
abbrev S1x1024 : Shape := ⟨2, ![1, 1024]⟩
abbrev S8x1024x768 : Shape := ⟨3, ![8, 1024, 768]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1024x8x768 : Shape := ⟨3, ![1024, 8, 768]⟩
abbrev S1024x6144 : Shape := ⟨2, ![1024, 6144]⟩

abbrev nBuf : Space → Nat
  | .hbm => 59
  | .vmem => 0
  | .smem => 0
  | _ => 0

abbrev bufTy : (tb : Table) → Fin (tcTables nBuf tb) → BufTy
  | .hbm, ⟨0, _⟩ => ⟨S8192x6144, .bf16⟩
  | .hbm, ⟨1, _⟩ => ⟨S8192x1024, .f32⟩
  | .hbm, ⟨2, _⟩ => ⟨S1x1024, .f32⟩
  | .hbm, ⟨3, _⟩ => ⟨S8x1024x768, .bf16⟩
  | .hbm, ⟨4, _⟩ => ⟨S8192x1024, .f32⟩
  | .hbm, ⟨5, _⟩ => ⟨S1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S8x1024x768, .f32⟩
  | .hbm, ⟨27, _⟩ => ⟨S1024x8x768, .f32⟩
  | .hbm, ⟨28, _⟩ => ⟨S1024x6144, .f32⟩
  | .hbm, ⟨29, _⟩ => ⟨S8192x6144, .f32⟩
  | .hbm, ⟨30, _⟩ => ⟨S8192x6144, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S1024, .f32⟩
  | .hbm, ⟨40, _⟩ => ⟨S8192x1024, .f32⟩
  | .hbm, ⟨41, _⟩ => ⟨S_, .f32⟩
  | .hbm, ⟨42, _⟩ => ⟨S8192, .f32⟩
  | .hbm, ⟨43, _⟩ => ⟨S8192x1, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1, .f32⟩
  | .hbm, ⟨48, _⟩ => ⟨S_, .f32⟩
  | .hbm, ⟨49, _⟩ => ⟨S8192x1, .f32⟩
  | .hbm, ⟨50, _⟩ => ⟨S8192x1, .f32⟩
  | .hbm, ⟨51, _⟩ => ⟨S_, .f32⟩
  | .hbm, ⟨52, _⟩ => ⟨S8192, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S1x1024, .f32⟩
  | _, _ => ⟨S8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_6 : Ref sig .tc := ⟨.hbm, 48, rfl⟩
abbrev main_v36 : Ref sig .tc := ⟨.hbm, 49, rfl⟩
abbrev main_v37 : Ref sig .tc := ⟨.hbm, 50, rfl⟩
abbrev main_cst_7 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩

abbrev nD : Nat := 1
abbrev τ : Topo := Topo.v7x

variable {F : FTy → Type} [FloatOps F]
-- ==== Projection.lean ====
abbrev S8192x1024 : Shape := ⟨2, ![8192, 1024]⟩
abbrev S1x1024 : Shape := ⟨2, ![1, 1024]⟩
abbrev S8x1024x768 : Shape := ⟨3, ![8, 1024, 768]⟩
abbrev S8192x6144 : Shape := ⟨2, ![8192, 6144]⟩
abbrev S512x1024 : Shape := ⟨2, ![512, 1024]⟩
abbrev S512x6144 : Shape := ⟨2, ![512, 6144]⟩
abbrev S_ : Shape := ⟨0, ![]⟩
abbrev S512 : Shape := ⟨1, ![512]⟩
abbrev S512x1 : Shape := ⟨2, ![512, 1]⟩
abbrev S1x1024x768 : Shape := ⟨3, ![1, 1024, 768]⟩
abbrev S1024x768 : Shape := ⟨2, ![1024, 768]⟩
abbrev S512x768 : Shape := ⟨2, ![512, 768]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8x1024x768, .bf16⟩
  | .hbm, ⟨3, _⟩ => ⟨S8192x6144, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x6144, .f32⟩
  | .local _ .vmem, ⟨4, _⟩ => ⟨S512x6144, .f32⟩
  | .local _ .vmem, ⟨5, _⟩ => ⟨S8x1024x768, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x6144 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ProjectionReferenceIdeal.lean ====
abbrev S8192x1024 : Shape := ⟨2, ![8192, 1024]⟩
abbrev S1x1024 : Shape := ⟨2, ![1, 1024]⟩
abbrev S8x1024x768 : Shape := ⟨3, ![8, 1024, 768]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1024x8x768 : Shape := ⟨3, ![1024, 8, 768]⟩
abbrev S1024x6144 : Shape := ⟨2, ![1024, 6144]⟩
abbrev S8192x6144 : Shape := ⟨2, ![8192, 6144]⟩

abbrev nBuf : Space → Nat
  | .hbm => 24
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8x1024x768, .bf16⟩
  | .hbm, ⟨3, _⟩ => ⟨S1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S8x1024x768, .f32⟩
  | .hbm, ⟨21, _⟩ => ⟨S1024x8x768, .f32⟩
  | .hbm, ⟨22, _⟩ => ⟨S1024x6144, .f32⟩
  | .hbm, ⟨23, _⟩ => ⟨S8192x6144, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== FirstProjection.lean ====
abbrev S8192x1024 : Shape := ⟨2, ![8192, 1024]⟩
abbrev S1x1024 : Shape := ⟨2, ![1, 1024]⟩
abbrev S8x1024x768 : Shape := ⟨3, ![8, 1024, 768]⟩
abbrev S8192x6144 : Shape := ⟨2, ![8192, 6144]⟩
abbrev S8x8192x128 : Shape := ⟨3, ![8, 8192, 128]⟩
abbrev S512x1024 : Shape := ⟨2, ![512, 1024]⟩
abbrev S512x6144 : Shape := ⟨2, ![512, 6144]⟩
abbrev S8x512x128 : Shape := ⟨3, ![8, 512, 128]⟩
abbrev S_ : Shape := ⟨0, ![]⟩
abbrev S512 : Shape := ⟨1, ![512]⟩
abbrev S512x1 : Shape := ⟨2, ![512, 1]⟩
abbrev S1x1024x768 : Shape := ⟨3, ![1, 1024, 768]⟩
abbrev S1024x768 : Shape := ⟨2, ![1024, 768]⟩
abbrev S512x768 : Shape := ⟨2, ![512, 768]⟩
abbrev S512x128 : Shape := ⟨2, ![512, 128]⟩
abbrev S1x512x128 : Shape := ⟨3, ![1, 512, 128]⟩

abbrev nBuf : Space → Nat
  | .hbm => 5
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8x1024x768, .bf16⟩
  | .hbm, ⟨3, _⟩ => ⟨S8192x6144, .f32⟩
  | .hbm, ⟨4, _⟩ => ⟨S8x8192x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x6144, .f32⟩
  | .local _ .vmem, ⟨4, _⟩ => ⟨S512x6144, .f32⟩
  | .local _ .vmem, ⟨5, _⟩ => ⟨S8x512x128, .f32⟩
  | .local _ .vmem, ⟨6, _⟩ => ⟨S8x512x128, .f32⟩
  | .local _ .vmem, ⟨7, _⟩ => ⟨S8x1024x768, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x6144 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== FirstProjectionReferenceIdeal.lean ====
abbrev S8192x1024 : Shape := ⟨2, ![8192, 1024]⟩
abbrev S1x1024 : Shape := ⟨2, ![1, 1024]⟩
abbrev S8x1024x768 : Shape := ⟨3, ![8, 1024, 768]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1024x8x768 : Shape := ⟨3, ![1024, 8, 768]⟩
abbrev S1024x6144 : Shape := ⟨2, ![1024, 6144]⟩
abbrev S8192x6144 : Shape := ⟨2, ![8192, 6144]⟩
abbrev S8192x8x128 : Shape := ⟨3, ![8192, 8, 128]⟩
abbrev S8x8192x128 : Shape := ⟨3, ![8, 8192, 128]⟩

abbrev nBuf : Space → Nat
  | .hbm => 27
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8x1024x768, .bf16⟩
  | .hbm, ⟨3, _⟩ => ⟨S1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S8x1024x768, .f32⟩
  | .hbm, ⟨21, _⟩ => ⟨S1024x8x768, .f32⟩
  | .hbm, ⟨22, _⟩ => ⟨S1024x6144, .f32⟩
  | .hbm, ⟨23, _⟩ => ⟨S8192x6144, .f32⟩
  | .hbm, ⟨24, _⟩ => ⟨S8192x1024, .f32⟩
  | .hbm, ⟨25, _⟩ => ⟨S8192x8x128, .f32⟩
  | .hbm, ⟨26, _⟩ => ⟨S8x8192x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]
-- ==== Rows.lean ====
abbrev S8192x2048 : Shape := ⟨2, ![8192, 2048]⟩
abbrev S8192x1024 : Shape := ⟨2, ![8192, 1024]⟩
abbrev S8x256x1024 : Shape := ⟨3, ![8, 256, 1024]⟩
abbrev S1024x2048 : Shape := ⟨2, ![1024, 2048]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .f32⟩
  | .hbm, ⟨2, _⟩ => ⟨S8x256x1024, .bf16⟩
  | .local _ .vmem, ⟨0, _⟩ => ⟨S1024x2048, .bf16⟩
  | .local _ .vmem, ⟨1, _⟩ => ⟨S1024x2048, .bf16⟩
  | .local _ .vmem, ⟨2, _⟩ => ⟨S1024x1024, .f32⟩
  | .local _ .vmem, ⟨3, _⟩ => ⟨S1024x1024, .f32⟩
  | .local _ .vmem, ⟨4, _⟩ => ⟨S8x256x1024, .bf16⟩
  | .local _ .vmem, ⟨5, _⟩ => ⟨S2048x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v12 : BitVec 1 := Scalar.cmpi .eq arg0 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== RowsReferenceIdeal.lean ====
abbrev S8192x2048 : Shape := ⟨2, ![8192, 2048]⟩
abbrev S8192x1024 : Shape := ⟨2, ![8192, 1024]⟩
abbrev S_ : Shape := ⟨0, ![]⟩
abbrev S2048x1024 : Shape := ⟨2, ![2048, 1024]⟩
abbrev S1024x2048 : Shape := ⟨2, ![1024, 2048]⟩
abbrev S8x256x1024 : Shape := ⟨3, ![8, 256, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .f32⟩
  | .hbm, ⟨2, _⟩ => ⟨S_, .f32⟩
  | .hbm, ⟨3, _⟩ => ⟨S2048x1024, .f32⟩
  | .hbm, ⟨4, _⟩ => ⟨S8192x2048, .f32⟩
  | .hbm, ⟨5, _⟩ => ⟨S8192x1024, .f32⟩
  | .hbm, ⟨6, _⟩ => ⟨S1024x2048, .f32⟩
  | .hbm, ⟨7, _⟩ => ⟨S2048x1024, .f32⟩
  | .hbm, ⟨8, _⟩ => ⟨S8x256x1024, .f32⟩
  | .hbm, ⟨9, _⟩ => ⟨S8x256x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== EvenRows.lean ====
abbrev S8192x1024 : Shape := ⟨2, ![8192, 1024]⟩
abbrev S8x256x1024 : Shape := ⟨3, ![8, 256, 1024]⟩
abbrev S1024x1024 : Shape := ⟨2, ![1024, 1024]⟩
abbrev S2048x1024 : Shape := ⟨2, ![2048, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .f32⟩
  | .hbm, ⟨3, _⟩ => ⟨S8x256x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S8x256x1024, .bf16⟩
  | .local _ .vmem, ⟨7, _⟩ => ⟨S2048x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v19 : BitVec 1 := Scalar.cmpi .eq arg0 c7_i32
  let v20 : BitVec 32 := Scalar.extui v19
  let c0_i32_14 : BitVec 32 := 0#32
  let v21 : BitVec 1 := Scalar.cmpi .ne v20 c0_i32_14
  v21

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== EvenRowsReferenceIdeal.lean ====
abbrev S8192x1024 : Shape := ⟨2, ![8192, 1024]⟩
abbrev S8192x2048 : Shape := ⟨2, ![8192, 2048]⟩
abbrev S_ : Shape := ⟨0, ![]⟩
abbrev S2048x1024 : Shape := ⟨2, ![2048, 1024]⟩
abbrev S1024x2048 : Shape := ⟨2, ![1024, 2048]⟩
abbrev S8x256x1024 : Shape := ⟨3, ![8, 256, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .f32⟩
  | .hbm, ⟨3, _⟩ => ⟨S8192x2048, .bf16⟩
  | .hbm, ⟨4, _⟩ => ⟨S8192x2048, .f32⟩
  | .hbm, ⟨5, _⟩ => ⟨S_, .f32⟩
  | .hbm, ⟨6, _⟩ => ⟨S2048x1024, .f32⟩
  | .hbm, ⟨7, _⟩ => ⟨S8192x1024, .f32⟩
  | .hbm, ⟨8, _⟩ => ⟨S1024x2048, .f32⟩
  | .hbm, ⟨9, _⟩ => ⟨S2048x1024, .f32⟩
  | .hbm, ⟨10, _⟩ => ⟨S8x256x1024, .f32⟩
  | .hbm, ⟨11, _⟩ => ⟨S8x256x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== GluRows.lean ====
abbrev S8192x1024 : Shape := ⟨2, ![8192, 1024]⟩
abbrev S8x128x1024 : Shape := ⟨3, ![8, 128, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8x128x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S8x128x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v11 : BitVec 1 := Scalar.cmpi .eq arg0 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== GluRowsReferenceIdeal.lean ====
abbrev S8192x1024 : Shape := ⟨2, ![8192, 1024]⟩
abbrev S_ : Shape := ⟨0, ![]⟩
abbrev S1024x1024 : Shape := ⟨2, ![1024, 1024]⟩
abbrev S8x128x1024 : Shape := ⟨3, ![8, 128, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S8x128x1024, .f32⟩
  | .hbm, ⟨10, _⟩ => ⟨S8x128x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Output.lean ====
abbrev S8192x1024 : Shape := ⟨2, ![8192, 1024]⟩
abbrev S8x8192x128 : Shape := ⟨3, ![8, 8192, 128]⟩
abbrev S8192x6144 : Shape := ⟨2, ![8192, 6144]⟩
abbrev S1024x1024 : Shape := ⟨2, ![1024, 1024]⟩
abbrev S1x1024 : Shape := ⟨2, ![1, 1024]⟩
abbrev S2048x1024 : Shape := ⟨2, ![2048, 1024]⟩
abbrev S512x1024 : Shape := ⟨2, ![512, 1024]⟩
abbrev S8x512x128 : Shape := ⟨3, ![8, 512, 128]⟩
abbrev S1x512x128 : Shape := ⟨3, ![1, 512, 128]⟩
abbrev S512x128 : Shape := ⟨2, ![512, 128]⟩
abbrev S512x2048 : Shape := ⟨2, ![512, 2048]⟩

abbrev nBuf : Space → Nat
  | .hbm => 8
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8x8192x128, .f32⟩
  | .hbm, ⟨2, _⟩ => ⟨S8192x6144, .f32⟩
  | .hbm, ⟨3, _⟩ => ⟨S8192x1024, .bf16⟩
  | .hbm, ⟨4, _⟩ => ⟨S1024x1024, .bf16⟩
  | .hbm, ⟨5, _⟩ => ⟨S1x1024, .f32⟩
  | .hbm, ⟨6, _⟩ => ⟨S2048x1024, .bf16⟩
  | .hbm, ⟨7, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S8x512x128, .f32⟩
  | .local _ .vmem, ⟨3, _⟩ => ⟨S8x512x128, .f32⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S1024x1024, .bf16⟩
  | .local _ .vmem, ⟨9, _⟩ => ⟨S1x1024, .f32⟩
  | .local _ .vmem, ⟨10, _⟩ => ⟨S2048x1024, .bf16⟩
  | .local _ .vmem, ⟨11, _⟩ => ⟨S512x1024, .f32⟩
  | .local _ .vmem, ⟨12, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== OutputIdeal.lean ====
variable {F : FTy → Type} [FloatOps F] [Named F]
def κ : String → Option EReal := fun
  | "gelu_3a" => some ((26829 / 200000 : ℝ) : EReal)
  | "gelu_a" => some ((8943 / 200000 : ℝ) : EReal)
  | _ => none
-- ==== OutputReferenceIdeal.lean ====
abbrev S8192x1024 : Shape := ⟨2, ![8192, 1024]⟩
abbrev S8x8192x128 : Shape := ⟨3, ![8, 8192, 128]⟩
abbrev S8192x6144 : Shape := ⟨2, ![8192, 6144]⟩
abbrev S1024x1024 : Shape := ⟨2, ![1024, 1024]⟩
abbrev S1x1024 : Shape := ⟨2, ![1, 1024]⟩
abbrev S2048x1024 : Shape := ⟨2, ![2048, 1024]⟩
abbrev S8192x8x128 : Shape := ⟨3, ![8192, 8, 128]⟩
abbrev S_ : Shape := ⟨0, ![]⟩
abbrev S1024 : Shape := ⟨1, ![1024]⟩
abbrev S8192x2048 : Shape := ⟨2, ![8192, 2048]⟩

abbrev nBuf : Space → Nat
  | .hbm => 59
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8x8192x128, .f32⟩
  | .hbm, ⟨2, _⟩ => ⟨S8192x6144, .f32⟩
  | .hbm, ⟨3, _⟩ => ⟨S8192x1024, .bf16⟩
  | .hbm, ⟨4, _⟩ => ⟨S1024x1024, .bf16⟩
  | .hbm, ⟨5, _⟩ => ⟨S1x1024, .f32⟩
  | .hbm, ⟨6, _⟩ => ⟨S2048x1024, .bf16⟩
  | .hbm, ⟨7, _⟩ => ⟨S8192x8x128, .f32⟩
  | .hbm, ⟨8, _⟩ => ⟨S8192x1024, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S1024x1024, .f32⟩
  | .hbm, ⟨29, _⟩ => ⟨S8192x1024, .f32⟩
  | .hbm, ⟨30, _⟩ => ⟨S1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S8192x1024, .f32⟩
  | .hbm, ⟨48, _⟩ => ⟨S8192x1024, .f32⟩
  | .hbm, ⟨49, _⟩ => ⟨S_, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x2048, .f32⟩
  | .hbm, ⟨56, _⟩ => ⟨S2048x1024, .f32⟩
  | .hbm, ⟨57, _⟩ => ⟨S8192x1024, .f32⟩
  | .hbm, ⟨58, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_call0_v0 : Ref sig .tc := ⟨.hbm, 44, rfl⟩
abbrev main_call0_v1 : Ref sig .tc := ⟨.hbm, 45, rfl⟩
abbrev main_call0_cst : Ref sig .tc := ⟨.hbm, 46, rfl⟩
abbrev main_call0_v2 : Ref sig .tc := ⟨.hbm, 47, rfl⟩
abbrev main_call0_v3 : Ref sig .tc := ⟨.hbm, 48, rfl⟩
abbrev main_call0_cst_0 : Ref sig .tc := ⟨.hbm, 49, rfl⟩
abbrev main_call0_v4 : Ref sig .tc := ⟨.hbm, 50, rfl⟩
abbrev main_call0_v5 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩

abbrev nD : Nat := 1
abbrev τ : Topo := Topo.v7x

variable {F : FTy → Type} [FloatOps F]
-- ==== Gate.lean ====
abbrev S8x8192x128 : Shape := ⟨3, ![8, 8192, 128]⟩
abbrev S8192x6144 : Shape := ⟨2, ![8192, 6144]⟩
abbrev S8192x1024 : Shape := ⟨2, ![8192, 1024]⟩
abbrev S2048x1024 : Shape := ⟨2, ![2048, 1024]⟩
abbrev S1024x1024 : Shape := ⟨2, ![1024, 1024]⟩
abbrev S1x1024 : Shape := ⟨2, ![1, 1024]⟩
abbrev S8x512x128 : Shape := ⟨3, ![8, 512, 128]⟩
abbrev S512x1024 : Shape := ⟨2, ![512, 1024]⟩
abbrev S1x256x128 : Shape := ⟨3, ![1, 256, 128]⟩
abbrev S256x128 : Shape := ⟨2, ![256, 128]⟩
abbrev S256x1024 : Shape := ⟨2, ![256, 1024]⟩
abbrev S1024 : Shape := ⟨1, ![1024]⟩

abbrev nBuf : Space → Nat
  | .hbm => 12
  | .vmem => 20
  | .smem => 0
  | _ => 0

abbrev bufTy : (tb : Table) → Fin (tcTables nBuf tb) → BufTy
  | .hbm, ⟨0, _⟩ => ⟨S8x8192x128, .f32⟩
  | .hbm, ⟨1, _⟩ => ⟨S8192x6144, .f32⟩
  | .hbm, ⟨2, _⟩ => ⟨S8192x1024, .f32⟩
  | .hbm, ⟨3, _⟩ => ⟨S2048x1024, .bf16⟩
  | .hbm, ⟨4, _⟩ => ⟨S1024x1024, .bf16⟩
  | .hbm, ⟨5, _⟩ => ⟨S1x1024, .f32⟩
  | .hbm, ⟨6, _⟩ => ⟨S8x8192x128, .f32⟩
  | .hbm, ⟨7, _⟩ => ⟨S8192x1024, .bf16⟩
  | .hbm, ⟨8, _⟩ => ⟨S8192x1024, .bf16⟩
  | .hbm, ⟨9, _⟩ => ⟨S8192x1024, .bf16⟩
  | .hbm, ⟨10, _⟩ => ⟨S8192x1024, .bf16⟩
  | .hbm, ⟨11, _⟩ => ⟨S1x1024, .f32⟩
  | .local _ .vmem, ⟨0, _⟩ => ⟨S8x512x128, .f32⟩
  | .local _ .vmem, ⟨1, _⟩ => ⟨S8x512x128, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1024x1024, .bf16⟩
  | .local _ .vmem, ⟨7, _⟩ => ⟨S1024x1024, .bf16⟩
  | .local _ .vmem, ⟨8, _⟩ => ⟨S1x1024, .f32⟩
  | .local _ .vmem, ⟨9, _⟩ => ⟨S8x512x128, .f32⟩
  | .local _ .vmem, ⟨10, _⟩ => ⟨S8x512x128, .f32⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S1x1024, .f32⟩
  | _, _ => ⟨S8x8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== GateIdeal.lean ====
variable {F : FTy → Type} [FloatOps F] [Named F]
def κ : String → Option EReal := fun
  | "gelu_3a" => some ((26829 / 200000 : ℝ) : EReal)
  | "gelu_a" => some ((8943 / 200000 : ℝ) : EReal)
  | _ => none
-- ==== GateReferenceIdeal.lean ====
abbrev S8x8192x128 : Shape := ⟨3, ![8, 8192, 128]⟩
abbrev S8192x6144 : Shape := ⟨2, ![8192, 6144]⟩
abbrev S8192x1024 : Shape := ⟨2, ![8192, 1024]⟩
abbrev S2048x1024 : Shape := ⟨2, ![2048, 1024]⟩
abbrev S1024x1024 : Shape := ⟨2, ![1024, 1024]⟩
abbrev S1x1024 : Shape := ⟨2, ![1, 1024]⟩
abbrev S8192x8x128 : Shape := ⟨3, ![8192, 8, 128]⟩
abbrev S_ : Shape := ⟨0, ![]⟩
abbrev S1024 : Shape := ⟨1, ![1024]⟩

abbrev nBuf : Space → Nat
  | .hbm => 113
  | .vmem => 0
  | .smem => 0
  | _ => 0

abbrev bufTy : (tb : Table) → Fin (tcTables nBuf tb) → BufTy
  | .hbm, ⟨0, _⟩ => ⟨S8x8192x128, .f32⟩
  | .hbm, ⟨1, _⟩ => ⟨S8192x6144, .f32⟩
  | .hbm, ⟨2, _⟩ => ⟨S8192x1024, .f32⟩
  | .hbm, ⟨3, _⟩ => ⟨S2048x1024, .bf16⟩
  | .hbm, ⟨4, _⟩ => ⟨S1024x1024, .bf16⟩
  | .hbm, ⟨5, _⟩ => ⟨S1x1024, .f32⟩
  | .hbm, ⟨6, _⟩ => ⟨S8192x8x128, .f32⟩
  | .hbm, ⟨7, _⟩ => ⟨S8192x1024, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S1024x1024, .f32⟩
  | .hbm, ⟨39, _⟩ => ⟨S8192x1024, .f32⟩
  | .hbm, ⟨40, _⟩ => ⟨S1024, .f32⟩
  | .hbm, ⟨41, _⟩ => ⟨S1x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S8192x1024, .f32⟩
  | .hbm, ⟨49, _⟩ => ⟨S8192x1024, .f32⟩
  | .hbm, ⟨50, _⟩ => ⟨S_, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S_, .f32⟩
  | .hbm, ⟨61, _⟩ => ⟨S8192x1024, .f32⟩
  | .hbm, ⟨62, _⟩ => ⟨S8192x1024, .f32⟩
  | .hbm, ⟨63, _⟩ => ⟨S_, .f32⟩
  | .hbm, ⟨64, _⟩ => ⟨S8192x1024, .f32⟩
  | .hbm, ⟨65, _⟩ => ⟨S8192x1024, .f32⟩
  | .hbm, ⟨66, _⟩ => ⟨S_, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S1024x1024, .bf16⟩
  | .hbm, ⟨73, _⟩ => ⟨S1024x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S8192x1024, .f32⟩
  | .hbm, ⟨79, _⟩ => ⟨S8192x1024, .f32⟩
  | .hbm, ⟨80, _⟩ => ⟨S8192x1024, .f32⟩
  | .hbm, ⟨81, _⟩ => ⟨S8192x1024, .f32⟩
  | .hbm, ⟨82, _⟩ => ⟨S8192x1024, .f32⟩
  | .hbm, ⟨83, _⟩ => ⟨S8192x1024, .f32⟩
  | .hbm, ⟨84, _⟩ => ⟨S8192x1024, .f32⟩
  | .hbm, ⟨85, _⟩ => ⟨S_, .f32⟩
  | .hbm, ⟨86, _⟩ => ⟨S1024, .f32⟩
  | .hbm, ⟨87, _⟩ => ⟨S1x1024, .f32⟩
  | .hbm, ⟨88, _⟩ => ⟨S_, .f32⟩
  | .hbm, ⟨89, _⟩ => ⟨S1024, .f32⟩
  | .hbm, ⟨90, _⟩ => ⟨S1x1024, .f32⟩
  | .hbm, ⟨91, _⟩ => ⟨S8192x1024, .f32⟩
  | .hbm, ⟨92, _⟩ => ⟨S8192x1024, .f32⟩
  | .hbm, ⟨93, _⟩ => ⟨S8192x1024, .f32⟩
  | .hbm, ⟨94, _⟩ => ⟨S8192x1024, .f32⟩
  | .hbm, ⟨95, _⟩ => ⟨S_, .f32⟩
  | .hbm, ⟨96, _⟩ => ⟨S8192x1024, .f32⟩
  | .hbm, ⟨97, _⟩ => ⟨S8192x1024, .f32⟩
  | .hbm, ⟨98, _⟩ => ⟨S8192x1024, .f32⟩
  | .hbm, ⟨99, _⟩ => ⟨S_, .f32⟩
  | .hbm, ⟨100, _⟩ => ⟨S8192x1024, .f32⟩
  | .hbm, ⟨101, _⟩ => ⟨S8192x1024, .f32⟩
  | .hbm, ⟨102, _⟩ => ⟨S8192x1024, .f32⟩
  | .hbm, ⟨103, _⟩ => ⟨S8192x1024, .f32⟩
  | .hbm, ⟨104, _⟩ => ⟨S8192x1024, .f32⟩
  | .hbm, ⟨105, _⟩ => ⟨S8192x1024, .f32⟩
  | .hbm, ⟨106, _⟩ => ⟨S8192x1024, .f32⟩
  | .hbm, ⟨107, _⟩ => ⟨S8192x1024, .bf16⟩
  | .hbm, ⟨108, _⟩ => ⟨S8192x1024, .bf16⟩
  | .hbm, ⟨109, _⟩ => ⟨S8192x1024, .bf16⟩
  | .hbm, ⟨110, _⟩ => ⟨S8192x1024, .bf16⟩
  | .hbm, ⟨111, _⟩ => ⟨S8192x8x128, .f32⟩
  | .hbm, ⟨112, _⟩ => ⟨S8x8192x128, .f32⟩
  | _, _ => ⟨S8x8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_v20 : Ref sig .tc := ⟨.hbm, 33, rfl⟩
abbrev main_cst_6 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_7 : Ref sig .tc := ⟨.hbm, 47, rfl⟩
abbrev main_v33 : Ref sig .tc := ⟨.hbm, 48, rfl⟩
abbrev main_v34 : Ref sig .tc := ⟨.hbm, 49, rfl⟩
abbrev main_cst_8 : Ref sig .tc := ⟨.hbm, 50, rfl⟩
abbrev main_v35 : Ref sig .tc := ⟨.hbm, 51, rfl⟩
abbrev main_v36 : Ref sig .tc := ⟨.hbm, 52, rfl⟩
abbrev main_cst_9 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_call0_v0 : Ref sig .tc := ⟨.hbm, 58, rfl⟩
abbrev main_call0_v1 : Ref sig .tc := ⟨.hbm, 59, rfl⟩
abbrev main_call0_cst : Ref sig .tc := ⟨.hbm, 60, rfl⟩
abbrev main_call0_v2 : Ref sig .tc := ⟨.hbm, 61, rfl⟩
abbrev main_call0_v3 : Ref sig .tc := ⟨.hbm, 62, rfl⟩
abbrev main_call0_cst_0 : Ref sig .tc := ⟨.hbm, 63, rfl⟩
abbrev main_call0_v4 : Ref sig .tc := ⟨.hbm, 64, rfl⟩
abbrev main_v41_2 : Ref sig .tc := ⟨.hbm, 65, rfl⟩
abbrev main_call0_cst_1 : Ref sig .tc := ⟨.hbm, 66, rfl⟩
abbrev main_call0_v6 : Ref sig .tc := ⟨.hbm, 67, rfl⟩
abbrev main_call0_v7 : Ref sig .tc := ⟨.hbm, 68, rfl⟩
abbrev main_v41_1 : Ref sig .tc := ⟨.hbm, 69, rfl⟩
abbrev main_v41_0 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_call1_v0 : Ref sig .tc := ⟨.hbm, 78, rfl⟩
abbrev main_call1_v1 : Ref sig .tc := ⟨.hbm, 79, rfl⟩
abbrev main_call1_v2 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_10 : Ref sig .tc := ⟨.hbm, 85, rfl⟩
abbrev main_v53 : Ref sig .tc := ⟨.hbm, 86, rfl⟩
abbrev main_v54 : Ref sig .tc := ⟨.hbm, 87, rfl⟩
abbrev main_cst_11 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_cst_12 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_cst_13 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩

abbrev nD : Nat := 1
abbrev τ : Topo := Topo.v7x

variable {F : FTy → Type} [FloatOps F]
-- ==== ColumnsStep.lean ====
abbrev S1024x768 : Shape := ⟨2, ![1024, 768]⟩
abbrev S8x1024x768 : Shape := ⟨3, ![8, 1024, 768]⟩
abbrev S256x768 : Shape := ⟨2, ![256, 768]⟩
abbrev S8x256x768 : Shape := ⟨3, ![8, 256, 768]⟩
abbrev S1x256x768 : Shape := ⟨3, ![1, 256, 768]⟩

abbrev nBuf : Space → Nat
  | .hbm => 9
  | .vmem => 18
  | .smem => 0
  | _ => 0

abbrev bufTy : (tb : Table) → Fin (tcTables nBuf tb) → BufTy
  | .hbm, ⟨0, _⟩ => ⟨S1024x768, .f32⟩
  | .hbm, ⟨1, _⟩ => ⟨S1024x768, .f32⟩
  | .hbm, ⟨2, _⟩ => ⟨S1024x768, .f32⟩
  | .hbm, ⟨3, _⟩ => ⟨S8x1024x768, .bf16⟩
  | .hbm, ⟨4, _⟩ => ⟨S1024x768, .bf16⟩
  | .hbm, ⟨5, _⟩ => ⟨S1024x768, .f32⟩
  | .hbm, ⟨6, _⟩ => ⟨S1024x768, .f32⟩
  | .hbm, ⟨7, _⟩ => ⟨S1024x768, .f32⟩
  | .hbm, ⟨8, _⟩ => ⟨S1024x768, .f32⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S8x256x768, .bf16⟩
  | .local _ .vmem, ⟨7, _⟩ => ⟨S8x256x768, .bf16⟩
  | .local _ .vmem, ⟨8, _⟩ => ⟨S256x768, .bf16⟩
  | .local _ .vmem, ⟨9, _⟩ => ⟨S256x768, .bf16⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | .local _ .vmem, ⟨14, _⟩ => ⟨S256x768, .f32⟩
  | .local _ .vmem, ⟨15, _⟩ => ⟨S256x768, .f32⟩
  | .local _ .vmem, ⟨16, _⟩ => ⟨S256x768, .f32⟩
  | .local _ .vmem, ⟨17, _⟩ => ⟨S256x768, .f32⟩
  | _, _ => ⟨S1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ColumnsStepIdeal.lean ====
abbrev S1024x768 : Shape := ⟨2, ![1024, 768]⟩
abbrev S8x1024x768 : Shape := ⟨3, ![8, 1024, 768]⟩
abbrev S256x768 : Shape := ⟨2, ![256, 768]⟩
abbrev S8x256x768 : Shape := ⟨3, ![8, 256, 768]⟩
abbrev S1x256x768 : Shape := ⟨3, ![1, 256, 768]⟩

abbrev nBuf : Space → Nat
  | .hbm => 9
  | .vmem => 18
  | .smem => 0
  | _ => 0

abbrev bufTy : (tb : Table) → Fin (tcTables nBuf tb) → BufTy
  | .hbm, ⟨0, _⟩ => ⟨S1024x768, .f32⟩
  | .hbm, ⟨1, _⟩ => ⟨S1024x768, .f32⟩
  | .hbm, ⟨2, _⟩ => ⟨S1024x768, .f32⟩
  | .hbm, ⟨3, _⟩ => ⟨S8x1024x768, .bf16⟩
  | .hbm, ⟨4, _⟩ => ⟨S1024x768, .bf16⟩
  | .hbm, ⟨5, _⟩ => ⟨S1024x768, .f32⟩
  | .hbm, ⟨6, _⟩ => ⟨S1024x768, .f32⟩
  | .hbm, ⟨7, _⟩ => ⟨S1024x768, .f32⟩
  | .hbm, ⟨8, _⟩ => ⟨S1024x768, .f32⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S8x256x768, .bf16⟩
  | .local _ .vmem, ⟨7, _⟩ => ⟨S8x256x768, .bf16⟩
  | .local _ .vmem, ⟨8, _⟩ => ⟨S256x768, .bf16⟩
  | .local _ .vmem, ⟨9, _⟩ => ⟨S256x768, .bf16⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | .local _ .vmem, ⟨14, _⟩ => ⟨S256x768, .f32⟩
  | .local _ .vmem, ⟨15, _⟩ => ⟨S256x768, .f32⟩
  | .local _ .vmem, ⟨16, _⟩ => ⟨S256x768, .f32⟩
  | .local _ .vmem, ⟨17, _⟩ => ⟨S256x768, .f32⟩
  | _, _ => ⟨S1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ColumnsStepReferenceIdeal.lean ====
abbrev S1024x768 : Shape := ⟨2, ![1024, 768]⟩
abbrev S8x1024x768 : Shape := ⟨3, ![8, 1024, 768]⟩
abbrev S7x1024x768 : Shape := ⟨3, ![7, 1024, 768]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S1024x768, .f32⟩
  | .hbm, ⟨1, _⟩ => ⟨S1024x768, .f32⟩
  | .hbm, ⟨2, _⟩ => ⟨S1024x768, .f32⟩
  | .hbm, ⟨3, _⟩ => ⟨S8x1024x768, .bf16⟩
  | .hbm, ⟨4, _⟩ => ⟨S1024x768, .bf16⟩
  | .hbm, ⟨5, _⟩ => ⟨S1024x768, .f32⟩
  | .hbm, ⟨6, _⟩ => ⟨S7x1024x768, .bf16⟩
  | .hbm, ⟨7, _⟩ => ⟨S7x1024x768, .f32⟩
  | .hbm, ⟨8, _⟩ => ⟨S_, .f32⟩
  | .hbm, ⟨9, _⟩ => ⟨S1024x768, .f32⟩
  | .hbm, ⟨10, _⟩ => ⟨S1024x768, .f32⟩
  | .hbm, ⟨11, _⟩ => ⟨S_, .f32⟩
  | .hbm, ⟨12, _⟩ => ⟨S1024x768, .f32⟩
  | .hbm, ⟨13, _⟩ => ⟨S1024x768, .f32⟩
  | .hbm, ⟨14, _⟩ => ⟨S_, .f32⟩
  | .hbm, ⟨15, _⟩ => ⟨S1024x768, .f32⟩
  | .hbm, ⟨16, _⟩ => ⟨S1024x768, .f32⟩
  | .hbm, ⟨17, _⟩ => ⟨S1024x768, .f32⟩
  | .hbm, ⟨18, _⟩ => ⟨S_, .f32⟩
  | .hbm, ⟨19, _⟩ => ⟨S1024x768, .f32⟩
  | .hbm, ⟨20, _⟩ => ⟨S1024x768, .f32⟩
  | .hbm, ⟨21, _⟩ => ⟨S1024x768, .f32⟩
  | .hbm, ⟨22, _⟩ => ⟨S_, .f32⟩
  | .hbm, ⟨23, _⟩ => ⟨S1024x768, .f32⟩
  | .hbm, ⟨24, _⟩ => ⟨S1024x768, .f32⟩
  | .hbm, ⟨25, _⟩ => ⟨S1024x768, .f32⟩
  | .hbm, ⟨26, _⟩ => ⟨S_, .f32⟩
  | .hbm, ⟨27, _⟩ => ⟨S1024x768, .f32⟩
  | .hbm, ⟨28, _⟩ => ⟨S1024x768, .f32⟩
  | .hbm, ⟨29, _⟩ => ⟨S_, .f32⟩
  | .hbm, ⟨30, _⟩ => ⟨S1024x768, .f32⟩
  | .hbm, ⟨31, _⟩ => ⟨S1024x768, .f32⟩
  | .hbm, ⟨32, _⟩ => ⟨S1024x768, .f32⟩
  | .hbm, ⟨33, _⟩ => ⟨S_, .f32⟩
  | .hbm, ⟨34, _⟩ => ⟨S1024x768, .f32⟩
  | .hbm, ⟨35, _⟩ => ⟨S1024x768, .f32⟩
  | .hbm, ⟨36, _⟩ => ⟨S1024x768, .f32⟩
  | .hbm, ⟨37, _⟩ => ⟨S_, .f32⟩
  | .hbm, ⟨38, _⟩ => ⟨S1024x768, .f32⟩
  | .hbm, ⟨39, _⟩ => ⟨S1024x768, .f32⟩
  | .hbm, ⟨40, _⟩ => ⟨S1024x768, .f32⟩
  | .hbm, ⟨41, _⟩ => ⟨S_, .f32⟩
  | .hbm, ⟨42, _⟩ => ⟨S1024x768, .f32⟩
  | .hbm, ⟨43, _⟩ => ⟨S1024x768, .f32⟩
  | _, _ => ⟨S1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_8 : Ref sig .tc := ⟨.hbm, 41, rfl⟩
abbrev main_v27 : Ref sig .tc := ⟨.hbm, 42, rfl⟩
abbrev main_v28 : Ref sig .tc := ⟨.hbm, 43, rfl⟩

abbrev nD : Nat := 1
abbrev τ : Topo := Topo.v7x

variable {F : FTy → Type} [FloatOps F]
-- ==== RowsStep.lean ====
abbrev S256x1024 : Shape := ⟨2, ![256, 1024]⟩
abbrev S8x256x1024 : Shape := ⟨3, ![8, 256, 1024]⟩
abbrev S128x1024 : Shape := ⟨2, ![128, 1024]⟩
abbrev S8x128x1024 : Shape := ⟨3, ![8, 128, 1024]⟩
abbrev S1x128x1024 : Shape := ⟨3, ![1, 128, 1024]⟩

abbrev nBuf : Space → Nat
  | .hbm => 9
  | .vmem => 18
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S8x256x1024, .bf16⟩
  | .hbm, ⟨4, _⟩ => ⟨S256x1024, .bf16⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S8x128x1024, .bf16⟩
  | .local _ .vmem, ⟨7, _⟩ => ⟨S8x128x1024, .bf16⟩
  | .local _ .vmem, ⟨8, _⟩ => ⟨S128x1024, .bf16⟩
  | .local _ .vmem, ⟨9, _⟩ => ⟨S128x1024, .bf16⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | .local _ .vmem, ⟨16, _⟩ => ⟨S128x1024, .f32⟩
  | .local _ .vmem, ⟨17, _⟩ => ⟨S128x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== RowsStepIdeal.lean ====
abbrev S256x1024 : Shape := ⟨2, ![256, 1024]⟩
abbrev S8x256x1024 : Shape := ⟨3, ![8, 256, 1024]⟩
abbrev S128x1024 : Shape := ⟨2, ![128, 1024]⟩
abbrev S8x128x1024 : Shape := ⟨3, ![8, 128, 1024]⟩
abbrev S1x128x1024 : Shape := ⟨3, ![1, 128, 1024]⟩

abbrev nBuf : Space → Nat
  | .hbm => 9
  | .vmem => 18
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S8x256x1024, .bf16⟩
  | .hbm, ⟨4, _⟩ => ⟨S256x1024, .bf16⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S8x128x1024, .bf16⟩
  | .local _ .vmem, ⟨7, _⟩ => ⟨S8x128x1024, .bf16⟩
  | .local _ .vmem, ⟨8, _⟩ => ⟨S128x1024, .bf16⟩
  | .local _ .vmem, ⟨9, _⟩ => ⟨S128x1024, .bf16⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | .local _ .vmem, ⟨16, _⟩ => ⟨S128x1024, .f32⟩
  | .local _ .vmem, ⟨17, _⟩ => ⟨S128x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== RowsStepReferenceIdeal.lean ====
abbrev S256x1024 : Shape := ⟨2, ![256, 1024]⟩
abbrev S8x256x1024 : Shape := ⟨3, ![8, 256, 1024]⟩
abbrev S7x256x1024 : Shape := ⟨3, ![7, 256, 1024]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S8x256x1024, .bf16⟩
  | .hbm, ⟨4, _⟩ => ⟨S256x1024, .bf16⟩
  | .hbm, ⟨5, _⟩ => ⟨S256x1024, .f32⟩
  | .hbm, ⟨6, _⟩ => ⟨S7x256x1024, .bf16⟩
  | .hbm, ⟨7, _⟩ => ⟨S7x256x1024, .f32⟩
  | .hbm, ⟨8, _⟩ => ⟨S_, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S_, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S_, .f32⟩
  | .hbm, ⟨19, _⟩ => ⟨S256x1024, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S_, .f32⟩
  | .hbm, ⟨30, _⟩ => ⟨S256x1024, .f32⟩
  | .hbm, ⟨31, _⟩ => ⟨S256x1024, .f32⟩
  | .hbm, ⟨32, _⟩ => ⟨S256x1024, .f32⟩
  | .hbm, ⟨33, _⟩ => ⟨S_, .f32⟩
  | .hbm, ⟨34, _⟩ => ⟨S256x1024, .f32⟩
  | .hbm, ⟨35, _⟩ => ⟨S256x1024, .f32⟩
  | .hbm, ⟨36, _⟩ => ⟨S256x1024, .f32⟩
  | .hbm, ⟨37, _⟩ => ⟨S_, .f32⟩
  | .hbm, ⟨38, _⟩ => ⟨S256x1024, .f32⟩
  | .hbm, ⟨39, _⟩ => ⟨S256x1024, .f32⟩
  | .hbm, ⟨40, _⟩ => ⟨S256x1024, .f32⟩
  | .hbm, ⟨41, _⟩ => ⟨S_, .f32⟩
  | .hbm, ⟨42, _⟩ => ⟨S256x1024, .f32⟩
  | .hbm, ⟨43, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_8 : Ref sig .tc := ⟨.hbm, 41, rfl⟩
abbrev main_v27 : Ref sig .tc := ⟨.hbm, 42, rfl⟩
abbrev main_v28 : Ref sig .tc := ⟨.hbm, 43, rfl⟩

abbrev nD : Nat := 1
abbrev τ : Topo := Topo.v7x

variable {F : FTy → Type} [FloatOps F]
-- ==== GluStep.lean ====
abbrev S128x1024 : Shape := ⟨2, ![128, 1024]⟩
abbrev S8x128x1024 : Shape := ⟨3, ![8, 128, 1024]⟩
abbrev S64x1024 : Shape := ⟨2, ![64, 1024]⟩
abbrev S8x64x1024 : Shape := ⟨3, ![8, 64, 1024]⟩
abbrev S1x64x1024 : Shape := ⟨3, ![1, 64, 1024]⟩

abbrev nBuf : Space → Nat
  | .hbm => 9
  | .vmem => 18
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S8x128x1024, .bf16⟩
  | .hbm, ⟨4, _⟩ => ⟨S128x1024, .bf16⟩
  | .hbm, ⟨5, _⟩ => ⟨S128x1024, .f32⟩
  | .hbm, ⟨6, _⟩ => ⟨S128x1024, .f32⟩
  | .hbm, ⟨7, _⟩ => ⟨S128x1024, .f32⟩
  | .hbm, ⟨8, _⟩ => ⟨S128x1024, .f32⟩
  | .local _ .vmem, ⟨0, _⟩ => ⟨S64x1024, .f32⟩
  | .local _ .vmem, ⟨1, _⟩ => ⟨S64x1024, .f32⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S8x64x1024, .bf16⟩
  | .local _ .vmem, ⟨7, _⟩ => ⟨S8x64x1024, .bf16⟩
  | .local _ .vmem, ⟨8, _⟩ => ⟨S64x1024, .bf16⟩
  | .local _ .vmem, ⟨9, _⟩ => ⟨S64x1024, .bf16⟩
  | .local _ .vmem, ⟨10, _⟩ => ⟨S64x1024, .f32⟩
  | .local _ .vmem, ⟨11, _⟩ => ⟨S64x1024, .f32⟩
  | .local _ .vmem, ⟨12, _⟩ => ⟨S64x1024, .f32⟩
  | .local _ .vmem, ⟨13, _⟩ => ⟨S64x1024, .f32⟩
  | .local _ .vmem, ⟨14, _⟩ => ⟨S64x1024, .f32⟩
  | .local _ .vmem, ⟨15, _⟩ => ⟨S64x1024, .f32⟩
  | .local _ .vmem, ⟨16, _⟩ => ⟨S64x1024, .f32⟩
  | .local _ .vmem, ⟨17, _⟩ => ⟨S64x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x64x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== GluStepReferenceIdeal.lean ====
abbrev S128x1024 : Shape := ⟨2, ![128, 1024]⟩
abbrev S8x128x1024 : Shape := ⟨3, ![8, 128, 1024]⟩
abbrev S7x128x1024 : Shape := ⟨3, ![7, 128, 1024]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S8x128x1024, .bf16⟩
  | .hbm, ⟨4, _⟩ => ⟨S128x1024, .bf16⟩
  | .hbm, ⟨5, _⟩ => ⟨S128x1024, .f32⟩
  | .hbm, ⟨6, _⟩ => ⟨S7x128x1024, .bf16⟩
  | .hbm, ⟨7, _⟩ => ⟨S7x128x1024, .f32⟩
  | .hbm, ⟨8, _⟩ => ⟨S_, .f32⟩
  | .hbm, ⟨9, _⟩ => ⟨S128x1024, .f32⟩
  | .hbm, ⟨10, _⟩ => ⟨S128x1024, .f32⟩
  | .hbm, ⟨11, _⟩ => ⟨S_, .f32⟩
  | .hbm, ⟨12, _⟩ => ⟨S128x1024, .f32⟩
  | .hbm, ⟨13, _⟩ => ⟨S128x1024, .f32⟩
  | .hbm, ⟨14, _⟩ => ⟨S_, .f32⟩
  | .hbm, ⟨15, _⟩ => ⟨S128x1024, .f32⟩
  | .hbm, ⟨16, _⟩ => ⟨S128x1024, .f32⟩
  | .hbm, ⟨17, _⟩ => ⟨S128x1024, .f32⟩
  | .hbm, ⟨18, _⟩ => ⟨S_, .f32⟩
  | .hbm, ⟨19, _⟩ => ⟨S128x1024, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S128x1024, .f32⟩
  | .hbm, ⟨26, _⟩ => ⟨S_, .f32⟩
  | .hbm, ⟨27, _⟩ => ⟨S128x1024, .f32⟩
  | .hbm, ⟨28, _⟩ => ⟨S128x1024, .f32⟩
  | .hbm, ⟨29, _⟩ => ⟨S_, .f32⟩
  | .hbm, ⟨30, _⟩ => ⟨S128x1024, .f32⟩
  | .hbm, ⟨31, _⟩ => ⟨S128x1024, .f32⟩
  | .hbm, ⟨32, _⟩ => ⟨S128x1024, .f32⟩
  | .hbm, ⟨33, _⟩ => ⟨S_, .f32⟩
  | .hbm, ⟨34, _⟩ => ⟨S128x1024, .f32⟩
  | .hbm, ⟨35, _⟩ => ⟨S128x1024, .f32⟩
  | .hbm, ⟨36, _⟩ => ⟨S128x1024, .f32⟩
  | .hbm, ⟨37, _⟩ => ⟨S_, .f32⟩
  | .hbm, ⟨38, _⟩ => ⟨S128x1024, .f32⟩
  | .hbm, ⟨39, _⟩ => ⟨S128x1024, .f32⟩
  | .hbm, ⟨40, _⟩ => ⟨S128x1024, .f32⟩
  | .hbm, ⟨41, _⟩ => ⟨S_, .f32⟩
  | .hbm, ⟨42, _⟩ => ⟨S128x1024, .f32⟩
  | .hbm, ⟨43, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_8 : Ref sig .tc := ⟨.hbm, 41, rfl⟩
abbrev main_v27 : Ref sig .tc := ⟨.hbm, 42, rfl⟩
abbrev main_v28 : Ref sig .tc := ⟨.hbm, 43, rfl⟩

abbrev nD : Nat := 1
abbrev τ : Topo := Topo.v7x

variable {F : FTy → Type} [FloatOps F]
-- ==== Proof.Model.lean ====
/- The mathematics of the layer's training step on real numbers: what one block of 128 consecutive positions
   computes, forward and backward. A block's rows come as functions to ℝ; nothing here mentions a program. -/
module

public import Idealize.ShloMosaic.PureOps.Ideal.Laws

@[expose] public section

noncomputable section

namespace Sgu

/-- The single-precision word both programs have for √(2/π), as a rational. -/
def cC : ℝ := 13386282 / 16777216
/-- The single-precision word both programs have for 1e-6, as a rational. -/
def eps : ℝ := 8796093 / 8796093022208

theorem eps_pos : 0 < eps := by unfold eps; norm_num

/-! ## The activations -/

/-- The hyperbolic tangent inside the tanh form of GELU. -/
def th (x : ℝ) : ℝ := Real.tanh (cC * x * (1 + 8943 / 200000 * (x * x)))
/-- GELU is `x * hp x`. -/
def hp (x : ℝ) : ℝ := 1 / 2 * (1 + th x)
/-- GELU, in its tanh form. -/
def gel (x : ℝ) : ℝ := x * hp x
/-- Its derivative. -/
def dgel (x : ℝ) : ℝ := hp x + 1 / 2 * x * (1 - th x * th x) * cC * (1 + 26829 / 200000 * (x * x))
/-- The logistic function. -/
def lgs (z : ℝ) : ℝ := (1 + Real.exp (-z))⁻¹
/-- SiLU. -/
def act (z : ℝ) : ℝ := z * lgs z
/-- Its derivative. -/
def dact (z : ℝ) : ℝ := lgs z * (1 + z * (1 - lgs z))

/-! ## The data -/

/-- The layer's parameters: the norm's gain, the spatial weights and biases of the four groups, the output
    projection, the final norm's gain. -/
structure Par where
  gain : Fin 2048 → ℝ
  w : Fin 4 → Fin 128 → Fin 128 → ℝ
  b : Fin 4 → Fin 128 → ℝ
  wo : Fin 2048 → Fin 1024 → ℝ
  fn : Fin 1024 → ℝ

/-- One block of 128 positions: the projected inputs, the residual stream and the targets. -/
structure Blk where
  p : Fin 128 → Fin 6144 → ℝ
  x : Fin 128 → Fin 1024 → ℝ
  t : Fin 128 → Fin 1024 → ℝ

variable (A : Par) (B : Blk)

/-! ## Forward -/

/-- Columns 0 … 2047 of the projection. -/
def pu (t : Fin 128) (j : Fin 2048) : ℝ := B.p t ⟨j, by omega⟩
/-- Columns 2048 … 4095. -/
def pv (t : Fin 128) (j : Fin 2048) : ℝ := B.p t ⟨2048 + j, by omega⟩
/-- Columns 4096 … 6143. -/
def pz (t : Fin 128) (j : Fin 2048) : ℝ := B.p t ⟨4096 + j, by omega⟩

/-- The gate's value branch and the branch the spatial projection mixes. -/
def u (t : Fin 128) (j : Fin 2048) : ℝ := gel (pu B t j)
def v (t : Fin 128) (j : Fin 2048) : ℝ := gel (pv B t j)
/-- The mixed branch's row, centred, its variance and the reciprocal of its deviation. -/
def vc (t : Fin 128) (j : Fin 2048) : ℝ := v B t j - (∑ i, v B t i) / 2048
def va (t : Fin 128) : ℝ := (∑ i, vc B t i * vc B t i) / 2048
def rs (t : Fin 128) : ℝ := (Real.sqrt (va B t + eps))⁻¹
/-- The normalised row and the row times the gain. -/
def vh (t : Fin 128) (j : Fin 2048) : ℝ := vc B t j * rs B t
def vn (t : Fin 128) (j : Fin 2048) : ℝ := vh B t j * A.gain j
/-- The group of a column: four groups of 512. -/
def grp (j : Fin 2048) : Fin 4 := ⟨j / 512, by omega⟩
/-- The spatial weights with the entries above the diagonal struck out. -/
def wm (g : Fin 4) (t k : Fin 128) : ℝ := if k ≤ t then A.w g t k else 0
/-- The spatial projection: position `t` sees positions `0 … t` of its block. -/
def s (t : Fin 128) (j : Fin 2048) : ℝ := ∑ k, wm A (grp j) t k * vn A B k j + A.b (grp j) t
/-- The branch's output. -/
def y (t : Fin 128) (j : Fin 2048) : ℝ := u B t j * s A B t j * act (pz B t j)
/-- The residual stream after the layer. -/
def x2 (t : Fin 128) (d : Fin 1024) : ℝ := B.x t d + ∑ j, y A B t j * A.wo j d
/-- The final norm's mean square, its reciprocal root, the normalised row, and the error. -/
def ms (t : Fin 128) : ℝ := (∑ d, x2 A B t d * x2 A B t d) / 1024
def rr (t : Fin 128) : ℝ := (Real.sqrt (ms A B t + eps))⁻¹
def xh (t : Fin 128) (d : Fin 1024) : ℝ := x2 A B t d * rr A B t
def e (t : Fin 128) (d : Fin 1024) : ℝ := xh A B t d * A.fn d - B.t t d
/-- A position's loss: its mean squared error. -/
def el (t : Fin 128) : ℝ := (∑ d, e A B t d * e A B t d) / 1024

/-! ## Backward -/

/-- The cotangent of the final norm's output, of the normalised row, of the residual stream. -/
def dd (t : Fin 128) (d : Fin 1024) : ℝ := e A B t d * (1 / 1024)
def dxh (t : Fin 128) (d : Fin 1024) : ℝ := dd A B t d * A.fn d
def dx2 (t : Fin 128) (d : Fin 1024) : ℝ :=
  rr A B t * (dxh A B t d - xh A B t d * ((∑ i, dxh A B t i * xh A B t i) / 1024))
/-- The cotangent of the branch's output, and of its three factors. -/
def dy (t : Fin 128) (j : Fin 2048) : ℝ := ∑ d, dx2 A B t d * A.wo j d
def du (t : Fin 128) (j : Fin 2048) : ℝ := dy A B t j * s A B t j * act (pz B t j)
def ds (t : Fin 128) (j : Fin 2048) : ℝ := dy A B t j * u B t j * act (pz B t j)
def dz (t : Fin 128) (j : Fin 2048) : ℝ := dy A B t j * u B t j * s A B t j * dact (pz B t j)
/-- The cotangents of the mixed branch: after the norm, after its gain, before the norm. -/
def dvn (t : Fin 128) (j : Fin 2048) : ℝ := ∑ k, wm A (grp j) k t * ds A B k j
def dvh (t : Fin 128) (j : Fin 2048) : ℝ := dvn A B t j * A.gain j
def dv (t : Fin 128) (j : Fin 2048) : ℝ :=
  rs B t * (dvh A B t j - (∑ i, dvh A B t i) / 2048 - vh B t j * ((∑ i, dvh A B t i * vh B t i) / 2048))
/-- The cotangent of the projection, its three parts side by side. -/
def dp (t : Fin 128) (c : Fin 6144) : ℝ :=
  if h : (c : ℕ) < 2048 then du A B t ⟨c, h⟩ * dgel (pu B t ⟨c, h⟩)
  else if h : (c : ℕ) - 2048 < 2048 then dv A B t ⟨c - 2048, h⟩ * dgel (pv B t ⟨c - 2048, h⟩)
  else dz A B t ⟨c - 2048 - 2048, by omega⟩

/-! ## What the block adds to the parameters' gradients -/

/-- The column `d` of group `g`. -/
def col (g : Fin 4) (d : Fin 512) : Fin 2048 := ⟨g * 512 + d, by omega⟩
def gb (g : Fin 4) (t : Fin 128) : ℝ := ∑ d, ds A B t (col g d)
def gw (g : Fin 4) (t k : Fin 128) : ℝ := if k ≤ t then ∑ d, ds A B t (col g d) * vn A B k (col g d) else 0
def gg (j : Fin 2048) : ℝ := ∑ t, dvn A B t j * vh B t j
def gf (d : Fin 1024) : ℝ := ∑ t, dd A B t d * xh A B t d

theorem va_nonneg (t : Fin 128) : 0 ≤ va B t :=
  div_nonneg (Finset.sum_nonneg fun _ _ => mul_self_nonneg _) (by norm_num)
theorem ms_nonneg (t : Fin 128) : 0 ≤ ms A B t :=
  div_nonneg (Finset.sum_nonneg fun _ _ => mul_self_nonneg _) (by norm_num)

/-! ## Reading extended reals that are real -/

section Coe
open Idealize.ShloMosaic

theorem coe_sum {n : ℕ} (f : Fin n → ℝ) : (∑ k, ((f k : ℝ) : EReal)) = ((∑ k, f k : ℝ) : EReal) := by
  induction n with
  | zero => simp
  | succ n ih => rw [Fin.sum_univ_succ, Fin.sum_univ_succ, ih, EReal.coe_add]

theorem div2048 (r : ℝ) : Ideal.div (r : EReal) ((2048 : ℝ) : EReal) = ((r / 2048 : ℝ) : EReal) := by
  rw [Ideal.div_coe (by norm_num), ← EReal.coe_mul]; congr 1; ring
theorem div1024 (r : ℝ) : Ideal.div (r : EReal) ((1024 : ℝ) : EReal) = ((r / 1024 : ℝ) : EReal) := by
  rw [Ideal.div_coe (by norm_num), ← EReal.coe_mul]; congr 1; ring
theorem div_pos_coe (r q : ℝ) (h : 0 < q) : Ideal.div (r : EReal) (q : EReal) = ((r / q : ℝ) : EReal) := by
  rw [Ideal.div_coe h.ne', ← EReal.coe_mul]; congr 1; ring
theorem rsqrt_pos (r : ℝ) (h : 0 ≤ r) :
    Ideal.rsqrt ((r + eps : ℝ) : EReal) = (((Real.sqrt (r + eps))⁻¹ : ℝ) : EReal) := by
  have h' : 0 < r + eps := add_pos_of_nonneg_of_pos h eps_pos
  rw [Ideal.rsqrt_coe, if_neg (not_lt.2 h'.le), if_neg h'.ne']

theorem lit2048 : Ideal.ofBits .f32 0x45000000#32 = ((2048 : ℝ) : EReal) := by
  simp [Ideal.ofBits, Ideal.ieee, -EReal.coe_mul]; norm_num
theorem lit1024 : Ideal.ofBits .f32 0x44800000#32 = ((1024 : ℝ) : EReal) := by
  simp [Ideal.ofBits, Ideal.ieee, -EReal.coe_mul]; norm_num
theorem lit1_1024 : Ideal.ofBits .f32 0x3A800000#32 = ((1 / 1024 : ℝ) : EReal) := by
  simp [Ideal.ofBits, Ideal.ieee, -EReal.coe_mul]; norm_num
theorem lit_half : Ideal.ofBits .f32 0x3F000000#32 = ((1 / 2 : ℝ) : EReal) := by
  simp [Ideal.ofBits, Ideal.ieee, -EReal.coe_mul]; norm_num
theorem lit_neghalf : Ideal.ofBits .f32 0xBF000000#32 = ((-(1 / 2) : ℝ) : EReal) := by
  simp [Ideal.ofBits, Ideal.ieee, -EReal.coe_mul]; norm_num
theorem lit2 : Ideal.ofBits .f32 0x40000000#32 = ((2 : ℝ) : EReal) := by
  simp [Ideal.ofBits, Ideal.ieee, -EReal.coe_mul]; norm_num
theorem lit3 : Ideal.ofBits .f32 0x40400000#32 = ((3 : ℝ) : EReal) := by
  simp [Ideal.ofBits, Ideal.ieee, -EReal.coe_mul]; norm_num
theorem lit_cC : Ideal.ofBits .f32 0x3F4C422A#32 = ((cC : ℝ) : EReal) := by
  simp [Ideal.ofBits, Ideal.ieee, cC, -EReal.coe_mul]; norm_num
theorem lit_eps : Ideal.ofBits .f32 0x358637BD#32 = ((eps : ℝ) : EReal) := by
  simp [Ideal.ofBits, Ideal.ieee, eps, -EReal.coe_mul]; norm_num
theorem lit44715 : Ideal.ofBits .f32 0x472EAB00#32 = ((44715 : ℝ) : EReal) := by
  simp [Ideal.ofBits, Ideal.ieee, -EReal.coe_mul]; norm_num
theorem lit1e6 : Ideal.ofBits .f32 0x49742400#32 = ((1000000 : ℝ) : EReal) := by
  simp [Ideal.ofBits, Ideal.ieee, -EReal.coe_mul]; norm_num

end Coe

end Sgu

end
-- ==== Proof.Data.lean ====
/- The step's whole arrays as real numbers, cut into 64 blocks of 128 positions. -/
module

public import proofs.«01_k».proof.Proof.Model
public import Idealize.ShloMosaic.Lib.Pointwise

@[expose] public section

noncomputable section

namespace Sgu

open Idealize.ShloMosaic

/-- The eight arguments' entries: the projection, the residual stream, the targets, and the parameters. -/
structure Arr where
  p : Fin 8192 → Fin 6144 → ℝ
  x : Fin 8192 → Fin 1024 → ℝ
  t : Fin 8192 → Fin 1024 → ℝ
  par : Par

/-- The block a position lies in, and its place there. -/
def nb (r : Fin 8192) : Fin 64 := ⟨r / 128, by omega⟩
def rb (r : Fin 8192) : Fin 128 := ⟨r % 128, by omega⟩
/-- Position `t` of block `n`. -/
def pos (n : Fin 64) (t : Fin 128) : Fin 8192 := ⟨n * 128 + t, by omega⟩

theorem nb_pos (n : Fin 64) (t : Fin 128) : nb (pos n t) = n := Fin.ext (by show (n * 128 + t : ℕ) / 128 = n; omega)
theorem rb_pos (n : Fin 64) (t : Fin 128) : rb (pos n t) = t := Fin.ext (by show (n * 128 + t : ℕ) % 128 = t; omega)
theorem pos_nb (r : Fin 8192) : pos (nb r) (rb r) = r := Fin.ext (by show (r / 128 * 128 + r % 128 : ℕ) = r; omega)

/-- Block `n` of the arrays. -/
def Arr.blk (D : Arr) (n : Fin 64) : Blk where
  p t j := D.p (pos n t) j
  x t d := D.x (pos n t) d
  t t d := D.t (pos n t) d

/-- The eight argument arrays hold the real numbers of `D`. -/
structure Holds (D : Arr) (x0 : (⟨2, ![8192, 6144]⟩ : Shape).Idx → EReal) (x1 : (⟨2, ![8192, 1024]⟩ : Shape).Idx → EReal)
    (x2 : (⟨2, ![1, 2048]⟩ : Shape).Idx → EReal) (x3 : (⟨3, ![4, 128, 128]⟩ : Shape).Idx → EReal)
    (x4 : (⟨3, ![4, 128, 1]⟩ : Shape).Idx → EReal) (x5 : (⟨2, ![2048, 1024]⟩ : Shape).Idx → EReal)
    (x6 : (⟨2, ![1, 1024]⟩ : Shape).Idx → EReal) (x7 : (⟨2, ![8192, 1024]⟩ : Shape).Idx → EReal) : Prop where
  p : ∀ r j, x0 (ix2 r j) = (D.p r j : EReal)
  x : ∀ r d, x1 (ix2 r d) = (D.x r d : EReal)
  g : ∀ o j, x2 (ix2 o j) = (D.par.gain j : EReal)
  w : ∀ g i k, x3 (ix3 g i k) = (D.par.w g i k : EReal)
  b : ∀ g i o, x4 (ix3 g i o) = (D.par.b g i : EReal)
  wo : ∀ j d, x5 (ix2 j d) = (D.par.wo j d : EReal)
  fn : ∀ o d, x6 (ix2 o d) = (D.par.fn d : EReal)
  tg : ∀ r d, x7 (ix2 r d) = (D.t r d : EReal)

/-! ## Sums over the positions -/

/-- Over two halves. -/
theorem sum_pairs (f : Fin 64 → ℝ) :
    ∑ s : Fin 32, (f ⟨2 * s, by omega⟩ + f ⟨2 * s + 1, by omega⟩) = ∑ n, f n := by
  rw [← (finProdFinEquiv (m := 32) (n := 2)).sum_comp, Fintype.sum_prod_type]
  refine Finset.sum_congr rfl fun s _ => ?_
  rw [Fin.sum_univ_two]
  refine congrArg₂ _ (congrArg f (Fin.ext ?_)) (congrArg f (Fin.ext ?_))
  · show 2 * (s : ℕ) = 0 + 2 * s; omega
  · show 2 * (s : ℕ) + 1 = 1 + 2 * s; omega

/-- Over the positions, block by block. -/
theorem sum_pos (f : Fin 64 → Fin 128 → ℝ) : ∑ r, f (nb r) (rb r) = ∑ n, ∑ t, f n t := by
  rw [← (finProdFinEquiv (m := 64) (n := 128)).sum_comp, Fintype.sum_prod_type]
  refine Finset.sum_congr rfl fun n _ => Finset.sum_congr rfl fun t _ => ?_
  have h : finProdFinEquiv (n, t) = pos n t := Fin.ext (by show (t : ℕ) + 128 * n = n * 128 + t; omega)
  show f (nb (finProdFinEquiv (n, t))) (rb (finProdFinEquiv (n, t))) = f n t
  rw [h, nb_pos, rb_pos]

/-- Over the columns, group by group. -/
theorem sum_col (f : Fin 2048 → ℝ) : ∑ j, f j = ∑ g : Fin 4, ∑ d : Fin 512, f (col g d) := by
  rw [← (finProdFinEquiv (m := 4) (n := 512)).sum_comp, Fintype.sum_prod_type]
  refine Finset.sum_congr rfl fun g _ => Finset.sum_congr rfl fun d _ => congrArg f (Fin.ext ?_)
  show (d : ℕ) + 512 * g = g * 512 + d; omega

end Sgu

end
-- ==== Proof.KFwd.lean ====
/- The kernel's forward values, read at an index, are the real model's: one block of 128 rows. -/
module

public import proofs.«01_k».proof.Proof.Model
public import proofs.«01_k».proof.Proof.Gen.KernelIdeal.Skeleton
public import Idealize.ShloMosaic.Lib.Pointwise

@[expose] public section

set_option maxRecDepth 16384

noncomputable section

namespace Sgu.K

open Idealize.ShloMosaic Idealize.ShloMosaic.TcCoe Idealize.SL.Sem
open Cert.KernelIdeal Cert.KernelIdeal.Gen

theorem named_a (b : BitVec 32) :
    (Named.named κ "gelu_a" b : Ideal .f32) = ((8943 / 200000 : ℝ) : EReal) := by
  show (κ _).getD _ = _
  rfl
theorem named_3a (b : BitVec 32) :
    (Named.named κ "gelu_3a" b : Ideal .f32) = ((26829 / 200000 : ℝ) : EReal) := by
  show (κ _).getD _ = _
  rfl

variable {A : Par} {B : Blk} {v4 : FVec Ideal S128x6144 .f32} {v3 : FVec Ideal S1x2048 .f32}

/-! ## The two activated branches and their derivatives -/

theorem k_u (h4 : ∀ t c, v4 (ix2 t c) = (B.p t c : EReal)) (t : Fin 128) (j : Fin 2048) :
    k0_pay13 (F := Ideal) v4 (ix2 t j) = (u B t j : EReal) := by
  pointwise [k0_pay13, k0_pay12, k0_pay11, k0_pay10, k0_pay7]
  simp only [h4, named_a, lit_cC, lit_half, ← EReal.coe_one, ← EReal.coe_mul, ← EReal.coe_add, Ideal.tanh_coe]
  rfl

theorem k_du (h4 : ∀ t c, v4 (ix2 t c) = (B.p t c : EReal)) (t : Fin 128) (j : Fin 2048) :
    k0_pay14 (F := Ideal) v4 (ix2 t j) = (dgel (pu B t j) : EReal) := by
  pointwise [k0_pay14, k0_pay12, k0_pay11, k0_pay10, k0_pay7]
  simp only [h4, named_a, named_3a, lit_cC, lit_half, ← EReal.coe_one, ← EReal.coe_mul, ← EReal.coe_add,
    ← EReal.coe_sub, Ideal.tanh_coe]
  rfl

theorem k_v (h4 : ∀ t c, v4 (ix2 t c) = (B.p t c : EReal)) (t : Fin 128) (j : Fin 2048) :
    mulf (F := Ideal) (k0_pay8 v4) (k0_pay19 (k0_pay15 v4) (k0_pay16 v4) k0_pay17) (ix2 t j) = (v B t j : EReal) := by
  pointwise [k0_pay19, k0_pay18, k0_pay17, k0_pay16, k0_pay15, k0_pay8]
  simp only [h4, named_a, lit_cC, lit_half, ← EReal.coe_one, ← EReal.coe_mul, ← EReal.coe_add, Ideal.tanh_coe]
  rfl

theorem k_dv (h4 : ∀ t c, v4 (ix2 t c) = (B.p t c : EReal)) (t : Fin 128) (j : Fin 2048) :
    k0_pay20 (F := Ideal) (k0_pay8 v4) (k0_pay15 v4) (k0_pay16 v4) k0_pay17 (ix2 t j) = (dgel (pv B t j) : EReal) := by
  pointwise [k0_pay20, k0_pay19, k0_pay18, k0_pay17, k0_pay16, k0_pay15, k0_pay8]
  simp only [h4, named_a, named_3a, lit_cC, lit_half, ← EReal.coe_one, ← EReal.coe_mul, ← EReal.coe_add,
    ← EReal.coe_sub, Ideal.tanh_coe]
  rfl

/-! ## The norm -/

theorem k_vc (h4 : ∀ t c, v4 (ix2 t c) = (B.p t c : EReal)) (t : Fin 128) (j : Fin 2048) :
    k0_pay21 (F := Ideal) (k0_pay8 v4) (k0_pay15 v4) (k0_pay16 v4) k0_pay17 (ix2 t j) = (vc B t j : EReal) := by
  have h := k_v h4
  generalize hv : mulf (F := Ideal) (k0_pay8 v4) (k0_pay19 (k0_pay15 v4) (k0_pay16 v4) k0_pay17) = V at h
  unfold k0_pay21
  simp only [hv]
  pointwise
  simp only [h, coe_sum, lit2048, div2048, ← EReal.coe_sub]
  rfl

theorem k_rs (h4 : ∀ t c, v4 (ix2 t c) = (B.p t c : EReal)) (t : Fin 128) (o : Fin 1) :
    k0_pay22 (F := Ideal) (k0_pay8 v4) (k0_pay15 v4) (k0_pay16 v4) k0_pay17 (ix2 t o) = (rs B t : EReal) := by
  have h := k_vc h4
  pointwise [k0_pay22]
  simp only [h, ← EReal.coe_mul, coe_sum, lit2048, div2048, lit_eps, ← EReal.coe_add]
  exact rsqrt_pos _ (va_nonneg B t)

theorem k_vh (h4 : ∀ t c, v4 (ix2 t c) = (B.p t c : EReal)) (t : Fin 128) (j : Fin 2048) :
    k0_pay23 (F := Ideal) (k0_pay8 v4) (k0_pay15 v4) (k0_pay16 v4) k0_pay17 (ix2 t j) = (vh B t j : EReal) := by
  have h := k_vc h4
  have h' := k_rs h4
  pointwise [k0_pay23]
  simp only [h, h', ← EReal.coe_mul]
  rfl

theorem k_vn (h4 : ∀ t c, v4 (ix2 t c) = (B.p t c : EReal)) (h3 : ∀ o j, v3 (ix2 o j) = (A.gain j : EReal))
    (t : Fin 128) (j : Fin 2048) :
    k0_pay24 (F := Ideal) v3 (k0_pay8 v4) (k0_pay15 v4) (k0_pay16 v4) k0_pay17 (ix2 t j) = (vn A B t j : EReal) := by
  have h := k_vh h4
  pointwise [k0_pay24]
  simp only [h, h3, ← EReal.coe_mul]
  rfl

/-! ## The spatial projection -/

theorem k_mask (t k : Fin 128) : k0_pay25 (ix2 t k) = if k ≤ t then 1#1 else 0#1 := by
  pointwise [k0_pay25]
  have h1 : (BitVec.ofNat 32 ↑t).toInt = (t : ℤ) := by
    rw [BitVec.toInt_eq_toNat_of_lt (by simp; omega)]; simp; omega
  have h2 : (BitVec.ofNat 32 ↑k).toInt = (k : ℤ) := by
    rw [BitVec.toInt_eq_toNat_of_lt (by simp; omega)]; simp; omega
  by_cases h : k ≤ t
  · have h' : (k : ℤ) ≤ (t : ℤ) := by exact_mod_cast h
    simp [IntOp.cmpi, BitVec.sle, h1, h2, h, h']
  · have h' : ¬ (k : ℤ) ≤ (t : ℤ) := by exact_mod_cast h
    simp [IntOp.cmpi, BitVec.sle, h1, h2, h, h']

theorem k_wm {x : FVec Ideal S1x128x128 .f32} {g : Fin 4} (hx : ∀ o t k, x (ix3 o t k) = (A.w g t k : EReal)) (t k : Fin 128) :
    k0_pay26 (F := Ideal) k0_pay25 x (ix2 t k) = (wm A g t k : EReal) := by
  pointwise [k0_pay26]
  simp only [k_mask, hx, wm]
  split <;> rfl

variable {m0 m1 m2 m3 : FVec Ideal S128x128 .bf16} {b0 b1 b2 b3 : FVec Ideal S1x128x1 .f32} {vnv : FVec Ideal S128x2048 .f32}

theorem k_s (hn : ∀ t j, vnv (ix2 t j) = (vn A B t j : EReal))
    (hm0 : ∀ t k, m0 (ix2 t k) = (wm A 0 t k : EReal)) (hm1 : ∀ t k, m1 (ix2 t k) = (wm A 1 t k : EReal))
    (hm2 : ∀ t k, m2 (ix2 t k) = (wm A 2 t k : EReal)) (hm3 : ∀ t k, m3 (ix2 t k) = (wm A 3 t k : EReal))
    (hb0 : ∀ o t o', b0 (ix3 o t o') = (A.b 0 t : EReal)) (hb1 : ∀ o t o', b1 (ix3 o t o') = (A.b 1 t : EReal))
    (hb2 : ∀ o t o', b2 (ix3 o t o') = (A.b 2 t : EReal)) (hb3 : ∀ o t o', b3 (ix3 o t o') = (A.b 3 t : EReal))
    (t : Fin 128) (j : Fin 2048) :
    k0_pay61 (F := Ideal) vnv m0 m1 m2 m3 b0 b1 b2 b3 (ix2 t j) = (s A B t j : EReal) := by
  pointwise [k0_pay61]
  simp only [hn, hm0, hm1, hm2, hm3, hb0, hb1, hb2, hb3, ← EReal.coe_mul, coe_sum, ← EReal.coe_add]
  have hj := j.isLt
  by_cases h0 : (j : ℕ) < 512
  · rw [dif_pos h0]
    have hg : grp j = 0 := Fin.ext (show (j : ℕ) / 512 = 0 by omega)
    rw [s, hg]
  rw [dif_neg h0]
  by_cases h1 : (j : ℕ) - 512 < 512
  · rw [dif_pos h1]
    have hg : grp j = 1 := Fin.ext (show (j : ℕ) / 512 = 1 by omega)
    have hj : 512 + ((j : ℕ) - 512) = j := by omega
    rw [s, hg]; simp only [hj]
  rw [dif_neg h1]
  by_cases h2 : (j : ℕ) - 512 - 512 < 512
  · rw [dif_pos h2]
    have hg : grp j = 2 := Fin.ext (show (j : ℕ) / 512 = 2 by omega)
    have hj : 1024 + ((j : ℕ) - 512 - 512) = j := by omega
    rw [s, hg]; simp only [hj]
  rw [dif_neg h2]
  have hg : grp j = 3 := Fin.ext (show (j : ℕ) / 512 = 3 by omega)
  have hj : 1536 + ((j : ℕ) - 512 - 512 - 512) = j := by omega
  rw [s, hg]; simp only [hj]

/-! ## The gate -/

theorem k_act {v7 : FVec Ideal S128x2048 .f32} (h : ∀ t j, v7 (ix2 t j) = (pz B t j : EReal)) (t : Fin 128) (j : Fin 2048) :
    k0_pay35 (F := Ideal) v7 (ix2 t j) = (act (pz B t j) : EReal) := by
  pointwise [k0_pay35, k0_pay34]
  simp only [h, Ideal.logistic_coe, ← EReal.coe_mul]
  rfl

theorem k_dact {v7 : FVec Ideal S128x2048 .f32} (h : ∀ t j, v7 (ix2 t j) = (pz B t j : EReal)) (t : Fin 128) (j : Fin 2048) :
    k0_pay36 (F := Ideal) v7 (ix2 t j) = (dact (pz B t j) : EReal) := by
  pointwise [k0_pay36, k0_pay34]
  simp only [h, Ideal.logistic_coe, ← EReal.coe_one, ← EReal.coe_mul, ← EReal.coe_add, ← EReal.coe_sub]
  rfl

/-! ## The second block's terms are the first's -/

theorem k_u' (h4 : ∀ t c, v4 (ix2 t c) = (B.p t c : EReal)) (t : Fin 128) (j : Fin 2048) :
    k0_pay44 (F := Ideal) (k0_pay38 v4) (k0_pay43 v4) (ix2 t j) = (u B t j : EReal) := k_u h4 t j
theorem k_du' (h4 : ∀ t c, v4 (ix2 t c) = (B.p t c : EReal)) (t : Fin 128) (j : Fin 2048) :
    k0_pay45 (F := Ideal) (k0_pay38 v4) (k0_pay41 v4) (k0_pay42 v4) (k0_pay43 v4) (ix2 t j)
      = (dgel (pu B t j) : EReal) := k_du h4 t j
theorem k_dv' (h4 : ∀ t c, v4 (ix2 t c) = (B.p t c : EReal)) (t : Fin 128) (j : Fin 2048) :
    k0_pay50 (F := Ideal) (k0_pay39 v4) (ix2 t j) = (dgel (pv B t j) : EReal) := k_dv h4 t j
theorem k_rs' (h4 : ∀ t c, v4 (ix2 t c) = (B.p t c : EReal)) (t : Fin 128) (o : Fin 1) :
    k0_pay53 (F := Ideal) (k0_pay49 (k0_pay39 v4)) (k0_pay51 (k0_pay39 v4)) (ix2 t o) = (rs B t : EReal) := k_rs h4 t o
theorem k_vh' (h4 : ∀ t c, v4 (ix2 t c) = (B.p t c : EReal)) (t : Fin 128) (j : Fin 2048) :
    k0_pay54 (F := Ideal) (k0_pay49 (k0_pay39 v4)) (k0_pay51 (k0_pay39 v4)) (ix2 t j) = (vh B t j : EReal) := k_vh h4 t j
theorem k_vn' (h4 : ∀ t c, v4 (ix2 t c) = (B.p t c : EReal)) (h3 : ∀ o j, v3 (ix2 o j) = (A.gain j : EReal))
    (t : Fin 128) (j : Fin 2048) :
    k0_pay55 (F := Ideal) v3 (k0_pay49 (k0_pay39 v4)) (k0_pay51 (k0_pay39 v4)) (ix2 t j) = (vn A B t j : EReal) :=
  k_vn h4 h3 t j
theorem k_z (h4 : ∀ t c, v4 (ix2 t c) = (B.p t c : EReal)) (t : Fin 128) (j : Fin 2048) :
    k0_pay9 (F := Ideal) v4 (ix2 t j) = (pz B t j : EReal) := by
  pointwise [k0_pay9]
  exact h4 _ _

end Sgu.K

end
-- ==== Proof.KBwd.lean ====
/- The kernel's loss head and backward values, read at an index, are the real model's. -/
module

public import proofs.«01_k».proof.Proof.KFwd

@[expose] public section

set_option maxRecDepth 16384

noncomputable section

namespace Sgu.K

open Idealize.ShloMosaic Idealize.ShloMosaic.TcCoe Idealize.SL.Sem
open Cert.KernelIdeal Cert.KernelIdeal.Gen

/-! ## The loss head: 256 rows, row `r` being row `l r` of block `f r` -/

section Head

variable {A : Par} {f : Fin 256 → Blk} {l : Fin 256 → Fin 128}
variable {v288 : FVec Ideal S256x1024 .f32} {v289 : FVec Ideal S256x2048 .bf16} {v291 : FVec Ideal S2048x1024 .bf16}
variable {v304 : FVec Ideal S1x1024 .f32} {v307 : FVec Ideal S256x1024 .f32}

theorem k_x2 (h288 : ∀ r d, v288 (ix2 r d) = ((f r).x (l r) d : EReal)) (h289 : ∀ r j, v289 (ix2 r j) = (y A (f r) (l r) j : EReal))
    (h291 : ∀ j d, v291 (ix2 j d) = (A.wo j d : EReal)) (r : Fin 256) (d : Fin 1024) :
    k0_pay66 (F := Ideal) v288 v289 v291 (ix2 r d) = (x2 A (f r) (l r) d : EReal) := by
  pointwise [k0_pay66]
  simp only [h288, h289, h291, ← EReal.coe_mul, coe_sum, ← EReal.coe_add]
  rfl

theorem k_rr (h288 : ∀ r d, v288 (ix2 r d) = ((f r).x (l r) d : EReal)) (h289 : ∀ r j, v289 (ix2 r j) = (y A (f r) (l r) j : EReal))
    (h291 : ∀ j d, v291 (ix2 j d) = (A.wo j d : EReal)) (r : Fin 256) (o : Fin 1) :
    k0_pay67 (F := Ideal) v288 v289 v291 (ix2 r o) = (rr A (f r) (l r) : EReal) := by
  have h := k_x2 h288 h289 h291
  pointwise [k0_pay67]
  simp only [h, ← EReal.coe_mul, coe_sum, lit1024, div1024, lit_eps, ← EReal.coe_add]
  exact rsqrt_pos _ (ms_nonneg A (f r) (l r))

theorem k_xh (h288 : ∀ r d, v288 (ix2 r d) = ((f r).x (l r) d : EReal)) (h289 : ∀ r j, v289 (ix2 r j) = (y A (f r) (l r) j : EReal))
    (h291 : ∀ j d, v291 (ix2 j d) = (A.wo j d : EReal)) (r : Fin 256) (d : Fin 1024) :
    k0_pay68 (F := Ideal) v288 v289 v291 (ix2 r d) = (xh A (f r) (l r) d : EReal) := by
  have h := k_x2 h288 h289 h291
  have h' := k_rr h288 h289 h291
  pointwise [k0_pay68]
  simp only [h, h', ← EReal.coe_mul]
  rfl

theorem k_e (h288 : ∀ r d, v288 (ix2 r d) = ((f r).x (l r) d : EReal)) (h289 : ∀ r j, v289 (ix2 r j) = (y A (f r) (l r) j : EReal))
    (h291 : ∀ j d, v291 (ix2 j d) = (A.wo j d : EReal)) (h304 : ∀ o d, v304 (ix2 o d) = (A.fn d : EReal))
    (h307 : ∀ r d, v307 (ix2 r d) = ((f r).t (l r) d : EReal)) (r : Fin 256) (d : Fin 1024) :
    k0_pay69 (F := Ideal) v288 v289 v291 v304 v307 (ix2 r d) = (e A (f r) (l r) d : EReal) := by
  have h := k_xh h288 h289 h291
  pointwise [k0_pay69]
  simp only [h, h304, h307, ← EReal.coe_mul, ← EReal.coe_sub]
  rfl

/-- The loss gains half the sum of the rows' errors, in every lane. -/
theorem k_loss (h288 : ∀ r d, v288 (ix2 r d) = ((f r).x (l r) d : EReal)) (h289 : ∀ r j, v289 (ix2 r j) = (y A (f r) (l r) j : EReal))
    (h291 : ∀ j d, v291 (ix2 j d) = (A.wo j d : EReal)) (h304 : ∀ o d, v304 (ix2 o d) = (A.fn d : EReal))
    (h307 : ∀ r d, v307 (ix2 r d) = ((f r).t (l r) d : EReal)) (v309 : FVec Ideal S1x128 .f32) (o : Fin 1) (i : Fin 128) :
    k0_pay70 (F := Ideal) v288 v289 v291 v304 v307 v309 (ix2 o i)
      = v309 (ix2 o i) + ((1 / 2 * ∑ r, el A (f r) (l r) : ℝ) : EReal) := by
  have h := k_e h288 h289 h291 h304 h307
  pointwise [k0_pay70]
  simp only [h, ← EReal.coe_mul, coe_sum, lit1024, div1024, lit_half, ← EReal.coe_add]
  rfl

variable {v301 : FVec Ideal S256x1 .f32} {v303 v308 : FVec Ideal S256x1024 .f32}

theorem k_gf (h303 : ∀ r d, v303 (ix2 r d) = (xh A (f r) (l r) d : EReal)) (h308 : ∀ r d, v308 (ix2 r d) = (e A (f r) (l r) d : EReal))
    (v325 : FVec Ideal S1x1024 .f32) (o : Fin 1) (d : Fin 1024) :
    k0_pay72 (F := Ideal) v303 v308 v325 (ix2 o d)
      = v325 (ix2 o d) + ((∑ r, dd A (f r) (l r) d * xh A (f r) (l r) d : ℝ) : EReal) := by
  pointwise [k0_pay72, k0_pay71]
  simp only [h303, h308, lit1_1024, ← EReal.coe_mul, coe_sum]
  rfl

theorem k_dx2 (h301 : ∀ r o, v301 (ix2 r o) = (rr A (f r) (l r) : EReal)) (h303 : ∀ r d, v303 (ix2 r d) = (xh A (f r) (l r) d : EReal))
    (h304 : ∀ o d, v304 (ix2 o d) = (A.fn d : EReal)) (h308 : ∀ r d, v308 (ix2 r d) = (e A (f r) (l r) d : EReal))
    (r : Fin 256) (d : Fin 1024) :
    k0_pay73 (F := Ideal) v301 v303 v304 v308 (ix2 r d) = (dx2 A (f r) (l r) d : EReal) := by
  pointwise [k0_pay73, k0_pay71]
  simp only [h301, h303, h304, h308, lit1_1024, lit1024, div1024, ← EReal.coe_mul, coe_sum, ← EReal.coe_sub]
  rfl

theorem k_dy (h301 : ∀ r o, v301 (ix2 r o) = (rr A (f r) (l r) : EReal)) (h303 : ∀ r d, v303 (ix2 r d) = (xh A (f r) (l r) d : EReal))
    (h304 : ∀ o d, v304 (ix2 o d) = (A.fn d : EReal)) (h308 : ∀ r d, v308 (ix2 r d) = (e A (f r) (l r) d : EReal))
    (h291 : ∀ j d, v291 (ix2 j d) = (A.wo j d : EReal)) (r : Fin 256) (j : Fin 2048) :
    k0_pay74 (F := Ideal) v301 v303 v304 v308 v291 (ix2 r j) = (dy A (f r) (l r) j : EReal) := by
  have h := k_dx2 h301 h303 h304 h308
  pointwise [k0_pay74]
  simp only [h, h291, ← EReal.coe_mul, coe_sum]
  rfl

end Head

/-! ## One block's backward values -/

section Block

variable {A : Par} {B : Blk} {v3 : FVec Ideal S1x2048 .f32}
variable {dyv uv sv av dav vnv vhv : FVec Ideal S128x2048 .f32}

theorem k_y {v149 : FVec Ideal S128x2048 .f32} {m0 m1 m2 m3 : FVec Ideal S128x128 .bf16} {b0 b1 b2 b3 : FVec Ideal S1x128x1 .f32}
    (hz : ∀ t j, v149 (ix2 t j) = (pz B t j : EReal)) (hu : ∀ t j, uv (ix2 t j) = (u B t j : EReal))
    (hs : ∀ t j, k0_pay61 (F := Ideal) vnv m0 m1 m2 m3 b0 b1 b2 b3 (ix2 t j) = (s A B t j : EReal)) (t : Fin 128) (j : Fin 2048) :
    k0_pay65 (F := Ideal) v149 uv vnv m0 m1 m2 m3 b0 b1 b2 b3 (ix2 t j) = (y A B t j : EReal) := by
  have ha := k_act hz
  change ∀ t j, k0_pay63 (F := Ideal) v149 (ix2 t j) = _ at ha
  generalize hS : k0_pay61 (F := Ideal) vnv m0 m1 m2 m3 b0 b1 b2 b3 = S at hs
  unfold k0_pay65
  simp only [hS]
  pointwise
  simp only [ha, hu, hs, ← EReal.coe_mul]
  rfl

variable {dya : FVec Ideal S256x2048 .f32}

/-- Rows 128 … 255 and rows 0 … 127 of the branch's cotangent. -/
theorem k_dy_hi {D : Fin 256 → Fin 2048 → ℝ} (h : ∀ r j, dya (ix2 r j) = (D r j : EReal)) (t : Fin 128) (j : Fin 2048) :
    k0_pay106 (F := Ideal) dya (ix2 t j) = (D ⟨128 + t, by omega⟩ j : EReal) := by
  pointwise [k0_pay106]
  exact h _ _
theorem k_dy_lo {D : Fin 256 → Fin 2048 → ℝ} (h : ∀ r j, dya (ix2 r j) = (D r j : EReal)) (t : Fin 128) (j : Fin 2048) :
    extractStridedSlice S128x2048 ![0, 0] dya slices_S256x2048_o0_0_S128x2048 (ix2 t j) = (D ⟨t, by omega⟩ j : EReal) := by
  pointwise
  exact h _ _

theorem k_bu (hd : ∀ t j, dyv (ix2 t j) = (dy A B t j : EReal)) (hs : ∀ t j, sv (ix2 t j) = (s A B t j : EReal))
    (ha : ∀ t j, av (ix2 t j) = (act (pz B t j) : EReal)) (t : Fin 128) (j : Fin 2048) :
    mulf (F := Ideal) (mulf dyv sv) av (ix2 t j) = (du A B t j : EReal) := by
  pointwise
  simp only [hd, hs, ha, ← EReal.coe_mul]
  rfl
theorem k_bs (hd : ∀ t j, dyv (ix2 t j) = (dy A B t j : EReal)) (hu : ∀ t j, uv (ix2 t j) = (u B t j : EReal))
    (ha : ∀ t j, av (ix2 t j) = (act (pz B t j) : EReal)) (t : Fin 128) (j : Fin 2048) :
    mulf (F := Ideal) (mulf dyv uv) av (ix2 t j) = (ds A B t j : EReal) := by
  pointwise
  simp only [hd, hu, ha, ← EReal.coe_mul]
  rfl
theorem k_bz (hd : ∀ t j, dyv (ix2 t j) = (dy A B t j : EReal)) (hu : ∀ t j, uv (ix2 t j) = (u B t j : EReal))
    (hs : ∀ t j, sv (ix2 t j) = (s A B t j : EReal)) (ha : ∀ t j, dav (ix2 t j) = (dact (pz B t j) : EReal)) (t : Fin 128) (j : Fin 2048) :
    mulf (F := Ideal) (mulf (mulf dyv uv) sv) dav (ix2 t j) = (dz A B t j : EReal) := by
  pointwise
  simp only [hd, hu, hs, ha, ← EReal.coe_mul]
  rfl

/-! ### The four groups' slices -/

variable {V : FVec Ideal S128x2048 .f32} {f : Fin 128 → Fin 2048 → ℝ}

theorem k_sl0 (h : ∀ t j, V (ix2 t j) = (f t j : EReal)) (t : Fin 128) (d : Fin 512) :
    extractStridedSlice S128x512 ![0, 0] V slices_S128x2048_o0_0_S128x512 (ix2 t d) = (f t (col 0 d) : EReal) := by
  pointwise
  rw [h]
  congr 2
  exact Fin.ext (show (d : ℕ) = 0 * 512 + d by omega)
theorem k_sl1 (h : ∀ t j, V (ix2 t j) = (f t j : EReal)) (t : Fin 128) (d : Fin 512) :
    extractStridedSlice S128x512 ![0, 512] V slices_S128x2048_o0_512_S128x512 (ix2 t d) = (f t (col 1 d) : EReal) := by
  pointwise
  rw [h]
  congr 2
theorem k_sl2 (h : ∀ t j, V (ix2 t j) = (f t j : EReal)) (t : Fin 128) (d : Fin 512) :
    extractStridedSlice S128x512 ![0, 1024] V slices_S128x2048_o0_1024_S128x512 (ix2 t d) = (f t (col 2 d) : EReal) := by
  pointwise
  rw [h]
  congr 2
theorem k_sl3 (h : ∀ t j, V (ix2 t j) = (f t j : EReal)) (t : Fin 128) (d : Fin 512) :
    extractStridedSlice S128x512 ![0, 1536] V slices_S128x2048_o0_1536_S128x512 (ix2 t d) = (f t (col 3 d) : EReal) := by
  pointwise
  rw [h]
  congr 2

/-! ### One group's gradients -/

variable {g : Fin 4} {dsg vng : FVec Ideal S128x512 .f32}

theorem k_gb (hw : ∀ t d, dsg (ix2 t d) = (ds A B t (col g d) : EReal)) (acc : FVec Ideal S1x128x1 .f32) (o : Fin 1) (t : Fin 128) (o' : Fin 1) :
    shapeCast S1x128x1
      (addf (shapeCast S128x1 acc shapeCasts_S1x128x1_S128x1)
        (shapeCast S128x1 (multiReduction .add [1] S128 dsg 0x00000000#32 reduces_S128x512_S128 (.inl rfl) rfl) shapeCasts_S128_S128x1))
      shapeCasts_S128x1_S1x128x1 (ix3 o t o')
      = acc (ix3 o t o') + (gb A B g t : EReal) := by
  obtain rfl : o = 0 := Subsingleton.elim _ _
  obtain rfl : o' = 0 := Subsingleton.elim _ _
  pointwise
  simp only [hw, coe_sum]
  rfl

theorem k_gw (hw : ∀ t d, dsg (ix2 t d) = (ds A B t (col g d) : EReal)) (hv : ∀ t d, vng (ix2 t d) = (vn A B t (col g d) : EReal))
    (acc : FVec Ideal S1x128x128 .f32) (o : Fin 1) (t k : Fin 128) :
    k0_pay123 (F := Ideal) k0_pay25 dsg vng acc (ix3 o t k) = acc (ix3 o t k) + (gw A B g t k : EReal) := by
  pointwise [k0_pay123]
  simp only [k_mask, hw, hv, ← EReal.coe_mul, coe_sum, gw]
  obtain rfl : o = 0 := Subsingleton.elim _ _
  by_cases h : k ≤ t <;> simp [h, Scalar.select]

variable {M M0 M1 M2 M3 : FVec Ideal S128x128 .bf16} {d0 d1 d2 d3 : FVec Ideal S128x512 .f32}

theorem k_dvng (hm : ∀ t k, M (ix2 t k) = (wm A g t k : EReal)) (hw : ∀ t d, dsg (ix2 t d) = (ds A B t (col g d) : EReal))
    (t : Fin 128) (d : Fin 512) :
    k0_pay124 (F := Ideal) M dsg (ix2 t d) = ((∑ k, wm A g k t * ds A B k (col g d) : ℝ) : EReal) := by
  pointwise [k0_pay124]
  simp only [hm, hw, ← EReal.coe_mul, coe_sum]

theorem k_dvn (hd0 : ∀ t d, d0 (ix2 t d) = ((∑ k, wm A 0 k t * ds A B k (col 0 d) : ℝ) : EReal))
    (hd1 : ∀ t d, d1 (ix2 t d) = ((∑ k, wm A 1 k t * ds A B k (col 1 d) : ℝ) : EReal))
    (hd2 : ∀ t d, d2 (ix2 t d) = ((∑ k, wm A 2 k t * ds A B k (col 2 d) : ℝ) : EReal))
    (hm3 : ∀ t k, M3 (ix2 t k) = (wm A 3 t k : EReal)) (hw3 : ∀ t d, d3 (ix2 t d) = (ds A B t (col 3 d) : EReal))
    (t : Fin 128) (j : Fin 2048) :
    k0_pay129 (F := Ideal) M3 d0 d1 d2 d3 (ix2 t j) = (dvn A B t j : EReal) := by
  pointwise [k0_pay129]
  simp only [hd0, hd1, hd2, hm3, hw3, ← EReal.coe_mul, coe_sum]
  have hj := j.isLt
  by_cases h0 : (j : ℕ) < 512
  · rw [dif_pos h0]
    have hg : grp j = 0 := Fin.ext (show (j : ℕ) / 512 = 0 by omega)
    have hc : col 0 ⟨j, h0⟩ = j := Fin.ext (show 0 * 512 + (j : ℕ) = j by omega)
    rw [dvn, hg, hc]
  rw [dif_neg h0]
  by_cases h1 : (j : ℕ) - 512 < 512
  · rw [dif_pos h1]
    have hg : grp j = 1 := Fin.ext (show (j : ℕ) / 512 = 1 by omega)
    have hc : col 1 ⟨j - 512, h1⟩ = j := Fin.ext (show 1 * 512 + ((j : ℕ) - 512) = j by omega)
    rw [dvn, hg, hc]
  rw [dif_neg h1]
  by_cases h2 : (j : ℕ) - 512 - 512 < 512
  · rw [dif_pos h2]
    have hg : grp j = 2 := Fin.ext (show (j : ℕ) / 512 = 2 by omega)
    have hc : col 2 ⟨j - 512 - 512, h2⟩ = j := Fin.ext (show 2 * 512 + ((j : ℕ) - 512 - 512) = j by omega)
    rw [dvn, hg, hc]
  rw [dif_neg h2]
  have hg : grp j = 3 := Fin.ext (show (j : ℕ) / 512 = 3 by omega)
  have hc : col 3 ⟨j - 512 - 512 - 512, by omega⟩ = j := Fin.ext (show 3 * 512 + ((j : ℕ) - 512 - 512 - 512) = j by omega)
  rw [dvn, hg, hc]

/-! ### Through the norm -/

theorem k_gg (hh : ∀ t j, vhv (ix2 t j) = (vh B t j : EReal))
    (hn : ∀ t j, k0_pay129 (F := Ideal) M3 d0 d1 d2 d3 (ix2 t j) = (dvn A B t j : EReal))
    (acc : FVec Ideal S1x2048 .f32) (o : Fin 1) (j : Fin 2048) :
    k0_pay130 (F := Ideal) vhv M3 d0 d1 d2 d3 acc (ix2 o j) = acc (ix2 o j) + (gg A B j : EReal) := by
  generalize hD : k0_pay129 (F := Ideal) M3 d0 d1 d2 d3 = D at hn
  unfold k0_pay130
  simp only [hD]
  pointwise
  simp only [hh, hn, ← EReal.coe_mul, coe_sum]
  rfl

theorem k_bv {v219 : FVec Ideal S128x1 .f32} (h3 : ∀ o j, v3 (ix2 o j) = (A.gain j : EReal))
    (hr : ∀ t o, v219 (ix2 t o) = (rs B t : EReal)) (hh : ∀ t j, vhv (ix2 t j) = (vh B t j : EReal))
    (hn : ∀ t j, k0_pay129 (F := Ideal) M3 d0 d1 d2 d3 (ix2 t j) = (dvn A B t j : EReal)) (t : Fin 128) (j : Fin 2048) :
    k0_pay131 (F := Ideal) v3 v219 vhv M3 d0 d1 d2 d3 (ix2 t j) = (dv A B t j : EReal) := by
  generalize hD : k0_pay129 (F := Ideal) M3 d0 d1 d2 d3 = D at hn
  unfold k0_pay131
  simp only [hD]
  pointwise
  simp only [h3, hr, hh, hn, lit2048, div2048, ← EReal.coe_mul, coe_sum, ← EReal.coe_sub]
  rfl

/-- The projection's cotangent, its three parts side by side. -/
theorem k_dp {v205 v486 v604 v177 v481 : FVec Ideal S128x2048 .f32}
    (h205 : ∀ t j, v205 (ix2 t j) = (dgel (pv B t j) : EReal)) (h486 : ∀ t j, v486 (ix2 t j) = (dz A B t j : EReal))
    (h604 : ∀ t j, v604 (ix2 t j) = (dv A B t j : EReal)) (h177 : ∀ t j, v177 (ix2 t j) = (dgel (pu B t j) : EReal))
    (h481 : ∀ t j, v481 (ix2 t j) = (du A B t j : EReal)) (t : Fin 128) (c : Fin 6144) :
    k0_pay1 (F := Ideal) v205 v486 v604 (k0_pay132 v177 v481) (ix2 t c) = (dp A B t c : EReal) := by
  pointwise [k0_pay1, k0_pay132]
  simp only [h205, h486, h604, h177, h481, ← EReal.coe_mul, dp]
  split
  · rfl
  split <;> rfl

end Block

end Sgu.K

end
-- ==== Proof.Stored.lean ====
/- Reading an array that was stored piece by piece: two halves of 128 rows, or four groups. -/
module

public import proofs.«01_k».proof.Proof.KBwd
public import proofs.«01_k».proof.Proof.Gen.KernelIdeal.Value
public import Idealize.ShloMosaic.Lib.Pipeline.ValueKit
public import Idealize.ShloMosaic.Lib.Pointwise

@[expose] public section

set_option maxRecDepth 16384

noncomputable section

namespace Sgu.K

open Idealize.ShloMosaic Idealize.ShloMosaic.TcCoe Idealize.SL.Sem
open Cert.KernelIdeal Cert.KernelIdeal.Gen

/-- Row `r` of 256 is row `ri r` of the half `bi r`. -/
def bi (r : Fin 256) : Fin 2 := ⟨r / 128, by omega⟩
def ri (r : Fin 256) : Fin 128 := ⟨r % 128, by omega⟩

variable {e : EltTy} {n : ℕ}

/-! ## One piece -/

theorem ld_hi {X : (⟨2, ![256, n]⟩ : Shape).Idx → Elt Ideal e} {i} {f : Fin 256 → Fin n → Elt Ideal e}
    (h : ∀ r c, X (ix2 r c) = f r c) (t : Fin 128) (c : Fin n) :
    View.ld X (Rect.unit ![128, 0] ![128, n] i) (ix2 t c) = f ⟨128 + t, by omega⟩ c := by
  rw [← h]
  refine congrArg X (funext fun a => Fin.ext ?_)
  fin_cases a
  · show 128 + 1 * (t : ℕ) = 128 + t; omega
  · show 0 + 1 * (c : ℕ) = c; omega
theorem ld_lo {X : (⟨2, ![256, n]⟩ : Shape).Idx → Elt Ideal e} {i} {f : Fin 256 → Fin n → Elt Ideal e}
    (h : ∀ r c, X (ix2 r c) = f r c) (t : Fin 128) (c : Fin n) :
    View.ld X (Rect.unit ![0, 0] ![128, n] i) (ix2 t c) = f ⟨t, by omega⟩ c := by
  rw [← h]
  refine congrArg X (funext fun a => Fin.ext ?_)
  fin_cases a
  · show 0 + 1 * (t : ℕ) = t; omega
  · show 0 + 1 * (c : ℕ) = c; omega
theorem ld_all {k : ℕ} {X : (⟨2, ![k, n]⟩ : Shape).Idx → Elt Ideal e} {i} {f : Fin k → Fin n → Elt Ideal e}
    (h : ∀ r c, X (ix2 r c) = f r c) (t : Fin k) (c : Fin n) :
    View.ld X (Rect.unit ![0, 0] ![k, n] i) (ix2 t c) = f t c := by
  rw [← h]
  refine congrArg X (funext fun a => Fin.ext ?_)
  fin_cases a
  · show 0 + 1 * (t : ℕ) = t; omega
  · show 0 + 1 * (c : ℕ) = c; omega
theorem ld_grp (g : Fin 4) {X : (⟨3, ![4, 128, n]⟩ : Shape).Idx → Elt Ideal e} {i} {f : Fin 4 → Fin 128 → Fin n → Elt Ideal e}
    (h : ∀ g t c, X (ix3 g t c) = f g t c) (o : Fin 1) (t : Fin 128) (c : Fin n) :
    View.ld X (Rect.unit ![(g : ℕ), 0, 0] ![1, 128, n] i) (ix3 o t c) = f g t c := by
  rw [← h]
  refine congrArg X (funext fun a => Fin.ext ?_)
  fin_cases a
  · show (g : ℕ) + 1 * (o : ℕ) = g; omega
  · show 0 + 1 * (t : ℕ) = t; omega
  · show 0 + 1 * (c : ℕ) = c; omega

/-! ## Several pieces -/

theorem canon_all {k : ℕ} {i} {w : (Rect.unit (s := ⟨2, ![k, n]⟩) ![0, 0] ![k, n] i).shape.Idx → Elt Ideal e} {L} (t : Fin k) (j : Fin n) :
    View.canon (Val := Elt Ideal) (⟨Rect.unit (s := ⟨2, ![k, n]⟩) ![0, 0] ![k, n] i, w⟩ :: L) (ix2 t j) = w (ix2 t j) := by
  refine Eq.trans (congrArg _ (funext fun a => Fin.ext ?_)) (View.canon_cons_emb (Rect.unit (s := ⟨2, ![k, n]⟩) ![0, 0] ![k, n] i) w L (ix2 t j))
  fin_cases a
  · show (t : ℕ) = 0 + 1 * t; omega
  · show (j : ℕ) = 0 + 1 * j; omega

theorem canon_hit (g : Fin 4) {i} {w : (Rect.unit (s := ⟨3, ![4, 128, n]⟩) ![(g : ℕ), 0, 0] ![1, 128, n] i).shape.Idx → Elt Ideal e} {L}
    (t : Fin 128) (j : Fin n) :
    View.canon (Val := Elt Ideal) (⟨Rect.unit (s := ⟨3, ![4, 128, n]⟩) ![(g : ℕ), 0, 0] ![1, 128, n] i, w⟩ :: L) (ix3 g t j) = w (ix3 0 t j) := by
  refine Eq.trans (congrArg _ (funext fun a => Fin.ext ?_))
    (View.canon_cons_emb (Rect.unit (s := ⟨3, ![4, 128, n]⟩) ![(g : ℕ), 0, 0] ![1, 128, n] i) w L (ix3 0 t j))
  fin_cases a
  · show (g : ℕ) = g + 1 * 0; omega
  · show (t : ℕ) = 0 + 1 * t; omega
  · show (j : ℕ) = 0 + 1 * j; omega

theorem canon_skip (a : ℕ) {g : Fin 4} (hg : (g : ℕ) ≠ a) {i}
    {w : (Rect.unit (s := ⟨3, ![4, 128, n]⟩) ![a, 0, 0] ![1, 128, n] i).shape.Idx → Elt Ideal e} {L} (t : Fin 128) (j : Fin n) :
    View.canon (Val := Elt Ideal) (⟨Rect.unit (s := ⟨3, ![4, 128, n]⟩) ![a, 0, 0] ![1, 128, n] i, w⟩ :: L) (ix3 g t j)
      = View.canon L (ix3 g t j) := by
  refine View.canon_cons_of_not_mem _ _ fun h => hg ?_
  obtain ⟨x, hx⟩ := LoadRect.exists_idx_of_mem _ h
  have h0 : a + 1 * (x 0 : ℕ) = g := congrArg (fun z => (z 0 : ℕ)) hx
  have h1 : (x 0 : ℕ) < 1 := (x 0).isLt
  omega

theorem rows_eq {i i'} {P : (Rect.unit (s := ⟨2, ![256, n]⟩) ![128, 0] ![128, n] i).shape.Idx → Elt Ideal e}
    {Q : (Rect.unit (s := ⟨2, ![256, n]⟩) ![0, 0] ![128, n] i').shape.Idx → Elt Ideal e} (f : Fin 2 → Fin 128 → Fin n → Elt Ideal e)
    (hP : ∀ t j, P (ix2 t j) = f 1 t j) (hQ : ∀ t j, Q (ix2 t j) = f 0 t j) (r : Fin 256) (j : Fin n) :
    View.canon (Val := Elt Ideal) [⟨Rect.unit (s := ⟨2, ![256, n]⟩) ![128, 0] ![128, n] i, P⟩,
      ⟨Rect.unit (s := ⟨2, ![256, n]⟩) ![0, 0] ![128, n] i', Q⟩] (ix2 r j) = f (bi r) (ri r) j := by
  by_cases hr : (r : ℕ) < 128
  · have h1 : bi r = 0 := Fin.ext (show (r : ℕ) / 128 = 0 by omega)
    have h2 : ri r = ⟨r, hr⟩ := Fin.ext (show (r : ℕ) % 128 = r by omega)
    rw [View.canon_cons_of_not_mem, h1, h2, ← hQ]
    · refine Eq.trans (congrArg _ (funext fun a => Fin.ext ?_)) (View.canon_cons_emb (Rect.unit (s := ⟨2, ![256, n]⟩) ![0, 0] ![128, n] i') Q [] (ix2 ⟨r, hr⟩ j))
      fin_cases a
      · show (r : ℕ) = 0 + 1 * r; omega
      · show (j : ℕ) = 0 + 1 * j; omega
    · intro h
      obtain ⟨x, hx⟩ := LoadRect.exists_idx_of_mem _ h
      have h0 : 128 + 1 * (x 0 : ℕ) = r := congrArg (fun z => (z 0 : ℕ)) hx
      omega
  · have h1 : bi r = 1 := Fin.ext (show (r : ℕ) / 128 = 1 by omega)
    have h2 : ri r = ⟨r - 128, by omega⟩ := Fin.ext (show (r : ℕ) % 128 = r - 128 by omega)
    rw [h1, h2, ← hP]
    refine Eq.trans (congrArg _ (funext fun a => Fin.ext ?_)) (View.canon_cons_emb (Rect.unit (s := ⟨2, ![256, n]⟩) ![128, 0] ![128, n] i) P _ (ix2 ⟨r - 128, by omega⟩ j))
    fin_cases a
    · show (r : ℕ) = 128 + 1 * (r - 128); omega
    · show (j : ℕ) = 0 + 1 * j; omega

/-! ## The same through a buffer -/

section Buffer

variable {sig : RefSig} {κ : Kind} {sp : Space}

theorem rc_rows {v : View sig κ sp ⟨2, ![256, n]⟩ e} {i i' i''} {P : (Rect.unit (s := ⟨2, ![256, n]⟩) ![128, 0] ![128, n] i).shape.Idx → Elt Ideal e}
    {Q : (Rect.unit (s := ⟨2, ![256, n]⟩) ![0, 0] ![128, n] i').shape.Idx → Elt Ideal e} (f : Fin 2 → Fin 128 → Fin n → Elt Ideal e)
    (hP : ∀ t j, P (ix2 t j) = f 1 t j) (hQ : ∀ t j, Q (ix2 t j) = f 0 t j) (r : Fin 256) (j : Fin n) :
    v.readCov (Val := Elt Ideal) [⟨Rect.unit (s := ⟨2, ![256, n]⟩) ![128, 0] ![128, n] i, P⟩,
      ⟨Rect.unit (s := ⟨2, ![256, n]⟩) ![0, 0] ![128, n] i', Q⟩] (Rect.unit (s := ⟨2, ![256, n]⟩) ![0, 0] ![256, n] i'').toLoadRect (ix2 r j)
      = f (bi r) (ri r) j := by
  rw [View.readCov_eq_canon']
  exact ld_all (i := i'') (f := fun r j => f (bi r) (ri r) j) (rows_eq f hP hQ) r j

theorem rc_all {k : ℕ} {v : View sig κ sp ⟨2, ![k, n]⟩ e} {i i'} {P : (Rect.unit (s := ⟨2, ![k, n]⟩) ![0, 0] ![k, n] i).shape.Idx → Elt Ideal e} {L}
    (r : Fin k) (j : Fin n) :
    v.readCov (Val := Elt Ideal) (⟨Rect.unit (s := ⟨2, ![k, n]⟩) ![0, 0] ![k, n] i, P⟩ :: L)
      (Rect.unit (s := ⟨2, ![k, n]⟩) ![0, 0] ![k, n] i').toLoadRect (ix2 r j) = P (ix2 r j) := by
  rw [View.readCov_eq_canon']
  exact ld_all (i := i') (f := fun r j => P (ix2 r j)) (fun r j => canon_all r j) r j

theorem rc_grp (g : Fin 4) {v : View sig κ sp ⟨3, ![4, 128, n]⟩ e} {i L} (o : Fin 1) (t : Fin 128) (j : Fin n) :
    v.readCov (Val := Elt Ideal) L (Rect.unit (s := ⟨3, ![4, 128, n]⟩) ![(g : ℕ), 0, 0] ![1, 128, n] i).toLoadRect (ix3 o t j)
      = View.canon L (ix3 g t j) := by
  rw [View.readCov_eq_canon']
  exact ld_grp g (i := i) (f := fun g t j => View.canon L (ix3 g t j)) (fun _ _ _ => rfl) o t j

end Buffer

/-! ## Four groups updated one after another -/

section Groups

variable {sig : RefSig} {κ : Kind} {sp : Space}

/-- Group `g`'s part of the array. -/
def U4 (n : ℕ) (g : Fin 4) : Rect ⟨3, ![4, 128, n]⟩ :=
  Rect.unit (s := ⟨3, ![4, 128, n]⟩) ![(g : ℕ), 0, 0] ![1, 128, n] fun a => by
    fin_cases a
    · show (g : ℕ) + 1 ≤ 4; omega
    · show 0 + 128 ≤ 128; omega
    · show 0 + n ≤ n; omega

variable (v : View sig κ sp ⟨3, ![4, 128, n]⟩ e)
variable (G : Fin 4 → ((⟨3, ![1, 128, n]⟩ : Shape).Idx → Elt Ideal e) → (⟨3, ![1, 128, n]⟩ : Shape).Idx → Elt Ideal e)

/-- The stores so far once group `g` has been read, updated by `G g` and stored back. -/
def upd (g : Fin 4) (L : List (View.Piece (Elt Ideal) ⟨3, ![4, 128, n]⟩ e)) : List (View.Piece (Elt Ideal) ⟨3, ![4, 128, n]⟩ e) :=
  ⟨U4 n g, G g (v.readCov L (U4 n g).toLoadRect)⟩ :: L
/-- All four groups in turn. -/
def upd4 (L : List (View.Piece (Elt Ideal) ⟨3, ![4, 128, n]⟩ e)) : List (View.Piece (Elt Ideal) ⟨3, ![4, 128, n]⟩ e) :=
  upd v G 3 (upd v G 2 (upd v G 1 (upd v G 0 L)))
/-- All four groups in turn, each read before any store. -/
def set4 (R : Fin 4 → (⟨3, ![1, 128, n]⟩ : Shape).Idx → Elt Ideal e) : List (View.Piece (Elt Ideal) ⟨3, ![4, 128, n]⟩ e) :=
  [⟨U4 n 3, G 3 (R 3)⟩, ⟨U4 n 2, G 2 (R 2)⟩, ⟨U4 n 1, G 1 (R 1)⟩, ⟨U4 n 0, G 0 (R 0)⟩]

variable {G} {d : Fin 4 → Fin 128 → Fin n → Elt Ideal e} (op : Elt Ideal e → Elt Ideal e → Elt Ideal e)
  (hG : ∀ g acc t k, G g acc (ix3 0 t k) = op (acc (ix3 0 t k)) (d g t k))
include hG

theorem upd_hit (g : Fin 4) (L : List (View.Piece (Elt Ideal) ⟨3, ![4, 128, n]⟩ e)) (t : Fin 128) (k : Fin n) :
    View.canon (upd v G g L) (ix3 g t k) = op (View.canon L (ix3 g t k)) (d g t k) :=
  (canon_hit g t k).trans ((hG g _ t k).trans (congrArg (op · _) (rc_grp g 0 t k)))

omit hG in
theorem upd_skip {g g' : Fin 4} (h : (g : ℕ) ≠ g') (L : List (View.Piece (Elt Ideal) ⟨3, ![4, 128, n]⟩ e)) (t : Fin 128) (k : Fin n) :
    View.canon (upd v G g' L) (ix3 g t k) = View.canon L (ix3 g t k) :=
  canon_skip g' h t k

theorem upd4_at (L : List (View.Piece (Elt Ideal) ⟨3, ![4, 128, n]⟩ e)) (g : Fin 4) (t : Fin 128) (k : Fin n) :
    View.canon (upd4 v G L) (ix3 g t k) = op (View.canon L (ix3 g t k)) (d g t k) := by
  unfold upd4
  match g with
  | 0 => rw [upd_skip v (by decide), upd_skip v (by decide), upd_skip v (by decide), upd_hit v op hG]
  | 1 => rw [upd_skip v (by decide), upd_skip v (by decide), upd_hit v op hG, upd_skip v (by decide)]
  | 2 => rw [upd_skip v (by decide), upd_hit v op hG, upd_skip v (by decide), upd_skip v (by decide)]
  | 3 => rw [upd_hit v op hG, upd_skip v (by decide), upd_skip v (by decide), upd_skip v (by decide)]

theorem set4_at (R : Fin 4 → (⟨3, ![1, 128, n]⟩ : Shape).Idx → Elt Ideal e) (g : Fin 4) (t : Fin 128) (k : Fin n) :
    View.canon (set4 G R) (ix3 g t k) = op (R g (ix3 0 t k)) (d g t k) := by
  unfold set4
  match g with
  | 0 => exact ((canon_skip 3 (by decide) t k).trans ((canon_skip 2 (by decide) t k).trans ((canon_skip 1 (by decide) t k).trans (canon_hit 0 t k)))).trans (hG 0 _ t k)
  | 1 => exact ((canon_skip 3 (by decide) t k).trans ((canon_skip 2 (by decide) t k).trans (canon_hit 1 t k))).trans (hG 1 _ t k)
  | 2 => exact ((canon_skip 3 (by decide) t k).trans (canon_hit 2 t k)).trans (hG 2 _ t k)
  | 3 => exact (canon_hit 3 t k).trans (hG 3 _ t k)

end Groups

/-- A store of the whole array. -/
theorem canon_fill {i} {w : (Rect.unit (s := ⟨3, ![4, 128, n]⟩) ![0, 0, 0] ![4, 128, n] i).shape.Idx → Elt Ideal e} {L} (g : Fin 4)
    (t : Fin 128) (j : Fin n) :
    View.canon (Val := Elt Ideal) (⟨Rect.unit (s := ⟨3, ![4, 128, n]⟩) ![0, 0, 0] ![4, 128, n] i, w⟩ :: L) (ix3 g t j) = w (ix3 g t j) := by
  refine Eq.trans (congrArg _ (funext fun a => Fin.ext ?_))
    (View.canon_cons_emb (Rect.unit (s := ⟨3, ![4, 128, n]⟩) ![0, 0, 0] ![4, 128, n] i) w L (ix3 g t j))
  fin_cases a
  · show (g : ℕ) = 0 + 1 * g; omega
  · show (t : ℕ) = 0 + 1 * t; omega
  · show (j : ℕ) = 0 + 1 * j; omega

end Sgu.K

end
-- ==== Proof.KPoint.lean ====
/- What one grid point of the kernel works on (two blocks of 128 rows) and the values it forms of them. -/
module

public import proofs.«01_k».proof.Proof.Stored

@[expose] public section

set_option maxRecDepth 16384

noncomputable section

namespace Sgu.K

open Idealize.ShloMosaic Idealize.ShloMosaic.TcCoe Idealize.SL.Sem
open Cert.KernelIdeal Cert.KernelIdeal.Gen

theorem bi_hi (t : Fin 128) : bi ⟨128 + t, by omega⟩ = 1 := Fin.ext (show (128 + (t : ℕ)) / 128 = 1 by omega)
theorem ri_hi (t : Fin 128) : ri ⟨128 + t, by omega⟩ = t := Fin.ext (show (128 + (t : ℕ)) % 128 = t by omega)
theorem bi_lo (t : Fin 128) : bi ⟨t, by omega⟩ = 0 := Fin.ext (show (t : ℕ) / 128 = 0 by omega)
theorem ri_lo (t : Fin 128) : ri ⟨t, by omega⟩ = t := Fin.ext (show (t : ℕ) % 128 = t by omega)

/-! ## One block's values -/

/-- The forward values of a block, with what they are. -/
structure Vals (A : Par) (B : Blk) where
  (gain : FVec Ideal S1x2048 .f32)
  (z u du v dv vh vn s act dact : FVec Ideal S128x2048 .f32)
  (rs : FVec Ideal S128x1 .f32)
  (m : Fin 4 → FVec Ideal S128x128 .bf16)
  hgain : ∀ o j, gain (ix2 o j) = (A.gain j : EReal)
  hz : ∀ t j, z (ix2 t j) = (pz B t j : EReal)
  hu : ∀ t j, u (ix2 t j) = (Sgu.u B t j : EReal)
  hdu : ∀ t j, du (ix2 t j) = (dgel (pu B t j) : EReal)
  hdv : ∀ t j, dv (ix2 t j) = (dgel (pv B t j) : EReal)
  hvh : ∀ t j, vh (ix2 t j) = (Sgu.vh B t j : EReal)
  hvn : ∀ t j, vn (ix2 t j) = (Sgu.vn A B t j : EReal)
  hs : ∀ t j, s (ix2 t j) = (Sgu.s A B t j : EReal)
  hact : ∀ t j, act (ix2 t j) = (Sgu.act (pz B t j) : EReal)
  hdact : ∀ t j, dact (ix2 t j) = (Sgu.dact (pz B t j) : EReal)
  hrs : ∀ t o, rs (ix2 t o) = (Sgu.rs B t : EReal)
  hm : ∀ g t k, m g (ix2 t k) = (wm A g t k : EReal)

variable {A : Par} {B : Blk}

/-- The kernel's forward values of a block. -/
def vals (v4 : FVec Ideal S128x6144 .f32) (v3 : FVec Ideal S1x2048 .f32) (w : Fin 4 → FVec Ideal S1x128x128 .f32)
    (b : Fin 4 → FVec Ideal S1x128x1 .f32)
    (h4 : ∀ t c, v4 (ix2 t c) = (B.p t c : EReal)) (h3 : ∀ o j, v3 (ix2 o j) = (A.gain j : EReal))
    (hw : ∀ g o t k, w g (ix3 o t k) = (A.w g t k : EReal)) (hb : ∀ g o t o', b g (ix3 o t o') = (A.b g t : EReal)) : Vals A B where
  gain := v3
  z := k0_pay9 v4
  u := k0_pay13 v4
  du := k0_pay14 v4
  v := k0_pay8 v4
  dv := k0_pay20 (k0_pay8 v4) (k0_pay15 v4) (k0_pay16 v4) k0_pay17
  vh := k0_pay23 (k0_pay8 v4) (k0_pay15 v4) (k0_pay16 v4) k0_pay17
  vn := k0_pay24 v3 (k0_pay8 v4) (k0_pay15 v4) (k0_pay16 v4) k0_pay17
  s := k0_pay61 (k0_pay24 v3 (k0_pay8 v4) (k0_pay15 v4) (k0_pay16 v4) k0_pay17) (k0_pay26 k0_pay25 (w 0)) (k0_pay26 k0_pay25 (w 1))
    (k0_pay26 k0_pay25 (w 2)) (k0_pay26 k0_pay25 (w 3)) (b 0) (b 1) (b 2) (b 3)
  act := k0_pay35 (k0_pay9 v4)
  dact := k0_pay36 (k0_pay9 v4)
  rs := k0_pay22 (k0_pay8 v4) (k0_pay15 v4) (k0_pay16 v4) k0_pay17
  m := fun g => k0_pay26 k0_pay25 (w g)
  hgain := h3
  hz := k_z h4
  hu := k_u h4
  hdu := k_du h4
  hdv := k_dv h4
  hvh := k_vh h4
  hvn := k_vn h4 h3
  hs := k_s (k_vn h4 h3) (k_wm (hw 0)) (k_wm (hw 1)) (k_wm (hw 2)) (k_wm (hw 3)) (hb 0) (hb 1) (hb 2) (hb 3)
  hact := k_act (k_z h4)
  hdact := k_dact (k_z h4)
  hrs := k_rs h4
  hm := fun g => k_wm (hw g)

variable (V : Vals A B)

theorem v_y (t : Fin 128) (j : Fin 2048) :
    truncf .bf16 (mulf (mulf V.u V.s) V.act) (by decide) (ix2 t j) = (y A B t j : EReal) := by
  have h1 := V.hu; have h2 := V.hs; have h3 := V.hact
  pointwise
  simp only [h1, h2, h3, ← EReal.coe_mul]
  rfl

/-! ## One block's backward values, from the cotangent of its output -/

/-- The cotangents of the three factors of the output. -/
def bu (dyv : FVec Ideal S128x2048 .f32) : FVec Ideal S128x2048 .f32 := mulf (mulf dyv V.s) V.act
def bs (dyv : FVec Ideal S128x2048 .f32) : FVec Ideal S128x2048 .f32 := mulf (mulf dyv V.u) V.act
def bz (dyv : FVec Ideal S128x2048 .f32) : FVec Ideal S128x2048 .f32 := mulf (mulf (mulf dyv V.u) V.s) V.dact

/-- The columns of a group. -/
def sl : Fin 4 → FVec Ideal S128x2048 .f32 → FVec Ideal S128x512 .f32
  | 0, X => extractStridedSlice S128x512 ![0, 0] X slices_S128x2048_o0_0_S128x512
  | 1, X => extractStridedSlice S128x512 ![0, 512] X slices_S128x2048_o0_512_S128x512
  | 2, X => extractStridedSlice S128x512 ![0, 1024] X slices_S128x2048_o0_1024_S128x512
  | 3, X => extractStridedSlice S128x512 ![0, 1536] X slices_S128x2048_o0_1536_S128x512

theorem k_sl {X : FVec Ideal S128x2048 .f32} {f : Fin 128 → Fin 2048 → ℝ} (h : ∀ t j, X (ix2 t j) = (f t j : EReal)) :
    ∀ (g : Fin 4) (t : Fin 128) (d : Fin 512), sl g X (ix2 t d) = (f t (col g d) : EReal)
  | 0 => k_sl0 h
  | 1 => k_sl1 h
  | 2 => k_sl2 h
  | 3 => k_sl3 h

/-- A group's columns of the cotangent of the mixed branch. -/
def dvg (dyv : FVec Ideal S128x2048 .f32) (g : Fin 4) : FVec Ideal S128x512 .f32 := k0_pay124 (V.m g) (sl g (bs V dyv))

/-- The kernel's sum of what it held and what a block adds to the biases' gradient of a group. -/
def addB (dyv : FVec Ideal S128x2048 .f32) (g : Fin 4) (acc : FVec Ideal S1x128x1 .f32) : FVec Ideal S1x128x1 .f32 :=
  shapeCast S1x128x1
    (addf (shapeCast S128x1 acc shapeCasts_S1x128x1_S128x1)
      (shapeCast S128x1 (multiReduction .add [1] S128 (sl g (bs V dyv)) 0x00000000#32 reduces_S128x512_S128 (.inl rfl) rfl) shapeCasts_S128_S128x1))
    shapeCasts_S128x1_S1x128x1

/-- Likewise for the spatial weights. -/
def addW (dyv : FVec Ideal S128x2048 .f32) (g : Fin 4) (acc : FVec Ideal S1x128x128 .f32) : FVec Ideal S1x128x128 .f32 :=
  k0_pay123 k0_pay25 (sl g (bs V dyv)) (sl g V.vn) acc

/-- Likewise for the gain. -/
def addG (dyv : FVec Ideal S128x2048 .f32) (acc : FVec Ideal S1x2048 .f32) : FVec Ideal S1x2048 .f32 :=
  k0_pay130 V.vh (V.m 3) (dvg V dyv 0) (dvg V dyv 1) (dvg V dyv 2) (sl 3 (bs V dyv)) acc

/-- The cotangent of the projection. -/
def bp (dyv : FVec Ideal S128x2048 .f32) : FVec Ideal S128x6144 .bf16 :=
  k0_pay1 V.dv (bz V dyv) (k0_pay131 V.gain V.rs V.vh (V.m 3) (dvg V dyv 0) (dvg V dyv 1) (dvg V dyv 2) (sl 3 (bs V dyv)))
    (k0_pay132 V.du (bu V dyv))

variable {dyv : FVec Ideal S128x2048 .f32} (hd : ∀ t j, dyv (ix2 t j) = (dy A B t j : EReal))
include hd

theorem v_ds : ∀ t j, bs V dyv (ix2 t j) = (ds A B t j : EReal) := k_bs hd V.hu V.hact

theorem v_gb (g : Fin 4) (acc : FVec Ideal S1x128x1 .f32) (o : Fin 1) (t : Fin 128) (o' : Fin 1) :
    addB V dyv g acc (ix3 o t o') = acc (ix3 o t o') + (gb A B g t : EReal) :=
  k_gb (k_sl (v_ds V hd) g) acc o t o'

theorem v_gw (g : Fin 4) (acc : FVec Ideal S1x128x128 .f32) (o : Fin 1) (t k : Fin 128) :
    addW V dyv g acc (ix3 o t k) = acc (ix3 o t k) + (gw A B g t k : EReal) :=
  k_gw (k_sl (v_ds V hd) g) (k_sl V.hvn g) acc o t k

theorem v_dvg (g : Fin 4) (t : Fin 128) (d : Fin 512) :
    dvg V dyv g (ix2 t d) = ((∑ k, wm A g k t * ds A B k (col g d) : ℝ) : EReal) :=
  k_dvng (V.hm g) (k_sl (v_ds V hd) g) t d

theorem v_dvn (t : Fin 128) (j : Fin 2048) :
    k0_pay129 (V.m 3) (dvg V dyv 0) (dvg V dyv 1) (dvg V dyv 2) (sl 3 (bs V dyv)) (ix2 t j) = (dvn A B t j : EReal) :=
  k_dvn (v_dvg V hd 0) (v_dvg V hd 1) (v_dvg V hd 2) (V.hm 3) (k_sl (v_ds V hd) 3) t j

theorem v_gg (acc : FVec Ideal S1x2048 .f32) (o : Fin 1) (j : Fin 2048) :
    addG V dyv acc (ix2 o j) = acc (ix2 o j) + (gg A B j : EReal) :=
  k_gg V.hvh (v_dvn V hd) acc o j

theorem v_dp (t : Fin 128) (c : Fin 6144) : bp V dyv (ix2 t c) = (dp A B t c : EReal) :=
  k_dp V.hdv (k_bz hd V.hu V.hs V.hdact) (k_bv V.hgain V.hrs V.hvh (v_dvn V hd)) V.hdu (k_bu hd V.hs V.hact) t c

end Sgu.K

end
-- ==== Proof.KIn.lean ====
/- What a grid point of the kernel loads, and the values it forms. -/
module

public import proofs.«01_k».proof.Proof.KPoint

@[expose] public section

set_option maxRecDepth 16384

noncomputable section

namespace Sgu.K

open Idealize.ShloMosaic Idealize.ShloMosaic.TcCoe Idealize.SL.Sem
open Cert.KernelIdeal Cert.KernelIdeal.Gen

variable (m : (ℓ : Loc nD τ sig) → Buf (Elt Ideal) ℓ) (c : Dev nD)

/-- At grid point `t` the kernel's input blocks hold the parameters and the two blocks `Bk 0`, `Bk 1`. -/
structure In (A : Par) (Bk : Fin 2 → Blk) (t : Fin cfg0.N) : Prop where
  p : ∀ (r : Fin 256) (j : Fin 6144), iblk m c 0 t (ix2 r j) = ((Bk (bi r)).p (ri r) j : EReal)
  x : ∀ (r : Fin 256) (d : Fin 1024), iblk m c 1 t (ix2 r d) = ((Bk (bi r)).x (ri r) d : EReal)
  g : ∀ (o : Fin 1) (j : Fin 2048), iblk m c 2 t (ix2 o j) = (A.gain j : EReal)
  w : ∀ (g : Fin 4) (i k : Fin 128), iblk m c 3 t (ix3 g i k) = (A.w g i k : EReal)
  b : ∀ (g : Fin 4) (i : Fin 128) (o : Fin 1), iblk m c 4 t (ix3 g i o) = (A.b g i : EReal)
  wo : ∀ (j : Fin 2048) (d : Fin 1024), iblk m c 5 t (ix2 j d) = (A.wo j d : EReal)
  fn : ∀ (o : Fin 1) (d : Fin 1024), iblk m c 6 t (ix2 o d) = (A.fn d : EReal)
  tg : ∀ (r : Fin 256) (d : Fin 1024), iblk m c 7 t (ix2 r d) = ((Bk (bi r)).t (ri r) d : EReal)

theorem inb_w (g : Fin 4) : ∀ a, ![(g : ℕ), 0, 0] a + S1x128x128.size a ≤ S4x128x128.size a := by
  intro a; fin_cases a
  · show (g : ℕ) + 1 ≤ 4; omega
  · show 0 + 128 ≤ 128; omega
  · show 0 + 128 ≤ 128; omega
theorem inb_b (g : Fin 4) : ∀ a, ![(g : ℕ), 0, 0] a + S1x128x1.size a ≤ S4x128x1.size a := by
  intro a; fin_cases a
  · show (g : ℕ) + 1 ≤ 4; omega
  · show 0 + 128 ≤ 128; omega
  · show 0 + 1 ≤ 1; omega

variable {m c} {A : Par} {Bk : Fin 2 → Blk} {t : Fin cfg0.N} (I : In m c A Bk t)

/-! ## The loads -/

section Loads
include I

theorem In.p_hi (i : Fin 128) (j : Fin 6144) :
    View.readAt (Elt Ideal) (ms0_0 t).view (Rect.unit (s := S256x6144) ![128, 0] S128x6144.size inb_S256x6144_S128x6144_128_0).toLoadRect
      ((hs0_0 t).unread (iblk m c 0 t)) (ix2 i j) = ((Bk 1).p i j : EReal) := by
  rw [View.readAt_eq_ld, Memref.IsWhole.read_unread]
  refine (ld_hi (e := .f32) (X := iblk m c 0 t) (f := fun r j => ((Bk (bi r)).p (ri r) j : EReal)) I.p i j).trans ?_
  rw [bi_hi, ri_hi]
theorem In.p_lo (i : Fin 128) (j : Fin 6144) :
    View.readAt (Elt Ideal) (ms0_0 t).view (Rect.unit (s := S256x6144) ![0, 0] S128x6144.size inb_S256x6144_S128x6144_0_0).toLoadRect
      ((hs0_0 t).unread (iblk m c 0 t)) (ix2 i j) = ((Bk 0).p i j : EReal) := by
  rw [View.readAt_eq_ld, Memref.IsWhole.read_unread]
  refine (ld_lo (e := .f32) (X := iblk m c 0 t) (f := fun r j => ((Bk (bi r)).p (ri r) j : EReal)) I.p i j).trans ?_
  rw [bi_lo, ri_lo]
theorem In.x' (i : Fin 256) (d : Fin 1024) :
    View.readAt (Elt Ideal) (ms0_1 t).view (Rect.unit (s := S256x1024) ![0, 0] S256x1024.size inb_S256x1024_S256x1024_0_0).toLoadRect
      ((hs0_1 t).unread (iblk m c 1 t)) (ix2 i d) = ((Bk (bi i)).x (ri i) d : EReal) := by
  rw [View.readAt_eq_ld, Memref.IsWhole.read_unread]
  exact ld_all (e := .f32) (X := iblk m c 1 t) (f := fun r d => ((Bk (bi r)).x (ri r) d : EReal)) I.x i d
theorem In.g' (o : Fin 1) (j : Fin 2048) :
    View.readAt (Elt Ideal) (ms0_2 t).view (Rect.unit (s := S1x2048) ![0, 0] S1x2048.size inb_S1x2048_S1x2048_0_0).toLoadRect
      ((hs0_2 t).unread (iblk m c 2 t)) (ix2 o j) = (A.gain j : EReal) := by
  rw [View.readAt_eq_ld, Memref.IsWhole.read_unread]
  exact ld_all (e := .f32) (X := iblk m c 2 t) (f := fun o j => (A.gain j : EReal)) I.g o j
theorem In.w' (g : Fin 4) (o : Fin 1) (i k : Fin 128) :
    View.readAt (Elt Ideal) (ms0_3 t).view (Rect.unit (s := S4x128x128) ![(g : ℕ), 0, 0] S1x128x128.size (inb_w g)).toLoadRect
      ((hs0_3 t).unread (iblk m c 3 t)) (ix3 o i k) = (A.w g i k : EReal) := by
  rw [View.readAt_eq_ld, Memref.IsWhole.read_unread]
  exact ld_grp g (e := .f32) (X := iblk m c 3 t) (f := fun g i k => (A.w g i k : EReal)) I.w o i k
theorem In.b' (g : Fin 4) (o : Fin 1) (i : Fin 128) (o' : Fin 1) :
    View.readAt (Elt Ideal) (ms0_4 t).view (Rect.unit (s := S4x128x1) ![(g : ℕ), 0, 0] S1x128x1.size (inb_b g)).toLoadRect
      ((hs0_4 t).unread (iblk m c 4 t)) (ix3 o i o') = (A.b g i : EReal) := by
  rw [View.readAt_eq_ld, Memref.IsWhole.read_unread]
  exact ld_grp g (e := .f32) (X := iblk m c 4 t) (f := fun g i o => (A.b g i : EReal)) I.b o i o'
theorem In.wo' (j : Fin 2048) (d : Fin 1024) :
    View.readAt (Elt Ideal) (ms0_5 t).view (Rect.unit (s := S2048x1024) ![0, 0] S2048x1024.size inb_S2048x1024_S2048x1024_0_0).toLoadRect
      ((hs0_5 t).unread (iblk m c 5 t)) (ix2 j d) = (A.wo j d : EReal) := by
  rw [View.readAt_eq_ld, Memref.IsWhole.read_unread]
  exact ld_all (e := .bf16) (X := iblk m c 5 t) (f := fun j d => (A.wo j d : EReal)) I.wo j d
theorem In.fn' (o : Fin 1) (d : Fin 1024) :
    View.readAt (Elt Ideal) (ms0_6 t).view (Rect.unit (s := S1x1024) ![0, 0] S1x1024.size inb_S1x1024_S1x1024_0_0).toLoadRect
      ((hs0_6 t).unread (iblk m c 6 t)) (ix2 o d) = (A.fn d : EReal) := by
  rw [View.readAt_eq_ld, Memref.IsWhole.read_unread]
  exact ld_all (e := .f32) (X := iblk m c 6 t) (f := fun o d => (A.fn d : EReal)) I.fn o d
theorem In.tg' (i : Fin 256) (d : Fin 1024) :
    View.readAt (Elt Ideal) (ms0_7 t).view (Rect.unit (s := S256x1024) ![0, 0] S256x1024.size inb_S256x1024_S256x1024_0_0).toLoadRect
      ((hs0_7 t).unread (iblk m c 7 t)) (ix2 i d) = ((Bk (bi i)).t (ri i) d : EReal) := by
  rw [View.readAt_eq_ld, Memref.IsWhole.read_unread]
  exact ld_all (e := .f32) (X := iblk m c 7 t) (f := fun r d => ((Bk (bi r)).t (ri r) d : EReal)) I.tg i d

end Loads

/-! ## The point's values -/

/-- The second block's and the first block's forward values. -/
def In.hi : Vals A (Bk 1) := vals _ _ _ _ I.p_hi I.g' I.w' I.b'
def In.lo : Vals A (Bk 0) := vals _ _ _ _ I.p_lo I.g' I.w' I.b'

end Sgu.K

end
-- ==== Proof.KHead.lean ====
/- The final norm and the loss at a grid point: the kernel's values over its 256 rows. -/
module

public import proofs.«01_k».proof.Proof.KIn

@[expose] public section

set_option maxRecDepth 16384
set_option maxHeartbeats 4000000

noncomputable section

namespace Sgu.K

open Idealize.ShloMosaic Idealize.ShloMosaic.TcCoe Idealize.SL.Sem
open Cert.KernelIdeal Cert.KernelIdeal.Gen

variable {m : (ℓ : Loc nD τ sig) → Buf (Elt Ideal) ℓ} {c : Dev nD} {A : Par} {Bk : Fin 2 → Blk} {t : Fin cfg0.N}

/-! ## The head's values -/

/-- The branch's output, read back after its two halves were stored. -/
def In.yv (I : In m c A Bk t) : FVec Ideal S256x2048 .bf16 :=
  (ms0_9 t).view.readCov (Val := Elt Ideal)
    [⟨Rect.unit (s := S256x2048) ![128, 0] S128x2048.size inb_S256x2048_S128x2048_128_0, truncf .bf16 (mulf (mulf I.hi.u I.hi.s) I.hi.act) (by decide)⟩,
      ⟨Rect.unit (s := S256x2048) ![0, 0] S128x2048.size inb_S256x2048_S128x2048_0_0, truncf .bf16 (mulf (mulf I.lo.u I.lo.s) I.lo.act) (by decide)⟩]
    (Rect.unit (s := S256x2048) ![0, 0] S256x2048.size inb_S256x2048_S256x2048_0_0).toLoadRect

theorem In.yv_at (I : In m c A Bk t) (r : Fin 256) (j : Fin 2048) : I.yv (ix2 r j) = (y A (Bk (bi r)) (ri r) j : EReal) :=
  rc_rows (e := .bf16) (fun b i j => (y A (Bk b) i j : EReal)) (v_y I.hi) (v_y I.lo) r j

/-- The loads of the residual stream, the weights, the final gain and the targets. -/
def In.xv (_I : In m c A Bk t) : FVec Ideal S256x1024 .f32 :=
  View.readAt (Elt Ideal) (ms0_1 t).view (Rect.unit (s := S256x1024) ![0, 0] S256x1024.size inb_S256x1024_S256x1024_0_0).toLoadRect
    ((hs0_1 t).unread (iblk m c 1 t))
def In.wv (_I : In m c A Bk t) : FVec Ideal S2048x1024 .bf16 :=
  View.readAt (Elt Ideal) (ms0_5 t).view (Rect.unit (s := S2048x1024) ![0, 0] S2048x1024.size inb_S2048x1024_S2048x1024_0_0).toLoadRect
    ((hs0_5 t).unread (iblk m c 5 t))
def In.fv (_I : In m c A Bk t) : FVec Ideal S1x1024 .f32 :=
  View.readAt (Elt Ideal) (ms0_6 t).view (Rect.unit (s := S1x1024) ![0, 0] S1x1024.size inb_S1x1024_S1x1024_0_0).toLoadRect
    ((hs0_6 t).unread (iblk m c 6 t))
def In.tv (_I : In m c A Bk t) : FVec Ideal S256x1024 .f32 :=
  View.readAt (Elt Ideal) (ms0_7 t).view (Rect.unit (s := S256x1024) ![0, 0] S256x1024.size inb_S256x1024_S256x1024_0_0).toLoadRect
    ((hs0_7 t).unread (iblk m c 7 t))

variable (I : In m c A Bk t)

def In.rrv : FVec Ideal S256x1 .f32 := k0_pay67 I.xv I.yv I.wv
def In.xhv : FVec Ideal S256x1024 .f32 := k0_pay68 I.xv I.yv I.wv
def In.ev : FVec Ideal S256x1024 .f32 := k0_pay69 I.xv I.yv I.wv I.fv I.tv
def In.dyv : FVec Ideal S256x2048 .f32 := k0_pay74 I.rrv I.xhv I.fv I.ev I.wv
/-- The two halves of the cotangent of the branch's output. -/
def In.dyh : FVec Ideal S128x2048 .f32 := k0_pay106 I.dyv
def In.dyl : FVec Ideal S128x2048 .f32 := extractStridedSlice S128x2048 ![0, 0] I.dyv slices_S256x2048_o0_0_S128x2048

theorem In.dy_at (r : Fin 256) (j : Fin 2048) : I.dyv (ix2 r j) = (dy A (Bk (bi r)) (ri r) j : EReal) :=
  k_dy (f := fun r => Bk (bi r)) (l := ri) (k_rr I.x' I.yv_at I.wo') (k_xh I.x' I.yv_at I.wo') I.fn' (k_e I.x' I.yv_at I.wo' I.fn' I.tg') I.wo' r j
theorem In.dyh_at (i : Fin 128) (j : Fin 2048) : I.dyh (ix2 i j) = (dy A (Bk 1) i j : EReal) := by
  refine (k_dy_hi (D := fun r j => dy A (Bk (bi r)) (ri r) j) I.dy_at i j).trans ?_
  rw [bi_hi, ri_hi]
theorem In.dyl_at (i : Fin 128) (j : Fin 2048) : I.dyl (ix2 i j) = (dy A (Bk 0) i j : EReal) := by
  refine (k_dy_lo (D := fun r j => dy A (Bk (bi r)) (ri r) j) I.dy_at i j).trans ?_
  rw [bi_lo, ri_lo]

/-- A first and a second half added to what was there. -/
theorem add2 {a b : EReal} {x y z : ℝ} (h : a = b) (hz : z = x + y) : a + (x : EReal) + (y : EReal) = b + (z : EReal) := by
  rw [h, hz, EReal.coe_add, add_assoc]

/-- The groups. -/
theorem four (g : Fin 4) : g = 0 ∨ g = 1 ∨ g = 2 ∨ g = 3 := by omega

/-- The group a case has named. -/
abbrev lit {g a : Fin 4} (_ : g = a) : Fin 4 := a

/-- A second half added to a first. -/
theorem chain {w a b : EReal} {x y : ℝ} (h : w = a + (y : EReal)) (h' : a = b + (x : EReal)) : w = b + ((x + y : ℝ) : EReal) := by
  rw [h, h', EReal.coe_add, add_assoc]

/-- The zeros the spatial weights' gradient starts from. -/
theorem zero3 (g : Fin 4) (i k : Fin 128) : k0_pay3 (F := Ideal) (ix3 g i k) = (0 : EReal) := by pointwise [k0_pay3]

end Sgu.K

end
-- ==== Proof.KOut.lean ====
/- What a grid point of the kernel leaves in the buffers of the outputs it writes once. -/
module

public import proofs.«01_k».proof.Proof.KHead

@[expose] public section

set_option maxRecDepth 16384
set_option maxHeartbeats 4000000

noncomputable section

namespace Sgu.K

open Idealize.ShloMosaic Idealize.ShloMosaic.TcCoe Idealize.SL.Sem
open Cert.KernelIdeal Cert.KernelIdeal.Gen

variable {m : (ℓ : Loc nD τ sig) → Buf (Elt Ideal) ℓ} {c : Dev nD} {A : Par} {Bk : Fin 2 → Blk} {t : Fin cfg0.N}

variable (I : In m c A Bk t)
include I

/-- The branch's output. -/
theorem In.out_y (r : Fin 256) (j : Fin 2048) :
    (outsAt0 m c t.val t.isLt).2.1 (ix2 r j) = (y A (Bk (bi r)) (ri r) j : EReal) := by
  by_cases h : t.val % 32 = 0
  on_goal 1 => rw [outsAt0_A m c t h]
  on_goal 2 => rw [outsAt0_B m c t h]
  all_goals
    frame_open
    simp only [View.read_writes_junk_eq_canon]
    exact rows_eq (e := .bf16) (fun b i j => (y A (Bk b) i j : EReal)) (v_y I.hi) (v_y I.lo) r j

/-- The cotangent of the projection. -/
theorem In.out_dp (r : Fin 256) (j : Fin 6144) :
    (outsAt0 m c t.val t.isLt).1 (ix2 r j) = (dp A (Bk (bi r)) (ri r) j : EReal) := by
  by_cases h : t.val % 32 = 0
  on_goal 1 => rw [outsAt0_A m c t h]
  on_goal 2 => rw [outsAt0_B m c t h]
  all_goals
    frame_open
    simp only [View.read_writes_junk_eq_canon]
    exact rows_eq (e := .bf16) (fun b i j => (dp A (Bk b) i j : EReal)) (v_dp I.hi I.dyh_at) (v_dp I.lo I.dyl_at) r j

/-- The cotangent of the residual stream. -/
theorem In.out_dx2 (r : Fin 256) (d : Fin 1024) :
    (outsAt0 m c t.val t.isLt).2.2.1 (ix2 r d) = (dx2 A (Bk (bi r)) (ri r) d : EReal) := by
  by_cases h : t.val % 32 = 0
  on_goal 1 => rw [outsAt0_A m c t h]
  on_goal 2 => rw [outsAt0_B m c t h]
  all_goals
    frame_open
    simp only [View.read_writes_junk_eq_canon]
    exact (canon_all r d).trans (k_dx2 (f := fun r => Bk (bi r)) (l := ri) (k_rr I.x' I.yv_at I.wo') (k_xh I.x' I.yv_at I.wo') I.fn'
      (k_e I.x' I.yv_at I.wo' I.fn' I.tg') r d)

end Sgu.K

end
-- ==== Proof.KGg.lean ====
/- What a grid point of the kernel leaves in the buffer of the gain's gradient. -/
module

public import proofs.«01_k».proof.Proof.KHead

@[expose] public section

set_option maxRecDepth 16384
set_option maxHeartbeats 4000000

noncomputable section

namespace Sgu.K

open Idealize.ShloMosaic Idealize.ShloMosaic.TcCoe Idealize.SL.Sem
open Cert.KernelIdeal Cert.KernelIdeal.Gen

variable {m : (ℓ : Loc nD τ sig) → Buf (Elt Ideal) ℓ} {c : Dev nD} {A : Par} {Bk : Fin 2 → Blk} {t : Fin cfg0.N}

variable (I : In m c A Bk t)
include I

theorem In.out_gg_A (h : t.val % 32 = 0) (o : Fin 1) (j : Fin 2048) :
    (outsAt0 m c t.val t.isLt).2.2.2.1 (ix2 o j) = (0 : EReal) + ((gg A (Bk 0) j + gg A (Bk 1) j : ℝ) : EReal) := by
  rw [outsAt0_A m c t h]
  frame_open
  simp only [View.read_writes_junk_eq_canon]
  refine (canon_all o j).trans ((v_gg I.hi I.dyh_at _ o j).trans ((congrArg (fun z : EReal => z + _)
    ((rc_all o j).trans ((v_gg I.lo I.dyl_at _ o j).trans (congrArg (fun z : EReal => z + _) (rc_all o j))))).trans (add2 ?_ rfl)))
  pointwise [k0_pay2]

theorem In.out_gg_B (h : ¬ t.val % 32 = 0) (o : Fin 1) (j : Fin 2048) :
    (outsAt0 m c t.val t.isLt).2.2.2.1 (ix2 o j)
      = (outsAt0 m c (t.val - 1) (Nat.lt_of_le_of_lt (Nat.sub_le _ _) t.isLt)).2.2.2.1 (ix2 o j) + ((gg A (Bk 0) j + gg A (Bk 1) j : ℝ) : EReal) := by
  rw [outsAt0_B m c t h]
  frame_open
  simp only [View.read_writes_junk_eq_canon]
  refine (canon_all o j).trans ((v_gg I.hi I.dyh_at _ o j).trans ((congrArg (fun z : EReal => z + _)
    ((rc_all o j).trans (v_gg I.lo I.dyl_at _ o j))).trans (add2 ?_ rfl)))
  rw [View.readAt_eq_ld, Memref.IsWhole.read_unread]
  exact ld_all (e := .f32) (f := fun o j => _) (fun _ _ => rfl) o j

end Sgu.K

end
-- ==== Proof.KGw.lean ====
/- What a grid point of the kernel leaves in the buffer of the spatial weights' gradient. -/
module

public import proofs.«01_k».proof.Proof.KHead

@[expose] public section

set_option maxRecDepth 16384
set_option maxHeartbeats 2000000

noncomputable section

namespace Sgu.K

open Idealize.ShloMosaic Idealize.ShloMosaic.TcCoe Idealize.SL.Sem
open Cert.KernelIdeal Cert.KernelIdeal.Gen

variable {m : (ℓ : Loc nD τ sig) → Buf (Elt Ideal) ℓ} {c : Dev nD} {A : Par} {Bk : Fin 2 → Blk} {t : Fin cfg0.N}

variable (I : In m c A Bk t)

include I

theorem In.out_gw_A (h : t.val % 32 = 0) (g : Fin 4) (i k : Fin 128) :
    (outsAt0 m c t.val t.isLt).2.2.2.2.1 (ix3 g i k) = (0 : EReal) + ((gw A (Bk 0) g i k + gw A (Bk 1) g i k : ℝ) : EReal) := by
  rw [outsAt0_A m c t h]
  frame_open
  simp only [View.read_writes_junk_eq_canon]
  rcases four g with hg | hg | hg | hg
  all_goals
    rw [hg]
    repeat (refine (canon_skip (e := .f32) _ ?_ i k).trans ?_; · exact Nat.ne_of_beq_eq_false rfl)
    refine (canon_hit (e := .f32) (lit hg) i k).trans ?_
    refine chain (v_gw I.hi I.dyh_at (lit hg) _ 0 i k) ?_
    refine (rc_grp (e := .f32) (lit hg) 0 i k).trans ?_
    repeat (refine (canon_skip (e := .f32) _ ?_ i k).trans ?_; · exact Nat.ne_of_beq_eq_false rfl)
    refine (canon_hit (e := .f32) (lit hg) i k).trans ?_
    refine (v_gw I.lo I.dyl_at (lit hg) _ 0 i k).trans ?_
    refine congrArg (fun z : EReal => z + _) ((rc_grp (e := .f32) (lit hg) 0 i k).trans ?_)
  · exact (canon_fill (e := .f32) _ i k).trans (zero3 _ i k)
  · refine (canon_skip (e := .f32) 0 (Nat.ne_of_beq_eq_false (n := 1) rfl) i k).trans ?_
    exact (canon_fill (e := .f32) _ i k).trans (zero3 _ i k)
  · refine (canon_skip (e := .f32) 1 (Nat.ne_of_beq_eq_false (n := 2) rfl) i k).trans ?_
    refine (canon_skip (e := .f32) 0 (Nat.ne_of_beq_eq_false (n := 2) rfl) i k).trans ?_
    exact (canon_fill (e := .f32) _ i k).trans (zero3 _ i k)
  · refine (canon_skip (e := .f32) 2 (Nat.ne_of_beq_eq_false (n := 3) rfl) i k).trans ?_
    refine (canon_skip (e := .f32) 1 (Nat.ne_of_beq_eq_false (n := 3) rfl) i k).trans ?_
    refine (canon_skip (e := .f32) 0 (Nat.ne_of_beq_eq_false (n := 3) rfl) i k).trans ?_
    exact (canon_fill (e := .f32) _ i k).trans (zero3 _ i k)

theorem In.out_gw_B (h : ¬ t.val % 32 = 0) (g : Fin 4) (i k : Fin 128) :
    (outsAt0 m c t.val t.isLt).2.2.2.2.1 (ix3 g i k)
      = (outsAt0 m c (t.val - 1) (Nat.lt_of_le_of_lt (Nat.sub_le _ _) t.isLt)).2.2.2.2.1 (ix3 g i k)
        + ((gw A (Bk 0) g i k + gw A (Bk 1) g i k : ℝ) : EReal) := by
  rw [outsAt0_B m c t h]
  frame_open
  simp only [View.read_writes_junk_eq_canon]
  rcases four g with hg | hg | hg | hg
  all_goals
    rw [hg]
    repeat (refine (canon_skip (e := .f32) _ ?_ i k).trans ?_; · exact Nat.ne_of_beq_eq_false rfl)
    refine (canon_hit (e := .f32) (lit hg) i k).trans ?_
    refine chain (v_gw I.hi I.dyh_at (lit hg) _ 0 i k) ?_
    refine (rc_grp (e := .f32) (lit hg) 0 i k).trans ?_
    repeat (refine (canon_skip (e := .f32) _ ?_ i k).trans ?_; · exact Nat.ne_of_beq_eq_false rfl)
    refine (canon_hit (e := .f32) (lit hg) i k).trans ?_
    refine (v_gw I.lo I.dyl_at (lit hg) _ 0 i k).trans ?_
    refine congrArg (fun z : EReal => z + _) ?_
    rw [View.readAt_eq_ld, Memref.IsWhole.read_unread]
    exact ld_grp (e := .f32) (lit hg) (f := fun g i k => (outsAt0 m c (t.val - 1) (Nat.lt_of_le_of_lt (Nat.sub_le _ _) t.isLt)).2.2.2.2.1 (ix3 g i k)) (fun _ _ _ => rfl) 0 i k

end Sgu.K

end
-- ==== Proof.KGb.lean ====
/- What a grid point of the kernel leaves in the buffer of the spatial biases' gradient. -/
module

public import proofs.«01_k».proof.Proof.KHead

@[expose] public section

set_option maxRecDepth 16384
set_option maxHeartbeats 2000000

noncomputable section

namespace Sgu.K

open Idealize.ShloMosaic Idealize.ShloMosaic.TcCoe Idealize.SL.Sem
open Cert.KernelIdeal Cert.KernelIdeal.Gen

variable {m : (ℓ : Loc nD τ sig) → Buf (Elt Ideal) ℓ} {c : Dev nD} {A : Par} {Bk : Fin 2 → Blk} {t : Fin cfg0.N}

variable (I : In m c A Bk t)

include I

theorem In.out_gb_A (h : t.val % 32 = 0) (g : Fin 4) (i : Fin 128) (k : Fin 1) :
    (outsAt0 m c t.val t.isLt).2.2.2.2.2.1 (ix3 g i k) = (0 : EReal) + ((gb A (Bk 0) g i + gb A (Bk 1) g i : ℝ) : EReal) := by
  rw [outsAt0_A m c t h]
  frame_open
  simp only [View.read_writes_junk_eq_canon]
  rcases four g with hg | hg | hg | hg
  all_goals
    rw [hg]
    repeat (refine (canon_skip (e := .f32) _ ?_ i k).trans ?_; · exact Nat.ne_of_beq_eq_false rfl)
    refine (canon_hit (e := .f32) (lit hg) i k).trans ?_
    refine chain (v_gb I.hi I.dyh_at (lit hg) _ 0 i k) ?_
    refine (rc_grp (e := .f32) (lit hg) 0 i k).trans ?_
    repeat (refine (canon_skip (e := .f32) _ ?_ i k).trans ?_; · exact Nat.ne_of_beq_eq_false rfl)
    refine (canon_hit (e := .f32) (lit hg) i k).trans ?_
    refine (v_gb I.lo I.dyl_at (lit hg) _ 0 i k).trans ?_
    refine congrArg (fun z : EReal => z + _) ((rc_grp (e := .f32) (lit hg) 0 i k).trans ?_)
    repeat (refine (canon_skip (e := .f32) _ ?_ i k).trans ?_; · exact Nat.ne_of_beq_eq_false rfl)
    refine (canon_fill (e := .f32) _ i k).trans ?_
    pointwise [k0_pay4]

theorem In.out_gb_B (h : ¬ t.val % 32 = 0) (g : Fin 4) (i : Fin 128) (k : Fin 1) :
    (outsAt0 m c t.val t.isLt).2.2.2.2.2.1 (ix3 g i k)
      = (outsAt0 m c (t.val - 1) (Nat.lt_of_le_of_lt (Nat.sub_le _ _) t.isLt)).2.2.2.2.2.1 (ix3 g i k)
        + ((gb A (Bk 0) g i + gb A (Bk 1) g i : ℝ) : EReal) := by
  rw [outsAt0_B m c t h]
  frame_open
  simp only [View.read_writes_junk_eq_canon]
  rcases four g with hg | hg | hg | hg
  all_goals
    rw [hg]
    repeat (refine (canon_skip (e := .f32) _ ?_ i k).trans ?_; · exact Nat.ne_of_beq_eq_false rfl)
    refine (canon_hit (e := .f32) (lit hg) i k).trans ?_
    refine chain (v_gb I.hi I.dyh_at (lit hg) _ 0 i k) ?_
    refine (rc_grp (e := .f32) (lit hg) 0 i k).trans ?_
    repeat (refine (canon_skip (e := .f32) _ ?_ i k).trans ?_; · exact Nat.ne_of_beq_eq_false rfl)
    refine (canon_hit (e := .f32) (lit hg) i k).trans ?_
    refine (v_gb I.lo I.dyl_at (lit hg) _ 0 i k).trans ?_
    refine congrArg (fun z : EReal => z + _) ?_
    rw [View.readAt_eq_ld, Memref.IsWhole.read_unread]
    exact ld_grp (e := .f32) (lit hg) (f := fun g i k => (outsAt0 m c (t.val - 1) (Nat.lt_of_le_of_lt (Nat.sub_le _ _) t.isLt)).2.2.2.2.2.1 (ix3 g i k)) (fun _ _ _ => rfl) 0 i k

end Sgu.K

end
-- ==== Proof.KLoss.lean ====
/- What a grid point of the kernel leaves in the buffers of the final gain's gradient and of the loss. -/
module

public import proofs.«01_k».proof.Proof.KHead

@[expose] public section

set_option maxRecDepth 16384
set_option maxHeartbeats 4000000

noncomputable section

namespace Sgu.K

open Idealize.ShloMosaic Idealize.ShloMosaic.TcCoe Idealize.SL.Sem
open Cert.KernelIdeal Cert.KernelIdeal.Gen

variable {m : (ℓ : Loc nD τ sig) → Buf (Elt Ideal) ℓ} {c : Dev nD} {A : Par} {Bk : Fin 2 → Blk} {t : Fin cfg0.N}

variable (I : In m c A Bk t)
include I

/-- The final gain's gradient: a point adds its 256 rows at once. -/
theorem In.out_gf_A (h : t.val % 32 = 0) (o : Fin 1) (d : Fin 1024) :
    (outsAt0 m c t.val t.isLt).2.2.2.2.2.2.1 (ix2 o d)
      = (0 : EReal) + ((∑ r, dd A (Bk (bi r)) (ri r) d * xh A (Bk (bi r)) (ri r) d : ℝ) : EReal) := by
  rw [outsAt0_A m c t h]
  frame_open
  simp only [View.read_writes_junk_eq_canon]
  refine (canon_all o d).trans ((k_gf (f := fun r => Bk (bi r)) (l := ri) (k_xh I.x' I.yv_at I.wo') (k_e I.x' I.yv_at I.wo' I.fn' I.tg') _ o d).trans
    (congrArg (fun z : EReal => z + _) ((rc_all o d).trans ?_)))
  pointwise [k0_pay5]

theorem In.out_gf_B (h : ¬ t.val % 32 = 0) (o : Fin 1) (d : Fin 1024) :
    (outsAt0 m c t.val t.isLt).2.2.2.2.2.2.1 (ix2 o d)
      = (outsAt0 m c (t.val - 1) (Nat.lt_of_le_of_lt (Nat.sub_le _ _) t.isLt)).2.2.2.2.2.2.1 (ix2 o d)
        + ((∑ r, dd A (Bk (bi r)) (ri r) d * xh A (Bk (bi r)) (ri r) d : ℝ) : EReal) := by
  rw [outsAt0_B m c t h]
  frame_open
  simp only [View.read_writes_junk_eq_canon]
  refine (canon_all o d).trans ((k_gf (f := fun r => Bk (bi r)) (l := ri) (k_xh I.x' I.yv_at I.wo') (k_e I.x' I.yv_at I.wo' I.fn' I.tg') _ o d).trans
    (congrArg (fun z : EReal => z + _) ?_))
  rw [View.readAt_eq_ld, Memref.IsWhole.read_unread]
  exact ld_all (e := .f32) (f := fun o j => _) (fun _ _ => rfl) o d

/-- The loss: every lane of its row holds the same number. -/
theorem In.out_loss_A (h : t.val % 32 = 0) (o : Fin 1) (d : Fin 128) :
    (outsAt0 m c t.val t.isLt).2.2.2.2.2.2.2 (ix2 o d)
      = (0 : EReal) + ((1 / 2 * ∑ r, el A (Bk (bi r)) (ri r) : ℝ) : EReal) := by
  rw [outsAt0_A m c t h]
  frame_open
  simp only [View.read_writes_junk_eq_canon]
  refine (canon_all o d).trans ((k_loss (f := fun r => Bk (bi r)) (l := ri) I.x' I.yv_at I.wo' I.fn' I.tg' _ o d).trans
    (congrArg (fun z : EReal => z + _) ((rc_all o d).trans ?_)))
  pointwise [k0_pay6]

theorem In.out_loss_B (h : ¬ t.val % 32 = 0) (o : Fin 1) (d : Fin 128) :
    (outsAt0 m c t.val t.isLt).2.2.2.2.2.2.2 (ix2 o d)
      = (outsAt0 m c (t.val - 1) (Nat.lt_of_le_of_lt (Nat.sub_le _ _) t.isLt)).2.2.2.2.2.2.2 (ix2 o d)
        + ((1 / 2 * ∑ r, el A (Bk (bi r)) (ri r) : ℝ) : EReal) := by
  rw [outsAt0_B m c t h]
  frame_open
  simp only [View.read_writes_junk_eq_canon]
  refine (canon_all o d).trans ((k_loss (f := fun r => Bk (bi r)) (l := ri) I.x' I.yv_at I.wo' I.fn' I.tg' _ o d).trans
    (congrArg (fun z : EReal => z + _) ?_))
  rw [View.readAt_eq_ld, Memref.IsWhole.read_unread]
  exact ld_all (e := .f32) (f := fun o j => _) (fun _ _ => rfl) o d

end Sgu.K

end
-- ==== Proof.KFinal.lean ====
/- The kernel's eight output arrays after its run, as real numbers. -/
module

public import proofs.«01_k».proof.Proof.Data
public import proofs.«01_k».proof.Proof.KOut
public import proofs.«01_k».proof.Proof.KGg
public import proofs.«01_k».proof.Proof.KGw
public import proofs.«01_k».proof.Proof.KGb
public import proofs.«01_k».proof.Proof.KLoss

@[expose] public section

set_option maxRecDepth 16384

noncomputable section

namespace Sgu.K

open Idealize.ShloMosaic Idealize.ShloMosaic.TcCoe Idealize.SL.Sem
open Cert.KernelIdeal Cert.KernelIdeal.Gen

variable {m : (ℓ : Loc nD τ sig) → Buf (Elt Ideal) ℓ} {c : Dev nD} {D : Arr}

/-- Which part of its array each window holds at a grid point. -/
theorem idx : ∀ t : Fin cfg0.N, win0_0.index t = ![t.val, 0] ∧ win0_1.index t = ![t.val, 0] ∧ win0_2.index t = ![0, 0]
    ∧ win0_3.index t = ![0, 0, 0] ∧ win0_4.index t = ![0, 0, 0] ∧ win0_5.index t = ![0, 0] ∧ win0_6.index t = ![0, 0]
    ∧ win0_7.index t = ![t.val, 0] ∧ win0_8.index t = ![t.val, 0] ∧ win0_9.index t = ![t.val, 0] ∧ win0_10.index t = ![t.val, 0]
    ∧ win0_11.index t = ![0, 0] ∧ win0_12.index t = ![0, 0, 0] ∧ win0_13.index t = ![0, 0, 0] ∧ win0_14.index t = ![0, 0]
    ∧ win0_15.index t = ![0, 0] :=
  (by decide +kernel : ∀ t : Fin grid0.N, _)

theorem lt32 (t : Fin cfg0.N) : t.val < 32 := lt_of_lt_of_le t.isLt (le_of_eq N_0)

/-- The two blocks of a grid point. -/
def Arr.two (D : Arr) (t : Fin cfg0.N) (b : Fin 2) : Blk := D.blk ⟨2 * t.val + b, by have := lt32 t; omega⟩

/-- The memory's arguments hold `D`'s numbers on device `c`. -/
abbrev Mem (m : (ℓ : Loc nD τ sig) → Buf (Elt Ideal) ℓ) (c : Dev nD) (D : Arr) : Prop :=
  Holds D (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

theorem row_eq (t : Fin cfg0.N) (r : Fin 256) (h : t.val * 256 + r < 8192) :
    (⟨t.val * 256 + r, h⟩ : Fin 8192) = pos ⟨2 * t.val + (bi r : ℕ), by have := lt32 t; omega⟩ (ri r) :=
  Fin.ext (by show t.val * 256 + (r : ℕ) = (2 * t.val + r / 128) * 128 + r % 128; omega)

theorem Mem.inAt (H : Mem m c D) (t : Fin cfg0.N) : In m c D.par (Arr.two D t) t where
  p r j := by
    have hr : t.val * 256 + r < 8192 := by have := lt32 t; omega
    refine Eq.trans (b := m ((c : Thread nD τ).loc main_arg0) (ix2 ⟨t.val * 256 + r, hr⟩ j)) ?_ ?_
    · blk_ext [iblk, V, idx t]
    · rw [H.p, row_eq]; rfl
  x r d := by
    have hr : t.val * 256 + r < 8192 := by have := lt32 t; omega
    refine Eq.trans (b := m ((c : Thread nD τ).loc main_arg1) (ix2 ⟨t.val * 256 + r, hr⟩ d)) ?_ ?_
    · blk_ext [iblk, V, idx t]
    · rw [H.x, row_eq]; rfl
  tg r d := by
    have hr : t.val * 256 + r < 8192 := by have := lt32 t; omega
    refine Eq.trans (b := m ((c : Thread nD τ).loc main_arg7) (ix2 ⟨t.val * 256 + r, hr⟩ d)) ?_ ?_
    · blk_ext [iblk, V, idx t]
    · rw [H.tg, row_eq]; rfl
  g o j := by rw [← H.g o j]; blk_ext [iblk, V, idx t]
  w g i k := by rw [← H.w g i k]; blk_ext [iblk, V, idx t]
  b g i o := by rw [← H.b g i o]; blk_ext [iblk, V, idx t]
  wo j d := by rw [← H.wo j d]; blk_ext [iblk, V, idx t]
  fn o d := by rw [← H.fn o d]; blk_ext [iblk, V, idx t]

/-! ## The arrays the run leaves -/

def yArr (D : Arr) : FVec Ideal S8192x2048 .bf16 := fun i => (y D.par (D.blk (nb (i 0))) (rb (i 0)) (i 1) : EReal)
def dpArr (D : Arr) : FVec Ideal S8192x6144 .bf16 := fun i => (dp D.par (D.blk (nb (i 0))) (rb (i 0)) (i 1) : EReal)
def dx2Arr (D : Arr) : FVec Ideal S8192x1024 .f32 := fun i => (dx2 D.par (D.blk (nb (i 0))) (rb (i 0)) (i 1) : EReal)
def ggArr (D : Arr) : FVec Ideal S1x2048 .f32 := fun i => ((∑ n, gg D.par (D.blk n) (i 1) : ℝ) : EReal)
def gwArr (D : Arr) : FVec Ideal S4x128x128 .f32 := fun i => ((∑ n, gw D.par (D.blk n) (i 0) (i 1) (i 2) : ℝ) : EReal)
def gbArr (D : Arr) : FVec Ideal S4x128x1 .f32 := fun i => ((∑ n, gb D.par (D.blk n) (i 0) (i 1) : ℝ) : EReal)
def gfArr (D : Arr) : FVec Ideal S1x1024 .f32 := fun i => ((∑ n, gf D.par (D.blk n) (i 1) : ℝ) : EReal)
def lossArr (D : Arr) : FVec Ideal S1x128 .f32 := fun _ => ((∑ n, 1 / 2 * ∑ t, el D.par (D.blk n) t : ℝ) : EReal)

/-- The row of a tile that a grid point writes. -/
theorem at_row {n : ℕ} (t : Fin cfg0.N) (r : Fin 256) (h : t.val * 256 + r < 8192) (j : Fin n) (f : Blk → Fin 128 → Fin n → ℝ) :
    (f (Arr.two D t (bi r)) (ri r) j : EReal) = (f (D.blk (nb ⟨t.val * 256 + r, h⟩)) (rb ⟨t.val * 256 + r, h⟩) j : EReal) := by
  rw [row_eq, nb_pos, rb_pos]; rfl

/-- A sum over the points' pairs of blocks is the sum over the blocks. -/
theorem sum_points (f : Fin 64 → ℝ) (g : Fin 32 → EReal) (h : ∀ s : Fin 32, g s = ((f ⟨2 * s, by omega⟩ + f ⟨2 * s + 1, by omega⟩ : ℝ) : EReal)) :
    ∑ s, g s = ((∑ n, f n : ℝ) : EReal) := by
  rw [← sum_pairs f, ← coe_sum]
  exact Finset.sum_congr rfl fun s _ => h s

/-- A sum over a tile's 256 rows is the sum over its two blocks. -/
theorem sum_rows (f : Fin 2 → Fin 128 → ℝ) : ∑ r, f (bi r) (ri r) = ∑ t, f 0 t + ∑ t, f 1 t := by
  rw [← (finProdFinEquiv (m := 2) (n := 128)).sum_comp, Fintype.sum_prod_type, Fin.sum_univ_two]
  refine congrArg₂ _ (Finset.sum_congr rfl fun t _ => ?_) (Finset.sum_congr rfl fun t _ => ?_)
  · exact congrArg₂ f (Fin.ext (by show ((t : ℕ) + 128 * 0) / 128 = 0; omega)) (Fin.ext (by show ((t : ℕ) + 128 * 0) % 128 = t; omega))
  · exact congrArg₂ f (Fin.ext (by show ((t : ℕ) + 128 * 1) / 128 = 1; omega)) (Fin.ext (by show ((t : ℕ) + 128 * 1) % 128 = t; omega))

theorem two_zero (p : Fin cfg0.N) (s : Fin 32) (h : p.val = s) : Arr.two D p 0 = D.blk ⟨2 * s, by omega⟩ :=
  congrArg D.blk (Fin.ext (by show 2 * p.val + 0 = 2 * s; omega))

theorem two_one (p : Fin cfg0.N) (s : Fin 32) (h : p.val = s) : Arr.two D p 1 = D.blk ⟨2 * s + 1, by omega⟩ :=
  congrArg D.blk (Fin.ext (by show 2 * p.val + 1 = 2 * s + 1; omega))

variable (H : Mem m c D)
include H

theorem Mem.arr_y : (dats m 0 c).arrAt 9 (cfgs 0).N = yArr D := by
  refine (dats m 0 c).arrAt_eq_of_covers 9 _ (by decide +kernel) fun t _ y => ?_
  blk_simp
  rw [after0_9]
  obtain ⟨r, j, rfl⟩ : ∃ (r : Fin 256) (j : Fin 2048), y = ix2 r j := ⟨y 0, y 1, eq_ix2 y⟩
  have hr : t.val * 256 + r < 8192 := by have := lt32 t; omega
  refine ((Mem.inAt H t).out_y r j).trans ((at_row t r hr j (y D.par)).trans ?_)
  refine Eq.trans (b := yArr D (ix2 ⟨t.val * 256 + r, hr⟩ j)) rfl ?_
  blk_ext [idx t]

theorem Mem.arr_dp : (dats m 0 c).arrAt 8 (cfgs 0).N = dpArr D := by
  refine (dats m 0 c).arrAt_eq_of_covers 8 _ (by decide +kernel) fun t _ y => ?_
  blk_simp
  rw [after0_8]
  obtain ⟨r, j, rfl⟩ : ∃ (r : Fin 256) (j : Fin 6144), y = ix2 r j := ⟨y 0, y 1, eq_ix2 y⟩
  have hr : t.val * 256 + r < 8192 := by have := lt32 t; omega
  refine ((Mem.inAt H t).out_dp r j).trans ((at_row t r hr j (dp D.par)).trans ?_)
  refine Eq.trans (b := dpArr D (ix2 ⟨t.val * 256 + r, hr⟩ j)) rfl ?_
  blk_ext [idx t]

theorem Mem.arr_dx2 : (dats m 0 c).arrAt 10 (cfgs 0).N = dx2Arr D := by
  refine (dats m 0 c).arrAt_eq_of_covers 10 _ (by decide +kernel) fun t _ y => ?_
  blk_simp
  rw [after0_10]
  obtain ⟨r, j, rfl⟩ : ∃ (r : Fin 256) (j : Fin 1024), y = ix2 r j := ⟨y 0, y 1, eq_ix2 y⟩
  have hr : t.val * 256 + r < 8192 := by have := lt32 t; omega
  refine ((Mem.inAt H t).out_dx2 r j).trans ((at_row t r hr j (dx2 D.par)).trans ?_)
  refine Eq.trans (b := dx2Arr D (ix2 ⟨t.val * 256 + r, hr⟩ j)) rfl ?_
  blk_ext [idx t]

theorem Mem.arr_gg : (dats m 0 c).arrAt 11 (cfgs 0).N = ggArr D := by
  refine (dats m 0 c).arrAt_eq_of_covers 11 _ (by decide +kernel) fun t hf y => ?_
  blk_simp
  rw [after0_11, Pipeline.eq_sum_fin_of_reset_step_apply_of_flush (fun n h => (outsAt0 m c n h).2.2.2.1) 32 (fun _ => 0)
    (fun (p : Fin cfg0.N) i => ((gg D.par (Arr.two D p 0) (i 1) + gg D.par (Arr.two D p 1) (i 1) : ℝ) : EReal))
    (fun t h i => by obtain ⟨o, j, rfl⟩ : ∃ (o : Fin 1) (j : Fin 2048), i = ix2 o j := ⟨i 0, i 1, eq_ix2 i⟩; exact (Mem.inAt H t).out_gg_A h o j)
    (fun t h i => by obtain ⟨o, j, rfl⟩ : ∃ (o : Fin 1) (j : Fin 2048), i = ix2 o j := ⟨i 0, i 1, eq_ix2 i⟩; exact (Mem.inAt H t).out_gg_B h o j)
    t ((flush0_11 t).mp hf) _]
  obtain ⟨o, j, rfl⟩ : ∃ (o : Fin 1) (j : Fin 2048), y = ix2 o j := ⟨y 0, y 1, eq_ix2 y⟩
  refine Eq.trans (b := ggArr D (ix2 o j)) ?_ (by blk_ext [idx t])
  refine (zero_add (_ : EReal)).trans (sum_points (fun n => gg D.par (D.blk n) j) _ fun s => ?_)
  have ht := lt32 t
  have e : t.val / 32 = 0 := by omega
  rw [two_zero _ s (by show 32 * (t.val / 32) + s.val = s; omega), two_one _ s (by show 32 * (t.val / 32) + s.val = s; omega)]; rfl

theorem Mem.arr_gw : (dats m 0 c).arrAt 12 (cfgs 0).N = gwArr D := by
  refine (dats m 0 c).arrAt_eq_of_covers 12 _ (by decide +kernel) fun t hf y => ?_
  blk_simp
  rw [after0_12, Pipeline.eq_sum_fin_of_reset_step_apply_of_flush (fun n h => (outsAt0 m c n h).2.2.2.2.1) 32 (fun _ => 0)
    (fun (p : Fin cfg0.N) i => ((gw D.par (Arr.two D p 0) (i 0) (i 1) (i 2) + gw D.par (Arr.two D p 1) (i 0) (i 1) (i 2) : ℝ) : EReal))
    (fun t h i => by obtain ⟨g, a, k, rfl⟩ : ∃ (g : Fin 4) (a : Fin 128) (k : Fin 128), i = ix3 g a k := ⟨i 0, i 1, i 2, eq_ix3 i⟩; exact (Mem.inAt H t).out_gw_A h g a k)
    (fun t h i => by obtain ⟨g, a, k, rfl⟩ : ∃ (g : Fin 4) (a : Fin 128) (k : Fin 128), i = ix3 g a k := ⟨i 0, i 1, i 2, eq_ix3 i⟩; exact (Mem.inAt H t).out_gw_B h g a k)
    t ((flush0_12 t).mp hf) _]
  obtain ⟨g, a, k, rfl⟩ : ∃ (g : Fin 4) (a : Fin 128) (k : Fin 128), y = ix3 g a k := ⟨y 0, y 1, y 2, eq_ix3 y⟩
  refine Eq.trans (b := gwArr D (ix3 g a k)) ?_ (by blk_ext [idx t])
  refine (zero_add (_ : EReal)).trans (sum_points (fun n => gw D.par (D.blk n) g a k) _ fun s => ?_)
  have ht := lt32 t
  have e : t.val / 32 = 0 := by omega
  rw [two_zero _ s (by show 32 * (t.val / 32) + s.val = s; omega), two_one _ s (by show 32 * (t.val / 32) + s.val = s; omega)]; rfl

theorem Mem.arr_gb : (dats m 0 c).arrAt 13 (cfgs 0).N = gbArr D := by
  refine (dats m 0 c).arrAt_eq_of_covers 13 _ (by decide +kernel) fun t hf y => ?_
  blk_simp
  rw [after0_13, Pipeline.eq_sum_fin_of_reset_step_apply_of_flush (fun n h => (outsAt0 m c n h).2.2.2.2.2.1) 32 (fun _ => 0)
    (fun (p : Fin cfg0.N) i => ((gb D.par (Arr.two D p 0) (i 0) (i 1) + gb D.par (Arr.two D p 1) (i 0) (i 1) : ℝ) : EReal))
    (fun t h i => by obtain ⟨g, a, k, rfl⟩ : ∃ (g : Fin 4) (a : Fin 128) (k : Fin 1), i = ix3 g a k := ⟨i 0, i 1, i 2, eq_ix3 i⟩; exact (Mem.inAt H t).out_gb_A h g a k)
    (fun t h i => by obtain ⟨g, a, k, rfl⟩ : ∃ (g : Fin 4) (a : Fin 128) (k : Fin 1), i = ix3 g a k := ⟨i 0, i 1, i 2, eq_ix3 i⟩; exact (Mem.inAt H t).out_gb_B h g a k)
    t ((flush0_13 t).mp hf) _]
  obtain ⟨g, a, k, rfl⟩ : ∃ (g : Fin 4) (a : Fin 128) (k : Fin 1), y = ix3 g a k := ⟨y 0, y 1, y 2, eq_ix3 y⟩
  refine Eq.trans (b := gbArr D (ix3 g a k)) ?_ (by blk_ext [idx t])
  refine (zero_add (_ : EReal)).trans (sum_points (fun n => gb D.par (D.blk n) g a) _ fun s => ?_)
  have ht := lt32 t
  have e : t.val / 32 = 0 := by omega
  rw [two_zero _ s (by show 32 * (t.val / 32) + s.val = s; omega), two_one _ s (by show 32 * (t.val / 32) + s.val = s; omega)]; rfl

theorem Mem.arr_gf : (dats m 0 c).arrAt 14 (cfgs 0).N = gfArr D := by
  refine (dats m 0 c).arrAt_eq_of_covers 14 _ (by decide +kernel) fun t hf y => ?_
  blk_simp
  rw [after0_14, Pipeline.eq_sum_fin_of_reset_step_apply_of_flush (fun n h => (outsAt0 m c n h).2.2.2.2.2.2.1) 32 (fun _ => 0)
    (fun (p : Fin cfg0.N) i => ((∑ r, dd D.par (Arr.two D p (bi r)) (ri r) (i 1) * xh D.par (Arr.two D p (bi r)) (ri r) (i 1) : ℝ) : EReal))
    (fun t h i => by obtain ⟨o, j, rfl⟩ : ∃ (o : Fin 1) (j : Fin 1024), i = ix2 o j := ⟨i 0, i 1, eq_ix2 i⟩; exact (Mem.inAt H t).out_gf_A h o j)
    (fun t h i => by obtain ⟨o, j, rfl⟩ : ∃ (o : Fin 1) (j : Fin 1024), i = ix2 o j := ⟨i 0, i 1, eq_ix2 i⟩; exact (Mem.inAt H t).out_gf_B h o j)
    t ((flush0_14 t).mp hf) _]
  obtain ⟨o, j, rfl⟩ : ∃ (o : Fin 1) (j : Fin 1024), y = ix2 o j := ⟨y 0, y 1, eq_ix2 y⟩
  refine Eq.trans (b := gfArr D (ix2 o j)) ?_ (by blk_ext [idx t])
  refine (zero_add (_ : EReal)).trans (sum_points (fun n => gf D.par (D.blk n) j) _ fun s => ?_)
  have ht := lt32 t
  have e : t.val / 32 = 0 := by omega
  rw [sum_rows (fun b l => dd D.par (Arr.two D _ b) l ((ix2 o j) 1) * xh D.par (Arr.two D _ b) l ((ix2 o j) 1))]
  rw [two_zero _ s (by show 32 * (t.val / 32) + s.val = s; omega), two_one _ s (by show 32 * (t.val / 32) + s.val = s; omega)]; rfl

theorem Mem.arr_loss : (dats m 0 c).arrAt 15 (cfgs 0).N = lossArr D := by
  refine (dats m 0 c).arrAt_eq_of_covers 15 _ (by decide +kernel) fun t hf y => ?_
  blk_simp
  rw [after0_15, Pipeline.eq_sum_fin_of_reset_step_apply_of_flush (fun n h => (outsAt0 m c n h).2.2.2.2.2.2.2) 32 (fun _ => 0)
    (fun (p : Fin cfg0.N) i => ((1 / 2 * ∑ r, el D.par (Arr.two D p (bi r)) (ri r) : ℝ) : EReal))
    (fun t h i => by obtain ⟨o, j, rfl⟩ : ∃ (o : Fin 1) (j : Fin 128), i = ix2 o j := ⟨i 0, i 1, eq_ix2 i⟩; exact (Mem.inAt H t).out_loss_A h o j)
    (fun t h i => by obtain ⟨o, j, rfl⟩ : ∃ (o : Fin 1) (j : Fin 128), i = ix2 o j := ⟨i 0, i 1, eq_ix2 i⟩; exact (Mem.inAt H t).out_loss_B h o j)
    t ((flush0_15 t).mp hf) _]
  obtain ⟨o, j, rfl⟩ : ∃ (o : Fin 1) (j : Fin 128), y = ix2 o j := ⟨y 0, y 1, eq_ix2 y⟩
  refine Eq.trans (b := lossArr D (ix2 o j)) ?_ (by blk_ext [idx t])
  refine (zero_add (_ : EReal)).trans (sum_points (fun n => 1 / 2 * ∑ t, el D.par (D.blk n) t) _ fun s => ?_)
  have ht := lt32 t
  have e : t.val / 32 = 0 := by omega
  rw [sum_rows (fun b l => el D.par (Arr.two D _ b) l), mul_add]
  rw [two_zero _ s (by show 32 * (t.val / 32) + s.val = s; omega), two_one _ s (by show 32 * (t.val / 32) + s.val = s; omega)]

end Sgu.K

end
-- ==== Proof.RFwd.lean ====
/- The reference's forward pass up to the branch's output, an operation at a time, as real numbers. -/
module

public import proofs.«01_k».proof.Proof.Data
public import proofs.«01_k».proof.Proof.Gen.ReferenceIdeal.Read

@[expose] public section

set_option maxRecDepth 16384

noncomputable section

namespace Sgu

/-- A quantity of a block's rows, read along the whole array's rows. -/
abbrev Arr.row (D : Arr) {n : ℕ} (f : Blk → Fin 128 → Fin n → ℝ) (r : Fin 8192) (j : Fin n) : ℝ := f (D.blk (nb r)) (rb r) j
/-- The same of a quantity with one number a row. -/
abbrev Arr.one (D : Arr) (f : Blk → Fin 128 → ℝ) (r : Fin 8192) : ℝ := f (D.blk (nb r)) (rb r)

namespace R

open Idealize.ShloMosaic Idealize.ShloMosaic.TcCoe
open Cert.ReferenceIdeal Cert.ReferenceIdeal.Gen Cert.ReferenceIdeal.Read

variable {D : Arr}
  {x0 : FVec Ideal S8192x6144 .f32} {x1 : FVec Ideal S8192x1024 .f32} {x2 : FVec Ideal S1x2048 .f32} {x3 : FVec Ideal S4x128x128 .f32}
  {x4 : FVec Ideal S4x128x1 .f32} {x5 : FVec Ideal S2048x1024 .bf16} {x6 : FVec Ideal S1x1024 .f32} {x7 : FVec Ideal S8192x1024 .f32}

/-- Rewriting the value of an extended real that is real. -/
theorem coe_eq {a b : ℝ} (h : a = b) : (a : EReal) = (b : EReal) := congrArg _ h

theorem v5 (i) : val_main_v5 (F := Ideal) i = ((8943 / 200000 : ℝ) : EReal) := by
  pointwise [val_main_v5, val_main_cst, val_main_cst_0]
  rw [lit44715, lit1e6, div_pos_coe _ _ (by norm_num)]
  norm_num

variable (H : Holds D x0 x1 x2 x3 x4 x5 x6 x7)
include H

theorem p_at (r : Fin 8192) (j : Fin 6144) : x0 (ix2 r j) = (D.row Blk.p r j : EReal) := by
  refine (H.p r j).trans (coe_eq ?_)
  show D.p r j = D.p (pos (nb r) (rb r)) j
  rw [pos_nb]
theorem x_at (r : Fin 8192) (j : Fin 1024) : x1 (ix2 r j) = (D.row Blk.x r j : EReal) := by
  refine (H.x r j).trans (coe_eq ?_)
  show D.x r j = D.x (pos (nb r) (rb r)) j
  rw [pos_nb]
theorem t_at (r : Fin 8192) (j : Fin 1024) : x7 (ix2 r j) = (D.row Blk.t r j : EReal) := by
  refine (H.tg r j).trans (coe_eq ?_)
  show D.t r j = D.t (pos (nb r) (rb r)) j
  rw [pos_nb]

/-! ## GELU and its slope -/

/-- The first 4096 columns of the projection. -/
theorem v4 (r : Fin 8192) (j : Fin 4096) : val_main_v4 (F := Ideal) x0 (ix2 r j) = (D.row Blk.p r ⟨j, by omega⟩ : EReal) := by
  pointwise [val_main_v4]
  exact p_at H _ _
theorem v10 (r : Fin 8192) (j : Fin 4096) :
    val_main_v10 (F := Ideal) x0 (ix2 r j) = ((3 * (D.row Blk.p r ⟨j, by omega⟩ * D.row Blk.p r ⟨j, by omega⟩) : ℝ) : EReal) := by
  pointwise [val_main_v10, val_main_v9, val_main_cst_1, val_main_v8]
  simp only [v4 H, lit3, ← EReal.coe_mul]
theorem v16 (r : Fin 8192) (j : Fin 4096) : val_main_v16 (F := Ideal) x0 (ix2 r j) = (th (D.row Blk.p r ⟨j, by omega⟩) : EReal) := by
  pointwise [val_main_v16, val_main_v15, val_main_v14, val_main_cst_2, val_main_v13, val_main_v12, val_main_v11, val_main_v7, val_main_v6]
  simp only [v4 H, v5, lit_cC, ← EReal.coe_mul, ← EReal.coe_add, Ideal.tanh_coe]
  refine coe_eq (congrArg Real.tanh ?_)
  ring
theorem v21 (r : Fin 8192) (j : Fin 4096) :
    val_main_v21 (F := Ideal) x0 (ix2 r j) = (((1 + th (D.row Blk.p r ⟨j, by omega⟩)) * (1 - th (D.row Blk.p r ⟨j, by omega⟩)) : ℝ) : EReal) := by
  pointwise [val_main_v21, val_main_v20, val_main_v18, val_main_v17, val_main_cst_3, val_main_v19, val_main_cst_4]
  simp only [v16 H, ← EReal.coe_one, ← EReal.coe_mul, ← EReal.coe_add, ← EReal.coe_sub]
theorem v25 (r : Fin 8192) (j : Fin 4096) : val_main_v25 (F := Ideal) x0 (ix2 r j) = (hp (D.row Blk.p r ⟨j, by omega⟩) : EReal) := by
  pointwise [val_main_v25, val_main_v24, val_main_v23, val_main_v22, val_main_cst_5, val_main_cst_6]
  simp only [v16 H, lit_half, ← EReal.coe_one, ← EReal.coe_mul, ← EReal.coe_add]
  rfl
theorem v26 (r : Fin 8192) (j : Fin 4096) : val_main_v26 (F := Ideal) x0 (ix2 r j) = (gel (D.row Blk.p r ⟨j, by omega⟩) : EReal) := by
  pointwise [val_main_v26]
  simp only [v4 H, v25 H, ← EReal.coe_mul]
  rfl
theorem v27 (r : Fin 8192) (j : Fin 2048) : val_main_v27 (F := Ideal) x0 (ix2 r j) = (D.row pz r j : EReal) := by
  pointwise [val_main_v27]
  exact p_at H _ _
theorem v28 (r : Fin 8192) (j : Fin 2048) : val_main_v28 (F := Ideal) x0 (ix2 r j) = (D.row u r j : EReal) := by
  pointwise [val_main_v28]
  exact v26 H _ _
theorem v29 (r : Fin 8192) (j : Fin 2048) : val_main_v29 (F := Ideal) x0 (ix2 r j) = (D.row v r j : EReal) := by
  pointwise [val_main_v29]
  exact v26 H _ _

/-! ## The mixed branch's norm -/

theorem v33 (r : Fin 8192) (o : Fin 1) : val_main_v33 (F := Ideal) x0 (ix2 r o) = (((∑ j, D.row v r j) / 2048 : ℝ) : EReal) := by
  pointwise [val_main_v33, val_main_v32, val_main_cst_8, val_main_v31, val_main_v30, val_main_cst_7]
  simp only [v29 H, lit2048, coe_sum, div2048]
theorem v35 (r : Fin 8192) (j : Fin 2048) : val_main_v35 (F := Ideal) x0 (ix2 r j) = (D.row vc r j : EReal) := by
  pointwise [val_main_v35, val_main_v34]
  simp only [v29 H, v33 H, ← EReal.coe_sub]
  rfl
theorem v44 (r : Fin 8192) (j : Fin 2048) : val_main_v44 (F := Ideal) x0 (ix2 r j) = (D.row vc r j : EReal) := by
  pointwise [val_main_v44, val_main_v43]
  simp only [v29 H, v33 H, ← EReal.coe_sub]
  rfl
theorem v38 (r : Fin 8192) (j : Fin 2048) : val_main_v38 (F := Ideal) x0 (ix2 r j) = ((2 * D.row vc r j : ℝ) : EReal) := by
  pointwise [val_main_v38, val_main_v37, val_main_cst_9]
  simp only [v35 H, lit2, ← EReal.coe_mul]
theorem v42 (r : Fin 8192) (o : Fin 1) : val_main_v42 (F := Ideal) x0 (ix2 r o) = (D.one va r : EReal) := by
  pointwise [val_main_v42, val_main_v41, val_main_cst_11, val_main_v40, val_main_v39, val_main_cst_10, val_main_v36]
  simp only [v35 H, lit2048, coe_sum, div2048, ← EReal.coe_mul]
  rfl
theorem v46 (r : Fin 8192) (o : Fin 1) : val_main_v46 (F := Ideal) x0 (ix2 r o) = ((D.one va r + eps : ℝ) : EReal) := by
  pointwise [val_main_v46, val_main_v45, val_main_cst_12]
  simp only [v42 H, lit_eps, ← EReal.coe_add]
theorem v47 (r : Fin 8192) (o : Fin 1) : val_main_v47 (F := Ideal) x0 (ix2 r o) = (D.one rs r : EReal) := by
  pointwise [val_main_v47]
  rw [v46 H]
  exact rsqrt_pos _ (va_nonneg _ _)
theorem v50 (r : Fin 8192) (o : Fin 1) :
    val_main_v50 (F := Ideal) x0 (ix2 r o) = ((-(1 / 2) * (D.one rs r / (D.one va r + eps)) : ℝ) : EReal) := by
  pointwise [val_main_v50, val_main_v49, val_main_cst_13, val_main_v48]
  rw [v46 H, v47 H, lit_neghalf, div_pos_coe _ _ (add_pos_of_nonneg_of_pos (va_nonneg _ _) eps_pos), ← EReal.coe_mul]
theorem v52 (r : Fin 8192) (j : Fin 2048) : val_main_v52 (F := Ideal) x0 (ix2 r j) = (D.row vh r j : EReal) := by
  pointwise [val_main_v52, val_main_v51]
  simp only [v44 H, v47 H, ← EReal.coe_mul]
  rfl
theorem v53 (o : Fin 1) (j : Fin 2048) : val_main_v53 (F := Ideal) x2 (ix2 o j) = (D.par.gain j : EReal) := by
  pointwise [val_main_v53, val_main_v0]
  exact H.g _ _
theorem v55 (r : Fin 8192) (j : Fin 2048) : val_main_v55 (F := Ideal) x0 x2 (ix2 r j) = (D.row (vn D.par) r j : EReal) := by
  pointwise [val_main_v55, val_main_v54]
  simp only [v52 H, v53 H, ← EReal.coe_mul]
  rfl

/-! ## The spatial projection -/

omit H in
theorem grp_col (g : Fin 4) (d : Fin 512) : grp (col g d) = g := Fin.ext (by show (g.val * 512 + d.val) / 512 = g; omega)
omit H in
theorem col_grp (j : Fin 2048) : col ⟨j / 512, by omega⟩ ⟨j % 512, by omega⟩ = j :=
  Fin.ext (by show j.val / 512 * 512 + j.val % 512 = j; omega)

omit H in
/-- A row and column of the flat array, from the four-dimensional one. -/
theorem row_at (n : Fin 64) (t : Fin 128) (h : n.val * 128 + t < 8192) {m : ℕ} (f : Blk → Fin 128 → Fin m → ℝ) (j : Fin m) :
    D.row f ⟨n.val * 128 + t, h⟩ j = f (D.blk n) t j := by
  show f (D.blk (nb (pos n t))) (rb (pos n t)) j = _
  rw [nb_pos, rb_pos]

theorem v56 (n : Fin 64) (t : Fin 128) (g : Fin 4) (d : Fin 512) :
    val_main_v56 (F := Ideal) x0 x2 (ix4 n t g d) = (vn D.par (D.blk n) t (col g d) : EReal) := by
  pointwise [val_main_v56]
  rw [v55 H, row_at]
  rfl
omit H in
theorem mask (g : Fin 4) (t k : Fin 128) : val_main_v60_1 (F := Ideal) (ix3 g t k) = if k ≤ t then 1#1 else 0#1 := by
  pointwise [val_main_v60_1, val_main_v59, val_main_v58, val_main_v57, val_main_c, val_main_call0_v4, val_main_call0_v5, val_main_call0_c_0, val_main_call0_v3, val_main_call0_v2, val_main_call0_v1, val_main_call0_c, val_main_call0_v0]
  revert t k
  decide +kernel
omit H in
theorem zero_at : val_main_cst_14 (F := Ideal) ix0 = ((0 : ℝ) : EReal) := by
  pointwise [val_main_cst_14]
  rfl
theorem v60 (g : Fin 4) (t k : Fin 128) : val_main_v60_0 (F := Ideal) x3 (ix3 g t k) = (wm D.par g t k : EReal) := by
  pointwise [val_main_v60_0, val_main_call1_v2, val_main_call1_v0]
  show Scalar.select _ _ (val_main_cst_14 (F := Ideal) ix0) = _
  rw [mask, H.w, zero_at]
  unfold wm
  by_cases h : k ≤ t <;> simp [h, Scalar.select]
theorem v66 (n : Fin 64) (t : Fin 128) (g : Fin 4) (d : Fin 512) :
    val_main_v66 (F := Ideal) x0 x2 x3 x4 (ix4 n t g d) = (s D.par (D.blk n) t (col g d) : EReal) := by
  pointwise [val_main_v66, val_main_v62, val_main_v61, val_main_v65, val_main_v64, val_main_v63, val_main_v1]
  simp only [v56 H, v60 H, H.b, ← EReal.coe_mul, ← EReal.coe_add, coe_sum]
  unfold s
  rw [grp_col]
  exact coe_eq (congrArg (· + D.par.b g t) (Finset.sum_congr rfl fun k _ => mul_comm _ _))
theorem v67 (r : Fin 8192) (j : Fin 2048) : val_main_v67 (F := Ideal) x0 x2 x3 x4 (ix2 r j) = (D.row (s D.par) r j : EReal) := by
  pointwise [val_main_v67]
  refine (v66 H _ _ _ _).trans (coe_eq ?_)
  exact congrArg (s D.par (D.blk (nb r)) (rb r)) (col_grp j)
theorem v68 (r : Fin 8192) (j : Fin 2048) : val_main_v68 (F := Ideal) x0 x2 x3 x4 (ix2 r j) = ((D.row u r j * D.row (s D.par) r j : ℝ) : EReal) := by
  pointwise [val_main_v68]
  simp only [v28 H, v67 H, ← EReal.coe_mul]

/-! ## The gate -/

theorem v69_2 (r : Fin 8192) (j : Fin 2048) : val_main_v69_2 (F := Ideal) x0 (ix2 r j) = (lgs (D.row pz r j) : EReal) := by
  pointwise [val_main_v69_2, val_main_call2_v4, val_main_call2_cst_0, val_main_call2_v3, val_main_call2_v2, val_main_call2_cst, val_main_call2_v1, val_main_call2_v0]
  rw [v27 H]
  exact Ideal.logistic_coe _
theorem v69_1 (r : Fin 8192) (j : Fin 2048) :
    val_main_v69_1 (F := Ideal) x0 (ix2 r j) = ((lgs (D.row pz r j) * (1 - lgs (D.row pz r j)) : ℝ) : EReal) := by
  pointwise [val_main_v69_1, val_main_call2_v7, val_main_call2_v6, val_main_call2_cst_1]
  simp only [v69_2 H, ← EReal.coe_one, ← EReal.coe_mul, ← EReal.coe_sub]
theorem v69_0 (r : Fin 8192) (j : Fin 2048) : val_main_v69_0 (F := Ideal) x0 (ix2 r j) = (act (D.row pz r j) : EReal) := by
  pointwise [val_main_v69_0]
  simp only [v27 H, v69_2 H, ← EReal.coe_mul]
  rfl
theorem v70 (r : Fin 8192) (j : Fin 2048) : val_main_v70 (F := Ideal) x0 x2 x3 x4 (ix2 r j) = (D.row (y D.par) r j : EReal) := by
  pointwise [val_main_v70]
  simp only [v68 H, v69_0 H, ← EReal.coe_mul]
  rfl

/-! ## The residual stream, the final norm, the error and the loss -/

theorem v72 (r : Fin 8192) (d : Fin 1024) : val_main_v72 (F := Ideal) x0 x1 x2 x3 x4 x5 (ix2 r d) = (D.row (Sgu.x2 D.par) r d : EReal) := by
  pointwise [val_main_v72, val_main_v71, val_main_v3]
  simp only [v70 H, x_at H, H.wo, ← EReal.coe_mul, ← EReal.coe_add, coe_sum]
  rfl
theorem v77 (r : Fin 8192) (o : Fin 1) : val_main_v77 (F := Ideal) x0 x1 x2 x3 x4 x5 (ix2 r o) = (D.one (ms D.par) r : EReal) := by
  pointwise [val_main_v77, val_main_v76, val_main_cst_16, val_main_v75, val_main_v74, val_main_cst_15, val_main_v73]
  simp only [v72 H, lit1024, coe_sum, div1024, ← EReal.coe_mul]
  rfl
theorem v79 (r : Fin 8192) (o : Fin 1) : val_main_v79 (F := Ideal) x0 x1 x2 x3 x4 x5 (ix2 r o) = ((D.one (ms D.par) r + eps : ℝ) : EReal) := by
  pointwise [val_main_v79, val_main_v78, val_main_cst_17]
  simp only [v77 H, lit_eps, ← EReal.coe_add]
theorem v80 (r : Fin 8192) (o : Fin 1) : val_main_v80 (F := Ideal) x0 x1 x2 x3 x4 x5 (ix2 r o) = (D.one (rr D.par) r : EReal) := by
  pointwise [val_main_v80]
  rw [v79 H]
  exact rsqrt_pos _ (ms_nonneg _ _ _)
theorem v83 (r : Fin 8192) (o : Fin 1) :
    val_main_v83 (F := Ideal) x0 x1 x2 x3 x4 x5 (ix2 r o) = ((-(1 / 2) * (D.one (rr D.par) r / (D.one (ms D.par) r + eps)) : ℝ) : EReal) := by
  pointwise [val_main_v83, val_main_v82, val_main_cst_18, val_main_v81]
  rw [v79 H, v80 H, lit_neghalf, div_pos_coe _ _ (add_pos_of_nonneg_of_pos (ms_nonneg _ _ _) eps_pos), ← EReal.coe_mul]
theorem v85 (r : Fin 8192) (d : Fin 1024) : val_main_v85 (F := Ideal) x0 x1 x2 x3 x4 x5 (ix2 r d) = (D.row (xh D.par) r d : EReal) := by
  pointwise [val_main_v85, val_main_v84]
  simp only [v72 H, v80 H, ← EReal.coe_mul]
  rfl
theorem v86 (o : Fin 1) (d : Fin 1024) : val_main_v86 (F := Ideal) x6 (ix2 o d) = (D.par.fn d : EReal) := by
  pointwise [val_main_v86, val_main_v2]
  exact H.fn _ _
theorem v89 (r : Fin 8192) (d : Fin 1024) : val_main_v89 (F := Ideal) x0 x1 x2 x3 x4 x5 x6 x7 (ix2 r d) = (D.row (e D.par) r d : EReal) := by
  pointwise [val_main_v89, val_main_v88, val_main_v87]
  simp only [v85 H, v86 H, t_at H, ← EReal.coe_mul, ← EReal.coe_sub]
  rfl
theorem v95 (r : Fin 8192) : val_main_v95 (F := Ideal) x0 x1 x2 x3 x4 x5 x6 x7 (ix1 r) = (D.one (el D.par) r : EReal) := by
  pointwise [val_main_v95, val_main_v94, val_main_cst_21, val_main_v93, val_main_cst_20, val_main_v90]
  simp only [v89 H, lit1024, coe_sum, div1024, ← EReal.coe_mul]
  rfl
theorem v194 (o : Fin 1) (d : Fin 128) :
    val_main_v194 (F := Ideal) x0 x1 x2 x3 x4 x5 x6 x7 (ix2 o d) = ((∑ n, 1 / 2 * ∑ t, el D.par (D.blk n) t : ℝ) : EReal) := by
  pointwise [val_main_v194, val_main_v97, val_main_v96, val_main_cst_22, val_main_cst_23]
  simp only [v95 H, lit_half, coe_sum, ← EReal.coe_mul]
  refine coe_eq ?_
  rw [← Finset.mul_sum, ← sum_pos (fun n t => el D.par (D.blk n) t)]

end R

end Sgu

end
-- ==== Proof.RBwd.lean ====
/- The reference's backward pass, an operation at a time, as real numbers. -/
module

public import proofs.«01_k».proof.Proof.RFwd

@[expose] public section

set_option maxRecDepth 16384

noncomputable section

namespace Sgu.R

open Idealize.ShloMosaic Idealize.ShloMosaic.TcCoe
open Cert.ReferenceIdeal Cert.ReferenceIdeal.Gen Cert.ReferenceIdeal.Read

/-! ## What the algebra needs -/

section
variable (A : Par) (B : Blk) (t : Fin 128)

theorem root_cube (q : ℝ) (h : 0 ≤ q) :
    (Real.sqrt (q + eps))⁻¹ / (q + eps) = (Real.sqrt (q + eps))⁻¹ * (Real.sqrt (q + eps))⁻¹ * (Real.sqrt (q + eps))⁻¹ := by
  have hp : 0 < q + eps := add_pos_of_nonneg_of_pos h eps_pos
  have hs := (Real.sqrt_pos.2 hp).ne'
  have e : q + eps = Real.sqrt (q + eps) * Real.sqrt (q + eps) := (Real.mul_self_sqrt hp.le).symm
  generalize Real.sqrt (q + eps) = y at hs e ⊢
  rw [e]
  field_simp

/-- A centred row sums to nothing. -/
theorem sum_vc : ∑ j, vc B t j = 0 := by
  unfold vc
  rw [Finset.sum_sub_distrib, Finset.sum_const, Finset.card_univ, Fintype.card_fin, nsmul_eq_mul]
  push_cast
  ring

/-- The final norm's backward pass, as differentiation spells it. -/
theorem dx2_eq (d : Fin 1024) :
    dxh A B t d * rr A B t
        + x2 A B t d * ((∑ i, x2 A B t i * dxh A B t i) * (-(1 / 2) * (rr A B t / (ms A B t + eps))) / 1024)
        + (∑ i, x2 A B t i * dxh A B t i) * (-(1 / 2) * (rr A B t / (ms A B t + eps))) / 1024 * x2 A B t d
      = dx2 A B t d := by
  have hS : ∑ i, dxh A B t i * xh A B t i = (∑ i, x2 A B t i * dxh A B t i) * rr A B t := by
    rw [Finset.sum_mul]
    exact Finset.sum_congr rfl fun i _ => by unfold xh; ring
  have hc : rr A B t / (ms A B t + eps) = rr A B t * rr A B t * rr A B t := root_cube _ (ms_nonneg _ _ _)
  unfold dx2
  rw [hS, hc]
  unfold xh
  ring

/-- The mixed branch's norm's backward pass, as differentiation spells it. -/
theorem dv_eq (j : Fin 2048) :
    dvh A B t j * rs B t
        + (∑ i, vc B t i * dvh A B t i) * (-(1 / 2) * (rs B t / (va B t + eps))) / 2048 * (2 * vc B t j)
        + (∑ i, -(dvh A B t i * rs B t)
            + ∑ i, -((∑ i, vc B t i * dvh A B t i) * (-(1 / 2) * (rs B t / (va B t + eps))) / 2048 * (2 * vc B t i))) / 2048
      = dv A B t j := by
  have hS : ∑ i, dvh A B t i * vh B t i = (∑ i, vc B t i * dvh A B t i) * rs B t := by
    rw [Finset.sum_mul]
    exact Finset.sum_congr rfl fun i _ => by unfold vh; ring
  have hc : rs B t / (va B t + eps) = rs B t * rs B t * rs B t := root_cube _ (va_nonneg _ _)
  have h0 (w : ℝ) : ∑ i, -(w * (2 * vc B t i)) = 0 := by
    have : ∀ i, -(w * (2 * vc B t i)) = -(w * 2) * vc B t i := fun i => by ring
    simp only [this]
    rw [← Finset.mul_sum, sum_vc, mul_zero]
  have h1 : ∑ i, -(dvh A B t i * rs B t) = -((∑ i, dvh A B t i) * rs B t) := by
    rw [Finset.sum_neg_distrib, Finset.sum_mul]
  unfold dv
  rw [h0, h1, hS, hc]
  unfold vh
  ring

/-- The cotangent of GELU's output: of the value branch, then of the mixed branch. -/
def ct (j : Fin 4096) : ℝ := if h : (j : ℕ) < 2048 then du A B t ⟨j, h⟩ else dv A B t ⟨j - 2048, by omega⟩
theorem ct_u (j : Fin 4096) (h : j.val < 2048) : ct A B t j = du A B t ⟨j, h⟩ := dif_pos h
theorem ct_v (j : Fin 4096) (h : ¬ j.val < 2048) : ct A B t j = dv A B t ⟨j - 2048, by omega⟩ := dif_neg h
/-- The cotangent of the projection, by its first 4096 columns and the rest. -/
theorem dp_low (c : Fin 6144) (h : c.val < 4096) : dp A B t c = ct A B t ⟨c, h⟩ * dgel (B.p t c) := by
  unfold dp ct
  by_cases h2 : c.val < 2048
  · rw [dif_pos h2, dif_pos h2]
    rfl
  · rw [dif_neg h2, dif_pos (show c.val - 2048 < 2048 by omega), dif_neg h2]
    exact congrArg (fun i => dv A B t _ * dgel (B.p t i)) (Fin.ext (by show 2048 + (c.val - 2048) = c.val; omega))
theorem dp_high (c : Fin 6144) (h : ¬ c.val < 4096) : dp A B t c = dz A B t ⟨c - 4096, by omega⟩ := by
  unfold dp
  rw [dif_neg (show ¬ c.val < 2048 by omega), dif_neg (show ¬ c.val - 2048 < 2048 by omega)]
  exact congrArg (dz A B t) (Fin.ext (by show c.val - 2048 - 2048 = c.val - 4096; omega))
end

/-- A sum over the first and the last of four axes. -/
theorem sum_outer {a b c d : ℕ} (h : (⟨4, ![a, b, c, d]⟩ : Shape).ReducesTo [0, 3] ⟨2, ![b, c]⟩)
    (hd : ∀ i, h.drop i = ix2 (i 1) (i 2)) (x : (⟨4, ![a, b, c, d]⟩ : Shape).Idx → EReal) (t : Fin b) (g : Fin c) :
    Ideal.hostReduceAdd h x 0 (ix2 t g) = ∑ n, ∑ k, x (ix4 n t g k) := by
  unfold Ideal.hostReduceAdd
  rw [zero_add, ← Fintype.sum_prod_type']
  refine Finset.sum_nbij' (fun i => (i 0, i 3)) (fun p => ix4 p.1 t g p.2) (fun _ _ => Finset.mem_univ _) ?_ ?_ (fun _ _ => rfl) ?_
  · intro p _
    exact Finset.mem_filter.2 ⟨Finset.mem_univ _, (hd _).trans rfl⟩
  all_goals
    intro i hi
    have e := (hd i).symm.trans (Finset.mem_filter.1 hi).2
    have e1 : i 1 = t := congrFun e 0
    have e2 : i 2 = g := congrFun e 1
    subst e1 e2
  · exact (eq_ix4 i).symm
  · exact congrArg x (eq_ix4 i)

theorem drop_131 (i) : reducesTo_S64x128x4x512_S128x4_d0_3.drop i = ix2 (i 1) (i 2) := by
  funext b
  fin_cases b <;> rfl
theorem drop_133 (i) : reducesTo_S1x128x4x1_S128x4_d0_3.drop i = ix2 (i 1) (i 2) := by
  funext b
  fin_cases b <;> rfl

variable {D : Arr}
  {x0 : FVec Ideal S8192x6144 .f32} {x1 : FVec Ideal S8192x1024 .f32} {x2 : FVec Ideal S1x2048 .f32} {x3 : FVec Ideal S4x128x128 .f32}
  {x4 : FVec Ideal S4x128x1 .f32} {x5 : FVec Ideal S2048x1024 .bf16} {x6 : FVec Ideal S1x1024 .f32} {x7 : FVec Ideal S8192x1024 .f32}
  (H : Holds D x0 x1 x2 x3 x4 x5 x6 x7)
include H

/-! ## The final norm -/

theorem v103 (r : Fin 8192) (d : Fin 1024) : val_main_v103 (F := Ideal) x0 x1 x2 x3 x4 x5 x6 x7 (ix2 r d) = (D.row (dd D.par) r d : EReal) := by
  pointwise [val_main_v103, val_main_v102, val_main_v101, val_main_v100, val_main_cst_26, val_main_v99, val_main_v98, val_main_cst_24, val_main_cst_25, val_main_v92, val_main_v91, val_main_cst_19]
  simp only [v89 H, lit_half, lit1024, lit2, mul_one, div1024, ← EReal.coe_mul]
  refine coe_eq ?_
  unfold dd
  ring
theorem v189 (o : Fin 1) (d : Fin 1024) : val_main_v189 (F := Ideal) x0 x1 x2 x3 x4 x5 x6 x7 (ix2 o d) = ((∑ n, gf D.par (D.blk n) d : ℝ) : EReal) := by
  pointwise [val_main_v189, val_main_v109, val_main_cst_28, val_main_v106, val_main_v105, val_main_cst_27, val_main_v104]
  simp only [v85 H, v103 H, coe_sum, ← EReal.coe_mul]
  rw [Fin.sum_univ_one]
  refine coe_eq ((sum_pos (fun n t => xh D.par (D.blk n) t d * dd D.par (D.blk n) t d)).trans ?_)
  exact Finset.sum_congr rfl fun n _ => Finset.sum_congr rfl fun t _ => mul_comm _ _
theorem v108 (r : Fin 8192) (d : Fin 1024) : val_main_v108 (F := Ideal) x0 x1 x2 x3 x4 x5 x6 x7 (ix2 r d) = (D.row (dxh D.par) r d : EReal) := by
  pointwise [val_main_v108, val_main_v107]
  simp only [v103 H, v86 H, ← EReal.coe_mul]
  rfl
theorem v119 (r : Fin 8192) (d : Fin 1024) :
    val_main_v119 (F := Ideal) x0 x1 x2 x3 x4 x5 x6 x7 (ix2 r d) = (((∑ i, D.row (Sgu.x2 D.par) r i * D.row (dxh D.par) r i)
      * (-(1 / 2) * (D.one (rr D.par) r / (D.one (ms D.par) r + eps))) / 1024 : ℝ) : EReal) := by
  pointwise [val_main_v119, val_main_v118, val_main_cst_31, val_main_v117, val_main_v116, val_main_cst_30, val_main_v115, val_main_v112, val_main_v111, val_main_cst_29, val_main_v110]
  simp only [v72 H, v108 H, v83 H, lit1024, coe_sum, div1024, ← EReal.coe_mul]
  rw [Fin.sum_univ_one]
theorem v123 (r : Fin 8192) (d : Fin 1024) : val_main_v123 (F := Ideal) x0 x1 x2 x3 x4 x5 x6 x7 (ix2 r d) = (D.row (dx2 D.par) r d : EReal) := by
  pointwise [val_main_v123, val_main_v122, val_main_v121, val_main_v120, val_main_v114, val_main_v113]
  simp only [v72 H, v80 H, v108 H, v119 H, ← EReal.coe_mul, ← EReal.coe_add]
  exact coe_eq (dx2_eq _ _ _ _)

/-! ## The gate -/

theorem v124 (r : Fin 8192) (j : Fin 2048) : val_main_v124 (F := Ideal) x0 x1 x2 x3 x4 x5 x6 x7 (ix2 r j) = (D.row (dy D.par) r j : EReal) := by
  pointwise [val_main_v124, val_main_v3]
  simp only [v123 H, H.wo, coe_sum, ← EReal.coe_mul]
  rfl
theorem v127 (r : Fin 8192) (j : Fin 2048) : val_main_v127 (F := Ideal) x0 x1 x2 x3 x4 x5 x6 x7 (ix2 r j) = (D.row (dz D.par) r j : EReal) := by
  pointwise [val_main_v127, val_main_call3_v2, val_main_call3_v1, val_main_call3_v0, val_main_v125]
  simp only [v27 H, v68 H, v124 H, v69_1 H, v69_2 H, ← EReal.coe_mul, ← EReal.coe_add]
  refine coe_eq ?_
  unfold dz dact
  ring
theorem v128 (r : Fin 8192) (j : Fin 2048) : val_main_v128 (F := Ideal) x0 x1 x2 x3 x4 x5 x6 x7 (ix2 r j) = (D.row (ds D.par) r j : EReal) := by
  pointwise [val_main_v128, val_main_v126]
  simp only [v28 H, v124 H, v69_0 H, ← EReal.coe_mul]
  refine coe_eq ?_
  unfold ds
  ring
theorem v129 (r : Fin 8192) (j : Fin 2048) : val_main_v129 (F := Ideal) x0 x1 x2 x3 x4 x5 x6 x7 (ix2 r j) = (D.row (du D.par) r j : EReal) := by
  pointwise [val_main_v129, val_main_v126]
  simp only [v67 H, v124 H, v69_0 H, ← EReal.coe_mul]
  refine coe_eq ?_
  unfold du
  ring

/-! ## The spatial projection -/

theorem v130 (n : Fin 64) (t : Fin 128) (g : Fin 4) (d : Fin 512) :
    val_main_v130 (F := Ideal) x0 x1 x2 x3 x4 x5 x6 x7 (ix4 n t g d) = (ds D.par (D.blk n) t (col g d) : EReal) := by
  pointwise [val_main_v130]
  rw [v128 H, row_at]
  rfl
theorem v131 (t : Fin 128) (g : Fin 4) : val_main_v131 (F := Ideal) x0 x1 x2 x3 x4 x5 x6 x7 (ix2 t g) = ((∑ n, gb D.par (D.blk n) g t : ℝ) : EReal) := by
  pointwise [val_main_v131, val_main_cst_32]
  rw [sum_outer _ drop_131]
  simp only [v130 H, coe_sum]
  rfl
theorem v133 (t : Fin 128) (g : Fin 4) : val_main_v133 (F := Ideal) x0 x1 x2 x3 x4 x5 x6 x7 (ix2 t g) = ((∑ n, gb D.par (D.blk n) g t : ℝ) : EReal) := by
  pointwise [val_main_v133, val_main_cst_33]
  rw [sum_outer _ drop_133]
  rw [Fin.sum_univ_one, Fin.sum_univ_one]
  pointwise [val_main_v132]
  exact v131 H t g
theorem v190 (g : Fin 4) (t : Fin 128) (o : Fin 1) :
    val_main_v190 (F := Ideal) x0 x1 x2 x3 x4 x5 x6 x7 (ix3 g t o) = ((∑ n, gb D.par (D.blk n) g t : ℝ) : EReal) := by
  pointwise [val_main_v190, val_main_v134]
  exact v133 H t g
theorem v139 (g : Fin 4) (t k : Fin 128) : val_main_v139 (F := Ideal) x0 x1 x2 x3 x4 x5 x6 x7 (ix3 g t k) = ((∑ n, gw D.par (D.blk n) g t k : ℝ) : EReal) := by
  pointwise [val_main_v139, val_main_call4_v0, val_main_call4_cst, val_main_v136, val_main_v135]
  simp only [mask, v130 H, v56 H, coe_sum, ← EReal.coe_mul]
  unfold gw
  by_cases h : k ≤ t <;> simp [h, Scalar.select]
theorem v138 (n : Fin 64) (t : Fin 128) (g : Fin 4) (d : Fin 512) :
    val_main_v138 (F := Ideal) x0 x1 x2 x3 x4 x5 x6 x7 (ix4 n t g d) = (dvn D.par (D.blk n) t (col g d) : EReal) := by
  pointwise [val_main_v138, val_main_v137, val_main_v135]
  simp only [v130 H, v60 H, coe_sum, ← EReal.coe_mul]
  unfold dvn
  rw [grp_col]
  exact coe_eq (Finset.sum_congr rfl fun k _ => mul_comm _ _)
theorem v140 (r : Fin 8192) (j : Fin 2048) : val_main_v140 (F := Ideal) x0 x1 x2 x3 x4 x5 x6 x7 (ix2 r j) = (D.row (dvn D.par) r j : EReal) := by
  pointwise [val_main_v140]
  refine (v138 H _ _ _ _).trans (coe_eq ?_)
  exact congrArg (dvn D.par (D.blk (nb r)) (rb r)) (col_grp j)

/-! ## The mixed branch's norm -/

theorem v191 (o : Fin 1) (j : Fin 2048) : val_main_v191 (F := Ideal) x0 x1 x2 x3 x4 x5 x6 x7 (ix2 o j) = ((∑ n, gg D.par (D.blk n) j : ℝ) : EReal) := by
  pointwise [val_main_v191, val_main_v146, val_main_cst_35, val_main_v143, val_main_v142, val_main_cst_34, val_main_v141]
  simp only [v52 H, v140 H, coe_sum, ← EReal.coe_mul]
  rw [Fin.sum_univ_one]
  refine coe_eq ((sum_pos (fun n t => vh (D.blk n) t j * dvn D.par (D.blk n) t j)).trans ?_)
  exact Finset.sum_congr rfl fun n _ => Finset.sum_congr rfl fun t _ => mul_comm _ _
theorem v145 (r : Fin 8192) (j : Fin 2048) : val_main_v145 (F := Ideal) x0 x1 x2 x3 x4 x5 x6 x7 (ix2 r j) = (D.row (dvh D.par) r j : EReal) := by
  pointwise [val_main_v145, val_main_v144]
  simp only [v140 H, v53 H, ← EReal.coe_mul]
  rfl
theorem v151 (r : Fin 8192) (j : Fin 2048) :
    val_main_v151 (F := Ideal) x0 x1 x2 x3 x4 x5 x6 x7 (ix2 r j) = ((D.row (dvh D.par) r j * D.one rs r : ℝ) : EReal) := by
  pointwise [val_main_v151, val_main_v150]
  simp only [v145 H, v47 H, ← EReal.coe_mul]
theorem v159 (r : Fin 8192) (j : Fin 2048) :
    val_main_v159 (F := Ideal) x0 x1 x2 x3 x4 x5 x6 x7 (ix2 r j) = (((∑ i, D.row vc r i * D.row (dvh D.par) r i)
      * (-(1 / 2) * (D.one rs r / (D.one va r + eps))) / 2048 : ℝ) : EReal) := by
  pointwise [val_main_v159, val_main_v158, val_main_cst_39, val_main_v157, val_main_v156, val_main_cst_38, val_main_v152, val_main_v149, val_main_v148, val_main_cst_36, val_main_v147]
  simp only [v44 H, v145 H, v50 H, lit2048, coe_sum, div2048, ← EReal.coe_mul]
  rw [Fin.sum_univ_one]
theorem v170 (r : Fin 8192) (j : Fin 2048) : val_main_v170 (F := Ideal) x0 x1 x2 x3 x4 x5 x6 x7 (ix2 r j) = (D.row (dv D.par) r j : EReal) := by
  pointwise [val_main_v170, val_main_v169, val_main_v168, val_main_cst_42, val_main_v167, val_main_v166, val_main_cst_41, val_main_v165, val_main_v164, val_main_v163, val_main_v162, val_main_cst_40, val_main_v161, val_main_v160, val_main_v155, val_main_v154, val_main_cst_37, val_main_v153]
  simp only [v151 H, v159 H, v38 H, lit2048, coe_sum, div2048, ← EReal.coe_mul, ← EReal.coe_neg, ← EReal.coe_add]
  rw [Fin.sum_univ_one]
  exact coe_eq (dv_eq _ _ _ _)

/-! ## GELU and the projection -/

theorem v173 (r : Fin 8192) (j : Fin 4096) : val_main_v173 (F := Ideal) x0 x1 x2 x3 x4 x5 x6 x7 (ix2 r j) = (ct D.par (D.blk (nb r)) (rb r) j : EReal) := by
  pointwise [val_main_v173, val_main_v172, val_main_v171, val_main_cst_43, val_main_cst_44]
  simp only [v170 H, v129 H]
  by_cases h : j.val < 2048
  · rw [dif_neg (by omega), dif_pos h, zero_add]
    exact coe_eq (ct_u _ _ _ _ h).symm
  · rw [dif_pos (by omega), dif_neg h, add_zero]
    exact coe_eq (ct_v _ _ _ _ h).symm
theorem v186 (r : Fin 8192) (j : Fin 4096) :
    val_main_v186 (F := Ideal) x0 x1 x2 x3 x4 x5 x6 x7 (ix2 r j) = ((ct D.par (D.blk (nb r)) (rb r) j * dgel (D.row Blk.p r ⟨j, by omega⟩) : ℝ) : EReal) := by
  pointwise [val_main_v186, val_main_v185, val_main_v184, val_main_v183, val_main_v182, val_main_v181, val_main_v180, val_main_cst_47, val_main_v179, val_main_v178, val_main_v177, val_main_cst_46, val_main_v176, val_main_v175]
  simp only [v4 H, v173 H, v25 H, v21 H, v10 H, v5, lit_half, lit_cC, ← EReal.coe_mul, ← EReal.coe_add]
  refine coe_eq ?_
  unfold dgel
  ring
theorem v192 (r : Fin 8192) (c : Fin 6144) : val_main_v192 (F := Ideal) x0 x1 x2 x3 x4 x5 x6 x7 (ix2 r c) = (D.row (dp D.par) r c : EReal) := by
  pointwise [val_main_v192, val_main_v188, val_main_v187, val_main_v174, val_main_cst_45, val_main_cst_48]
  simp only [v186 H, v127 H]
  by_cases h4 : c.val < 4096
  · rw [dif_neg (by omega), dif_pos h4, zero_add]
    exact coe_eq (dp_low _ _ _ _ h4).symm
  · rw [dif_pos (by omega), dif_neg h4, add_zero]
    exact coe_eq (dp_high _ _ _ _ h4).symm
theorem v193 (r : Fin 8192) (j : Fin 2048) : val_main_v193 (F := Ideal) x0 x2 x3 x4 (ix2 r j) = (D.row (y D.par) r j : EReal) := by
  pointwise [val_main_v193]
  exact v70 H r j

end Sgu.R

end
-- ==== Proof.Agree.lean ====
/- The reference's eight results, as the arrays the kernel's run leaves. -/
module

public import proofs.«01_k».proof.Proof.KFinal
public import proofs.«01_k».proof.Proof.RBwd

@[expose] public section

noncomputable section

namespace Sgu.R

open Idealize.ShloMosaic
open Cert.ReferenceIdeal Cert.ReferenceIdeal.Gen Cert.ReferenceIdeal.Read

variable {D : Arr}
  {x0 : FVec Ideal S8192x6144 .f32} {x1 : FVec Ideal S8192x1024 .f32} {x2 : FVec Ideal S1x2048 .f32} {x3 : FVec Ideal S4x128x128 .f32}
  {x4 : FVec Ideal S4x128x1 .f32} {x5 : FVec Ideal S2048x1024 .bf16} {x6 : FVec Ideal S1x1024 .f32} {x7 : FVec Ideal S8192x1024 .f32}
  (H : Holds D x0 x1 x2 x3 x4 x5 x6 x7)
include H

theorem arr_dp : val_main_v192 (F := Ideal) x0 x1 x2 x3 x4 x5 x6 x7 = K.dpArr D := funext fun i => (congrArg _ (eq_ix2 i)).trans (v192 H (i 0) (i 1))
theorem arr_y : val_main_v193 (F := Ideal) x0 x2 x3 x4 = K.yArr D := funext fun i => (congrArg _ (eq_ix2 i)).trans (v193 H (i 0) (i 1))
theorem arr_dx2 : val_main_v123 (F := Ideal) x0 x1 x2 x3 x4 x5 x6 x7 = K.dx2Arr D := funext fun i => (congrArg _ (eq_ix2 i)).trans (v123 H (i 0) (i 1))
theorem arr_gg : val_main_v191 (F := Ideal) x0 x1 x2 x3 x4 x5 x6 x7 = K.ggArr D := funext fun i => (congrArg _ (eq_ix2 i)).trans (v191 H (i 0) (i 1))
theorem arr_gw : val_main_v139 (F := Ideal) x0 x1 x2 x3 x4 x5 x6 x7 = K.gwArr D := funext fun i => (congrArg _ (eq_ix3 i)).trans (v139 H (i 0) (i 1) (i 2))
theorem arr_gb : val_main_v190 (F := Ideal) x0 x1 x2 x3 x4 x5 x6 x7 = K.gbArr D := funext fun i => (congrArg _ (eq_ix3 i)).trans (v190 H (i 0) (i 1) (i 2))
theorem arr_gf : val_main_v189 (F := Ideal) x0 x1 x2 x3 x4 x5 x6 x7 = K.gfArr D := funext fun i => (congrArg _ (eq_ix2 i)).trans (v189 H (i 0) (i 1))
theorem arr_loss : val_main_v194 (F := Ideal) x0 x1 x2 x3 x4 x5 x6 x7 = K.lossArr D := funext fun i => (congrArg _ (eq_ix2 i)).trans (v194 H (i 0) (i 1))

end Sgu.R

end
-- ==== Proof.Finite.lean ====
/- The precondition, read back: where every entry is finite the arguments are arrays of real numbers. -/
module

public import proofs.«01_k».proof.Proof.Data
public import proofs.«01_k».proof.Proof.Gen.Pre_finite
public import Idealize.ShloMosaic.Lib.ReduceAll

@[expose] public section

noncomputable section

namespace Sgu

open Idealize.ShloMosaic
open Cert.Pre_finite Cert.Pre_finite.Gen

/-- An extended real whose absolute value is below infinity is real. -/
theorem real_of_abs (x : EReal) (h : Ideal.cmp .olt (FloatOps.absf (F := Ideal) (φ := .f32) x) (Ideal.ofBits .f32 0x7F800000#32) = 1#1) :
    x = (x.toReal : EReal) := by
  have hi : Ideal.ofBits .f32 0x7F800000#32 = ⊤ := by simp [Ideal.ofBits, Ideal.ieee]
  rw [hi] at h
  induction x with
  | coe r => rfl
  | bot => exact absurd h (by decide +kernel)
  | top => exact absurd h (by decide +kernel)

/-- An array that passes the test holds real numbers. -/
theorem real_of_all {s : Shape} {axes : List (Fin s.rank)} (x : FVec Ideal s .f32) (bc : S_.BroadcastsInDim s (![] : Fin 0 → Fin s.rank))
    (h : s.ReducesTo axes S_) (hu : 0 < S_.numel) (init : IVec S_ 1)
    (e : Host.reduce IntOp.andi (cmpf .olt (Host.absf x) (broadcastInDim s ![] bc (constant S_ .f32 0x7F800000#32))) init h hu ix0 = 1#1)
    (i : s.Idx) : x i = ((x i).toReal : EReal) :=
  real_of_abs _ (Host.reduce_andi_all _ _ h hu ix0 e i)

theorem both {a b : IVec S_ 1} (h : andi a b ix0 = 1#1) : a ix0 = 1#1 ∧ b ix0 = 1#1 := IntOp.andi_eq_one.1 h

/-- The real numbers of eight arrays. -/
def arrOf (x0 : FVec Ideal S8192x6144 .f32) (x1 : FVec Ideal S8192x1024 .f32) (x2 : FVec Ideal S1x2048 .f32) (x3 : FVec Ideal S4x128x128 .f32)
    (x4 : FVec Ideal S4x128x1 .f32) (x5 : FVec Ideal S2048x1024 .bf16) (x6 : FVec Ideal S1x1024 .f32) (x7 : FVec Ideal S8192x1024 .f32) : Arr where
  p r j := (x0 (ix2 r j) : EReal).toReal
  x r d := (x1 (ix2 r d) : EReal).toReal
  t r d := (x7 (ix2 r d) : EReal).toReal
  par := {
    gain := fun j => (x2 (ix2 0 j) : EReal).toReal
    w := fun g i k => (x3 (ix3 g i k) : EReal).toReal
    b := fun g i => (x4 (ix3 g i 0) : EReal).toReal
    wo := fun j d => (x5 (ix2 j d) : EReal).toReal
    fn := fun d => (x6 (ix2 0 d) : EReal).toReal }

theorem holds_of_finite (x0 : FVec Ideal S8192x6144 .f32) (x1 : FVec Ideal S8192x1024 .f32) (x2 : FVec Ideal S1x2048 .f32) (x3 : FVec Ideal S4x128x128 .f32)
    (x4 : FVec Ideal S4x128x1 .f32) (x5 : FVec Ideal S2048x1024 .bf16) (x6 : FVec Ideal S1x1024 .f32) (x7 : FVec Ideal S8192x1024 .f32)
    (h : Cert.Pre_finite.fn (F := Ideal) x0 x1 x2 x3 x4 x5 x6 x7 = fun _ => 1#1) :
    Holds (arrOf x0 x1 x2 x3 x4 x5 x6 x7) x0 x1 x2 x3 x4 x5 x6 x7 := by
  have h := congrFun h ix0
  unfold fn fn_part1 fn_part2 at h
  dsimp only at h
  obtain ⟨h, h7⟩ := both h
  obtain ⟨h, h6⟩ := both h
  obtain ⟨h, h5⟩ := both h
  obtain ⟨h, h4⟩ := both h
  obtain ⟨h, h3⟩ := both h
  obtain ⟨h, h2⟩ := both h
  obtain ⟨h0, h1⟩ := both h
  exact {
    p := fun r j => real_of_all _ _ _ _ _ h0 _
    x := fun r d => real_of_all _ _ _ _ _ h1 _
    g := fun o j => by obtain rfl : o = 0 := Subsingleton.elim _ _; exact real_of_all _ _ _ _ _ h2 _
    w := fun g i k => real_of_all _ _ _ _ _ h3 _
    b := fun g i o => by obtain rfl : o = 0 := Subsingleton.elim _ _; exact real_of_all _ _ _ _ _ h4 _
    wo := fun j d => real_of_all (extf .f32 x5 bitsLt_bf16_f32) _ _ _ _ h5 _
    fn := fun o d => by obtain rfl : o = 0 := Subsingleton.elim _ _; exact real_of_all _ _ _ _ _ h6 _
    tg := fun r d => real_of_all _ _ _ _ _ h7 _ }

end Sgu

end
-- ==== Proof.RowNorm.lean ====
/- The RMS-normalised row of an array of 1024 columns, scaled by a gain, as both programs compute it. -/
module

public import Idealize.ShloMosaic.Lib.Pointwise
public import Idealize.ShloMosaic.PureOps.Ideal.Laws

@[expose] public section

noncomputable section

namespace RowNorm

open Idealize.ShloMosaic

/-- Entry `k` of row `l`, divided by the row's root mean square and multiplied by the gain. -/
def entry {n : ℕ} (x : (⟨2, ![n, 1024]⟩ : Shape).Idx → EReal) (g : (⟨2, ![1, 1024]⟩ : Shape).Idx → EReal) (l : Fin n) (k : Fin 1024) : EReal :=
  x (ix2 l k) * Ideal.rsqrt (Ideal.div (∑ d : Fin 1024, x (ix2 l d) * x (ix2 l d)) (Ideal.ofBits .f32 0x44800000#32)
    + Ideal.ofBits .f32 0x358637BD#32) * g (ix2 0 k)

/-- It depends only on the row and on the gain. -/
theorem entry_congr {n n' : ℕ} {x : (⟨2, ![n, 1024]⟩ : Shape).Idx → EReal} {x' : (⟨2, ![n', 1024]⟩ : Shape).Idx → EReal}
    {g g' : (⟨2, ![1, 1024]⟩ : Shape).Idx → EReal} {l : Fin n} {l' : Fin n'} (hx : ∀ d, x (ix2 l d) = x' (ix2 l' d))
    (hg : ∀ d, g (ix2 0 d) = g' (ix2 0 d)) (k : Fin 1024) : entry x g l k = entry x' g' l' k := by
  unfold entry
  simp only [hx, hg]

end RowNorm

end
-- ==== Proof.Pieces.lean ====
/- Reading an array that was stored in blocks of columns or slice by slice, whatever its sizes. -/
module

public import Idealize.ShloMosaic.Lib.Pipeline.ValueKit
public import Idealize.ShloMosaic.Lib.Pointwise
public import Idealize.ShloMosaic.PureOps.Ideal.Laws

@[expose] public section

noncomputable section

namespace Pieces

open Idealize.ShloMosaic

variable {e : EltTy} {a k n w : ℕ}

/-- Columns `o`, …, `o + w - 1` of an array. -/
theorem ld_cols (o : ℕ) {X : (⟨2, ![k, n]⟩ : Shape).Idx → Elt Ideal e} {i} (r : Fin k) (j : Fin w) (h : o + j < n) :
    View.ld X (Rect.unit ![0, o] ![k, w] i) (ix2 r j) = X (ix2 r ⟨o + j, h⟩) := by
  refine congrArg X (funext fun a => Fin.ext ?_)
  fin_cases a
  · show 0 + 1 * (r : ℕ) = r; omega
  · show o + 1 * (j : ℕ) = o + j; omega

/-- Slice `o` of an array. -/
theorem ld_slice (o : Fin a) {X : (⟨3, ![a, k, n]⟩ : Shape).Idx → Elt Ideal e} {i} (u : Fin 1) (r : Fin k) (j : Fin n) :
    View.ld X (Rect.unit ![(o : ℕ), 0, 0] ![1, k, n] i) (ix3 u r j) = X (ix3 o r j) := by
  refine congrArg X (funext fun a => Fin.ext ?_)
  fin_cases a
  · show (o : ℕ) + 1 * (u : ℕ) = o; omega
  · show 0 + 1 * (r : ℕ) = r; omega
  · show 0 + 1 * (j : ℕ) = j; omega

/-- A store of the whole array. -/
theorem canon_all {i} {v : (Rect.unit (s := ⟨2, ![k, n]⟩) ![0, 0] ![k, n] i).shape.Idx → Elt Ideal e} {L} (t : Fin k) (j : Fin n) :
    View.canon (Val := Elt Ideal) (⟨Rect.unit (s := ⟨2, ![k, n]⟩) ![0, 0] ![k, n] i, v⟩ :: L) (ix2 t j) = v (ix2 t j) := by
  refine Eq.trans (congrArg _ (funext fun a => Fin.ext ?_)) (View.canon_cons_emb (Rect.unit (s := ⟨2, ![k, n]⟩) ![0, 0] ![k, n] i) v L (ix2 t j))
  fin_cases a
  · show (t : ℕ) = 0 + 1 * t; omega
  · show (j : ℕ) = 0 + 1 * j; omega

/-- A store of a block of columns: inside it, and outside. -/
theorem canon_cols (o : ℕ) {i} {v : (Rect.unit (s := ⟨2, ![k, n]⟩) ![0, o] ![k, w] i).shape.Idx → Elt Ideal e} {L} (t : Fin k) (j : Fin n)
    (q : Fin w) (h : (j : ℕ) = o + q) :
    View.canon (Val := Elt Ideal) (⟨Rect.unit (s := ⟨2, ![k, n]⟩) ![0, o] ![k, w] i, v⟩ :: L) (ix2 t j) = v (ix2 t q) := by
  refine Eq.trans (congrArg _ (funext fun a => Fin.ext ?_)) (View.canon_cons_emb (Rect.unit (s := ⟨2, ![k, n]⟩) ![0, o] ![k, w] i) v L (ix2 t q))
  fin_cases a
  · show (t : ℕ) = 0 + 1 * t; omega
  · show (j : ℕ) = o + 1 * q; omega
theorem canon_cols_skip (o : ℕ) {i} {v : (Rect.unit (s := ⟨2, ![k, n]⟩) ![0, o] ![k, w] i).shape.Idx → Elt Ideal e} {L} (t : Fin k) (j : Fin n)
    (h : (j : ℕ) < o ∨ o + w ≤ j) :
    View.canon (Val := Elt Ideal) (⟨Rect.unit (s := ⟨2, ![k, n]⟩) ![0, o] ![k, w] i, v⟩ :: L) (ix2 t j) = View.canon L (ix2 t j) := by
  refine View.canon_cons_of_not_mem _ _ fun hm => ?_
  obtain ⟨x, hx⟩ := LoadRect.exists_idx_of_mem _ hm
  have h0 : o + 1 * (x 1 : ℕ) = j := congrArg (fun z => (z 1 : ℕ)) hx
  have h1 : (x 1 : ℕ) < w := (x 1).isLt
  omega

/-- A copy into the whole buffer. -/
theorem canon_whole {s : Shape} {P : (Rect.whole s).shape.Idx → Elt Ideal e} {L} (y : s.Idx) :
    View.canon (Val := Elt Ideal) (⟨Rect.whole s, P⟩ :: L) y = P y := by
  refine Eq.trans (congrArg _ (funext fun a => Fin.ext ?_)) (View.canon_cons_emb (Rect.whole s) P L y)
  show (y a : ℕ) = 0 + 1 * y a
  omega

/-- A store of a slice: inside it, and outside. -/
theorem canon_slice (o : ℕ) {i} {v : (Rect.unit (s := ⟨3, ![a, k, n]⟩) ![o, 0, 0] ![1, k, n] i).shape.Idx → Elt Ideal e} {L}
    (g : Fin a) (t : Fin k) (j : Fin n) (h : (g : ℕ) = o) :
    View.canon (Val := Elt Ideal) (⟨Rect.unit (s := ⟨3, ![a, k, n]⟩) ![o, 0, 0] ![1, k, n] i, v⟩ :: L) (ix3 g t j) = v (ix3 0 t j) := by
  refine Eq.trans (congrArg _ (funext fun a => Fin.ext ?_))
    (View.canon_cons_emb (Rect.unit (s := ⟨3, ![a, k, n]⟩) ![o, 0, 0] ![1, k, n] i) v L (ix3 0 t j))
  fin_cases a
  · show (g : ℕ) = o + 1 * 0; omega
  · show (t : ℕ) = 0 + 1 * t; omega
  · show (j : ℕ) = 0 + 1 * j; omega
theorem canon_slice_skip (o : ℕ) {i} {v : (Rect.unit (s := ⟨3, ![a, k, n]⟩) ![o, 0, 0] ![1, k, n] i).shape.Idx → Elt Ideal e} {L}
    (g : Fin a) (t : Fin k) (j : Fin n) (h : (g : ℕ) ≠ o) :
    View.canon (Val := Elt Ideal) (⟨Rect.unit (s := ⟨3, ![a, k, n]⟩) ![o, 0, 0] ![1, k, n] i, v⟩ :: L) (ix3 g t j) = View.canon L (ix3 g t j) := by
  refine View.canon_cons_of_not_mem _ _ fun hm => h ?_
  obtain ⟨x, hx⟩ := LoadRect.exists_idx_of_mem _ hm
  have h0 : o + 1 * (x 0 : ℕ) = g := congrArg (fun z => (z 0 : ℕ)) hx
  have h1 : (x 0 : ℕ) < 1 := (x 0).isLt
  omega

section Buffer

variable {sig : RefSig} {κ : Kind} {sp : Space}

/-- A buffer's columns, after a store of the whole buffer. -/
theorem rc_cols {v : View sig κ sp ⟨2, ![k, n]⟩ e} (o : ℕ) {i i'} {P : (Rect.unit (s := ⟨2, ![k, n]⟩) ![0, 0] ![k, n] i).shape.Idx → Elt Ideal e} {L}
    (r : Fin k) (j : Fin w) (h : o + j < n) :
    v.readCov (Val := Elt Ideal) (⟨Rect.unit (s := ⟨2, ![k, n]⟩) ![0, 0] ![k, n] i, P⟩ :: L)
      (Rect.unit (s := ⟨2, ![k, n]⟩) ![0, o] ![k, w] i').toLoadRect (ix2 r j) = P (ix2 r ⟨o + j, h⟩) := by
  rw [View.readCov_eq_canon']
  exact (ld_cols o r j h).trans (canon_all r _)

/-- A buffer's slice, after a copy into the whole buffer. -/
theorem rc_slice {v : View sig κ sp ⟨3, ![a, k, n]⟩ e} (o : Fin a) {i} {P : (Rect.whole ⟨3, ![a, k, n]⟩).shape.Idx → Elt Ideal e} {L}
    (u : Fin 1) (r : Fin k) (j : Fin n) :
    v.readCov (Val := Elt Ideal) (⟨Rect.whole ⟨3, ![a, k, n]⟩, P⟩ :: L)
      (Rect.unit (s := ⟨3, ![a, k, n]⟩) ![(o : ℕ), 0, 0] ![1, k, n] i).toLoadRect (ix3 u r j) = P (ix3 o r j) := by
  rw [View.readCov_eq_canon']
  exact (ld_slice o u r j).trans (canon_whole _)

end Buffer

end Pieces

end
-- ==== Proof.ColumnsKernel.lean ====
/- The gradient of the projection's weights by columns: the array the kernel leaves. -/
module

public import proofs.«01_k».proof.Proof.RowNorm
public import proofs.«01_k».proof.Proof.Pieces
public import proofs.«01_k».proof.Proof.Gen.ColumnsIdeal.Frame
public import Idealize.ShloMosaic.Lib.Pipeline.ValueKit

@[expose] public section

set_option maxRecDepth 16384

noncomputable section

namespace Cols

open Idealize.ShloMosaic Idealize.ShloMosaic.TcCoe Idealize.SL.Sem
open Cert.ColumnsIdeal Cert.ColumnsIdeal.Gen RowNorm Pieces

theorem zero (i : Fin 1024) (j : Fin 3072) : k0_pay1 (F := Ideal) (ix2 i j) = (0 : EReal) := by pointwise [k0_pay1]

theorem add (x : FVec Ideal S1024x1024 .f32) (acc : FVec Ideal S1024x3072 .f32) (g : FVec Ideal S1x1024 .f32) (p : FVec Ideal S1024x3072 .bf16)
    (i : Fin 1024) (j : Fin 3072) :
    k0_pay2 x acc g p (ix2 i j) = acc (ix2 i j) + ∑ l : Fin 1024, entry x g l i * p (ix2 l j) := by
  pointwise [k0_pay2]
  rfl

variable (m : (ℓ : Loc nD τ sig) → Buf (Elt Ideal) ℓ) (c : Dev nD)

theorem step_A (t : Fin cfg0.N) (h0 : t.val % 8 = 0) (h1 : ¬t.val % 8 = 7) (i : Fin 1024) (j : Fin 3072) :
    (outsAt0 m c t.val t.isLt).2 (ix2 i j) = (0 : EReal) + ∑ l : Fin 1024, entry (iblk m c 0 t) (iblk m c 1 t) l i * (show FVec Ideal S1024x3072 .bf16 from iblk m c 2 t) (ix2 l j) := by
  rw [outsAt0_A m c t h0 h1]
  frame_out
  rw [add, zero]

theorem step_B (t : Fin cfg0.N) (h0 : ¬ t.val % 8 = 0) (h1 : ¬t.val % 8 = 7) (i : Fin 1024) (j : Fin 3072) :
    (outsAt0 m c t.val t.isLt).2 (ix2 i j) = (outsAt0 m c (t.val - 1) (Nat.lt_of_le_of_lt (Nat.sub_le _ _) t.isLt)).2 (ix2 i j) + ∑ l : Fin 1024, entry (iblk m c 0 t) (iblk m c 1 t) l i * (show FVec Ideal S1024x3072 .bf16 from iblk m c 2 t) (ix2 l j) := by
  rw [outsAt0_B m c t h0 h1]
  frame_out
  rw [add]
  exact congrArg (· + _) (congrFun (Memref.IsWhole.read_unread (Memref.isWhole_whole cc0_scratch0) _) _)

theorem step_C (t : Fin cfg0.N) (h0 : ¬ t.val % 8 = 0) (h1 : t.val % 8 = 7) (i : Fin 1024) (j : Fin 3072) :
    (outsAt0 m c t.val t.isLt).2 (ix2 i j) = (outsAt0 m c (t.val - 1) (Nat.lt_of_le_of_lt (Nat.sub_le _ _) t.isLt)).2 (ix2 i j) + ∑ l : Fin 1024, entry (iblk m c 0 t) (iblk m c 1 t) l i * (show FVec Ideal S1024x3072 .bf16 from iblk m c 2 t) (ix2 l j) := by
  rw [outsAt0_C m c t h0 h1]
  frame_out
  rw [add]
  exact congrArg (· + _) (congrFun (Memref.IsWhole.read_unread (Memref.isWhole_whole cc0_scratch0) _) _)

/-- A block of columns, cast to the result's type, as a slice. -/
theorem cut3 (v : FVec Ideal S1024x768 .f32) (i : Fin 1024) (j : Fin 768) : (k0_pay3 (F := Ideal) v (ix3 0 i j) : EReal) = v (ix2 i j) := by pointwise [k0_pay3]
theorem cut4 (v : FVec Ideal S1024x768 .f32) (i : Fin 1024) (j : Fin 768) : (k0_pay4 (F := Ideal) v (ix3 0 i j) : EReal) = v (ix2 i j) := by pointwise [k0_pay4]
theorem cut5 (v : FVec Ideal S1024x768 .f32) (i : Fin 1024) (j : Fin 768) : (k0_pay5 (F := Ideal) v (ix3 0 i j) : EReal) = v (ix2 i j) := by pointwise [k0_pay5]
theorem cut6 (v : FVec Ideal S1024x768 .f32) (i : Fin 1024) (j : Fin 768) : (k0_pay6 (F := Ideal) v (ix3 0 i j) : EReal) = v (ix2 i j) := by pointwise [k0_pay6]

/-- Two readings at the same column. -/
theorem same {v : FVec Ideal S1024x3072 .f32} {i : Fin 1024} {q q' : Fin 3072} (h : (q : ℕ) = q') : v (ix2 i q) = v (ix2 i q') :=
  congrArg (fun q => v (ix2 i q)) (Fin.ext h)

/-- What the last step of a run stores: the accumulator's four blocks of columns. -/
theorem out_C (t : Fin cfg0.N) (h0 : ¬ t.val % 8 = 0) (h1 : t.val % 8 = 7) (b : Fin 4) (i : Fin 1024) (j : Fin 768) :
    (outsAt0 m c t.val t.isLt).1 (ix3 b i j) = (outsAt0 m c t.val t.isLt).2 (ix2 i ⟨b * 768 + j, by omega⟩) := by
  rw [outsAt0_C m c t h0 h1]
  frame_out
  match b with
  | 0 => rw [canon_slice_skip 3 _ _ _ (by decide), canon_slice_skip 2 _ _ _ (by decide), canon_slice_skip 1 _ _ _ (by decide), canon_slice 0 _ _ _ rfl, cut3, rc_cols 0 _ _ (by omega)]; exact same (by show 0 + (j : ℕ) = 0 * 768 + j; omega)
  | 1 => rw [canon_slice_skip 3 _ _ _ (by decide), canon_slice_skip 2 _ _ _ (by decide), canon_slice 1 _ _ _ rfl, cut4, rc_cols 768 _ _ (by omega)]; exact same (by show 768 + (j : ℕ) = 1 * 768 + j; omega)
  | 2 => rw [canon_slice_skip 3 _ _ _ (by decide), canon_slice 2 _ _ _ rfl, cut5, rc_cols 1536 _ _ (by omega)]; exact same (by show 1536 + (j : ℕ) = 2 * 768 + j; omega)
  | 3 => rw [canon_slice 3 _ _ _ rfl, cut6, rc_cols 2304 _ _ (by omega)]; exact same (by show 2304 + (j : ℕ) = 3 * 768 + j; omega)

/-! ## The array -/

/-- Which part of its array each window holds at a grid point. -/
theorem idx : ∀ t : Fin cfg0.N, win0_0.index t = ![t.val % 8, 0] ∧ win0_1.index t = ![0, 0] ∧ win0_2.index t = ![t.val % 8, t.val / 8]
    ∧ win0_3.index t = ![t.val / 8, 0, 0] :=
  (by decide +kernel : ∀ t : Fin grid0.N, _)

/-- The gradient of the weights, cut into eight blocks of columns. -/
def arr (x : FVec Ideal S8192x1024 .f32) (g : FVec Ideal S1x1024 .f32) (p : FVec Ideal S8192x6144 .bf16) : FVec Ideal S8x1024x768 .bf16 :=
  fun q => ∑ l : Fin 8192, entry x g l (q 1) * p (ix2 l ⟨q 0 * 768 + q 2, by have h0 : (q 0 : ℕ) < 8 := (q 0).isLt; have h2 : (q 2 : ℕ) < 768 := (q 2).isLt; omega⟩)

theorem lt16 (t : Fin cfg0.N) : t.val < 16 := lt_of_lt_of_eq t.isLt N_0

/-- After the last step of a run: the sum over the run. -/
theorem acc_at (t : Fin cfg0.N) (h7 : t.val % 8 = 7) (i : Fin 1024) (j : Fin 3072) :
    (outsAt0 m c t.val t.isLt).2 (ix2 i j) = ∑ s : Fin 8, ∑ l : Fin 1024,
      entry (iblk m c 0 ⟨8 * (t.val / 8) + s, Pipeline.run_point_lt_of_flush t h7 s⟩) (iblk m c 1 ⟨8 * (t.val / 8) + s, Pipeline.run_point_lt_of_flush t h7 s⟩) l i
        * (show FVec Ideal S1024x3072 .bf16 from iblk m c 2 ⟨8 * (t.val / 8) + s, Pipeline.run_point_lt_of_flush t h7 s⟩) (ix2 l j) := by
  refine (Pipeline.eq_sum_fin_of_reset_step_apply_of_flush (fun n h => (outsAt0 m c n h).2) 8 (fun _ => 0)
    (fun p (y : S1024x3072.Idx) => ∑ l : Fin 1024, entry (iblk m c 0 p) (iblk m c 1 p) l (y 0) * (show FVec Ideal S1024x3072 .bf16 from iblk m c 2 p) (ix2 l (y 1)))
    (fun t h y => ?_) (fun t h y => ?_) t h7 (ix2 i j)).trans (zero_add _)
  · obtain ⟨i, j, rfl⟩ : ∃ (i : Fin 1024) (j : Fin 3072), y = ix2 i j := ⟨y 0, y 1, eq_ix2 y⟩
    exact step_A m c t h (by omega) i j
  · obtain ⟨i, j, rfl⟩ : ∃ (i : Fin 1024) (j : Fin 3072), y = ix2 i j := ⟨y 0, y 1, eq_ix2 y⟩
    by_cases h1 : t.val % 8 = 7
    · exact step_C m c t h h1 i j
    · exact step_B m c t h h1 i j

/-- A run's blocks, read in the arrays. -/
theorem point (t : Fin cfg0.N) (h7 : t.val % 8 = 7) (s : Fin 8) (b : Fin 4) (i : Fin 1024) (j : Fin 768) (l : Fin 1024) (h : (s : ℕ) * 1024 + l < 8192) :
    entry (iblk m c 0 ⟨8 * (t.val / 8) + s, Pipeline.run_point_lt_of_flush t h7 s⟩) (iblk m c 1 ⟨8 * (t.val / 8) + s, Pipeline.run_point_lt_of_flush t h7 s⟩) l i
        * (show FVec Ideal S1024x3072 .bf16 from iblk m c 2 ⟨8 * (t.val / 8) + s, Pipeline.run_point_lt_of_flush t h7 s⟩) (ix2 l ⟨b * 768 + j, by omega⟩)
      = entry (m ((c : Thread nD τ).loc main_arg0)) (m ((c : Thread nD τ).loc main_arg1)) ⟨s * 1024 + l, h⟩ i
        * (m ((c : Thread nD τ).loc main_arg2)) (ix2 ⟨s * 1024 + l, h⟩ ⟨(t.val / 8 * 4 + b) * 768 + j, by have := lt16 t; omega⟩) := by
  refine congrArg₂ _ (entry_congr (fun d => ?_) (fun d => ?_) _) ?_
  · blk_ext [iblk, V, idx t, idx ⟨_, Pipeline.run_point_lt_of_flush t h7 s⟩]
  · blk_ext [iblk, V, idx t, idx ⟨_, Pipeline.run_point_lt_of_flush t h7 s⟩]
  · blk_ext [iblk, V, idx t, idx ⟨_, Pipeline.run_point_lt_of_flush t h7 s⟩]

theorem final : (dats m 0 c).arrAt 3 (cfgs 0).N
    = arr (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  obtain ⟨b, i, j, rfl⟩ : ∃ (b : Fin 4) (i : Fin 1024) (j : Fin 768), y = ix3 b i j := ⟨y 0, y 1, y 2, eq_ix3 y⟩
  have hN : t.val < 16 := lt16 t
  have h7 : t.val % 8 = 7 := (flush0_3 t).mp hf
  refine (out_C m c t (by omega) h7 b i j).trans ((acc_at m c t h7 i _).trans ?_)
  refine Eq.trans (b := arr (m ((c : Thread nD τ).loc main_arg0)) (m ((c : Thread nD τ).loc main_arg1)) (m ((c : Thread nD τ).loc main_arg2))
    (ix3 ⟨t.val / 8 * 4 + b, by omega⟩ i j)) ?_ ?_
  · refine Fin.sum_mul_add_congr fun s l hl => point m c t h7 s b i j l hl
  · blk_ext [idx t]

end Cols

end
-- ==== Proof.ColumnsReference.lean ====
/- The gradient of the projection's weights by columns: the reference's array, and the claims. -/
module

public import proofs.«01_k».proof.Defs
public import proofs.«01_k».proof.Proof.ColumnsKernel
public import proofs.«01_k».proof.Proof.Gen.Columns.Frame
public import proofs.«01_k».proof.Proof.Gen.ColumnsReferenceIdeal.Read
public import Idealize.ShloMosaic.Adequacy

@[expose] public section

set_option maxRecDepth 16384

noncomputable section

namespace Cols

open Idealize.ShloMosaic Idealize.ShloMosaic.TcCoe Idealize.SL.Sem
open Cert.ColumnsReferenceIdeal Cert.ColumnsReferenceIdeal.Read RowNorm

variable (x : FVec Ideal S8192x1024 .f32) (g : FVec Ideal S1x1024 .f32) (p : FVec Ideal S8192x6144 .bf16)

theorem ref_norm (l : Fin 8192) (k : Fin 1024) : val_main_v14 (F := Ideal) x g (ix2 l k) = entry x g l k := by
  pointwise [val_main_v14, val_main_v13, val_main_v12, val_main_v11, val_main_v10, val_main_v9, val_main_v8, val_main_v7, val_main_cst_2,
    val_main_v6, val_main_v5, val_main_cst_1, val_main_v4, val_main_v3, val_main_cst_0, val_main_v2, val_main_v1]
  rfl

theorem ref_dot (j : Fin 6144) (k : Fin 1024) :
    val_main_v17 (F := Ideal) x g p (ix2 j k) = ∑ l : Fin 8192, p (ix2 l j) * entry x g l k := by
  simp only [← ref_norm]
  pointwise [val_main_v17, val_main_v16]

theorem ref_eq : val_main_v21 (F := Ideal) x g p = arr x g p := by
  funext q
  obtain ⟨b, i, j, rfl⟩ : ∃ (b : Fin 8) (i : Fin 1024) (j : Fin 768), q = ix3 b i j := ⟨q 0, q 1, q 2, eq_ix3 q⟩
  have h : val_main_v21 (F := Ideal) x g p (ix3 b i j) = val_main_v17 (F := Ideal) x g p (ix2 ⟨b * 768 + j, by omega⟩ i) := by
    pointwise [val_main_v21, val_main_v20, val_main_v19, val_main_v18]
    blk_ext
  rw [h, ref_dot]
  refine Finset.sum_congr rfl fun l _ => ?_
  exact mul_comm _ _

end Cols

open Idealize.ShloMosaic Idealize.SL.Sem

namespace Cert.Proof

/-- Both programs run and leave the same array. -/
theorem columns_algebraic : algebraic_ColumnsIdeal_ColumnsReferenceIdeal := by
  intro m g m' g' _ hagree
  refine ⟨fun c => Cols.arr (m (c.tc.loc Cert.ColumnsIdeal.main_arg0)) (m (c.tc.loc Cert.ColumnsIdeal.main_arg1)) (m (c.tc.loc Cert.ColumnsIdeal.main_arg2)), ?_, ?_⟩
  · refine (θ_run _ _ _).mono (fun r h c => ?_) (θ_run_and (Cert.ColumnsIdeal.Gen.run_main m g) (Cert.ColumnsIdeal.Gen.unchanged m g))
    exact ⟨((h.1 c).1 3).trans (Cols.final m c), h.2 c⟩
  · refine (θ_run _ _ _).mono (fun r h c => ?_) (Cert.ColumnsReferenceIdeal.Value.run m' g')
    obtain ⟨e0, e1, e2⟩ := hagree c
    obtain ⟨h0, ha⟩ := h c
    refine ⟨h0.trans ((Cert.ColumnsReferenceIdeal.Read.val_main_v21_eq _ _ _).trans ((Cols.ref_eq _ _ _).trans ?_)), ha⟩
    rw [e0, e1, e2]

/-- The reference's arguments end unchanged; it has no semaphore. -/
theorem columns_reference_frame : quiescent_ColumnsReferenceIdeal := fun m ρ _ =>
  (θ_run _ _ _).mono (fun r h => ⟨fun c => (h c).2, sem_eq_zero_of_no_sems (by decide) r.2⟩)
    (Cert.ColumnsReferenceIdeal.Value.run m ρ)

end Cert.Proof

end
-- ==== Proof.InputNorm.lean ====
/- The derivative of a projected, normalised row with respect to its input, as the kernel spells it. -/
module

public import Idealize.ShloMosaic.Lib.Pointwise
public import Idealize.ShloMosaic.PureOps.Ideal.Laws

@[expose] public section

noncomputable section

namespace InputNorm

open Idealize.ShloMosaic

variable {n : ℕ} (p : (⟨2, ![n, 6144]⟩ : Shape).Idx → EReal) (x : (⟨2, ![n, 1024]⟩ : Shape).Idx → EReal)
  (g : (⟨2, ![1, 1024]⟩ : Shape).Idx → EReal) (w : (⟨3, ![8, 1024, 768]⟩ : Shape).Idx → EReal) (d : (⟨2, ![n, 1024]⟩ : Shape).Idx → EReal)

/-- The reciprocal root of a row's mean square. -/
def root (l : Fin n) : EReal :=
  Ideal.rsqrt (Ideal.div (∑ d : Fin 1024, x (ix2 l d) * x (ix2 l d)) (Ideal.ofBits .f32 0x44800000#32) + Ideal.ofBits .f32 0x358637BD#32)

/-- The cotangent of the normalised row: the cotangent of the projection times the transposed weights. -/
def back (l : Fin n) (k : Fin 1024) : EReal :=
  ∑ q : Fin 6144, p (ix2 l q) * w (ix3 ⟨(q : ℕ) / 768, by omega⟩ k ⟨(q : ℕ) % 768, Nat.mod_lt _ (by decide)⟩)

/-- The cotangent of the row. -/
def toRow (l : Fin n) (k : Fin 1024) : EReal :=
  d (ix2 l k) + root x l * (back p w l k * g (ix2 0 k) - x (ix2 l k) * root x l
    * Ideal.div (∑ e : Fin 1024, back p w l e * g (ix2 0 e) * (x (ix2 l e) * root x l)) (Ideal.ofBits .f32 0x44800000#32))

/-- One row's part of the gain's gradient. -/
def toGain (l : Fin n) (k : Fin 1024) : EReal := back p w l k * (x (ix2 l k) * root x l)

variable {p x g w d} {n' : ℕ} {p' : (⟨2, ![n', 6144]⟩ : Shape).Idx → EReal} {x' : (⟨2, ![n', 1024]⟩ : Shape).Idx → EReal}
  {g' : (⟨2, ![1, 1024]⟩ : Shape).Idx → EReal} {w' : (⟨3, ![8, 1024, 768]⟩ : Shape).Idx → EReal} {d' : (⟨2, ![n', 1024]⟩ : Shape).Idx → EReal}
  {l : Fin n} {l' : Fin n'}

theorem toRow_congr (hp : ∀ q, p (ix2 l q) = p' (ix2 l' q)) (hx : ∀ e, x (ix2 l e) = x' (ix2 l' e)) (hg : ∀ e, g (ix2 0 e) = g' (ix2 0 e))
    (hw : w = w') (hd : ∀ e, d (ix2 l e) = d' (ix2 l' e)) (k : Fin 1024) : toRow p x g w d l k = toRow p' x' g' w' d' l' k := by
  unfold toRow back root
  simp only [hp, hx, hg, hw, hd]

theorem toGain_congr (hp : ∀ q, p (ix2 l q) = p' (ix2 l' q)) (hx : ∀ e, x (ix2 l e) = x' (ix2 l' e)) (hw : w = w') (k : Fin 1024) :
    toGain p x w l k = toGain p' x' w' l' k := by
  unfold toGain back root
  simp only [hp, hx, hw]

end InputNorm

end
-- ==== Proof.InputKernel.lean ====
/- The gradient with respect to a projection's input: the arrays the kernel leaves. -/
module

public import proofs.«01_k».proof.Proof.InputNorm
public import proofs.«01_k».proof.Proof.Pieces
public import proofs.«01_k».proof.Proof.Gen.InputIdeal.Frame
public import Idealize.ShloMosaic.Lib.Pipeline.ValueKit

@[expose] public section

set_option maxRecDepth 16384

noncomputable section

namespace Inp

open Idealize.ShloMosaic Idealize.ShloMosaic.TcCoe Idealize.SL.Sem
open Cert.InputIdeal Cert.InputIdeal.Gen InputNorm Pieces

/-! ## One grid point's arithmetic -/

theorem zero (o : Fin 1) (k : Fin 1024) : k0_pay3 (F := Ideal) (ix2 o k) = (0 : EReal) := by pointwise [k0_pay3]

theorem root_eq (x : FVec Ideal S512x1024 .f32) (l : Fin 512) (o : Fin 1) : (k0_pay6 (F := Ideal) x (ix2 l o) : EReal) = root x l := by
  pointwise [k0_pay6]
  rfl

theorem hat_eq (x : FVec Ideal S512x1024 .f32) (l : Fin 512) (k : Fin 1024) : (k0_pay7 (F := Ideal) x (ix2 l k) : EReal) = x (ix2 l k) * root x l := by
  rw [← root_eq x l 0]
  pointwise [k0_pay7]

theorem gain_eq (g : FVec Ideal S1x1024 .f32) (l : Fin 512) (k : Fin 1024) : (k0_pay8 (F := Ideal) g (ix2 l k) : EReal) = g (ix2 0 k) := by
  pointwise [k0_pay8]

/-- The eight products, each by one block of columns, are one product. -/
theorem back_eq {p0 p1 p2 p3 p4 p5 p6 p7 : FVec Ideal S512x768 .bf16} {w0 w1 w2 w3 w4 w5 w6 w7 : FVec Ideal S1x1024x768 .bf16}
    (W : FVec Ideal S8x1024x768 .bf16) (P : FVec Ideal S512x6144 .bf16) (l : Fin 512) (k : Fin 1024)
    (a0 : ∀ j, p0 (ix2 l j) = P (ix2 l ⟨0 * 768 + j, by omega⟩)) (b0 : ∀ j, w0 (ix3 0 k j) = W (ix3 0 k j))
    (a1 : ∀ j, p1 (ix2 l j) = P (ix2 l ⟨1 * 768 + j, by omega⟩)) (b1 : ∀ j, w1 (ix3 0 k j) = W (ix3 1 k j))
    (a2 : ∀ j, p2 (ix2 l j) = P (ix2 l ⟨2 * 768 + j, by omega⟩)) (b2 : ∀ j, w2 (ix3 0 k j) = W (ix3 2 k j))
    (a3 : ∀ j, p3 (ix2 l j) = P (ix2 l ⟨3 * 768 + j, by omega⟩)) (b3 : ∀ j, w3 (ix3 0 k j) = W (ix3 3 k j))
    (a4 : ∀ j, p4 (ix2 l j) = P (ix2 l ⟨4 * 768 + j, by omega⟩)) (b4 : ∀ j, w4 (ix3 0 k j) = W (ix3 4 k j))
    (a5 : ∀ j, p5 (ix2 l j) = P (ix2 l ⟨5 * 768 + j, by omega⟩)) (b5 : ∀ j, w5 (ix3 0 k j) = W (ix3 5 k j))
    (a6 : ∀ j, p6 (ix2 l j) = P (ix2 l ⟨6 * 768 + j, by omega⟩)) (b6 : ∀ j, w6 (ix3 0 k j) = W (ix3 6 k j))
    (a7 : ∀ j, p7 (ix2 l j) = P (ix2 l ⟨7 * 768 + j, by omega⟩)) (b7 : ∀ j, w7 (ix3 0 k j) = W (ix3 7 k j)) :
    (k0_pay5 (F := Ideal) (k0_pay4 (F := Ideal) p0 w0 p1 w1 p2 w2 p3 w3) p4 w4 p5 w5 p6 w6 p7 w7 (ix2 l k) : EReal) = back P W l k := by
  have h : (k0_pay5 (F := Ideal) (k0_pay4 (F := Ideal) p0 w0 p1 w1 p2 w2 p3 w3) p4 w4 p5 w5 p6 w6 p7 w7 (ix2 l k) : EReal) = (∑ j : Fin 768, p0 (ix2 l j) * w0 (ix3 0 k j)) + (∑ j : Fin 768, p1 (ix2 l j) * w1 (ix3 0 k j)) + (∑ j : Fin 768, p2 (ix2 l j) * w2 (ix3 0 k j)) + (∑ j : Fin 768, p3 (ix2 l j) * w3 (ix3 0 k j)) + (∑ j : Fin 768, p4 (ix2 l j) * w4 (ix3 0 k j)) + (∑ j : Fin 768, p5 (ix2 l j) * w5 (ix3 0 k j)) + (∑ j : Fin 768, p6 (ix2 l j) * w6 (ix3 0 k j)) + (∑ j : Fin 768, p7 (ix2 l j) * w7 (ix3 0 k j)) := by
    pointwise [k0_pay5, k0_pay4]
  rw [h]
  simp only [a0, b0, a1, b1, a2, b2, a3, b3, a4, b4, a5, b5, a6, b6, a7, b7]
  refine (Fin.sum_univ_eight (fun b : Fin 8 => ∑ j : Fin 768, (P (ix2 l ⟨b * 768 + j, by omega⟩) * W (ix3 b k j) : EReal))).symm.trans ?_
  refine Fin.sum_mul_add_congr fun b j h => congrArg₂ _ rfl (congrArg W (congrArg₂ (fun p s => ix3 p k s) (Fin.ext ?_) (Fin.ext ?_)))
  · show (b : ℕ) = (b * 768 + j) / 768; omega
  · show (j : ℕ) = (b * 768 + j) % 768; omega

theorem row_eq (h : FVec Ideal S512x1024 .f32) (r : FVec Ideal S512x1 .f32) (u v d : FVec Ideal S512x1024 .f32) (l : Fin 512) (k : Fin 1024) :
    (k0_pay1 (F := Ideal) h r u v d (ix2 l k) : EReal) = d (ix2 l k) + r (ix2 l 0) * (h (ix2 l k) * v (ix2 l k)
      - u (ix2 l k) * Ideal.div (∑ e : Fin 1024, h (ix2 l e) * v (ix2 l e) * u (ix2 l e)) (Ideal.ofBits .f32 0x44800000#32)) := by
  pointwise [k0_pay1]

theorem acc_eq (h u : FVec Ideal S512x1024 .f32) (a : FVec Ideal S1x1024 .f32) (o : Fin 1) (k : Fin 1024) :
    (k0_pay2 (F := Ideal) h u a (ix2 o k) : EReal) = a (ix2 o k) + ∑ l : Fin 512, h (ix2 l k) * u (ix2 l k) := by
  pointwise [k0_pay2]

/-- The stored row. -/
theorem toRow_eq {h : FVec Ideal S512x1024 .f32} (x : FVec Ideal S512x1024 .f32) (g : FVec Ideal S1x1024 .f32) (d : FVec Ideal S512x1024 .f32)
    (W : FVec Ideal S8x1024x768 .bf16) (P : FVec Ideal S512x6144 .bf16) (l : Fin 512) (k : Fin 1024) (hh : ∀ k, h (ix2 l k) = back P W l k) :
    (k0_pay1 (F := Ideal) h (k0_pay6 (F := Ideal) x) (k0_pay7 (F := Ideal) x) (k0_pay8 (F := Ideal) g) d (ix2 l k) : EReal) = toRow P x g W d l k := by
  rw [row_eq]
  simp only [root_eq, hat_eq, gain_eq, hh]
  rfl

/-- What a grid point adds to the gain's gradient. -/
theorem toGain_eq {h : FVec Ideal S512x1024 .f32} (x : FVec Ideal S512x1024 .f32) (a : FVec Ideal S1x1024 .f32)
    (W : FVec Ideal S8x1024x768 .bf16) (P : FVec Ideal S512x6144 .bf16) (o : Fin 1) (k : Fin 1024) (hh : ∀ l k, h (ix2 l k) = back P W l k) :
    (k0_pay2 (F := Ideal) h (k0_pay7 (F := Ideal) x) a (ix2 o k) : EReal) = a (ix2 o k) + ∑ l : Fin 512, toGain P x W l k := by
  rw [acc_eq]
  simp only [hat_eq, hh]
  rfl

/-! ## The grid points -/

variable (m : (ℓ : Loc nD τ sig) → Buf (Elt Ideal) ℓ) (c : Dev nD)

/-- The weights. -/
abbrev wts : FVec Ideal S8x1024x768 .bf16 := V m c main_arg3

/-- The weights' scratch holds the weights from the first point on. -/
theorem scr_A (t : Fin cfg0.N) (h0 : t.val % 16 = 0) : (outsAt0 m c t.val t.isLt).2.2 = wts m c := by
  rw [outsAt0_A m c t h0 h0]
  frame_out
  funext y
  exact canon_whole y

theorem scr_B (t : Fin cfg0.N) (h0 : ¬t.val % 16 = 0) : (outsAt0 m c t.val t.isLt).2.2 = (outsAt0 m c (t.val - 1) (Nat.lt_of_le_of_lt (Nat.sub_le _ _) t.isLt)).2.2 := by
  rw [outsAt0_B m c t h0 h0]
  frame_out
  rfl

theorem scr : ∀ (n : ℕ) (hn : n < cfg0.N), (outsAt0 m c n hn).2.2 = wts m c
  | 0, hn => scr_A m c ⟨0, hn⟩ rfl
  | n + 1, hn => by
    by_cases h0 : (n + 1) % 16 = 0
    · exact scr_A m c ⟨n + 1, hn⟩ h0
    · exact (scr_B m c ⟨n + 1, hn⟩ h0).trans (scr n _)

/-- The scratch before a later point, read back. -/
theorem read_scr (t : Fin cfg0.N) : View.read (Elt Ideal) (View.whole cc0_scratch0)
    ((Memref.isWhole_whole cc0_scratch0).unread (outsAt0 m c (t.val - 1) (Nat.lt_of_le_of_lt (Nat.sub_le _ _) t.isLt)).2.2) = wts m c :=
  (Memref.IsWhole.read_unread (Memref.isWhole_whole cc0_scratch0) (outsAt0 m c (t.val - 1) (Nat.lt_of_le_of_lt (Nat.sub_le _ _) t.isLt)).2.2).trans (scr m c _ _)

/-- What a grid point writes. -/
theorem out_row (t : Fin cfg0.N) (l : Fin 512) (k : Fin 1024) :
    (outsAt0 m c t.val t.isLt).1 (ix2 l k) = toRow (iblk m c 0 t) (iblk m c 1 t) (iblk m c 2 t) (wts m c) (iblk m c 3 t) l k := by
  by_cases h0 : t.val % 16 = 0
  · rw [outsAt0_A m c t h0 h0]
    frame_out
    exact toRow_eq _ _ _ _ _ l _ fun k => back_eq _ _ l k (fun j => ld_cols 0 l j (by omega)) (fun j => (rc_slice (a := 8) 0 0 k j).trans rfl) (fun j => ld_cols 768 l j (by omega)) (fun j => (rc_slice (a := 8) 1 0 k j).trans rfl) (fun j => ld_cols 1536 l j (by omega)) (fun j => (rc_slice (a := 8) 2 0 k j).trans rfl) (fun j => ld_cols 2304 l j (by omega)) (fun j => (rc_slice (a := 8) 3 0 k j).trans rfl) (fun j => ld_cols 3072 l j (by omega)) (fun j => (rc_slice (a := 8) 4 0 k j).trans rfl) (fun j => ld_cols 3840 l j (by omega)) (fun j => (rc_slice (a := 8) 5 0 k j).trans rfl) (fun j => ld_cols 4608 l j (by omega)) (fun j => (rc_slice (a := 8) 6 0 k j).trans rfl) (fun j => ld_cols 5376 l j (by omega)) (fun j => (rc_slice (a := 8) 7 0 k j).trans rfl)
  · rw [outsAt0_B m c t h0 h0]
    frame_out
    have hr := read_scr m c t
    exact toRow_eq _ _ _ _ _ l _ fun k => back_eq _ _ l k (fun j => ld_cols 0 l j (by omega)) (fun j => (ld_slice (a := 8) 0 0 k j).trans (congrFun hr _)) (fun j => ld_cols 768 l j (by omega)) (fun j => (ld_slice (a := 8) 1 0 k j).trans (congrFun hr _)) (fun j => ld_cols 1536 l j (by omega)) (fun j => (ld_slice (a := 8) 2 0 k j).trans (congrFun hr _)) (fun j => ld_cols 2304 l j (by omega)) (fun j => (ld_slice (a := 8) 3 0 k j).trans (congrFun hr _)) (fun j => ld_cols 3072 l j (by omega)) (fun j => (ld_slice (a := 8) 4 0 k j).trans (congrFun hr _)) (fun j => ld_cols 3840 l j (by omega)) (fun j => (ld_slice (a := 8) 5 0 k j).trans (congrFun hr _)) (fun j => ld_cols 4608 l j (by omega)) (fun j => (ld_slice (a := 8) 6 0 k j).trans (congrFun hr _)) (fun j => ld_cols 5376 l j (by omega)) (fun j => (ld_slice (a := 8) 7 0 k j).trans (congrFun hr _))

abbrev term (t : Fin cfg0.N) (k : Fin 1024) : EReal := ∑ l : Fin 512, toGain (iblk m c 0 t) (iblk m c 1 t) (wts m c) l k

theorem step_A (t : Fin cfg0.N) (h0 : t.val % 16 = 0) (o : Fin 1) (k : Fin 1024) :
    (outsAt0 m c t.val t.isLt).2.1 (ix2 o k) = (0 : EReal) + term m c t k := by
  rw [outsAt0_A m c t h0 h0]
  frame_out
  refine (toGain_eq _ _ (wts m c) (iblk m c 0 t) o k fun l k => back_eq _ _ l k (fun j => ld_cols 0 l j (by omega)) (fun j => (rc_slice (a := 8) 0 0 k j).trans rfl) (fun j => ld_cols 768 l j (by omega)) (fun j => (rc_slice (a := 8) 1 0 k j).trans rfl) (fun j => ld_cols 1536 l j (by omega)) (fun j => (rc_slice (a := 8) 2 0 k j).trans rfl) (fun j => ld_cols 2304 l j (by omega)) (fun j => (rc_slice (a := 8) 3 0 k j).trans rfl) (fun j => ld_cols 3072 l j (by omega)) (fun j => (rc_slice (a := 8) 4 0 k j).trans rfl) (fun j => ld_cols 3840 l j (by omega)) (fun j => (rc_slice (a := 8) 5 0 k j).trans rfl) (fun j => ld_cols 4608 l j (by omega)) (fun j => (rc_slice (a := 8) 6 0 k j).trans rfl) (fun j => ld_cols 5376 l j (by omega)) (fun j => (rc_slice (a := 8) 7 0 k j).trans rfl)).trans ?_
  rw [zero]

theorem step_B (t : Fin cfg0.N) (h0 : ¬t.val % 16 = 0) (o : Fin 1) (k : Fin 1024) :
    (outsAt0 m c t.val t.isLt).2.1 (ix2 o k) = (outsAt0 m c (t.val - 1) (Nat.lt_of_le_of_lt (Nat.sub_le _ _) t.isLt)).2.1 (ix2 o k) + term m c t k := by
  rw [outsAt0_B m c t h0 h0]
  frame_out
  have hr := read_scr m c t
  refine (toGain_eq _ _ (wts m c) (iblk m c 0 t) o k fun l k => back_eq _ _ l k (fun j => ld_cols 0 l j (by omega)) (fun j => (ld_slice (a := 8) 0 0 k j).trans (congrFun hr _)) (fun j => ld_cols 768 l j (by omega)) (fun j => (ld_slice (a := 8) 1 0 k j).trans (congrFun hr _)) (fun j => ld_cols 1536 l j (by omega)) (fun j => (ld_slice (a := 8) 2 0 k j).trans (congrFun hr _)) (fun j => ld_cols 2304 l j (by omega)) (fun j => (ld_slice (a := 8) 3 0 k j).trans (congrFun hr _)) (fun j => ld_cols 3072 l j (by omega)) (fun j => (ld_slice (a := 8) 4 0 k j).trans (congrFun hr _)) (fun j => ld_cols 3840 l j (by omega)) (fun j => (ld_slice (a := 8) 5 0 k j).trans (congrFun hr _)) (fun j => ld_cols 4608 l j (by omega)) (fun j => (ld_slice (a := 8) 6 0 k j).trans (congrFun hr _)) (fun j => ld_cols 5376 l j (by omega)) (fun j => (ld_slice (a := 8) 7 0 k j).trans (congrFun hr _))).trans ?_
  rfl

/-! ## The final arrays -/

theorem idx : ∀ t : Fin cfg0.N, win0_0.index t = ![t.val % 16, 0] ∧ win0_1.index t = ![t.val % 16, 0] ∧ win0_2.index t = ![0, 0]
    ∧ win0_3.index t = ![t.val % 16, 0] ∧ win0_4.index t = ![t.val % 16, 0] ∧ win0_5.index t = ![0, 0] :=
  (by decide +kernel : ∀ t : Fin grid0.N, _)

theorem lt16 (t : Fin cfg0.N) : t.val < 16 := lt_of_lt_of_eq t.isLt N_0

/-- The cotangent of the rows. -/
def rowArr (p : FVec Ideal S8192x6144 .bf16) (x : FVec Ideal S8192x1024 .f32) (g : FVec Ideal S1x1024 .f32) (w : FVec Ideal S8x1024x768 .bf16)
    (d : FVec Ideal S8192x1024 .f32) : FVec Ideal S8192x1024 .f32 := fun q => toRow p x g w d (q 0) (q 1)

/-- The gradient of the gain. -/
def gainArr (p : FVec Ideal S8192x6144 .bf16) (x : FVec Ideal S8192x1024 .f32) (w : FVec Ideal S8x1024x768 .bf16) : FVec Ideal S1x1024 .f32 :=
  fun q => ∑ l : Fin 8192, toGain p x w l (q 1)

theorem final_row : (dats m 0 c).arrAt 4 (cfgs 0).N
    = rowArr (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 4 _ (by decide +kernel) fun t _ y => ?_
  blk_simp
  rw [after0_4]
  have hN : t.val < 16 := lt16 t
  obtain ⟨l, k, rfl⟩ : ∃ (l : Fin 512) (k : Fin 1024), y = ix2 l k := ⟨y 0, y 1, eq_ix2 y⟩
  refine (out_row m c t l k).trans ?_
  refine Eq.trans (b := rowArr (m ((c : Thread nD τ).loc main_arg0)) (m ((c : Thread nD τ).loc main_arg1)) (m ((c : Thread nD τ).loc main_arg2)) (m ((c : Thread nD τ).loc main_arg3)) (m ((c : Thread nD τ).loc main_arg4)) (ix2 ⟨t.val * 512 + l, by omega⟩ k)) ?_ ?_
  · refine toRow_congr (fun q => ?_) (fun e => ?_) (fun e => ?_) rfl (fun e => ?_) k
    · blk_ext [iblk, V, idx t]
    · blk_ext [iblk, V, idx t]
    · blk_ext [iblk, V, idx t]
    · blk_ext [iblk, V, idx t]
  · blk_ext [idx t]

/-- After the last point: the sum over all of them. -/
theorem acc_at (t : Fin cfg0.N) (hf : t.val % 16 = 15) (k : Fin 1024) :
    (outsAt0 m c t.val t.isLt).2.1 (ix2 0 k) = ∑ s : Fin 16, term m c ⟨16 * (t.val / 16) + s, Pipeline.run_point_lt_of_flush t hf s⟩ k := by
  refine (Pipeline.eq_sum_fin_of_reset_step_apply_of_flush (fun n h => (outsAt0 m c n h).2.1) 16 (fun _ => 0)
    (fun p (y : S1x1024.Idx) => term m c p (y 1)) (fun t h y => ?_) (fun t h y => ?_) t hf (ix2 0 k)).trans (zero_add _)
  · obtain ⟨o, k, rfl⟩ : ∃ (o : Fin 1) (k : Fin 1024), y = ix2 o k := ⟨y 0, y 1, eq_ix2 y⟩
    exact step_A m c t h o k
  · obtain ⟨o, k, rfl⟩ : ∃ (o : Fin 1) (k : Fin 1024), y = ix2 o k := ⟨y 0, y 1, eq_ix2 y⟩
    exact step_B m c t h o k

/-- One row of a point's block, read in the arrays. -/
theorem point (t : Fin cfg0.N) (hf : t.val % 16 = 15) (s : Fin 16) (l : Fin 512) (k : Fin 1024) (h : (s : ℕ) * 512 + l < 8192) :
    toGain (iblk m c 0 ⟨16 * (t.val / 16) + s, Pipeline.run_point_lt_of_flush t hf s⟩)
        (iblk m c 1 ⟨16 * (t.val / 16) + s, Pipeline.run_point_lt_of_flush t hf s⟩) (wts m c) l k
      = toGain (m ((c : Thread nD τ).loc main_arg0)) (m ((c : Thread nD τ).loc main_arg1)) (m ((c : Thread nD τ).loc main_arg3)) ⟨s * 512 + l, h⟩ k := by
  have hN : t.val < 16 := lt16 t
  refine toGain_congr (fun q => ?_) (fun e => ?_) rfl k
  · blk_ext [iblk, V, idx t, idx ⟨_, Pipeline.run_point_lt_of_flush t hf s⟩]
  · blk_ext [iblk, V, idx t, idx ⟨_, Pipeline.run_point_lt_of_flush t hf s⟩]

theorem final_gain : (dats m 0 c).arrAt 5 (cfgs 0).N = gainArr (m ((c : Thread nD τ).loc main_arg0)) (m ((c : Thread nD τ).loc main_arg1)) (m ((c : Thread nD τ).loc main_arg3)) := by
  refine (dats m 0 c).arrAt_eq_of_covers 5 _ (by decide +kernel) fun t hf y => ?_
  blk_simp
  rw [after0_5]
  obtain ⟨o, k, rfl⟩ : ∃ (o : Fin 1) (k : Fin 1024), y = ix2 o k := ⟨y 0, y 1, eq_ix2 y⟩
  obtain rfl : o = 0 := Subsingleton.elim _ _
  have h15 : t.val % 16 = 15 := (flush0_5 t).mp hf
  refine (acc_at m c t h15 k).trans ?_
  refine Eq.trans (b := gainArr (m ((c : Thread nD τ).loc main_arg0)) (m ((c : Thread nD τ).loc main_arg1)) (m ((c : Thread nD τ).loc main_arg3)) (ix2 0 k)) ?_ ?_
  · exact Fin.sum_mul_add_congr fun s l hl => point m c t h15 s l k hl
  · blk_ext [idx t]

end Inp

end
-- ==== Proof.InputReference.lean ====
/- The gradient with respect to a projection's input: the reference's arrays, and the claims. -/
module

public import proofs.«01_k».proof.Defs
public import proofs.«01_k».proof.Proof.InputKernel
public import proofs.«01_k».proof.Proof.RBwd
public import proofs.«01_k».proof.Proof.Finite
public import proofs.«01_k».proof.Proof.Gen.Input.Frame
public import proofs.«01_k».proof.Proof.Gen.InputReferenceIdeal.Read
public import proofs.«01_k».proof.Proof.Gen.Pre_input_finite
public import Idealize.ShloMosaic.Adequacy

@[expose] public section

set_option maxRecDepth 16384

noncomputable section

namespace Inp

open Idealize.ShloMosaic Idealize.ShloMosaic.TcCoe Idealize.SL.Sem
open Cert.InputReferenceIdeal Cert.InputReferenceIdeal.Read InputNorm

/-! ## The reference's arrays -/

section
variable (p : FVec Ideal S8192x6144 .bf16) (x : FVec Ideal S8192x1024 .f32) (g : FVec Ideal S1x1024 .f32) (w : FVec Ideal S8x1024x768 .bf16)
  (d : FVec Ideal S8192x1024 .f32)

theorem ref_root (l : Fin 8192) (o : Fin 1) : val_main_v8 (F := Ideal) x (ix2 l o) = root x l := by
  pointwise [val_main_v8, val_main_v7, val_main_v6, val_main_cst_1, val_main_v5, val_main_v4, val_main_cst_0, val_main_v3, val_main_v2, val_main_cst, val_main_v1]
  rfl

/-- The blocks of columns side by side. -/
theorem ref_cols (k : Fin 1024) (q : Fin 6144) :
    (val_main_v19 (F := Ideal) w (ix2 k q) : EReal) = w (ix3 ⟨q / 768, by omega⟩ k ⟨q % 768, Nat.mod_lt _ (by decide)⟩) := by
  pointwise [val_main_v19, val_main_v18, val_main_v17]
  blk_ext

theorem ref_back (l : Fin 8192) (k : Fin 1024) : val_main_v22 (F := Ideal) p w (ix2 l k) = back p w l k := by
  have h : (val_main_v22 (F := Ideal) p w (ix2 l k) : EReal) = ∑ q : Fin 6144, p (ix2 l q) * val_main_v19 (F := Ideal) w (ix2 k q) := by
    pointwise [val_main_v22, val_main_v21]
  rw [h]
  exact Finset.sum_congr rfl fun q _ => congrArg₂ _ rfl (ref_cols w k q)

theorem ref_gain : val_main_v44 (F := Ideal) p x w = gainArr p x w := by
  funext q
  obtain ⟨o, k, rfl⟩ : ∃ (o : Fin 1) (k : Fin 1024), q = ix2 o k := ⟨q 0, q 1, eq_ix2 q⟩
  have h : (val_main_v44 (F := Ideal) p x w (ix2 o k) : EReal) = ∑ l : Fin 8192, x (ix2 l k) * val_main_v8 (F := Ideal) x (ix2 l 0) * val_main_v22 (F := Ideal) p w (ix2 l k) := by
    pointwise [val_main_v44, val_main_v28, val_main_v25, val_main_v24, val_main_v23, val_main_v13, val_main_v12, val_main_cst_3, val_main_cst_4]
    rw [Fin.sum_univ_one]
  rw [h]
  refine Finset.sum_congr rfl fun l _ => ?_
  rw [ref_root, ref_back, mul_comm]
  rfl

end

/-! ## Real numbers -/

/-- The arrays' real numbers. -/
structure Nums where
  p : Fin 8192 → Fin 6144 → ℝ
  x : Fin 8192 → Fin 1024 → ℝ
  g : Fin 1024 → ℝ
  w : Fin 8 → Fin 1024 → Fin 768 → ℝ
  d : Fin 8192 → Fin 1024 → ℝ

/-- The arrays hold these real numbers. -/
structure Are (N : Nums) (p : FVec Ideal S8192x6144 .bf16) (x : FVec Ideal S8192x1024 .f32) (g : FVec Ideal S1x1024 .f32) (w : FVec Ideal S8x1024x768 .bf16)
    (d : FVec Ideal S8192x1024 .f32) : Prop where
  p : ∀ l q, (p (ix2 l q) : EReal) = (N.p l q : ℝ)
  x : ∀ l k, (x (ix2 l k) : EReal) = (N.x l k : ℝ)
  g : ∀ k, (g (ix2 0 k) : EReal) = (N.g k : ℝ)
  w : ∀ b k j, (w (ix3 b k j) : EReal) = (N.w b k j : ℝ)
  d : ∀ l k, (d (ix2 l k) : EReal) = (N.d l k : ℝ)

/-- A row's mean square. -/
def Nums.ms (N : Nums) (l : Fin 8192) : ℝ := (∑ k, N.x l k * N.x l k) / 1024

def Nums.root (N : Nums) (l : Fin 8192) : ℝ := (Real.sqrt (N.ms l + Sgu.eps))⁻¹

def Nums.back (N : Nums) (l : Fin 8192) (k : Fin 1024) : ℝ :=
  ∑ q : Fin 6144, N.p l q * N.w ⟨q / 768, by omega⟩ k ⟨q % 768, Nat.mod_lt _ (by decide)⟩

theorem ms_nonneg (N : Nums) (l : Fin 8192) : 0 ≤ N.ms l := div_nonneg (Finset.sum_nonneg fun _ _ => mul_self_nonneg _) (by norm_num)

/-- The derivative of the norm, as differentiation spells it and as the kernel does. -/
theorem norm_back (N : Nums) (l : Fin 8192) (k : Fin 1024) :
    N.d l k + N.back l k * N.g k * N.root l
        + N.x l k * ((∑ e, N.x l e * (N.back l e * N.g e)) * (-(1 / 2) * (N.root l / (N.ms l + Sgu.eps))) / 1024)
        + (∑ e, N.x l e * (N.back l e * N.g e)) * (-(1 / 2) * (N.root l / (N.ms l + Sgu.eps))) / 1024 * N.x l k
      = N.d l k + N.root l * (N.back l k * N.g k - N.x l k * N.root l * ((∑ e, N.back l e * N.g e * (N.x l e * N.root l)) / 1024)) := by
  have hS : ∑ e, N.back l e * N.g e * (N.x l e * N.root l) = (∑ e, N.x l e * (N.back l e * N.g e)) * N.root l := by
    rw [Finset.sum_mul]
    exact Finset.sum_congr rfl fun e _ => by ring
  have hc : N.root l / (N.ms l + Sgu.eps) = N.root l * N.root l * N.root l := Sgu.R.root_cube _ (ms_nonneg N l)
  rw [hS, hc]
  ring

section
variable {p : FVec Ideal S8192x6144 .bf16} {x : FVec Ideal S8192x1024 .f32} {g : FVec Ideal S1x1024 .f32} {w : FVec Ideal S8x1024x768 .bf16}
  {d : FVec Ideal S8192x1024 .f32} {N : Nums} (H : Are N p x g w d)
include H

theorem real_back (l : Fin 8192) (k : Fin 1024) : back p w l k = (N.back l k : ℝ) := by
  unfold back
  simp only [H.p, H.w, ← EReal.coe_mul, Sgu.coe_sum]
  rfl

theorem real_root (l : Fin 8192) : root x l = (N.root l : ℝ) := by
  unfold root
  simp only [H.x, Sgu.lit1024, Sgu.lit_eps, ← EReal.coe_mul, Sgu.coe_sum, Sgu.div1024, ← EReal.coe_add]
  exact Sgu.rsqrt_pos _ (ms_nonneg N l)

theorem real_v7 (l : Fin 8192) (o : Fin 1) : val_main_v7 (F := Ideal) x (ix2 l o) = ((N.ms l + Sgu.eps : ℝ) : EReal) := by
  pointwise [val_main_v7, val_main_v6, val_main_cst_1, val_main_v5, val_main_v4, val_main_cst_0, val_main_v3, val_main_v2, val_main_cst, val_main_v1]
  simp only [H.x, Sgu.lit1024, Sgu.lit_eps, ← EReal.coe_mul, Sgu.coe_sum, Sgu.div1024, ← EReal.coe_add]
  rfl

theorem real_v8 (l : Fin 8192) (o : Fin 1) : val_main_v8 (F := Ideal) x (ix2 l o) = (N.root l : ℝ) := (ref_root x l o).trans (real_root H l)

theorem real_v11 (l : Fin 8192) (o : Fin 1) : val_main_v11 (F := Ideal) x (ix2 l o) = ((-(1 / 2) * (N.root l / (N.ms l + Sgu.eps)) : ℝ) : EReal) := by
  pointwise [val_main_v11, val_main_v10, val_main_cst_2, val_main_v9]
  rw [real_v7 H, real_v8 H, Sgu.lit_neghalf, Sgu.div_pos_coe _ _ (add_pos_of_nonneg_of_pos (ms_nonneg N l) Sgu.eps_pos), ← EReal.coe_mul]

theorem real_v27 (l : Fin 8192) (k : Fin 1024) : val_main_v27 (F := Ideal) p g w (ix2 l k) = ((N.back l k * N.g k : ℝ) : EReal) := by
  pointwise [val_main_v27, val_main_v26, val_main_v14, val_main_v0]
  rw [ref_back, real_back H, H.g, ← EReal.coe_mul]

theorem real_v39 (l : Fin 8192) (k : Fin 1024) : val_main_v39 (F := Ideal) p x g w (ix2 l k)
    = (((∑ e, N.x l e * (N.back l e * N.g e)) * (-(1 / 2) * (N.root l / (N.ms l + Sgu.eps))) / 1024 : ℝ) : EReal) := by
  pointwise [val_main_v39, val_main_v38, val_main_v37, val_main_v36, val_main_v35, val_main_v31, val_main_v30, val_main_v29, val_main_cst_5, val_main_cst_6, val_main_cst_7]
  simp only [H.x, real_v27 H, real_v11 H, Sgu.lit1024, Sgu.coe_sum, Sgu.div1024, ← EReal.coe_mul]
  rw [Fin.sum_univ_one]

theorem ref_row : val_main_v43 (F := Ideal) p x g w d = rowArr p x g w d := by
  funext q
  obtain ⟨l, k, rfl⟩ : ∃ (l : Fin 8192) (k : Fin 1024), q = ix2 l k := ⟨q 0, q 1, eq_ix2 q⟩
  refine Eq.trans ?_ (show _ = toRow p x g w d l k from Eq.refl _)
  unfold toRow
  pointwise [val_main_v43, val_main_v42, val_main_v41, val_main_v40, val_main_v34, val_main_v33, val_main_v32]
  simp only [H.x, H.d, H.g, real_v27 H, real_v8 H, real_v39 H, real_back H, real_root H, Sgu.lit1024, Sgu.coe_sum, Sgu.div1024, ← EReal.coe_mul,
    ← EReal.coe_add, ← EReal.coe_sub]
  exact Sgu.R.coe_eq (norm_back N l k)

end

/-! ## The precondition -/

theorem are_of_finite (p : FVec Ideal S8192x6144 .bf16) (x : FVec Ideal S8192x1024 .f32) (g : FVec Ideal S1x1024 .f32) (w : FVec Ideal S8x1024x768 .bf16)
    (d : FVec Ideal S8192x1024 .f32) (h : Cert.Pre_input_finite.fn (F := Ideal) p x g w d = fun _ => 1#1) : ∃ N, Are N p x g w d := by
  have h := congrFun h ix0
  unfold Cert.Pre_input_finite.fn Cert.Pre_input_finite.fn_part1 at h
  dsimp only at h
  obtain ⟨h, h4⟩ := Sgu.both h
  obtain ⟨h, h3⟩ := Sgu.both h
  obtain ⟨h, h2⟩ := Sgu.both h
  obtain ⟨h0, h1⟩ := Sgu.both h
  refine ⟨⟨fun l q => (p (ix2 l q) : EReal).toReal, fun l k => (x (ix2 l k) : EReal).toReal, fun k => (g (ix2 0 k) : EReal).toReal,
    fun b k j => (w (ix3 b k j) : EReal).toReal, fun l k => (d (ix2 l k) : EReal).toReal⟩, ?_⟩
  exact {
    p := fun l q => Sgu.real_of_all (extf .f32 p Cert.Pre_input_finite.Facts.bitsLt_bf16_f32) _ _ _ _ h0 _
    x := fun l k => Sgu.real_of_all _ _ _ _ _ h1 _
    g := fun k => Sgu.real_of_all _ _ _ _ _ h2 _
    w := fun b k j => Sgu.real_of_all (extf .f32 w Cert.Pre_input_finite.Facts.bitsLt_bf16_f32) _ _ _ _ h3 _
    d := fun l k => Sgu.real_of_all _ _ _ _ _ h4 _ }

end Inp

open Idealize.ShloMosaic Idealize.SL.Sem

namespace Cert.Proof

/-- From finite arguments both programs run and leave the same two arrays. -/
theorem input_algebraic : algebraic_InputIdeal_InputReferenceIdeal_pre_input_finite := by
  intro m g m' g' hpre hagree
  refine ⟨fun c => Inp.rowArr (m (c.tc.loc Cert.InputIdeal.main_arg0)) (m (c.tc.loc Cert.InputIdeal.main_arg1)) (m (c.tc.loc Cert.InputIdeal.main_arg2)) (m (c.tc.loc Cert.InputIdeal.main_arg3)) (m (c.tc.loc Cert.InputIdeal.main_arg4)),
    fun c => Inp.gainArr (m (c.tc.loc Cert.InputIdeal.main_arg0)) (m (c.tc.loc Cert.InputIdeal.main_arg1)) (m (c.tc.loc Cert.InputIdeal.main_arg3)), ?_, ?_⟩
  · refine (θ_run _ _ _).mono (fun r h c => ?_) (θ_run_and (Cert.InputIdeal.Gen.run_main m g) (Cert.InputIdeal.Gen.unchanged m g))
    exact ⟨((h.1 c).1 4).trans (Inp.final_row m c), ((h.1 c).1 5).trans (Inp.final_gain m c), h.2 c⟩
  · refine (θ_run _ _ _).mono (fun r h c => ?_) (Cert.InputReferenceIdeal.Value.run m' g')
    obtain ⟨e0, e1, e2, e3, e4⟩ := hagree c
    obtain ⟨h0, h1, ha⟩ := h c
    obtain ⟨N, H⟩ := Inp.are_of_finite _ _ _ _ _ (hpre c)
    refine ⟨h0.trans ((Cert.InputReferenceIdeal.Read.val_main_v43_eq _ _).trans ?_), h1.trans ((Cert.InputReferenceIdeal.Read.val_main_v44_eq _ _ _).trans ((Inp.ref_gain _ _ _).trans ?_)), ha⟩
    · rw [e0, e1, e2, e3, e4]
      exact Inp.ref_row H
    · rw [e0, e1, e3]

/-- The reference's arguments end unchanged; it has no semaphore. -/
theorem input_reference_frame : quiescent_InputReferenceIdeal := fun m ρ _ =>
  (θ_run _ _ _).mono (fun r h => ⟨fun c => (h c).2.2, sem_eq_zero_of_no_sems (by decide) r.2⟩)
    (Cert.InputReferenceIdeal.Value.run m ρ)

end Cert.Proof

end
-- ==== Proof.ProjectionKernel.lean ====
/- The projection onto the heads' columns: the array the kernel leaves. -/
module

public import proofs.«01_k».proof.Proof.RowNorm
public import proofs.«01_k».proof.Proof.Pieces
public import proofs.«01_k».proof.Proof.Gen.ProjectionIdeal.Frame
public import Idealize.ShloMosaic.Lib.Pipeline.ValueKit

@[expose] public section

set_option maxRecDepth 16384

noncomputable section

namespace Prj

open Idealize.ShloMosaic Idealize.ShloMosaic.TcCoe Idealize.SL.Sem
open Cert.ProjectionIdeal Cert.ProjectionIdeal.Gen RowNorm Pieces

variable (x : FVec Ideal S512x1024 .f32) (g : FVec Ideal S1x1024 .f32) (w : FVec Ideal S1x1024x768 .bf16) (r : Fin 512)

theorem norm (k : Fin 1024) : (k0_pay6 (F := Ideal) x g (ix2 r k) : EReal) = entry x g r k := by
  pointwise [k0_pay6]
  rfl

/-- One product with one device's columns. -/
abbrev prod (j : Fin 768) : EReal := ∑ k : Fin 1024, entry x g r k * w (ix3 0 k j)

theorem prod1 (j : Fin 768) : k0_pay1 (F := Ideal) (k0_pay6 (F := Ideal) x g) w (ix2 r j) = prod x g w r j := by simp only [prod, ← norm]; pointwise [k0_pay1]
theorem prod2 (j : Fin 768) : k0_pay2 (F := Ideal) (k0_pay6 (F := Ideal) x g) w (ix2 r j) = prod x g w r j := by simp only [prod, ← norm]; pointwise [k0_pay2]
theorem prod3 (j : Fin 768) : k0_pay3 (F := Ideal) (k0_pay6 (F := Ideal) x g) w (ix2 r j) = prod x g w r j := by simp only [prod, ← norm]; pointwise [k0_pay3]
theorem prod4 (j : Fin 768) : k0_pay4 (F := Ideal) (k0_pay6 (F := Ideal) x g) w (ix2 r j) = prod x g w r j := by simp only [prod, ← norm]; pointwise [k0_pay4]
theorem prod5 (j : Fin 768) : k0_pay5 (F := Ideal) (k0_pay6 (F := Ideal) x g) w (ix2 r j) = prod x g w r j := by simp only [prod, ← norm]; pointwise [k0_pay5]
theorem prod7 (j : Fin 768) : k0_pay7 (F := Ideal) x g w (ix2 r j) = prod x g w r j := by simp only [prod, ← norm]; pointwise [k0_pay7]
theorem prod8 (j : Fin 768) : k0_pay8 (F := Ideal) x g w (ix2 r j) = prod x g w r j := by simp only [prod, ← norm]; pointwise [k0_pay8]
theorem prod9 (j : Fin 768) : k0_pay9 (F := Ideal) x g w (ix2 r j) = prod x g w r j := by simp only [prod, ← norm]; pointwise [k0_pay9]

/-- A column of block `b` lies left of what comes later. -/
theorem col_lt (b o : ℕ) (j : Fin 768) (h : b * 768 + 768 ≤ o) : b * 768 + (j : ℕ) < o ∨ o + 768 ≤ b * 768 + (j : ℕ) := by omega

/-- The eight stores: each block of columns is one product. -/
theorem pick {w0 w1 w2 w3 w4 w5 w6 w7 : FVec Ideal S1x1024x768 .bf16} (W : FVec Ideal S8x1024x768 .bf16) (b : Fin 8) (j : Fin 768)
    (h0 : ∀ k, w0 (ix3 0 k j) = W (ix3 0 k j)) (h1 : ∀ k, w1 (ix3 0 k j) = W (ix3 1 k j)) (h2 : ∀ k, w2 (ix3 0 k j) = W (ix3 2 k j))
    (h3 : ∀ k, w3 (ix3 0 k j) = W (ix3 3 k j)) (h4 : ∀ k, w4 (ix3 0 k j) = W (ix3 4 k j)) (h5 : ∀ k, w5 (ix3 0 k j) = W (ix3 5 k j))
    (h6 : ∀ k, w6 (ix3 0 k j) = W (ix3 6 k j)) (h7 : ∀ k, w7 (ix3 0 k j) = W (ix3 7 k j)) :
    View.canon (Val := Elt Ideal) (s := S512x6144) (e := .f32) [
      ⟨Rect.unit (s := S512x6144) ![0, 5376] ![512, 768] inb_S512x6144_S512x768_0_5376, k0_pay5 (F := Ideal) (k0_pay6 (F := Ideal) x g) w7⟩,
      ⟨Rect.unit (s := S512x6144) ![0, 4608] ![512, 768] inb_S512x6144_S512x768_0_4608, k0_pay4 (F := Ideal) (k0_pay6 (F := Ideal) x g) w6⟩,
      ⟨Rect.unit (s := S512x6144) ![0, 3840] ![512, 768] inb_S512x6144_S512x768_0_3840, k0_pay3 (F := Ideal) (k0_pay6 (F := Ideal) x g) w5⟩,
      ⟨Rect.unit (s := S512x6144) ![0, 3072] ![512, 768] inb_S512x6144_S512x768_0_3072, k0_pay2 (F := Ideal) (k0_pay6 (F := Ideal) x g) w4⟩,
      ⟨Rect.unit (s := S512x6144) ![0, 2304] ![512, 768] inb_S512x6144_S512x768_0_2304, k0_pay1 (F := Ideal) (k0_pay6 (F := Ideal) x g) w3⟩,
      ⟨Rect.unit (s := S512x6144) ![0, 1536] ![512, 768] inb_S512x6144_S512x768_0_1536, k0_pay9 (F := Ideal) x g w2⟩,
      ⟨Rect.unit (s := S512x6144) ![0, 768] ![512, 768] inb_S512x6144_S512x768_0_768, k0_pay8 (F := Ideal) x g w1⟩,
      ⟨Rect.unit (s := S512x6144) ![0, 0] ![512, 768] inb_S512x6144_S512x768_0_0, k0_pay7 (F := Ideal) x g w0⟩] (ix2 r ⟨b * 768 + j, by omega⟩) = ∑ k : Fin 1024, entry x g r k * W (ix3 b k j) := by
  match b with
  | 0 => rw [canon_cols_skip 5376 _ _ (by exact col_lt 0 5376 j (by decide)), canon_cols_skip 4608 _ _ (by exact col_lt 0 4608 j (by decide)), canon_cols_skip 3840 _ _ (by exact col_lt 0 3840 j (by decide)), canon_cols_skip 3072 _ _ (by exact col_lt 0 3072 j (by decide)), canon_cols_skip 2304 _ _ (by exact col_lt 0 2304 j (by decide)), canon_cols_skip 1536 _ _ (by exact col_lt 0 1536 j (by decide)), canon_cols_skip 768 _ _ (by exact col_lt 0 768 j (by decide)), canon_cols 0 _ _ j (by simp), prod7]; exact Finset.sum_congr rfl fun k _ => congrArg₂ _ rfl (h0 k)
  | 1 => rw [canon_cols_skip 5376 _ _ (by exact col_lt 1 5376 j (by decide)), canon_cols_skip 4608 _ _ (by exact col_lt 1 4608 j (by decide)), canon_cols_skip 3840 _ _ (by exact col_lt 1 3840 j (by decide)), canon_cols_skip 3072 _ _ (by exact col_lt 1 3072 j (by decide)), canon_cols_skip 2304 _ _ (by exact col_lt 1 2304 j (by decide)), canon_cols_skip 1536 _ _ (by exact col_lt 1 1536 j (by decide)), canon_cols 768 _ _ j (by simp), prod8]; exact Finset.sum_congr rfl fun k _ => congrArg₂ _ rfl (h1 k)
  | 2 => rw [canon_cols_skip 5376 _ _ (by exact col_lt 2 5376 j (by decide)), canon_cols_skip 4608 _ _ (by exact col_lt 2 4608 j (by decide)), canon_cols_skip 3840 _ _ (by exact col_lt 2 3840 j (by decide)), canon_cols_skip 3072 _ _ (by exact col_lt 2 3072 j (by decide)), canon_cols_skip 2304 _ _ (by exact col_lt 2 2304 j (by decide)), canon_cols 1536 _ _ j (by simp), prod9]; exact Finset.sum_congr rfl fun k _ => congrArg₂ _ rfl (h2 k)
  | 3 => rw [canon_cols_skip 5376 _ _ (by exact col_lt 3 5376 j (by decide)), canon_cols_skip 4608 _ _ (by exact col_lt 3 4608 j (by decide)), canon_cols_skip 3840 _ _ (by exact col_lt 3 3840 j (by decide)), canon_cols_skip 3072 _ _ (by exact col_lt 3 3072 j (by decide)), canon_cols 2304 _ _ j (by simp), prod1]; exact Finset.sum_congr rfl fun k _ => congrArg₂ _ rfl (h3 k)
  | 4 => rw [canon_cols_skip 5376 _ _ (by exact col_lt 4 5376 j (by decide)), canon_cols_skip 4608 _ _ (by exact col_lt 4 4608 j (by decide)), canon_cols_skip 3840 _ _ (by exact col_lt 4 3840 j (by decide)), canon_cols 3072 _ _ j (by simp), prod2]; exact Finset.sum_congr rfl fun k _ => congrArg₂ _ rfl (h4 k)
  | 5 => rw [canon_cols_skip 5376 _ _ (by exact col_lt 5 5376 j (by decide)), canon_cols_skip 4608 _ _ (by exact col_lt 5 4608 j (by decide)), canon_cols 3840 _ _ j (by simp), prod3]; exact Finset.sum_congr rfl fun k _ => congrArg₂ _ rfl (h5 k)
  | 6 => rw [canon_cols_skip 5376 _ _ (by exact col_lt 6 5376 j (by decide)), canon_cols 4608 _ _ j (by simp), prod4]; exact Finset.sum_congr rfl fun k _ => congrArg₂ _ rfl (h6 k)
  | 7 => rw [canon_cols 5376 _ _ j (by simp), prod5]; exact Finset.sum_congr rfl fun k _ => congrArg₂ _ rfl (h7 k)

variable (m : (ℓ : Loc nD τ sig) → Buf (Elt Ideal) ℓ) (c : Dev nD)

/-- The weights' scratch holds the weights from the first point on. -/
theorem scr_A (t : Fin cfg0.N) (h0 : t.val % 16 = 0) : (outsAt0 m c t.val t.isLt).2 = V m c main_arg2 := by
  rw [outsAt0_A m c t h0]
  frame_out
  funext y
  exact canon_whole y

theorem scr_B (t : Fin cfg0.N) (h0 : ¬t.val % 16 = 0) : (outsAt0 m c t.val t.isLt).2 = (outsAt0 m c (t.val - 1) (Nat.lt_of_le_of_lt (Nat.sub_le _ _) t.isLt)).2 := by
  rw [outsAt0_B m c t h0]
  frame_out
  rfl

theorem scr : ∀ (n : ℕ) (hn : n < cfg0.N), (outsAt0 m c n hn).2 = V m c main_arg2
  | 0, hn => scr_A m c ⟨0, hn⟩ rfl
  | n + 1, hn => by
    by_cases h0 : (n + 1) % 16 = 0
    · exact scr_A m c ⟨n + 1, hn⟩ h0
    · exact (scr_B m c ⟨n + 1, hn⟩ h0).trans (scr n _)

/-- What a grid point writes. -/
theorem out (t : Fin cfg0.N) (b : Fin 8) (r : Fin 512) (j : Fin 768) :
    (outsAt0 m c t.val t.isLt).1 (ix2 r ⟨b * 768 + j, by omega⟩)
      = ∑ k : Fin 1024, entry (iblk m c 0 t) (iblk m c 1 t) r k * (show FVec Ideal S8x1024x768 .bf16 from V m c main_arg2) (ix3 b k j) := by
  by_cases h0 : t.val % 16 = 0
  · rw [outsAt0_A m c t h0]
    frame_out
    exact pick _ _ _ _ b j (fun k => (rc_slice (a := 8) 0 0 k j).trans rfl) (fun k => (rc_slice (a := 8) 1 0 k j).trans rfl) (fun k => (rc_slice (a := 8) 2 0 k j).trans rfl) (fun k => (rc_slice (a := 8) 3 0 k j).trans rfl) (fun k => (rc_slice (a := 8) 4 0 k j).trans rfl) (fun k => (rc_slice (a := 8) 5 0 k j).trans rfl) (fun k => (rc_slice (a := 8) 6 0 k j).trans rfl) (fun k => (rc_slice (a := 8) 7 0 k j).trans rfl)
  · rw [outsAt0_B m c t h0]
    frame_out
    have hw := scr m c (t.val - 1) (Nat.lt_of_le_of_lt (Nat.sub_le _ _) t.isLt)
    have hr := (Memref.IsWhole.read_unread (Memref.isWhole_whole cc0_scratch0) (outsAt0 m c (t.val - 1) (Nat.lt_of_le_of_lt (Nat.sub_le _ _) t.isLt)).2).trans hw
    exact pick _ _ _ _ b j (fun k => (ld_slice (a := 8) 0 0 k j).trans (congrFun hr _)) (fun k => (ld_slice (a := 8) 1 0 k j).trans (congrFun hr _)) (fun k => (ld_slice (a := 8) 2 0 k j).trans (congrFun hr _)) (fun k => (ld_slice (a := 8) 3 0 k j).trans (congrFun hr _)) (fun k => (ld_slice (a := 8) 4 0 k j).trans (congrFun hr _)) (fun k => (ld_slice (a := 8) 5 0 k j).trans (congrFun hr _)) (fun k => (ld_slice (a := 8) 6 0 k j).trans (congrFun hr _)) (fun k => (ld_slice (a := 8) 7 0 k j).trans (congrFun hr _))

/-! ## The array -/

/-- Which part of its array each window holds at a grid point. -/
theorem idx : ∀ t : Fin cfg0.N, win0_0.index t = ![t.val % 16, 0] ∧ win0_1.index t = ![0, 0] ∧ win0_2.index t = ![t.val % 16, 0] :=
  (by decide +kernel : ∀ t : Fin grid0.N, _)

theorem lt16 (t : Fin cfg0.N) : t.val < 16 := lt_of_lt_of_eq t.isLt N_0

/-- The normalised rows times the weights, whose columns lie in eight blocks. -/
def arr (x : FVec Ideal S8192x1024 .f32) (g : FVec Ideal S1x1024 .f32) (w : FVec Ideal S8x1024x768 .bf16) : FVec Ideal S8192x6144 .f32 :=
  fun q => ∑ k : Fin 1024, entry x g (q 0) k * w (ix3 ⟨(q 1 : ℕ) / 768, by have h : (q 1 : ℕ) < 6144 := (q 1).isLt; omega⟩ k ⟨(q 1 : ℕ) % 768, Nat.mod_lt _ (by decide)⟩)

theorem final : (dats m 0 c).arrAt 2 (cfgs 0).N
    = arr (m ((c : Thread nD τ).loc main_arg0)) (m ((c : Thread nD τ).loc main_arg1)) (m ((c : Thread nD τ).loc main_arg2)) := by
  refine (dats m 0 c).arrAt_eq_of_covers 2 _ (by decide +kernel) fun t _ y => ?_
  blk_simp
  rw [after0_2]
  have hN : t.val < 16 := lt16 t
  obtain ⟨r, q, rfl⟩ : ∃ (r : Fin 512) (q : Fin 6144), y = ix2 r q := ⟨y 0, y 1, eq_ix2 y⟩
  obtain ⟨b, j, rfl⟩ : ∃ (b : Fin 8) (j : Fin 768), q = ⟨b * 768 + j, by omega⟩ :=
    ⟨⟨q / 768, by omega⟩, ⟨q % 768, Nat.mod_lt _ (by decide)⟩, Fin.ext (by show (q : ℕ) = q / 768 * 768 + q % 768; omega)⟩
  refine (out m c t b r j).trans ?_
  refine Eq.trans (b := arr (m ((c : Thread nD τ).loc main_arg0)) (m ((c : Thread nD τ).loc main_arg1)) (m ((c : Thread nD τ).loc main_arg2))
    (ix2 ⟨t.val * 512 + r, by omega⟩ ⟨b * 768 + j, by omega⟩)) ?_ ?_
  · refine Finset.sum_congr rfl fun k _ => congrArg₂ _ (entry_congr (fun d => ?_) (fun d => ?_) _) ?_
    · blk_ext [iblk, V, idx t]
    · blk_ext [iblk, V, idx t]
    · refine congrArg (show FVec Ideal S8x1024x768 .bf16 from m ((c : Thread nD τ).loc main_arg2)) (congrArg₂ (fun p s => ix3 p k s) (Fin.ext ?_) (Fin.ext ?_))
      · show (b : ℕ) = (b * 768 + j) / 768; omega
      · show (j : ℕ) = (b * 768 + j) % 768; omega
  · blk_ext [idx t]

end Prj

end
-- ==== Proof.ProjectionReference.lean ====
/- The projection onto the heads' columns: the reference's array, and the claims. -/
module

public import proofs.«01_k».proof.Defs
public import proofs.«01_k».proof.Proof.ProjectionKernel
public import proofs.«01_k».proof.Proof.Gen.Projection.Frame
public import proofs.«01_k».proof.Proof.Gen.ProjectionReferenceIdeal.Read
public import Idealize.ShloMosaic.Adequacy

@[expose] public section

set_option maxRecDepth 16384

noncomputable section

namespace Prj

open Idealize.ShloMosaic Idealize.ShloMosaic.TcCoe Idealize.SL.Sem
open Cert.ProjectionReferenceIdeal Cert.ProjectionReferenceIdeal.Read RowNorm

variable (x : FVec Ideal S8192x1024 .f32) (g : FVec Ideal S1x1024 .f32) (w : FVec Ideal S8x1024x768 .bf16)

theorem ref_norm (l : Fin 8192) (k : Fin 1024) : val_main_v13 (F := Ideal) x g (ix2 l k) = entry x g l k := by
  pointwise [val_main_v13, val_main_v12, val_main_v11, val_main_v10, val_main_v9, val_main_v8, val_main_v7, val_main_v6, val_main_cst_1,
    val_main_v5, val_main_v4, val_main_cst_0, val_main_v3, val_main_v2, val_main_cst, val_main_v1, val_main_v0]
  rfl

/-- The blocks of columns side by side. -/
theorem ref_cols (k : Fin 1024) (q : Fin 6144) :
    (val_main_v16 (F := Ideal) w (ix2 k q) : EReal) = w (ix3 ⟨q / 768, by omega⟩ k ⟨q % 768, Nat.mod_lt _ (by decide)⟩) := by
  pointwise [val_main_v16, val_main_v15, val_main_v14]
  blk_ext

theorem ref_eq : val_main_v17 (F := Ideal) x g w = arr x g w := by
  funext q
  obtain ⟨l, j, rfl⟩ : ∃ (l : Fin 8192) (j : Fin 6144), q = ix2 l j := ⟨q 0, q 1, eq_ix2 q⟩
  have h : val_main_v17 (F := Ideal) x g w (ix2 l j) = ∑ k : Fin 1024, entry x g l k * val_main_v16 (F := Ideal) w (ix2 k j) := by
    simp only [← ref_norm]
    pointwise [val_main_v17]
  rw [h]
  exact Finset.sum_congr rfl fun k _ => congrArg₂ _ rfl (ref_cols w k j)

end Prj

open Idealize.ShloMosaic Idealize.SL.Sem

namespace Cert.Proof

/-- Both programs run and leave the same array. -/
theorem projection_algebraic : algebraic_ProjectionIdeal_ProjectionReferenceIdeal := by
  intro m g m' g' _ hagree
  refine ⟨fun c => Prj.arr (m (c.tc.loc Cert.ProjectionIdeal.main_arg0)) (m (c.tc.loc Cert.ProjectionIdeal.main_arg1)) (m (c.tc.loc Cert.ProjectionIdeal.main_arg2)), ?_, ?_⟩
  · refine (θ_run _ _ _).mono (fun r h c => ?_) (θ_run_and (Cert.ProjectionIdeal.Gen.run_main m g) (Cert.ProjectionIdeal.Gen.unchanged m g))
    exact ⟨((h.1 c).1 2).trans (Prj.final m c), h.2 c⟩
  · refine (θ_run _ _ _).mono (fun r h c => ?_) (Cert.ProjectionReferenceIdeal.Value.run m' g')
    obtain ⟨e0, e1, e2⟩ := hagree c
    obtain ⟨h0, ha⟩ := h c
    refine ⟨h0.trans ((Cert.ProjectionReferenceIdeal.Read.val_main_v17_eq _ _ _).trans ((Prj.ref_eq _ _ _).trans ?_)), ha⟩
    rw [e0, e1, e2]

/-- The reference's arguments end unchanged; it has no semaphore. -/
theorem projection_reference_frame : quiescent_ProjectionReferenceIdeal := fun m ρ _ =>
  (θ_run _ _ _).mono (fun r h => ⟨fun c => (h c).2, sem_eq_zero_of_no_sems (by decide) r.2⟩)
    (Cert.ProjectionReferenceIdeal.Value.run m ρ)

end Cert.Proof

end
-- ==== Proof.FirstProjectionKernel.lean ====
/- The first projection, whose leading columns are also laid out lane by lane: the arrays the kernel leaves. -/
module

public import proofs.«01_k».proof.Proof.RowNorm
public import proofs.«01_k».proof.Proof.Pieces
public import proofs.«01_k».proof.Proof.Gen.FirstProjectionIdeal.Frame
public import Idealize.ShloMosaic.Lib.Pipeline.ValueKit

@[expose] public section

set_option maxRecDepth 16384

noncomputable section

namespace First

open Idealize.ShloMosaic Idealize.ShloMosaic.TcCoe Idealize.SL.Sem
open Cert.FirstProjectionIdeal Cert.FirstProjectionIdeal.Gen RowNorm Pieces

section
variable (x : FVec Ideal S512x1024 .f32) (g : FVec Ideal S1x1024 .f32) (w : FVec Ideal S1x1024x768 .bf16) (r : Fin 512)

theorem norm (k : Fin 1024) : (k0_pay2 (F := Ideal) x g (ix2 r k) : EReal) = entry x g r k := by
  pointwise [k0_pay2]
  rfl

/-- One product with one device's columns. -/
abbrev prod (j : Fin 768) : EReal := ∑ k : Fin 1024, entry x g r k * w (ix3 0 k j)

theorem prod3 (j : Fin 768) : k0_pay3 (F := Ideal) x g w (ix2 r j) = prod x g w r j := by simp only [prod, ← norm]; pointwise [k0_pay3]
theorem prod4 (j : Fin 768) : k0_pay4 (F := Ideal) x g w (ix2 r j) = prod x g w r j := by simp only [prod, ← norm]; pointwise [k0_pay4]
theorem prod5 (j : Fin 768) : k0_pay5 (F := Ideal) x g w (ix2 r j) = prod x g w r j := by simp only [prod, ← norm]; pointwise [k0_pay5]
theorem prod6 (j : Fin 768) : k0_pay6 (F := Ideal) (k0_pay2 (F := Ideal) x g) w (ix2 r j) = prod x g w r j := by simp only [prod, ← norm]; pointwise [k0_pay6]
theorem prod7 (j : Fin 768) : k0_pay7 (F := Ideal) (k0_pay2 (F := Ideal) x g) w (ix2 r j) = prod x g w r j := by simp only [prod, ← norm]; pointwise [k0_pay7]
theorem prod8 (j : Fin 768) : k0_pay8 (F := Ideal) (k0_pay2 (F := Ideal) x g) w (ix2 r j) = prod x g w r j := by simp only [prod, ← norm]; pointwise [k0_pay8]
theorem prod9 (j : Fin 768) : k0_pay9 (F := Ideal) (k0_pay2 (F := Ideal) x g) w (ix2 r j) = prod x g w r j := by simp only [prod, ← norm]; pointwise [k0_pay9]
theorem prod10 (j : Fin 768) : k0_pay10 (F := Ideal) (k0_pay2 (F := Ideal) x g) w (ix2 r j) = prod x g w r j := by simp only [prod, ← norm]; pointwise [k0_pay10]

/-- A column of block `b` lies left of what comes later. -/
theorem col_lt (b o : ℕ) (j : Fin 768) (h : b * 768 + 768 ≤ o) : b * 768 + (j : ℕ) < o ∨ o + 768 ≤ b * 768 + (j : ℕ) := by omega

/-- One entry of the normalised rows times the weights, whose columns lie in eight blocks. -/
def col {n : ℕ} (x : (⟨2, ![n, 1024]⟩ : Shape).Idx → EReal) (g : (⟨2, ![1, 1024]⟩ : Shape).Idx → EReal) (W : (⟨3, ![8, 1024, 768]⟩ : Shape).Idx → EReal)
    (r : Fin n) (q : Fin 6144) : EReal :=
  ∑ k : Fin 1024, entry x g r k * W (ix3 ⟨q / 768, by omega⟩ k ⟨q % 768, Nat.mod_lt _ (by decide)⟩)

/-- The eight stores, each a block of columns, are one product. -/
theorem pick {w0 w1 w2 w3 w4 w5 w6 w7 : FVec Ideal S1x1024x768 .bf16} (W : FVec Ideal S8x1024x768 .bf16) (q : Fin 6144)
    (h0 : ∀ k j, w0 (ix3 0 k j) = W (ix3 0 k j))
    (h1 : ∀ k j, w1 (ix3 0 k j) = W (ix3 1 k j))
    (h2 : ∀ k j, w2 (ix3 0 k j) = W (ix3 2 k j))
    (h3 : ∀ k j, w3 (ix3 0 k j) = W (ix3 3 k j))
    (h4 : ∀ k j, w4 (ix3 0 k j) = W (ix3 4 k j))
    (h5 : ∀ k j, w5 (ix3 0 k j) = W (ix3 5 k j))
    (h6 : ∀ k j, w6 (ix3 0 k j) = W (ix3 6 k j))
    (h7 : ∀ k j, w7 (ix3 0 k j) = W (ix3 7 k j)) :
    View.canon (Val := Elt Ideal) (s := S512x6144) (e := .f32) [
      ⟨Rect.unit (s := S512x6144) ![0, 5376] ![512, 768] inb_S512x6144_S512x768_0_5376, k0_pay10 (F := Ideal) (k0_pay2 (F := Ideal) x g) w7⟩,
      ⟨Rect.unit (s := S512x6144) ![0, 4608] ![512, 768] inb_S512x6144_S512x768_0_4608, k0_pay9 (F := Ideal) (k0_pay2 (F := Ideal) x g) w6⟩,
      ⟨Rect.unit (s := S512x6144) ![0, 3840] ![512, 768] inb_S512x6144_S512x768_0_3840, k0_pay8 (F := Ideal) (k0_pay2 (F := Ideal) x g) w5⟩,
      ⟨Rect.unit (s := S512x6144) ![0, 3072] ![512, 768] inb_S512x6144_S512x768_0_3072, k0_pay7 (F := Ideal) (k0_pay2 (F := Ideal) x g) w4⟩,
      ⟨Rect.unit (s := S512x6144) ![0, 2304] ![512, 768] inb_S512x6144_S512x768_0_2304, k0_pay6 (F := Ideal) (k0_pay2 (F := Ideal) x g) w3⟩,
      ⟨Rect.unit (s := S512x6144) ![0, 1536] ![512, 768] inb_S512x6144_S512x768_0_1536, k0_pay5 (F := Ideal) x g w2⟩,
      ⟨Rect.unit (s := S512x6144) ![0, 768] ![512, 768] inb_S512x6144_S512x768_0_768, k0_pay4 (F := Ideal) x g w1⟩,
      ⟨Rect.unit (s := S512x6144) ![0, 0] ![512, 768] inb_S512x6144_S512x768_0_0, k0_pay3 (F := Ideal) x g w0⟩] (ix2 r q) = col x g W r q := by
  obtain ⟨b, j, rfl⟩ : ∃ (b : Fin 8) (j : Fin 768), q = ⟨b * 768 + j, by omega⟩ :=
    ⟨⟨q / 768, by omega⟩, ⟨q % 768, Nat.mod_lt _ (by decide)⟩, Fin.ext (by show (q : ℕ) = q / 768 * 768 + q % 768; omega)⟩
  have hc : col x g W r ⟨b * 768 + j, by omega⟩ = ∑ k : Fin 1024, entry x g r k * W (ix3 b k j) := by
    refine Finset.sum_congr rfl fun k _ => congrArg₂ _ rfl (congrArg W (congrArg₂ (fun p s => ix3 p k s) (Fin.ext ?_) (Fin.ext ?_)))
    · show ((b : ℕ) * 768 + j) / 768 = b; omega
    · show ((b : ℕ) * 768 + j) % 768 = j; omega
  rw [hc]
  match b with
  | 0 => rw [canon_cols_skip 5376 _ _ (by exact col_lt 0 5376 j (by decide)), canon_cols_skip 4608 _ _ (by exact col_lt 0 4608 j (by decide)), canon_cols_skip 3840 _ _ (by exact col_lt 0 3840 j (by decide)), canon_cols_skip 3072 _ _ (by exact col_lt 0 3072 j (by decide)), canon_cols_skip 2304 _ _ (by exact col_lt 0 2304 j (by decide)), canon_cols_skip 1536 _ _ (by exact col_lt 0 1536 j (by decide)), canon_cols_skip 768 _ _ (by exact col_lt 0 768 j (by decide)), canon_cols 0 _ _ j (by simp), prod3]; exact Finset.sum_congr rfl fun k _ => congrArg₂ _ rfl (h0 k j)
  | 1 => rw [canon_cols_skip 5376 _ _ (by exact col_lt 1 5376 j (by decide)), canon_cols_skip 4608 _ _ (by exact col_lt 1 4608 j (by decide)), canon_cols_skip 3840 _ _ (by exact col_lt 1 3840 j (by decide)), canon_cols_skip 3072 _ _ (by exact col_lt 1 3072 j (by decide)), canon_cols_skip 2304 _ _ (by exact col_lt 1 2304 j (by decide)), canon_cols_skip 1536 _ _ (by exact col_lt 1 1536 j (by decide)), canon_cols 768 _ _ j (by simp), prod4]; exact Finset.sum_congr rfl fun k _ => congrArg₂ _ rfl (h1 k j)
  | 2 => rw [canon_cols_skip 5376 _ _ (by exact col_lt 2 5376 j (by decide)), canon_cols_skip 4608 _ _ (by exact col_lt 2 4608 j (by decide)), canon_cols_skip 3840 _ _ (by exact col_lt 2 3840 j (by decide)), canon_cols_skip 3072 _ _ (by exact col_lt 2 3072 j (by decide)), canon_cols_skip 2304 _ _ (by exact col_lt 2 2304 j (by decide)), canon_cols 1536 _ _ j (by simp), prod5]; exact Finset.sum_congr rfl fun k _ => congrArg₂ _ rfl (h2 k j)
  | 3 => rw [canon_cols_skip 5376 _ _ (by exact col_lt 3 5376 j (by decide)), canon_cols_skip 4608 _ _ (by exact col_lt 3 4608 j (by decide)), canon_cols_skip 3840 _ _ (by exact col_lt 3 3840 j (by decide)), canon_cols_skip 3072 _ _ (by exact col_lt 3 3072 j (by decide)), canon_cols 2304 _ _ j (by simp), prod6]; exact Finset.sum_congr rfl fun k _ => congrArg₂ _ rfl (h3 k j)
  | 4 => rw [canon_cols_skip 5376 _ _ (by exact col_lt 4 5376 j (by decide)), canon_cols_skip 4608 _ _ (by exact col_lt 4 4608 j (by decide)), canon_cols_skip 3840 _ _ (by exact col_lt 4 3840 j (by decide)), canon_cols 3072 _ _ j (by simp), prod7]; exact Finset.sum_congr rfl fun k _ => congrArg₂ _ rfl (h4 k j)
  | 5 => rw [canon_cols_skip 5376 _ _ (by exact col_lt 5 5376 j (by decide)), canon_cols_skip 4608 _ _ (by exact col_lt 5 4608 j (by decide)), canon_cols 3840 _ _ j (by simp), prod8]; exact Finset.sum_congr rfl fun k _ => congrArg₂ _ rfl (h5 k j)
  | 6 => rw [canon_cols_skip 5376 _ _ (by exact col_lt 6 5376 j (by decide)), canon_cols 4608 _ _ j (by simp), prod9]; exact Finset.sum_congr rfl fun k _ => congrArg₂ _ rfl (h6 k j)
  | 7 => rw [canon_cols 5376 _ _ j (by simp), prod10]; exact Finset.sum_congr rfl fun k _ => congrArg₂ _ rfl (h7 k j)

end

/-! ## The lane blocks -/

theorem lane0 (v : FVec Ideal S512x1024 .f32) (r : Fin 512) (j : Fin 128) : k0_pay12 (F := Ideal) v (ix3 0 r j) = v (ix2 r ⟨0 * 128 + j, by omega⟩) := by
  pointwise [k0_pay12, k0_pay11]
  blk_ext
theorem lane1 (v : FVec Ideal S512x1024 .f32) (r : Fin 512) (j : Fin 128) : k0_pay13 (F := Ideal) v (ix3 0 r j) = v (ix2 r ⟨1 * 128 + j, by omega⟩) := by
  pointwise [k0_pay13, k0_pay11]
  blk_ext
theorem lane2 (v : FVec Ideal S512x1024 .f32) (r : Fin 512) (j : Fin 128) : k0_pay14 (F := Ideal) v (ix3 0 r j) = v (ix2 r ⟨2 * 128 + j, by omega⟩) := by
  pointwise [k0_pay14, k0_pay11]
  blk_ext
theorem lane3 (v : FVec Ideal S512x1024 .f32) (r : Fin 512) (j : Fin 128) : k0_pay15 (F := Ideal) v (ix3 0 r j) = v (ix2 r ⟨3 * 128 + j, by omega⟩) := by
  pointwise [k0_pay15, k0_pay11]
  blk_ext
theorem lane4 (v : FVec Ideal S512x1024 .f32) (r : Fin 512) (j : Fin 128) : k0_pay16 (F := Ideal) v (ix3 0 r j) = v (ix2 r ⟨4 * 128 + j, by omega⟩) := by
  pointwise [k0_pay16, k0_pay11]
  blk_ext
theorem lane5 (v : FVec Ideal S512x1024 .f32) (r : Fin 512) (j : Fin 128) : k0_pay17 (F := Ideal) v (ix3 0 r j) = v (ix2 r ⟨5 * 128 + j, by omega⟩) := by
  pointwise [k0_pay17, k0_pay11]
  blk_ext
theorem lane6 (v : FVec Ideal S512x1024 .f32) (r : Fin 512) (j : Fin 128) : k0_pay18 (F := Ideal) v (ix3 0 r j) = v (ix2 r ⟨6 * 128 + j, by omega⟩) := by
  pointwise [k0_pay18, k0_pay11]
  blk_ext
theorem lane7 (v : FVec Ideal S512x1024 .f32) (r : Fin 512) (j : Fin 128) : k0_pay1 (F := Ideal) (k0_pay19 (F := Ideal) v) (ix3 0 r j) = v (ix2 r ⟨7 * 128 + j, by omega⟩) := by
  pointwise [k0_pay1, k0_pay19, k0_pay11]
  blk_ext

/-- Lane block `b` holds columns `128 b`, …, `128 b + 127`. -/
theorem lanes (v : FVec Ideal S512x1024 .f32) (b : Fin 8) (r : Fin 512) (j : Fin 128) :
    View.canon (Val := Elt Ideal) (s := S8x512x128) (e := .f32) [
      ⟨Rect.unit (s := S8x512x128) ![7, 0, 0] ![1, 512, 128] inb_S8x512x128_S1x512x128_7_0_0, k0_pay1 (F := Ideal) (k0_pay19 (F := Ideal) v)⟩,
      ⟨Rect.unit (s := S8x512x128) ![6, 0, 0] ![1, 512, 128] inb_S8x512x128_S1x512x128_6_0_0, k0_pay18 (F := Ideal) v⟩,
      ⟨Rect.unit (s := S8x512x128) ![5, 0, 0] ![1, 512, 128] inb_S8x512x128_S1x512x128_5_0_0, k0_pay17 (F := Ideal) v⟩,
      ⟨Rect.unit (s := S8x512x128) ![4, 0, 0] ![1, 512, 128] inb_S8x512x128_S1x512x128_4_0_0, k0_pay16 (F := Ideal) v⟩,
      ⟨Rect.unit (s := S8x512x128) ![3, 0, 0] ![1, 512, 128] inb_S8x512x128_S1x512x128_3_0_0, k0_pay15 (F := Ideal) v⟩,
      ⟨Rect.unit (s := S8x512x128) ![2, 0, 0] ![1, 512, 128] inb_S8x512x128_S1x512x128_2_0_0, k0_pay14 (F := Ideal) v⟩,
      ⟨Rect.unit (s := S8x512x128) ![1, 0, 0] ![1, 512, 128] inb_S8x512x128_S1x512x128_1_0_0, k0_pay13 (F := Ideal) v⟩,
      ⟨Rect.unit (s := S8x512x128) ![0, 0, 0] ![1, 512, 128] inb_S8x512x128_S1x512x128_0_0_0, k0_pay12 (F := Ideal) v⟩] (ix3 b r j) = v (ix2 r ⟨b * 128 + j, by omega⟩) := by
  match b with
  | 0 => rw [canon_slice_skip 7 _ _ _ (by decide), canon_slice_skip 6 _ _ _ (by decide), canon_slice_skip 5 _ _ _ (by decide), canon_slice_skip 4 _ _ _ (by decide), canon_slice_skip 3 _ _ _ (by decide), canon_slice_skip 2 _ _ _ (by decide), canon_slice_skip 1 _ _ _ (by decide), canon_slice 0 _ _ _ rfl, lane0]; rfl
  | 1 => rw [canon_slice_skip 7 _ _ _ (by decide), canon_slice_skip 6 _ _ _ (by decide), canon_slice_skip 5 _ _ _ (by decide), canon_slice_skip 4 _ _ _ (by decide), canon_slice_skip 3 _ _ _ (by decide), canon_slice_skip 2 _ _ _ (by decide), canon_slice 1 _ _ _ rfl, lane1]; rfl
  | 2 => rw [canon_slice_skip 7 _ _ _ (by decide), canon_slice_skip 6 _ _ _ (by decide), canon_slice_skip 5 _ _ _ (by decide), canon_slice_skip 4 _ _ _ (by decide), canon_slice_skip 3 _ _ _ (by decide), canon_slice 2 _ _ _ rfl, lane2]; rfl
  | 3 => rw [canon_slice_skip 7 _ _ _ (by decide), canon_slice_skip 6 _ _ _ (by decide), canon_slice_skip 5 _ _ _ (by decide), canon_slice_skip 4 _ _ _ (by decide), canon_slice 3 _ _ _ rfl, lane3]; rfl
  | 4 => rw [canon_slice_skip 7 _ _ _ (by decide), canon_slice_skip 6 _ _ _ (by decide), canon_slice_skip 5 _ _ _ (by decide), canon_slice 4 _ _ _ rfl, lane4]; rfl
  | 5 => rw [canon_slice_skip 7 _ _ _ (by decide), canon_slice_skip 6 _ _ _ (by decide), canon_slice 5 _ _ _ rfl, lane5]; rfl
  | 6 => rw [canon_slice_skip 7 _ _ _ (by decide), canon_slice 6 _ _ _ rfl, lane6]; rfl
  | 7 => rw [canon_slice 7 _ _ _ rfl, lane7]; rfl

/-! ## The grid points -/

variable (m : (ℓ : Loc nD τ sig) → Buf (Elt Ideal) ℓ) (c : Dev nD)

/-- The weights. -/
abbrev wts : FVec Ideal S8x1024x768 .bf16 := V m c main_arg2

/-- The weights' scratch holds the weights from the first point on. -/
theorem scr_A (t : Fin cfg0.N) (h0 : t.val % 16 = 0) : (outsAt0 m c t.val t.isLt).2.2 = wts m c := by
  rw [outsAt0_A m c t h0]
  frame_out
  funext y
  exact canon_whole y

theorem scr_B (t : Fin cfg0.N) (h0 : ¬t.val % 16 = 0) : (outsAt0 m c t.val t.isLt).2.2 = (outsAt0 m c (t.val - 1) (Nat.lt_of_le_of_lt (Nat.sub_le _ _) t.isLt)).2.2 := by
  rw [outsAt0_B m c t h0]
  frame_out
  rfl

theorem scr : ∀ (n : ℕ) (hn : n < cfg0.N), (outsAt0 m c n hn).2.2 = wts m c
  | 0, hn => scr_A m c ⟨0, hn⟩ rfl
  | n + 1, hn => by
    by_cases h0 : (n + 1) % 16 = 0
    · exact scr_A m c ⟨n + 1, hn⟩ h0
    · exact (scr_B m c ⟨n + 1, hn⟩ h0).trans (scr n _)

/-- The scratch before a later point, read back. -/
theorem read_scr (t : Fin cfg0.N) : View.read (Elt Ideal) (View.whole cc0_scratch0)
    ((Memref.isWhole_whole cc0_scratch0).unread (outsAt0 m c (t.val - 1) (Nat.lt_of_le_of_lt (Nat.sub_le _ _) t.isLt)).2.2) = wts m c :=
  (Memref.IsWhole.read_unread (Memref.isWhole_whole cc0_scratch0) (outsAt0 m c (t.val - 1) (Nat.lt_of_le_of_lt (Nat.sub_le _ _) t.isLt)).2.2).trans (scr m c _ _)

/-- What a grid point writes. -/
theorem out_col (t : Fin cfg0.N) (r : Fin 512) (q : Fin 6144) :
    (outsAt0 m c t.val t.isLt).1 (ix2 r q) = col (iblk m c 0 t) (iblk m c 1 t) (wts m c) r q := by
  by_cases h0 : t.val % 16 = 0
  · rw [outsAt0_A m c t h0]
    frame_out
    exact pick _ _ _ _ q (fun k j => (rc_slice (a := 8) 0 0 k j).trans rfl) (fun k j => (rc_slice (a := 8) 1 0 k j).trans rfl) (fun k j => (rc_slice (a := 8) 2 0 k j).trans rfl) (fun k j => (rc_slice (a := 8) 3 0 k j).trans rfl) (fun k j => (rc_slice (a := 8) 4 0 k j).trans rfl) (fun k j => (rc_slice (a := 8) 5 0 k j).trans rfl) (fun k j => (rc_slice (a := 8) 6 0 k j).trans rfl) (fun k j => (rc_slice (a := 8) 7 0 k j).trans rfl)
  · rw [outsAt0_B m c t h0]
    frame_out
    have hr := read_scr m c t
    exact pick _ _ _ _ q (fun k j => (ld_slice (a := 8) 0 0 k j).trans (congrFun hr _)) (fun k j => (ld_slice (a := 8) 1 0 k j).trans (congrFun hr _)) (fun k j => (ld_slice (a := 8) 2 0 k j).trans (congrFun hr _)) (fun k j => (ld_slice (a := 8) 3 0 k j).trans (congrFun hr _)) (fun k j => (ld_slice (a := 8) 4 0 k j).trans (congrFun hr _)) (fun k j => (ld_slice (a := 8) 5 0 k j).trans (congrFun hr _)) (fun k j => (ld_slice (a := 8) 6 0 k j).trans (congrFun hr _)) (fun k j => (ld_slice (a := 8) 7 0 k j).trans (congrFun hr _))

theorem out_lane (t : Fin cfg0.N) (b : Fin 8) (r : Fin 512) (j : Fin 128) :
    (outsAt0 m c t.val t.isLt).2.1 (ix3 b r j) = col (iblk m c 0 t) (iblk m c 1 t) (wts m c) r ⟨0 + (b * 128 + j), by omega⟩ := by
  by_cases h0 : t.val % 16 = 0
  · rw [outsAt0_A m c t h0]
    frame_out
    refine (lanes _ b r j).trans ?_
    rw [View.readCov_eq_canon']
    refine (ld_cols 0 r _ (by show 0 + ((b : ℕ) * 128 + j) < 6144; omega)).trans ?_
    exact pick _ _ _ _ _ (fun k j => (rc_slice (a := 8) 0 0 k j).trans rfl) (fun k j => (rc_slice (a := 8) 1 0 k j).trans rfl) (fun k j => (rc_slice (a := 8) 2 0 k j).trans rfl) (fun k j => (rc_slice (a := 8) 3 0 k j).trans rfl) (fun k j => (rc_slice (a := 8) 4 0 k j).trans rfl) (fun k j => (rc_slice (a := 8) 5 0 k j).trans rfl) (fun k j => (rc_slice (a := 8) 6 0 k j).trans rfl) (fun k j => (rc_slice (a := 8) 7 0 k j).trans rfl)
  · rw [outsAt0_B m c t h0]
    frame_out
    have hr := read_scr m c t
    refine (lanes _ b r j).trans ?_
    rw [View.readCov_eq_canon']
    refine (ld_cols 0 r _ (by show 0 + ((b : ℕ) * 128 + j) < 6144; omega)).trans ?_
    exact pick _ _ _ _ _ (fun k j => (ld_slice (a := 8) 0 0 k j).trans (congrFun hr _)) (fun k j => (ld_slice (a := 8) 1 0 k j).trans (congrFun hr _)) (fun k j => (ld_slice (a := 8) 2 0 k j).trans (congrFun hr _)) (fun k j => (ld_slice (a := 8) 3 0 k j).trans (congrFun hr _)) (fun k j => (ld_slice (a := 8) 4 0 k j).trans (congrFun hr _)) (fun k j => (ld_slice (a := 8) 5 0 k j).trans (congrFun hr _)) (fun k j => (ld_slice (a := 8) 6 0 k j).trans (congrFun hr _)) (fun k j => (ld_slice (a := 8) 7 0 k j).trans (congrFun hr _))

/-! ## The final arrays -/

theorem idx : ∀ t : Fin cfg0.N, win0_0.index t = ![t.val % 16, 0] ∧ win0_1.index t = ![0, 0] ∧ win0_2.index t = ![t.val % 16, 0]
    ∧ win0_3.index t = ![0, t.val % 16, 0] :=
  (by decide +kernel : ∀ t : Fin grid0.N, _)

theorem lt16 (t : Fin cfg0.N) : t.val < 16 := lt_of_lt_of_eq t.isLt N_0

/-- The projection. -/
def arr (x : FVec Ideal S8192x1024 .f32) (g : FVec Ideal S1x1024 .f32) (w : FVec Ideal S8x1024x768 .bf16) : FVec Ideal S8192x6144 .f32 :=
  fun q => col x g w (q 0) (q 1)

/-- Its first 1024 columns, lane by lane. -/
def laneArr (x : FVec Ideal S8192x1024 .f32) (g : FVec Ideal S1x1024 .f32) (w : FVec Ideal S8x1024x768 .bf16) : FVec Ideal S8x8192x128 .f32 :=
  fun q => col x g w (q 1) ⟨q 0 * 128 + q 2, by have h0 : (q 0 : ℕ) < 8 := (q 0).isLt; have h2 : (q 2 : ℕ) < 128 := (q 2).isLt; omega⟩

/-- A row of a point's block, read in the arrays. -/
theorem point (t : Fin cfg0.N) (r : Fin 512) (h : t.val * 512 + (r : ℕ) < 8192) (q q' : Fin 6144) (hq : (q : ℕ) = q') :
    col (iblk m c 0 t) (iblk m c 1 t) (wts m c) r q = col (m ((c : Thread nD τ).loc main_arg0)) (m ((c : Thread nD τ).loc main_arg1)) (m ((c : Thread nD τ).loc main_arg2)) ⟨t.val * 512 + r, h⟩ q' := by
  obtain rfl : q = q' := Fin.ext hq
  have hN : t.val < 16 := lt16 t
  refine Finset.sum_congr rfl fun k _ => congrArg₂ _ (entry_congr (fun d => ?_) (fun d => ?_) _) rfl
  · blk_ext [iblk, V, idx t]
  · blk_ext [iblk, V, idx t]

theorem final : (dats m 0 c).arrAt 2 (cfgs 0).N = arr (m ((c : Thread nD τ).loc main_arg0)) (m ((c : Thread nD τ).loc main_arg1)) (m ((c : Thread nD τ).loc main_arg2)) := by
  refine (dats m 0 c).arrAt_eq_of_covers 2 _ (by decide +kernel) fun t _ y => ?_
  blk_simp
  rw [after0_2]
  have hN : t.val < 16 := lt16 t
  obtain ⟨r, q, rfl⟩ : ∃ (r : Fin 512) (q : Fin 6144), y = ix2 r q := ⟨y 0, y 1, eq_ix2 y⟩
  refine (out_col m c t r q).trans ?_
  refine Eq.trans (b := arr (m ((c : Thread nD τ).loc main_arg0)) (m ((c : Thread nD τ).loc main_arg1)) (m ((c : Thread nD τ).loc main_arg2)) (ix2 ⟨t.val * 512 + r, by omega⟩ q)) ?_ ?_
  · exact point m c t r _ q _ rfl
  · blk_ext [idx t]

theorem final_lane : (dats m 0 c).arrAt 3 (cfgs 0).N = laneArr (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  have hN : t.val < 16 := lt16 t
  obtain ⟨b, r, j, rfl⟩ : ∃ (b : Fin 8) (r : Fin 512) (j : Fin 128), y = ix3 b r j := ⟨y 0, y 1, y 2, eq_ix3 y⟩
  refine (out_lane m c t b r j).trans ?_
  refine Eq.trans (b := laneArr (m ((c : Thread nD τ).loc main_arg0)) (m ((c : Thread nD τ).loc main_arg1)) (m ((c : Thread nD τ).loc main_arg2)) (ix3 b ⟨t.val * 512 + r, by omega⟩ j)) ?_ ?_
  · exact point m c t r _ _ _ (by show 0 + ((b : ℕ) * 128 + j) = b * 128 + j; omega)
  · blk_ext [idx t]

end First

end
-- ==== Proof.FirstProjectionReference.lean ====
/- The first projection: the reference's arrays, and the claims. -/
module

public import proofs.«01_k».proof.Defs
public import proofs.«01_k».proof.Proof.FirstProjectionKernel
public import proofs.«01_k».proof.Proof.Gen.FirstProjection.Frame
public import proofs.«01_k».proof.Proof.Gen.FirstProjectionReferenceIdeal.Read
public import Idealize.ShloMosaic.Adequacy

@[expose] public section

set_option maxRecDepth 16384

noncomputable section

namespace First

open Idealize.ShloMosaic Idealize.ShloMosaic.TcCoe Idealize.SL.Sem
open Cert.FirstProjectionReferenceIdeal Cert.FirstProjectionReferenceIdeal.Read RowNorm

variable (x : FVec Ideal S8192x1024 .f32) (g : FVec Ideal S1x1024 .f32) (w : FVec Ideal S8x1024x768 .bf16)

theorem ref_norm (l : Fin 8192) (k : Fin 1024) : val_main_v13 (F := Ideal) x g (ix2 l k) = entry x g l k := by
  pointwise [val_main_v13, val_main_v12, val_main_v11, val_main_v10, val_main_v9, val_main_v8, val_main_v7, val_main_v6, val_main_cst_1,
    val_main_v5, val_main_v4, val_main_cst_0, val_main_v3, val_main_v2, val_main_cst, val_main_v1, val_main_v0]
  rfl

/-- The blocks of columns side by side. -/
theorem ref_cols (k : Fin 1024) (q : Fin 6144) :
    (val_main_v16 (F := Ideal) w (ix2 k q) : EReal) = w (ix3 ⟨q / 768, by omega⟩ k ⟨q % 768, Nat.mod_lt _ (by decide)⟩) := by
  pointwise [val_main_v16, val_main_v15, val_main_v14]
  blk_ext

theorem ref_entry (l : Fin 8192) (j : Fin 6144) : val_main_v17 (F := Ideal) x g w (ix2 l j) = col x g w l j := by
  have h : val_main_v17 (F := Ideal) x g w (ix2 l j) = ∑ k : Fin 1024, entry x g l k * val_main_v16 (F := Ideal) w (ix2 k j) := by
    simp only [← ref_norm]
    pointwise [val_main_v17]
  rw [h]
  exact Finset.sum_congr rfl fun k _ => congrArg₂ _ rfl (ref_cols w k j)

theorem ref_eq : val_main_v17 (F := Ideal) x g w = arr x g w := by
  funext q
  obtain ⟨l, j, rfl⟩ : ∃ (l : Fin 8192) (j : Fin 6144), q = ix2 l j := ⟨q 0, q 1, eq_ix2 q⟩
  exact ref_entry x g w l j

theorem ref_lane : val_main_v20 (F := Ideal) x g w = laneArr x g w := by
  funext q
  obtain ⟨b, l, j, rfl⟩ : ∃ (b : Fin 8) (l : Fin 8192) (j : Fin 128), q = ix3 b l j := ⟨q 0, q 1, q 2, eq_ix3 q⟩
  refine Eq.trans ?_ (ref_entry x g w l ⟨b * 128 + j, by omega⟩)
  pointwise [val_main_v20, val_main_v19, val_main_v18]
  blk_ext

end First

open Idealize.ShloMosaic Idealize.SL.Sem

namespace Cert.Proof

/-- Both programs run and leave the same two arrays. -/
theorem first_projection_algebraic : algebraic_FirstProjectionIdeal_FirstProjectionReferenceIdeal := by
  intro m g m' g' _ hagree
  refine ⟨fun c => First.arr (m (c.tc.loc Cert.FirstProjectionIdeal.main_arg0)) (m (c.tc.loc Cert.FirstProjectionIdeal.main_arg1)) (m (c.tc.loc Cert.FirstProjectionIdeal.main_arg2)),
    fun c => First.laneArr (m (c.tc.loc Cert.FirstProjectionIdeal.main_arg0)) (m (c.tc.loc Cert.FirstProjectionIdeal.main_arg1)) (m (c.tc.loc Cert.FirstProjectionIdeal.main_arg2)), ?_, ?_⟩
  · refine (θ_run _ _ _).mono (fun r h c => ?_) (θ_run_and (Cert.FirstProjectionIdeal.Gen.run_main m g) (Cert.FirstProjectionIdeal.Gen.unchanged m g))
    exact ⟨((h.1 c).1 2).trans (First.final m c), ((h.1 c).1 3).trans (First.final_lane m c), h.2 c⟩
  · refine (θ_run _ _ _).mono (fun r h c => ?_) (Cert.FirstProjectionReferenceIdeal.Value.run m' g')
    obtain ⟨e0, e1, e2⟩ := hagree c
    obtain ⟨h0, h1, ha⟩ := h c
    refine ⟨h0.trans ((Cert.FirstProjectionReferenceIdeal.Read.val_main_v17_eq _ _ _).trans ((First.ref_eq _ _ _).trans ?_)),
      h1.trans ((Cert.FirstProjectionReferenceIdeal.Read.val_main_v20_eq _ _ _).trans ((First.ref_lane _ _ _).trans ?_)), ha⟩
    · rw [e0, e1, e2]
    · rw [e0, e1, e2]

/-- The reference's arguments end unchanged; it has no semaphore. -/
theorem first_projection_reference_frame : quiescent_FirstProjectionReferenceIdeal := fun m ρ _ =>
  (θ_run _ _ _).mono (fun r h => ⟨fun c => (h c).2.2, sem_eq_zero_of_no_sems (by decide) r.2⟩)
    (Cert.FirstProjectionReferenceIdeal.Value.run m ρ)

end Cert.Proof

end
-- ==== Proof.RowsKernel.lean ====
/- The gradient of the output weights by rows: the array the kernel leaves. -/
module

public import proofs.«01_k».proof.Proof.Pieces
public import proofs.«01_k».proof.Proof.Gen.RowsIdeal.Frame
public import Idealize.ShloMosaic.Lib.Pipeline.ValueKit

@[expose] public section

set_option maxRecDepth 16384

noncomputable section

namespace Rws

open Idealize.ShloMosaic Idealize.ShloMosaic.TcCoe Idealize.SL.Sem
open Cert.RowsIdeal Cert.RowsIdeal.Gen

theorem zero (i : Fin 2048) (j : Fin 1024) : k0_pay1 (F := Ideal) (ix2 i j) = (0 : EReal) := by pointwise [k0_pay1]

theorem add (d : FVec Ideal S1024x1024 .f32) (acc : FVec Ideal S2048x1024 .f32) (y : FVec Ideal S1024x2048 .bf16) (i : Fin 2048) (j : Fin 1024) :
    k0_pay2 d acc y (ix2 i j) = acc (ix2 i j) + ∑ l : Fin 1024, y (ix2 l i) * d (ix2 l j) := by
  pointwise [k0_pay2]

/-- The accumulator cut into eight blocks of rows. -/
theorem cut (v : FVec Ideal S2048x1024 .f32) (b : Fin 8) (i : Fin 256) (j : Fin 1024) :
    (k0_pay3 (F := Ideal) v (ix3 b i j) : EReal) = v (ix2 ⟨b * 256 + i, by omega⟩ j) := by
  pointwise [k0_pay3]
  blk_ext

variable (m : (ℓ : Loc nD τ sig) → Buf (Elt Ideal) ℓ) (c : Dev nD)

/-- What one grid point adds. -/
abbrev term (t : Fin cfg0.N) (i : Fin 2048) (j : Fin 1024) : EReal :=
  ∑ l : Fin 1024, (show FVec Ideal S1024x2048 .bf16 from iblk m c 0 t) (ix2 l i) * (show FVec Ideal S1024x1024 .f32 from iblk m c 1 t) (ix2 l j)

theorem step_A (t : Fin cfg0.N) (h0 : t.val % 8 = 0) (h1 : ¬t.val % 8 = 7) (i : Fin 2048) (j : Fin 1024) :
    (outsAt0 m c t.val t.isLt).2 (ix2 i j) = (0 : EReal) + term m c t i j := by
  rw [outsAt0_A m c t h0 h1]
  frame_out
  rw [add, zero]

theorem step_B (t : Fin cfg0.N) (h0 : ¬ t.val % 8 = 0) (h1 : ¬t.val % 8 = 7) (i : Fin 2048) (j : Fin 1024) :
    (outsAt0 m c t.val t.isLt).2 (ix2 i j) = (outsAt0 m c (t.val - 1) (Nat.lt_of_le_of_lt (Nat.sub_le _ _) t.isLt)).2 (ix2 i j) + term m c t i j := by
  rw [outsAt0_B m c t h0 h1]
  frame_out
  rw [add]
  exact congrArg (· + _) (congrFun (Memref.IsWhole.read_unread (Memref.isWhole_whole cc0_scratch0) _) _)

theorem step_C (t : Fin cfg0.N) (h0 : ¬ t.val % 8 = 0) (h1 : t.val % 8 = 7) (i : Fin 2048) (j : Fin 1024) :
    (outsAt0 m c t.val t.isLt).2 (ix2 i j) = (outsAt0 m c (t.val - 1) (Nat.lt_of_le_of_lt (Nat.sub_le _ _) t.isLt)).2 (ix2 i j) + term m c t i j := by
  rw [outsAt0_C m c t h0 h1]
  frame_out
  rw [add]
  exact congrArg (· + _) (congrFun (Memref.IsWhole.read_unread (Memref.isWhole_whole cc0_scratch0) _) _)

/-- What the last point stores. -/
theorem out_C (t : Fin cfg0.N) (h0 : ¬ t.val % 8 = 0) (h1 : t.val % 8 = 7) (b : Fin 8) (i : Fin 256) (j : Fin 1024) :
    (outsAt0 m c t.val t.isLt).1 (ix3 b i j) = (outsAt0 m c t.val t.isLt).2 (ix2 ⟨b * 256 + i, by omega⟩ j) := by
  rw [outsAt0_C m c t h0 h1]
  frame_out
  rw [cut]

/-! ## The array -/

/-- Which part of its array each window holds at a grid point. -/
theorem idx : ∀ t : Fin cfg0.N, win0_0.index t = ![t.val % 8, 0] ∧ win0_1.index t = ![t.val % 8, 0] ∧ win0_2.index t = ![0, 0, 0] :=
  (by decide +kernel : ∀ t : Fin grid0.N, _)

/-- The gradient of the weights, cut into eight blocks of rows. -/
def arr (y : FVec Ideal S8192x2048 .bf16) (d : FVec Ideal S8192x1024 .f32) : FVec Ideal S8x256x1024 .bf16 :=
  fun q => ∑ l : Fin 8192, y (ix2 l ⟨q 0 * 256 + q 1, by have h0 : (q 0 : ℕ) < 8 := (q 0).isLt; have h2 : (q 1 : ℕ) < 256 := (q 1).isLt; omega⟩) * d (ix2 l (q 2))

theorem lt8 (t : Fin cfg0.N) : t.val < 8 := lt_of_lt_of_eq t.isLt N_0

/-- After the last point: the sum over the run. -/
theorem acc_at (t : Fin cfg0.N) (h7 : t.val % 8 = 7) (i : Fin 2048) (j : Fin 1024) :
    (outsAt0 m c t.val t.isLt).2 (ix2 i j) = ∑ s : Fin 8, term m c ⟨8 * (t.val / 8) + s, Pipeline.run_point_lt_of_flush t h7 s⟩ i j := by
  refine (Pipeline.eq_sum_fin_of_reset_step_apply_of_flush (fun n h => (outsAt0 m c n h).2) 8 (fun _ => 0)
    (fun p (y : S2048x1024.Idx) => term m c p (y 0) (y 1))
    (fun t h y => ?_) (fun t h y => ?_) t h7 (ix2 i j)).trans (zero_add _)
  · obtain ⟨i, j, rfl⟩ : ∃ (i : Fin 2048) (j : Fin 1024), y = ix2 i j := ⟨y 0, y 1, eq_ix2 y⟩
    exact step_A m c t h (by omega) i j
  · obtain ⟨i, j, rfl⟩ : ∃ (i : Fin 2048) (j : Fin 1024), y = ix2 i j := ⟨y 0, y 1, eq_ix2 y⟩
    by_cases h1 : t.val % 8 = 7
    · exact step_C m c t h h1 i j
    · exact step_B m c t h h1 i j

/-- A run's blocks, read in the arrays. -/
theorem point (t : Fin cfg0.N) (h7 : t.val % 8 = 7) (s : Fin 8) (i : Fin 2048) (j : Fin 1024) (l : Fin 1024) (h : (s : ℕ) * 1024 + l < 8192) :
    (show FVec Ideal S1024x2048 .bf16 from iblk m c 0 ⟨8 * (t.val / 8) + s, Pipeline.run_point_lt_of_flush t h7 s⟩) (ix2 l i)
        * (show FVec Ideal S1024x1024 .f32 from iblk m c 1 ⟨8 * (t.val / 8) + s, Pipeline.run_point_lt_of_flush t h7 s⟩) (ix2 l j)
      = (show FVec Ideal S8192x2048 .bf16 from m ((c : Thread nD τ).loc main_arg0)) (ix2 ⟨s * 1024 + l, h⟩ i)
        * (show FVec Ideal S8192x1024 .f32 from m ((c : Thread nD τ).loc main_arg1)) (ix2 ⟨s * 1024 + l, h⟩ j) := by
  refine congrArg₂ _ ?_ ?_
  · blk_ext [iblk, V, idx t, idx ⟨_, Pipeline.run_point_lt_of_flush t h7 s⟩]
  · blk_ext [iblk, V, idx t, idx ⟨_, Pipeline.run_point_lt_of_flush t h7 s⟩]

theorem final : (dats m 0 c).arrAt 2 (cfgs 0).N = arr (m ((c : Thread nD τ).loc main_arg0)) (m ((c : Thread nD τ).loc main_arg1)) := by
  refine (dats m 0 c).arrAt_eq_of_covers 2 _ (by decide +kernel) fun t hf y => ?_
  blk_simp
  rw [after0_2]
  obtain ⟨b, i, j, rfl⟩ : ∃ (b : Fin 8) (i : Fin 256) (j : Fin 1024), y = ix3 b i j := ⟨y 0, y 1, y 2, eq_ix3 y⟩
  have h7 : t.val % 8 = 7 := (flush0_2 t).mp hf
  refine (out_C m c t (by omega) h7 b i j).trans ((acc_at m c t h7 _ _).trans ?_)
  refine Eq.trans (b := arr (m ((c : Thread nD τ).loc main_arg0)) (m ((c : Thread nD τ).loc main_arg1)) (ix3 b i j)) ?_ ?_
  · refine Fin.sum_mul_add_congr fun s l hl => point m c t h7 s _ j l hl
  · blk_ext [idx t]

end Rws

end
-- ==== Proof.RowsReference.lean ====
/- The gradient of the output weights by rows: the reference's array, and the claims. -/
module

public import proofs.«01_k».proof.Defs
public import proofs.«01_k».proof.Proof.RowsKernel
public import proofs.«01_k».proof.Proof.Gen.Rows.Frame
public import proofs.«01_k».proof.Proof.Gen.RowsReferenceIdeal.Read
public import Idealize.ShloMosaic.Adequacy

@[expose] public section

set_option maxRecDepth 16384

noncomputable section

namespace Rws

open Idealize.ShloMosaic Idealize.ShloMosaic.TcCoe Idealize.SL.Sem
open Cert.RowsReferenceIdeal Cert.RowsReferenceIdeal.Read

variable (y : FVec Ideal S8192x2048 .bf16) (d : FVec Ideal S8192x1024 .f32)

theorem ref_dot (k : Fin 1024) (j : Fin 2048) : val_main_v3 (F := Ideal) y d (ix2 k j) = ∑ l : Fin 8192, d (ix2 l k) * y (ix2 l j) := by
  pointwise [val_main_v3, val_main_v1]

theorem ref_eq : val_main_v6 (F := Ideal) y d = arr y d := by
  funext q
  obtain ⟨b, i, j, rfl⟩ : ∃ (b : Fin 8) (i : Fin 256) (j : Fin 1024), q = ix3 b i j := ⟨q 0, q 1, q 2, eq_ix3 q⟩
  have h : val_main_v6 (F := Ideal) y d (ix3 b i j) = val_main_v3 (F := Ideal) y d (ix2 j ⟨b * 256 + i, by omega⟩) := by
    pointwise [val_main_v6, val_main_v5, val_main_v4]
    blk_ext
  rw [h, ref_dot]
  refine Finset.sum_congr rfl fun l _ => ?_
  exact mul_comm _ _

end Rws

open Idealize.ShloMosaic Idealize.SL.Sem

namespace Cert.Proof

/-- Both programs run and leave the same array. -/
theorem rows_algebraic : algebraic_RowsIdeal_RowsReferenceIdeal := by
  intro m g m' g' _ hagree
  refine ⟨fun c => Rws.arr (m (c.tc.loc Cert.RowsIdeal.main_arg0)) (m (c.tc.loc Cert.RowsIdeal.main_arg1)), ?_, ?_⟩
  · refine (θ_run _ _ _).mono (fun r h c => ?_) (θ_run_and (Cert.RowsIdeal.Gen.run_main m g) (Cert.RowsIdeal.Gen.unchanged m g))
    exact ⟨((h.1 c).1 2).trans (Rws.final m c), h.2 c⟩
  · refine (θ_run _ _ _).mono (fun r h c => ?_) (Cert.RowsReferenceIdeal.Value.run m' g')
    obtain ⟨e0, e1⟩ := hagree c
    obtain ⟨h0, ha⟩ := h c
    refine ⟨h0.trans ((Cert.RowsReferenceIdeal.Read.val_main_v6_eq _ _).trans ((Rws.ref_eq _ _).trans ?_)), ha⟩
    rw [e0, e1]

/-- The reference's arguments end unchanged; it has no semaphore. -/
theorem rows_reference_frame : quiescent_RowsReferenceIdeal := fun m ρ _ =>
  (θ_run _ _ _).mono (fun r h => ⟨fun c => (h c).2, sem_eq_zero_of_no_sems (by decide) r.2⟩)
    (Cert.RowsReferenceIdeal.Value.run m ρ)

end Cert.Proof

end
-- ==== Proof.RowPieces.lean ====
/- Reading an array that was stored in blocks of rows, whatever its sizes. -/
module

public import proofs.«01_k».proof.Proof.Pieces

@[expose] public section

noncomputable section

namespace Pieces

open Idealize.ShloMosaic

variable {e : EltTy} {a k n w : ℕ}

/-- Rows `o`, …, `o + w - 1` of an array. -/
theorem ld_rows (o : ℕ) {X : (⟨2, ![k, n]⟩ : Shape).Idx → Elt Ideal e} {i} (r : Fin w) (j : Fin n) (h : o + r < k) :
    View.ld X (Rect.unit ![o, 0] ![w, n] i) (ix2 r j) = X (ix2 ⟨o + r, h⟩ j) := by
  refine congrArg X (funext fun a => Fin.ext ?_)
  fin_cases a
  · show o + 1 * (r : ℕ) = o + r; omega
  · show 0 + 1 * (j : ℕ) = j; omega

/-- A store of a block of rows: inside it, and outside. -/
theorem canon_rows (o : ℕ) {i} {v : (Rect.unit (s := ⟨2, ![k, n]⟩) ![o, 0] ![w, n] i).shape.Idx → Elt Ideal e} {L} (t : Fin k) (j : Fin n)
    (q : Fin w) (h : (t : ℕ) = o + q) :
    View.canon (Val := Elt Ideal) (⟨Rect.unit (s := ⟨2, ![k, n]⟩) ![o, 0] ![w, n] i, v⟩ :: L) (ix2 t j) = v (ix2 q j) := by
  refine Eq.trans (congrArg _ (funext fun a => Fin.ext ?_)) (View.canon_cons_emb (Rect.unit (s := ⟨2, ![k, n]⟩) ![o, 0] ![w, n] i) v L (ix2 q j))
  fin_cases a
  · show (t : ℕ) = o + 1 * q; omega
  · show (j : ℕ) = 0 + 1 * j; omega
theorem canon_rows_skip (o : ℕ) {i} {v : (Rect.unit (s := ⟨2, ![k, n]⟩) ![o, 0] ![w, n] i).shape.Idx → Elt Ideal e} {L} (t : Fin k) (j : Fin n)
    (h : (t : ℕ) < o ∨ o + w ≤ t) :
    View.canon (Val := Elt Ideal) (⟨Rect.unit (s := ⟨2, ![k, n]⟩) ![o, 0] ![w, n] i, v⟩ :: L) (ix2 t j) = View.canon L (ix2 t j) := by
  refine View.canon_cons_of_not_mem _ _ fun hm => ?_
  obtain ⟨x, hx⟩ := LoadRect.exists_idx_of_mem _ hm
  have h0 : o + 1 * (x 0 : ℕ) = t := congrArg (fun z => (z 0 : ℕ)) hx
  have h1 : (x 0 : ℕ) < w := (x 0).isLt
  omega

/-- A buffer's rows, after stores that cover it. -/
theorem rc_rows {sig : RefSig} {κ : Kind} {sp : Space} {v : View sig κ sp ⟨2, ![k, n]⟩ e} (o : ℕ) {i L} (r : Fin w) (j : Fin n) (h : o + r < k) :
    v.readCov (Val := Elt Ideal) L (Rect.unit (s := ⟨2, ![k, n]⟩) ![o, 0] ![w, n] i).toLoadRect (ix2 r j) = View.canon L (ix2 ⟨o + r, h⟩ j) := by
  rw [View.readCov_eq_canon']
  exact ld_rows o r j h

/-- Rows `o`, …, `o + w - 1` of slice `g`. -/
theorem ld_slice_rows (g : Fin a) (o : ℕ) {X : (⟨3, ![a, k, n]⟩ : Shape).Idx → Elt Ideal e} {i} (u : Fin 1) (r : Fin w) (j : Fin n) (h : o + r < k) :
    View.ld X (Rect.unit ![(g : ℕ), o, 0] ![1, w, n] i) (ix3 u r j) = X (ix3 g ⟨o + r, h⟩ j) := by
  refine congrArg X (funext fun a => Fin.ext ?_)
  fin_cases a
  · show (g : ℕ) + 1 * (u : ℕ) = g; omega
  · show o + 1 * (r : ℕ) = o + r; omega
  · show 0 + 1 * (j : ℕ) = j; omega

/-- A store of a block of rows of a slice: inside it, and outside. -/
theorem canon_slice_rows (b o : ℕ) {i} {v : (Rect.unit (s := ⟨3, ![a, k, n]⟩) ![b, o, 0] ![1, w, n] i).shape.Idx → Elt Ideal e} {L}
    (g : Fin a) (t : Fin k) (j : Fin n) (q : Fin w) (hg : (g : ℕ) = b) (h : (t : ℕ) = o + q) :
    View.canon (Val := Elt Ideal) (⟨Rect.unit (s := ⟨3, ![a, k, n]⟩) ![b, o, 0] ![1, w, n] i, v⟩ :: L) (ix3 g t j) = v (ix3 0 q j) := by
  refine Eq.trans (congrArg _ (funext fun a => Fin.ext ?_))
    (View.canon_cons_emb (Rect.unit (s := ⟨3, ![a, k, n]⟩) ![b, o, 0] ![1, w, n] i) v L (ix3 0 q j))
  fin_cases a
  · show (g : ℕ) = b + 1 * 0; omega
  · show (t : ℕ) = o + 1 * q; omega
  · show (j : ℕ) = 0 + 1 * j; omega
theorem canon_slice_rows_skip (b o : ℕ) {i} {v : (Rect.unit (s := ⟨3, ![a, k, n]⟩) ![b, o, 0] ![1, w, n] i).shape.Idx → Elt Ideal e} {L}
    (g : Fin a) (t : Fin k) (j : Fin n) (h : (g : ℕ) ≠ b ∨ (t : ℕ) < o ∨ o + w ≤ t) :
    View.canon (Val := Elt Ideal) (⟨Rect.unit (s := ⟨3, ![a, k, n]⟩) ![b, o, 0] ![1, w, n] i, v⟩ :: L) (ix3 g t j) = View.canon L (ix3 g t j) := by
  refine View.canon_cons_of_not_mem _ _ fun hm => ?_
  obtain ⟨x, hx⟩ := LoadRect.exists_idx_of_mem _ hm
  have h0 : b + 1 * (x 0 : ℕ) = g := congrArg (fun z => (z 0 : ℕ)) hx
  have h1 : (x 0 : ℕ) < 1 := (x 0).isLt
  have h2 : o + 1 * (x 1 : ℕ) = t := congrArg (fun z => (z 1 : ℕ)) hx
  have h3 : (x 1 : ℕ) < w := (x 1).isLt
  omega

end Pieces

end
-- ==== Proof.EvenRowsKernel.lean ====
/- The gradient of the even block's output weights by rows: the array the kernel leaves. -/
module

public import proofs.«01_k».proof.Proof.RowPieces
public import proofs.«01_k».proof.Proof.Gen.EvenRowsIdeal.Frame
public import Idealize.ShloMosaic.Lib.Pipeline.ValueKit

@[expose] public section

set_option maxRecDepth 16384

noncomputable section

namespace Evn

open Idealize.ShloMosaic Idealize.ShloMosaic.TcCoe Idealize.SL.Sem
open Cert.EvenRowsIdeal Cert.EvenRowsIdeal.Gen Pieces

theorem zero (i : Fin 2048) (j : Fin 1024) : k0_pay1 (F := Ideal) (ix2 i j) = (0 : EReal) := by pointwise [k0_pay1]

theorem add1 (d acc : FVec Ideal S1024x1024 .f32) (y : FVec Ideal S1024x1024 .bf16) (i j : Fin 1024) :
    k0_pay3 d acc y (ix2 i j) = acc (ix2 i j) + ∑ l : Fin 1024, y (ix2 l i) * d (ix2 l j) := by
  pointwise [k0_pay3, k0_pay2]

theorem add2 (d acc : FVec Ideal S1024x1024 .f32) (y : FVec Ideal S1024x1024 .bf16) (i j : Fin 1024) :
    k0_pay4 d acc y (ix2 i j) = acc (ix2 i j) + ∑ l : Fin 1024, y (ix2 l i) * d (ix2 l j) := by
  pointwise [k0_pay4, k0_pay2]

/-- The accumulator cut into eight blocks of rows. -/
theorem cut (v : FVec Ideal S2048x1024 .f32) (b : Fin 8) (i : Fin 256) (j : Fin 1024) :
    (k0_pay5 (F := Ideal) v (ix3 b i j) : EReal) = v (ix2 ⟨b * 256 + i, by omega⟩ j) := by
  pointwise [k0_pay5]
  blk_ext

/-- Two arrays side by side: column `i` of row `l`. -/
def side {k : ℕ} (y z : (⟨2, ![k, 1024]⟩ : Shape).Idx → EReal) (l : Fin k) (i : Fin 2048) : EReal :=
  if h : i.val < 1024 then y (ix2 l ⟨i, h⟩) else z (ix2 l ⟨i - 1024, by omega⟩)
theorem side_left {k : ℕ} (y z : (⟨2, ![k, 1024]⟩ : Shape).Idx → EReal) (l : Fin k) (i : Fin 2048) (q : Fin 1024) (h : (i : ℕ) = 0 + q) :
    side y z l i = y (ix2 l q) := by
  have e : q = ⟨i, by omega⟩ := Fin.ext (by simp [h])
  rw [e]
  exact dif_pos (by omega)
theorem side_right {k : ℕ} (y z : (⟨2, ![k, 1024]⟩ : Shape).Idx → EReal) (l : Fin k) (i : Fin 2048) (q : Fin 1024) (h : (i : ℕ) = 1024 + q) :
    side y z l i = z (ix2 l q) := by
  have e : q = ⟨i - 1024, by omega⟩ := Fin.ext (by show (q : ℕ) = i - 1024; omega)
  rw [e]
  exact dif_neg (by omega)

/-- A row of the accumulator lies in its upper or in its lower half. -/
theorem half (i : Fin 2048) : (∃ q : Fin 1024, (i : ℕ) = 0 + q) ∨ ∃ q : Fin 1024, (i : ℕ) = 1024 + q := by
  by_cases h : i.val < 1024
  · exact .inl ⟨⟨i, h⟩, (Nat.zero_add _).symm⟩
  · exact .inr ⟨⟨i - 1024, by omega⟩, by show (i : ℕ) = 1024 + (i - 1024); omega⟩

variable (m : (ℓ : Loc nD τ sig) → Buf (Elt Ideal) ℓ) (c : Dev nD)

/-- What one grid point adds. -/
abbrev term (t : Fin cfg0.N) (i : Fin 2048) (j : Fin 1024) : EReal :=
  ∑ l : Fin 1024, side (iblk m c 0 t) (iblk m c 1 t) l i * (show FVec Ideal S1024x1024 .f32 from iblk m c 2 t) (ix2 l j)

/-- What a point's two stores leave over what was there. -/
theorem halves (d acc1 acc2 : FVec Ideal S1024x1024 .f32) (y z : FVec Ideal S1024x1024 .bf16) {i₁ i₂} (L) (P : FVec Ideal S2048x1024 .f32)
    (h1 : ∀ (q j : Fin 1024) (i : Fin 2048), (i : ℕ) = 0 + q → acc1 (ix2 q j) = P (ix2 i j))
    (h2 : ∀ (q j : Fin 1024) (i : Fin 2048), (i : ℕ) = 1024 + q → acc2 (ix2 q j) = P (ix2 i j)) (i : Fin 2048) (j : Fin 1024) :
    View.canon (Val := Elt Ideal) (s := S2048x1024) (e := .f32) (⟨Rect.unit ![1024, 0] ![1024, 1024] i₁, k0_pay4 (F := Ideal) d acc2 z⟩
        :: ⟨Rect.unit ![0, 0] ![1024, 1024] i₂, k0_pay3 (F := Ideal) d acc1 y⟩ :: L) (ix2 i j)
      = P (ix2 i j) + ∑ l : Fin 1024, side y z l i * d (ix2 l j) := by
  rcases half i with ⟨q, h⟩ | ⟨q, h⟩
  · rw [canon_rows_skip 1024 i j (by omega), canon_rows 0 i j q h, add1, h1 q j i h]
    exact congrArg (P (ix2 i j) + ·) (Finset.sum_congr rfl fun l _ => congrArg₂ _ (side_left y z l i q h).symm rfl)
  · rw [canon_rows 1024 i j q h, add2, h2 q j i h]
    exact congrArg (P (ix2 i j) + ·) (Finset.sum_congr rfl fun l _ => congrArg₂ _ (side_right y z l i q h).symm rfl)

/-- Rows of the accumulator as the point before left it. -/
theorem carried (P : FVec Ideal S2048x1024 .f32) (o : ℕ) {i'} (q j : Fin 1024) (i : Fin 2048) (h : (i : ℕ) = o + q) :
    View.ld (View.read (Elt Ideal) (View.whole cc0_scratch0) ((Memref.isWhole_whole cc0_scratch0).unread P)) (Rect.unit ![o, 0] ![1024, 1024] i') (ix2 q j)
      = P (ix2 i j) := by
  have e : View.read (Elt Ideal) (View.whole cc0_scratch0) ((Memref.isWhole_whole cc0_scratch0).unread P) = P :=
    Memref.IsWhole.read_unread (Val := Elt Ideal) (Memref.isWhole_whole cc0_scratch0) P
  rw [e]
  exact (ld_rows o q j (by omega)).trans (congrArg P (congrArg (ix2 · j) (Fin.ext h.symm)))

theorem step_A (t : Fin cfg0.N) (h0 : t.val % 8 = 0) (h1 : ¬t.val % 8 = 7) (i : Fin 2048) (j : Fin 1024) :
    (outsAt0 m c t.val t.isLt).2 (ix2 i j) = (0 : EReal) + term m c t i j := by
  rw [outsAt0_A m c t h0 h1]
  frame_out
  refine halves _ _ _ _ _ _ (fun _ => (0 : EReal)) (fun q j i h => ?_) (fun q j i h => ?_) i j
  · exact (rc_rows 0 q j (by omega)).trans ((canon_all _ j).trans (zero _ j))
  · refine (rc_rows 1024 q j (by omega)).trans ((canon_rows_skip 0 _ j (.inr ?_)).trans ((canon_all _ j).trans (zero _ j)))
    show 0 + 1024 ≤ 1024 + (q : ℕ)
    omega

theorem step_B (t : Fin cfg0.N) (h0 : ¬ t.val % 8 = 0) (h1 : ¬t.val % 8 = 7) (i : Fin 2048) (j : Fin 1024) :
    (outsAt0 m c t.val t.isLt).2 (ix2 i j) = (outsAt0 m c (t.val - 1) (Nat.lt_of_le_of_lt (Nat.sub_le _ _) t.isLt)).2 (ix2 i j) + term m c t i j := by
  rw [outsAt0_B m c t h0 h1]
  frame_out
  exact halves _ _ _ _ _ _ _ (carried _ 0) (carried _ 1024) i j

theorem step_C (t : Fin cfg0.N) (h0 : ¬ t.val % 8 = 0) (h1 : t.val % 8 = 7) (i : Fin 2048) (j : Fin 1024) :
    (outsAt0 m c t.val t.isLt).2 (ix2 i j) = (outsAt0 m c (t.val - 1) (Nat.lt_of_le_of_lt (Nat.sub_le _ _) t.isLt)).2 (ix2 i j) + term m c t i j := by
  rw [outsAt0_C m c t h0 h1]
  frame_out
  exact halves _ _ _ _ _ _ _ (carried _ 0) (carried _ 1024) i j

/-- What the last point stores. -/
theorem out_C (t : Fin cfg0.N) (h0 : ¬ t.val % 8 = 0) (h1 : t.val % 8 = 7) (b : Fin 8) (i : Fin 256) (j : Fin 1024) :
    (outsAt0 m c t.val t.isLt).1 (ix3 b i j) = (outsAt0 m c t.val t.isLt).2 (ix2 ⟨b * 256 + i, by omega⟩ j) := by
  rw [outsAt0_C m c t h0 h1]
  frame_out
  rw [cut, View.readCov_eq_canon']
  exact (ld_rows 0 (w := 2048) ⟨b * 256 + i, by omega⟩ j (by show 0 + ((b : ℕ) * 256 + i) < 2048; omega)).trans
    (congrArg _ (congrArg (ix2 · j) (Fin.ext (Nat.zero_add _))))

/-! ## The array -/

/-- Which part of its array each window holds at a grid point. -/
theorem idx : ∀ t : Fin cfg0.N, win0_0.index t = ![t.val % 8, 0] ∧ win0_1.index t = ![t.val % 8, 0] ∧ win0_2.index t = ![t.val % 8, 0] ∧ win0_3.index t = ![0, 0, 0] :=
  (by decide +kernel : ∀ t : Fin grid0.N, _)

/-- The gradient of the weights, cut into eight blocks of rows. -/
def arr (y z : FVec Ideal S8192x1024 .bf16) (d : FVec Ideal S8192x1024 .f32) : FVec Ideal S8x256x1024 .bf16 :=
  fun q => ∑ l : Fin 8192, side y z l ⟨q 0 * 256 + q 1, by have h0 : (q 0 : ℕ) < 8 := (q 0).isLt; have h2 : (q 1 : ℕ) < 256 := (q 1).isLt; omega⟩ * d (ix2 l (q 2))

theorem lt8 (t : Fin cfg0.N) : t.val < 8 := lt_of_lt_of_eq t.isLt N_0

/-- After the last point: the sum over the run. -/
theorem acc_at (t : Fin cfg0.N) (h7 : t.val % 8 = 7) (i : Fin 2048) (j : Fin 1024) :
    (outsAt0 m c t.val t.isLt).2 (ix2 i j) = ∑ s : Fin 8, term m c ⟨8 * (t.val / 8) + s, Pipeline.run_point_lt_of_flush t h7 s⟩ i j := by
  refine (Pipeline.eq_sum_fin_of_reset_step_apply_of_flush (fun n h => (outsAt0 m c n h).2) 8 (fun _ => 0)
    (fun p (y : S2048x1024.Idx) => term m c p (y 0) (y 1))
    (fun t h y => ?_) (fun t h y => ?_) t h7 (ix2 i j)).trans (zero_add _)
  · obtain ⟨i, j, rfl⟩ : ∃ (i : Fin 2048) (j : Fin 1024), y = ix2 i j := ⟨y 0, y 1, eq_ix2 y⟩
    exact step_A m c t h (by omega) i j
  · obtain ⟨i, j, rfl⟩ : ∃ (i : Fin 2048) (j : Fin 1024), y = ix2 i j := ⟨y 0, y 1, eq_ix2 y⟩
    by_cases h1 : t.val % 8 = 7
    · exact step_C m c t h h1 i j
    · exact step_B m c t h h1 i j

/-- Two blocks side by side are a block of the arrays side by side. -/
theorem side_block {k : ℕ} (y z : FVec Ideal S1024x1024 .bf16) (Y Z : (⟨2, ![k, 1024]⟩ : Shape).Idx → EReal) (l : Fin 1024) (r : Fin k)
    (hy : ∀ q : Fin 1024, y (ix2 l q) = Y (ix2 r q)) (hz : ∀ q : Fin 1024, z (ix2 l q) = Z (ix2 r q)) (i : Fin 2048) :
    side y z l i = side Y Z r i := by
  rcases half i with ⟨q, h⟩ | ⟨q, h⟩
  · rw [side_left _ _ _ i q h, side_left _ _ _ i q h, hy]
  · rw [side_right _ _ _ i q h, side_right _ _ _ i q h, hz]

/-- A run's blocks, read in the arrays. -/
theorem point (t : Fin cfg0.N) (h7 : t.val % 8 = 7) (s : Fin 8) (i : Fin 2048) (j : Fin 1024) (l : Fin 1024) (h : (s : ℕ) * 1024 + l < 8192) :
    side (iblk m c 0 ⟨8 * (t.val / 8) + s, Pipeline.run_point_lt_of_flush t h7 s⟩) (iblk m c 1 ⟨8 * (t.val / 8) + s, Pipeline.run_point_lt_of_flush t h7 s⟩) l i
        * (show FVec Ideal S1024x1024 .f32 from iblk m c 2 ⟨8 * (t.val / 8) + s, Pipeline.run_point_lt_of_flush t h7 s⟩) (ix2 l j)
      = side (k := 8192) (m ((c : Thread nD τ).loc main_arg0)) (m ((c : Thread nD τ).loc main_arg1)) ⟨s * 1024 + l, h⟩ i
        * (show FVec Ideal S8192x1024 .f32 from m ((c : Thread nD τ).loc main_arg2)) (ix2 ⟨s * 1024 + l, h⟩ j) := by
  refine congrArg₂ _ (side_block _ _ _ _ l _ (fun q => ?_) (fun q => ?_) i) ?_
  · blk_ext [iblk, V, idx t, idx ⟨_, Pipeline.run_point_lt_of_flush t h7 s⟩]
  · blk_ext [iblk, V, idx t, idx ⟨_, Pipeline.run_point_lt_of_flush t h7 s⟩]
  · blk_ext [iblk, V, idx t, idx ⟨_, Pipeline.run_point_lt_of_flush t h7 s⟩]

theorem final : (dats m 0 c).arrAt 3 (cfgs 0).N = arr (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  obtain ⟨b, i, j, rfl⟩ : ∃ (b : Fin 8) (i : Fin 256) (j : Fin 1024), y = ix3 b i j := ⟨y 0, y 1, y 2, eq_ix3 y⟩
  have h7 : t.val % 8 = 7 := (flush0_3 t).mp hf
  refine (out_C m c t (by omega) h7 b i j).trans ((acc_at m c t h7 _ _).trans ?_)
  refine Eq.trans (b := arr (m ((c : Thread nD τ).loc main_arg0)) (m ((c : Thread nD τ).loc main_arg1)) (m ((c : Thread nD τ).loc main_arg2)) (ix3 b i j)) ?_ ?_
  · refine Fin.sum_mul_add_congr fun s l hl => point m c t h7 s _ j l hl
  · blk_ext [idx t]

end Evn

end
-- ==== Proof.EvenRowsReference.lean ====
/- The gradient of the even block's output weights by rows: the reference's array, and the claims. -/
module

public import proofs.«01_k».proof.Defs
public import proofs.«01_k».proof.Proof.EvenRowsKernel
public import proofs.«01_k».proof.Proof.Gen.EvenRows.Frame
public import proofs.«01_k».proof.Proof.Gen.EvenRowsReferenceIdeal.Read
public import Idealize.ShloMosaic.Adequacy

@[expose] public section

set_option maxRecDepth 16384

noncomputable section

namespace Evn

open Idealize.ShloMosaic Idealize.ShloMosaic.TcCoe Idealize.SL.Sem
open Cert.EvenRowsReferenceIdeal Cert.EvenRowsReferenceIdeal.Read

variable (y z : FVec Ideal S8192x1024 .bf16) (d : FVec Ideal S8192x1024 .f32)

theorem ref_joined (l : Fin 8192) (i : Fin 2048) : (val_main_v1 (F := Ideal) y z (ix2 l i) : EReal) = side y z l i := by
  rw [val_main_v1_apply]
  show (val_main_v0 (F := Ideal) y z (ix2 l i) : EReal) = _
  rcases half i with ⟨q, h⟩ | ⟨q, h⟩
  · rw [side_left y z l i q h]
    refine concatenate_pair_apply_left 1 y z _ (ix2 l i) rfl (ix2 l q) fun b => ?_
    fin_cases b
    · rfl
    · show (q : ℕ) = i; omega
  · rw [side_right y z l i q h]
    refine concatenate_pair_apply_right 1 y z _ (ix2 l i) rfl rfl (ix2 l q) (fun b hb => ?_) ?_
    · fin_cases b
      · rfl
      · exact absurd rfl hb
    · show (q : ℕ) + 1024 = i; omega

theorem ref_dot (k : Fin 1024) (j : Fin 2048) : val_main_v4 (F := Ideal) y z d (ix2 k j) = ∑ l : Fin 8192, d (ix2 l k) * side y z l j := by
  rw [val_main_v4_apply]
  refine Finset.sum_congr rfl fun l _ => congrArg₂ _ (congrArg d (by blk_ext)) ?_
  exact Eq.trans (congrArg _ (by blk_ext)) (ref_joined y z l j)

theorem ref_eq : val_main_v7 (F := Ideal) y z d = arr y z d := by
  funext q
  obtain ⟨b, i, j, rfl⟩ : ∃ (b : Fin 8) (i : Fin 256) (j : Fin 1024), q = ix3 b i j := ⟨q 0, q 1, q 2, eq_ix3 q⟩
  have h : val_main_v7 (F := Ideal) y z d (ix3 b i j) = val_main_v4 (F := Ideal) y z d (ix2 j ⟨b * 256 + i, by omega⟩) := by
    pointwise [val_main_v7, val_main_v6, val_main_v5]
    blk_ext
  rw [h, ref_dot]
  refine Finset.sum_congr rfl fun l _ => ?_
  exact mul_comm _ _

end Evn

open Idealize.ShloMosaic Idealize.SL.Sem

namespace Cert.Proof

/-- Both programs run and leave the same array. -/
theorem even_rows_algebraic : algebraic_EvenRowsIdeal_EvenRowsReferenceIdeal := by
  intro m g m' g' _ hagree
  refine ⟨fun c => Evn.arr (m (c.tc.loc Cert.EvenRowsIdeal.main_arg0)) (m (c.tc.loc Cert.EvenRowsIdeal.main_arg1)) (m (c.tc.loc Cert.EvenRowsIdeal.main_arg2)), ?_, ?_⟩
  · refine (θ_run _ _ _).mono (fun r h c => ?_) (θ_run_and (Cert.EvenRowsIdeal.Gen.run_main m g) (Cert.EvenRowsIdeal.Gen.unchanged m g))
    exact ⟨((h.1 c).1 3).trans (Evn.final m c), h.2 c⟩
  · refine (θ_run _ _ _).mono (fun r h c => ?_) (Cert.EvenRowsReferenceIdeal.Value.run m' g')
    obtain ⟨e0, e1, e2⟩ := hagree c
    obtain ⟨h0, ha⟩ := h c
    refine ⟨h0.trans ((Cert.EvenRowsReferenceIdeal.Read.val_main_v7_eq _ _ _).trans ((Evn.ref_eq _ _ _).trans ?_)), ha⟩
    rw [e0, e1, e2]

/-- The reference's arguments end unchanged; it has no semaphore. -/
theorem even_rows_reference_frame : quiescent_EvenRowsReferenceIdeal := fun m ρ _ =>
  (θ_run _ _ _).mono (fun r h => ⟨fun c => (h c).2, sem_eq_zero_of_no_sems (by decide) r.2⟩)
    (Cert.EvenRowsReferenceIdeal.Value.run m ρ)

end Cert.Proof

end
-- ==== Proof.GluRowsKernel.lean ====
/- The gradient of the gate's weights by rows: the array the kernel leaves. -/
module

public import proofs.«01_k».proof.Proof.Pieces
public import proofs.«01_k».proof.Proof.Gen.GluRowsIdeal.Frame
public import Idealize.ShloMosaic.Lib.Pipeline.ValueKit

@[expose] public section

set_option maxRecDepth 16384

noncomputable section

namespace Glu

open Idealize.ShloMosaic Idealize.ShloMosaic.TcCoe Idealize.SL.Sem
open Cert.GluRowsIdeal Cert.GluRowsIdeal.Gen

theorem zero (i j : Fin 1024) : k0_pay1 (F := Ideal) (ix2 i j) = (0 : EReal) := by pointwise [k0_pay1]

theorem add (d : FVec Ideal S1024x1024 .bf16) (acc : FVec Ideal S1024x1024 .f32) (y : FVec Ideal S1024x1024 .bf16) (i j : Fin 1024) :
    k0_pay2 d acc y (ix2 i j) = acc (ix2 i j) + ∑ l : Fin 1024, y (ix2 l i) * d (ix2 l j) := by
  pointwise [k0_pay2]

/-- The accumulator cut into eight blocks of rows. -/
theorem cut (v : FVec Ideal S1024x1024 .f32) (b : Fin 8) (i : Fin 128) (j : Fin 1024) :
    (k0_pay3 (F := Ideal) v (ix3 b i j) : EReal) = v (ix2 ⟨b * 128 + i, by omega⟩ j) := by
  pointwise [k0_pay3]
  blk_ext

variable (m : (ℓ : Loc nD τ sig) → Buf (Elt Ideal) ℓ) (c : Dev nD)

/-- What one grid point adds. -/
abbrev term (t : Fin cfg0.N) (i j : Fin 1024) : EReal :=
  ∑ l : Fin 1024, (show FVec Ideal S1024x1024 .bf16 from iblk m c 0 t) (ix2 l i) * (show FVec Ideal S1024x1024 .bf16 from iblk m c 1 t) (ix2 l j)

/-- The first point starts at zero. -/
theorem first (t : Fin cfg0.N) (h0 : t.val % 8 = 0) (i j : Fin 1024) :
    (outsAt0 m c t.val t.isLt).2 (ix2 i j) = (0 : EReal) + term m c t i j := by
  rw [outsAt0_A m c t h0 (by omega)]
  frame_out
  rw [add, zero]

/-- Every other point adds to what the point before left. -/
theorem later (t : Fin cfg0.N) (h0 : ¬ t.val % 8 = 0) (i j : Fin 1024) :
    (outsAt0 m c t.val t.isLt).2 (ix2 i j) = (outsAt0 m c (t.val - 1) (Nat.lt_of_le_of_lt (Nat.sub_le _ _) t.isLt)).2 (ix2 i j) + term m c t i j := by
  by_cases h1 : t.val % 8 = 7
  · rw [outsAt0_C m c t h0 h1]
    frame_out
    rw [add]
    exact congrArg (· + _) (congrFun (Memref.IsWhole.read_unread (Memref.isWhole_whole cc0_scratch0) _) _)
  · rw [outsAt0_B m c t h0 h1]
    frame_out
    rw [add]
    exact congrArg (· + _) (congrFun (Memref.IsWhole.read_unread (Memref.isWhole_whole cc0_scratch0) _) _)

/-- The last point stores the sum. -/
theorem stored (t : Fin cfg0.N) (h1 : t.val % 8 = 7) (b : Fin 8) (i : Fin 128) (j : Fin 1024) :
    (outsAt0 m c t.val t.isLt).1 (ix3 b i j) = (outsAt0 m c t.val t.isLt).2 (ix2 ⟨b * 128 + i, by omega⟩ j) := by
  rw [outsAt0_C m c t (by omega) h1]
  frame_out
  rw [cut]

/-! ## The array -/

/-- Which part of its array each window holds at a grid point. -/
theorem idx : ∀ t : Fin cfg0.N, win0_0.index t = ![t.val % 8, 0] ∧ win0_1.index t = ![t.val % 8, 0] ∧ win0_2.index t = ![0, 0, 0] :=
  (by decide +kernel : ∀ t : Fin grid0.N, _)

/-- The gradient of the weights, cut into eight blocks of rows. -/
def arr (y d : FVec Ideal S8192x1024 .bf16) : FVec Ideal S8x128x1024 .bf16 :=
  fun q => ∑ l : Fin 8192, y (ix2 l ⟨q 0 * 128 + q 1, by have h0 : (q 0 : ℕ) < 8 := (q 0).isLt; have h2 : (q 1 : ℕ) < 128 := (q 1).isLt; omega⟩) * d (ix2 l (q 2))

theorem lt8 (t : Fin cfg0.N) : t.val < 8 := lt_of_lt_of_eq t.isLt N_0

/-- A run's blocks, read in the arrays. -/
theorem point (t : Fin cfg0.N) (h7 : t.val % 8 = 7) (s : Fin 8) (i j l : Fin 1024) (h : (s : ℕ) * 1024 + l < 8192) :
    (show FVec Ideal S1024x1024 .bf16 from iblk m c 0 ⟨8 * (t.val / 8) + s, Pipeline.run_point_lt_of_flush t h7 s⟩) (ix2 l i)
        * (show FVec Ideal S1024x1024 .bf16 from iblk m c 1 ⟨8 * (t.val / 8) + s, Pipeline.run_point_lt_of_flush t h7 s⟩) (ix2 l j)
      = (show FVec Ideal S8192x1024 .bf16 from m ((c : Thread nD τ).loc main_arg0)) (ix2 ⟨s * 1024 + l, h⟩ i)
        * (show FVec Ideal S8192x1024 .bf16 from m ((c : Thread nD τ).loc main_arg1)) (ix2 ⟨s * 1024 + l, h⟩ j) := by
  refine congrArg₂ _ ?_ ?_
  · blk_ext [iblk, V, idx t, idx ⟨_, Pipeline.run_point_lt_of_flush t h7 s⟩]
  · blk_ext [iblk, V, idx t, idx ⟨_, Pipeline.run_point_lt_of_flush t h7 s⟩]

theorem final : (dats m 0 c).arrAt 2 (cfgs 0).N = arr (m ((c : Thread nD τ).loc main_arg0)) (m ((c : Thread nD τ).loc main_arg1)) := by
  refine (dats m 0 c).arrAt_eq_of_covers 2 _ (by decide +kernel) fun t hf y => ?_
  blk_simp
  rw [after0_2]
  obtain ⟨b, i, j, rfl⟩ : ∃ (b : Fin 8) (i : Fin 128) (j : Fin 1024), y = ix3 b i j := ⟨y 0, y 1, y 2, eq_ix3 y⟩
  have h7 : t.val % 8 = 7 := (flush0_2 t).mp hf
  have acc := Pipeline.eq_sum_fin_of_reset_step_apply_of_flush (fun n h => (outsAt0 m c n h).2) 8 (fun _ => 0)
    (fun p (y : S1024x1024.Idx) => term m c p (y 0) (y 1))
    (fun t h y => (congrArg _ (eq_ix2 y)).trans (first m c t h (y 0) (y 1)))
    (fun t h y => (congrArg _ (eq_ix2 y)).trans ((later m c t h (y 0) (y 1)).trans (congrArg (· + _) (congrArg _ (eq_ix2 y).symm))))
    t h7 (ix2 ⟨b * 128 + i, by omega⟩ j)
  refine (stored m c t h7 b i j).trans ((acc.trans (zero_add _)).trans ?_)
  refine Eq.trans (b := arr (m ((c : Thread nD τ).loc main_arg0)) (m ((c : Thread nD τ).loc main_arg1)) (ix3 b i j)) ?_ ?_
  · refine Fin.sum_mul_add_congr fun s l hl => point m c t h7 s _ j l hl
  · blk_ext [idx t]

end Glu

end
-- ==== Proof.GluRowsReference.lean ====
/- The gradient of the gate's weights by rows: the reference's array, and the claims. -/
module

public import proofs.«01_k».proof.Defs
public import proofs.«01_k».proof.Proof.GluRowsKernel
public import proofs.«01_k».proof.Proof.Gen.GluRows.Frame
public import proofs.«01_k».proof.Proof.Gen.GluRowsReferenceIdeal.Read
public import Idealize.ShloMosaic.Adequacy

@[expose] public section

set_option maxRecDepth 16384

noncomputable section

open Idealize.ShloMosaic Idealize.ShloMosaic.TcCoe Idealize.SL.Sem

namespace Glu

open Cert.GluRowsReferenceIdeal Cert.GluRowsReferenceIdeal.Read

theorem ref_eq (y d : FVec Ideal S8192x1024 .bf16) : val_main_v7 (F := Ideal) y d = arr y d := by
  funext q
  obtain ⟨b, i, j, rfl⟩ : ∃ (b : Fin 8) (i : Fin 128) (j : Fin 1024), q = ix3 b i j := ⟨q 0, q 1, q 2, eq_ix3 q⟩
  have h : val_main_v7 (F := Ideal) y d (ix3 b i j) = ∑ l : Fin 8192, d (ix2 l j) * y (ix2 l ⟨b * 128 + i, by omega⟩) := by
    pointwise [val_main_v7, val_main_v6, val_main_v5, val_main_v4, val_main_v3, val_main_v1]
    blk_ext
  rw [h]
  exact Finset.sum_congr rfl fun l _ => mul_comm _ _

end Glu

namespace Cert.Proof

/-- Both programs run and leave the same array. -/
theorem glu_rows_algebraic : algebraic_GluRowsIdeal_GluRowsReferenceIdeal := by
  intro m g m' g' _ hagree
  refine ⟨fun c => Glu.arr (m (c.tc.loc Cert.GluRowsIdeal.main_arg0)) (m (c.tc.loc Cert.GluRowsIdeal.main_arg1)), ?_, ?_⟩
  · refine (θ_run _ _ _).mono (fun r h c => ?_) (θ_run_and (Cert.GluRowsIdeal.Gen.run_main m g) (Cert.GluRowsIdeal.Gen.unchanged m g))
    exact ⟨((h.1 c).1 2).trans (Glu.final m c), h.2 c⟩
  · refine (θ_run _ _ _).mono (fun r h c => ?_) (Cert.GluRowsReferenceIdeal.Value.run m' g')
    obtain ⟨e0, e1⟩ := hagree c
    obtain ⟨h0, ha⟩ := h c
    refine ⟨h0.trans ((Cert.GluRowsReferenceIdeal.Read.val_main_v7_eq _ _).trans ((Glu.ref_eq _ _).trans ?_)), ha⟩
    rw [e0, e1]

/-- The reference's arguments end unchanged; it has no semaphore. -/
theorem glu_rows_reference_frame : quiescent_GluRowsReferenceIdeal := fun m ρ _ =>
  (θ_run _ _ _).mono (fun r h => ⟨fun c => (h c).2, sem_eq_zero_of_no_sems (by decide) r.2⟩)
    (Cert.GluRowsReferenceIdeal.Value.run m ρ)

end Cert.Proof

end
-- ==== Proof.Gating.lean ====
/- The even block's output on one row, in extended reals, and the joining of eight blocks of 128 columns. -/
module

public import proofs.«01_k».proof.Proof.Model
public import Idealize.ShloMosaic.Lib.Pipeline.ValueKit

@[expose] public section

noncomputable section

namespace Gating

open Idealize.ShloMosaic Sgu

/-! ## The activations on extended reals -/

/-- What the hyperbolic tangent of GELU is taken of. -/
def arg (z : EReal) : EReal := (cC : EReal) * z * (1 + ((8943 / 200000 : ℝ) : EReal) * (z * z))

/-- The same with the cube written out, as the tanh form usually has it. -/
theorem arg_cube (z : EReal) : (cC : EReal) * (z + ((8943 / 200000 : ℝ) : EReal) * (z * z * z)) = arg z := by
  have hc : (0 : ℝ) < cC := by unfold cC; norm_num
  have ha : (0 : ℝ) < 8943 / 200000 := by norm_num
  unfold arg
  induction z using EReal.rec with
  | bot =>
    have e : (1 : EReal) + ⊤ = ⊤ := EReal.add_top_of_ne_bot (EReal.coe_ne_bot 1)
    simp only [EReal.bot_mul_bot, EReal.top_mul_bot, EReal.coe_mul_bot_of_pos ha, EReal.coe_mul_top_of_pos ha, EReal.bot_add,
      EReal.coe_mul_bot_of_pos hc, e, EReal.bot_mul_top]
  | coe r =>
    simp only [← EReal.coe_one, ← EReal.coe_mul, ← EReal.coe_add]
    exact congrArg _ (by ring)
  | top =>
    have e : (1 : EReal) + ⊤ = ⊤ := EReal.add_top_of_ne_bot (EReal.coe_ne_bot 1)
    simp only [EReal.top_mul_top, EReal.coe_mul_top_of_pos ha, EReal.top_add_top, EReal.coe_mul_top_of_pos hc, e]

/-- The factor GELU multiplies its argument by. -/
def factor (z : EReal) : EReal := ((1 / 2 : ℝ) : EReal) * (1 + Ideal.tanh (arg z))

/-! ## One row -/

/-- The row after GELU, the gate's argument, and the gated row. -/
def activated (z : Fin 1024 → EReal) (j : Fin 1024) : EReal := z j * factor (z j)
def gate (z : Fin 1024 → EReal) (w : Fin 1024 → Fin 1024 → EReal) (b : Fin 1024 → EReal) (j : Fin 1024) : EReal :=
  ∑ m, activated z m * w m j + b j
def gated (z p : Fin 1024 → EReal) (w : Fin 1024 → Fin 1024 → EReal) (b : Fin 1024 → EReal) (j : Fin 1024) : EReal :=
  activated z j * Ideal.logistic (gate z w b j) * (p j * Ideal.logistic (p j))

/-- The residual row plus the gated row and the odd block's row, joined, times the output weights. -/
def output (x z p y : Fin 1024 → EReal) (w : Fin 1024 → Fin 1024 → EReal) (b : Fin 1024 → EReal) (o : Fin 2048 → Fin 1024 → EReal) (k : Fin 1024) : EReal :=
  x k + (∑ l : Fin 1024, gated z p w b l * o ⟨l, by omega⟩ k + ∑ l : Fin 1024, y l * o ⟨1024 + l, by omega⟩ k)

/-! ## Eight blocks of 128 columns -/

/-- Row `r` of an array held as eight blocks of 128 columns. -/
def lanes {n : ℕ} (Y : (⟨3, ![8, n, 128]⟩ : Shape).Idx → EReal) (r : Fin n) (q : Fin 1024) : EReal :=
  Y (ix3 ⟨q / 128, by omega⟩ r ⟨q % 128, Nat.mod_lt _ (by decide)⟩)
theorem lanes_at {n : ℕ} (Y : (⟨3, ![8, n, 128]⟩ : Shape).Idx → EReal) (r : Fin n) (b : Fin 8) (j : Fin 128) (h : (b : ℕ) * 128 + (j : ℕ) < 1024) :
    lanes Y r ⟨b * 128 + j, h⟩ = Y (ix3 b r j) := by
  refine congrArg Y (congrArg₂ (fun p s => ix3 p r s) (Fin.ext ?_) (Fin.ext ?_))
  · show ((b : ℕ) * 128 + j) / 128 = b; omega
  · show ((b : ℕ) * 128 + j) % 128 = j; omega
/-- A column lies in one of the blocks. -/
theorem col (q : Fin 1024) : ∃ (b : Fin 8) (j : Fin 128), q = ⟨b * 128 + j, by omega⟩ :=
  ⟨⟨q / 128, by omega⟩, ⟨q % 128, Nat.mod_lt _ (by decide)⟩, Fin.ext (by show (q : ℕ) = q / 128 * 128 + q % 128; omega)⟩

/-- Joining eight arrays of 128 columns. -/
theorem eight {n : ℕ} (y : Fin 8 → (⟨2, ![n, 128]⟩ : Shape).Idx → EReal)
    (h : Shape.Concatenates [(⟨2, ![n, 128]⟩ : Shape), ⟨2, ![n, 128]⟩, ⟨2, ![n, 128]⟩, ⟨2, ![n, 128]⟩, ⟨2, ![n, 128]⟩, ⟨2, ![n, 128]⟩, ⟨2, ![n, 128]⟩, ⟨2, ![n, 128]⟩] ⟨2, ![n, 1024]⟩ 1)
    (r : Fin n) (b : Fin 8) (j : Fin 128) :
    concatenate ⟨2, ![n, 1024]⟩ 1 [⟨_, y 0⟩, ⟨_, y 1⟩, ⟨_, y 2⟩, ⟨_, y 3⟩, ⟨_, y 4⟩, ⟨_, y 5⟩, ⟨_, y 6⟩, ⟨_, y 7⟩] h (ix2 r ⟨b * 128 + j, by omega⟩)
      = y b (ix2 r j) := by
  refine concatenate_apply_piece 1 ([⟨_, y 0⟩, ⟨_, y 1⟩, ⟨_, y 2⟩, ⟨_, y 3⟩, ⟨_, y 4⟩, ⟨_, y 5⟩, ⟨_, y 6⟩, ⟨_, y 7⟩] : List ((s : Shape) × (s.Idx → EReal)))
    h _ b b.isLt ⟨2, ![n, 128]⟩ (y b) ?_ rfl (b * 128) ?_ (ix2 r j) (fun d hd => ?_) rfl
  · fin_cases b <;> rfl
  · fin_cases b <;> rfl
  · fin_cases d
    · rfl
    · exact absurd rfl hd

/-- Joining the eight blocks of one array. -/
theorem joined {n k : ℕ} {y0 y1 y2 y3 y4 y5 y6 y7 : (⟨2, ![n, 128]⟩ : Shape).Idx → EReal} (Y : (⟨3, ![8, k, 128]⟩ : Shape).Idx → EReal)
    {h : Shape.Concatenates [(⟨2, ![n, 128]⟩ : Shape), ⟨2, ![n, 128]⟩, ⟨2, ![n, 128]⟩, ⟨2, ![n, 128]⟩, ⟨2, ![n, 128]⟩, ⟨2, ![n, 128]⟩, ⟨2, ![n, 128]⟩, ⟨2, ![n, 128]⟩] ⟨2, ![n, 1024]⟩ 1}
    (r : Fin n) (s : Fin k) (h0 : ∀ j, y0 (ix2 r j) = Y (ix3 0 s j)) (h1 : ∀ j, y1 (ix2 r j) = Y (ix3 1 s j)) (h2 : ∀ j, y2 (ix2 r j) = Y (ix3 2 s j))
    (h3 : ∀ j, y3 (ix2 r j) = Y (ix3 3 s j)) (h4 : ∀ j, y4 (ix2 r j) = Y (ix3 4 s j)) (h5 : ∀ j, y5 (ix2 r j) = Y (ix3 5 s j))
    (h6 : ∀ j, y6 (ix2 r j) = Y (ix3 6 s j)) (h7 : ∀ j, y7 (ix2 r j) = Y (ix3 7 s j)) (q : Fin 1024) :
    concatenate ⟨2, ![n, 1024]⟩ 1 [⟨_, y0⟩, ⟨_, y1⟩, ⟨_, y2⟩, ⟨_, y3⟩, ⟨_, y4⟩, ⟨_, y5⟩, ⟨_, y6⟩, ⟨_, y7⟩] h (ix2 r q) = lanes Y s q := by
  obtain ⟨b, j, rfl⟩ := col q
  rw [lanes_at]
  refine (eight (![y0, y1, y2, y3, y4, y5, y6, y7]) h r b j).trans ?_
  match b with
  | 0 => exact h0 j
  | 1 => exact h1 j
  | 2 => exact h2 j
  | 3 => exact h3 j
  | 4 => exact h4 j
  | 5 => exact h5 j
  | 6 => exact h6 j
  | 7 => exact h7 j

end Gating

end
-- ==== Proof.OutputKernel.lean ====
/- The even block's output: the array the kernel leaves. -/
module

public import proofs.«01_k».proof.Proof.Gating
public import proofs.«01_k».proof.Proof.RowPieces
public import proofs.«01_k».proof.Proof.Gen.OutputIdeal.Frame

@[expose] public section

set_option maxRecDepth 16384

noncomputable section

namespace Outp

open Idealize.ShloMosaic Idealize.ShloMosaic.TcCoe Idealize.SL.Sem
open Cert.OutputIdeal Cert.OutputIdeal.Gen Pieces Gating

theorem named_a (b : BitVec 32) : (Named.named κ "gelu_a" b : Ideal .f32) = ((8943 / 200000 : ℝ) : EReal) := by
  show (κ _).getD _ = _
  rfl

/-- The eight blocks joined. -/
theorem cast (v : FVec Ideal S1x512x128 .f32) (r : Fin 512) (j : Fin 128) :
    (shapeCast S512x128 v shapeCasts_S1x512x128_S512x128 : FVec Ideal S512x128 .f32) (ix2 r j) = v (ix3 0 r j) := by
  pointwise []
theorem row (Y : FVec Ideal S8x512x128 .f32) (r : Fin 512) (q : Fin 1024) :
    (k0_pay2 (F := Ideal) (View.ld Y r0_0) (View.ld Y r0_1) (View.ld Y r0_2) (View.ld Y r0_3) (View.ld Y r0_4) (View.ld Y r0_5) (View.ld Y r0_6) (View.ld Y r0_7) (ix2 r q) : EReal)
      = lanes Y r q :=
  joined (h := concatenates_S512x128_S512x128_S512x128_S512x128_S512x128_S512x128_S512x128_S512x128_S512x1024_d1) Y r r (fun j => (cast _ r j).trans (ld_slice (a := 8) 0 0 r j)) (fun j => (cast _ r j).trans (ld_slice (a := 8) 1 0 r j))
    (fun j => (cast _ r j).trans (ld_slice (a := 8) 2 0 r j)) (fun j => (cast _ r j).trans (ld_slice (a := 8) 3 0 r j))
    (fun j => (cast _ r j).trans (ld_slice (a := 8) 4 0 r j)) (fun j => (cast _ r j).trans (ld_slice (a := 8) 5 0 r j))
    (fun j => (cast _ r j).trans (ld_slice (a := 8) 6 0 r j)) (fun j => (cast _ r j).trans (ld_slice (a := 8) 7 0 r j)) q

theorem factor_at {v0 v2 v4 v6 v8 v10 v12 v14 : FVec Ideal S1x512x128 .f32} {z : Fin 1024 → EReal} {r : Fin 512} {q : Fin 1024}
    (h : k0_pay2 (F := Ideal) v0 v2 v4 v6 v8 v10 v12 v14 (ix2 r q) = z q) :
    k0_pay3 (F := Ideal) v0 v2 v4 v6 v8 v10 v12 v14 (ix2 r q) = factor (z q) := by
  pointwise [k0_pay3]
  simp only [h, named_a, Sgu.lit_cC, Sgu.lit_half]
  rfl

/-- What a grid point writes, from its rows. -/
theorem pay {v16 v29 p x : FVec Ideal S512x1024 .f32} {y : FVec Ideal S512x1024 .bf16} {w : FVec Ideal S1024x1024 .bf16} {b : FVec Ideal S1x1024 .f32} {o : FVec Ideal S2048x1024 .bf16}
    {z : Fin 1024 → EReal} {r : Fin 512} (h16 : ∀ q, v16 (ix2 r q) = z q) (h29 : ∀ q, v29 (ix2 r q) = factor (z q)) (k : Fin 1024) :
    k0_pay1 (F := Ideal) v16 v29 w b p y x o (ix2 r k)
      = output (fun q => x (ix2 r q)) z (fun q => p (ix2 r q)) (fun q => y (ix2 r q)) (fun a q => w (ix2 a q)) (fun q => b (ix2 0 q)) (fun a q => o (ix2 a q)) k := by
  pointwise [k0_pay1]
  simp only [h16, h29]
  rfl

variable (m : (ℓ : Loc nD τ sig) → Buf (Elt Ideal) ℓ) (c : Dev nD)

theorem out (t : Fin cfg0.N) (r : Fin 512) (k : Fin 1024) :
    out0_7 (iblk m c 0 t) (iblk m c 1 t) (iblk m c 2 t) (iblk m c 3 t) (iblk m c 4 t) (iblk m c 5 t) (iblk m c 6 t) (ix2 r k)
      = output (fun q => (iblk m c 0 t : FVec Ideal S512x1024 .f32) (ix2 r q)) (lanes (iblk m c 1 t) r) (fun q => (iblk m c 2 t : FVec Ideal S512x1024 .f32) (ix2 r q))
        (fun q => (iblk m c 3 t : FVec Ideal S512x1024 .bf16) (ix2 r q)) (fun a q => (iblk m c 4 t : FVec Ideal S1024x1024 .bf16) (ix2 a q))
        (fun q => (iblk m c 5 t : FVec Ideal S1x1024 .f32) (ix2 0 q)) (fun a q => (iblk m c 6 t : FVec Ideal S2048x1024 .bf16) (ix2 a q)) k := by
  unfold out0_7
  simp (disch := decide) only [r0_8, r0_9, r0_10, r0_11, View.canon_cons_unit_lit', View.ld_unit_lit']
  exact pay (fun q => row _ r q) (fun q => factor_at (row _ r q)) k

/-! ## The array -/

/-- Which part of its array each window holds at a grid point. -/
theorem idx : ∀ t : Fin cfg0.N, win0_0.index t = ![t.val, 0] ∧ win0_1.index t = ![0, t.val, 0] ∧ win0_2.index t = ![t.val, 1]
    ∧ win0_3.index t = ![t.val, 0] ∧ win0_4.index t = ![0, 0] ∧ win0_5.index t = ![0, 0] ∧ win0_6.index t = ![0, 0] ∧ win0_7.index t = ![t.val, 0] :=
  (by decide +kernel : ∀ t : Fin grid0.N, _)

theorem lt16 (t : Fin cfg0.N) : t.val < 16 := lt_of_lt_of_eq t.isLt N_0

/-- The layer's output rows. -/
def arr (x : FVec Ideal S8192x1024 .f32) (Y : FVec Ideal S8x8192x128 .f32) (p : FVec Ideal S8192x6144 .f32) (y : FVec Ideal S8192x1024 .bf16)
    (w : FVec Ideal S1024x1024 .bf16) (b : FVec Ideal S1x1024 .f32) (o : FVec Ideal S2048x1024 .bf16) : FVec Ideal S8192x1024 .f32 :=
  fun i => output (fun q => x (ix2 (i 0) q)) (lanes Y (i 0)) (fun q => p (ix2 (i 0) ⟨1024 + q, by omega⟩)) (fun q => y (ix2 (i 0) q))
    (fun a q => w (ix2 a q)) (fun q => b (ix2 0 q)) (fun a q => o (ix2 a q)) (i 1)

theorem output_congr {x x' z z' p p' y y' b b' : Fin 1024 → EReal} {w w' : Fin 1024 → Fin 1024 → EReal} {o o' : Fin 2048 → Fin 1024 → EReal}
    (hx : ∀ q, x q = x' q) (hz : ∀ q, z q = z' q) (hp : ∀ q, p q = p' q) (hy : ∀ q, y q = y' q) (hw : ∀ a q, w a q = w' a q) (hb : ∀ q, b q = b' q)
    (ho : ∀ a q, o a q = o' a q) (k : Fin 1024) : output x z p y w b o k = output x' z' p' y' w' b' o' k := by
  rw [funext hx, funext hz, funext hp, funext hy, funext fun a => funext (hw a), funext hb, funext fun a => funext (ho a)]

theorem final : (dats m 0 c).arrAt 7 (cfgs 0).N
    = arr (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) := by
  refine (dats m 0 c).arrAt_eq_of_covers 7 _ (by decide +kernel) fun t _ y => ?_
  blk_simp
  rw [after0_7]
  have hN : t.val < 16 := lt16 t
  obtain ⟨r, k, rfl⟩ : ∃ (r : Fin 512) (k : Fin 1024), y = ix2 r k := ⟨y 0, y 1, eq_ix2 y⟩
  refine (out m c t r k).trans ?_
  refine Eq.trans (b := arr (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) (ix2 ⟨t.val * 512 + r, by omega⟩ k)) ?_ ?_
  · refine output_congr (fun q => ?_) (fun q => ?_) (fun q => ?_) (fun q => ?_) (fun a q => ?_) (fun q => ?_) (fun a q => ?_) k
    · blk_ext [iblk, V, idx t]
    · unfold lanes; blk_ext [iblk, V, idx t]
    · blk_ext [iblk, V, idx t]
    · blk_ext [iblk, V, idx t]
    · blk_ext [iblk, V, idx t]
    · blk_ext [iblk, V, idx t]
    · blk_ext [iblk, V, idx t]
  · blk_ext [idx t]

end Outp

end
-- ==== Proof.OutputReference.lean ====
/- The even block's output: the reference's array, and the claims. -/
module

public import proofs.«01_k».proof.Defs
public import proofs.«01_k».proof.Proof.OutputKernel
public import proofs.«01_k».proof.Proof.Gen.Output.Frame
public import proofs.«01_k».proof.Proof.Gen.OutputReferenceIdeal.Read
public import Idealize.ShloMosaic.Adequacy

@[expose] public section

set_option maxRecDepth 16384

noncomputable section

namespace Outp

open Idealize.ShloMosaic Idealize.ShloMosaic.TcCoe Idealize.SL.Sem Gating
open Cert.OutputReferenceIdeal Cert.OutputReferenceIdeal.Read

variable (x : FVec Ideal S8192x1024 .f32) (Y : FVec Ideal S8x8192x128 .f32) (p : FVec Ideal S8192x6144 .f32) (y : FVec Ideal S8192x1024 .bf16)
  (w : FVec Ideal S1024x1024 .bf16) (b : FVec Ideal S1x1024 .f32) (o : FVec Ideal S2048x1024 .bf16) (r : Fin 8192) (j : Fin 1024)

theorem ref_row : (val_main_v1 (F := Ideal) Y (ix2 r j) : EReal) = lanes Y r j := by
  pointwise [val_main_v1, val_main_v0]
  unfold lanes
  blk_ext

theorem ref_factor : (val_main_v14 (F := Ideal) Y (ix2 r j) : EReal) = factor (lanes Y r j) := by
  pointwise [val_main_v14, val_main_v13, val_main_v12, val_main_v11, val_main_v10, val_main_v9, val_main_v8, val_main_v7, val_main_v6, val_main_v5, val_main_v4, val_main_v3, val_main_v2,
    val_main_cst, val_main_cst_0, val_main_cst_1, val_main_cst_2, val_main_cst_3]
  have e : ((44715 / 1000000 : ℝ)) = 8943 / 200000 := by norm_num
  simp only [ref_row, Sgu.lit_half, Sgu.lit_cC, Sgu.lit44715, Sgu.lit1e6, Sgu.div_pos_coe _ _ (show (0 : ℝ) < 1000000 by norm_num), e, arg_cube]
  rfl

theorem ref_activated : (val_main_v15 (F := Ideal) Y (ix2 r j) : EReal) = activated (lanes Y r) j := by
  pointwise [val_main_v15]
  simp only [ref_row, ref_factor]
  rfl

theorem ref_gate : (val_main_v21 (F := Ideal) Y w b (ix2 r j) : EReal) = gate (lanes Y r) (fun a q => w (ix2 a q)) (fun q => b (ix2 0 q)) j := by
  pointwise [val_main_v21, val_main_v20, val_main_v19, val_main_v18, val_main_v17, val_main_v16]
  simp only [ref_activated]
  rfl

theorem ref_gated : (val_main_v31 (F := Ideal) Y p w b (ix2 r j) : EReal)
    = gated (lanes Y r) (fun q => p (ix2 r ⟨1024 + q, by omega⟩)) (fun a q => w (ix2 a q)) (fun q => b (ix2 0 q)) j := by
  pointwise [val_main_v31, val_main_v30, val_main_v29, val_main_v28, val_main_v27, val_main_v26, val_main_v25, val_main_v24, val_main_v23, val_main_v22,
    val_main_cst_4, val_main_cst_5, val_main_call0_v5, val_main_call0_v4, val_main_call0_v3, val_main_call0_v2, val_main_call0_v1, val_main_call0_v0, val_main_call0_cst, val_main_call0_cst_0]
  simp only [ref_activated, ref_gate]
  rfl

theorem ref_eq : val_main_v36 (F := Ideal) x Y p y w b o = arr x Y p y w b o := by
  funext q
  obtain ⟨r, k, rfl⟩ : ∃ (r : Fin 8192) (k : Fin 1024), q = ix2 r k := ⟨q 0, q 1, eq_ix2 q⟩
  pointwise [val_main_v36, val_main_v35, val_main_v34, val_main_v33, val_main_v32]
  simp only [ref_gated]
  rfl

end Outp

open Idealize.ShloMosaic Idealize.SL.Sem

namespace Cert.Proof

/-- Both programs run and leave the same array. -/
theorem output_algebraic : algebraic_OutputIdeal_OutputReferenceIdeal := by
  intro m g m' g' _ hagree
  refine ⟨fun c => Outp.arr (m (c.tc.loc Cert.OutputIdeal.main_arg0)) (m (c.tc.loc Cert.OutputIdeal.main_arg1)) (m (c.tc.loc Cert.OutputIdeal.main_arg2))
    (m (c.tc.loc Cert.OutputIdeal.main_arg3)) (m (c.tc.loc Cert.OutputIdeal.main_arg4)) (m (c.tc.loc Cert.OutputIdeal.main_arg5)) (m (c.tc.loc Cert.OutputIdeal.main_arg6)), ?_, ?_⟩
  · refine (θ_run _ _ _).mono (fun r h c => ?_) (θ_run_and (Cert.OutputIdeal.Gen.run_main m g) (Cert.OutputIdeal.Gen.unchanged m g))
    exact ⟨((h.1 c).1 7).trans (Outp.final m c), h.2 c⟩
  · refine (θ_run _ _ _).mono (fun r h c => ?_) (Cert.OutputReferenceIdeal.Value.run m' g')
    obtain ⟨e0, e1, e2, e3, e4, e5, e6⟩ := hagree c
    obtain ⟨h0, ha⟩ := h c
    refine ⟨h0.trans ((Cert.OutputReferenceIdeal.Read.val_main_v36_eq _ _ _ _ _ _ _).trans ((Outp.ref_eq _ _ _ _ _ _ _).trans ?_)), ha⟩
    rw [e0, e1, e2, e3, e4, e5, e6]

/-- The reference's arguments end unchanged; it has no semaphore. -/
theorem output_reference_frame : quiescent_OutputReferenceIdeal := fun m ρ _ =>
  (θ_run _ _ _).mono (fun r h => ⟨fun c => (h c).2, sem_eq_zero_of_no_sems (by decide) r.2⟩)
    (Cert.OutputReferenceIdeal.Value.run m ρ)

end Cert.Proof

end
-- ==== Proof.GateRow.lean ====
/- The backward pass of the even block's gate on one row: what it computes in extended reals, and the same on real numbers. -/
module

public import proofs.«01_k».proof.Proof.Gating

@[expose] public section

noncomputable section

namespace GateRow

open Idealize.ShloMosaic Sgu Gating

/-! ## Extended reals -/

/-- GELU's derivative. -/
def slope (z : EReal) : EReal :=
  factor z + ((1 / 2 : ℝ) : EReal) * z * (1 - Ideal.tanh (arg z) * Ideal.tanh (arg z)) * (cC : EReal) * (1 + ((26829 / 200000 : ℝ) : EReal) * (z * z))
/-- SiLU and its derivative. -/
def silu (p : EReal) : EReal := p * Ideal.logistic p
def dsilu (p : EReal) : EReal := Ideal.logistic p * (1 + p * (1 - Ideal.logistic p))

section
variable (z p d : Fin 1024 → EReal) (w wo : Fin 1024 → Fin 1024 → EReal) (b : Fin 1024 → EReal) (j : Fin 1024)

/-- The gate, and the gated row before and after SiLU's factor. -/
def sig : EReal := Ideal.logistic (gate z w b j)
def open_ : EReal := activated z j * sig z w b j
def gatedRow : EReal := open_ z w b j * silu (p j)
/-- The gradient at the gated row. -/
def back : EReal := ∑ k, d k * wo j k
/-- The gradients at SiLU's argument, at the gate's argument and at GELU's argument. -/
def toSilu : EReal := back d wo j * open_ z w b j * dsilu (p j)
def toGate : EReal := back d wo j * silu (p j) * activated z j * sig z w b j * (1 - sig z w b j)
def toGelu : EReal := (back d wo j * silu (p j) * sig z w b j + ∑ k, toGate z p d w wo b k * w j k) * slope (z j)
end

/-! ## Real numbers -/

theorem coe_eq {a b : ℝ} (h : a = b) : (a : EReal) = (b : EReal) := congrArg _ h

theorem arg_coe (z : ℝ) : arg (z : EReal) = ((cC * z * (1 + 8943 / 200000 * (z * z)) : ℝ) : EReal) := by
  unfold arg
  simp only [← EReal.coe_one, ← EReal.coe_mul, ← EReal.coe_add]
theorem tanh_arg (z : ℝ) : Ideal.tanh (arg (z : EReal)) = (th z : EReal) := by
  rw [arg_coe]; exact Ideal.tanh_coe _
theorem factor_coe (z : ℝ) : factor (z : EReal) = (hp z : EReal) := by
  unfold factor
  simp only [tanh_arg, ← EReal.coe_one, ← EReal.coe_mul, ← EReal.coe_add]
  rfl
theorem activated_coe (z : Fin 1024 → ℝ) (j : Fin 1024) : activated (fun q => (z q : EReal)) j = (gel (z j) : EReal) := by
  unfold activated
  rw [factor_coe, ← EReal.coe_mul]; rfl
theorem slope_coe (z : ℝ) : slope (z : EReal) = (dgel z : EReal) := by
  unfold slope
  simp only [tanh_arg, factor_coe, ← EReal.coe_one, ← EReal.coe_mul, ← EReal.coe_add, ← EReal.coe_sub]
  rfl
theorem logistic_coe (p : ℝ) : Ideal.logistic (p : EReal) = (lgs p : EReal) := Ideal.logistic_coe _
theorem silu_coe (p : ℝ) : silu (p : EReal) = (act p : EReal) := by
  unfold silu
  rw [logistic_coe, ← EReal.coe_mul]; rfl
theorem dsilu_coe (p : ℝ) : dsilu (p : EReal) = (dact p : EReal) := by
  unfold dsilu
  simp only [logistic_coe, ← EReal.coe_one, ← EReal.coe_mul, ← EReal.coe_add, ← EReal.coe_sub]
  rfl

section
variable (z p d : Fin 1024 → ℝ) (w wo : Fin 1024 → Fin 1024 → ℝ) (b : Fin 1024 → ℝ) (j : Fin 1024)

def rSig : ℝ := lgs (∑ m, gel (z m) * w m j + b j)
def rBack : ℝ := ∑ k, d k * wo j k
def rToSilu : ℝ := rBack d wo j * (gel (z j) * rSig z w b j) * dact (p j)
def rToGate : ℝ := rBack d wo j * act (p j) * gel (z j) * rSig z w b j * (1 - rSig z w b j)
def rToGelu : ℝ := (rBack d wo j * act (p j) * rSig z w b j + ∑ k, rToGate z p d w wo b k * w j k) * dgel (z j)

theorem sig_coe : sig (fun q => (z q : EReal)) (fun a q => (w a q : EReal)) (fun q => (b q : EReal)) j = (rSig z w b j : EReal) := by
  unfold sig gate
  simp only [activated_coe, ← EReal.coe_mul, coe_sum, ← EReal.coe_add, logistic_coe]
  rfl
theorem back_coe : back (fun q => (d q : EReal)) (fun a q => (wo a q : EReal)) j = (rBack d wo j : EReal) := by
  unfold back
  simp only [← EReal.coe_mul, coe_sum]
  rfl
theorem toSilu_coe : toSilu (fun q => (z q : EReal)) (fun q => (p q : EReal)) (fun q => (d q : EReal)) (fun a q => (w a q : EReal)) (fun a q => (wo a q : EReal))
    (fun q => (b q : EReal)) j = (rToSilu z p d w wo b j : EReal) := by
  unfold toSilu open_
  simp only [activated_coe, sig_coe, back_coe, dsilu_coe, ← EReal.coe_mul]
  rfl
theorem toGate_coe : toGate (fun q => (z q : EReal)) (fun q => (p q : EReal)) (fun q => (d q : EReal)) (fun a q => (w a q : EReal)) (fun a q => (wo a q : EReal))
    (fun q => (b q : EReal)) j = (rToGate z p d w wo b j : EReal) := by
  unfold toGate
  simp only [activated_coe, sig_coe, back_coe, silu_coe, ← EReal.coe_one, ← EReal.coe_mul, ← EReal.coe_sub]
  rfl
theorem toGelu_coe : toGelu (fun q => (z q : EReal)) (fun q => (p q : EReal)) (fun q => (d q : EReal)) (fun a q => (w a q : EReal)) (fun a q => (wo a q : EReal))
    (fun q => (b q : EReal)) j = (rToGelu z p d w wo b j : EReal) := by
  unfold toGelu
  simp only [toGate_coe, sig_coe, back_coe, silu_coe, slope_coe, ← EReal.coe_mul, coe_sum, ← EReal.coe_add]
  rfl

end

end GateRow

end
-- ==== Proof.GateKernel.lean ====
/- The backward pass of the even block's gate: the arrays the kernel leaves. -/
module

public import proofs.«01_k».proof.Proof.GateRow
public import proofs.«01_k».proof.Proof.RowPieces
public import proofs.«01_k».proof.Proof.Gen.GateIdeal.Frame

@[expose] public section

set_option maxRecDepth 16384

noncomputable section

namespace Gat

open Idealize.ShloMosaic Idealize.ShloMosaic.TcCoe Idealize.SL.Sem
open Cert.GateIdeal Cert.GateIdeal.Gen Pieces Gating GateRow

theorem named_a (b : BitVec 32) : (Named.named κ "gelu_a" b : Ideal .f32) = ((8943 / 200000 : ℝ) : EReal) := by
  show (κ _).getD _ = _
  rfl
theorem named_3a (b : BitVec 32) : (Named.named κ "gelu_3a" b : Ideal .f32) = ((26829 / 200000 : ℝ) : EReal) := by
  show (κ _).getD _ = _
  rfl

/-- The eight blocks joined. -/
theorem cast (v : FVec Ideal S1x256x128 .f32) (r : Fin 256) (j : Fin 128) :
    (shapeCast S256x128 v shapeCasts_S1x256x128_S256x128 : FVec Ideal S256x128 .f32) (ix2 r j) = v (ix3 0 r j) := by
  pointwise []

/-! ## The first half of a block's rows -/

section
variable {v3 v5 v7 v9 v11 v13 v15 v17 : FVec Ideal S1x256x128 .f32} {v19 v20 v28 v33 v47 v54 v55 v57 v63 v64 v65 v78 v84 : FVec Ideal S256x1024 .f32}
  {v48 v66 v80 : FVec Ideal S1024x1024 .bf16} {v51 : FVec Ideal S1x1024 .f32} {v67 : FVec Ideal S256x1024 .bf16}
  {z p d : Fin 1024 → EReal} {w wo : Fin 1024 → Fin 1024 → EReal} {b : Fin 1024 → EReal} {r : Fin 256}

theorem lo_sq (h : ∀ q, k0_pay8 (F := Ideal) v3 v5 v7 v9 v11 v13 v15 v17 (ix2 r q) = z q) (q : Fin 1024) :
    k0_pay9 (F := Ideal) v3 v5 v7 v9 v11 v13 v15 v17 (ix2 r q) = z q * z q := by
  pointwise [k0_pay9]
  simp only [h]
theorem lo_th (h : ∀ q, k0_pay8 (F := Ideal) v3 v5 v7 v9 v11 v13 v15 v17 (ix2 r q) = z q) (q : Fin 1024) :
    k0_pay10 (F := Ideal) v3 v5 v7 v9 v11 v13 v15 v17 (ix2 r q) = Ideal.tanh (arg (z q)) := by
  pointwise [k0_pay10]
  simp only [h, lo_sq h, named_a, Sgu.lit_cC]
  rfl
theorem lo_y (h19 : ∀ q, v19 (ix2 r q) = z q) (h28 : ∀ q, v28 (ix2 r q) = Ideal.tanh (arg (z q))) (q : Fin 1024) :
    k0_pay12 (F := Ideal) v19 v28 (ix2 r q) = activated z q := by
  pointwise [k0_pay12, k0_pay11]
  simp only [h19, h28, Sgu.lit_half]
  rfl
theorem lo_slope (h19 : ∀ q, v19 (ix2 r q) = z q) (h20 : ∀ q, v20 (ix2 r q) = z q * z q) (h28 : ∀ q, v28 (ix2 r q) = Ideal.tanh (arg (z q))) (q : Fin 1024) :
    k0_pay13 (F := Ideal) v19 v20 v28 (ix2 r q) = slope (z q) := by
  pointwise [k0_pay13, k0_pay11]
  simp only [h19, h20, h28, Sgu.lit_half, Sgu.lit_cC, named_3a]
  rfl
theorem lo_sig (h19 : ∀ q, v19 (ix2 r q) = z q) (h28 : ∀ q, v28 (ix2 r q) = Ideal.tanh (arg (z q))) (hw : ∀ a q, v48 (ix2 a q) = w a q)
    (hb : ∀ q, v51 (ix2 0 q) = b q) (q : Fin 1024) : k0_pay14 (F := Ideal) v19 v28 v48 v51 (ix2 r q) = sig z w b q := by
  pointwise [k0_pay14]
  simp only [lo_y h19 h28, hw, hb]
  rfl
theorem lo_silu (h : ∀ q, v55 (ix2 r q) = p q) (q : Fin 1024) : k0_pay16 (F := Ideal) v55 (ix2 r q) = silu (p q) := by
  pointwise [k0_pay16, k0_pay15]
  simp only [h]
  rfl
theorem lo_dsilu (h : ∀ q, v55 (ix2 r q) = p q) (q : Fin 1024) : k0_pay17 (F := Ideal) v55 (ix2 r q) = dsilu (p q) := by
  pointwise [k0_pay17, k0_pay15]
  simp only [h]
  rfl
theorem lo_open (h19 : ∀ q, v19 (ix2 r q) = z q) (h28 : ∀ q, v28 (ix2 r q) = Ideal.tanh (arg (z q))) (hw : ∀ a q, v48 (ix2 a q) = w a q)
    (hb : ∀ q, v51 (ix2 0 q) = b q) (q : Fin 1024) : k0_pay18 (F := Ideal) v19 v28 v48 v51 (ix2 r q) = open_ z w b q := by
  pointwise [k0_pay18]
  simp only [lo_y h19 h28, lo_sig h19 h28 hw hb]
  rfl
theorem lo_d (h : ∀ q, v65 (ix2 r q) = d q) (q : Fin 1024) : k0_pay19 (F := Ideal) v65 (ix2 r q) = d q := by
  pointwise [k0_pay19]
  exact h q
theorem lo_back (h67 : ∀ q, v67 (ix2 r q) = d q) (ho : ∀ a q, v66 (ix2 a q) = wo a q) (q : Fin 1024) :
    k0_pay20 (F := Ideal) v66 v67 (constant S256x1024 .f32 0x00000000#32) (ix2 r q) = back d wo q := by
  pointwise [k0_pay20]
  simp only [h67, ho]
  rfl
theorem lo_toSilu (h67 : ∀ q, v67 (ix2 r q) = d q) (ho : ∀ a q, v66 (ix2 a q) = wo a q) (h63 : ∀ q, v63 (ix2 r q) = dsilu (p q))
    (h64 : ∀ q, v64 (ix2 r q) = open_ z w b q) (q : Fin 1024) :
    k0_pay21 (F := Ideal) v63 v64 v66 v67 (constant S256x1024 .f32 0x00000000#32) (ix2 r q) = toSilu z p d w wo b q := by
  pointwise [k0_pay21]
  simp only [lo_back h67 ho, h63, h64]
  rfl
theorem lo_toGate (h33 : ∀ q, v33 (ix2 r q) = activated z q) (h54 : ∀ q, v54 (ix2 r q) = sig z w b q) (h57 : ∀ q, v57 (ix2 r q) = silu (p q))
    (h67 : ∀ q, v67 (ix2 r q) = d q) (ho : ∀ a q, v66 (ix2 a q) = wo a q) (q : Fin 1024) :
    k0_pay23 (F := Ideal) v33 v54 v57 v66 v67 (constant S256x1024 .f32 0x00000000#32) (ix2 r q) = toGate z p d w wo b q := by
  pointwise [k0_pay23, k0_pay22]
  simp only [lo_back h67 ho, h33, h54, h57]
  rfl
theorem lo_toGelu (h33 : ∀ q, v33 (ix2 r q) = activated z q) (h47 : ∀ q, v47 (ix2 r q) = slope (z q)) (h54 : ∀ q, v54 (ix2 r q) = sig z w b q)
    (h57 : ∀ q, v57 (ix2 r q) = silu (p q)) (h67 : ∀ q, v67 (ix2 r q) = d q) (ho : ∀ a q, v66 (ix2 a q) = wo a q) (hw : ∀ a q, v80 (ix2 a q) = w a q) (q : Fin 1024) :
    k0_pay24 (F := Ideal) v33 v47 v54 v57 v66 v67 (constant S256x1024 .f32 0x00000000#32) v80 (ix2 r q) = toGelu z p d w wo b q := by
  pointwise [k0_pay24, k0_pay22]
  simp only [lo_back h67 ho, lo_toGate h33 h54 h57 h67 ho, h47, h54, h57, hw]
  rfl
theorem lo_gated (h57 : ∀ q, v57 (ix2 r q) = silu (p q)) (h64 : ∀ q, v64 (ix2 r q) = open_ z w b q) (q : Fin 1024) :
    k0_pay36 (F := Ideal) v57 v64 (ix2 r q) = gatedRow z p w b q := by
  pointwise [k0_pay36]
  simp only [h57, h64]
  rfl
end

theorem lo_acc (v78 : FVec Ideal S256x1024 .f32) (a : FVec Ideal S1x1024 .f32) (o : Fin 1) (k : Fin 1024) :
    (k0_pay37 (F := Ideal) v78 a (ix2 o k) : EReal) = a (ix2 o k) + ∑ l : Fin 256, v78 (ix2 l k) := by
  pointwise [k0_pay37]
theorem hi_acc (v205 : FVec Ideal S256x1024 .f32) (a : FVec Ideal S1x1024 .f32) (o : Fin 1) (k : Fin 1024) :
    (k0_pay6 (F := Ideal) v205 a (ix2 o k) : EReal) = a (ix2 o k) + ∑ l : Fin 256, v205 (ix2 l k) := by
  pointwise [k0_pay6]

/-! ## The second half -/

section
variable {v3 v5 v7 v9 v11 v13 v15 v17 : FVec Ideal S1x256x128 .f32} {v147 v159 v162 v163 v160 v174 v181 v182 v192 v200 v202 v184 v191 : FVec Ideal S256x1024 .f32}
  {v175 v193 v207 : FVec Ideal S1024x1024 .bf16} {v178 : FVec Ideal S1x1024 .f32}
  {z p d : Fin 1024 → EReal} {w wo : Fin 1024 → Fin 1024 → EReal} {b : Fin 1024 → EReal} {r : Fin 256}

theorem hi_sq (h : ∀ q, k0_pay38 (F := Ideal) v3 v5 v7 v9 v11 v13 v15 v17 (ix2 r q) = z q) (q : Fin 1024) :
    k0_pay39 (F := Ideal) v3 v5 v7 v9 v11 v13 v15 v17 (ix2 r q) = z q * z q := by
  pointwise [k0_pay39]
  simp only [h]
theorem hi_th (h : ∀ q, k0_pay38 (F := Ideal) v3 v5 v7 v9 v11 v13 v15 v17 (ix2 r q) = z q) (q : Fin 1024) :
    k0_pay40 (F := Ideal) v3 v5 v7 v9 v11 v13 v15 v17 (ix2 r q) = Ideal.tanh (arg (z q)) := by
  pointwise [k0_pay40]
  simp only [h, hi_sq h, named_a, Sgu.lit_cC]
  rfl
theorem hi_factor (h : ∀ q, k0_pay38 (F := Ideal) v3 v5 v7 v9 v11 v13 v15 v17 (ix2 r q) = z q) (q : Fin 1024) :
    k0_pay41 (F := Ideal) v3 v5 v7 v9 v11 v13 v15 v17 (ix2 r q) = factor (z q) := by
  pointwise [k0_pay41]
  simp only [hi_th h, Sgu.lit_half]
  rfl
theorem hi_y (h : ∀ q, k0_pay38 (F := Ideal) v3 v5 v7 v9 v11 v13 v15 v17 (ix2 r q) = z q) (q : Fin 1024) :
    k0_pay42 (F := Ideal) v3 v5 v7 v9 v11 v13 v15 v17 (ix2 r q) = activated z q := by
  pointwise [k0_pay42]
  simp only [h, hi_factor h]
  rfl
theorem hi_slope (h : ∀ q, k0_pay38 (F := Ideal) v3 v5 v7 v9 v11 v13 v15 v17 (ix2 r q) = z q) (q : Fin 1024) :
    k0_pay45 (F := Ideal) (k0_pay39 v3 v5 v7 v9 v11 v13 v15 v17) (k0_pay41 v3 v5 v7 v9 v11 v13 v15 v17) (k0_pay43 v3 v5 v7 v9 v11 v13 v15 v17)
      (k0_pay44 v3 v5 v7 v9 v11 v13 v15 v17) (ix2 r q) = slope (z q) := by
  pointwise [k0_pay45, k0_pay43, k0_pay44]
  simp only [h, hi_sq h, hi_th h, hi_factor h, Sgu.lit_half, Sgu.lit_cC, named_3a]
  rfl
theorem hi_sig (h160 : ∀ q, v160 (ix2 r q) = activated z q) (hw : ∀ a q, v175 (ix2 a q) = w a q) (hb : ∀ q, v178 (ix2 0 q) = b q) (q : Fin 1024) :
    k0_pay46 (F := Ideal) v160 v175 v178 (ix2 r q) = sig z w b q := by
  pointwise [k0_pay46]
  simp only [h160, hw, hb]
  rfl
theorem hi_open (h160 : ∀ q, v160 (ix2 r q) = activated z q) (hw : ∀ a q, v175 (ix2 a q) = w a q) (hb : ∀ q, v178 (ix2 0 q) = b q) (q : Fin 1024) :
    k0_pay49 (F := Ideal) v160 v175 v178 (ix2 r q) = open_ z w b q := by
  pointwise [k0_pay49]
  simp only [h160, hi_sig h160 hw hb]
  rfl
theorem hi_silu (h : ∀ q, v182 (ix2 r q) = p q) (q : Fin 1024) : k0_pay48 (F := Ideal) v182 (ix2 r q) = silu (p q) := by
  pointwise [k0_pay48, k0_pay47]
  simp only [h]
  rfl
theorem hi_back (hd : ∀ q, v192 (ix2 r q) = d q) (ho : ∀ a q, v193 (ix2 a q) = wo a q) (q : Fin 1024) :
    k0_pay50 (F := Ideal) v192 v193 (ix2 r q) = back d wo q := by
  pointwise [k0_pay50]
  simp only [hd, ho]
  rfl
theorem hi_toSilu (h160 : ∀ q, v160 (ix2 r q) = activated z q) (hw : ∀ a q, v175 (ix2 a q) = w a q) (hb : ∀ q, v178 (ix2 0 q) = b q)
    (hp : ∀ q, v182 (ix2 r q) = p q) (hd : ∀ q, v192 (ix2 r q) = d q) (ho : ∀ a q, v193 (ix2 a q) = wo a q) (q : Fin 1024) :
    k0_pay51 (F := Ideal) v160 v175 v178 v182 v192 v193 (ix2 r q) = toSilu z p d w wo b q := by
  pointwise [k0_pay51, k0_pay47]
  simp only [hi_back hd ho, hi_open h160 hw hb, hp]
  rfl
theorem hi_mid (hp : ∀ q, v182 (ix2 r q) = p q) (hd : ∀ q, v192 (ix2 r q) = d q) (ho : ∀ a q, v193 (ix2 a q) = wo a q) (q : Fin 1024) :
    k0_pay52 (F := Ideal) v182 v192 v193 (ix2 r q) = back d wo q * silu (p q) := by
  pointwise [k0_pay52]
  simp only [hi_back hd ho, hi_silu hp]
theorem hi_pre (h160 : ∀ q, v160 (ix2 r q) = activated z q) (hw : ∀ a q, v175 (ix2 a q) = w a q) (hb : ∀ q, v178 (ix2 0 q) = b q)
    (hp : ∀ q, v182 (ix2 r q) = p q) (hd : ∀ q, v192 (ix2 r q) = d q) (ho : ∀ a q, v193 (ix2 a q) = wo a q) (q : Fin 1024) :
    k0_pay53 (F := Ideal) v160 v175 v178 v182 v192 v193 (ix2 r q) = back d wo q * silu (p q) * activated z q * sig z w b q := by
  pointwise [k0_pay53]
  simp only [hi_mid hp hd ho, hi_sig h160 hw hb, h160]
theorem hi_toGate (h181 : ∀ q, v181 (ix2 r q) = sig z w b q) (h202 : ∀ q, v202 (ix2 r q) = back d wo q * silu (p q) * activated z q * sig z w b q) (q : Fin 1024) :
    k0_pay54 (F := Ideal) v181 v202 (ix2 r q) = toGate z p d w wo b q := by
  pointwise [k0_pay54]
  simp only [h181, h202]
  rfl
theorem hi_toGelu (h174 : ∀ q, v174 (ix2 r q) = slope (z q)) (h181 : ∀ q, v181 (ix2 r q) = sig z w b q) (h200 : ∀ q, v200 (ix2 r q) = back d wo q * silu (p q))
    (h202 : ∀ q, v202 (ix2 r q) = back d wo q * silu (p q) * activated z q * sig z w b q) (hw : ∀ a q, v207 (ix2 a q) = w a q) (q : Fin 1024) :
    k0_pay55 (F := Ideal) v174 v181 v200 v202 v207 (ix2 r q) = toGelu z p d w wo b q := by
  pointwise [k0_pay55]
  simp only [h174, h181, h200, hi_toGate h181 h202, hw]
  rfl
theorem hi_gated (h184 : ∀ q, v184 (ix2 r q) = silu (p q)) (h191 : ∀ q, v191 (ix2 r q) = open_ z w b q) (q : Fin 1024) :
    k0_pay5 (F := Ideal) v184 v191 (ix2 r q) = gatedRow z p w b q := by
  pointwise [k0_pay5]
  simp only [h184, h191]
  rfl
end

end Gat

end
-- ==== Proof.GatePoint.lean ====
/- The backward pass of the even block's gate: what a grid point writes, and the arrays the kernel leaves. -/
module

public import proofs.«01_k».proof.Proof.GateKernel

@[expose] public section

set_option maxRecDepth 16384

noncomputable section

namespace Gat

open Idealize.ShloMosaic Idealize.ShloMosaic.TcCoe Idealize.SL.Sem
open Cert.GateIdeal Cert.GateIdeal.Gen Pieces Gating GateRow

/-! ## A point's rows -/

/-- Half the rows of one slice of a block. -/
abbrev part (Y : FVec Ideal S8x512x128 .f32) (g o : ℕ) (h : ∀ a, (![g, o, 0] : Fin 3 → ℕ) a + (![1, 256, 128] : Fin 3 → ℕ) a ≤ S8x512x128.size a) : FVec Ideal S1x256x128 .f32 :=
  View.ld (Val := Elt Ideal) (S := S8x512x128) (e' := .f32) Y (Rect.unit (s := S8x512x128) ![g, o, 0] ![1, 256, 128] h)

/-- Rows 0 to 255 of a block, and rows 256 to 511. -/
theorem lo_row (Y : FVec Ideal S8x512x128 .f32) (r : Fin 256) (q : Fin 1024) :
    (k0_pay8 (F := Ideal) (part Y 0 0 inb_S8x512x128_S1x256x128_0_0_0) (part Y 1 0 inb_S8x512x128_S1x256x128_1_0_0)
      (part Y 2 0 inb_S8x512x128_S1x256x128_2_0_0) (part Y 3 0 inb_S8x512x128_S1x256x128_3_0_0) (part Y 4 0 inb_S8x512x128_S1x256x128_4_0_0)
      (part Y 5 0 inb_S8x512x128_S1x256x128_5_0_0) (part Y 6 0 inb_S8x512x128_S1x256x128_6_0_0) (part Y 7 0 inb_S8x512x128_S1x256x128_7_0_0) (ix2 r q) : EReal)
      = lanes Y ⟨0 + r, by omega⟩ q :=
  joined (h := concatenates_S256x128_S256x128_S256x128_S256x128_S256x128_S256x128_S256x128_S256x128_S256x1024_d1) Y r _ (fun j => (cast _ r j).trans (ld_slice_rows (a := 8) 0 0 0 r j (by omega)))
    (fun j => (cast _ r j).trans (ld_slice_rows (a := 8) 1 0 0 r j (by omega))) (fun j => (cast _ r j).trans (ld_slice_rows (a := 8) 2 0 0 r j (by omega)))
    (fun j => (cast _ r j).trans (ld_slice_rows (a := 8) 3 0 0 r j (by omega))) (fun j => (cast _ r j).trans (ld_slice_rows (a := 8) 4 0 0 r j (by omega)))
    (fun j => (cast _ r j).trans (ld_slice_rows (a := 8) 5 0 0 r j (by omega))) (fun j => (cast _ r j).trans (ld_slice_rows (a := 8) 6 0 0 r j (by omega)))
    (fun j => (cast _ r j).trans (ld_slice_rows (a := 8) 7 0 0 r j (by omega))) q
theorem hi_row (Y : FVec Ideal S8x512x128 .f32) (r : Fin 256) (q : Fin 1024) :
    (k0_pay38 (F := Ideal) (part Y 0 256 inb_S8x512x128_S1x256x128_0_256_0) (part Y 1 256 inb_S8x512x128_S1x256x128_1_256_0)
      (part Y 2 256 inb_S8x512x128_S1x256x128_2_256_0) (part Y 3 256 inb_S8x512x128_S1x256x128_3_256_0) (part Y 4 256 inb_S8x512x128_S1x256x128_4_256_0)
      (part Y 5 256 inb_S8x512x128_S1x256x128_5_256_0) (part Y 6 256 inb_S8x512x128_S1x256x128_6_256_0) (part Y 7 256 inb_S8x512x128_S1x256x128_7_256_0) (ix2 r q) : EReal)
      = lanes Y ⟨256 + r, by omega⟩ q :=
  joined (h := concatenates_S256x128_S256x128_S256x128_S256x128_S256x128_S256x128_S256x128_S256x128_S256x1024_d1) Y r _ (fun j => (cast _ r j).trans (ld_slice_rows (a := 8) 0 256 0 r j (by omega)))
    (fun j => (cast _ r j).trans (ld_slice_rows (a := 8) 1 256 0 r j (by omega))) (fun j => (cast _ r j).trans (ld_slice_rows (a := 8) 2 256 0 r j (by omega)))
    (fun j => (cast _ r j).trans (ld_slice_rows (a := 8) 3 256 0 r j (by omega))) (fun j => (cast _ r j).trans (ld_slice_rows (a := 8) 4 256 0 r j (by omega)))
    (fun j => (cast _ r j).trans (ld_slice_rows (a := 8) 5 256 0 r j (by omega))) (fun j => (cast _ r j).trans (ld_slice_rows (a := 8) 6 256 0 r j (by omega)))
    (fun j => (cast _ r j).trans (ld_slice_rows (a := 8) 7 256 0 r j (by omega))) q

/-- A block stored in two halves of rows. -/
theorem two {e : EltTy} {i i'} {P : (Rect.unit (s := S512x1024) ![256, 0] ![256, 1024] i).shape.Idx → Elt Ideal e} {Q : (Rect.unit (s := S512x1024) ![0, 0] ![256, 1024] i').shape.Idx → Elt Ideal e}
    (f : Fin 512 → Fin 1024 → Elt Ideal e) (hP : ∀ (r : Fin 256) (k : Fin 1024), P (ix2 r k) = f ⟨256 + r, by omega⟩ k)
    (hQ : ∀ (r : Fin 256) (k : Fin 1024), Q (ix2 r k) = f ⟨0 + r, by omega⟩ k) (l : Fin 512) (k : Fin 1024) :
    View.canon (Val := Elt Ideal) [⟨Rect.unit (s := S512x1024) ![256, 0] ![256, 1024] i, P⟩, ⟨Rect.unit (s := S512x1024) ![0, 0] ![256, 1024] i', Q⟩] (ix2 l k) = f l k := by
  by_cases h : (l : ℕ) < 256
  · refine (canon_rows_skip 256 l k (Or.inl h)).trans ((canon_rows 0 l k ⟨l, h⟩ (by show (l : ℕ) = 0 + l; omega)).trans ((hQ _ _).trans ?_))
    exact congrArg (fun s => f s k) (Fin.ext (Nat.zero_add _))
  · refine (canon_rows 256 l k ⟨l - 256, by omega⟩ (by show (l : ℕ) = 256 + (l - 256); omega)).trans ((hP _ _).trans ?_)
    exact congrArg (fun s => f s k) (Fin.ext (by show 256 + ((l : ℕ) - 256) = l; omega))

/-- A block of 128 columns of an array of rows, as a slice. -/
abbrev lane (v : FVec Ideal S256x1024 .f32) (c : ℕ) (h : S256x1024.Slices ![0, c] S256x128) : FVec Ideal S1x256x128 .f32 :=
  shapeCast S1x256x128 (extractStridedSlice S256x128 ![0, c] v h) shapeCasts_S256x128_S1x256x128
theorem cast_back (v : FVec Ideal S256x128 .f32) (r : Fin 256) (j : Fin 128) :
    (shapeCast S1x256x128 v shapeCasts_S256x128_S1x256x128 : FVec Ideal S1x256x128 .f32) (ix3 0 r j) = v (ix2 r j) := by
  pointwise []
theorem lane_at (v : FVec Ideal S256x1024 .f32) (c : ℕ) (h : S256x1024.Slices ![0, c] S256x128) (r : Fin 256) (j : Fin 128) (hc : c + (j : ℕ) < 1024) :
    lane v c h (ix3 0 r j) = v (ix2 r ⟨c + j, hc⟩) := by
  refine (cast_back _ r j).trans (extractStridedSlice_apply _ _ _ _ (ix2 r ⟨c + j, hc⟩) fun a => ?_)
  match a with
  | ⟨0, _⟩ => exact (Nat.zero_add _).symm
  | ⟨1, _⟩ => rfl

/-- One slice's rows, where they are stored. -/
theorem tile (b o c : ℕ) (hb : b < 8) (ho : o ≤ 256) (hc : c = b * 128) {v : FVec Ideal S256x1024 .f32} {h} (f : Fin 512 → Fin 1024 → EReal)
    (hv : ∀ (r : Fin 256) (q : Fin 1024), v (ix2 r q) = f ⟨o + r, by omega⟩ q) (g : Fin 8) (l : Fin 512) (j : Fin 128) :
    View.TileAt (Val := Elt Ideal) (S := S8x512x128) (e := .f32) (ix3 g l j) ![b, o, 0] ![1, 256, 128] (lane v c h) (f l ⟨g * 128 + j, by omega⟩) := by
  intro x hx
  obtain ⟨u, r, q, rfl⟩ : ∃ (u : Fin 1) (r : Fin 256) (q : Fin 128), x = ix3 u r q := ⟨x 0, x 1, x 2, eq_ix3 x⟩
  obtain rfl : u = 0 := Subsingleton.elim _ _
  have h0 : (g : ℕ) = b + 0 := hx 0
  have h1 : (l : ℕ) = o + r := hx 1
  have h2 : (j : ℕ) = 0 + q := hx 2
  refine (lane_at v c h r q (by omega)).trans ((hv _ _).trans ?_)
  exact congrArg₂ f (Fin.ext h1.symm) (Fin.ext (by show c + (q : ℕ) = g * 128 + j; omega))

/-- A block stored in sixteen pieces: eight slices, each in two halves of rows. -/
theorem sixteen {H L : FVec Ideal S256x1024 .f32} {i0 i1 i2 i3 i4 i5 i6 i7 j0 j1 j2 j3 j4 j5 j6 j7 s0 s1 s2 s3 s4 s5 s6 s7} (f : Fin 512 → Fin 1024 → EReal)
    (hH : ∀ (r : Fin 256) (q : Fin 1024), H (ix2 r q) = f ⟨256 + r, by omega⟩ q) (hL : ∀ (r : Fin 256) (q : Fin 1024), L (ix2 r q) = f ⟨0 + r, by omega⟩ q)
    (g : Fin 8) (l : Fin 512) (j : Fin 128) :
    View.canon (Val := Elt Ideal) (s := S8x512x128) (e := .f32)
      [⟨Rect.unit ![7, 256, 0] ![1, 256, 128] i7, lane H 896 s7⟩, ⟨Rect.unit ![6, 256, 0] ![1, 256, 128] i6, lane H 768 s6⟩,
        ⟨Rect.unit ![5, 256, 0] ![1, 256, 128] i5, lane H 640 s5⟩, ⟨Rect.unit ![4, 256, 0] ![1, 256, 128] i4, lane H 512 s4⟩,
        ⟨Rect.unit ![3, 256, 0] ![1, 256, 128] i3, lane H 384 s3⟩, ⟨Rect.unit ![2, 256, 0] ![1, 256, 128] i2, lane H 256 s2⟩,
        ⟨Rect.unit ![1, 256, 0] ![1, 256, 128] i1, lane H 128 s1⟩, ⟨Rect.unit ![0, 256, 0] ![1, 256, 128] i0, lane H 0 s0⟩,
        ⟨Rect.unit ![7, 0, 0] ![1, 256, 128] j7, lane L 896 s7⟩, ⟨Rect.unit ![6, 0, 0] ![1, 256, 128] j6, lane L 768 s6⟩,
        ⟨Rect.unit ![5, 0, 0] ![1, 256, 128] j5, lane L 640 s5⟩, ⟨Rect.unit ![4, 0, 0] ![1, 256, 128] j4, lane L 512 s4⟩,
        ⟨Rect.unit ![3, 0, 0] ![1, 256, 128] j3, lane L 384 s3⟩, ⟨Rect.unit ![2, 0, 0] ![1, 256, 128] j2, lane L 256 s2⟩,
        ⟨Rect.unit ![1, 0, 0] ![1, 256, 128] j1, lane L 128 s1⟩, ⟨Rect.unit ![0, 0, 0] ![1, 256, 128] j0, lane L 0 s0⟩] (ix3 g l j)
      = f l ⟨g * 128 + j, by omega⟩ := by
  refine View.canon_eq_of_allAt _ _ _ (View.cover_of_tiledL _ ![1, 256, 128] (by rfl) _) ?_
  have hi (b c : ℕ) (hb : b < 8) (hc : c = b * 128) {h} := tile b 256 c hb (by decide) hc (h := h) f hH g l j
  have lo (b c : ℕ) (hb : b < 8) (hc : c = b * 128) {h} := tile b 0 c hb (by decide) hc (h := h) f hL g l j
  refine View.allAt_cons_unit _ _ _ _ _ (hi 7 896 (by decide) rfl) (View.allAt_cons_unit _ _ _ _ _ (hi 6 768 (by decide) rfl) ?_)
  refine View.allAt_cons_unit _ _ _ _ _ (hi 5 640 (by decide) rfl) (View.allAt_cons_unit _ _ _ _ _ (hi 4 512 (by decide) rfl) ?_)
  refine View.allAt_cons_unit _ _ _ _ _ (hi 3 384 (by decide) rfl) (View.allAt_cons_unit _ _ _ _ _ (hi 2 256 (by decide) rfl) ?_)
  refine View.allAt_cons_unit _ _ _ _ _ (hi 1 128 (by decide) rfl) (View.allAt_cons_unit _ _ _ _ _ (hi 0 0 (by decide) rfl) ?_)
  refine View.allAt_cons_unit _ _ _ _ _ (lo 7 896 (by decide) rfl) (View.allAt_cons_unit _ _ _ _ _ (lo 6 768 (by decide) rfl) ?_)
  refine View.allAt_cons_unit _ _ _ _ _ (lo 5 640 (by decide) rfl) (View.allAt_cons_unit _ _ _ _ _ (lo 4 512 (by decide) rfl) ?_)
  refine View.allAt_cons_unit _ _ _ _ _ (lo 3 384 (by decide) rfl) (View.allAt_cons_unit _ _ _ _ _ (lo 2 256 (by decide) rfl) ?_)
  exact View.allAt_cons_unit _ _ _ _ _ (lo 1 128 (by decide) rfl) (View.allAt_cons_unit _ _ _ _ _ (lo 0 0 (by decide) rfl) (View.allAt_nil _ _))

/-- A sum over 512 rows, in two halves. -/
theorem halves (f : Fin 512 → EReal) : (∑ r : Fin 256, f ⟨0 + r, by omega⟩) + ∑ r : Fin 256, f ⟨256 + r, by omega⟩ = ∑ l : Fin 512, f l := by
  refine ((Fin.sum_univ_add (a := 256) (b := 256) f).trans (congrArg₂ _ ?_ ?_)).symm
  · exact Finset.sum_congr rfl fun r _ => congrArg f (Fin.ext (Nat.zero_add _).symm)
  · exact Finset.sum_congr rfl fun r _ => congrArg f (Fin.ext rfl)

/-- Rounding a block to 16 bits changes nothing here. -/
theorem round_y (v : FVec Ideal S256x1024 .f32) (r : Fin 256) (k : Fin 1024) : (k0_pay3 (F := Ideal) v (ix2 r k) : EReal) = v (ix2 r k) := by pointwise [k0_pay3]
theorem round_y' (v : FVec Ideal S256x1024 .f32) (r : Fin 256) (k : Fin 1024) : (k0_pay34 (F := Ideal) v (ix2 r k) : EReal) = v (ix2 r k) := by pointwise [k0_pay34]
theorem round_t (v : FVec Ideal S256x1024 .f32) (r : Fin 256) (k : Fin 1024) : (k0_pay4 (F := Ideal) v (ix2 r k) : EReal) = v (ix2 r k) := by pointwise [k0_pay4]
theorem round_t' (v : FVec Ideal S256x1024 .f32) (r : Fin 256) (k : Fin 1024) : (k0_pay35 (F := Ideal) v (ix2 r k) : EReal) = v (ix2 r k) := by pointwise [k0_pay35]
theorem zero (o : Fin 1) (k : Fin 1024) : k0_pay7 (F := Ideal) (ix2 o k) = (0 : EReal) := by pointwise [k0_pay7]

/-! ## The grid points -/

variable (m : (ℓ : Loc nD τ sig) → Buf (Elt Ideal) ℓ) (c : Dev nD)

/-- The rows a grid point reads: GELU's argument, SiLU's argument and the incoming gradient; and the weights. -/
abbrev zr (t : Fin cfg0.N) (l : Fin 512) : Fin 1024 → EReal := fun q => lanes (iblk m c 0 t) l q
abbrev pr (t : Fin cfg0.N) (l : Fin 512) : Fin 1024 → EReal := fun q => iblk m c 1 t (ix2 l q)
abbrev dr (t : Fin cfg0.N) (l : Fin 512) : Fin 1024 → EReal := fun q => iblk m c 2 t (ix2 l q)
abbrev wo (t : Fin cfg0.N) : Fin 1024 → Fin 1024 → EReal := fun a q => iblk m c 3 t (ix2 a q)
abbrev wg (t : Fin cfg0.N) : Fin 1024 → Fin 1024 → EReal := fun a q => iblk m c 4 t (ix2 a q)
abbrev bg (t : Fin cfg0.N) : Fin 1024 → EReal := fun q => iblk m c 5 t (ix2 0 q)

/-- What a grid point writes: SiLU's gradient. -/
theorem out_silu (t : Fin cfg0.N) (l : Fin 512) (k : Fin 1024) :
    (outsAt0 m c t.val t.isLt).2.1 (ix2 l k) = toSilu (zr m c t l) (pr m c t l) (dr m c t l) (wg m c t) (wo m c t) (bg m c t) k := by
  by_cases h0 : t.val % 16 = 0 <;> [rw [outsAt0_A m c t h0]; rw [outsAt0_B m c t h0]] <;> frame_out <;>
  (refine two (e := .bf16) (fun l k => toSilu (zr m c t l) (pr m c t l) (dr m c t l) (wg m c t) (wo m c t) (bg m c t) k) (fun r k => ?_) (fun r k => ?_) l k <;>
  [exact hi_toSilu (hi_y (hi_row _ r)) (fun _ _ => rfl) (fun _ => rfl) (fun q => ld_rows 256 r q (by omega)) (fun q => ld_rows 256 r q (by omega)) (fun _ _ => rfl) k;
    exact lo_toSilu (lo_d fun q => ld_rows 0 r q (by omega)) (fun _ _ => rfl) (lo_dsilu fun q => ld_rows 0 r q (by omega))
      (lo_open (lo_row _ r) (lo_th (lo_row _ r)) (fun _ _ => rfl) (fun _ => rfl)) k])

/-- GELU's value. -/
theorem out_y (t : Fin cfg0.N) (l : Fin 512) (k : Fin 1024) : (outsAt0 m c t.val t.isLt).2.2.1 (ix2 l k) = activated (zr m c t l) k := by
  by_cases h0 : t.val % 16 = 0 <;> [rw [outsAt0_A m c t h0]; rw [outsAt0_B m c t h0]] <;> frame_out <;>
  (refine two (e := .bf16) (fun l k => activated (zr m c t l) k) (fun r k => ?_) (fun r k => ?_) l k <;>
  [exact (round_y _ r k).trans (hi_y (hi_row _ r) k);
    exact (round_y' _ r k).trans (lo_y (lo_row _ r) (lo_th (lo_row _ r)) k)])

/-- The gate's gradient, and its sums over halves of the rows. -/
theorem out_gate (t : Fin cfg0.N) (l : Fin 512) (k : Fin 1024) :
    (outsAt0 m c t.val t.isLt).2.2.2.1 (ix2 l k) = toGate (zr m c t l) (pr m c t l) (dr m c t l) (wg m c t) (wo m c t) (bg m c t) k := by
  by_cases h0 : t.val % 16 = 0 <;> [rw [outsAt0_A m c t h0]; rw [outsAt0_B m c t h0]] <;> frame_out <;>
  (refine two (e := .bf16) (fun l k => toGate (zr m c t l) (pr m c t l) (dr m c t l) (wg m c t) (wo m c t) (bg m c t) k) (fun r k => ?_) (fun r k => ?_) l k <;>
  [exact (round_t _ r k).trans (hi_toGate (hi_sig (hi_y (hi_row _ r)) (fun _ _ => rfl) fun _ => rfl)
      (hi_pre (hi_y (hi_row _ r)) (fun _ _ => rfl) (fun _ => rfl) (fun q => ld_rows 256 r q (by omega)) (fun q => ld_rows 256 r q (by omega)) (fun _ _ => rfl)) k);
    exact (round_t' _ r k).trans (lo_toGate (lo_y (lo_row _ r) (lo_th (lo_row _ r))) (lo_sig (lo_row _ r) (lo_th (lo_row _ r)) (fun _ _ => rfl) fun _ => rfl)
      (lo_silu fun q => ld_rows 0 r q (by omega)) (lo_d fun q => ld_rows 0 r q (by omega)) (fun _ _ => rfl) k)])

/-- The gated row. -/
theorem out_gated (t : Fin cfg0.N) (l : Fin 512) (k : Fin 1024) :
    (outsAt0 m c t.val t.isLt).2.2.2.2.1 (ix2 l k) = gatedRow (zr m c t l) (pr m c t l) (wg m c t) (bg m c t) k := by
  by_cases h0 : t.val % 16 = 0 <;> [rw [outsAt0_A m c t h0]; rw [outsAt0_B m c t h0]] <;> frame_out <;>
  (refine two (e := .bf16) (fun l k => gatedRow (zr m c t l) (pr m c t l) (wg m c t) (bg m c t) k) (fun r k => ?_) (fun r k => ?_) l k <;>
  [exact hi_gated (hi_silu fun q => ld_rows 256 r q (by omega)) (hi_open (hi_y (hi_row _ r)) (fun _ _ => rfl) fun _ => rfl) k;
    exact lo_gated (lo_silu fun q => ld_rows 0 r q (by omega)) (lo_open (lo_row _ r) (lo_th (lo_row _ r)) (fun _ _ => rfl) fun _ => rfl) k])

/-- GELU's gradient. -/
theorem out_gelu (t : Fin cfg0.N) (g : Fin 8) (l : Fin 512) (j : Fin 128) :
    (outsAt0 m c t.val t.isLt).1 (ix3 g l j) = toGelu (zr m c t l) (pr m c t l) (dr m c t l) (wg m c t) (wo m c t) (bg m c t) ⟨g * 128 + j, by omega⟩ := by
  by_cases h0 : t.val % 16 = 0 <;> [rw [outsAt0_A m c t h0]; rw [outsAt0_B m c t h0]] <;> frame_out <;>
  exact sixteen (fun l k => toGelu (zr m c t l) (pr m c t l) (dr m c t l) (wg m c t) (wo m c t) (bg m c t) k)
    (fun r k => hi_toGelu (hi_slope (hi_row _ r)) (hi_sig (hi_y (hi_row _ r)) (fun _ _ => rfl) fun _ => rfl)
      (hi_mid (fun q => ld_rows 256 r q (by omega)) (fun q => ld_rows 256 r q (by omega)) fun _ _ => rfl)
      (hi_pre (hi_y (hi_row _ r)) (fun _ _ => rfl) (fun _ => rfl) (fun q => ld_rows 256 r q (by omega)) (fun q => ld_rows 256 r q (by omega)) fun _ _ => rfl) (fun _ _ => rfl) k)
    (fun r k => lo_toGelu (lo_y (lo_row _ r) (lo_th (lo_row _ r))) (lo_slope (lo_row _ r) (lo_sq (lo_row _ r)) (lo_th (lo_row _ r)))
      (lo_sig (lo_row _ r) (lo_th (lo_row _ r)) (fun _ _ => rfl) fun _ => rfl) (lo_silu fun q => ld_rows 0 r q (by omega))
      (lo_d fun q => ld_rows 0 r q (by omega)) (fun _ _ => rfl) (fun _ _ => rfl) k) g l j

/-- What a grid point adds to the bias's gradient. -/
abbrev term (t : Fin cfg0.N) (k : Fin 1024) : EReal := ∑ l : Fin 512, toGate (zr m c t l) (pr m c t l) (dr m c t l) (wg m c t) (wo m c t) (bg m c t) k

/-- A point's two sums, from any vector. -/
theorem both {v v' : FVec Ideal S256x1024 .f32} (f : Fin 512 → Fin 1024 → EReal) (a : FVec Ideal S1x1024 .f32) (o : Fin 1) (k : Fin 1024)
    (h : ∀ r : Fin 256, v (ix2 r k) = f ⟨256 + r, by omega⟩ k) (h' : ∀ r : Fin 256, v' (ix2 r k) = f ⟨0 + r, by omega⟩ k) :
    (k0_pay6 (F := Ideal) v (k0_pay37 (F := Ideal) v' a) (ix2 o k) : EReal) = a (ix2 o k) + ∑ l : Fin 512, f l k := by
  rw [hi_acc, lo_acc, add_assoc, ← halves fun l => f l k]
  simp only [h, h']

theorem step_A (t : Fin cfg0.N) (h0 : t.val % 16 = 0) (o : Fin 1) (k : Fin 1024) : (outsAt0 m c t.val t.isLt).2.2.2.2.2 (ix2 o k) = (0 : EReal) + term m c t k := by
  rw [outsAt0_A m c t h0]
  frame_out
  rw [← zero o k]
  exact both (fun l k => toGate (zr m c t l) (pr m c t l) (dr m c t l) (wg m c t) (wo m c t) (bg m c t) k) _ o k
    (fun r => hi_toGate (hi_sig (hi_y (hi_row _ r)) (fun _ _ => rfl) fun _ => rfl)
      (hi_pre (hi_y (hi_row _ r)) (fun _ _ => rfl) (fun _ => rfl) (fun q => ld_rows 256 r q (by omega)) (fun q => ld_rows 256 r q (by omega)) (fun _ _ => rfl)) k)
    (fun r => lo_toGate (lo_y (lo_row _ r) (lo_th (lo_row _ r))) (lo_sig (lo_row _ r) (lo_th (lo_row _ r)) (fun _ _ => rfl) fun _ => rfl)
      (lo_silu fun q => ld_rows 0 r q (by omega)) (lo_d fun q => ld_rows 0 r q (by omega)) (fun _ _ => rfl) k)

theorem step_B (t : Fin cfg0.N) (h0 : ¬t.val % 16 = 0) (o : Fin 1) (k : Fin 1024) : (outsAt0 m c t.val t.isLt).2.2.2.2.2 (ix2 o k)
    = (outsAt0 m c (t.val - 1) (Nat.lt_of_le_of_lt (Nat.sub_le _ _) t.isLt)).2.2.2.2.2 (ix2 o k) + term m c t k := by
  rw [outsAt0_B m c t h0]
  frame_out
  exact both (fun l k => toGate (zr m c t l) (pr m c t l) (dr m c t l) (wg m c t) (wo m c t) (bg m c t) k) _ o k
    (fun r => hi_toGate (hi_sig (hi_y (hi_row _ r)) (fun _ _ => rfl) fun _ => rfl)
      (hi_pre (hi_y (hi_row _ r)) (fun _ _ => rfl) (fun _ => rfl) (fun q => ld_rows 256 r q (by omega)) (fun q => ld_rows 256 r q (by omega)) (fun _ _ => rfl)) k)
    (fun r => lo_toGate (lo_y (lo_row _ r) (lo_th (lo_row _ r))) (lo_sig (lo_row _ r) (lo_th (lo_row _ r)) (fun _ _ => rfl) fun _ => rfl)
      (lo_silu fun q => ld_rows 0 r q (by omega)) (lo_d fun q => ld_rows 0 r q (by omega)) (fun _ _ => rfl) k)

end Gat

end
-- ==== Proof.GateArrays.lean ====
/- The backward pass of the even block's gate: the arrays the kernel leaves. -/
module

public import proofs.«01_k».proof.Proof.GatePoint

@[expose] public section

set_option maxRecDepth 16384

noncomputable section

namespace Gat

open Idealize.ShloMosaic Idealize.ShloMosaic.TcCoe Idealize.SL.Sem
open Cert.GateIdeal Cert.GateIdeal.Gen Pieces Gating GateRow

/-! ## Rows -/

section
variable {z z' p p' d d' b b' : Fin 1024 → EReal} {w w' o o' : Fin 1024 → Fin 1024 → EReal}

theorem activated_congr (hz : ∀ q, z q = z' q) (k : Fin 1024) : activated z k = activated z' k := by rw [funext hz]
theorem gatedRow_congr (hz : ∀ q, z q = z' q) (hp : ∀ q, p q = p' q) (hw : ∀ a q, w a q = w' a q) (hb : ∀ q, b q = b' q) (k : Fin 1024) :
    gatedRow z p w b k = gatedRow z' p' w' b' k := by
  rw [funext hz, funext hp, funext fun a => funext (hw a), funext hb]
/-- Any function of the six. -/
theorem six_congr (f : (Fin 1024 → EReal) → (Fin 1024 → EReal) → (Fin 1024 → EReal) → (Fin 1024 → Fin 1024 → EReal) → (Fin 1024 → Fin 1024 → EReal) → (Fin 1024 → EReal) → EReal)
    (hz : ∀ q, z q = z' q) (hp : ∀ q, p q = p' q) (hd : ∀ q, d q = d' q) (hw : ∀ a q, w a q = w' a q) (ho : ∀ a q, o a q = o' a q) (hb : ∀ q, b q = b' q) :
    f z p d w o b = f z' p' d' w' o' b' := by
  rw [funext hz, funext hp, funext hd, funext fun a => funext (hw a), funext fun a => funext (ho a), funext hb]
end

/-! ## The arrays -/

variable (Y : FVec Ideal S8x8192x128 .f32) (P : FVec Ideal S8192x6144 .f32) (D : FVec Ideal S8192x1024 .f32) (O : FVec Ideal S2048x1024 .bf16)
  (W : FVec Ideal S1024x1024 .bf16) (B : FVec Ideal S1x1024 .f32)

/-- The rows and the weights in the arrays. -/
abbrev pRow (l : Fin 8192) : Fin 1024 → EReal := fun q => P (ix2 l ⟨1024 + q, by omega⟩)
abbrev dRow (l : Fin 8192) : Fin 1024 → EReal := fun q => D (ix2 l q)
abbrev oMat : Fin 1024 → Fin 1024 → EReal := fun a q => O (ix2 ⟨a, by omega⟩ q)
abbrev wMat : Fin 1024 → Fin 1024 → EReal := fun a q => W (ix2 a q)
abbrev bRow : Fin 1024 → EReal := fun q => B (ix2 0 q)

def geluArr : FVec Ideal S8x8192x128 .f32 :=
  fun i => toGelu (lanes Y (i 1)) (pRow P (i 1)) (dRow D (i 1)) (wMat W) (oMat O) (bRow B) ⟨(i 0 : Fin 8) * 128 + (i 2 : Fin 128), by have h0 : (i 0).val < 8 := (i 0).isLt; have h2 : (i 2).val < 128 := (i 2).isLt; omega⟩
def siluArr : FVec Ideal S8192x1024 .bf16 := fun i => toSilu (lanes Y (i 0)) (pRow P (i 0)) (dRow D (i 0)) (wMat W) (oMat O) (bRow B) (i 1)
def yArr : FVec Ideal S8192x1024 .bf16 := fun i => activated (lanes Y (i 0)) (i 1)
def gateArr : FVec Ideal S8192x1024 .bf16 := fun i => toGate (lanes Y (i 0)) (pRow P (i 0)) (dRow D (i 0)) (wMat W) (oMat O) (bRow B) (i 1)
def gatedArr : FVec Ideal S8192x1024 .bf16 := fun i => gatedRow (lanes Y (i 0)) (pRow P (i 0)) (wMat W) (bRow B) (i 1)
def biasArr : FVec Ideal S1x1024 .f32 := fun i => ∑ l : Fin 8192, toGate (lanes Y l) (pRow P l) (dRow D l) (wMat W) (oMat O) (bRow B) (i 1)

variable (m : (ℓ : Loc nD τ sig) → Buf (Elt Ideal) ℓ) (c : Dev nD)

/-- Which part of its array each window holds at a grid point. -/
theorem idx : ∀ t : Fin cfg0.N, win0_0.index t = ![0, t.val % 16, 0] ∧ win0_1.index t = ![t.val % 16, 1] ∧ win0_2.index t = ![t.val % 16, 0]
    ∧ win0_3.index t = ![0, 0] ∧ win0_4.index t = ![0, 0] ∧ win0_5.index t = ![0, 0] ∧ win0_6.index t = ![0, t.val % 16, 0] ∧ win0_7.index t = ![t.val % 16, 0]
    ∧ win0_8.index t = ![t.val % 16, 0] ∧ win0_9.index t = ![t.val % 16, 0] ∧ win0_10.index t = ![t.val % 16, 0] ∧ win0_11.index t = ![0, 0] :=
  (by decide +kernel : ∀ t : Fin grid0.N, _)

theorem lt16 (t : Fin cfg0.N) : t.val < 16 := lt_of_lt_of_eq t.isLt N_0

section
variable (t : Fin cfg0.N) (l : Fin 512) (q : Fin 1024)

/-- A point's rows and weights, in the arrays. -/
theorem z_at : zr m c t l q = lanes (m ((c : Thread nD τ).loc main_arg0)) ⟨t.val * 512 + l, by have := lt16 t; omega⟩ q := by
  have hN : t.val < 16 := lt16 t
  unfold zr lanes; blk_ext [iblk, V, idx t]
theorem p_at : pr m c t l q = pRow (m ((c : Thread nD τ).loc main_arg1)) ⟨t.val * 512 + l, by have := lt16 t; omega⟩ q := by
  have hN : t.val < 16 := lt16 t
  unfold pr pRow; blk_ext [iblk, V, idx t]
theorem d_at : dr m c t l q = dRow (m ((c : Thread nD τ).loc main_arg2)) ⟨t.val * 512 + l, by have := lt16 t; omega⟩ q := by
  have hN : t.val < 16 := lt16 t
  unfold dr dRow; blk_ext [iblk, V, idx t]
theorem o_at (a : Fin 1024) : wo m c t a q = oMat (m ((c : Thread nD τ).loc main_arg3)) a q := by unfold wo oMat; blk_ext [iblk, V, idx t]
theorem w_at (a : Fin 1024) : wg m c t a q = wMat (m ((c : Thread nD τ).loc main_arg4)) a q := by unfold wg wMat; blk_ext [iblk, V, idx t]
theorem b_at : bg m c t q = bRow (m ((c : Thread nD τ).loc main_arg5)) q := by unfold bg bRow; blk_ext [iblk, V, idx t]
end

theorem final_silu : (dats m 0 c).arrAt 7 (cfgs 0).N = siluArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t _ y => ?_
  blk_simp
  rw [after0_7]
  have hN : t.val < 16 := lt16 t
  obtain ⟨l, k, rfl⟩ : ∃ (l : Fin 512) (k : Fin 1024), y = ix2 l k := ⟨y 0, y 1, eq_ix2 y⟩
  refine (out_silu m c t l k).trans ?_
  refine Eq.trans (b := siluArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 ⟨t.val * 512 + l, by omega⟩ k)) ?_ ?_
  · exact six_congr (fun z p d w o b => toSilu z p d w o b k) (z_at m c t l) (p_at m c t l) (d_at m c t l) (fun a q => w_at m c t q a) (fun a q => o_at m c t q a) (b_at m c t)
  · blk_ext [idx t]

theorem final_y : (dats m 0 c).arrAt 8 (cfgs 0).N = yArr (m ((c : Thread nD τ).loc main_arg0)) := by
  refine (dats m 0 c).arrAt_eq_of_covers 8 _ (by decide +kernel) fun t _ y => ?_
  blk_simp
  rw [after0_8]
  have hN : t.val < 16 := lt16 t
  obtain ⟨l, k, rfl⟩ : ∃ (l : Fin 512) (k : Fin 1024), y = ix2 l k := ⟨y 0, y 1, eq_ix2 y⟩
  refine (out_y m c t l k).trans ?_
  refine Eq.trans (b := yArr (m ((c : Thread nD τ).loc main_arg0)) (ix2 ⟨t.val * 512 + l, by omega⟩ k)) ?_ ?_
  · exact activated_congr (z_at m c t l) k
  · blk_ext [idx t]

theorem final_gate : (dats m 0 c).arrAt 9 (cfgs 0).N = gateArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 9 _ (by decide +kernel) fun t _ y => ?_
  blk_simp
  rw [after0_9]
  have hN : t.val < 16 := lt16 t
  obtain ⟨l, k, rfl⟩ : ∃ (l : Fin 512) (k : Fin 1024), y = ix2 l k := ⟨y 0, y 1, eq_ix2 y⟩
  refine (out_gate m c t l k).trans ?_
  refine Eq.trans (b := gateArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 ⟨t.val * 512 + l, by omega⟩ k)) ?_ ?_
  · exact six_congr (fun z p d w o b => toGate z p d w o b k) (z_at m c t l) (p_at m c t l) (d_at m c t l) (fun a q => w_at m c t q a) (fun a q => o_at m c t q a) (b_at m c t)
  · blk_ext [idx t]

theorem final_gated : (dats m 0 c).arrAt 10 (cfgs 0).N = gatedArr (m ((c : Thread nD τ).loc main_arg0)) (m ((c : Thread nD τ).loc main_arg1)) (m ((c : Thread nD τ).loc main_arg4)) (m ((c : Thread nD τ).loc main_arg5)) := by
  refine (dats m 0 c).arrAt_eq_of_covers 10 _ (by decide +kernel) fun t _ y => ?_
  blk_simp
  rw [after0_10]
  have hN : t.val < 16 := lt16 t
  obtain ⟨l, k, rfl⟩ : ∃ (l : Fin 512) (k : Fin 1024), y = ix2 l k := ⟨y 0, y 1, eq_ix2 y⟩
  refine (out_gated m c t l k).trans ?_
  refine Eq.trans (b := gatedArr (m ((c : Thread nD τ).loc main_arg0)) (m ((c : Thread nD τ).loc main_arg1)) (m ((c : Thread nD τ).loc main_arg4)) (m ((c : Thread nD τ).loc main_arg5)) (ix2 ⟨t.val * 512 + l, by omega⟩ k)) ?_ ?_
  · exact gatedRow_congr (z_at m c t l) (p_at m c t l) (fun a q => w_at m c t q a) (b_at m c t) k
  · blk_ext [idx t]

theorem final_gelu : (dats m 0 c).arrAt 6 (cfgs 0).N = geluArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t _ y => ?_
  blk_simp
  rw [after0_6]
  have hN : t.val < 16 := lt16 t
  obtain ⟨g, l, j, rfl⟩ : ∃ (g : Fin 8) (l : Fin 512) (j : Fin 128), y = ix3 g l j := ⟨y 0, y 1, y 2, eq_ix3 y⟩
  refine (out_gelu m c t g l j).trans ?_
  refine Eq.trans (b := geluArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix3 g ⟨t.val * 512 + l, by omega⟩ j)) ?_ ?_
  · exact six_congr (fun z p d w o b => toGelu z p d w o b ⟨g * 128 + j, by omega⟩) (z_at m c t l) (p_at m c t l) (d_at m c t l) (fun a q => w_at m c t q a)
      (fun a q => o_at m c t q a) (b_at m c t)
  · blk_ext [idx t]

/-- After the last point: the sum over all of them. -/
theorem acc_at (t : Fin cfg0.N) (hf : t.val % 16 = 15) (k : Fin 1024) :
    (outsAt0 m c t.val t.isLt).2.2.2.2.2 (ix2 0 k) = ∑ s : Fin 16, term m c ⟨16 * (t.val / 16) + s, Pipeline.run_point_lt_of_flush t hf s⟩ k := by
  refine (Pipeline.eq_sum_fin_of_reset_step_apply_of_flush (fun n h => (outsAt0 m c n h).2.2.2.2.2) 16 (fun _ => 0)
    (fun p (y : S1x1024.Idx) => term m c p (y 1)) (fun t h y => ?_) (fun t h y => ?_) t hf (ix2 0 k)).trans (zero_add _)
  · obtain ⟨o, k, rfl⟩ : ∃ (o : Fin 1) (k : Fin 1024), y = ix2 o k := ⟨y 0, y 1, eq_ix2 y⟩
    exact step_A m c t h o k
  · obtain ⟨o, k, rfl⟩ : ∃ (o : Fin 1) (k : Fin 1024), y = ix2 o k := ⟨y 0, y 1, eq_ix2 y⟩
    exact step_B m c t h o k

/-- One row of a point, read in the arrays. -/
theorem point (t s : Fin cfg0.N) (hs : t.val < 16) (l : Fin 512) (k : Fin 1024) (n : ℕ) (hn : s.val = n) (h : n * 512 + l < 8192) :
    toGate (zr m c s l) (pr m c s l) (dr m c s l) (wg m c s) (wo m c s) (bg m c s) k
      = toGate (lanes (m ((c : Thread nD τ).loc main_arg0)) ⟨n * 512 + l, h⟩) (pRow (m ((c : Thread nD τ).loc main_arg1)) ⟨n * 512 + l, h⟩) (dRow (m ((c : Thread nD τ).loc main_arg2)) ⟨n * 512 + l, h⟩) (wMat (m ((c : Thread nD τ).loc main_arg4))) (oMat (m ((c : Thread nD τ).loc main_arg3))) (bRow (m ((c : Thread nD τ).loc main_arg5))) k := by
  subst hn
  exact six_congr (fun z p d w o b => toGate z p d w o b k) (z_at m c s l) (p_at m c s l) (d_at m c s l) (fun a q => w_at m c s q a) (fun a q => o_at m c s q a) (b_at m c s)

theorem final_bias : (dats m 0 c).arrAt 11 (cfgs 0).N = biasArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 11 _ (by decide +kernel) fun t hf y => ?_
  blk_simp
  rw [after0_11]
  obtain ⟨o, k, rfl⟩ : ∃ (o : Fin 1) (k : Fin 1024), y = ix2 o k := ⟨y 0, y 1, eq_ix2 y⟩
  obtain rfl : o = 0 := Subsingleton.elim _ _
  have h15 : t.val % 16 = 15 := (flush0_11 t).mp hf
  have hN : t.val < 16 := lt16 t
  refine (acc_at m c t h15 k).trans ?_
  refine Eq.trans (b := biasArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 0 k)) ?_ ?_
  · exact Fin.sum_mul_add_congr fun s l hl => point m c t _ hN l k s (by show 16 * (t.val / 16) + (s : ℕ) = s; omega) hl
  · blk_ext [idx t]

end Gat

end
-- ==== Proof.GateReference.lean ====
/- The backward pass of the even block's gate: the reference's arrays, and the claims. -/
module

public import proofs.«01_k».proof.Defs
public import proofs.«01_k».proof.Proof.GateArrays
public import proofs.«01_k».proof.Proof.Finite
public import proofs.«01_k».proof.Proof.Gen.Gate.Frame
public import proofs.«01_k».proof.Proof.Gen.GateReferenceIdeal.Read
public import proofs.«01_k».proof.Proof.Gen.Pre_gate_finite
public import Idealize.ShloMosaic.Adequacy

@[expose] public section

set_option maxRecDepth 16384

noncomputable section

namespace Gat

open Idealize.ShloMosaic Idealize.ShloMosaic.TcCoe Idealize.SL.Sem Gating GateRow
open Cert.GateReferenceIdeal Cert.GateReferenceIdeal.Read

variable (Y : FVec Ideal S8x8192x128 .f32) (P : FVec Ideal S8192x6144 .f32) (D : FVec Ideal S8192x1024 .f32) (O : FVec Ideal S2048x1024 .bf16)
  (W : FVec Ideal S1024x1024 .bf16) (B : FVec Ideal S1x1024 .f32) (r : Fin 8192) (j : Fin 1024)

/-! ## The forward lines -/

theorem ref_row : (val_main_v1 (F := Ideal) Y (ix2 r j) : EReal) = lanes Y r j := by
  pointwise [val_main_v1, val_main_v0]
  unfold lanes
  blk_ext

theorem ref_tanh : (val_main_v13 (F := Ideal) Y (ix2 r j) : EReal) = Ideal.tanh (arg (lanes Y r j)) := by
  pointwise [val_main_v13, val_main_v12, val_main_v11, val_main_v10, val_main_v9, val_main_v8, val_main_v4, val_main_v3, val_main_v2, val_main_cst, val_main_cst_0, val_main_cst_2]
  have e : ((44715 / 1000000 : ℝ)) = 8943 / 200000 := by norm_num
  simp only [ref_row, Sgu.lit_cC, Sgu.lit44715, Sgu.lit1e6, Sgu.div_pos_coe _ _ (show (0 : ℝ) < 1000000 by norm_num), e, arg_cube]

theorem ref_factor : (val_main_v22 (F := Ideal) Y (ix2 r j) : EReal) = factor (lanes Y r j) := by
  pointwise [val_main_v22, val_main_v21, val_main_v20, val_main_v19, val_main_cst_5, val_main_cst_6]
  simp only [ref_tanh, Sgu.lit_half]
  rfl

theorem ref_activated : (val_main_v23 (F := Ideal) Y (ix2 r j) : EReal) = activated (lanes Y r) j := by
  pointwise [val_main_v23]
  simp only [ref_row, ref_factor]
  rfl

theorem ref_sig : (val_main_v36 (F := Ideal) Y W B (ix2 r j) : EReal) = sig (lanes Y r) (wMat W) (bRow B) j := by
  pointwise [val_main_v36, val_main_v35, val_main_v34, val_main_v33, val_main_v32, val_main_v31, val_main_v29, val_main_v28, val_main_v27, val_main_v26, val_main_v25, val_main_v24,
    val_main_cst_7, val_main_cst_8]
  simp only [ref_activated]
  rfl

theorem ref_open : (val_main_v40 (F := Ideal) Y W B (ix2 r j) : EReal) = open_ (lanes Y r) (wMat W) (bRow B) j := by
  pointwise [val_main_v40]
  simp only [ref_activated, ref_sig]
  rfl

theorem ref_logistic : (val_main_v41_2 (F := Ideal) P (ix2 r j) : EReal) = Ideal.logistic (pRow P r j) := by
  pointwise [val_main_v41_2, val_main_call0_v4, val_main_call0_v3, val_main_call0_v2, val_main_call0_v1, val_main_call0_v0, val_main_call0_cst, val_main_call0_cst_0, val_main_v30]
  rfl

theorem ref_silu : (val_main_v41_0 (F := Ideal) P (ix2 r j) : EReal) = silu (pRow P r j) := by
  pointwise [val_main_v41_0, val_main_v30]
  simp only [ref_logistic]
  rfl

theorem ref_gated : (val_main_v42 (F := Ideal) Y P W B (ix2 r j) : EReal) = gatedRow (lanes Y r) (pRow P r) (wMat W) (bRow B) j := by
  pointwise [val_main_v42]
  simp only [ref_open, ref_silu]
  rfl

theorem ref_back : (val_main_v46 (F := Ideal) D O (ix2 r j) : EReal) = back (dRow D r) (oMat O) j := by
  pointwise [val_main_v46, val_main_v44, val_main_v43]
  rfl

theorem ref_y : val_main_v72 (F := Ideal) Y = yArr Y := by
  funext q
  obtain ⟨r, j, rfl⟩ : ∃ (r : Fin 8192) (j : Fin 1024), q = ix2 r j := ⟨q 0, q 1, eq_ix2 q⟩
  pointwise [val_main_v72]
  exact ref_activated Y r j

theorem ref_gatedArr : val_main_v74 (F := Ideal) Y P W B = gatedArr Y P W B := by
  funext q
  obtain ⟨r, j, rfl⟩ : ∃ (r : Fin 8192) (j : Fin 1024), q = ix2 r j := ⟨q 0, q 1, eq_ix2 q⟩
  pointwise [val_main_v74]
  exact ref_gated Y P W B r j

/-! ## Real arguments -/

/-- Real numbers for the six arguments. -/
structure Reals where
  z : Fin 8192 → Fin 1024 → ℝ
  p : Fin 8192 → Fin 1024 → ℝ
  d : Fin 8192 → Fin 1024 → ℝ
  w : Fin 1024 → Fin 1024 → ℝ
  o : Fin 1024 → Fin 1024 → ℝ
  b : Fin 1024 → ℝ

/-- The arguments are these real numbers. -/
structure Are (N : Reals) : Prop where
  z : ∀ r, lanes Y r = fun q => (N.z r q : EReal)
  p : ∀ r, pRow P r = fun q => (N.p r q : EReal)
  d : ∀ r, dRow D r = fun q => (N.d r q : EReal)
  w : wMat W = fun a q => (N.w a q : EReal)
  o : oMat O = fun a q => (N.o a q : EReal)
  b : bRow B = fun q => (N.b q : EReal)

section
variable {Y P D O W B} {N : Reals} (H : Are Y P D O W B N)
include H

theorem real_z : val_main_v1 (F := Ideal) Y (ix2 r j) = (N.z r j : EReal) := (ref_row Y r j).trans (congrFun (H.z r) j)
theorem real_th : val_main_v13 (F := Ideal) Y (ix2 r j) = (Sgu.th (N.z r j) : EReal) := by rw [ref_tanh, H.z]; exact tanh_arg _
theorem real_hp : val_main_v22 (F := Ideal) Y (ix2 r j) = (Sgu.hp (N.z r j) : EReal) := by rw [ref_factor, H.z]; exact factor_coe _
theorem real_y : val_main_v23 (F := Ideal) Y (ix2 r j) = (Sgu.gel (N.z r j) : EReal) := by rw [ref_activated, H.z]; exact activated_coe _ j
theorem real_sig : val_main_v36 (F := Ideal) Y W B (ix2 r j) = (rSig (N.z r) N.w N.b j : EReal) := by rw [ref_sig, H.z, H.w, H.b]; exact sig_coe _ _ _ j
theorem real_p : val_main_v30 (F := Ideal) P (ix2 r j) = (N.p r j : EReal) := by
  refine Eq.trans ?_ (congrFun (H.p r) j)
  pointwise [val_main_v30]
theorem real_lgs : val_main_v41_2 (F := Ideal) P (ix2 r j) = (Sgu.lgs (N.p r j) : EReal) := by rw [ref_logistic, H.p]; exact logistic_coe _
theorem real_silu : val_main_v41_0 (F := Ideal) P (ix2 r j) = (Sgu.act (N.p r j) : EReal) := by rw [ref_silu, H.p]; exact silu_coe _
theorem real_back : val_main_v46 (F := Ideal) D O (ix2 r j) = (rBack (N.d r) N.o j : EReal) := by rw [ref_back, H.d, H.o]; exact back_coe _ _ j
theorem real_w (a : Fin 1024) : val_main_v24 (F := Ideal) W (ix2 a j) = (N.w a j : EReal) := by
  refine Eq.trans ?_ (congrFun (congrFun H.w a) j)
  pointwise [val_main_v24]
theorem real_v2 (i) : val_main_v2 (F := Ideal) i = ((8943 / 200000 : ℝ) : EReal) := by
  pointwise [val_main_v2, val_main_cst, val_main_cst_0]
  rw [Sgu.lit44715, Sgu.lit1e6, Sgu.div_pos_coe _ _ (by norm_num)]
  norm_num

/-- The gradient at the gate's argument. -/
theorem real_gate : val_main_v52 (F := Ideal) Y P D O W B (ix2 r j) = (rToGate (N.z r) (N.p r) (N.d r) N.w N.o N.b j : EReal) := by
  pointwise [val_main_v52, val_main_v50, val_main_v48, val_main_v39, val_main_v38, val_main_v37, val_main_cst_9]
  simp only [real_y _ _ H, real_back _ _ H, real_silu _ _ H, real_sig _ _ H, ← EReal.coe_one, ← EReal.coe_mul, ← EReal.coe_sub]
  refine coe_eq ?_
  unfold rToGate
  ring

/-- The gradient at SiLU's argument. -/
theorem real_toSilu : val_main_v49 (F := Ideal) Y P D O W B (ix2 r j) = (rToSilu (N.z r) (N.p r) (N.d r) N.w N.o N.b j : EReal) := by
  pointwise [val_main_v49, val_main_call1_v2, val_main_call1_v1, val_main_call1_v0, val_main_v47, val_main_v40, val_main_v41_1, val_main_call0_v7, val_main_call0_v6, val_main_call0_cst_1]
  simp only [real_y _ _ H, real_back _ _ H, real_p _ _ H, real_lgs _ _ H, real_sig _ _ H, ← EReal.coe_one, ← EReal.coe_mul, ← EReal.coe_sub, ← EReal.coe_add]
  refine coe_eq ?_
  unfold rToSilu Sgu.dact
  ring

/-- The gradient at GELU's value. -/
theorem real_v58 : val_main_v58 (F := Ideal) Y P D O W B (ix2 r j)
    = ((rBack (N.d r) N.o j * Sgu.act (N.p r j) * rSig (N.z r) N.w N.b j + ∑ k, rToGate (N.z r) (N.p r) (N.d r) N.w N.o N.b k * N.w j k : ℝ) : EReal) := by
  pointwise [val_main_v58, val_main_v51, val_main_v48, val_main_v57]
  simp only [real_back _ _ H, real_silu _ _ H, real_sig _ _ H, real_gate _ _ H, real_w _ H, ← EReal.coe_mul, Sgu.coe_sum, ← EReal.coe_add]

/-- The gradient at GELU's argument. -/
theorem real_toGelu : val_main_v70 (F := Ideal) Y P D O W B (ix2 r j) = (rToGelu (N.z r) (N.p r) (N.d r) N.w N.o N.b j : EReal) := by
  pointwise [val_main_v70, val_main_v69, val_main_v68, val_main_v67, val_main_v66, val_main_v65, val_main_v64, val_main_v63, val_main_v62, val_main_v61, val_main_v60, val_main_v59,
    val_main_v18, val_main_v17, val_main_v16, val_main_v15, val_main_v14, val_main_v7, val_main_v6, val_main_v5, val_main_cst_1, val_main_cst_3, val_main_cst_4, val_main_cst_12, val_main_cst_13]
  simp only [real_z _ _ H, real_th _ _ H, real_hp _ _ H, real_v58 _ _ H, real_v2 H, Sgu.lit_half, Sgu.lit_cC, Sgu.lit3, ← EReal.coe_one, ← EReal.coe_mul, ← EReal.coe_sub, ← EReal.coe_add]
  refine coe_eq ?_
  unfold rToGelu Sgu.dgel
  ring

theorem ref_siluArr : val_main_v71 (F := Ideal) Y P D O W B = siluArr Y P D O W B := by
  funext q
  obtain ⟨r, j, rfl⟩ : ∃ (r : Fin 8192) (j : Fin 1024), q = ix2 r j := ⟨q 0, q 1, eq_ix2 q⟩
  refine Eq.trans ?_ (show _ = toSilu (lanes Y r) (pRow P r) (dRow D r) (wMat W) (oMat O) (bRow B) j from Eq.refl _)
  pointwise [val_main_v71]
  rw [real_toSilu _ _ H, H.z, H.p, H.d, H.w, H.o, H.b]
  exact (toSilu_coe _ _ _ _ _ _ j).symm

theorem ref_gateArr : val_main_v73 (F := Ideal) Y P D O W B = gateArr Y P D O W B := by
  funext q
  obtain ⟨r, j, rfl⟩ : ∃ (r : Fin 8192) (j : Fin 1024), q = ix2 r j := ⟨q 0, q 1, eq_ix2 q⟩
  refine Eq.trans ?_ (show _ = toGate (lanes Y r) (pRow P r) (dRow D r) (wMat W) (oMat O) (bRow B) j from Eq.refl _)
  pointwise [val_main_v73]
  rw [real_gate _ _ H, H.z, H.p, H.d, H.w, H.o, H.b]
  exact (toGate_coe _ _ _ _ _ _ j).symm

theorem ref_biasArr : val_main_v56 (F := Ideal) Y P D O W B = biasArr Y P D O W B := by
  funext q
  obtain ⟨u, j, rfl⟩ : ∃ (u : Fin 1) (j : Fin 1024), q = ix2 u j := ⟨q 0, q 1, eq_ix2 q⟩
  refine Eq.trans ?_ (show _ = ∑ r : Fin 8192, toGate (lanes Y r) (pRow P r) (dRow D r) (wMat W) (oMat O) (bRow B) j from Eq.refl _)
  pointwise [val_main_v56, val_main_v55, val_main_v54, val_main_v53, val_main_cst_10, val_main_cst_11]
  rw [Fin.sum_univ_one]
  refine Finset.sum_congr rfl fun r _ => ?_
  rw [real_gate _ _ H, H.z, H.p, H.d, H.w, H.o, H.b]
  exact (toGate_coe _ _ _ _ _ _ j).symm

theorem ref_geluArr : val_main_v76 (F := Ideal) Y P D O W B = geluArr Y P D O W B := by
  funext q
  obtain ⟨g, r, j, rfl⟩ : ∃ (g : Fin 8) (r : Fin 8192) (j : Fin 128), q = ix3 g r j := ⟨q 0, q 1, q 2, eq_ix3 q⟩
  have hk : (g : ℕ) * 128 + (j : ℕ) < 1024 := by omega
  refine Eq.trans (b := val_main_v70 (F := Ideal) Y P D O W B (ix2 r ⟨g * 128 + j, hk⟩)) ?_ ?_
  · pointwise [val_main_v76, val_main_v75]
    blk_ext
  · refine Eq.trans ?_ (show _ = toGelu (lanes Y r) (pRow P r) (dRow D r) (wMat W) (oMat O) (bRow B) ⟨g * 128 + j, hk⟩ from Eq.refl _)
    rw [real_toGelu _ _ H, H.z, H.p, H.d, H.w, H.o, H.b]
    exact (toGelu_coe _ _ _ _ _ _ _).symm

end

/-! ## The precondition -/

theorem are_of_finite (h : Cert.Pre_gate_finite.fn (F := Ideal) Y P D O W B = fun _ => 1#1) : ∃ N, Are Y P D O W B N := by
  have h := congrFun h ix0
  unfold Cert.Pre_gate_finite.fn Cert.Pre_gate_finite.fn_part1 at h
  dsimp only at h
  obtain ⟨h, h5⟩ := Sgu.both h
  obtain ⟨h, h4⟩ := Sgu.both h
  obtain ⟨h, h3⟩ := Sgu.both h
  obtain ⟨h, h2⟩ := Sgu.both h
  obtain ⟨h0, h1⟩ := Sgu.both h
  refine ⟨⟨fun r q => (lanes Y r q).toReal, fun r q => (pRow P r q).toReal, fun r q => (dRow D r q).toReal, fun a q => (wMat W a q).toReal,
    fun a q => (oMat O a q).toReal, fun q => (bRow B q).toReal⟩, ?_⟩
  exact {
    z := fun r => funext fun q => Sgu.real_of_all _ _ _ _ _ h0 _
    p := fun r => funext fun q => Sgu.real_of_all _ _ _ _ _ h1 _
    d := fun r => funext fun q => Sgu.real_of_all _ _ _ _ _ h2 _
    w := funext fun a => funext fun q => Sgu.real_of_all (extf .f32 W Cert.Pre_gate_finite.Facts.bitsLt_bf16_f32) _ _ _ _ h4 _
    o := funext fun a => funext fun q => Sgu.real_of_all (extf .f32 O Cert.Pre_gate_finite.Facts.bitsLt_bf16_f32) _ _ _ _ h3 _
    b := funext fun q => Sgu.real_of_all _ _ _ _ _ h5 _ }

end Gat

open Idealize.ShloMosaic Idealize.SL.Sem

namespace Cert.Proof

/-- From finite arguments both programs run and leave the same six arrays. -/
theorem gate_algebraic : algebraic_GateIdeal_GateReferenceIdeal_pre_gate_finite := by
  intro m g m' g' hpre hagree
  refine ⟨fun c => Gat.geluArr (m (c.tc.loc Cert.GateIdeal.main_arg0)) (m (c.tc.loc Cert.GateIdeal.main_arg1)) (m (c.tc.loc Cert.GateIdeal.main_arg2)) (m (c.tc.loc Cert.GateIdeal.main_arg3)) (m (c.tc.loc Cert.GateIdeal.main_arg4)) (m (c.tc.loc Cert.GateIdeal.main_arg5)),
    fun c => Gat.siluArr (m (c.tc.loc Cert.GateIdeal.main_arg0)) (m (c.tc.loc Cert.GateIdeal.main_arg1)) (m (c.tc.loc Cert.GateIdeal.main_arg2)) (m (c.tc.loc Cert.GateIdeal.main_arg3)) (m (c.tc.loc Cert.GateIdeal.main_arg4)) (m (c.tc.loc Cert.GateIdeal.main_arg5)),
    fun c => Gat.yArr (m (c.tc.loc Cert.GateIdeal.main_arg0)),
    fun c => Gat.gateArr (m (c.tc.loc Cert.GateIdeal.main_arg0)) (m (c.tc.loc Cert.GateIdeal.main_arg1)) (m (c.tc.loc Cert.GateIdeal.main_arg2)) (m (c.tc.loc Cert.GateIdeal.main_arg3)) (m (c.tc.loc Cert.GateIdeal.main_arg4)) (m (c.tc.loc Cert.GateIdeal.main_arg5)),
    fun c => Gat.gatedArr (m (c.tc.loc Cert.GateIdeal.main_arg0)) (m (c.tc.loc Cert.GateIdeal.main_arg1)) (m (c.tc.loc Cert.GateIdeal.main_arg4)) (m (c.tc.loc Cert.GateIdeal.main_arg5)),
    fun c => Gat.biasArr (m (c.tc.loc Cert.GateIdeal.main_arg0)) (m (c.tc.loc Cert.GateIdeal.main_arg1)) (m (c.tc.loc Cert.GateIdeal.main_arg2)) (m (c.tc.loc Cert.GateIdeal.main_arg3)) (m (c.tc.loc Cert.GateIdeal.main_arg4)) (m (c.tc.loc Cert.GateIdeal.main_arg5)), ?_, ?_⟩
  · refine (θ_run _ _ _).mono (fun r h c => ?_) (θ_run_and (Cert.GateIdeal.Gen.run_main m g) (Cert.GateIdeal.Gen.unchanged m g))
    have hw := (h.1 c).1
    exact ⟨(hw 6).trans (Gat.final_gelu m c), (hw 7).trans (Gat.final_silu m c), (hw 8).trans (Gat.final_y m c), (hw 9).trans (Gat.final_gate m c),
      (hw 10).trans (Gat.final_gated m c), (hw 11).trans (Gat.final_bias m c), h.2 c⟩
  · refine (θ_run _ _ _).mono (fun r h c => ?_) (Cert.GateReferenceIdeal.Value.run m' g')
    obtain ⟨e0, e1, e2, e3, e4, e5⟩ := hagree c
    obtain ⟨h0, h1, h2, h3, h4, h5, ha⟩ := h c
    obtain ⟨N, H⟩ := Gat.are_of_finite _ _ _ _ _ _ (hpre c)
    refine ⟨h0.trans ((Cert.GateReferenceIdeal.Read.val_main_v76_eq _ _).trans ?_), h1.trans ((Cert.GateReferenceIdeal.Read.val_main_v71_eq _ _).trans ?_),
      h2.trans ((Cert.GateReferenceIdeal.Read.val_main_v72_eq _).trans ((Gat.ref_y _).trans ?_)), h3.trans ((Cert.GateReferenceIdeal.Read.val_main_v73_eq _ _).trans ?_),
      h4.trans ((Cert.GateReferenceIdeal.Read.val_main_v74_eq _ _ _ _).trans ((Gat.ref_gatedArr _ _ _ _).trans ?_)), h5.trans ((Cert.GateReferenceIdeal.Read.val_main_v56_eq _ _).trans ?_), ha⟩
    · rw [e0, e1, e2, e3, e4, e5]
      exact Gat.ref_geluArr H
    · rw [e0, e1, e2, e3, e4, e5]
      exact Gat.ref_siluArr H
    · rw [e0]
    · rw [e0, e1, e2, e3, e4, e5]
      exact Gat.ref_gateArr H
    · rw [e0, e1, e4, e5]
    · rw [e0, e1, e2, e3, e4, e5]
      exact Gat.ref_biasArr H

/-- The reference's arguments end unchanged; it has no semaphore. -/
theorem gate_reference_frame : quiescent_GateReferenceIdeal := fun m ρ _ =>
  (θ_run _ _ _).mono (fun r h => ⟨fun c => (h c).2.2.2.2.2.2, sem_eq_zero_of_no_sems (by decide) r.2⟩)
    (Cert.GateReferenceIdeal.Value.run m ρ)

end Cert.Proof

end
-- ==== Proof.Step.lean ====
/- One step of the optimiser on one entry, in extended reals: the sum of eight parts of a gradient, and AdamW. -/
module

public import Idealize.ShloMosaic.Lib.Pipeline.ValueKit
public import Idealize.ShloMosaic.Lib.Pointwise
public import Idealize.ShloMosaic.PureOps.Ideal.Laws

@[expose] public section

noncomputable section

namespace Step

open Idealize.ShloMosaic

/-- The part at hand and the seven others, added in order. -/
def total (o : EReal) (l : Fin 8 → EReal) : EReal := o + l 1 + l 2 + l 3 + l 4 + l 5 + l 6 + l 7

theorem total_sum (o : EReal) (l : Fin 8 → EReal) : o + ∑ x : Fin 7, l ⟨1 + x, by omega⟩ = total o l := by
  simp only [Fin.sum_univ_seven, ← add_assoc]
  rfl

/-- The running mean, the running mean of squares, and the change of the weight. -/
def mean (g m : EReal) : EReal := Ideal.ofBits .f32 0x3F666666#32 * m + Ideal.ofBits .f32 0x3DCCCCCD#32 * g
def meanSq (g v : EReal) : EReal := Ideal.ofBits .f32 0x3F7FBE77#32 * v + Ideal.ofBits .f32 0x3A83126F#32 * (g * g)
def change (g w m v : EReal) : EReal :=
  Ideal.ofBits .f32 0xBA83126F#32
    * (Ideal.div (Ideal.div (mean g m) (Ideal.ofBits .f32 0x3F26BD02#32))
        (Ideal.sqrt (Ideal.div (meanSq g v) (Ideal.ofBits .f32 0x3C231ACC#32)) + Ideal.ofBits .f32 0x322BCC77#32)
      + Ideal.ofBits .f32 0x3C23D70A#32 * w)

/-! ## Arrays -/

variable {R C : ℕ}

/-- The summed gradient, and the three arrays the step leaves with it. -/
def grads (l : FVec Ideal ⟨3, ![8, R, C]⟩ .bf16) (o : FVec Ideal ⟨2, ![R, C]⟩ .bf16) : FVec Ideal ⟨2, ![R, C]⟩ .f32 :=
  fun q => total (o (ix2 (q 0) (q 1))) fun s => l (ix3 s (q 0) (q 1))
def changes (w m v : FVec Ideal ⟨2, ![R, C]⟩ .f32) (l : FVec Ideal ⟨3, ![8, R, C]⟩ .bf16) (o : FVec Ideal ⟨2, ![R, C]⟩ .bf16) : FVec Ideal ⟨2, ![R, C]⟩ .f32 :=
  fun q => change (grads l o q) (w (ix2 (q 0) (q 1))) (m (ix2 (q 0) (q 1))) (v (ix2 (q 0) (q 1)))
def means (m : FVec Ideal ⟨2, ![R, C]⟩ .f32) (l : FVec Ideal ⟨3, ![8, R, C]⟩ .bf16) (o : FVec Ideal ⟨2, ![R, C]⟩ .bf16) : FVec Ideal ⟨2, ![R, C]⟩ .f32 :=
  fun q => mean (grads l o q) (m (ix2 (q 0) (q 1)))
def meanSqs (v : FVec Ideal ⟨2, ![R, C]⟩ .f32) (l : FVec Ideal ⟨3, ![8, R, C]⟩ .bf16) (o : FVec Ideal ⟨2, ![R, C]⟩ .bf16) : FVec Ideal ⟨2, ![R, C]⟩ .f32 :=
  fun q => meanSq (grads l o q) (v (ix2 (q 0) (q 1)))

end Step

end
-- ==== Proof.ColumnsStepKernel.lean ====
/- The optimiser's step on the input projection's weights: the four arrays the kernel leaves. -/
module

public import proofs.«01_k».proof.Proof.Pieces
public import proofs.«01_k».proof.Proof.Step
public import proofs.«01_k».proof.Proof.Gen.ColumnsStepIdeal.Frame

@[expose] public section

set_option maxRecDepth 16384

noncomputable section

namespace ColumnsStep

open Idealize.ShloMosaic Idealize.ShloMosaic.TcCoe Idealize.SL.Sem
open Cert.ColumnsStepIdeal Cert.ColumnsStepIdeal.Gen Pieces Step

section
variable {v0 : FVec Ideal S256x768 .bf16} {v1 v30 v41 v42 v43 : FVec Ideal S256x768 .f32} {v2 v6 v11 v16 v21 v26 v31 v36 : FVec Ideal S1x256x768 .bf16}
  {r : Fin 256} {j : Fin 768} {g : EReal}

theorem six : (k0_pay2 (F := Ideal) v0 v2 v6 v11 v16 v21 v26 (ix2 r j) : EReal)
    = v0 (ix2 r j) + v6 (ix3 0 r j) + v11 (ix3 0 r j) + v16 (ix3 0 r j) + v21 (ix3 0 r j) + v26 (ix3 0 r j) := by
  pointwise [k0_pay2, k0_pay1]

theorem eight : (k0_pay3 (F := Ideal) v1 v30 v31 v36 (ix2 r j) : EReal) = v30 (ix2 r j) + v31 (ix3 0 r j) + v36 (ix3 0 r j) := by
  pointwise [k0_pay3]

theorem pay_mean (h : (k0_pay3 (F := Ideal) v1 v30 v31 v36 (ix2 r j) : EReal) = g) :
    k0_pay4 (F := Ideal) v1 v30 v31 v36 v42 (ix2 r j) = mean g (v42 (ix2 r j)) := by
  subst h
  pointwise [k0_pay4]
  rfl

theorem pay_meanSq (h : (k0_pay3 (F := Ideal) v1 v30 v31 v36 (ix2 r j) : EReal) = g) :
    k0_pay5 (F := Ideal) v1 v30 v31 v36 v43 (ix2 r j) = meanSq g (v43 (ix2 r j)) := by
  subst h
  pointwise [k0_pay5]
  rfl

theorem pay_change (h : (k0_pay3 (F := Ideal) v1 v30 v31 v36 (ix2 r j) : EReal) = g) :
    k0_pay6 (F := Ideal) v1 v30 v31 v36 v41 v42 v43 (ix2 r j) = change g (v41 (ix2 r j)) (v42 (ix2 r j)) (v43 (ix2 r j)) := by
  subst h
  pointwise [k0_pay6]
  rw [pay_mean rfl, pay_meanSq rfl]
  rfl
end

section
variable (w m v : FVec Ideal S256x768 .f32) (l : FVec Ideal S8x256x768 .bf16) (o : FVec Ideal S256x768 .bf16) (r : Fin 256) (j : Fin 768)

theorem sum_at : (k0_pay3 (F := Ideal) (k0_pay7 w m v l o) (k0_pay8 w m v l o) (View.ld l r0_7) (View.ld l r0_8) (ix2 r j) : EReal)
    = total (o (ix2 r j)) fun s => l (ix3 s r j) := by
  have e0 : View.ld (Val := Elt Ideal) (S := S256x768) (e' := .bf16) o r0_0 = o := View.ld_unit_lit' _ _ (by decide)
  unfold k0_pay8
  refine eight.trans ?_
  rw [six, e0]
  exact congrArg₂ (· + ·) (congrArg₂ (· + ·) (congrArg₂ (· + ·) (congrArg₂ (· + ·) (congrArg₂ (· + ·) (congrArg₂ (· + ·) (congrArg₂ (· + ·) rfl
    (ld_slice (a := 8) 1 0 r j)) (ld_slice (a := 8) 2 0 r j)) (ld_slice (a := 8) 3 0 r j)) (ld_slice (a := 8) 4 0 r j)) (ld_slice (a := 8) 5 0 r j))
    (ld_slice (a := 8) 6 0 r j)) (ld_slice (a := 8) 7 0 r j)

theorem out_grad : (out0_5 (F := Ideal) w m v l o (ix2 r j) : EReal) = total (o (ix2 r j)) fun s => l (ix3 s r j) := by
  unfold out0_5
  simp (disch := decide) only [r0_0, View.canon_cons_unit_lit']
  exact sum_at w m v l o r j

theorem out_change : (out0_6 (F := Ideal) w m v l o (ix2 r j) : EReal)
    = change (total (o (ix2 r j)) fun s => l (ix3 s r j)) (w (ix2 r j)) (m (ix2 r j)) (v (ix2 r j)) := by
  unfold out0_6
  simp (disch := decide) only [r0_0, View.canon_cons_unit_lit', View.ld_unit_lit']
  exact pay_change (sum_at w m v l o r j)

theorem out_mean : (out0_7 (F := Ideal) w m v l o (ix2 r j) : EReal) = mean (total (o (ix2 r j)) fun s => l (ix3 s r j)) (m (ix2 r j)) := by
  unfold out0_7
  simp (disch := decide) only [r0_0, View.canon_cons_unit_lit', View.ld_unit_lit']
  exact pay_mean (sum_at w m v l o r j)

theorem out_meanSq : (out0_8 (F := Ideal) w m v l o (ix2 r j) : EReal) = meanSq (total (o (ix2 r j)) fun s => l (ix3 s r j)) (v (ix2 r j)) := by
  unfold out0_8
  simp (disch := decide) only [r0_0, View.canon_cons_unit_lit', View.ld_unit_lit']
  exact pay_meanSq (sum_at w m v l o r j)
end

/-! ## The arrays -/

variable (m : (ℓ : Loc nD τ sig) → Buf (Elt Ideal) ℓ) (c : Dev nD)

/-- Which part of its array each window holds at a grid point. -/
theorem idx : ∀ t : Fin cfg0.N, win0_0.index t = ![t.val, 0] ∧ win0_1.index t = ![t.val, 0] ∧ win0_2.index t = ![t.val, 0]
    ∧ win0_3.index t = ![0, t.val, 0] ∧ win0_4.index t = ![t.val, 0] ∧ win0_5.index t = ![t.val, 0] ∧ win0_6.index t = ![t.val, 0]
    ∧ win0_7.index t = ![t.val, 0] ∧ win0_8.index t = ![t.val, 0] :=
  (by decide +kernel : ∀ t : Fin grid0.N, _)

theorem lt (t : Fin cfg0.N) : t.val < 4 := lt_of_lt_of_eq t.isLt N_0

variable (t : Fin cfg0.N) (r : Fin 256) (j : Fin 768) (h : t.val * 256 + r < 1024)

theorem at_w : (iblk m c 0 t : FVec Ideal S256x768 .f32) (ix2 r j)
    = (m ((c : Thread nD τ).loc main_arg0) : FVec Ideal S1024x768 .f32) (ix2 ⟨t.val * 256 + r, h⟩ j) := by blk_ext [iblk, V, idx t]
theorem at_m : (iblk m c 1 t : FVec Ideal S256x768 .f32) (ix2 r j)
    = (m ((c : Thread nD τ).loc main_arg1) : FVec Ideal S1024x768 .f32) (ix2 ⟨t.val * 256 + r, h⟩ j) := by blk_ext [iblk, V, idx t]
theorem at_v : (iblk m c 2 t : FVec Ideal S256x768 .f32) (ix2 r j)
    = (m ((c : Thread nD τ).loc main_arg2) : FVec Ideal S1024x768 .f32) (ix2 ⟨t.val * 256 + r, h⟩ j) := by blk_ext [iblk, V, idx t]
theorem at_g : (total ((iblk m c 4 t : FVec Ideal S256x768 .bf16) (ix2 r j)) fun s => (iblk m c 3 t : FVec Ideal S8x256x768 .bf16) (ix3 s r j))
    = grads (R := 1024) (C := 768) (m ((c : Thread nD τ).loc main_arg3)) (m ((c : Thread nD τ).loc main_arg4)) (ix2 ⟨t.val * 256 + r, h⟩ j) := by
  refine congrArg₂ total ?_ (funext fun s => ?_)
  · blk_ext [iblk, V, idx t]
  · blk_ext [iblk, V, idx t]

theorem final_grad : (dats m 0 c).arrAt 5 (cfgs 0).N
    = grads (R := 1024) (C := 768) (m ((c : Thread nD τ).loc main_arg3)) (m ((c : Thread nD τ).loc main_arg4)) := by
  refine (dats m 0 c).arrAt_eq_of_covers 5 _ (by decide +kernel) fun t _ y => ?_
  blk_simp
  rw [after0_5]
  have hN : t.val < 4 := lt t
  obtain ⟨r, j, rfl⟩ : ∃ (r : Fin 256) (j : Fin 768), y = ix2 r j := ⟨y 0, y 1, eq_ix2 y⟩
  refine ((out_grad _ _ _ _ _ r j).trans (at_g m c t r j (by omega))).trans ?_
  blk_ext [idx t]

theorem final_change : (dats m 0 c).arrAt 6 (cfgs 0).N
    = changes (R := 1024) (C := 768) (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 6 _ (by decide +kernel) fun t _ y => ?_
  blk_simp
  rw [after0_6]
  have hN : t.val < 4 := lt t
  obtain ⟨r, j, rfl⟩ : ∃ (r : Fin 256) (j : Fin 768), y = ix2 r j := ⟨y 0, y 1, eq_ix2 y⟩
  refine (out_change _ _ _ _ _ r j).trans ?_
  rw [at_g m c t r j (by omega), at_w m c t r j (by omega), at_m m c t r j (by omega), at_v m c t r j (by omega)]
  refine Eq.trans (b := changes (R := 1024) (C := 768) (m ((c : Thread nD τ).loc main_arg0)) (m ((c : Thread nD τ).loc main_arg1)) (m ((c : Thread nD τ).loc main_arg2))
      (m ((c : Thread nD τ).loc main_arg3)) (m ((c : Thread nD τ).loc main_arg4)) (ix2 ⟨t.val * 256 + r, by omega⟩ j)) rfl ?_
  blk_ext [idx t]

theorem final_mean : (dats m 0 c).arrAt 7 (cfgs 0).N
    = means (R := 1024) (C := 768) (m ((c : Thread nD τ).loc main_arg1)) (m ((c : Thread nD τ).loc main_arg3)) (m ((c : Thread nD τ).loc main_arg4)) := by
  refine (dats m 0 c).arrAt_eq_of_covers 7 _ (by decide +kernel) fun t _ y => ?_
  blk_simp
  rw [after0_7]
  have hN : t.val < 4 := lt t
  obtain ⟨r, j, rfl⟩ : ∃ (r : Fin 256) (j : Fin 768), y = ix2 r j := ⟨y 0, y 1, eq_ix2 y⟩
  refine (out_mean _ _ _ _ _ r j).trans ?_
  rw [at_g m c t r j (by omega), at_m m c t r j (by omega)]
  refine Eq.trans (b := means (R := 1024) (C := 768) (m ((c : Thread nD τ).loc main_arg1))
      (m ((c : Thread nD τ).loc main_arg3)) (m ((c : Thread nD τ).loc main_arg4)) (ix2 ⟨t.val * 256 + r, by omega⟩ j)) rfl ?_
  blk_ext [idx t]

theorem final_meanSq : (dats m 0 c).arrAt 8 (cfgs 0).N
    = meanSqs (R := 1024) (C := 768) (m ((c : Thread nD τ).loc main_arg2)) (m ((c : Thread nD τ).loc main_arg3)) (m ((c : Thread nD τ).loc main_arg4)) := by
  refine (dats m 0 c).arrAt_eq_of_covers 8 _ (by decide +kernel) fun t _ y => ?_
  blk_simp
  rw [after0_8]
  have hN : t.val < 4 := lt t
  obtain ⟨r, j, rfl⟩ : ∃ (r : Fin 256) (j : Fin 768), y = ix2 r j := ⟨y 0, y 1, eq_ix2 y⟩
  refine (out_meanSq _ _ _ _ _ r j).trans ?_
  rw [at_g m c t r j (by omega), at_v m c t r j (by omega)]
  refine Eq.trans (b := meanSqs (R := 1024) (C := 768) (m ((c : Thread nD τ).loc main_arg2))
      (m ((c : Thread nD τ).loc main_arg3)) (m ((c : Thread nD τ).loc main_arg4)) (ix2 ⟨t.val * 256 + r, by omega⟩ j)) rfl ?_
  blk_ext [idx t]

end ColumnsStep

end
-- ==== Proof.ColumnsStepReference.lean ====
/- The optimiser's step on the input projection's weights: the reference's arrays, and the claims. -/
module

public import proofs.«01_k».proof.Defs
public import proofs.«01_k».proof.Proof.ColumnsStepKernel
public import proofs.«01_k».proof.Proof.Gen.ColumnsStep.Frame
public import proofs.«01_k».proof.Proof.Gen.ColumnsStepReferenceIdeal.Read
public import Idealize.ShloMosaic.Adequacy

@[expose] public section

set_option maxRecDepth 16384

noncomputable section

namespace ColumnsStep

open Idealize.ShloMosaic Idealize.ShloMosaic.TcCoe Idealize.SL.Sem Step
open Cert.ColumnsStepReferenceIdeal Cert.ColumnsStepReferenceIdeal.Read

variable (w m v : FVec Ideal S1024x768 .f32) (l : FVec Ideal S8x1024x768 .bf16) (o : FVec Ideal S1024x768 .bf16)

theorem ref_sum (r : Fin 1024) (j : Fin 768) : (val_main_v4 (F := Ideal) l o (ix2 r j) : EReal) = grads (R := 1024) (C := 768) l o (ix2 r j) := by
  refine Eq.trans ?_ (total_sum (o (ix2 r j)) fun s => l (ix3 s r j))
  pointwise [val_main_v4, val_main_v3, val_main_v2, val_main_v1, val_main_v0, val_main_cst]

theorem ref_grad : val_main_v4 (F := Ideal) l o = grads (R := 1024) (C := 768) l o := by
  funext q
  obtain ⟨r, j, rfl⟩ : ∃ (r : Fin 1024) (j : Fin 768), q = ix2 r j := ⟨q 0, q 1, eq_ix2 q⟩
  exact ref_sum l o r j

theorem ref_change : val_main_v28 (F := Ideal) w m v l o = changes (R := 1024) (C := 768) w m v l o := by
  funext q
  obtain ⟨r, j, rfl⟩ : ∃ (r : Fin 1024) (j : Fin 768), q = ix2 r j := ⟨q 0, q 1, eq_ix2 q⟩
  pointwise [val_main_v28, val_main_v27, val_main_v26, val_main_v25, val_main_v24, val_main_v23, val_main_v22, val_main_v21, val_main_v20, val_main_v19, val_main_v18,
    val_main_v17, val_main_v16, val_main_v15, val_main_v14, val_main_v13, val_main_v12, val_main_v11, val_main_v10, val_main_v9, val_main_v8, val_main_v7, val_main_v6, val_main_v5,
    val_main_cst_0, val_main_cst_1, val_main_cst_2, val_main_cst_3, val_main_cst_4, val_main_cst_5, val_main_cst_6, val_main_cst_7, val_main_cst_8]
  simp only [ref_sum]
  rfl

theorem ref_mean : val_main_v9 (F := Ideal) m l o = means (R := 1024) (C := 768) m l o := by
  funext q
  obtain ⟨r, j, rfl⟩ : ∃ (r : Fin 1024) (j : Fin 768), q = ix2 r j := ⟨q 0, q 1, eq_ix2 q⟩
  pointwise [val_main_v9, val_main_v8, val_main_v7, val_main_v6, val_main_v5, val_main_cst_0, val_main_cst_1]
  simp only [ref_sum]
  rfl

theorem ref_meanSq : val_main_v15 (F := Ideal) v l o = meanSqs (R := 1024) (C := 768) v l o := by
  funext q
  obtain ⟨r, j, rfl⟩ : ∃ (r : Fin 1024) (j : Fin 768), q = ix2 r j := ⟨q 0, q 1, eq_ix2 q⟩
  pointwise [val_main_v15, val_main_v14, val_main_v13, val_main_v12, val_main_v11, val_main_v10, val_main_cst_2, val_main_cst_3]
  simp only [ref_sum]
  rfl

end ColumnsStep

open Idealize.ShloMosaic Idealize.SL.Sem

namespace Cert.Proof

/-- Both programs run and leave the same four arrays. -/
theorem columns_step_algebraic : algebraic_ColumnsStepIdeal_ColumnsStepReferenceIdeal := by
  intro m g m' g' _ hagree
  refine ⟨fun c => Step.grads (R := 1024) (C := 768) (m (c.tc.loc Cert.ColumnsStepIdeal.main_arg3)) (m (c.tc.loc Cert.ColumnsStepIdeal.main_arg4)),
    fun c => Step.changes (R := 1024) (C := 768) (m (c.tc.loc Cert.ColumnsStepIdeal.main_arg0)) (m (c.tc.loc Cert.ColumnsStepIdeal.main_arg1)) (m (c.tc.loc Cert.ColumnsStepIdeal.main_arg2))
      (m (c.tc.loc Cert.ColumnsStepIdeal.main_arg3)) (m (c.tc.loc Cert.ColumnsStepIdeal.main_arg4)),
    fun c => Step.means (R := 1024) (C := 768) (m (c.tc.loc Cert.ColumnsStepIdeal.main_arg1)) (m (c.tc.loc Cert.ColumnsStepIdeal.main_arg3)) (m (c.tc.loc Cert.ColumnsStepIdeal.main_arg4)),
    fun c => Step.meanSqs (R := 1024) (C := 768) (m (c.tc.loc Cert.ColumnsStepIdeal.main_arg2)) (m (c.tc.loc Cert.ColumnsStepIdeal.main_arg3)) (m (c.tc.loc Cert.ColumnsStepIdeal.main_arg4)), ?_, ?_⟩
  · refine (θ_run _ _ _).mono (fun r h c => ?_) (θ_run_and (Cert.ColumnsStepIdeal.Gen.run_main m g) (Cert.ColumnsStepIdeal.Gen.unchanged m g))
    have hw := (h.1 c).1
    exact ⟨(hw 5).trans (ColumnsStep.final_grad m c), (hw 6).trans (ColumnsStep.final_change m c), (hw 7).trans (ColumnsStep.final_mean m c), (hw 8).trans (ColumnsStep.final_meanSq m c), h.2 c⟩
  · refine (θ_run _ _ _).mono (fun r h c => ?_) (Cert.ColumnsStepReferenceIdeal.Value.run m' g')
    obtain ⟨e0, e1, e2, e3, e4⟩ := hagree c
    obtain ⟨h0, h1, h2, h3, ha⟩ := h c
    refine ⟨h0.trans ((Cert.ColumnsStepReferenceIdeal.Read.val_main_v4_eq _ _).trans ((ColumnsStep.ref_grad _ _).trans ?_)),
      h1.trans ((Cert.ColumnsStepReferenceIdeal.Read.val_main_v28_eq _ _ _ _ _).trans ((ColumnsStep.ref_change _ _ _ _ _).trans ?_)),
      h2.trans ((Cert.ColumnsStepReferenceIdeal.Read.val_main_v9_eq _ _ _).trans ((ColumnsStep.ref_mean _ _ _).trans ?_)),
      h3.trans ((Cert.ColumnsStepReferenceIdeal.Read.val_main_v15_eq _ _ _).trans ((ColumnsStep.ref_meanSq _ _ _).trans ?_)), ha⟩
    · rw [e3, e4]
    · rw [e0, e1, e2, e3, e4]
    · rw [e1, e3, e4]
    · rw [e2, e3, e4]

/-- The reference's arguments end unchanged; it has no semaphore. -/
theorem columns_step_reference_frame : quiescent_ColumnsStepReferenceIdeal := fun m ρ _ =>
  (θ_run _ _ _).mono (fun r h => ⟨fun c => (h c).2.2.2.2, sem_eq_zero_of_no_sems (by decide) r.2⟩)
    (Cert.ColumnsStepReferenceIdeal.Value.run m ρ)

end Cert.Proof

end
-- ==== Proof.RowsStepKernel.lean ====
/- The optimiser's step on the output weights: the four arrays the kernel leaves. -/
module

public import proofs.«01_k».proof.Proof.Pieces
public import proofs.«01_k».proof.Proof.Step
public import proofs.«01_k».proof.Proof.Gen.RowsStepIdeal.Frame

@[expose] public section

set_option maxRecDepth 16384

noncomputable section

namespace RowsStep

open Idealize.ShloMosaic Idealize.ShloMosaic.TcCoe Idealize.SL.Sem
open Cert.RowsStepIdeal Cert.RowsStepIdeal.Gen Pieces Step

section
variable {v0 : FVec Ideal S128x1024 .bf16} {v1 v30 v41 v42 v43 : FVec Ideal S128x1024 .f32} {v2 v6 v11 v16 v21 v26 v31 v36 : FVec Ideal S1x128x1024 .bf16}
  {r : Fin 128} {j : Fin 1024} {g : EReal}

theorem six : (k0_pay2 (F := Ideal) v0 v2 v6 v11 v16 v21 v26 (ix2 r j) : EReal)
    = v0 (ix2 r j) + v6 (ix3 0 r j) + v11 (ix3 0 r j) + v16 (ix3 0 r j) + v21 (ix3 0 r j) + v26 (ix3 0 r j) := by
  pointwise [k0_pay2, k0_pay1]

theorem eight : (k0_pay3 (F := Ideal) v1 v30 v31 v36 (ix2 r j) : EReal) = v30 (ix2 r j) + v31 (ix3 0 r j) + v36 (ix3 0 r j) := by
  pointwise [k0_pay3]

theorem pay_mean (h : (k0_pay3 (F := Ideal) v1 v30 v31 v36 (ix2 r j) : EReal) = g) :
    k0_pay4 (F := Ideal) v1 v30 v31 v36 v42 (ix2 r j) = mean g (v42 (ix2 r j)) := by
  subst h
  pointwise [k0_pay4]
  rfl

theorem pay_meanSq (h : (k0_pay3 (F := Ideal) v1 v30 v31 v36 (ix2 r j) : EReal) = g) :
    k0_pay5 (F := Ideal) v1 v30 v31 v36 v43 (ix2 r j) = meanSq g (v43 (ix2 r j)) := by
  subst h
  pointwise [k0_pay5]
  rfl

theorem pay_change (h : (k0_pay3 (F := Ideal) v1 v30 v31 v36 (ix2 r j) : EReal) = g) :
    k0_pay6 (F := Ideal) v1 v30 v31 v36 v41 v42 v43 (ix2 r j) = change g (v41 (ix2 r j)) (v42 (ix2 r j)) (v43 (ix2 r j)) := by
  subst h
  pointwise [k0_pay6]
  rw [pay_mean rfl, pay_meanSq rfl]
  rfl
end

section
variable (w m v : FVec Ideal S128x1024 .f32) (l : FVec Ideal S8x128x1024 .bf16) (o : FVec Ideal S128x1024 .bf16) (r : Fin 128) (j : Fin 1024)

theorem sum_at : (k0_pay3 (F := Ideal) (k0_pay7 w m v l o) (k0_pay8 w m v l o) (View.ld l r0_7) (View.ld l r0_8) (ix2 r j) : EReal)
    = total (o (ix2 r j)) fun s => l (ix3 s r j) := by
  have e0 : View.ld (Val := Elt Ideal) (S := S128x1024) (e' := .bf16) o r0_0 = o := View.ld_unit_lit' _ _ (by decide)
  unfold k0_pay8
  refine eight.trans ?_
  rw [six, e0]
  exact congrArg₂ (· + ·) (congrArg₂ (· + ·) (congrArg₂ (· + ·) (congrArg₂ (· + ·) (congrArg₂ (· + ·) (congrArg₂ (· + ·) (congrArg₂ (· + ·) rfl
    (ld_slice (a := 8) 1 0 r j)) (ld_slice (a := 8) 2 0 r j)) (ld_slice (a := 8) 3 0 r j)) (ld_slice (a := 8) 4 0 r j)) (ld_slice (a := 8) 5 0 r j))
    (ld_slice (a := 8) 6 0 r j)) (ld_slice (a := 8) 7 0 r j)

theorem out_grad : (out0_5 (F := Ideal) w m v l o (ix2 r j) : EReal) = total (o (ix2 r j)) fun s => l (ix3 s r j) := by
  unfold out0_5
  simp (disch := decide) only [r0_0, View.canon_cons_unit_lit']
  exact sum_at w m v l o r j

theorem out_change : (out0_6 (F := Ideal) w m v l o (ix2 r j) : EReal)
    = change (total (o (ix2 r j)) fun s => l (ix3 s r j)) (w (ix2 r j)) (m (ix2 r j)) (v (ix2 r j)) := by
  unfold out0_6
  simp (disch := decide) only [r0_0, View.canon_cons_unit_lit', View.ld_unit_lit']
  exact pay_change (sum_at w m v l o r j)

theorem out_mean : (out0_7 (F := Ideal) w m v l o (ix2 r j) : EReal) = mean (total (o (ix2 r j)) fun s => l (ix3 s r j)) (m (ix2 r j)) := by
  unfold out0_7
  simp (disch := decide) only [r0_0, View.canon_cons_unit_lit', View.ld_unit_lit']
  exact pay_mean (sum_at w m v l o r j)

theorem out_meanSq : (out0_8 (F := Ideal) w m v l o (ix2 r j) : EReal) = meanSq (total (o (ix2 r j)) fun s => l (ix3 s r j)) (v (ix2 r j)) := by
  unfold out0_8
  simp (disch := decide) only [r0_0, View.canon_cons_unit_lit', View.ld_unit_lit']
  exact pay_meanSq (sum_at w m v l o r j)
end

/-! ## The arrays -/

variable (m : (ℓ : Loc nD τ sig) → Buf (Elt Ideal) ℓ) (c : Dev nD)

/-- Which part of its array each window holds at a grid point. -/
theorem idx : ∀ t : Fin cfg0.N, win0_0.index t = ![t.val, 0] ∧ win0_1.index t = ![t.val, 0] ∧ win0_2.index t = ![t.val, 0]
    ∧ win0_3.index t = ![0, t.val, 0] ∧ win0_4.index t = ![t.val, 0] ∧ win0_5.index t = ![t.val, 0] ∧ win0_6.index t = ![t.val, 0]
    ∧ win0_7.index t = ![t.val, 0] ∧ win0_8.index t = ![t.val, 0] :=
  (by decide +kernel : ∀ t : Fin grid0.N, _)

theorem lt (t : Fin cfg0.N) : t.val < 2 := lt_of_lt_of_eq t.isLt N_0

variable (t : Fin cfg0.N) (r : Fin 128) (j : Fin 1024) (h : t.val * 128 + r < 256)

theorem at_w : (iblk m c 0 t : FVec Ideal S128x1024 .f32) (ix2 r j)
    = (m ((c : Thread nD τ).loc main_arg0) : FVec Ideal S256x1024 .f32) (ix2 ⟨t.val * 128 + r, h⟩ j) := by blk_ext [iblk, V, idx t]
theorem at_m : (iblk m c 1 t : FVec Ideal S128x1024 .f32) (ix2 r j)
    = (m ((c : Thread nD τ).loc main_arg1) : FVec Ideal S256x1024 .f32) (ix2 ⟨t.val * 128 + r, h⟩ j) := by blk_ext [iblk, V, idx t]
theorem at_v : (iblk m c 2 t : FVec Ideal S128x1024 .f32) (ix2 r j)
    = (m ((c : Thread nD τ).loc main_arg2) : FVec Ideal S256x1024 .f32) (ix2 ⟨t.val * 128 + r, h⟩ j) := by blk_ext [iblk, V, idx t]
theorem at_g : (total ((iblk m c 4 t : FVec Ideal S128x1024 .bf16) (ix2 r j)) fun s => (iblk m c 3 t : FVec Ideal S8x128x1024 .bf16) (ix3 s r j))
    = grads (R := 256) (C := 1024) (m ((c : Thread nD τ).loc main_arg3)) (m ((c : Thread nD τ).loc main_arg4)) (ix2 ⟨t.val * 128 + r, h⟩ j) := by
  refine congrArg₂ total ?_ (funext fun s => ?_)
  · blk_ext [iblk, V, idx t]
  · blk_ext [iblk, V, idx t]

theorem final_grad : (dats m 0 c).arrAt 5 (cfgs 0).N
    = grads (R := 256) (C := 1024) (m ((c : Thread nD τ).loc main_arg3)) (m ((c : Thread nD τ).loc main_arg4)) := by
  refine (dats m 0 c).arrAt_eq_of_covers 5 _ (by decide +kernel) fun t _ y => ?_
  blk_simp
  rw [after0_5]
  have hN : t.val < 2 := lt t
  obtain ⟨r, j, rfl⟩ : ∃ (r : Fin 128) (j : Fin 1024), y = ix2 r j := ⟨y 0, y 1, eq_ix2 y⟩
  refine ((out_grad _ _ _ _ _ r j).trans (at_g m c t r j (by omega))).trans ?_
  blk_ext [idx t]

theorem final_change : (dats m 0 c).arrAt 6 (cfgs 0).N
    = changes (R := 256) (C := 1024) (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 6 _ (by decide +kernel) fun t _ y => ?_
  blk_simp
  rw [after0_6]
  have hN : t.val < 2 := lt t
  obtain ⟨r, j, rfl⟩ : ∃ (r : Fin 128) (j : Fin 1024), y = ix2 r j := ⟨y 0, y 1, eq_ix2 y⟩
  refine (out_change _ _ _ _ _ r j).trans ?_
  rw [at_g m c t r j (by omega), at_w m c t r j (by omega), at_m m c t r j (by omega), at_v m c t r j (by omega)]
  refine Eq.trans (b := changes (R := 256) (C := 1024) (m ((c : Thread nD τ).loc main_arg0)) (m ((c : Thread nD τ).loc main_arg1)) (m ((c : Thread nD τ).loc main_arg2))
      (m ((c : Thread nD τ).loc main_arg3)) (m ((c : Thread nD τ).loc main_arg4)) (ix2 ⟨t.val * 128 + r, by omega⟩ j)) rfl ?_
  blk_ext [idx t]

theorem final_mean : (dats m 0 c).arrAt 7 (cfgs 0).N
    = means (R := 256) (C := 1024) (m ((c : Thread nD τ).loc main_arg1)) (m ((c : Thread nD τ).loc main_arg3)) (m ((c : Thread nD τ).loc main_arg4)) := by
  refine (dats m 0 c).arrAt_eq_of_covers 7 _ (by decide +kernel) fun t _ y => ?_
  blk_simp
  rw [after0_7]
  have hN : t.val < 2 := lt t
  obtain ⟨r, j, rfl⟩ : ∃ (r : Fin 128) (j : Fin 1024), y = ix2 r j := ⟨y 0, y 1, eq_ix2 y⟩
  refine (out_mean _ _ _ _ _ r j).trans ?_
  rw [at_g m c t r j (by omega), at_m m c t r j (by omega)]
  refine Eq.trans (b := means (R := 256) (C := 1024) (m ((c : Thread nD τ).loc main_arg1))
      (m ((c : Thread nD τ).loc main_arg3)) (m ((c : Thread nD τ).loc main_arg4)) (ix2 ⟨t.val * 128 + r, by omega⟩ j)) rfl ?_
  blk_ext [idx t]

theorem final_meanSq : (dats m 0 c).arrAt 8 (cfgs 0).N
    = meanSqs (R := 256) (C := 1024) (m ((c : Thread nD τ).loc main_arg2)) (m ((c : Thread nD τ).loc main_arg3)) (m ((c : Thread nD τ).loc main_arg4)) := by
  refine (dats m 0 c).arrAt_eq_of_covers 8 _ (by decide +kernel) fun t _ y => ?_
  blk_simp
  rw [after0_8]
  have hN : t.val < 2 := lt t
  obtain ⟨r, j, rfl⟩ : ∃ (r : Fin 128) (j : Fin 1024), y = ix2 r j := ⟨y 0, y 1, eq_ix2 y⟩
  refine (out_meanSq _ _ _ _ _ r j).trans ?_
  rw [at_g m c t r j (by omega), at_v m c t r j (by omega)]
  refine Eq.trans (b := meanSqs (R := 256) (C := 1024) (m ((c : Thread nD τ).loc main_arg2))
      (m ((c : Thread nD τ).loc main_arg3)) (m ((c : Thread nD τ).loc main_arg4)) (ix2 ⟨t.val * 128 + r, by omega⟩ j)) rfl ?_
  blk_ext [idx t]

end RowsStep

end
-- ==== Proof.RowsStepReference.lean ====
/- The optimiser's step on the output weights: the reference's arrays, and the claims. -/
module

public import proofs.«01_k».proof.Defs
public import proofs.«01_k».proof.Proof.RowsStepKernel
public import proofs.«01_k».proof.Proof.Gen.RowsStep.Frame
public import proofs.«01_k».proof.Proof.Gen.RowsStepReferenceIdeal.Read
public import Idealize.ShloMosaic.Adequacy

@[expose] public section

set_option maxRecDepth 16384

noncomputable section

namespace RowsStep

open Idealize.ShloMosaic Idealize.ShloMosaic.TcCoe Idealize.SL.Sem Step
open Cert.RowsStepReferenceIdeal Cert.RowsStepReferenceIdeal.Read

variable (w m v : FVec Ideal S256x1024 .f32) (l : FVec Ideal S8x256x1024 .bf16) (o : FVec Ideal S256x1024 .bf16)

theorem ref_sum (r : Fin 256) (j : Fin 1024) : (val_main_v4 (F := Ideal) l o (ix2 r j) : EReal) = grads (R := 256) (C := 1024) l o (ix2 r j) := by
  refine Eq.trans ?_ (total_sum (o (ix2 r j)) fun s => l (ix3 s r j))
  pointwise [val_main_v4, val_main_v3, val_main_v2, val_main_v1, val_main_v0, val_main_cst]

theorem ref_grad : val_main_v4 (F := Ideal) l o = grads (R := 256) (C := 1024) l o := by
  funext q
  obtain ⟨r, j, rfl⟩ : ∃ (r : Fin 256) (j : Fin 1024), q = ix2 r j := ⟨q 0, q 1, eq_ix2 q⟩
  exact ref_sum l o r j

theorem ref_change : val_main_v28 (F := Ideal) w m v l o = changes (R := 256) (C := 1024) w m v l o := by
  funext q
  obtain ⟨r, j, rfl⟩ : ∃ (r : Fin 256) (j : Fin 1024), q = ix2 r j := ⟨q 0, q 1, eq_ix2 q⟩
  pointwise [val_main_v28, val_main_v27, val_main_v26, val_main_v25, val_main_v24, val_main_v23, val_main_v22, val_main_v21, val_main_v20, val_main_v19, val_main_v18,
    val_main_v17, val_main_v16, val_main_v15, val_main_v14, val_main_v13, val_main_v12, val_main_v11, val_main_v10, val_main_v9, val_main_v8, val_main_v7, val_main_v6, val_main_v5,
    val_main_cst_0, val_main_cst_1, val_main_cst_2, val_main_cst_3, val_main_cst_4, val_main_cst_5, val_main_cst_6, val_main_cst_7, val_main_cst_8]
  simp only [ref_sum]
  rfl

theorem ref_mean : val_main_v9 (F := Ideal) m l o = means (R := 256) (C := 1024) m l o := by
  funext q
  obtain ⟨r, j, rfl⟩ : ∃ (r : Fin 256) (j : Fin 1024), q = ix2 r j := ⟨q 0, q 1, eq_ix2 q⟩
  pointwise [val_main_v9, val_main_v8, val_main_v7, val_main_v6, val_main_v5, val_main_cst_0, val_main_cst_1]
  simp only [ref_sum]
  rfl

theorem ref_meanSq : val_main_v15 (F := Ideal) v l o = meanSqs (R := 256) (C := 1024) v l o := by
  funext q
  obtain ⟨r, j, rfl⟩ : ∃ (r : Fin 256) (j : Fin 1024), q = ix2 r j := ⟨q 0, q 1, eq_ix2 q⟩
  pointwise [val_main_v15, val_main_v14, val_main_v13, val_main_v12, val_main_v11, val_main_v10, val_main_cst_2, val_main_cst_3]
  simp only [ref_sum]
  rfl

end RowsStep

open Idealize.ShloMosaic Idealize.SL.Sem

namespace Cert.Proof

/-- Both programs run and leave the same four arrays. -/
theorem rows_step_algebraic : algebraic_RowsStepIdeal_RowsStepReferenceIdeal := by
  intro m g m' g' _ hagree
  refine ⟨fun c => Step.grads (R := 256) (C := 1024) (m (c.tc.loc Cert.RowsStepIdeal.main_arg3)) (m (c.tc.loc Cert.RowsStepIdeal.main_arg4)),
    fun c => Step.changes (R := 256) (C := 1024) (m (c.tc.loc Cert.RowsStepIdeal.main_arg0)) (m (c.tc.loc Cert.RowsStepIdeal.main_arg1)) (m (c.tc.loc Cert.RowsStepIdeal.main_arg2))
      (m (c.tc.loc Cert.RowsStepIdeal.main_arg3)) (m (c.tc.loc Cert.RowsStepIdeal.main_arg4)),
    fun c => Step.means (R := 256) (C := 1024) (m (c.tc.loc Cert.RowsStepIdeal.main_arg1)) (m (c.tc.loc Cert.RowsStepIdeal.main_arg3)) (m (c.tc.loc Cert.RowsStepIdeal.main_arg4)),
    fun c => Step.meanSqs (R := 256) (C := 1024) (m (c.tc.loc Cert.RowsStepIdeal.main_arg2)) (m (c.tc.loc Cert.RowsStepIdeal.main_arg3)) (m (c.tc.loc Cert.RowsStepIdeal.main_arg4)), ?_, ?_⟩
  · refine (θ_run _ _ _).mono (fun r h c => ?_) (θ_run_and (Cert.RowsStepIdeal.Gen.run_main m g) (Cert.RowsStepIdeal.Gen.unchanged m g))
    have hw := (h.1 c).1
    exact ⟨(hw 5).trans (RowsStep.final_grad m c), (hw 6).trans (RowsStep.final_change m c), (hw 7).trans (RowsStep.final_mean m c), (hw 8).trans (RowsStep.final_meanSq m c), h.2 c⟩
  · refine (θ_run _ _ _).mono (fun r h c => ?_) (Cert.RowsStepReferenceIdeal.Value.run m' g')
    obtain ⟨e0, e1, e2, e3, e4⟩ := hagree c
    obtain ⟨h0, h1, h2, h3, ha⟩ := h c
    refine ⟨h0.trans ((Cert.RowsStepReferenceIdeal.Read.val_main_v4_eq _ _).trans ((RowsStep.ref_grad _ _).trans ?_)),
      h1.trans ((Cert.RowsStepReferenceIdeal.Read.val_main_v28_eq _ _ _ _ _).trans ((RowsStep.ref_change _ _ _ _ _).trans ?_)),
      h2.trans ((Cert.RowsStepReferenceIdeal.Read.val_main_v9_eq _ _ _).trans ((RowsStep.ref_mean _ _ _).trans ?_)),
      h3.trans ((Cert.RowsStepReferenceIdeal.Read.val_main_v15_eq _ _ _).trans ((RowsStep.ref_meanSq _ _ _).trans ?_)), ha⟩
    · rw [e3, e4]
    · rw [e0, e1, e2, e3, e4]
    · rw [e1, e3, e4]
    · rw [e2, e3, e4]

/-- The reference's arguments end unchanged; it has no semaphore. -/
theorem rows_step_reference_frame : quiescent_RowsStepReferenceIdeal := fun m ρ _ =>
  (θ_run _ _ _).mono (fun r h => ⟨fun c => (h c).2.2.2.2, sem_eq_zero_of_no_sems (by decide) r.2⟩)
    (Cert.RowsStepReferenceIdeal.Value.run m ρ)

end Cert.Proof

end
-- ==== Proof.GluStepKernel.lean ====
/- The optimiser's step on the S5 gate's weights: the four arrays the kernel leaves. -/
module

public import proofs.«01_k».proof.Proof.Pieces
public import proofs.«01_k».proof.Proof.Step
public import proofs.«01_k».proof.Proof.Gen.GluStepIdeal.Frame

@[expose] public section

set_option maxRecDepth 16384

noncomputable section

namespace GluStep

open Idealize.ShloMosaic Idealize.ShloMosaic.TcCoe Idealize.SL.Sem
open Cert.GluStepIdeal Cert.GluStepIdeal.Gen Pieces Step

section
variable {v0 : FVec Ideal S64x1024 .bf16} {v1 v30 v41 v42 v43 : FVec Ideal S64x1024 .f32} {v2 v6 v11 v16 v21 v26 v31 v36 : FVec Ideal S1x64x1024 .bf16}
  {r : Fin 64} {j : Fin 1024} {g : EReal}

theorem six : (k0_pay2 (F := Ideal) v0 v2 v6 v11 v16 v21 v26 (ix2 r j) : EReal)
    = v0 (ix2 r j) + v6 (ix3 0 r j) + v11 (ix3 0 r j) + v16 (ix3 0 r j) + v21 (ix3 0 r j) + v26 (ix3 0 r j) := by
  pointwise [k0_pay2, k0_pay1]

theorem eight : (k0_pay3 (F := Ideal) v1 v30 v31 v36 (ix2 r j) : EReal) = v30 (ix2 r j) + v31 (ix3 0 r j) + v36 (ix3 0 r j) := by
  pointwise [k0_pay3]

theorem pay_mean (h : (k0_pay3 (F := Ideal) v1 v30 v31 v36 (ix2 r j) : EReal) = g) :
    k0_pay4 (F := Ideal) v1 v30 v31 v36 v42 (ix2 r j) = mean g (v42 (ix2 r j)) := by
  subst h
  pointwise [k0_pay4]
  rfl

theorem pay_meanSq (h : (k0_pay3 (F := Ideal) v1 v30 v31 v36 (ix2 r j) : EReal) = g) :
    k0_pay5 (F := Ideal) v1 v30 v31 v36 v43 (ix2 r j) = meanSq g (v43 (ix2 r j)) := by
  subst h
  pointwise [k0_pay5]
  rfl

theorem pay_change (h : (k0_pay3 (F := Ideal) v1 v30 v31 v36 (ix2 r j) : EReal) = g) :
    k0_pay6 (F := Ideal) v1 v30 v31 v36 v41 v42 v43 (ix2 r j) = change g (v41 (ix2 r j)) (v42 (ix2 r j)) (v43 (ix2 r j)) := by
  subst h
  pointwise [k0_pay6]
  rw [pay_mean rfl, pay_meanSq rfl]
  rfl
end

section
variable (w m v : FVec Ideal S64x1024 .f32) (l : FVec Ideal S8x64x1024 .bf16) (o : FVec Ideal S64x1024 .bf16) (r : Fin 64) (j : Fin 1024)

theorem sum_at : (k0_pay3 (F := Ideal) (k0_pay7 w m v l o) (k0_pay8 w m v l o) (View.ld l r0_7) (View.ld l r0_8) (ix2 r j) : EReal)
    = total (o (ix2 r j)) fun s => l (ix3 s r j) := by
  have e0 : View.ld (Val := Elt Ideal) (S := S64x1024) (e' := .bf16) o r0_0 = o := View.ld_unit_lit' _ _ (by decide)
  unfold k0_pay8
  refine eight.trans ?_
  rw [six, e0]
  exact congrArg₂ (· + ·) (congrArg₂ (· + ·) (congrArg₂ (· + ·) (congrArg₂ (· + ·) (congrArg₂ (· + ·) (congrArg₂ (· + ·) (congrArg₂ (· + ·) rfl
    (ld_slice (a := 8) 1 0 r j)) (ld_slice (a := 8) 2 0 r j)) (ld_slice (a := 8) 3 0 r j)) (ld_slice (a := 8) 4 0 r j)) (ld_slice (a := 8) 5 0 r j))
    (ld_slice (a := 8) 6 0 r j)) (ld_slice (a := 8) 7 0 r j)

theorem out_grad : (out0_5 (F := Ideal) w m v l o (ix2 r j) : EReal) = total (o (ix2 r j)) fun s => l (ix3 s r j) := by
  unfold out0_5
  simp (disch := decide) only [r0_0, View.canon_cons_unit_lit']
  exact sum_at w m v l o r j

theorem out_change : (out0_6 (F := Ideal) w m v l o (ix2 r j) : EReal)
    = change (total (o (ix2 r j)) fun s => l (ix3 s r j)) (w (ix2 r j)) (m (ix2 r j)) (v (ix2 r j)) := by
  unfold out0_6
  simp (disch := decide) only [r0_0, View.canon_cons_unit_lit', View.ld_unit_lit']
  exact pay_change (sum_at w m v l o r j)

theorem out_mean : (out0_7 (F := Ideal) w m v l o (ix2 r j) : EReal) = mean (total (o (ix2 r j)) fun s => l (ix3 s r j)) (m (ix2 r j)) := by
  unfold out0_7
  simp (disch := decide) only [r0_0, View.canon_cons_unit_lit', View.ld_unit_lit']
  exact pay_mean (sum_at w m v l o r j)

theorem out_meanSq : (out0_8 (F := Ideal) w m v l o (ix2 r j) : EReal) = meanSq (total (o (ix2 r j)) fun s => l (ix3 s r j)) (v (ix2 r j)) := by
  unfold out0_8
  simp (disch := decide) only [r0_0, View.canon_cons_unit_lit', View.ld_unit_lit']
  exact pay_meanSq (sum_at w m v l o r j)
end

/-! ## The arrays -/

variable (m : (ℓ : Loc nD τ sig) → Buf (Elt Ideal) ℓ) (c : Dev nD)

/-- Which part of its array each window holds at a grid point. -/
theorem idx : ∀ t : Fin cfg0.N, win0_0.index t = ![t.val, 0] ∧ win0_1.index t = ![t.val, 0] ∧ win0_2.index t = ![t.val, 0]
    ∧ win0_3.index t = ![0, t.val, 0] ∧ win0_4.index t = ![t.val, 0] ∧ win0_5.index t = ![t.val, 0] ∧ win0_6.index t = ![t.val, 0]
    ∧ win0_7.index t = ![t.val, 0] ∧ win0_8.index t = ![t.val, 0] :=
  (by decide +kernel : ∀ t : Fin grid0.N, _)

theorem lt (t : Fin cfg0.N) : t.val < 2 := lt_of_lt_of_eq t.isLt N_0

variable (t : Fin cfg0.N) (r : Fin 64) (j : Fin 1024) (h : t.val * 64 + r < 128)

theorem at_w : (iblk m c 0 t : FVec Ideal S64x1024 .f32) (ix2 r j)
    = (m ((c : Thread nD τ).loc main_arg0) : FVec Ideal S128x1024 .f32) (ix2 ⟨t.val * 64 + r, h⟩ j) := by blk_ext [iblk, V, idx t]
theorem at_m : (iblk m c 1 t : FVec Ideal S64x1024 .f32) (ix2 r j)
    = (m ((c : Thread nD τ).loc main_arg1) : FVec Ideal S128x1024 .f32) (ix2 ⟨t.val * 64 + r, h⟩ j) := by blk_ext [iblk, V, idx t]
theorem at_v : (iblk m c 2 t : FVec Ideal S64x1024 .f32) (ix2 r j)
    = (m ((c : Thread nD τ).loc main_arg2) : FVec Ideal S128x1024 .f32) (ix2 ⟨t.val * 64 + r, h⟩ j) := by blk_ext [iblk, V, idx t]
theorem at_g : (total ((iblk m c 4 t : FVec Ideal S64x1024 .bf16) (ix2 r j)) fun s => (iblk m c 3 t : FVec Ideal S8x64x1024 .bf16) (ix3 s r j))
    = grads (R := 128) (C := 1024) (m ((c : Thread nD τ).loc main_arg3)) (m ((c : Thread nD τ).loc main_arg4)) (ix2 ⟨t.val * 64 + r, h⟩ j) := by
  refine congrArg₂ total ?_ (funext fun s => ?_)
  · blk_ext [iblk, V, idx t]
  · blk_ext [iblk, V, idx t]

theorem final_grad : (dats m 0 c).arrAt 5 (cfgs 0).N
    = grads (R := 128) (C := 1024) (m ((c : Thread nD τ).loc main_arg3)) (m ((c : Thread nD τ).loc main_arg4)) := by
  refine (dats m 0 c).arrAt_eq_of_covers 5 _ (by decide +kernel) fun t _ y => ?_
  blk_simp
  rw [after0_5]
  have hN : t.val < 2 := lt t
  obtain ⟨r, j, rfl⟩ : ∃ (r : Fin 64) (j : Fin 1024), y = ix2 r j := ⟨y 0, y 1, eq_ix2 y⟩
  refine ((out_grad _ _ _ _ _ r j).trans (at_g m c t r j (by omega))).trans ?_
  blk_ext [idx t]

theorem final_change : (dats m 0 c).arrAt 6 (cfgs 0).N
    = changes (R := 128) (C := 1024) (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 6 _ (by decide +kernel) fun t _ y => ?_
  blk_simp
  rw [after0_6]
  have hN : t.val < 2 := lt t
  obtain ⟨r, j, rfl⟩ : ∃ (r : Fin 64) (j : Fin 1024), y = ix2 r j := ⟨y 0, y 1, eq_ix2 y⟩
  refine (out_change _ _ _ _ _ r j).trans ?_
  rw [at_g m c t r j (by omega), at_w m c t r j (by omega), at_m m c t r j (by omega), at_v m c t r j (by omega)]
  refine Eq.trans (b := changes (R := 128) (C := 1024) (m ((c : Thread nD τ).loc main_arg0)) (m ((c : Thread nD τ).loc main_arg1)) (m ((c : Thread nD τ).loc main_arg2))
      (m ((c : Thread nD τ).loc main_arg3)) (m ((c : Thread nD τ).loc main_arg4)) (ix2 ⟨t.val * 64 + r, by omega⟩ j)) rfl ?_
  blk_ext [idx t]

theorem final_mean : (dats m 0 c).arrAt 7 (cfgs 0).N
    = means (R := 128) (C := 1024) (m ((c : Thread nD τ).loc main_arg1)) (m ((c : Thread nD τ).loc main_arg3)) (m ((c : Thread nD τ).loc main_arg4)) := by
  refine (dats m 0 c).arrAt_eq_of_covers 7 _ (by decide +kernel) fun t _ y => ?_
  blk_simp
  rw [after0_7]
  have hN : t.val < 2 := lt t
  obtain ⟨r, j, rfl⟩ : ∃ (r : Fin 64) (j : Fin 1024), y = ix2 r j := ⟨y 0, y 1, eq_ix2 y⟩
  refine (out_mean _ _ _ _ _ r j).trans ?_
  rw [at_g m c t r j (by omega), at_m m c t r j (by omega)]
  refine Eq.trans (b := means (R := 128) (C := 1024) (m ((c : Thread nD τ).loc main_arg1))
      (m ((c : Thread nD τ).loc main_arg3)) (m ((c : Thread nD τ).loc main_arg4)) (ix2 ⟨t.val * 64 + r, by omega⟩ j)) rfl ?_
  blk_ext [idx t]

theorem final_meanSq : (dats m 0 c).arrAt 8 (cfgs 0).N
    = meanSqs (R := 128) (C := 1024) (m ((c : Thread nD τ).loc main_arg2)) (m ((c : Thread nD τ).loc main_arg3)) (m ((c : Thread nD τ).loc main_arg4)) := by
  refine (dats m 0 c).arrAt_eq_of_covers 8 _ (by decide +kernel) fun t _ y => ?_
  blk_simp
  rw [after0_8]
  have hN : t.val < 2 := lt t
  obtain ⟨r, j, rfl⟩ : ∃ (r : Fin 64) (j : Fin 1024), y = ix2 r j := ⟨y 0, y 1, eq_ix2 y⟩
  refine (out_meanSq _ _ _ _ _ r j).trans ?_
  rw [at_g m c t r j (by omega), at_v m c t r j (by omega)]
  refine Eq.trans (b := meanSqs (R := 128) (C := 1024) (m ((c : Thread nD τ).loc main_arg2))
      (m ((c : Thread nD τ).loc main_arg3)) (m ((c : Thread nD τ).loc main_arg4)) (ix2 ⟨t.val * 64 + r, by omega⟩ j)) rfl ?_
  blk_ext [idx t]

end GluStep

end
-- ==== Proof.GluStepReference.lean ====
/- The optimiser's step on the S5 gate's weights: the reference's arrays, and the claims. -/
module

public import proofs.«01_k».proof.Defs
public import proofs.«01_k».proof.Proof.GluStepKernel
public import proofs.«01_k».proof.Proof.Gen.GluStep.Frame
public import proofs.«01_k».proof.Proof.Gen.GluStepReferenceIdeal.Read
public import Idealize.ShloMosaic.Adequacy

@[expose] public section

set_option maxRecDepth 16384

noncomputable section

namespace GluStep

open Idealize.ShloMosaic Idealize.ShloMosaic.TcCoe Idealize.SL.Sem Step
open Cert.GluStepReferenceIdeal Cert.GluStepReferenceIdeal.Read

variable (w m v : FVec Ideal S128x1024 .f32) (l : FVec Ideal S8x128x1024 .bf16) (o : FVec Ideal S128x1024 .bf16)

theorem ref_sum (r : Fin 128) (j : Fin 1024) : (val_main_v4 (F := Ideal) l o (ix2 r j) : EReal) = grads (R := 128) (C := 1024) l o (ix2 r j) := by
  refine Eq.trans ?_ (total_sum (o (ix2 r j)) fun s => l (ix3 s r j))
  pointwise [val_main_v4, val_main_v3, val_main_v2, val_main_v1, val_main_v0, val_main_cst]

theorem ref_grad : val_main_v4 (F := Ideal) l o = grads (R := 128) (C := 1024) l o := by
  funext q
  obtain ⟨r, j, rfl⟩ : ∃ (r : Fin 128) (j : Fin 1024), q = ix2 r j := ⟨q 0, q 1, eq_ix2 q⟩
  exact ref_sum l o r j

theorem ref_change : val_main_v28 (F := Ideal) w m v l o = changes (R := 128) (C := 1024) w m v l o := by
  funext q
  obtain ⟨r, j, rfl⟩ : ∃ (r : Fin 128) (j : Fin 1024), q = ix2 r j := ⟨q 0, q 1, eq_ix2 q⟩
  pointwise [val_main_v28, val_main_v27, val_main_v26, val_main_v25, val_main_v24, val_main_v23, val_main_v22, val_main_v21, val_main_v20, val_main_v19, val_main_v18,
    val_main_v17, val_main_v16, val_main_v15, val_main_v14, val_main_v13, val_main_v12, val_main_v11, val_main_v10, val_main_v9, val_main_v8, val_main_v7, val_main_v6, val_main_v5,
    val_main_cst_0, val_main_cst_1, val_main_cst_2, val_main_cst_3, val_main_cst_4, val_main_cst_5, val_main_cst_6, val_main_cst_7, val_main_cst_8]
  simp only [ref_sum]
  rfl

theorem ref_mean : val_main_v9 (F := Ideal) m l o = means (R := 128) (C := 1024) m l o := by
  funext q
  obtain ⟨r, j, rfl⟩ : ∃ (r : Fin 128) (j : Fin 1024), q = ix2 r j := ⟨q 0, q 1, eq_ix2 q⟩
  pointwise [val_main_v9, val_main_v8, val_main_v7, val_main_v6, val_main_v5, val_main_cst_0, val_main_cst_1]
  simp only [ref_sum]
  rfl

theorem ref_meanSq : val_main_v15 (F := Ideal) v l o = meanSqs (R := 128) (C := 1024) v l o := by
  funext q
  obtain ⟨r, j, rfl⟩ : ∃ (r : Fin 128) (j : Fin 1024), q = ix2 r j := ⟨q 0, q 1, eq_ix2 q⟩
  pointwise [val_main_v15, val_main_v14, val_main_v13, val_main_v12, val_main_v11, val_main_v10, val_main_cst_2, val_main_cst_3]
  simp only [ref_sum]
  rfl

end GluStep

open Idealize.ShloMosaic Idealize.SL.Sem

namespace Cert.Proof

/-- Both programs run and leave the same four arrays. -/
theorem glu_step_algebraic : algebraic_GluStepIdeal_GluStepReferenceIdeal := by
  intro m g m' g' _ hagree
  refine ⟨fun c => Step.grads (R := 128) (C := 1024) (m (c.tc.loc Cert.GluStepIdeal.main_arg3)) (m (c.tc.loc Cert.GluStepIdeal.main_arg4)),
    fun c => Step.changes (R := 128) (C := 1024) (m (c.tc.loc Cert.GluStepIdeal.main_arg0)) (m (c.tc.loc Cert.GluStepIdeal.main_arg1)) (m (c.tc.loc Cert.GluStepIdeal.main_arg2))
      (m (c.tc.loc Cert.GluStepIdeal.main_arg3)) (m (c.tc.loc Cert.GluStepIdeal.main_arg4)),
    fun c => Step.means (R := 128) (C := 1024) (m (c.tc.loc Cert.GluStepIdeal.main_arg1)) (m (c.tc.loc Cert.GluStepIdeal.main_arg3)) (m (c.tc.loc Cert.GluStepIdeal.main_arg4)),
    fun c => Step.meanSqs (R := 128) (C := 1024) (m (c.tc.loc Cert.GluStepIdeal.main_arg2)) (m (c.tc.loc Cert.GluStepIdeal.main_arg3)) (m (c.tc.loc Cert.GluStepIdeal.main_arg4)), ?_, ?_⟩
  · refine (θ_run _ _ _).mono (fun r h c => ?_) (θ_run_and (Cert.GluStepIdeal.Gen.run_main m g) (Cert.GluStepIdeal.Gen.unchanged m g))
    have hw := (h.1 c).1
    exact ⟨(hw 5).trans (GluStep.final_grad m c), (hw 6).trans (GluStep.final_change m c), (hw 7).trans (GluStep.final_mean m c), (hw 8).trans (GluStep.final_meanSq m c), h.2 c⟩
  · refine (θ_run _ _ _).mono (fun r h c => ?_) (Cert.GluStepReferenceIdeal.Value.run m' g')
    obtain ⟨e0, e1, e2, e3, e4⟩ := hagree c
    obtain ⟨h0, h1, h2, h3, ha⟩ := h c
    refine ⟨h0.trans ((Cert.GluStepReferenceIdeal.Read.val_main_v4_eq _ _).trans ((GluStep.ref_grad _ _).trans ?_)),
      h1.trans ((Cert.GluStepReferenceIdeal.Read.val_main_v28_eq _ _ _ _ _).trans ((GluStep.ref_change _ _ _ _ _).trans ?_)),
      h2.trans ((Cert.GluStepReferenceIdeal.Read.val_main_v9_eq _ _ _).trans ((GluStep.ref_mean _ _ _).trans ?_)),
      h3.trans ((Cert.GluStepReferenceIdeal.Read.val_main_v15_eq _ _ _).trans ((GluStep.ref_meanSq _ _ _).trans ?_)), ha⟩
    · rw [e3, e4]
    · rw [e0, e1, e2, e3, e4]
    · rw [e1, e3, e4]
    · rw [e2, e3, e4]

/-- The reference's arguments end unchanged; it has no semaphore. -/
theorem glu_step_reference_frame : quiescent_GluStepReferenceIdeal := fun m ρ _ =>
  (θ_run _ _ _).mono (fun r h => ⟨fun c => (h c).2.2.2.2, sem_eq_zero_of_no_sems (by decide) r.2⟩)
    (Cert.GluStepReferenceIdeal.Value.run m ρ)

end Cert.Proof

end
-- ==== Proof.lean ====
/- The claims, put together: for each of the thirteen calls its frames, and that it leaves what its reference leaves.
   The gating layer's comparison is here; the others stand in their own modules. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Agree
public import proofs.«01_k».proof.Proof.Finite
public import proofs.«01_k».proof.Proof.ColumnsReference
public import proofs.«01_k».proof.Proof.InputReference
public import proofs.«01_k».proof.Proof.ProjectionReference
public import proofs.«01_k».proof.Proof.FirstProjectionReference
public import proofs.«01_k».proof.Proof.RowsReference
public import proofs.«01_k».proof.Proof.EvenRowsReference
public import proofs.«01_k».proof.Proof.GluRowsReference
public import proofs.«01_k».proof.Proof.OutputReference
public import proofs.«01_k».proof.Proof.GateReference
public import proofs.«01_k».proof.Proof.ColumnsStepReference
public import proofs.«01_k».proof.Proof.RowsStepReference
public import proofs.«01_k».proof.Proof.GluStepReference
public import Idealize.ShloMosaic.Adequacy
public import Idealize.ShloMosaic.Init

@[expose] public section

noncomputable section

namespace Cert.Proof

open Idealize.ShloMosaic Idealize.SL.Sem Cert.Kernel

open Cert.ReferenceIdeal.Read in
/-- From finite arguments both programs run and leave the same eight arrays. -/
theorem algebraic : algebraic_KernelIdeal_ReferenceIdeal_pre_finite := by
  intro m g m' g' hpre hagree
  obtain ⟨D, H⟩ : ∃ D : Dev Cert.KernelIdeal.nD → Sgu.Arr, ∀ c, Sgu.K.Mem m c (D c) :=
    ⟨_, fun c => Sgu.holds_of_finite _ _ _ _ _ _ _ _ (hpre c)⟩
  refine ⟨fun c => Sgu.K.dpArr (D c), fun c => Sgu.K.yArr (D c), fun c => Sgu.K.dx2Arr (D c), fun c => Sgu.K.ggArr (D c), fun c => Sgu.K.gwArr (D c), fun c => Sgu.K.gbArr (D c), fun c => Sgu.K.gfArr (D c), fun c => Sgu.K.lossArr (D c), ?_, ?_⟩
  · refine (θ_run _ _ _).mono (fun r h c => ?_) (θ_run_and (Cert.KernelIdeal.Gen.run_main m g) (Cert.KernelIdeal.Gen.unchanged m g))
    have hw := (h.1 c).1
    exact ⟨(hw 8).trans (H c).arr_dp,
      (hw 9).trans (H c).arr_y,
      (hw 10).trans (H c).arr_dx2,
      (hw 11).trans (H c).arr_gg,
      (hw 12).trans (H c).arr_gw,
      (hw 13).trans (H c).arr_gb,
      (hw 14).trans (H c).arr_gf,
      (hw 15).trans (H c).arr_loss,
      h.2 c⟩
  · refine (θ_run _ _ _).mono (fun r h c => ?_) (Cert.ReferenceIdeal.Value.run m' g')
    have H' : Sgu.Holds (D c) (m' (c.tc.loc Cert.ReferenceIdeal.main_arg0)) (m' (c.tc.loc Cert.ReferenceIdeal.main_arg1)) (m' (c.tc.loc Cert.ReferenceIdeal.main_arg2)) (m' (c.tc.loc Cert.ReferenceIdeal.main_arg3)) (m' (c.tc.loc Cert.ReferenceIdeal.main_arg4)) (m' (c.tc.loc Cert.ReferenceIdeal.main_arg5)) (m' (c.tc.loc Cert.ReferenceIdeal.main_arg6)) (m' (c.tc.loc Cert.ReferenceIdeal.main_arg7)) := by
      obtain ⟨e0, e1, e2, e3, e4, e5, e6, e7⟩ := hagree c
      rw [e0, e1, e2, e3, e4, e5, e6, e7]
      exact H c
    obtain ⟨h0, h1, h2, h3, h4, h5, h6, h7, ha⟩ := h c
    exact ⟨h0.trans ((val_main_v192_eq _).trans (Sgu.R.arr_dp H')),
      h1.trans ((val_main_v193_eq _).trans (Sgu.R.arr_y H')),
      h2.trans ((val_main_v123_eq _).trans (Sgu.R.arr_dx2 H')),
      h3.trans ((val_main_v191_eq _).trans (Sgu.R.arr_gg H')),
      h4.trans ((val_main_v139_eq _).trans (Sgu.R.arr_gw H')),
      h5.trans ((val_main_v190_eq _).trans (Sgu.R.arr_gb H')),
      h6.trans ((val_main_v189_eq _).trans (Sgu.R.arr_gf H')),
      h7.trans ((val_main_v194_eq _).trans (Sgu.R.arr_loss H')),
      ha⟩

/-- The reference's arguments end unchanged; it has no semaphore. -/
theorem reference_frame : quiescent_ReferenceIdeal := fun m ρ _ =>
  (θ_run _ _ _).mono (fun r h => ⟨fun c => (h c).2.2.2.2.2.2.2.2, sem_eq_zero_of_no_sems (by decide) r.2⟩)
    (Cert.ReferenceIdeal.Value.run m ρ)

theorem claim : Cert.Claim := ⟨Cert.Kernel.Gen.facts, Cert.KernelIdeal.Gen.facts, Cert.ReferenceIdeal.Gen.facts, Cert.Columns.Gen.facts, Cert.ColumnsIdeal.Gen.facts, Cert.ColumnsReferenceIdeal.Gen.facts, Cert.Input.Gen.facts, Cert.InputIdeal.Gen.facts, Cert.InputReferenceIdeal.Gen.facts, Cert.Projection.Gen.facts, Cert.ProjectionIdeal.Gen.facts, Cert.ProjectionReferenceIdeal.Gen.facts, Cert.FirstProjection.Gen.facts, Cert.FirstProjectionIdeal.Gen.facts, Cert.FirstProjectionReferenceIdeal.Gen.facts, Cert.Rows.Gen.facts, Cert.RowsIdeal.Gen.facts, Cert.RowsReferenceIdeal.Gen.facts, Cert.EvenRows.Gen.facts, Cert.EvenRowsIdeal.Gen.facts, Cert.EvenRowsReferenceIdeal.Gen.facts, Cert.GluRows.Gen.facts, Cert.GluRowsIdeal.Gen.facts, Cert.GluRowsReferenceIdeal.Gen.facts, Cert.Output.Gen.facts, Cert.OutputIdeal.Gen.facts, Cert.OutputReferenceIdeal.Gen.facts, Cert.Gate.Gen.facts, Cert.GateIdeal.Gen.facts, Cert.GateReferenceIdeal.Gen.facts, Cert.ColumnsStep.Gen.facts, Cert.ColumnsStepIdeal.Gen.facts, Cert.ColumnsStepReferenceIdeal.Gen.facts, Cert.RowsStep.Gen.facts, Cert.RowsStepIdeal.Gen.facts, Cert.RowsStepReferenceIdeal.Gen.facts, Cert.GluStep.Gen.facts, Cert.GluStepIdeal.Gen.facts, Cert.GluStepReferenceIdeal.Gen.facts, Cert.Pre_finite.Gen.facts, Cert.Pre_input_finite.Gen.facts, Cert.Pre_gate_finite.Gen.facts,
  fun m ρ _ => Cert.Kernel.Gen.frame m ρ,
  fun m ρ _ => Cert.KernelIdeal.Gen.frame m ρ,
  fun m ρ _ => Cert.KernelIdeal.Gen.frame m ρ,
  fun m ρ _ => reference_frame m ρ trivial,
  fun m ρ _ => reference_frame m ρ trivial,
  fun m ρ _ => Cert.Columns.Gen.frame m ρ,
  fun m ρ _ => Cert.ColumnsIdeal.Gen.frame m ρ,
  fun m ρ _ => columns_reference_frame m ρ trivial,
  fun m ρ _ => Cert.Input.Gen.frame m ρ,
  fun m ρ _ => Cert.InputIdeal.Gen.frame m ρ,
  fun m ρ _ => Cert.InputIdeal.Gen.frame m ρ,
  fun m ρ _ => input_reference_frame m ρ trivial,
  fun m ρ _ => input_reference_frame m ρ trivial,
  fun m ρ _ => Cert.Projection.Gen.frame m ρ,
  fun m ρ _ => Cert.ProjectionIdeal.Gen.frame m ρ,
  fun m ρ _ => projection_reference_frame m ρ trivial,
  fun m ρ _ => Cert.FirstProjection.Gen.frame m ρ,
  fun m ρ _ => Cert.FirstProjectionIdeal.Gen.frame m ρ,
  fun m ρ _ => first_projection_reference_frame m ρ trivial,
  fun m ρ _ => Cert.Rows.Gen.frame m ρ,
  fun m ρ _ => Cert.RowsIdeal.Gen.frame m ρ,
  fun m ρ _ => rows_reference_frame m ρ trivial,
  fun m ρ _ => Cert.EvenRows.Gen.frame m ρ,
  fun m ρ _ => Cert.EvenRowsIdeal.Gen.frame m ρ,
  fun m ρ _ => even_rows_reference_frame m ρ trivial,
  fun m ρ _ => Cert.GluRows.Gen.frame m ρ,
  fun m ρ _ => Cert.GluRowsIdeal.Gen.frame m ρ,
  fun m ρ _ => glu_rows_reference_frame m ρ trivial,
  fun m ρ _ => Cert.Output.Gen.frame m ρ,
  fun m ρ _ => Cert.OutputIdeal.Gen.frame m ρ,
  fun m ρ _ => output_reference_frame m ρ trivial,
  fun m ρ _ => Cert.Gate.Gen.frame m ρ,
  fun m ρ _ => Cert.GateIdeal.Gen.frame m ρ,
  fun m ρ _ => Cert.GateIdeal.Gen.frame m ρ,
  fun m ρ _ => gate_reference_frame m ρ trivial,
  fun m ρ _ => gate_reference_frame m ρ trivial,
  fun m ρ _ => Cert.ColumnsStep.Gen.frame m ρ,
  fun m ρ _ => Cert.ColumnsStepIdeal.Gen.frame m ρ,
  fun m ρ _ => columns_step_reference_frame m ρ trivial,
  fun m ρ _ => Cert.RowsStep.Gen.frame m ρ,
  fun m ρ _ => Cert.RowsStepIdeal.Gen.frame m ρ,
  fun m ρ _ => rows_step_reference_frame m ρ trivial,
  fun m ρ _ => Cert.GluStep.Gen.frame m ρ,
  fun m ρ _ => Cert.GluStepIdeal.Gen.frame m ρ,
  fun m ρ _ => glu_step_reference_frame m ρ trivial,
  ⟨IdealRules.named_const.statement _ _ _ _ _ rfl, IdealRules.named_const.statement _ _ _ _ _ rfl⟩, algebraic,
  trivial, columns_algebraic,
  trivial, input_algebraic,
  trivial, projection_algebraic,
  trivial, first_projection_algebraic,
  trivial, rows_algebraic,
  trivial, even_rows_algebraic,
  trivial, glu_rows_algebraic,
  IdealRules.named_const.statement _ _ _ _ _ rfl, output_algebraic,
  ⟨IdealRules.named_const.statement _ _ _ _ _ rfl, IdealRules.named_const.statement _ _ _ _ _ rfl⟩, gate_algebraic,
  trivial, columns_step_algebraic,
  trivial, rows_step_algebraic,
  trivial, glu_step_algebraic⟩

end Cert.Proof

end
